-- ==== Defs.lean ====
def Pre_Band (m : (ℓ : Loc Cert.Band.nD Cert.Band.τ Cert.Band.sig) → Buf (Elt Bits) ℓ) : Prop :=
  True

def Pre_BandIdeal (m : (ℓ : Loc Cert.BandIdeal.nD Cert.BandIdeal.τ Cert.BandIdeal.sig) → Buf (Elt Ideal) ℓ) : Prop :=
  True

def Pre_BandIdeal_finite [hPre_finite : Cert.Pre_finite.Facts] (m : (ℓ : Loc Cert.BandIdeal.nD Cert.BandIdeal.τ Cert.BandIdeal.sig) → Buf (Elt Ideal) ℓ) : Prop :=
  ∀ c : Dev Cert.BandIdeal.nD,
    (Cert.Pre_finite.fn (F := Ideal) (m ((c.tc : Thread Cert.BandIdeal.nD Cert.BandIdeal.τ).loc Cert.BandIdeal.main_arg0)) (m ((c.tc : Thread Cert.BandIdeal.nD Cert.BandIdeal.τ).loc Cert.BandIdeal.main_arg1)) (m ((c.tc : Thread Cert.BandIdeal.nD Cert.BandIdeal.τ).loc Cert.BandIdeal.main_arg2)) (m ((c.tc : Thread Cert.BandIdeal.nD Cert.BandIdeal.τ).loc Cert.BandIdeal.main_arg3))).1 = (fun _ => 1#1)
    ∧ (Cert.Pre_finite.fn (F := Ideal) (m ((c.tc : Thread Cert.BandIdeal.nD Cert.BandIdeal.τ).loc Cert.BandIdeal.main_arg0)) (m ((c.tc : Thread Cert.BandIdeal.nD Cert.BandIdeal.τ).loc Cert.BandIdeal.main_arg1)) (m ((c.tc : Thread Cert.BandIdeal.nD Cert.BandIdeal.τ).loc Cert.BandIdeal.main_arg2)) (m ((c.tc : Thread Cert.BandIdeal.nD Cert.BandIdeal.τ).loc Cert.BandIdeal.main_arg3))).2.1 = (fun _ => 1#1)
    ∧ (Cert.Pre_finite.fn (F := Ideal) (m ((c.tc : Thread Cert.BandIdeal.nD Cert.BandIdeal.τ).loc Cert.BandIdeal.main_arg0)) (m ((c.tc : Thread Cert.BandIdeal.nD Cert.BandIdeal.τ).loc Cert.BandIdeal.main_arg1)) (m ((c.tc : Thread Cert.BandIdeal.nD Cert.BandIdeal.τ).loc Cert.BandIdeal.main_arg2)) (m ((c.tc : Thread Cert.BandIdeal.nD Cert.BandIdeal.τ).loc Cert.BandIdeal.main_arg3))).2.2 = (fun _ => 1#1)

def Pre_BandRefIdeal (m : (ℓ : Loc Cert.BandRefIdeal.nD Cert.BandRefIdeal.τ Cert.BandRefIdeal.sig) → Buf (Elt Ideal) ℓ) : Prop :=
  True

def Pre_BandRefIdeal_finite [hPre_finite : Cert.Pre_finite.Facts] (m : (ℓ : Loc Cert.BandRefIdeal.nD Cert.BandRefIdeal.τ Cert.BandRefIdeal.sig) → Buf (Elt Ideal) ℓ) : Prop :=
  ∀ c : Dev Cert.BandRefIdeal.nD,
    (Cert.Pre_finite.fn (F := Ideal) (m ((c.tc : Thread Cert.BandRefIdeal.nD Cert.BandRefIdeal.τ).loc Cert.BandRefIdeal.main_arg0)) (m ((c.tc : Thread Cert.BandRefIdeal.nD Cert.BandRefIdeal.τ).loc Cert.BandRefIdeal.main_arg1)) (m ((c.tc : Thread Cert.BandRefIdeal.nD Cert.BandRefIdeal.τ).loc Cert.BandRefIdeal.main_arg2)) (m ((c.tc : Thread Cert.BandRefIdeal.nD Cert.BandRefIdeal.τ).loc Cert.BandRefIdeal.main_arg3))).1 = (fun _ => 1#1)
    ∧ (Cert.Pre_finite.fn (F := Ideal) (m ((c.tc : Thread Cert.BandRefIdeal.nD Cert.BandRefIdeal.τ).loc Cert.BandRefIdeal.main_arg0)) (m ((c.tc : Thread Cert.BandRefIdeal.nD Cert.BandRefIdeal.τ).loc Cert.BandRefIdeal.main_arg1)) (m ((c.tc : Thread Cert.BandRefIdeal.nD Cert.BandRefIdeal.τ).loc Cert.BandRefIdeal.main_arg2)) (m ((c.tc : Thread Cert.BandRefIdeal.nD Cert.BandRefIdeal.τ).loc Cert.BandRefIdeal.main_arg3))).2.1 = (fun _ => 1#1)
    ∧ (Cert.Pre_finite.fn (F := Ideal) (m ((c.tc : Thread Cert.BandRefIdeal.nD Cert.BandRefIdeal.τ).loc Cert.BandRefIdeal.main_arg0)) (m ((c.tc : Thread Cert.BandRefIdeal.nD Cert.BandRefIdeal.τ).loc Cert.BandRefIdeal.main_arg1)) (m ((c.tc : Thread Cert.BandRefIdeal.nD Cert.BandRefIdeal.τ).loc Cert.BandRefIdeal.main_arg2)) (m ((c.tc : Thread Cert.BandRefIdeal.nD Cert.BandRefIdeal.τ).loc Cert.BandRefIdeal.main_arg3))).2.2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleRefIdeal (m : (ℓ : Loc Cert.PleRefIdeal.nD Cert.PleRefIdeal.τ Cert.PleRefIdeal.sig) → Buf (Elt Ideal) ℓ) : Prop :=
  True

def Pre_InC (m : (ℓ : Loc Cert.InC.nD Cert.InC.τ Cert.InC.sig) → Buf (Elt Bits) ℓ) : Prop :=
  True

def Pre_InCIdeal (m : (ℓ : Loc Cert.InCIdeal.nD Cert.InCIdeal.τ Cert.InCIdeal.sig) → Buf (Elt Ideal) ℓ) : Prop :=
  True

def Pre_InCRefIdeal (m : (ℓ : Loc Cert.InCRefIdeal.nD Cert.InCRefIdeal.τ Cert.InCRefIdeal.sig) → Buf (Elt Ideal) ℓ) : Prop :=
  True

def Pre_OutC (m : (ℓ : Loc Cert.OutC.nD Cert.OutC.τ Cert.OutC.sig) → Buf (Elt Bits) ℓ) : Prop :=
  True

def Pre_OutCIdeal (m : (ℓ : Loc Cert.OutCIdeal.nD Cert.OutCIdeal.τ Cert.OutCIdeal.sig) → Buf (Elt Ideal) ℓ) : Prop :=
  True

def Pre_OutCRefIdeal (m : (ℓ : Loc Cert.OutCRefIdeal.nD Cert.OutCRefIdeal.τ Cert.OutCRefIdeal.sig) → Buf (Elt Ideal) ℓ) : Prop :=
  True

def Pre_InAB (m : (ℓ : Loc Cert.InAB.nD Cert.InAB.τ Cert.InAB.sig) → Buf (Elt Bits) ℓ) : Prop :=
  True

def Pre_InABIdeal (m : (ℓ : Loc Cert.InABIdeal.nD Cert.InABIdeal.τ Cert.InABIdeal.sig) → Buf (Elt Ideal) ℓ) : Prop :=
  True

def Pre_InABRefIdeal (m : (ℓ : Loc Cert.InABRefIdeal.nD Cert.InABRefIdeal.τ Cert.InABRefIdeal.sig) → Buf (Elt Ideal) ℓ) : Prop :=
  True

def Pre_OutAB (m : (ℓ : Loc Cert.OutAB.nD Cert.OutAB.τ Cert.OutAB.sig) → Buf (Elt Bits) ℓ) : Prop :=
  True

def Pre_OutABIdeal (m : (ℓ : Loc Cert.OutABIdeal.nD Cert.OutABIdeal.τ Cert.OutABIdeal.sig) → Buf (Elt Ideal) ℓ) : Prop :=
  True

def Pre_OutABIdeal_finite_lse [hPre_finite_lse : Cert.Pre_finite_lse.Facts] (m : (ℓ : Loc Cert.OutABIdeal.nD Cert.OutABIdeal.τ Cert.OutABIdeal.sig) → Buf (Elt Ideal) ℓ) : Prop :=
  ∀ c : Dev Cert.OutABIdeal.nD,
    (Cert.Pre_finite_lse.fn (F := Ideal) (m ((c.tc : Thread Cert.OutABIdeal.nD Cert.OutABIdeal.τ).loc Cert.OutABIdeal.main_arg0)) (m ((c.tc : Thread Cert.OutABIdeal.nD Cert.OutABIdeal.τ).loc Cert.OutABIdeal.main_arg1)) (m ((c.tc : Thread Cert.OutABIdeal.nD Cert.OutABIdeal.τ).loc Cert.OutABIdeal.main_arg2)) (m ((c.tc : Thread Cert.OutABIdeal.nD Cert.OutABIdeal.τ).loc Cert.OutABIdeal.main_arg3)) (m ((c.tc : Thread Cert.OutABIdeal.nD Cert.OutABIdeal.τ).loc Cert.OutABIdeal.main_arg4)) (m ((c.tc : Thread Cert.OutABIdeal.nD Cert.OutABIdeal.τ).loc Cert.OutABIdeal.main_arg5)) (m ((c.tc : Thread Cert.OutABIdeal.nD Cert.OutABIdeal.τ).loc Cert.OutABIdeal.main_arg6)) (m ((c.tc : Thread Cert.OutABIdeal.nD Cert.OutABIdeal.τ).loc Cert.OutABIdeal.main_arg7)) (m ((c.tc : Thread Cert.OutABIdeal.nD Cert.OutABIdeal.τ).loc Cert.OutABIdeal.main_arg8))).1 = (fun _ => 1#1)
    ∧ (Cert.Pre_finite_lse.fn (F := Ideal) (m ((c.tc : Thread Cert.OutABIdeal.nD Cert.OutABIdeal.τ).loc Cert.OutABIdeal.main_arg0)) (m ((c.tc : Thread Cert.OutABIdeal.nD Cert.OutABIdeal.τ).loc Cert.OutABIdeal.main_arg1)) (m ((c.tc : Thread Cert.OutABIdeal.nD Cert.OutABIdeal.τ).loc Cert.OutABIdeal.main_arg2)) (m ((c.tc : Thread Cert.OutABIdeal.nD Cert.OutABIdeal.τ).loc Cert.OutABIdeal.main_arg3)) (m ((c.tc : Thread Cert.OutABIdeal.nD Cert.OutABIdeal.τ).loc Cert.OutABIdeal.main_arg4)) (m ((c.tc : Thread Cert.OutABIdeal.nD Cert.OutABIdeal.τ).loc Cert.OutABIdeal.main_arg5)) (m ((c.tc : Thread Cert.OutABIdeal.nD Cert.OutABIdeal.τ).loc Cert.OutABIdeal.main_arg6)) (m ((c.tc : Thread Cert.OutABIdeal.nD Cert.OutABIdeal.τ).loc Cert.OutABIdeal.main_arg7)) (m ((c.tc : Thread Cert.OutABIdeal.nD Cert.OutABIdeal.τ).loc Cert.OutABIdeal.main_arg8))).2.1 = (fun _ => 1#1)
    ∧ (Cert.Pre_finite_lse.fn (F := Ideal) (m ((c.tc : Thread Cert.OutABIdeal.nD Cert.OutABIdeal.τ).loc Cert.OutABIdeal.main_arg0)) (m ((c.tc : Thread Cert.OutABIdeal.nD Cert.OutABIdeal.τ).loc Cert.OutABIdeal.main_arg1)) (m ((c.tc : Thread Cert.OutABIdeal.nD Cert.OutABIdeal.τ).loc Cert.OutABIdeal.main_arg2)) (m ((c.tc : Thread Cert.OutABIdeal.nD Cert.OutABIdeal.τ).loc Cert.OutABIdeal.main_arg3)) (m ((c.tc : Thread Cert.OutABIdeal.nD Cert.OutABIdeal.τ).loc Cert.OutABIdeal.main_arg4)) (m ((c.tc : Thread Cert.OutABIdeal.nD Cert.OutABIdeal.τ).loc Cert.OutABIdeal.main_arg5)) (m ((c.tc : Thread Cert.OutABIdeal.nD Cert.OutABIdeal.τ).loc Cert.OutABIdeal.main_arg6)) (m ((c.tc : Thread Cert.OutABIdeal.nD Cert.OutABIdeal.τ).loc Cert.OutABIdeal.main_arg7)) (m ((c.tc : Thread Cert.OutABIdeal.nD Cert.OutABIdeal.τ).loc Cert.OutABIdeal.main_arg8))).2.2 = (fun _ => 1#1)

def Pre_OutABRefIdeal (m : (ℓ : Loc Cert.OutABRefIdeal.nD Cert.OutABRefIdeal.τ Cert.OutABRefIdeal.sig) → Buf (Elt Ideal) ℓ) : Prop :=
  True

def Pre_OutABRefIdeal_finite_lse [hPre_finite_lse : Cert.Pre_finite_lse.Facts] (m : (ℓ : Loc Cert.OutABRefIdeal.nD Cert.OutABRefIdeal.τ Cert.OutABRefIdeal.sig) → Buf (Elt Ideal) ℓ) : Prop :=
  ∀ c : Dev Cert.OutABRefIdeal.nD,
    (Cert.Pre_finite_lse.fn (F := Ideal) (m ((c.tc : Thread Cert.OutABRefIdeal.nD Cert.OutABRefIdeal.τ).loc Cert.OutABRefIdeal.main_arg0)) (m ((c.tc : Thread Cert.OutABRefIdeal.nD Cert.OutABRefIdeal.τ).loc Cert.OutABRefIdeal.main_arg1)) (m ((c.tc : Thread Cert.OutABRefIdeal.nD Cert.OutABRefIdeal.τ).loc Cert.OutABRefIdeal.main_arg2)) (m ((c.tc : Thread Cert.OutABRefIdeal.nD Cert.OutABRefIdeal.τ).loc Cert.OutABRefIdeal.main_arg3)) (m ((c.tc : Thread Cert.OutABRefIdeal.nD Cert.OutABRefIdeal.τ).loc Cert.OutABRefIdeal.main_arg4)) (m ((c.tc : Thread Cert.OutABRefIdeal.nD Cert.OutABRefIdeal.τ).loc Cert.OutABRefIdeal.main_arg5)) (m ((c.tc : Thread Cert.OutABRefIdeal.nD Cert.OutABRefIdeal.τ).loc Cert.OutABRefIdeal.main_arg6)) (m ((c.tc : Thread Cert.OutABRefIdeal.nD Cert.OutABRefIdeal.τ).loc Cert.OutABRefIdeal.main_arg7)) (m ((c.tc : Thread Cert.OutABRefIdeal.nD Cert.OutABRefIdeal.τ).loc Cert.OutABRefIdeal.main_arg8))).1 = (fun _ => 1#1)
    ∧ (Cert.Pre_finite_lse.fn (F := Ideal) (m ((c.tc : Thread Cert.OutABRefIdeal.nD Cert.OutABRefIdeal.τ).loc Cert.OutABRefIdeal.main_arg0)) (m ((c.tc : Thread Cert.OutABRefIdeal.nD Cert.OutABRefIdeal.τ).loc Cert.OutABRefIdeal.main_arg1)) (m ((c.tc : Thread Cert.OutABRefIdeal.nD Cert.OutABRefIdeal.τ).loc Cert.OutABRefIdeal.main_arg2)) (m ((c.tc : Thread Cert.OutABRefIdeal.nD Cert.OutABRefIdeal.τ).loc Cert.OutABRefIdeal.main_arg3)) (m ((c.tc : Thread Cert.OutABRefIdeal.nD Cert.OutABRefIdeal.τ).loc Cert.OutABRefIdeal.main_arg4)) (m ((c.tc : Thread Cert.OutABRefIdeal.nD Cert.OutABRefIdeal.τ).loc Cert.OutABRefIdeal.main_arg5)) (m ((c.tc : Thread Cert.OutABRefIdeal.nD Cert.OutABRefIdeal.τ).loc Cert.OutABRefIdeal.main_arg6)) (m ((c.tc : Thread Cert.OutABRefIdeal.nD Cert.OutABRefIdeal.τ).loc Cert.OutABRefIdeal.main_arg7)) (m ((c.tc : Thread Cert.OutABRefIdeal.nD Cert.OutABRefIdeal.τ).loc Cert.OutABRefIdeal.main_arg8))).2.1 = (fun _ => 1#1)
    ∧ (Cert.Pre_finite_lse.fn (F := Ideal) (m ((c.tc : Thread Cert.OutABRefIdeal.nD Cert.OutABRefIdeal.τ).loc Cert.OutABRefIdeal.main_arg0)) (m ((c.tc : Thread Cert.OutABRefIdeal.nD Cert.OutABRefIdeal.τ).loc Cert.OutABRefIdeal.main_arg1)) (m ((c.tc : Thread Cert.OutABRefIdeal.nD Cert.OutABRefIdeal.τ).loc Cert.OutABRefIdeal.main_arg2)) (m ((c.tc : Thread Cert.OutABRefIdeal.nD Cert.OutABRefIdeal.τ).loc Cert.OutABRefIdeal.main_arg3)) (m ((c.tc : Thread Cert.OutABRefIdeal.nD Cert.OutABRefIdeal.τ).loc Cert.OutABRefIdeal.main_arg4)) (m ((c.tc : Thread Cert.OutABRefIdeal.nD Cert.OutABRefIdeal.τ).loc Cert.OutABRefIdeal.main_arg5)) (m ((c.tc : Thread Cert.OutABRefIdeal.nD Cert.OutABRefIdeal.τ).loc Cert.OutABRefIdeal.main_arg6)) (m ((c.tc : Thread Cert.OutABRefIdeal.nD Cert.OutABRefIdeal.τ).loc Cert.OutABRefIdeal.main_arg7)) (m ((c.tc : Thread Cert.OutABRefIdeal.nD Cert.OutABRefIdeal.τ).loc Cert.OutABRefIdeal.main_arg8))).2.2 = (fun _ => 1#1)

def Pre_Dil1 (m : (ℓ : Loc Cert.Dil1.nD Cert.Dil1.τ Cert.Dil1.sig) → Buf (Elt Bits) ℓ) : Prop :=
  True

def Pre_Dil1Ideal (m : (ℓ : Loc Cert.Dil1Ideal.nD Cert.Dil1Ideal.τ Cert.Dil1Ideal.sig) → Buf (Elt Ideal) ℓ) : Prop :=
  True

def Pre_Dil1Ideal_finite_dil1 [hPre_finite_dil1 : Cert.Pre_finite_dil1.Facts] (m : (ℓ : Loc Cert.Dil1Ideal.nD Cert.Dil1Ideal.τ Cert.Dil1Ideal.sig) → Buf (Elt Ideal) ℓ) : Prop :=
  ∀ c : Dev Cert.Dil1Ideal.nD,
    (Cert.Pre_finite_dil1.fn (F := Ideal) (m ((c.tc : Thread Cert.Dil1Ideal.nD Cert.Dil1Ideal.τ).loc Cert.Dil1Ideal.main_arg0))) = (fun _ => 1#1)

def Pre_Dil1RefIdeal (m : (ℓ : Loc Cert.Dil1RefIdeal.nD Cert.Dil1RefIdeal.τ Cert.Dil1RefIdeal.sig) → Buf (Elt Ideal) ℓ) : Prop :=
  True

def Pre_Dil1RefIdeal_finite_dil1 [hPre_finite_dil1 : Cert.Pre_finite_dil1.Facts] (m : (ℓ : Loc Cert.Dil1RefIdeal.nD Cert.Dil1RefIdeal.τ Cert.Dil1RefIdeal.sig) → Buf (Elt Ideal) ℓ) : Prop :=
  ∀ c : Dev Cert.Dil1RefIdeal.nD,
    (Cert.Pre_finite_dil1.fn (F := Ideal) (m ((c.tc : Thread Cert.Dil1RefIdeal.nD Cert.Dil1RefIdeal.τ).loc Cert.Dil1RefIdeal.main_arg0))) = (fun _ => 1#1)

def Pre_Dil4 (m : (ℓ : Loc Cert.Dil4.nD Cert.Dil4.τ Cert.Dil4.sig) → Buf (Elt Bits) ℓ) : Prop :=
  True

def Pre_Dil4Ideal (m : (ℓ : Loc Cert.Dil4Ideal.nD Cert.Dil4Ideal.τ Cert.Dil4Ideal.sig) → Buf (Elt Ideal) ℓ) : Prop :=
  True

def Pre_Dil4Ideal_finite_dil4 [hPre_finite_dil4 : Cert.Pre_finite_dil4.Facts] (m : (ℓ : Loc Cert.Dil4Ideal.nD Cert.Dil4Ideal.τ Cert.Dil4Ideal.sig) → Buf (Elt Ideal) ℓ) : Prop :=
  ∀ c : Dev Cert.Dil4Ideal.nD,
    (Cert.Pre_finite_dil4.fn (F := Ideal) (m ((c.tc : Thread Cert.Dil4Ideal.nD Cert.Dil4Ideal.τ).loc Cert.Dil4Ideal.main_arg0))) = (fun _ => 1#1)

def Pre_Dil4RefIdeal (m : (ℓ : Loc Cert.Dil4RefIdeal.nD Cert.Dil4RefIdeal.τ Cert.Dil4RefIdeal.sig) → Buf (Elt Ideal) ℓ) : Prop :=
  True

def Pre_Dil4RefIdeal_finite_dil4 [hPre_finite_dil4 : Cert.Pre_finite_dil4.Facts] (m : (ℓ : Loc Cert.Dil4RefIdeal.nD Cert.Dil4RefIdeal.τ Cert.Dil4RefIdeal.sig) → Buf (Elt Ideal) ℓ) : Prop :=
  ∀ c : Dev Cert.Dil4RefIdeal.nD,
    (Cert.Pre_finite_dil4.fn (F := Ideal) (m ((c.tc : Thread Cert.Dil4RefIdeal.nD Cert.Dil4RefIdeal.τ).loc Cert.Dil4RefIdeal.main_arg0))) = (fun _ => 1#1)

def Pre_Dil16 (m : (ℓ : Loc Cert.Dil16.nD Cert.Dil16.τ Cert.Dil16.sig) → Buf (Elt Bits) ℓ) : Prop :=
  True

def Pre_Dil16Ideal (m : (ℓ : Loc Cert.Dil16Ideal.nD Cert.Dil16Ideal.τ Cert.Dil16Ideal.sig) → Buf (Elt Ideal) ℓ) : Prop :=
  True

def Pre_Dil16Ideal_finite_dil16 [hPre_finite_dil16 : Cert.Pre_finite_dil16.Facts] (m : (ℓ : Loc Cert.Dil16Ideal.nD Cert.Dil16Ideal.τ Cert.Dil16Ideal.sig) → Buf (Elt Ideal) ℓ) : Prop :=
  ∀ c : Dev Cert.Dil16Ideal.nD,
    (Cert.Pre_finite_dil16.fn (F := Ideal) (m ((c.tc : Thread Cert.Dil16Ideal.nD Cert.Dil16Ideal.τ).loc Cert.Dil16Ideal.main_arg0))) = (fun _ => 1#1)

def Pre_Dil16RefIdeal (m : (ℓ : Loc Cert.Dil16RefIdeal.nD Cert.Dil16RefIdeal.τ Cert.Dil16RefIdeal.sig) → Buf (Elt Ideal) ℓ) : Prop :=
  True

def Pre_Dil16RefIdeal_finite_dil16 [hPre_finite_dil16 : Cert.Pre_finite_dil16.Facts] (m : (ℓ : Loc Cert.Dil16RefIdeal.nD Cert.Dil16RefIdeal.τ Cert.Dil16RefIdeal.sig) → Buf (Elt Ideal) ℓ) : Prop :=
  ∀ c : Dev Cert.Dil16RefIdeal.nD,
    (Cert.Pre_finite_dil16.fn (F := Ideal) (m ((c.tc : Thread Cert.Dil16RefIdeal.nD Cert.Dil16RefIdeal.τ).loc Cert.Dil16RefIdeal.main_arg0))) = (fun _ => 1#1)

def Pre_PleFirst (m : (ℓ : Loc Cert.PleFirst.nD Cert.PleFirst.τ Cert.PleFirst.sig) → Buf (Elt Bits) ℓ) : Prop :=
  True

def Pre_PleFirstIdeal (m : (ℓ : Loc Cert.PleFirstIdeal.nD Cert.PleFirstIdeal.τ Cert.PleFirstIdeal.sig) → Buf (Elt Ideal) ℓ) : Prop :=
  True

def Pre_PleFirstRefIdeal (m : (ℓ : Loc Cert.PleFirstRefIdeal.nD Cert.PleFirstRefIdeal.τ Cert.PleFirstRefIdeal.sig) → Buf (Elt Ideal) ℓ) : Prop :=
  True

def Pre_Na (m : (ℓ : Loc Cert.Na.nD Cert.Na.τ Cert.Na.sig) → Buf (Elt Bits) ℓ) : Prop :=
  True

def Pre_NaIdeal (m : (ℓ : Loc Cert.NaIdeal.nD Cert.NaIdeal.τ Cert.NaIdeal.sig) → Buf (Elt Ideal) ℓ) : Prop :=
  True

def Pre_NaIdeal_finite_na [hPre_finite_na : Cert.Pre_finite_na.Facts] (m : (ℓ : Loc Cert.NaIdeal.nD Cert.NaIdeal.τ Cert.NaIdeal.sig) → Buf (Elt Ideal) ℓ) : Prop :=
  ∀ c : Dev Cert.NaIdeal.nD,
    (Cert.Pre_finite_na.fn (F := Ideal) (m ((c.tc : Thread Cert.NaIdeal.nD Cert.NaIdeal.τ).loc Cert.NaIdeal.main_arg0)) (m ((c.tc : Thread Cert.NaIdeal.nD Cert.NaIdeal.τ).loc Cert.NaIdeal.main_arg1)) (m ((c.tc : Thread Cert.NaIdeal.nD Cert.NaIdeal.τ).loc Cert.NaIdeal.main_arg2)) (m ((c.tc : Thread Cert.NaIdeal.nD Cert.NaIdeal.τ).loc Cert.NaIdeal.main_arg3))).1 = (fun _ => 1#1)
    ∧ (Cert.Pre_finite_na.fn (F := Ideal) (m ((c.tc : Thread Cert.NaIdeal.nD Cert.NaIdeal.τ).loc Cert.NaIdeal.main_arg0)) (m ((c.tc : Thread Cert.NaIdeal.nD Cert.NaIdeal.τ).loc Cert.NaIdeal.main_arg1)) (m ((c.tc : Thread Cert.NaIdeal.nD Cert.NaIdeal.τ).loc Cert.NaIdeal.main_arg2)) (m ((c.tc : Thread Cert.NaIdeal.nD Cert.NaIdeal.τ).loc Cert.NaIdeal.main_arg3))).2.1 = (fun _ => 1#1)
    ∧ (Cert.Pre_finite_na.fn (F := Ideal) (m ((c.tc : Thread Cert.NaIdeal.nD Cert.NaIdeal.τ).loc Cert.NaIdeal.main_arg0)) (m ((c.tc : Thread Cert.NaIdeal.nD Cert.NaIdeal.τ).loc Cert.NaIdeal.main_arg1)) (m ((c.tc : Thread Cert.NaIdeal.nD Cert.NaIdeal.τ).loc Cert.NaIdeal.main_arg2)) (m ((c.tc : Thread Cert.NaIdeal.nD Cert.NaIdeal.τ).loc Cert.NaIdeal.main_arg3))).2.2 = (fun _ => 1#1)

def Pre_NaRefIdeal (m : (ℓ : Loc Cert.NaRefIdeal.nD Cert.NaRefIdeal.τ Cert.NaRefIdeal.sig) → Buf (Elt Ideal) ℓ) : Prop :=
  True

def Pre_NaRefIdeal_finite_na [hPre_finite_na : Cert.Pre_finite_na.Facts] (m : (ℓ : Loc Cert.NaRefIdeal.nD Cert.NaRefIdeal.τ Cert.NaRefIdeal.sig) → Buf (Elt Ideal) ℓ) : Prop :=
  ∀ c : Dev Cert.NaRefIdeal.nD,
    (Cert.Pre_finite_na.fn (F := Ideal) (m ((c.tc : Thread Cert.NaRefIdeal.nD Cert.NaRefIdeal.τ).loc Cert.NaRefIdeal.main_arg0)) (m ((c.tc : Thread Cert.NaRefIdeal.nD Cert.NaRefIdeal.τ).loc Cert.NaRefIdeal.main_arg1)) (m ((c.tc : Thread Cert.NaRefIdeal.nD Cert.NaRefIdeal.τ).loc Cert.NaRefIdeal.main_arg2)) (m ((c.tc : Thread Cert.NaRefIdeal.nD Cert.NaRefIdeal.τ).loc Cert.NaRefIdeal.main_arg3))).1 = (fun _ => 1#1)
    ∧ (Cert.Pre_finite_na.fn (F := Ideal) (m ((c.tc : Thread Cert.NaRefIdeal.nD Cert.NaRefIdeal.τ).loc Cert.NaRefIdeal.main_arg0)) (m ((c.tc : Thread Cert.NaRefIdeal.nD Cert.NaRefIdeal.τ).loc Cert.NaRefIdeal.main_arg1)) (m ((c.tc : Thread Cert.NaRefIdeal.nD Cert.NaRefIdeal.τ).loc Cert.NaRefIdeal.main_arg2)) (m ((c.tc : Thread Cert.NaRefIdeal.nD Cert.NaRefIdeal.τ).loc Cert.NaRefIdeal.main_arg3))).2.1 = (fun _ => 1#1)
    ∧ (Cert.Pre_finite_na.fn (F := Ideal) (m ((c.tc : Thread Cert.NaRefIdeal.nD Cert.NaRefIdeal.τ).loc Cert.NaRefIdeal.main_arg0)) (m ((c.tc : Thread Cert.NaRefIdeal.nD Cert.NaRefIdeal.τ).loc Cert.NaRefIdeal.main_arg1)) (m ((c.tc : Thread Cert.NaRefIdeal.nD Cert.NaRefIdeal.τ).loc Cert.NaRefIdeal.main_arg2)) (m ((c.tc : Thread Cert.NaRefIdeal.nD Cert.NaRefIdeal.τ).loc Cert.NaRefIdeal.main_arg3))).2.2 = (fun _ => 1#1)

def quiescent_Band [hBand : Cert.Band.Facts] : Prop :=
  ∀ (m : (ℓ : Loc Cert.Band.nD Cert.Band.τ Cert.Band.sig) → Buf (Elt Bits) ℓ) (g : Dev Cert.Band.nD → PrngReg), Pre_Band m →
    θ_run (Cert.Band.defs (F := Bits)) (onTc (τ := Cert.Band.τ) (Cert.Band.main (F := Bits))) ⟨m, fun _ => 0, g⟩ (fun r => (∀ c : Dev Cert.Band.nD,
      r.2.mem ((c.tc : Thread Cert.Band.nD Cert.Band.τ).loc Cert.Band.main_arg0) = m ((c.tc : Thread Cert.Band.nD Cert.Band.τ).loc Cert.Band.main_arg0)
      ∧ r.2.mem ((c.tc : Thread Cert.Band.nD Cert.Band.τ).loc Cert.Band.main_arg1) = m ((c.tc : Thread Cert.Band.nD Cert.Band.τ).loc Cert.Band.main_arg1)
      ∧ r.2.mem ((c.tc : Thread Cert.Band.nD Cert.Band.τ).loc Cert.Band.main_arg2) = m ((c.tc : Thread Cert.Band.nD Cert.Band.τ).loc Cert.Band.main_arg2)
      ∧ r.2.mem ((c.tc : Thread Cert.Band.nD Cert.Band.τ).loc Cert.Band.main_arg3) = m ((c.tc : Thread Cert.Band.nD Cert.Band.τ).loc Cert.Band.main_arg3))
      ∧ r.2.sem = fun _ => 0)

def quiescent_BandIdeal [hBandIdeal : Cert.BandIdeal.Facts] : Prop :=
  ∀ (m : (ℓ : Loc Cert.BandIdeal.nD Cert.BandIdeal.τ Cert.BandIdeal.sig) → Buf (Elt Ideal) ℓ) (g : Dev Cert.BandIdeal.nD → PrngReg), Pre_BandIdeal m →
    θ_run (Cert.BandIdeal.defs (F := Ideal)) (onTc (τ := Cert.BandIdeal.τ) (Cert.BandIdeal.main (F := Ideal))) ⟨m, fun _ => 0, g⟩ (fun r => (∀ c : Dev Cert.BandIdeal.nD,
      r.2.mem ((c.tc : Thread Cert.BandIdeal.nD Cert.BandIdeal.τ).loc Cert.BandIdeal.main_arg0) = m ((c.tc : Thread Cert.BandIdeal.nD Cert.BandIdeal.τ).loc Cert.BandIdeal.main_arg0)
      ∧ r.2.mem ((c.tc : Thread Cert.BandIdeal.nD Cert.BandIdeal.τ).loc Cert.BandIdeal.main_arg1) = m ((c.tc : Thread Cert.BandIdeal.nD Cert.BandIdeal.τ).loc Cert.BandIdeal.main_arg1)
      ∧ r.2.mem ((c.tc : Thread Cert.BandIdeal.nD Cert.BandIdeal.τ).loc Cert.BandIdeal.main_arg2) = m ((c.tc : Thread Cert.BandIdeal.nD Cert.BandIdeal.τ).loc Cert.BandIdeal.main_arg2)
      ∧ r.2.mem ((c.tc : Thread Cert.BandIdeal.nD Cert.BandIdeal.τ).loc Cert.BandIdeal.main_arg3) = m ((c.tc : Thread Cert.BandIdeal.nD Cert.BandIdeal.τ).loc Cert.BandIdeal.main_arg3))
      ∧ r.2.sem = fun _ => 0)

def quiescent_BandIdeal_pre_finite [hBandIdeal : Cert.BandIdeal.Facts] [hPre_finite : Cert.Pre_finite.Facts] : Prop :=
  ∀ (m : (ℓ : Loc Cert.BandIdeal.nD Cert.BandIdeal.τ Cert.BandIdeal.sig) → Buf (Elt Ideal) ℓ) (g : Dev Cert.BandIdeal.nD → PrngReg), Pre_BandIdeal_finite m →
    θ_run (Cert.BandIdeal.defs (F := Ideal)) (onTc (τ := Cert.BandIdeal.τ) (Cert.BandIdeal.main (F := Ideal))) ⟨m, fun _ => 0, g⟩ (fun r => (∀ c : Dev Cert.BandIdeal.nD,
      r.2.mem ((c.tc : Thread Cert.BandIdeal.nD Cert.BandIdeal.τ).loc Cert.BandIdeal.main_arg0) = m ((c.tc : Thread Cert.BandIdeal.nD Cert.BandIdeal.τ).loc Cert.BandIdeal.main_arg0)
      ∧ r.2.mem ((c.tc : Thread Cert.BandIdeal.nD Cert.BandIdeal.τ).loc Cert.BandIdeal.main_arg1) = m ((c.tc : Thread Cert.BandIdeal.nD Cert.BandIdeal.τ).loc Cert.BandIdeal.main_arg1)
      ∧ r.2.mem ((c.tc : Thread Cert.BandIdeal.nD Cert.BandIdeal.τ).loc Cert.BandIdeal.main_arg2) = m ((c.tc : Thread Cert.BandIdeal.nD Cert.BandIdeal.τ).loc Cert.BandIdeal.main_arg2)
      ∧ r.2.mem ((c.tc : Thread Cert.BandIdeal.nD Cert.BandIdeal.τ).loc Cert.BandIdeal.main_arg3) = m ((c.tc : Thread Cert.BandIdeal.nD Cert.BandIdeal.τ).loc Cert.BandIdeal.main_arg3))
      ∧ r.2.sem = fun _ => 0)

def quiescent_BandRefIdeal [hBandRefIdeal : Cert.BandRefIdeal.Facts] : Prop :=
  ∀ (m : (ℓ : Loc Cert.BandRefIdeal.nD Cert.BandRefIdeal.τ Cert.BandRefIdeal.sig) → Buf (Elt Ideal) ℓ) (g : Dev Cert.BandRefIdeal.nD → PrngReg), Pre_BandRefIdeal m →
    θ_run (Cert.BandRefIdeal.defs (F := Ideal)) (onTc (τ := Cert.BandRefIdeal.τ) (Cert.BandRefIdeal.main (F := Ideal))) ⟨m, fun _ => 0, g⟩ (fun r => (∀ c : Dev Cert.BandRefIdeal.nD,
      r.2.mem ((c.tc : Thread Cert.BandRefIdeal.nD Cert.BandRefIdeal.τ).loc Cert.BandRefIdeal.main_arg0) = m ((c.tc : Thread Cert.BandRefIdeal.nD Cert.BandRefIdeal.τ).loc Cert.BandRefIdeal.main_arg0)
      ∧ r.2.mem ((c.tc : Thread Cert.BandRefIdeal.nD Cert.BandRefIdeal.τ).loc Cert.BandRefIdeal.main_arg1) = m ((c.tc : Thread Cert.BandRefIdeal.nD Cert.BandRefIdeal.τ).loc Cert.BandRefIdeal.main_arg1)
      ∧ r.2.mem ((c.tc : Thread Cert.BandRefIdeal.nD Cert.BandRefIdeal.τ).loc Cert.BandRefIdeal.main_arg2) = m ((c.tc : Thread Cert.BandRefIdeal.nD Cert.BandRefIdeal.τ).loc Cert.BandRefIdeal.main_arg2)
      ∧ r.2.mem ((c.tc : Thread Cert.BandRefIdeal.nD Cert.BandRefIdeal.τ).loc Cert.BandRefIdeal.main_arg3) = m ((c.tc : Thread Cert.BandRefIdeal.nD Cert.BandRefIdeal.τ).loc Cert.BandRefIdeal.main_arg3))
      ∧ r.2.sem = fun _ => 0)

def quiescent_BandRefIdeal_pre_finite [hBandRefIdeal : Cert.BandRefIdeal.Facts] [hPre_finite : Cert.Pre_finite.Facts] : Prop :=
  ∀ (m : (ℓ : Loc Cert.BandRefIdeal.nD Cert.BandRefIdeal.τ Cert.BandRefIdeal.sig) → Buf (Elt Ideal) ℓ) (g : Dev Cert.BandRefIdeal.nD → PrngReg), Pre_BandRefIdeal_finite m →
    θ_run (Cert.BandRefIdeal.defs (F := Ideal)) (onTc (τ := Cert.BandRefIdeal.τ) (Cert.BandRefIdeal.main (F := Ideal))) ⟨m, fun _ => 0, g⟩ (fun r => (∀ c : Dev Cert.BandRefIdeal.nD,
      r.2.mem ((c.tc : Thread Cert.BandRefIdeal.nD Cert.BandRefIdeal.τ).loc Cert.BandRefIdeal.main_arg0) = m ((c.tc : Thread Cert.BandRefIdeal.nD Cert.BandRefIdeal.τ).loc Cert.BandRefIdeal.main_arg0)
      ∧ r.2.mem ((c.tc : Thread Cert.BandRefIdeal.nD Cert.BandRefIdeal.τ).loc Cert.BandRefIdeal.main_arg1) = m ((c.tc : Thread Cert.BandRefIdeal.nD Cert.BandRefIdeal.τ).loc Cert.BandRefIdeal.main_arg1)
      ∧ r.2.mem ((c.tc : Thread Cert.BandRefIdeal.nD Cert.BandRefIdeal.τ).loc Cert.BandRefIdeal.main_arg2) = m ((c.tc : Thread Cert.BandRefIdeal.nD Cert.BandRefIdeal.τ).loc Cert.BandRefIdeal.main_arg2)
      ∧ r.2.mem ((c.tc : Thread Cert.BandRefIdeal.nD Cert.BandRefIdeal.τ).loc Cert.BandRefIdeal.main_arg3) = m ((c.tc : Thread Cert.BandRefIdeal.nD Cert.BandRefIdeal.τ).loc Cert.BandRefIdeal.main_arg3))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1)
      ∧ r.2.mem ((c.tc : Thread Cert.Ple.nD Cert.Ple.τ).loc Cert.Ple.main_arg2) = m ((c.tc : Thread Cert.Ple.nD Cert.Ple.τ).loc Cert.Ple.main_arg2)
      ∧ r.2.mem ((c.tc : Thread Cert.Ple.nD Cert.Ple.τ).loc Cert.Ple.main_arg3) = m ((c.tc : Thread Cert.Ple.nD Cert.Ple.τ).loc Cert.Ple.main_arg3)
      ∧ r.2.mem ((c.tc : Thread Cert.Ple.nD Cert.Ple.τ).loc Cert.Ple.main_arg4) = m ((c.tc : Thread Cert.Ple.nD Cert.Ple.τ).loc Cert.Ple.main_arg4)
      ∧ r.2.mem ((c.tc : Thread Cert.Ple.nD Cert.Ple.τ).loc Cert.Ple.main_arg5) = m ((c.tc : Thread Cert.Ple.nD Cert.Ple.τ).loc Cert.Ple.main_arg5))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
      ∧ r.2.mem ((c.tc : Thread Cert.PleIdeal.nD Cert.PleIdeal.τ).loc Cert.PleIdeal.main_arg5) = m ((c.tc : Thread Cert.PleIdeal.nD Cert.PleIdeal.τ).loc Cert.PleIdeal.main_arg5))
      ∧ r.2.sem = fun _ => 0)

def quiescent_PleRefIdeal [hPleRefIdeal : Cert.PleRefIdeal.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
      ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3)
      ∧ r.2.mem ((c.tc : Thread Cert.PleRefIdeal.nD Cert.PleRefIdeal.τ).loc Cert.PleRefIdeal.main_arg4) = m ((c.tc : Thread Cert.PleRefIdeal.nD Cert.PleRefIdeal.τ).loc Cert.PleRefIdeal.main_arg4)
      ∧ r.2.mem ((c.tc : Thread Cert.PleRefIdeal.nD Cert.PleRefIdeal.τ).loc Cert.PleRefIdeal.main_arg5) = m ((c.tc : Thread Cert.PleRefIdeal.nD Cert.PleRefIdeal.τ).loc Cert.PleRefIdeal.main_arg5))
      ∧ r.2.sem = fun _ => 0)

def quiescent_InC [hInC : Cert.InC.Facts] : Prop :=
  ∀ (m : (ℓ : Loc Cert.InC.nD Cert.InC.τ Cert.InC.sig) → Buf (Elt Bits) ℓ) (g : Dev Cert.InC.nD → PrngReg), Pre_InC m →
    θ_run (Cert.InC.defs (F := Bits)) (onTc (τ := Cert.InC.τ) (Cert.InC.main (F := Bits))) ⟨m, fun _ => 0, g⟩ (fun r => (∀ c : Dev Cert.InC.nD,
      r.2.mem ((c.tc : Thread Cert.InC.nD Cert.InC.τ).loc Cert.InC.main_arg0) = m ((c.tc : Thread Cert.InC.nD Cert.InC.τ).loc Cert.InC.main_arg0)
      ∧ r.2.mem ((c.tc : Thread Cert.InC.nD Cert.InC.τ).loc Cert.InC.main_arg1) = m ((c.tc : Thread Cert.InC.nD Cert.InC.τ).loc Cert.InC.main_arg1)
      ∧ r.2.mem ((c.tc : Thread Cert.InC.nD Cert.InC.τ).loc Cert.InC.main_arg2) = m ((c.tc : Thread Cert.InC.nD Cert.InC.τ).loc Cert.InC.main_arg2))
      ∧ r.2.sem = fun _ => 0)

def quiescent_InCIdeal [hInCIdeal : Cert.InCIdeal.Facts] : Prop :=
  ∀ (m : (ℓ : Loc Cert.InCIdeal.nD Cert.InCIdeal.τ Cert.InCIdeal.sig) → Buf (Elt Ideal) ℓ) (g : Dev Cert.InCIdeal.nD → PrngReg), Pre_InCIdeal m →
    θ_run (Cert.InCIdeal.defs (F := Ideal)) (onTc (τ := Cert.InCIdeal.τ) (Cert.InCIdeal.main (F := Ideal))) ⟨m, fun _ => 0, g⟩ (fun r => (∀ c : Dev Cert.InCIdeal.nD,
      r.2.mem ((c.tc : Thread Cert.InCIdeal.nD Cert.InCIdeal.τ).loc Cert.InCIdeal.main_arg0) = m ((c.tc : Thread Cert.InCIdeal.nD Cert.InCIdeal.τ).loc Cert.InCIdeal.main_arg0)
      ∧ r.2.mem ((c.tc : Thread Cert.InCIdeal.nD Cert.InCIdeal.τ).loc Cert.InCIdeal.main_arg1) = m ((c.tc : Thread Cert.InCIdeal.nD Cert.InCIdeal.τ).loc Cert.InCIdeal.main_arg1)
      ∧ r.2.mem ((c.tc : Thread Cert.InCIdeal.nD Cert.InCIdeal.τ).loc Cert.InCIdeal.main_arg2) = m ((c.tc : Thread Cert.InCIdeal.nD Cert.InCIdeal.τ).loc Cert.InCIdeal.main_arg2))
      ∧ r.2.sem = fun _ => 0)

def quiescent_InCRefIdeal [hInCRefIdeal : Cert.InCRefIdeal.Facts] : Prop :=
  ∀ (m : (ℓ : Loc Cert.InCRefIdeal.nD Cert.InCRefIdeal.τ Cert.InCRefIdeal.sig) → Buf (Elt Ideal) ℓ) (g : Dev Cert.InCRefIdeal.nD → PrngReg), Pre_InCRefIdeal m →
    θ_run (Cert.InCRefIdeal.defs (F := Ideal)) (onTc (τ := Cert.InCRefIdeal.τ) (Cert.InCRefIdeal.main (F := Ideal))) ⟨m, fun _ => 0, g⟩ (fun r => (∀ c : Dev Cert.InCRefIdeal.nD,
      r.2.mem ((c.tc : Thread Cert.InCRefIdeal.nD Cert.InCRefIdeal.τ).loc Cert.InCRefIdeal.main_arg0) = m ((c.tc : Thread Cert.InCRefIdeal.nD Cert.InCRefIdeal.τ).loc Cert.InCRefIdeal.main_arg0)
      ∧ r.2.mem ((c.tc : Thread Cert.InCRefIdeal.nD Cert.InCRefIdeal.τ).loc Cert.InCRefIdeal.main_arg1) = m ((c.tc : Thread Cert.InCRefIdeal.nD Cert.InCRefIdeal.τ).loc Cert.InCRefIdeal.main_arg1)
      ∧ r.2.mem ((c.tc : Thread Cert.InCRefIdeal.nD Cert.InCRefIdeal.τ).loc Cert.InCRefIdeal.main_arg2) = m ((c.tc : Thread Cert.InCRefIdeal.nD Cert.InCRefIdeal.τ).loc Cert.InCRefIdeal.main_arg2))
      ∧ r.2.sem = fun _ => 0)

def quiescent_OutC [hOutC : Cert.OutC.Facts] : Prop :=
  ∀ (m : (ℓ : Loc Cert.OutC.nD Cert.OutC.τ Cert.OutC.sig) → Buf (Elt Bits) ℓ) (g : Dev Cert.OutC.nD → PrngReg), Pre_OutC m →
    θ_run (Cert.OutC.defs (F := Bits)) (onTc (τ := Cert.OutC.τ) (Cert.OutC.main (F := Bits))) ⟨m, fun _ => 0, g⟩ (fun r => (∀ c : Dev Cert.OutC.nD,
      r.2.mem ((c.tc : Thread Cert.OutC.nD Cert.OutC.τ).loc Cert.OutC.main_arg0) = m ((c.tc : Thread Cert.OutC.nD Cert.OutC.τ).loc Cert.OutC.main_arg0)
      ∧ r.2.mem ((c.tc : Thread Cert.OutC.nD Cert.OutC.τ).loc Cert.OutC.main_arg1) = m ((c.tc : Thread Cert.OutC.nD Cert.OutC.τ).loc Cert.OutC.main_arg1)
      ∧ r.2.mem ((c.tc : Thread Cert.OutC.nD Cert.OutC.τ).loc Cert.OutC.main_arg2) = m ((c.tc : Thread Cert.OutC.nD Cert.OutC.τ).loc Cert.OutC.main_arg2))
      ∧ r.2.sem = fun _ => 0)

def quiescent_OutCIdeal [hOutCIdeal : Cert.OutCIdeal.Facts] : Prop :=
  ∀ (m : (ℓ : Loc Cert.OutCIdeal.nD Cert.OutCIdeal.τ Cert.OutCIdeal.sig) → Buf (Elt Ideal) ℓ) (g : Dev Cert.OutCIdeal.nD → PrngReg), Pre_OutCIdeal m →
    θ_run (Cert.OutCIdeal.defs (F := Ideal)) (onTc (τ := Cert.OutCIdeal.τ) (Cert.OutCIdeal.main (F := Ideal))) ⟨m, fun _ => 0, g⟩ (fun r => (∀ c : Dev Cert.OutCIdeal.nD,
      r.2.mem ((c.tc : Thread Cert.OutCIdeal.nD Cert.OutCIdeal.τ).loc Cert.OutCIdeal.main_arg0) = m ((c.tc : Thread Cert.OutCIdeal.nD Cert.OutCIdeal.τ).loc Cert.OutCIdeal.main_arg0)
      ∧ r.2.mem ((c.tc : Thread Cert.OutCIdeal.nD Cert.OutCIdeal.τ).loc Cert.OutCIdeal.main_arg1) = m ((c.tc : Thread Cert.OutCIdeal.nD Cert.OutCIdeal.τ).loc Cert.OutCIdeal.main_arg1)
      ∧ r.2.mem ((c.tc : Thread Cert.OutCIdeal.nD Cert.OutCIdeal.τ).loc Cert.OutCIdeal.main_arg2) = m ((c.tc : Thread Cert.OutCIdeal.nD Cert.OutCIdeal.τ).loc Cert.OutCIdeal.main_arg2))
      ∧ r.2.sem = fun _ => 0)

def quiescent_OutCRefIdeal [hOutCRefIdeal : Cert.OutCRefIdeal.Facts] : Prop :=
  ∀ (m : (ℓ : Loc Cert.OutCRefIdeal.nD Cert.OutCRefIdeal.τ Cert.OutCRefIdeal.sig) → Buf (Elt Ideal) ℓ) (g : Dev Cert.OutCRefIdeal.nD → PrngReg), Pre_OutCRefIdeal m →
    θ_run (Cert.OutCRefIdeal.defs (F := Ideal)) (onTc (τ := Cert.OutCRefIdeal.τ) (Cert.OutCRefIdeal.main (F := Ideal))) ⟨m, fun _ => 0, g⟩ (fun r => (∀ c : Dev Cert.OutCRefIdeal.nD,
      r.2.mem ((c.tc : Thread Cert.OutCRefIdeal.nD Cert.OutCRefIdeal.τ).loc Cert.OutCRefIdeal.main_arg0) = m ((c.tc : Thread Cert.OutCRefIdeal.nD Cert.OutCRefIdeal.τ).loc Cert.OutCRefIdeal.main_arg0)
      ∧ r.2.mem ((c.tc : Thread Cert.OutCRefIdeal.nD Cert.OutCRefIdeal.τ).loc Cert.OutCRefIdeal.main_arg1) = m ((c.tc : Thread Cert.OutCRefIdeal.nD Cert.OutCRefIdeal.τ).loc Cert.OutCRefIdeal.main_arg1)
      ∧ r.2.mem ((c.tc : Thread Cert.OutCRefIdeal.nD Cert.OutCRefIdeal.τ).loc Cert.OutCRefIdeal.main_arg2) = m ((c.tc : Thread Cert.OutCRefIdeal.nD Cert.OutCRefIdeal.τ).loc Cert.OutCRefIdeal.main_arg2))
      ∧ r.2.sem = fun _ => 0)

def quiescent_InAB [hInAB : Cert.InAB.Facts] : Prop :=
  ∀ (m : (ℓ : Loc Cert.InAB.nD Cert.InAB.τ Cert.InAB.sig) → Buf (Elt Bits) ℓ) (g : Dev Cert.InAB.nD → PrngReg), Pre_InAB m →
    θ_run (Cert.InAB.defs (F := Bits)) (onTc (τ := Cert.InAB.τ) (Cert.InAB.main (F := Bits))) ⟨m, fun _ => 0, g⟩ (fun r => (∀ c : Dev Cert.InAB.nD,
      r.2.mem ((c.tc : Thread Cert.InAB.nD Cert.InAB.τ).loc Cert.InAB.main_arg0) = m ((c.tc : Thread Cert.InAB.nD Cert.InAB.τ).loc Cert.InAB.main_arg0)
      ∧ r.2.mem ((c.tc : Thread Cert.InAB.nD Cert.InAB.τ).loc Cert.InAB.main_arg1) = m ((c.tc : Thread Cert.InAB.nD Cert.InAB.τ).loc Cert.InAB.main_arg1)
      ∧ r.2.mem ((c.tc : Thread Cert.InAB.nD Cert.InAB.τ).loc Cert.InAB.main_arg2) = m ((c.tc : Thread Cert.InAB.nD Cert.InAB.τ).loc Cert.InAB.main_arg2))
      ∧ r.2.sem = fun _ => 0)

def quiescent_InABIdeal [hInABIdeal : Cert.InABIdeal.Facts] : Prop :=
  ∀ (m : (ℓ : Loc Cert.InABIdeal.nD Cert.InABIdeal.τ Cert.InABIdeal.sig) → Buf (Elt Ideal) ℓ) (g : Dev Cert.InABIdeal.nD → PrngReg), Pre_InABIdeal m →
    θ_run (Cert.InABIdeal.defs (F := Ideal)) (onTc (τ := Cert.InABIdeal.τ) (Cert.InABIdeal.main (F := Ideal))) ⟨m, fun _ => 0, g⟩ (fun r => (∀ c : Dev Cert.InABIdeal.nD,
      r.2.mem ((c.tc : Thread Cert.InABIdeal.nD Cert.InABIdeal.τ).loc Cert.InABIdeal.main_arg0) = m ((c.tc : Thread Cert.InABIdeal.nD Cert.InABIdeal.τ).loc Cert.InABIdeal.main_arg0)
      ∧ r.2.mem ((c.tc : Thread Cert.InABIdeal.nD Cert.InABIdeal.τ).loc Cert.InABIdeal.main_arg1) = m ((c.tc : Thread Cert.InABIdeal.nD Cert.InABIdeal.τ).loc Cert.InABIdeal.main_arg1)
      ∧ r.2.mem ((c.tc : Thread Cert.InABIdeal.nD Cert.InABIdeal.τ).loc Cert.InABIdeal.main_arg2) = m ((c.tc : Thread Cert.InABIdeal.nD Cert.InABIdeal.τ).loc Cert.InABIdeal.main_arg2))
      ∧ r.2.sem = fun _ => 0)

def quiescent_InABRefIdeal [hInABRefIdeal : Cert.InABRefIdeal.Facts] : Prop :=
  ∀ (m : (ℓ : Loc Cert.InABRefIdeal.nD Cert.InABRefIdeal.τ Cert.InABRefIdeal.sig) → Buf (Elt Ideal) ℓ) (g : Dev Cert.InABRefIdeal.nD → PrngReg), Pre_InABRefIdeal m →
    θ_run (Cert.InABRefIdeal.defs (F := Ideal)) (onTc (τ := Cert.InABRefIdeal.τ) (Cert.InABRefIdeal.main (F := Ideal))) ⟨m, fun _ => 0, g⟩ (fun r => (∀ c : Dev Cert.InABRefIdeal.nD,
      r.2.mem ((c.tc : Thread Cert.InABRefIdeal.nD Cert.InABRefIdeal.τ).loc Cert.InABRefIdeal.main_arg0) = m ((c.tc : Thread Cert.InABRefIdeal.nD Cert.InABRefIdeal.τ).loc Cert.InABRefIdeal.main_arg0)
      ∧ r.2.mem ((c.tc : Thread Cert.InABRefIdeal.nD Cert.InABRefIdeal.τ).loc Cert.InABRefIdeal.main_arg1) = m ((c.tc : Thread Cert.InABRefIdeal.nD Cert.InABRefIdeal.τ).loc Cert.InABRefIdeal.main_arg1)
      ∧ r.2.mem ((c.tc : Thread Cert.InABRefIdeal.nD Cert.InABRefIdeal.τ).loc Cert.InABRefIdeal.main_arg2) = m ((c.tc : Thread Cert.InABRefIdeal.nD Cert.InABRefIdeal.τ).loc Cert.InABRefIdeal.main_arg2))
      ∧ r.2.sem = fun _ => 0)

def quiescent_OutAB [hOutAB : Cert.OutAB.Facts] : Prop :=
  ∀ (m : (ℓ : Loc Cert.OutAB.nD Cert.OutAB.τ Cert.OutAB.sig) → Buf (Elt Bits) ℓ) (g : Dev Cert.OutAB.nD → PrngReg), Pre_OutAB m →
    θ_run (Cert.OutAB.defs (F := Bits)) (onTc (τ := Cert.OutAB.τ) (Cert.OutAB.main (F := Bits))) ⟨m, fun _ => 0, g⟩ (fun r => (∀ c : Dev Cert.OutAB.nD,
      r.2.mem ((c.tc : Thread Cert.OutAB.nD Cert.OutAB.τ).loc Cert.OutAB.main_arg0) = m ((c.tc : Thread Cert.OutAB.nD Cert.OutAB.τ).loc Cert.OutAB.main_arg0)
      ∧ r.2.mem ((c.tc : Thread Cert.OutAB.nD Cert.OutAB.τ).loc Cert.OutAB.main_arg1) = m ((c.tc : Thread Cert.OutAB.nD Cert.OutAB.τ).loc Cert.OutAB.main_arg1)
      ∧ r.2.mem ((c.tc : Thread Cert.OutAB.nD Cert.OutAB.τ).loc Cert.OutAB.main_arg2) = m ((c.tc : Thread Cert.OutAB.nD Cert.OutAB.τ).loc Cert.OutAB.main_arg2)
      ∧ r.2.mem ((c.tc : Thread Cert.OutAB.nD Cert.OutAB.τ).loc Cert.OutAB.main_arg3) = m ((c.tc : Thread Cert.OutAB.nD Cert.OutAB.τ).loc Cert.OutAB.main_arg3)
      ∧ r.2.mem ((c.tc : Thread Cert.OutAB.nD Cert.OutAB.τ).loc Cert.OutAB.main_arg4) = m ((c.tc : Thread Cert.OutAB.nD Cert.OutAB.τ).loc Cert.OutAB.main_arg4)
      ∧ r.2.mem ((c.tc : Thread Cert.OutAB.nD Cert.OutAB.τ).loc Cert.OutAB.main_arg5) = m ((c.tc : Thread Cert.OutAB.nD Cert.OutAB.τ).loc Cert.OutAB.main_arg5)
      ∧ r.2.mem ((c.tc : Thread Cert.OutAB.nD Cert.OutAB.τ).loc Cert.OutAB.main_arg6) = m ((c.tc : Thread Cert.OutAB.nD Cert.OutAB.τ).loc Cert.OutAB.main_arg6)
      ∧ r.2.mem ((c.tc : Thread Cert.OutAB.nD Cert.OutAB.τ).loc Cert.OutAB.main_arg7) = m ((c.tc : Thread Cert.OutAB.nD Cert.OutAB.τ).loc Cert.OutAB.main_arg7)
      ∧ r.2.mem ((c.tc : Thread Cert.OutAB.nD Cert.OutAB.τ).loc Cert.OutAB.main_arg8) = m ((c.tc : Thread Cert.OutAB.nD Cert.OutAB.τ).loc Cert.OutAB.main_arg8))
      ∧ r.2.sem = fun _ => 0)

def quiescent_OutABIdeal [hOutABIdeal : Cert.OutABIdeal.Facts] : Prop :=
  ∀ (m : (ℓ : Loc Cert.OutABIdeal.nD Cert.OutABIdeal.τ Cert.OutABIdeal.sig) → Buf (Elt Ideal) ℓ) (g : Dev Cert.OutABIdeal.nD → PrngReg), Pre_OutABIdeal m →
    θ_run (Cert.OutABIdeal.defs (F := Ideal)) (onTc (τ := Cert.OutABIdeal.τ) (Cert.OutABIdeal.main (F := Ideal))) ⟨m, fun _ => 0, g⟩ (fun r => (∀ c : Dev Cert.OutABIdeal.nD,
      r.2.mem ((c.tc : Thread Cert.OutABIdeal.nD Cert.OutABIdeal.τ).loc Cert.OutABIdeal.main_arg0) = m ((c.tc : Thread Cert.OutABIdeal.nD Cert.OutABIdeal.τ).loc Cert.OutABIdeal.main_arg0)
      ∧ r.2.mem ((c.tc : Thread Cert.OutABIdeal.nD Cert.OutABIdeal.τ).loc Cert.OutABIdeal.main_arg1) = m ((c.tc : Thread Cert.OutABIdeal.nD Cert.OutABIdeal.τ).loc Cert.OutABIdeal.main_arg1)
      ∧ r.2.mem ((c.tc : Thread Cert.OutABIdeal.nD Cert.OutABIdeal.τ).loc Cert.OutABIdeal.main_arg2) = m ((c.tc : Thread Cert.OutABIdeal.nD Cert.OutABIdeal.τ).loc Cert.OutABIdeal.main_arg2)
      ∧ r.2.mem ((c.tc : Thread Cert.OutABIdeal.nD Cert.OutABIdeal.τ).loc Cert.OutABIdeal.main_arg3) = m ((c.tc : Thread Cert.OutABIdeal.nD Cert.OutABIdeal.τ).loc Cert.OutABIdeal.main_arg3)
      ∧ r.2.mem ((c.tc : Thread Cert.OutABIdeal.nD Cert.OutABIdeal.τ).loc Cert.OutABIdeal.main_arg4) = m ((c.tc : Thread Cert.OutABIdeal.nD Cert.OutABIdeal.τ).loc Cert.OutABIdeal.main_arg4)
      ∧ r.2.mem ((c.tc : Thread Cert.OutABIdeal.nD Cert.OutABIdeal.τ).loc Cert.OutABIdeal.main_arg5) = m ((c.tc : Thread Cert.OutABIdeal.nD Cert.OutABIdeal.τ).loc Cert.OutABIdeal.main_arg5)
      ∧ r.2.mem ((c.tc : Thread Cert.OutABIdeal.nD Cert.OutABIdeal.τ).loc Cert.OutABIdeal.main_arg6) = m ((c.tc : Thread Cert.OutABIdeal.nD Cert.OutABIdeal.τ).loc Cert.OutABIdeal.main_arg6)
      ∧ r.2.mem ((c.tc : Thread Cert.OutABIdeal.nD Cert.OutABIdeal.τ).loc Cert.OutABIdeal.main_arg7) = m ((c.tc : Thread Cert.OutABIdeal.nD Cert.OutABIdeal.τ).loc Cert.OutABIdeal.main_arg7)
      ∧ r.2.mem ((c.tc : Thread Cert.OutABIdeal.nD Cert.OutABIdeal.τ).loc Cert.OutABIdeal.main_arg8) = m ((c.tc : Thread Cert.OutABIdeal.nD Cert.OutABIdeal.τ).loc Cert.OutABIdeal.main_arg8))
      ∧ r.2.sem = fun _ => 0)

def quiescent_OutABIdeal_pre_finite_lse [hOutABIdeal : Cert.OutABIdeal.Facts] [hPre_finite_lse : Cert.Pre_finite_lse.Facts] : Prop :=
  ∀ (m : (ℓ : Loc Cert.OutABIdeal.nD Cert.OutABIdeal.τ Cert.OutABIdeal.sig) → Buf (Elt Ideal) ℓ) (g : Dev Cert.OutABIdeal.nD → PrngReg), Pre_OutABIdeal_finite_lse m →
    θ_run (Cert.OutABIdeal.defs (F := Ideal)) (onTc (τ := Cert.OutABIdeal.τ) (Cert.OutABIdeal.main (F := Ideal))) ⟨m, fun _ => 0, g⟩ (fun r => (∀ c : Dev Cert.OutABIdeal.nD,
      r.2.mem ((c.tc : Thread Cert.OutABIdeal.nD Cert.OutABIdeal.τ).loc Cert.OutABIdeal.main_arg0) = m ((c.tc : Thread Cert.OutABIdeal.nD Cert.OutABIdeal.τ).loc Cert.OutABIdeal.main_arg0)
      ∧ r.2.mem ((c.tc : Thread Cert.OutABIdeal.nD Cert.OutABIdeal.τ).loc Cert.OutABIdeal.main_arg1) = m ((c.tc : Thread Cert.OutABIdeal.nD Cert.OutABIdeal.τ).loc Cert.OutABIdeal.main_arg1)
      ∧ r.2.mem ((c.tc : Thread Cert.OutABIdeal.nD Cert.OutABIdeal.τ).loc Cert.OutABIdeal.main_arg2) = m ((c.tc : Thread Cert.OutABIdeal.nD Cert.OutABIdeal.τ).loc Cert.OutABIdeal.main_arg2)
      ∧ r.2.mem ((c.tc : Thread Cert.OutABIdeal.nD Cert.OutABIdeal.τ).loc Cert.OutABIdeal.main_arg3) = m ((c.tc : Thread Cert.OutABIdeal.nD Cert.OutABIdeal.τ).loc Cert.OutABIdeal.main_arg3)
      ∧ r.2.mem ((c.tc : Thread Cert.OutABIdeal.nD Cert.OutABIdeal.τ).loc Cert.OutABIdeal.main_arg4) = m ((c.tc : Thread Cert.OutABIdeal.nD Cert.OutABIdeal.τ).loc Cert.OutABIdeal.main_arg4)
      ∧ r.2.mem ((c.tc : Thread Cert.OutABIdeal.nD Cert.OutABIdeal.τ).loc Cert.OutABIdeal.main_arg5) = m ((c.tc : Thread Cert.OutABIdeal.nD Cert.OutABIdeal.τ).loc Cert.OutABIdeal.main_arg5)
      ∧ r.2.mem ((c.tc : Thread Cert.OutABIdeal.nD Cert.OutABIdeal.τ).loc Cert.OutABIdeal.main_arg6) = m ((c.tc : Thread Cert.OutABIdeal.nD Cert.OutABIdeal.τ).loc Cert.OutABIdeal.main_arg6)
      ∧ r.2.mem ((c.tc : Thread Cert.OutABIdeal.nD Cert.OutABIdeal.τ).loc Cert.OutABIdeal.main_arg7) = m ((c.tc : Thread Cert.OutABIdeal.nD Cert.OutABIdeal.τ).loc Cert.OutABIdeal.main_arg7)
      ∧ r.2.mem ((c.tc : Thread Cert.OutABIdeal.nD Cert.OutABIdeal.τ).loc Cert.OutABIdeal.main_arg8) = m ((c.tc : Thread Cert.OutABIdeal.nD Cert.OutABIdeal.τ).loc Cert.OutABIdeal.main_arg8))
      ∧ r.2.sem = fun _ => 0)

def quiescent_OutABRefIdeal [hOutABRefIdeal : Cert.OutABRefIdeal.Facts] : Prop :=
  ∀ (m : (ℓ : Loc Cert.OutABRefIdeal.nD Cert.OutABRefIdeal.τ Cert.OutABRefIdeal.sig) → Buf (Elt Ideal) ℓ) (g : Dev Cert.OutABRefIdeal.nD → PrngReg), Pre_OutABRefIdeal m →
    θ_run (Cert.OutABRefIdeal.defs (F := Ideal)) (onTc (τ := Cert.OutABRefIdeal.τ) (Cert.OutABRefIdeal.main (F := Ideal))) ⟨m, fun _ => 0, g⟩ (fun r => (∀ c : Dev Cert.OutABRefIdeal.nD,
      r.2.mem ((c.tc : Thread Cert.OutABRefIdeal.nD Cert.OutABRefIdeal.τ).loc Cert.OutABRefIdeal.main_arg0) = m ((c.tc : Thread Cert.OutABRefIdeal.nD Cert.OutABRefIdeal.τ).loc Cert.OutABRefIdeal.main_arg0)
      ∧ r.2.mem ((c.tc : Thread Cert.OutABRefIdeal.nD Cert.OutABRefIdeal.τ).loc Cert.OutABRefIdeal.main_arg1) = m ((c.tc : Thread Cert.OutABRefIdeal.nD Cert.OutABRefIdeal.τ).loc Cert.OutABRefIdeal.main_arg1)
      ∧ r.2.mem ((c.tc : Thread Cert.OutABRefIdeal.nD Cert.OutABRefIdeal.τ).loc Cert.OutABRefIdeal.main_arg2) = m ((c.tc : Thread Cert.OutABRefIdeal.nD Cert.OutABRefIdeal.τ).loc Cert.OutABRefIdeal.main_arg2)
      ∧ r.2.mem ((c.tc : Thread Cert.OutABRefIdeal.nD Cert.OutABRefIdeal.τ).loc Cert.OutABRefIdeal.main_arg3) = m ((c.tc : Thread Cert.OutABRefIdeal.nD Cert.OutABRefIdeal.τ).loc Cert.OutABRefIdeal.main_arg3)
      ∧ r.2.mem ((c.tc : Thread Cert.OutABRefIdeal.nD Cert.OutABRefIdeal.τ).loc Cert.OutABRefIdeal.main_arg4) = m ((c.tc : Thread Cert.OutABRefIdeal.nD Cert.OutABRefIdeal.τ).loc Cert.OutABRefIdeal.main_arg4)
      ∧ r.2.mem ((c.tc : Thread Cert.OutABRefIdeal.nD Cert.OutABRefIdeal.τ).loc Cert.OutABRefIdeal.main_arg5) = m ((c.tc : Thread Cert.OutABRefIdeal.nD Cert.OutABRefIdeal.τ).loc Cert.OutABRefIdeal.main_arg5)
      ∧ r.2.mem ((c.tc : Thread Cert.OutABRefIdeal.nD Cert.OutABRefIdeal.τ).loc Cert.OutABRefIdeal.main_arg6) = m ((c.tc : Thread Cert.OutABRefIdeal.nD Cert.OutABRefIdeal.τ).loc Cert.OutABRefIdeal.main_arg6)
      ∧ r.2.mem ((c.tc : Thread Cert.OutABRefIdeal.nD Cert.OutABRefIdeal.τ).loc Cert.OutABRefIdeal.main_arg7) = m ((c.tc : Thread Cert.OutABRefIdeal.nD Cert.OutABRefIdeal.τ).loc Cert.OutABRefIdeal.main_arg7)
      ∧ r.2.mem ((c.tc : Thread Cert.OutABRefIdeal.nD Cert.OutABRefIdeal.τ).loc Cert.OutABRefIdeal.main_arg8) = m ((c.tc : Thread Cert.OutABRefIdeal.nD Cert.OutABRefIdeal.τ).loc Cert.OutABRefIdeal.main_arg8))
      ∧ r.2.sem = fun _ => 0)

def quiescent_OutABRefIdeal_pre_finite_lse [hOutABRefIdeal : Cert.OutABRefIdeal.Facts] [hPre_finite_lse : Cert.Pre_finite_lse.Facts] : Prop :=
  ∀ (m : (ℓ : Loc Cert.OutABRefIdeal.nD Cert.OutABRefIdeal.τ Cert.OutABRefIdeal.sig) → Buf (Elt Ideal) ℓ) (g : Dev Cert.OutABRefIdeal.nD → PrngReg), Pre_OutABRefIdeal_finite_lse m →
    θ_run (Cert.OutABRefIdeal.defs (F := Ideal)) (onTc (τ := Cert.OutABRefIdeal.τ) (Cert.OutABRefIdeal.main (F := Ideal))) ⟨m, fun _ => 0, g⟩ (fun r => (∀ c : Dev Cert.OutABRefIdeal.nD,
      r.2.mem ((c.tc : Thread Cert.OutABRefIdeal.nD Cert.OutABRefIdeal.τ).loc Cert.OutABRefIdeal.main_arg0) = m ((c.tc : Thread Cert.OutABRefIdeal.nD Cert.OutABRefIdeal.τ).loc Cert.OutABRefIdeal.main_arg0)
      ∧ r.2.mem ((c.tc : Thread Cert.OutABRefIdeal.nD Cert.OutABRefIdeal.τ).loc Cert.OutABRefIdeal.main_arg1) = m ((c.tc : Thread Cert.OutABRefIdeal.nD Cert.OutABRefIdeal.τ).loc Cert.OutABRefIdeal.main_arg1)
      ∧ r.2.mem ((c.tc : Thread Cert.OutABRefIdeal.nD Cert.OutABRefIdeal.τ).loc Cert.OutABRefIdeal.main_arg2) = m ((c.tc : Thread Cert.OutABRefIdeal.nD Cert.OutABRefIdeal.τ).loc Cert.OutABRefIdeal.main_arg2)
      ∧ r.2.mem ((c.tc : Thread Cert.OutABRefIdeal.nD Cert.OutABRefIdeal.τ).loc Cert.OutABRefIdeal.main_arg3) = m ((c.tc : Thread Cert.OutABRefIdeal.nD Cert.OutABRefIdeal.τ).loc Cert.OutABRefIdeal.main_arg3)
      ∧ r.2.mem ((c.tc : Thread Cert.OutABRefIdeal.nD Cert.OutABRefIdeal.τ).loc Cert.OutABRefIdeal.main_arg4) = m ((c.tc : Thread Cert.OutABRefIdeal.nD Cert.OutABRefIdeal.τ).loc Cert.OutABRefIdeal.main_arg4)
      ∧ r.2.mem ((c.tc : Thread Cert.OutABRefIdeal.nD Cert.OutABRefIdeal.τ).loc Cert.OutABRefIdeal.main_arg5) = m ((c.tc : Thread Cert.OutABRefIdeal.nD Cert.OutABRefIdeal.τ).loc Cert.OutABRefIdeal.main_arg5)
      ∧ r.2.mem ((c.tc : Thread Cert.OutABRefIdeal.nD Cert.OutABRefIdeal.τ).loc Cert.OutABRefIdeal.main_arg6) = m ((c.tc : Thread Cert.OutABRefIdeal.nD Cert.OutABRefIdeal.τ).loc Cert.OutABRefIdeal.main_arg6)
      ∧ r.2.mem ((c.tc : Thread Cert.OutABRefIdeal.nD Cert.OutABRefIdeal.τ).loc Cert.OutABRefIdeal.main_arg7) = m ((c.tc : Thread Cert.OutABRefIdeal.nD Cert.OutABRefIdeal.τ).loc Cert.OutABRefIdeal.main_arg7)
      ∧ r.2.mem ((c.tc : Thread Cert.OutABRefIdeal.nD Cert.OutABRefIdeal.τ).loc Cert.OutABRefIdeal.main_arg8) = m ((c.tc : Thread Cert.OutABRefIdeal.nD Cert.OutABRefIdeal.τ).loc Cert.OutABRefIdeal.main_arg8))
      ∧ r.2.sem = fun _ => 0)

def quiescent_Dil1 [hDil1 : Cert.Dil1.Facts] : Prop :=
  ∀ (m : (ℓ : Loc Cert.Dil1.nD Cert.Dil1.τ Cert.Dil1.sig) → Buf (Elt Bits) ℓ) (g : Dev Cert.Dil1.nD → PrngReg), Pre_Dil1 m →
    θ_run (Cert.Dil1.defs (F := Bits)) (onTc (τ := Cert.Dil1.τ) (Cert.Dil1.main (F := Bits))) ⟨m, fun _ => 0, g⟩ (fun r => (∀ c : Dev Cert.Dil1.nD,
      r.2.mem ((c.tc : Thread Cert.Dil1.nD Cert.Dil1.τ).loc Cert.Dil1.main_arg0) = m ((c.tc : Thread Cert.Dil1.nD Cert.Dil1.τ).loc Cert.Dil1.main_arg0))
      ∧ r.2.sem = fun _ => 0)

def quiescent_Dil1Ideal [hDil1Ideal : Cert.Dil1Ideal.Facts] : Prop :=
  ∀ (m : (ℓ : Loc Cert.Dil1Ideal.nD Cert.Dil1Ideal.τ Cert.Dil1Ideal.sig) → Buf (Elt Ideal) ℓ) (g : Dev Cert.Dil1Ideal.nD → PrngReg), Pre_Dil1Ideal m →
    θ_run (Cert.Dil1Ideal.defs (F := Ideal)) (onTc (τ := Cert.Dil1Ideal.τ) (Cert.Dil1Ideal.main (F := Ideal))) ⟨m, fun _ => 0, g⟩ (fun r => (∀ c : Dev Cert.Dil1Ideal.nD,
      r.2.mem ((c.tc : Thread Cert.Dil1Ideal.nD Cert.Dil1Ideal.τ).loc Cert.Dil1Ideal.main_arg0) = m ((c.tc : Thread Cert.Dil1Ideal.nD Cert.Dil1Ideal.τ).loc Cert.Dil1Ideal.main_arg0))
      ∧ r.2.sem = fun _ => 0)

def quiescent_Dil1Ideal_pre_finite_dil1 [hDil1Ideal : Cert.Dil1Ideal.Facts] [hPre_finite_dil1 : Cert.Pre_finite_dil1.Facts] : Prop :=
  ∀ (m : (ℓ : Loc Cert.Dil1Ideal.nD Cert.Dil1Ideal.τ Cert.Dil1Ideal.sig) → Buf (Elt Ideal) ℓ) (g : Dev Cert.Dil1Ideal.nD → PrngReg), Pre_Dil1Ideal_finite_dil1 m →
    θ_run (Cert.Dil1Ideal.defs (F := Ideal)) (onTc (τ := Cert.Dil1Ideal.τ) (Cert.Dil1Ideal.main (F := Ideal))) ⟨m, fun _ => 0, g⟩ (fun r => (∀ c : Dev Cert.Dil1Ideal.nD,
      r.2.mem ((c.tc : Thread Cert.Dil1Ideal.nD Cert.Dil1Ideal.τ).loc Cert.Dil1Ideal.main_arg0) = m ((c.tc : Thread Cert.Dil1Ideal.nD Cert.Dil1Ideal.τ).loc Cert.Dil1Ideal.main_arg0))
      ∧ r.2.sem = fun _ => 0)

def quiescent_Dil1RefIdeal [hDil1RefIdeal : Cert.Dil1RefIdeal.Facts] : Prop :=
  ∀ (m : (ℓ : Loc Cert.Dil1RefIdeal.nD Cert.Dil1RefIdeal.τ Cert.Dil1RefIdeal.sig) → Buf (Elt Ideal) ℓ) (g : Dev Cert.Dil1RefIdeal.nD → PrngReg), Pre_Dil1RefIdeal m →
    θ_run (Cert.Dil1RefIdeal.defs (F := Ideal)) (onTc (τ := Cert.Dil1RefIdeal.τ) (Cert.Dil1RefIdeal.main (F := Ideal))) ⟨m, fun _ => 0, g⟩ (fun r => (∀ c : Dev Cert.Dil1RefIdeal.nD,
      r.2.mem ((c.tc : Thread Cert.Dil1RefIdeal.nD Cert.Dil1RefIdeal.τ).loc Cert.Dil1RefIdeal.main_arg0) = m ((c.tc : Thread Cert.Dil1RefIdeal.nD Cert.Dil1RefIdeal.τ).loc Cert.Dil1RefIdeal.main_arg0))
      ∧ r.2.sem = fun _ => 0)

def quiescent_Dil1RefIdeal_pre_finite_dil1 [hDil1RefIdeal : Cert.Dil1RefIdeal.Facts] [hPre_finite_dil1 : Cert.Pre_finite_dil1.Facts] : Prop :=
  ∀ (m : (ℓ : Loc Cert.Dil1RefIdeal.nD Cert.Dil1RefIdeal.τ Cert.Dil1RefIdeal.sig) → Buf (Elt Ideal) ℓ) (g : Dev Cert.Dil1RefIdeal.nD → PrngReg), Pre_Dil1RefIdeal_finite_dil1 m →
    θ_run (Cert.Dil1RefIdeal.defs (F := Ideal)) (onTc (τ := Cert.Dil1RefIdeal.τ) (Cert.Dil1RefIdeal.main (F := Ideal))) ⟨m, fun _ => 0, g⟩ (fun r => (∀ c : Dev Cert.Dil1RefIdeal.nD,
      r.2.mem ((c.tc : Thread Cert.Dil1RefIdeal.nD Cert.Dil1RefIdeal.τ).loc Cert.Dil1RefIdeal.main_arg0) = m ((c.tc : Thread Cert.Dil1RefIdeal.nD Cert.Dil1RefIdeal.τ).loc Cert.Dil1RefIdeal.main_arg0))
      ∧ r.2.sem = fun _ => 0)

def quiescent_Dil4 [hDil4 : Cert.Dil4.Facts] : Prop :=
  ∀ (m : (ℓ : Loc Cert.Dil4.nD Cert.Dil4.τ Cert.Dil4.sig) → Buf (Elt Bits) ℓ) (g : Dev Cert.Dil4.nD → PrngReg), Pre_Dil4 m →
    θ_run (Cert.Dil4.defs (F := Bits)) (onTc (τ := Cert.Dil4.τ) (Cert.Dil4.main (F := Bits))) ⟨m, fun _ => 0, g⟩ (fun r => (∀ c : Dev Cert.Dil4.nD,
      r.2.mem ((c.tc : Thread Cert.Dil4.nD Cert.Dil4.τ).loc Cert.Dil4.main_arg0) = m ((c.tc : Thread Cert.Dil4.nD Cert.Dil4.τ).loc Cert.Dil4.main_arg0))
      ∧ r.2.sem = fun _ => 0)

def quiescent_Dil4Ideal [hDil4Ideal : Cert.Dil4Ideal.Facts] : Prop :=
  ∀ (m : (ℓ : Loc Cert.Dil4Ideal.nD Cert.Dil4Ideal.τ Cert.Dil4Ideal.sig) → Buf (Elt Ideal) ℓ) (g : Dev Cert.Dil4Ideal.nD → PrngReg), Pre_Dil4Ideal m →
    θ_run (Cert.Dil4Ideal.defs (F := Ideal)) (onTc (τ := Cert.Dil4Ideal.τ) (Cert.Dil4Ideal.main (F := Ideal))) ⟨m, fun _ => 0, g⟩ (fun r => (∀ c : Dev Cert.Dil4Ideal.nD,
      r.2.mem ((c.tc : Thread Cert.Dil4Ideal.nD Cert.Dil4Ideal.τ).loc Cert.Dil4Ideal.main_arg0) = m ((c.tc : Thread Cert.Dil4Ideal.nD Cert.Dil4Ideal.τ).loc Cert.Dil4Ideal.main_arg0))
      ∧ r.2.sem = fun _ => 0)

def quiescent_Dil4Ideal_pre_finite_dil4 [hDil4Ideal : Cert.Dil4Ideal.Facts] [hPre_finite_dil4 : Cert.Pre_finite_dil4.Facts] : Prop :=
  ∀ (m : (ℓ : Loc Cert.Dil4Ideal.nD Cert.Dil4Ideal.τ Cert.Dil4Ideal.sig) → Buf (Elt Ideal) ℓ) (g : Dev Cert.Dil4Ideal.nD → PrngReg), Pre_Dil4Ideal_finite_dil4 m →
    θ_run (Cert.Dil4Ideal.defs (F := Ideal)) (onTc (τ := Cert.Dil4Ideal.τ) (Cert.Dil4Ideal.main (F := Ideal))) ⟨m, fun _ => 0, g⟩ (fun r => (∀ c : Dev Cert.Dil4Ideal.nD,
      r.2.mem ((c.tc : Thread Cert.Dil4Ideal.nD Cert.Dil4Ideal.τ).loc Cert.Dil4Ideal.main_arg0) = m ((c.tc : Thread Cert.Dil4Ideal.nD Cert.Dil4Ideal.τ).loc Cert.Dil4Ideal.main_arg0))
      ∧ r.2.sem = fun _ => 0)

def quiescent_Dil4RefIdeal [hDil4RefIdeal : Cert.Dil4RefIdeal.Facts] : Prop :=
  ∀ (m : (ℓ : Loc Cert.Dil4RefIdeal.nD Cert.Dil4RefIdeal.τ Cert.Dil4RefIdeal.sig) → Buf (Elt Ideal) ℓ) (g : Dev Cert.Dil4RefIdeal.nD → PrngReg), Pre_Dil4RefIdeal m →
    θ_run (Cert.Dil4RefIdeal.defs (F := Ideal)) (onTc (τ := Cert.Dil4RefIdeal.τ) (Cert.Dil4RefIdeal.main (F := Ideal))) ⟨m, fun _ => 0, g⟩ (fun r => (∀ c : Dev Cert.Dil4RefIdeal.nD,
      r.2.mem ((c.tc : Thread Cert.Dil4RefIdeal.nD Cert.Dil4RefIdeal.τ).loc Cert.Dil4RefIdeal.main_arg0) = m ((c.tc : Thread Cert.Dil4RefIdeal.nD Cert.Dil4RefIdeal.τ).loc Cert.Dil4RefIdeal.main_arg0))
      ∧ r.2.sem = fun _ => 0)

def quiescent_Dil4RefIdeal_pre_finite_dil4 [hDil4RefIdeal : Cert.Dil4RefIdeal.Facts] [hPre_finite_dil4 : Cert.Pre_finite_dil4.Facts] : Prop :=
  ∀ (m : (ℓ : Loc Cert.Dil4RefIdeal.nD Cert.Dil4RefIdeal.τ Cert.Dil4RefIdeal.sig) → Buf (Elt Ideal) ℓ) (g : Dev Cert.Dil4RefIdeal.nD → PrngReg), Pre_Dil4RefIdeal_finite_dil4 m →
    θ_run (Cert.Dil4RefIdeal.defs (F := Ideal)) (onTc (τ := Cert.Dil4RefIdeal.τ) (Cert.Dil4RefIdeal.main (F := Ideal))) ⟨m, fun _ => 0, g⟩ (fun r => (∀ c : Dev Cert.Dil4RefIdeal.nD,
      r.2.mem ((c.tc : Thread Cert.Dil4RefIdeal.nD Cert.Dil4RefIdeal.τ).loc Cert.Dil4RefIdeal.main_arg0) = m ((c.tc : Thread Cert.Dil4RefIdeal.nD Cert.Dil4RefIdeal.τ).loc Cert.Dil4RefIdeal.main_arg0))
      ∧ r.2.sem = fun _ => 0)

def quiescent_Dil16 [hDil16 : Cert.Dil16.Facts] : Prop :=
  ∀ (m : (ℓ : Loc Cert.Dil16.nD Cert.Dil16.τ Cert.Dil16.sig) → Buf (Elt Bits) ℓ) (g : Dev Cert.Dil16.nD → PrngReg), Pre_Dil16 m →
    θ_run (Cert.Dil16.defs (F := Bits)) (onTc (τ := Cert.Dil16.τ) (Cert.Dil16.main (F := Bits))) ⟨m, fun _ => 0, g⟩ (fun r => (∀ c : Dev Cert.Dil16.nD,
      r.2.mem ((c.tc : Thread Cert.Dil16.nD Cert.Dil16.τ).loc Cert.Dil16.main_arg0) = m ((c.tc : Thread Cert.Dil16.nD Cert.Dil16.τ).loc Cert.Dil16.main_arg0))
      ∧ r.2.sem = fun _ => 0)

def quiescent_Dil16Ideal [hDil16Ideal : Cert.Dil16Ideal.Facts] : Prop :=
  ∀ (m : (ℓ : Loc Cert.Dil16Ideal.nD Cert.Dil16Ideal.τ Cert.Dil16Ideal.sig) → Buf (Elt Ideal) ℓ) (g : Dev Cert.Dil16Ideal.nD → PrngReg), Pre_Dil16Ideal m →
    θ_run (Cert.Dil16Ideal.defs (F := Ideal)) (onTc (τ := Cert.Dil16Ideal.τ) (Cert.Dil16Ideal.main (F := Ideal))) ⟨m, fun _ => 0, g⟩ (fun r => (∀ c : Dev Cert.Dil16Ideal.nD,
      r.2.mem ((c.tc : Thread Cert.Dil16Ideal.nD Cert.Dil16Ideal.τ).loc Cert.Dil16Ideal.main_arg0) = m ((c.tc : Thread Cert.Dil16Ideal.nD Cert.Dil16Ideal.τ).loc Cert.Dil16Ideal.main_arg0))
      ∧ r.2.sem = fun _ => 0)

def quiescent_Dil16Ideal_pre_finite_dil16 [hDil16Ideal : Cert.Dil16Ideal.Facts] [hPre_finite_dil16 : Cert.Pre_finite_dil16.Facts] : Prop :=
  ∀ (m : (ℓ : Loc Cert.Dil16Ideal.nD Cert.Dil16Ideal.τ Cert.Dil16Ideal.sig) → Buf (Elt Ideal) ℓ) (g : Dev Cert.Dil16Ideal.nD → PrngReg), Pre_Dil16Ideal_finite_dil16 m →
    θ_run (Cert.Dil16Ideal.defs (F := Ideal)) (onTc (τ := Cert.Dil16Ideal.τ) (Cert.Dil16Ideal.main (F := Ideal))) ⟨m, fun _ => 0, g⟩ (fun r => (∀ c : Dev Cert.Dil16Ideal.nD,
      r.2.mem ((c.tc : Thread Cert.Dil16Ideal.nD Cert.Dil16Ideal.τ).loc Cert.Dil16Ideal.main_arg0) = m ((c.tc : Thread Cert.Dil16Ideal.nD Cert.Dil16Ideal.τ).loc Cert.Dil16Ideal.main_arg0))
      ∧ r.2.sem = fun _ => 0)

def quiescent_Dil16RefIdeal [hDil16RefIdeal : Cert.Dil16RefIdeal.Facts] : Prop :=
  ∀ (m : (ℓ : Loc Cert.Dil16RefIdeal.nD Cert.Dil16RefIdeal.τ Cert.Dil16RefIdeal.sig) → Buf (Elt Ideal) ℓ) (g : Dev Cert.Dil16RefIdeal.nD → PrngReg), Pre_Dil16RefIdeal m →
    θ_run (Cert.Dil16RefIdeal.defs (F := Ideal)) (onTc (τ := Cert.Dil16RefIdeal.τ) (Cert.Dil16RefIdeal.main (F := Ideal))) ⟨m, fun _ => 0, g⟩ (fun r => (∀ c : Dev Cert.Dil16RefIdeal.nD,
      r.2.mem ((c.tc : Thread Cert.Dil16RefIdeal.nD Cert.Dil16RefIdeal.τ).loc Cert.Dil16RefIdeal.main_arg0) = m ((c.tc : Thread Cert.Dil16RefIdeal.nD Cert.Dil16RefIdeal.τ).loc Cert.Dil16RefIdeal.main_arg0))
      ∧ r.2.sem = fun _ => 0)

def quiescent_Dil16RefIdeal_pre_finite_dil16 [hDil16RefIdeal : Cert.Dil16RefIdeal.Facts] [hPre_finite_dil16 : Cert.Pre_finite_dil16.Facts] : Prop :=
  ∀ (m : (ℓ : Loc Cert.Dil16RefIdeal.nD Cert.Dil16RefIdeal.τ Cert.Dil16RefIdeal.sig) → Buf (Elt Ideal) ℓ) (g : Dev Cert.Dil16RefIdeal.nD → PrngReg), Pre_Dil16RefIdeal_finite_dil16 m →
    θ_run (Cert.Dil16RefIdeal.defs (F := Ideal)) (onTc (τ := Cert.Dil16RefIdeal.τ) (Cert.Dil16RefIdeal.main (F := Ideal))) ⟨m, fun _ => 0, g⟩ (fun r => (∀ c : Dev Cert.Dil16RefIdeal.nD,
      r.2.mem ((c.tc : Thread Cert.Dil16RefIdeal.nD Cert.Dil16RefIdeal.τ).loc Cert.Dil16RefIdeal.main_arg0) = m ((c.tc : Thread Cert.Dil16RefIdeal.nD Cert.Dil16RefIdeal.τ).loc Cert.Dil16RefIdeal.main_arg0))
      ∧ r.2.sem = fun _ => 0)

def quiescent_PleFirst [hPleFirst : Cert.PleFirst.Facts] : Prop :=
  ∀ (m : (ℓ : Loc Cert.PleFirst.nD Cert.PleFirst.τ Cert.PleFirst.sig) → Buf (Elt Bits) ℓ) (g : Dev Cert.PleFirst.nD → PrngReg), Pre_PleFirst m →
    θ_run (Cert.PleFirst.defs (F := Bits)) (onTc (τ := Cert.PleFirst.τ) (Cert.PleFirst.main (F := Bits))) ⟨m, fun _ => 0, g⟩ (fun r => (∀ c : Dev Cert.PleFirst.nD,
      r.2.mem ((c.tc : Thread Cert.PleFirst.nD Cert.PleFirst.τ).loc Cert.PleFirst.main_arg0) = m ((c.tc : Thread Cert.PleFirst.nD Cert.PleFirst.τ).loc Cert.PleFirst.main_arg0)
      ∧ r.2.mem ((c.tc : Thread Cert.PleFirst.nD Cert.PleFirst.τ).loc Cert.PleFirst.main_arg1) = m ((c.tc : Thread Cert.PleFirst.nD Cert.PleFirst.τ).loc Cert.PleFirst.main_arg1)
      ∧ r.2.mem ((c.tc : Thread Cert.PleFirst.nD Cert.PleFirst.τ).loc Cert.PleFirst.main_arg2) = m ((c.tc : Thread Cert.PleFirst.nD Cert.PleFirst.τ).loc Cert.PleFirst.main_arg2)
      ∧ r.2.mem ((c.tc : Thread Cert.PleFirst.nD Cert.PleFirst.τ).loc Cert.PleFirst.main_arg3) = m ((c.tc : Thread Cert.PleFirst.nD Cert.PleFirst.τ).loc Cert.PleFirst.main_arg3)
      ∧ r.2.mem ((c.tc : Thread Cert.PleFirst.nD Cert.PleFirst.τ).loc Cert.PleFirst.main_arg4) = m ((c.tc : Thread Cert.PleFirst.nD Cert.PleFirst.τ).loc Cert.PleFirst.main_arg4)
      ∧ r.2.mem ((c.tc : Thread Cert.PleFirst.nD Cert.PleFirst.τ).loc Cert.PleFirst.main_arg5) = m ((c.tc : Thread Cert.PleFirst.nD Cert.PleFirst.τ).loc Cert.PleFirst.main_arg5))
      ∧ r.2.sem = fun _ => 0)

def quiescent_PleFirstIdeal [hPleFirstIdeal : Cert.PleFirstIdeal.Facts] : Prop :=
  ∀ (m : (ℓ : Loc Cert.PleFirstIdeal.nD Cert.PleFirstIdeal.τ Cert.PleFirstIdeal.sig) → Buf (Elt Ideal) ℓ) (g : Dev Cert.PleFirstIdeal.nD → PrngReg), Pre_PleFirstIdeal m →
    θ_run (Cert.PleFirstIdeal.defs (F := Ideal)) (onTc (τ := Cert.PleFirstIdeal.τ) (Cert.PleFirstIdeal.main (F := Ideal))) ⟨m, fun _ => 0, g⟩ (fun r => (∀ c : Dev Cert.PleFirstIdeal.nD,
      r.2.mem ((c.tc : Thread Cert.PleFirstIdeal.nD Cert.PleFirstIdeal.τ).loc Cert.PleFirstIdeal.main_arg0) = m ((c.tc : Thread Cert.PleFirstIdeal.nD Cert.PleFirstIdeal.τ).loc Cert.PleFirstIdeal.main_arg0)
      ∧ r.2.mem ((c.tc : Thread Cert.PleFirstIdeal.nD Cert.PleFirstIdeal.τ).loc Cert.PleFirstIdeal.main_arg1) = m ((c.tc : Thread Cert.PleFirstIdeal.nD Cert.PleFirstIdeal.τ).loc Cert.PleFirstIdeal.main_arg1)
      ∧ r.2.mem ((c.tc : Thread Cert.PleFirstIdeal.nD Cert.PleFirstIdeal.τ).loc Cert.PleFirstIdeal.main_arg2) = m ((c.tc : Thread Cert.PleFirstIdeal.nD Cert.PleFirstIdeal.τ).loc Cert.PleFirstIdeal.main_arg2)
      ∧ r.2.mem ((c.tc : Thread Cert.PleFirstIdeal.nD Cert.PleFirstIdeal.τ).loc Cert.PleFirstIdeal.main_arg3) = m ((c.tc : Thread Cert.PleFirstIdeal.nD Cert.PleFirstIdeal.τ).loc Cert.PleFirstIdeal.main_arg3)
      ∧ r.2.mem ((c.tc : Thread Cert.PleFirstIdeal.nD Cert.PleFirstIdeal.τ).loc Cert.PleFirstIdeal.main_arg4) = m ((c.tc : Thread Cert.PleFirstIdeal.nD Cert.PleFirstIdeal.τ).loc Cert.PleFirstIdeal.main_arg4)
      ∧ r.2.mem ((c.tc : Thread Cert.PleFirstIdeal.nD Cert.PleFirstIdeal.τ).loc Cert.PleFirstIdeal.main_arg5) = m ((c.tc : Thread Cert.PleFirstIdeal.nD Cert.PleFirstIdeal.τ).loc Cert.PleFirstIdeal.main_arg5))
      ∧ r.2.sem = fun _ => 0)

def quiescent_PleFirstRefIdeal [hPleFirstRefIdeal : Cert.PleFirstRefIdeal.Facts] : Prop :=
  ∀ (m : (ℓ : Loc Cert.PleFirstRefIdeal.nD Cert.PleFirstRefIdeal.τ Cert.PleFirstRefIdeal.sig) → Buf (Elt Ideal) ℓ) (g : Dev Cert.PleFirstRefIdeal.nD → PrngReg), Pre_PleFirstRefIdeal m →
    θ_run (Cert.PleFirstRefIdeal.defs (F := Ideal)) (onTc (τ := Cert.PleFirstRefIdeal.τ) (Cert.PleFirstRefIdeal.main (F := Ideal))) ⟨m, fun _ => 0, g⟩ (fun r => (∀ c : Dev Cert.PleFirstRefIdeal.nD,
      r.2.mem ((c.tc : Thread Cert.PleFirstRefIdeal.nD Cert.PleFirstRefIdeal.τ).loc Cert.PleFirstRefIdeal.main_arg0) = m ((c.tc : Thread Cert.PleFirstRefIdeal.nD Cert.PleFirstRefIdeal.τ).loc Cert.PleFirstRefIdeal.main_arg0)
      ∧ r.2.mem ((c.tc : Thread Cert.PleFirstRefIdeal.nD Cert.PleFirstRefIdeal.τ).loc Cert.PleFirstRefIdeal.main_arg1) = m ((c.tc : Thread Cert.PleFirstRefIdeal.nD Cert.PleFirstRefIdeal.τ).loc Cert.PleFirstRefIdeal.main_arg1)
      ∧ r.2.mem ((c.tc : Thread Cert.PleFirstRefIdeal.nD Cert.PleFirstRefIdeal.τ).loc Cert.PleFirstRefIdeal.main_arg2) = m ((c.tc : Thread Cert.PleFirstRefIdeal.nD Cert.PleFirstRefIdeal.τ).loc Cert.PleFirstRefIdeal.main_arg2)
      ∧ r.2.mem ((c.tc : Thread Cert.PleFirstRefIdeal.nD Cert.PleFirstRefIdeal.τ).loc Cert.PleFirstRefIdeal.main_arg3) = m ((c.tc : Thread Cert.PleFirstRefIdeal.nD Cert.PleFirstRefIdeal.τ).loc Cert.PleFirstRefIdeal.main_arg3)
      ∧ r.2.mem ((c.tc : Thread Cert.PleFirstRefIdeal.nD Cert.PleFirstRefIdeal.τ).loc Cert.PleFirstRefIdeal.main_arg4) = m ((c.tc : Thread Cert.PleFirstRefIdeal.nD Cert.PleFirstRefIdeal.τ).loc Cert.PleFirstRefIdeal.main_arg4)
      ∧ r.2.mem ((c.tc : Thread Cert.PleFirstRefIdeal.nD Cert.PleFirstRefIdeal.τ).loc Cert.PleFirstRefIdeal.main_arg5) = m ((c.tc : Thread Cert.PleFirstRefIdeal.nD Cert.PleFirstRefIdeal.τ).loc Cert.PleFirstRefIdeal.main_arg5))
      ∧ r.2.sem = fun _ => 0)

def quiescent_Na [hNa : Cert.Na.Facts] : Prop :=
  ∀ (m : (ℓ : Loc Cert.Na.nD Cert.Na.τ Cert.Na.sig) → Buf (Elt Bits) ℓ) (g : Dev Cert.Na.nD → PrngReg), Pre_Na m →
    θ_run (Cert.Na.defs (F := Bits)) (onTc (τ := Cert.Na.τ) (Cert.Na.main (F := Bits))) ⟨m, fun _ => 0, g⟩ (fun r => (∀ c : Dev Cert.Na.nD,
      r.2.mem ((c.tc : Thread Cert.Na.nD Cert.Na.τ).loc Cert.Na.main_arg0) = m ((c.tc : Thread Cert.Na.nD Cert.Na.τ).loc Cert.Na.main_arg0)
      ∧ r.2.mem ((c.tc : Thread Cert.Na.nD Cert.Na.τ).loc Cert.Na.main_arg1) = m ((c.tc : Thread Cert.Na.nD Cert.Na.τ).loc Cert.Na.main_arg1)
      ∧ r.2.mem ((c.tc : Thread Cert.Na.nD Cert.Na.τ).loc Cert.Na.main_arg2) = m ((c.tc : Thread Cert.Na.nD Cert.Na.τ).loc Cert.Na.main_arg2)
      ∧ r.2.mem ((c.tc : Thread Cert.Na.nD Cert.Na.τ).loc Cert.Na.main_arg3) = m ((c.tc : Thread Cert.Na.nD Cert.Na.τ).loc Cert.Na.main_arg3))
      ∧ r.2.sem = fun _ => 0)

def quiescent_NaIdeal [hNaIdeal : Cert.NaIdeal.Facts] : Prop :=
  ∀ (m : (ℓ : Loc Cert.NaIdeal.nD Cert.NaIdeal.τ Cert.NaIdeal.sig) → Buf (Elt Ideal) ℓ) (g : Dev Cert.NaIdeal.nD → PrngReg), Pre_NaIdeal m →
    θ_run (Cert.NaIdeal.defs (F := Ideal)) (onTc (τ := Cert.NaIdeal.τ) (Cert.NaIdeal.main (F := Ideal))) ⟨m, fun _ => 0, g⟩ (fun r => (∀ c : Dev Cert.NaIdeal.nD,
      r.2.mem ((c.tc : Thread Cert.NaIdeal.nD Cert.NaIdeal.τ).loc Cert.NaIdeal.main_arg0) = m ((c.tc : Thread Cert.NaIdeal.nD Cert.NaIdeal.τ).loc Cert.NaIdeal.main_arg0)
      ∧ r.2.mem ((c.tc : Thread Cert.NaIdeal.nD Cert.NaIdeal.τ).loc Cert.NaIdeal.main_arg1) = m ((c.tc : Thread Cert.NaIdeal.nD Cert.NaIdeal.τ).loc Cert.NaIdeal.main_arg1)
      ∧ r.2.mem ((c.tc : Thread Cert.NaIdeal.nD Cert.NaIdeal.τ).loc Cert.NaIdeal.main_arg2) = m ((c.tc : Thread Cert.NaIdeal.nD Cert.NaIdeal.τ).loc Cert.NaIdeal.main_arg2)
      ∧ r.2.mem ((c.tc : Thread Cert.NaIdeal.nD Cert.NaIdeal.τ).loc Cert.NaIdeal.main_arg3) = m ((c.tc : Thread Cert.NaIdeal.nD Cert.NaIdeal.τ).loc Cert.NaIdeal.main_arg3))
      ∧ r.2.sem = fun _ => 0)

def quiescent_NaIdeal_pre_finite_na [hNaIdeal : Cert.NaIdeal.Facts] [hPre_finite_na : Cert.Pre_finite_na.Facts] : Prop :=
  ∀ (m : (ℓ : Loc Cert.NaIdeal.nD Cert.NaIdeal.τ Cert.NaIdeal.sig) → Buf (Elt Ideal) ℓ) (g : Dev Cert.NaIdeal.nD → PrngReg), Pre_NaIdeal_finite_na m →
    θ_run (Cert.NaIdeal.defs (F := Ideal)) (onTc (τ := Cert.NaIdeal.τ) (Cert.NaIdeal.main (F := Ideal))) ⟨m, fun _ => 0, g⟩ (fun r => (∀ c : Dev Cert.NaIdeal.nD,
      r.2.mem ((c.tc : Thread Cert.NaIdeal.nD Cert.NaIdeal.τ).loc Cert.NaIdeal.main_arg0) = m ((c.tc : Thread Cert.NaIdeal.nD Cert.NaIdeal.τ).loc Cert.NaIdeal.main_arg0)
      ∧ r.2.mem ((c.tc : Thread Cert.NaIdeal.nD Cert.NaIdeal.τ).loc Cert.NaIdeal.main_arg1) = m ((c.tc : Thread Cert.NaIdeal.nD Cert.NaIdeal.τ).loc Cert.NaIdeal.main_arg1)
      ∧ r.2.mem ((c.tc : Thread Cert.NaIdeal.nD Cert.NaIdeal.τ).loc Cert.NaIdeal.main_arg2) = m ((c.tc : Thread Cert.NaIdeal.nD Cert.NaIdeal.τ).loc Cert.NaIdeal.main_arg2)
      ∧ r.2.mem ((c.tc : Thread Cert.NaIdeal.nD Cert.NaIdeal.τ).loc Cert.NaIdeal.main_arg3) = m ((c.tc : Thread Cert.NaIdeal.nD Cert.NaIdeal.τ).loc Cert.NaIdeal.main_arg3))
      ∧ r.2.sem = fun _ => 0)

def quiescent_NaRefIdeal [hNaRefIdeal : Cert.NaRefIdeal.Facts] : Prop :=
  ∀ (m : (ℓ : Loc Cert.NaRefIdeal.nD Cert.NaRefIdeal.τ Cert.NaRefIdeal.sig) → Buf (Elt Ideal) ℓ) (g : Dev Cert.NaRefIdeal.nD → PrngReg), Pre_NaRefIdeal m →
    θ_run (Cert.NaRefIdeal.defs (F := Ideal)) (onTc (τ := Cert.NaRefIdeal.τ) (Cert.NaRefIdeal.main (F := Ideal))) ⟨m, fun _ => 0, g⟩ (fun r => (∀ c : Dev Cert.NaRefIdeal.nD,
      r.2.mem ((c.tc : Thread Cert.NaRefIdeal.nD Cert.NaRefIdeal.τ).loc Cert.NaRefIdeal.main_arg0) = m ((c.tc : Thread Cert.NaRefIdeal.nD Cert.NaRefIdeal.τ).loc Cert.NaRefIdeal.main_arg0)
      ∧ r.2.mem ((c.tc : Thread Cert.NaRefIdeal.nD Cert.NaRefIdeal.τ).loc Cert.NaRefIdeal.main_arg1) = m ((c.tc : Thread Cert.NaRefIdeal.nD Cert.NaRefIdeal.τ).loc Cert.NaRefIdeal.main_arg1)
      ∧ r.2.mem ((c.tc : Thread Cert.NaRefIdeal.nD Cert.NaRefIdeal.τ).loc Cert.NaRefIdeal.main_arg2) = m ((c.tc : Thread Cert.NaRefIdeal.nD Cert.NaRefIdeal.τ).loc Cert.NaRefIdeal.main_arg2)
      ∧ r.2.mem ((c.tc : Thread Cert.NaRefIdeal.nD Cert.NaRefIdeal.τ).loc Cert.NaRefIdeal.main_arg3) = m ((c.tc : Thread Cert.NaRefIdeal.nD Cert.NaRefIdeal.τ).loc Cert.NaRefIdeal.main_arg3))
      ∧ r.2.sem = fun _ => 0)

def quiescent_NaRefIdeal_pre_finite_na [hNaRefIdeal : Cert.NaRefIdeal.Facts] [hPre_finite_na : Cert.Pre_finite_na.Facts] : Prop :=
  ∀ (m : (ℓ : Loc Cert.NaRefIdeal.nD Cert.NaRefIdeal.τ Cert.NaRefIdeal.sig) → Buf (Elt Ideal) ℓ) (g : Dev Cert.NaRefIdeal.nD → PrngReg), Pre_NaRefIdeal_finite_na m →
    θ_run (Cert.NaRefIdeal.defs (F := Ideal)) (onTc (τ := Cert.NaRefIdeal.τ) (Cert.NaRefIdeal.main (F := Ideal))) ⟨m, fun _ => 0, g⟩ (fun r => (∀ c : Dev Cert.NaRefIdeal.nD,
      r.2.mem ((c.tc : Thread Cert.NaRefIdeal.nD Cert.NaRefIdeal.τ).loc Cert.NaRefIdeal.main_arg0) = m ((c.tc : Thread Cert.NaRefIdeal.nD Cert.NaRefIdeal.τ).loc Cert.NaRefIdeal.main_arg0)
      ∧ r.2.mem ((c.tc : Thread Cert.NaRefIdeal.nD Cert.NaRefIdeal.τ).loc Cert.NaRefIdeal.main_arg1) = m ((c.tc : Thread Cert.NaRefIdeal.nD Cert.NaRefIdeal.τ).loc Cert.NaRefIdeal.main_arg1)
      ∧ r.2.mem ((c.tc : Thread Cert.NaRefIdeal.nD Cert.NaRefIdeal.τ).loc Cert.NaRefIdeal.main_arg2) = m ((c.tc : Thread Cert.NaRefIdeal.nD Cert.NaRefIdeal.τ).loc Cert.NaRefIdeal.main_arg2)
      ∧ r.2.mem ((c.tc : Thread Cert.NaRefIdeal.nD Cert.NaRefIdeal.τ).loc Cert.NaRefIdeal.main_arg3) = m ((c.tc : Thread Cert.NaRefIdeal.nD Cert.NaRefIdeal.τ).loc Cert.NaRefIdeal.main_arg3))
      ∧ r.2.sem = fun _ => 0)

def preserves_Band_BandIdeal : Prop :=
  IdealRules.named_const.Statement Cert.BandIdeal.κ "mask" .f32 0xF149F2CA#32 ⊥

def algebraic_BandIdeal_BandRefIdeal_pre_finite [hBandIdeal : Cert.BandIdeal.Facts] [hBandRefIdeal : Cert.BandRefIdeal.Facts] [hPre_finite : Cert.Pre_finite.Facts] : Prop :=
  ∀ (m : (ℓ : Loc Cert.BandIdeal.nD Cert.BandIdeal.τ Cert.BandIdeal.sig) → Buf (Elt Ideal) ℓ) (g : Dev Cert.BandIdeal.nD → PrngReg)
    (m' : (ℓ : Loc Cert.BandRefIdeal.nD Cert.BandRefIdeal.τ Cert.BandRefIdeal.sig) → Buf (Elt Ideal) ℓ) (g' : Dev Cert.BandRefIdeal.nD → PrngReg), Pre_BandIdeal_finite m →
    (∀ c : Dev Cert.BandIdeal.nD,
      m' ((c.tc : Thread Cert.BandRefIdeal.nD Cert.BandRefIdeal.τ).loc Cert.BandRefIdeal.main_arg0) = m ((c.tc : Thread Cert.BandIdeal.nD Cert.BandIdeal.τ).loc Cert.BandIdeal.main_arg0)
      ∧ m' ((c.tc : Thread Cert.BandRefIdeal.nD Cert.BandRefIdeal.τ).loc Cert.BandRefIdeal.main_arg1) = m ((c.tc : Thread Cert.BandIdeal.nD Cert.BandIdeal.τ).loc Cert.BandIdeal.main_arg1)
      ∧ m' ((c.tc : Thread Cert.BandRefIdeal.nD Cert.BandRefIdeal.τ).loc Cert.BandRefIdeal.main_arg2) = m ((c.tc : Thread Cert.BandIdeal.nD Cert.BandIdeal.τ).loc Cert.BandIdeal.main_arg2)
      ∧ m' ((c.tc : Thread Cert.BandRefIdeal.nD Cert.BandRefIdeal.τ).loc Cert.BandRefIdeal.main_arg3) = m ((c.tc : Thread Cert.BandIdeal.nD Cert.BandIdeal.τ).loc Cert.BandIdeal.main_arg3)) →
    ∃ (v0 : (c : Dev Cert.BandIdeal.nD) → Buf (Elt Ideal) ((c.tc : Thread Cert.BandIdeal.nD Cert.BandIdeal.τ).loc Cert.BandIdeal.main_v0)),
      θ_run (Cert.BandIdeal.defs (F := Ideal)) (onTc (τ := Cert.BandIdeal.τ) (Cert.BandIdeal.main (F := Ideal))) ⟨m, fun _ => 0, g⟩ (fun r => ∀ c : Dev Cert.BandIdeal.nD,
          r.2.mem ((c.tc : Thread Cert.BandIdeal.nD Cert.BandIdeal.τ).loc Cert.BandIdeal.main_v0) = v0 c
          ∧ r.2.mem ((c.tc : Thread Cert.BandIdeal.nD Cert.BandIdeal.τ).loc Cert.BandIdeal.main_arg0) = m ((c.tc : Thread Cert.BandIdeal.nD Cert.BandIdeal.τ).loc Cert.BandIdeal.main_arg0)
          ∧ r.2.mem ((c.tc : Thread Cert.BandIdeal.nD Cert.BandIdeal.τ).loc Cert.BandIdeal.main_arg1) = m ((c.tc : Thread Cert.BandIdeal.nD Cert.BandIdeal.τ).loc Cert.BandIdeal.main_arg1)
          ∧ r.2.mem ((c.tc : Thread Cert.BandIdeal.nD Cert.BandIdeal.τ).loc Cert.BandIdeal.main_arg2) = m ((c.tc : Thread Cert.BandIdeal.nD Cert.BandIdeal.τ).loc Cert.BandIdeal.main_arg2)
          ∧ r.2.mem ((c.tc : Thread Cert.BandIdeal.nD Cert.BandIdeal.τ).loc Cert.BandIdeal.main_arg3) = m ((c.tc : Thread Cert.BandIdeal.nD Cert.BandIdeal.τ).loc Cert.BandIdeal.main_arg3))
      ∧ θ_run (Cert.BandRefIdeal.defs (F := Ideal)) (onTc (τ := Cert.BandRefIdeal.τ) (Cert.BandRefIdeal.main (F := Ideal))) ⟨m', fun _ => 0, g'⟩ (fun r => ∀ c : Dev Cert.BandRefIdeal.nD,
          r.2.mem ((c.tc : Thread Cert.BandRefIdeal.nD Cert.BandRefIdeal.τ).loc Cert.BandRefIdeal.main_v75) = v0 c
          ∧ r.2.mem ((c.tc : Thread Cert.BandRefIdeal.nD Cert.BandRefIdeal.τ).loc Cert.BandRefIdeal.main_arg0) = m' ((c.tc : Thread Cert.BandRefIdeal.nD Cert.BandRefIdeal.τ).loc Cert.BandRefIdeal.main_arg0)
          ∧ r.2.mem ((c.tc : Thread Cert.BandRefIdeal.nD Cert.BandRefIdeal.τ).loc Cert.BandRefIdeal.main_arg1) = m' ((c.tc : Thread Cert.BandRefIdeal.nD Cert.BandRefIdeal.τ).loc Cert.BandRefIdeal.main_arg1)
          ∧ r.2.mem ((c.tc : Thread Cert.BandRefIdeal.nD Cert.BandRefIdeal.τ).loc Cert.BandRefIdeal.main_arg2) = m' ((c.tc : Thread Cert.BandRefIdeal.nD Cert.BandRefIdeal.τ).loc Cert.BandRefIdeal.main_arg2)
          ∧ r.2.mem ((c.tc : Thread Cert.BandRefIdeal.nD Cert.BandRefIdeal.τ).loc Cert.BandRefIdeal.main_arg3) = m' ((c.tc : Thread Cert.BandRefIdeal.nD Cert.BandRefIdeal.τ).loc Cert.BandRefIdeal.main_arg3))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v0)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v31) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_Ple_PleIdeal : Prop :=
  True

def algebraic_PleIdeal_PleRefIdeal [hPleIdeal : Cert.PleIdeal.Facts] [hPleRefIdeal : Cert.PleRefIdeal.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleRefIdeal.nD Cert.PleRefIdeal.τ Cert.PleRefIdeal.sig) → Buf (Elt Ideal) ℓ) (g' : Dev Cert.PleRefIdeal.nD → PrngReg), Pre_PleIdeal m →
    (∀ c : Dev Cert.PleIdeal.nD,
      m' ((c.tc : Thread Cert.PleRefIdeal.nD Cert.PleRefIdeal.τ).loc Cert.PleRefIdeal.main_arg0) = m ((c.tc : Thread Cert.PleIdeal.nD Cert.PleIdeal.τ).loc Cert.PleIdeal.main_arg0)
      ∧ m' ((c.tc : Thread Cert.PleRefIdeal.nD Cert.PleRefIdeal.τ).loc Cert.PleRefIdeal.main_arg1) = m ((c.tc : Thread Cert.PleIdeal.nD Cert.PleIdeal.τ).loc Cert.PleIdeal.main_arg1)
      ∧ m' ((c.tc : Thread Cert.PleRefIdeal.nD Cert.PleRefIdeal.τ).loc Cert.PleRefIdeal.main_arg2) = m ((c.tc : Thread Cert.PleIdeal.nD Cert.PleIdeal.τ).loc Cert.PleIdeal.main_arg2)
      ∧ m' ((c.tc : Thread Cert.PleRefIdeal.nD Cert.PleRefIdeal.τ).loc Cert.PleRefIdeal.main_arg3) = m ((c.tc : Thread Cert.PleIdeal.nD Cert.PleIdeal.τ).loc Cert.PleIdeal.main_arg3)
      ∧ m' ((c.tc : Thread Cert.PleRefIdeal.nD Cert.PleRefIdeal.τ).loc Cert.PleRefIdeal.main_arg4) = m ((c.tc : Thread Cert.PleIdeal.nD Cert.PleIdeal.τ).loc Cert.PleIdeal.main_arg4)
      ∧ m' ((c.tc : Thread Cert.PleRefIdeal.nD Cert.PleRefIdeal.τ).loc Cert.PleRefIdeal.main_arg5) = m ((c.tc : Thread Cert.PleIdeal.nD Cert.PleIdeal.τ).loc Cert.PleIdeal.main_arg5)) →
    ∃ (v0 : (c : Dev Cert.PleIdeal.nD) → Buf (Elt Ideal) ((c.tc : Thread Cert.PleIdeal.nD Cert.PleIdeal.τ).loc Cert.PleIdeal.main_v0)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v0) = v0 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
          ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
          ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
          ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
          ∧ r.2.mem ((c.tc : Thread Cert.PleIdeal.nD Cert.PleIdeal.τ).loc Cert.PleIdeal.main_arg5) = m ((c.tc : Thread Cert.PleIdeal.nD Cert.PleIdeal.τ).loc Cert.PleIdeal.main_arg5))
      ∧ θ_run (Cert.PleRefIdeal.defs (F := Ideal)) (onTc (τ := Cert.PleRefIdeal.τ) (Cert.PleRefIdeal.main (F := Ideal))) ⟨m', fun _ => 0, g'⟩ (fun r => ∀ c : Dev Cert.PleRefIdeal.nD,
          r.2.mem ((c.tc : Thread Cert.PleRefIdeal.nD Cert.PleRefIdeal.τ).loc Cert.PleRefIdeal.main_v46) = v0 c
          ∧ r.2.mem ((c.tc : Thread Cert.PleRefIdeal.nD Cert.PleRefIdeal.τ).loc Cert.PleRefIdeal.main_arg0) = m' ((c.tc : Thread Cert.PleRefIdeal.nD Cert.PleRefIdeal.τ).loc Cert.PleRefIdeal.main_arg0)
          ∧ r.2.mem ((c.tc : Thread Cert.PleRefIdeal.nD Cert.PleRefIdeal.τ).loc Cert.PleRefIdeal.main_arg1) = m' ((c.tc : Thread Cert.PleRefIdeal.nD Cert.PleRefIdeal.τ).loc Cert.PleRefIdeal.main_arg1)
          ∧ r.2.mem ((c.tc : Thread Cert.PleRefIdeal.nD Cert.PleRefIdeal.τ).loc Cert.PleRefIdeal.main_arg2) = m' ((c.tc : Thread Cert.PleRefIdeal.nD Cert.PleRefIdeal.τ).loc Cert.PleRefIdeal.main_arg2)
          ∧ r.2.mem ((c.tc : Thread Cert.PleRefIdeal.nD Cert.PleRefIdeal.τ).loc Cert.PleRefIdeal.main_arg3) = m' ((c.tc : Thread Cert.PleRefIdeal.nD Cert.PleRefIdeal.τ).loc Cert.PleRefIdeal.main_arg3)
          ∧ r.2.mem ((c.tc : Thread Cert.PleRefIdeal.nD Cert.PleRefIdeal.τ).loc Cert.PleRefIdeal.main_arg4) = m' ((c.tc : Thread Cert.PleRefIdeal.nD Cert.PleRefIdeal.τ).loc Cert.PleRefIdeal.main_arg4)
          ∧ r.2.mem ((c.tc : Thread Cert.PleRefIdeal.nD Cert.PleRefIdeal.τ).loc Cert.PleRefIdeal.main_arg5) = m' ((c.tc : Thread Cert.PleRefIdeal.nD Cert.PleRefIdeal.τ).loc Cert.PleRefIdeal.main_arg5))

def preserves_InC_InCIdeal : Prop :=
  True

def algebraic_InCIdeal_InCRefIdeal [hInCIdeal : Cert.InCIdeal.Facts] [hInCRefIdeal : Cert.InCRefIdeal.Facts] : Prop :=
  ∀ (m : (ℓ : Loc Cert.InCIdeal.nD Cert.InCIdeal.τ Cert.InCIdeal.sig) → Buf (Elt Ideal) ℓ) (g : Dev Cert.InCIdeal.nD → PrngReg)
    (m' : (ℓ : Loc Cert.InCRefIdeal.nD Cert.InCRefIdeal.τ Cert.InCRefIdeal.sig) → Buf (Elt Ideal) ℓ) (g' : Dev Cert.InCRefIdeal.nD → PrngReg), Pre_InCIdeal m →
    (∀ c : Dev Cert.InCIdeal.nD,
      m' ((c.tc : Thread Cert.InCRefIdeal.nD Cert.InCRefIdeal.τ).loc Cert.InCRefIdeal.main_arg0) = m ((c.tc : Thread Cert.InCIdeal.nD Cert.InCIdeal.τ).loc Cert.InCIdeal.main_arg0)
      ∧ m' ((c.tc : Thread Cert.InCRefIdeal.nD Cert.InCRefIdeal.τ).loc Cert.InCRefIdeal.main_arg1) = m ((c.tc : Thread Cert.InCIdeal.nD Cert.InCIdeal.τ).loc Cert.InCIdeal.main_arg1)
      ∧ m' ((c.tc : Thread Cert.InCRefIdeal.nD Cert.InCRefIdeal.τ).loc Cert.InCRefIdeal.main_arg2) = m ((c.tc : Thread Cert.InCIdeal.nD Cert.InCIdeal.τ).loc Cert.InCIdeal.main_arg2)) →
    ∃ (v0 : (c : Dev Cert.InCIdeal.nD) → Buf (Elt Ideal) ((c.tc : Thread Cert.InCIdeal.nD Cert.InCIdeal.τ).loc Cert.InCIdeal.main_v0_0)) (v1 : (c : Dev Cert.InCIdeal.nD) → Buf (Elt Ideal) ((c.tc : Thread Cert.InCIdeal.nD Cert.InCIdeal.τ).loc Cert.InCIdeal.main_v0_1)) (v2 : (c : Dev Cert.InCIdeal.nD) → Buf (Elt Ideal) ((c.tc : Thread Cert.InCIdeal.nD Cert.InCIdeal.τ).loc Cert.InCIdeal.main_v0_2)),
      θ_run (Cert.InCIdeal.defs (F := Ideal)) (onTc (τ := Cert.InCIdeal.τ) (Cert.InCIdeal.main (F := Ideal))) ⟨m, fun _ => 0, g⟩ (fun r => ∀ c : Dev Cert.InCIdeal.nD,
          r.2.mem ((c.tc : Thread Cert.InCIdeal.nD Cert.InCIdeal.τ).loc Cert.InCIdeal.main_v0_0) = v0 c
          ∧ r.2.mem ((c.tc : Thread Cert.InCIdeal.nD Cert.InCIdeal.τ).loc Cert.InCIdeal.main_v0_1) = v1 c
          ∧ r.2.mem ((c.tc : Thread Cert.InCIdeal.nD Cert.InCIdeal.τ).loc Cert.InCIdeal.main_v0_2) = v2 c
          ∧ r.2.mem ((c.tc : Thread Cert.InCIdeal.nD Cert.InCIdeal.τ).loc Cert.InCIdeal.main_arg0) = m ((c.tc : Thread Cert.InCIdeal.nD Cert.InCIdeal.τ).loc Cert.InCIdeal.main_arg0)
          ∧ r.2.mem ((c.tc : Thread Cert.InCIdeal.nD Cert.InCIdeal.τ).loc Cert.InCIdeal.main_arg1) = m ((c.tc : Thread Cert.InCIdeal.nD Cert.InCIdeal.τ).loc Cert.InCIdeal.main_arg1)
          ∧ r.2.mem ((c.tc : Thread Cert.InCIdeal.nD Cert.InCIdeal.τ).loc Cert.InCIdeal.main_arg2) = m ((c.tc : Thread Cert.InCIdeal.nD Cert.InCIdeal.τ).loc Cert.InCIdeal.main_arg2))
      ∧ θ_run (Cert.InCRefIdeal.defs (F := Ideal)) (onTc (τ := Cert.InCRefIdeal.τ) (Cert.InCRefIdeal.main (F := Ideal))) ⟨m', fun _ => 0, g'⟩ (fun r => ∀ c : Dev Cert.InCRefIdeal.nD,
          r.2.mem ((c.tc : Thread Cert.InCRefIdeal.nD Cert.InCRefIdeal.τ).loc Cert.InCRefIdeal.main_v24) = v0 c
          ∧ r.2.mem ((c.tc : Thread Cert.InCRefIdeal.nD Cert.InCRefIdeal.τ).loc Cert.InCRefIdeal.main_v25) = v1 c
          ∧ r.2.mem ((c.tc : Thread Cert.InCRefIdeal.nD Cert.InCRefIdeal.τ).loc Cert.InCRefIdeal.main_v26) = v2 c
          ∧ r.2.mem ((c.tc : Thread Cert.InCRefIdeal.nD Cert.InCRefIdeal.τ).loc Cert.InCRefIdeal.main_arg0) = m' ((c.tc : Thread Cert.InCRefIdeal.nD Cert.InCRefIdeal.τ).loc Cert.InCRefIdeal.main_arg0)
          ∧ r.2.mem ((c.tc : Thread Cert.InCRefIdeal.nD Cert.InCRefIdeal.τ).loc Cert.InCRefIdeal.main_arg1) = m' ((c.tc : Thread Cert.InCRefIdeal.nD Cert.InCRefIdeal.τ).loc Cert.InCRefIdeal.main_arg1)
          ∧ r.2.mem ((c.tc : Thread Cert.InCRefIdeal.nD Cert.InCRefIdeal.τ).loc Cert.InCRefIdeal.main_arg2) = m' ((c.tc : Thread Cert.InCRefIdeal.nD Cert.InCRefIdeal.τ).loc Cert.InCRefIdeal.main_arg2))

def preserves_OutC_OutCIdeal : Prop :=
  True

def algebraic_OutCIdeal_OutCRefIdeal [hOutCIdeal : Cert.OutCIdeal.Facts] [hOutCRefIdeal : Cert.OutCRefIdeal.Facts] : Prop :=
  ∀ (m : (ℓ : Loc Cert.OutCIdeal.nD Cert.OutCIdeal.τ Cert.OutCIdeal.sig) → Buf (Elt Ideal) ℓ) (g : Dev Cert.OutCIdeal.nD → PrngReg)
    (m' : (ℓ : Loc Cert.OutCRefIdeal.nD Cert.OutCRefIdeal.τ Cert.OutCRefIdeal.sig) → Buf (Elt Ideal) ℓ) (g' : Dev Cert.OutCRefIdeal.nD → PrngReg), Pre_OutCIdeal m →
    (∀ c : Dev Cert.OutCIdeal.nD,
      m' ((c.tc : Thread Cert.OutCRefIdeal.nD Cert.OutCRefIdeal.τ).loc Cert.OutCRefIdeal.main_arg0) = m ((c.tc : Thread Cert.OutCIdeal.nD Cert.OutCIdeal.τ).loc Cert.OutCIdeal.main_arg0)
      ∧ m' ((c.tc : Thread Cert.OutCRefIdeal.nD Cert.OutCRefIdeal.τ).loc Cert.OutCRefIdeal.main_arg1) = m ((c.tc : Thread Cert.OutCIdeal.nD Cert.OutCIdeal.τ).loc Cert.OutCIdeal.main_arg1)
      ∧ m' ((c.tc : Thread Cert.OutCRefIdeal.nD Cert.OutCRefIdeal.τ).loc Cert.OutCRefIdeal.main_arg2) = m ((c.tc : Thread Cert.OutCIdeal.nD Cert.OutCIdeal.τ).loc Cert.OutCIdeal.main_arg2)) →
    ∃ (v0 : (c : Dev Cert.OutCIdeal.nD) → Buf (Elt Ideal) ((c.tc : Thread Cert.OutCIdeal.nD Cert.OutCIdeal.τ).loc Cert.OutCIdeal.main_v0)),
      θ_run (Cert.OutCIdeal.defs (F := Ideal)) (onTc (τ := Cert.OutCIdeal.τ) (Cert.OutCIdeal.main (F := Ideal))) ⟨m, fun _ => 0, g⟩ (fun r => ∀ c : Dev Cert.OutCIdeal.nD,
          r.2.mem ((c.tc : Thread Cert.OutCIdeal.nD Cert.OutCIdeal.τ).loc Cert.OutCIdeal.main_v0) = v0 c
          ∧ r.2.mem ((c.tc : Thread Cert.OutCIdeal.nD Cert.OutCIdeal.τ).loc Cert.OutCIdeal.main_arg0) = m ((c.tc : Thread Cert.OutCIdeal.nD Cert.OutCIdeal.τ).loc Cert.OutCIdeal.main_arg0)
          ∧ r.2.mem ((c.tc : Thread Cert.OutCIdeal.nD Cert.OutCIdeal.τ).loc Cert.OutCIdeal.main_arg1) = m ((c.tc : Thread Cert.OutCIdeal.nD Cert.OutCIdeal.τ).loc Cert.OutCIdeal.main_arg1)
          ∧ r.2.mem ((c.tc : Thread Cert.OutCIdeal.nD Cert.OutCIdeal.τ).loc Cert.OutCIdeal.main_arg2) = m ((c.tc : Thread Cert.OutCIdeal.nD Cert.OutCIdeal.τ).loc Cert.OutCIdeal.main_arg2))
      ∧ θ_run (Cert.OutCRefIdeal.defs (F := Ideal)) (onTc (τ := Cert.OutCRefIdeal.τ) (Cert.OutCRefIdeal.main (F := Ideal))) ⟨m', fun _ => 0, g'⟩ (fun r => ∀ c : Dev Cert.OutCRefIdeal.nD,
          r.2.mem ((c.tc : Thread Cert.OutCRefIdeal.nD Cert.OutCRefIdeal.τ).loc Cert.OutCRefIdeal.main_v5) = v0 c
          ∧ r.2.mem ((c.tc : Thread Cert.OutCRefIdeal.nD Cert.OutCRefIdeal.τ).loc Cert.OutCRefIdeal.main_arg0) = m' ((c.tc : Thread Cert.OutCRefIdeal.nD Cert.OutCRefIdeal.τ).loc Cert.OutCRefIdeal.main_arg0)
          ∧ r.2.mem ((c.tc : Thread Cert.OutCRefIdeal.nD Cert.OutCRefIdeal.τ).loc Cert.OutCRefIdeal.main_arg1) = m' ((c.tc : Thread Cert.OutCRefIdeal.nD Cert.OutCRefIdeal.τ).loc Cert.OutCRefIdeal.main_arg1)
          ∧ r.2.mem ((c.tc : Thread Cert.OutCRefIdeal.nD Cert.OutCRefIdeal.τ).loc Cert.OutCRefIdeal.main_arg2) = m' ((c.tc : Thread Cert.OutCRefIdeal.nD Cert.OutCRefIdeal.τ).loc Cert.OutCRefIdeal.main_arg2))

def preserves_InAB_InABIdeal : Prop :=
  True

def algebraic_InABIdeal_InABRefIdeal [hInABIdeal : Cert.InABIdeal.Facts] [hInABRefIdeal : Cert.InABRefIdeal.Facts] : Prop :=
  ∀ (m : (ℓ : Loc Cert.InABIdeal.nD Cert.InABIdeal.τ Cert.InABIdeal.sig) → Buf (Elt Ideal) ℓ) (g : Dev Cert.InABIdeal.nD → PrngReg)
    (m' : (ℓ : Loc Cert.InABRefIdeal.nD Cert.InABRefIdeal.τ Cert.InABRefIdeal.sig) → Buf (Elt Ideal) ℓ) (g' : Dev Cert.InABRefIdeal.nD → PrngReg), Pre_InABIdeal m →
    (∀ c : Dev Cert.InABIdeal.nD,
      m' ((c.tc : Thread Cert.InABRefIdeal.nD Cert.InABRefIdeal.τ).loc Cert.InABRefIdeal.main_arg0) = m ((c.tc : Thread Cert.InABIdeal.nD Cert.InABIdeal.τ).loc Cert.InABIdeal.main_arg0)
      ∧ m' ((c.tc : Thread Cert.InABRefIdeal.nD Cert.InABRefIdeal.τ).loc Cert.InABRefIdeal.main_arg1) = m ((c.tc : Thread Cert.InABIdeal.nD Cert.InABIdeal.τ).loc Cert.InABIdeal.main_arg1)
      ∧ m' ((c.tc : Thread Cert.InABRefIdeal.nD Cert.InABRefIdeal.τ).loc Cert.InABRefIdeal.main_arg2) = m ((c.tc : Thread Cert.InABIdeal.nD Cert.InABIdeal.τ).loc Cert.InABIdeal.main_arg2)) →
    ∃ (v0 : (c : Dev Cert.InABIdeal.nD) → Buf (Elt Ideal) ((c.tc : Thread Cert.InABIdeal.nD Cert.InABIdeal.τ).loc Cert.InABIdeal.main_v24_0)) (v1 : (c : Dev Cert.InABIdeal.nD) → Buf (Elt Ideal) ((c.tc : Thread Cert.InABIdeal.nD Cert.InABIdeal.τ).loc Cert.InABIdeal.main_v24_1)) (v2 : (c : Dev Cert.InABIdeal.nD) → Buf (Elt Ideal) ((c.tc : Thread Cert.InABIdeal.nD Cert.InABIdeal.τ).loc Cert.InABIdeal.main_v24_2)) (v3 : (c : Dev Cert.InABIdeal.nD) → Buf (Elt Ideal) ((c.tc : Thread Cert.InABIdeal.nD Cert.InABIdeal.τ).loc Cert.InABIdeal.main_v24_3)),
      θ_run (Cert.InABIdeal.defs (F := Ideal)) (onTc (τ := Cert.InABIdeal.τ) (Cert.InABIdeal.main (F := Ideal))) ⟨m, fun _ => 0, g⟩ (fun r => ∀ c : Dev Cert.InABIdeal.nD,
          r.2.mem ((c.tc : Thread Cert.InABIdeal.nD Cert.InABIdeal.τ).loc Cert.InABIdeal.main_v24_0) = v0 c
          ∧ r.2.mem ((c.tc : Thread Cert.InABIdeal.nD Cert.InABIdeal.τ).loc Cert.InABIdeal.main_v24_1) = v1 c
          ∧ r.2.mem ((c.tc : Thread Cert.InABIdeal.nD Cert.InABIdeal.τ).loc Cert.InABIdeal.main_v24_2) = v2 c
          ∧ r.2.mem ((c.tc : Thread Cert.InABIdeal.nD Cert.InABIdeal.τ).loc Cert.InABIdeal.main_v24_3) = v3 c
          ∧ r.2.mem ((c.tc : Thread Cert.InABIdeal.nD Cert.InABIdeal.τ).loc Cert.InABIdeal.main_arg0) = m ((c.tc : Thread Cert.InABIdeal.nD Cert.InABIdeal.τ).loc Cert.InABIdeal.main_arg0)
          ∧ r.2.mem ((c.tc : Thread Cert.InABIdeal.nD Cert.InABIdeal.τ).loc Cert.InABIdeal.main_arg1) = m ((c.tc : Thread Cert.InABIdeal.nD Cert.InABIdeal.τ).loc Cert.InABIdeal.main_arg1)
          ∧ r.2.mem ((c.tc : Thread Cert.InABIdeal.nD Cert.InABIdeal.τ).loc Cert.InABIdeal.main_arg2) = m ((c.tc : Thread Cert.InABIdeal.nD Cert.InABIdeal.τ).loc Cert.InABIdeal.main_arg2))
      ∧ θ_run (Cert.InABRefIdeal.defs (F := Ideal)) (onTc (τ := Cert.InABRefIdeal.τ) (Cert.InABRefIdeal.main (F := Ideal))) ⟨m', fun _ => 0, g'⟩ (fun r => ∀ c : Dev Cert.InABRefIdeal.nD,
          r.2.mem ((c.tc : Thread Cert.InABRefIdeal.nD Cert.InABRefIdeal.τ).loc Cert.InABRefIdeal.main_v60) = v0 c
          ∧ r.2.mem ((c.tc : Thread Cert.InABRefIdeal.nD Cert.InABRefIdeal.τ).loc Cert.InABRefIdeal.main_v92) = v1 c
          ∧ r.2.mem ((c.tc : Thread Cert.InABRefIdeal.nD Cert.InABRefIdeal.τ).loc Cert.InABRefIdeal.main_v160) = v2 c
          ∧ r.2.mem ((c.tc : Thread Cert.InABRefIdeal.nD Cert.InABRefIdeal.τ).loc Cert.InABRefIdeal.main_v163) = v3 c
          ∧ r.2.mem ((c.tc : Thread Cert.InABRefIdeal.nD Cert.InABRefIdeal.τ).loc Cert.InABRefIdeal.main_arg0) = m' ((c.tc : Thread Cert.InABRefIdeal.nD Cert.InABRefIdeal.τ).loc Cert.InABRefIdeal.main_arg0)
          ∧ r.2.mem ((c.tc : Thread Cert.InABRefIdeal.nD Cert.InABRefIdeal.τ).loc Cert.InABRefIdeal.main_arg1) = m' ((c.tc : Thread Cert.InABRefIdeal.nD Cert.InABRefIdeal.τ).loc Cert.InABRefIdeal.main_arg1)
          ∧ r.2.mem ((c.tc : Thread Cert.InABRefIdeal.nD Cert.InABRefIdeal.τ).loc Cert.InABRefIdeal.main_arg2) = m' ((c.tc : Thread Cert.InABRefIdeal.nD Cert.InABRefIdeal.τ).loc Cert.InABRefIdeal.main_arg2))

def preserves_OutAB_OutABIdeal : Prop :=
  True

def algebraic_OutABIdeal_OutABRefIdeal_pre_finite_lse [hOutABIdeal : Cert.OutABIdeal.Facts] [hOutABRefIdeal : Cert.OutABRefIdeal.Facts] [hPre_finite_lse : Cert.Pre_finite_lse.Facts] : Prop :=
  ∀ (m : (ℓ : Loc Cert.OutABIdeal.nD Cert.OutABIdeal.τ Cert.OutABIdeal.sig) → Buf (Elt Ideal) ℓ) (g : Dev Cert.OutABIdeal.nD → PrngReg)
    (m' : (ℓ : Loc Cert.OutABRefIdeal.nD Cert.OutABRefIdeal.τ Cert.OutABRefIdeal.sig) → Buf (Elt Ideal) ℓ) (g' : Dev Cert.OutABRefIdeal.nD → PrngReg), Pre_OutABIdeal_finite_lse m →
    (∀ c : Dev Cert.OutABIdeal.nD,
      m' ((c.tc : Thread Cert.OutABRefIdeal.nD Cert.OutABRefIdeal.τ).loc Cert.OutABRefIdeal.main_arg0) = m ((c.tc : Thread Cert.OutABIdeal.nD Cert.OutABIdeal.τ).loc Cert.OutABIdeal.main_arg0)
      ∧ m' ((c.tc : Thread Cert.OutABRefIdeal.nD Cert.OutABRefIdeal.τ).loc Cert.OutABRefIdeal.main_arg1) = m ((c.tc : Thread Cert.OutABIdeal.nD Cert.OutABIdeal.τ).loc Cert.OutABIdeal.main_arg1)
      ∧ m' ((c.tc : Thread Cert.OutABRefIdeal.nD Cert.OutABRefIdeal.τ).loc Cert.OutABRefIdeal.main_arg2) = m ((c.tc : Thread Cert.OutABIdeal.nD Cert.OutABIdeal.τ).loc Cert.OutABIdeal.main_arg2)
      ∧ m' ((c.tc : Thread Cert.OutABRefIdeal.nD Cert.OutABRefIdeal.τ).loc Cert.OutABRefIdeal.main_arg3) = m ((c.tc : Thread Cert.OutABIdeal.nD Cert.OutABIdeal.τ).loc Cert.OutABIdeal.main_arg3)
      ∧ m' ((c.tc : Thread Cert.OutABRefIdeal.nD Cert.OutABRefIdeal.τ).loc Cert.OutABRefIdeal.main_arg4) = m ((c.tc : Thread Cert.OutABIdeal.nD Cert.OutABIdeal.τ).loc Cert.OutABIdeal.main_arg4)
      ∧ m' ((c.tc : Thread Cert.OutABRefIdeal.nD Cert.OutABRefIdeal.τ).loc Cert.OutABRefIdeal.main_arg5) = m ((c.tc : Thread Cert.OutABIdeal.nD Cert.OutABIdeal.τ).loc Cert.OutABIdeal.main_arg5)
      ∧ m' ((c.tc : Thread Cert.OutABRefIdeal.nD Cert.OutABRefIdeal.τ).loc Cert.OutABRefIdeal.main_arg6) = m ((c.tc : Thread Cert.OutABIdeal.nD Cert.OutABIdeal.τ).loc Cert.OutABIdeal.main_arg6)
      ∧ m' ((c.tc : Thread Cert.OutABRefIdeal.nD Cert.OutABRefIdeal.τ).loc Cert.OutABRefIdeal.main_arg7) = m ((c.tc : Thread Cert.OutABIdeal.nD Cert.OutABIdeal.τ).loc Cert.OutABIdeal.main_arg7)
      ∧ m' ((c.tc : Thread Cert.OutABRefIdeal.nD Cert.OutABRefIdeal.τ).loc Cert.OutABRefIdeal.main_arg8) = m ((c.tc : Thread Cert.OutABIdeal.nD Cert.OutABIdeal.τ).loc Cert.OutABIdeal.main_arg8)) →
    ∃ (v0 : (c : Dev Cert.OutABIdeal.nD) → Buf (Elt Ideal) ((c.tc : Thread Cert.OutABIdeal.nD Cert.OutABIdeal.τ).loc Cert.OutABIdeal.main_v0)),
      θ_run (Cert.OutABIdeal.defs (F := Ideal)) (onTc (τ := Cert.OutABIdeal.τ) (Cert.OutABIdeal.main (F := Ideal))) ⟨m, fun _ => 0, g⟩ (fun r => ∀ c : Dev Cert.OutABIdeal.nD,
          r.2.mem ((c.tc : Thread Cert.OutABIdeal.nD Cert.OutABIdeal.τ).loc Cert.OutABIdeal.main_v0) = v0 c
          ∧ r.2.mem ((c.tc : Thread Cert.OutABIdeal.nD Cert.OutABIdeal.τ).loc Cert.OutABIdeal.main_arg0) = m ((c.tc : Thread Cert.OutABIdeal.nD Cert.OutABIdeal.τ).loc Cert.OutABIdeal.main_arg0)
          ∧ r.2.mem ((c.tc : Thread Cert.OutABIdeal.nD Cert.OutABIdeal.τ).loc Cert.OutABIdeal.main_arg1) = m ((c.tc : Thread Cert.OutABIdeal.nD Cert.OutABIdeal.τ).loc Cert.OutABIdeal.main_arg1)
          ∧ r.2.mem ((c.tc : Thread Cert.OutABIdeal.nD Cert.OutABIdeal.τ).loc Cert.OutABIdeal.main_arg2) = m ((c.tc : Thread Cert.OutABIdeal.nD Cert.OutABIdeal.τ).loc Cert.OutABIdeal.main_arg2)
          ∧ r.2.mem ((c.tc : Thread Cert.OutABIdeal.nD Cert.OutABIdeal.τ).loc Cert.OutABIdeal.main_arg3) = m ((c.tc : Thread Cert.OutABIdeal.nD Cert.OutABIdeal.τ).loc Cert.OutABIdeal.main_arg3)
          ∧ r.2.mem ((c.tc : Thread Cert.OutABIdeal.nD Cert.OutABIdeal.τ).loc Cert.OutABIdeal.main_arg4) = m ((c.tc : Thread Cert.OutABIdeal.nD Cert.OutABIdeal.τ).loc Cert.OutABIdeal.main_arg4)
          ∧ r.2.mem ((c.tc : Thread Cert.OutABIdeal.nD Cert.OutABIdeal.τ).loc Cert.OutABIdeal.main_arg5) = m ((c.tc : Thread Cert.OutABIdeal.nD Cert.OutABIdeal.τ).loc Cert.OutABIdeal.main_arg5)
          ∧ r.2.mem ((c.tc : Thread Cert.OutABIdeal.nD Cert.OutABIdeal.τ).loc Cert.OutABIdeal.main_arg6) = m ((c.tc : Thread Cert.OutABIdeal.nD Cert.OutABIdeal.τ).loc Cert.OutABIdeal.main_arg6)
          ∧ r.2.mem ((c.tc : Thread Cert.OutABIdeal.nD Cert.OutABIdeal.τ).loc Cert.OutABIdeal.main_arg7) = m ((c.tc : Thread Cert.OutABIdeal.nD Cert.OutABIdeal.τ).loc Cert.OutABIdeal.main_arg7)
          ∧ r.2.mem ((c.tc : Thread Cert.OutABIdeal.nD Cert.OutABIdeal.τ).loc Cert.OutABIdeal.main_arg8) = m ((c.tc : Thread Cert.OutABIdeal.nD Cert.OutABIdeal.τ).loc Cert.OutABIdeal.main_arg8))
      ∧ θ_run (Cert.OutABRefIdeal.defs (F := Ideal)) (onTc (τ := Cert.OutABRefIdeal.τ) (Cert.OutABRefIdeal.main (F := Ideal))) ⟨m', fun _ => 0, g'⟩ (fun r => ∀ c : Dev Cert.OutABRefIdeal.nD,
          r.2.mem ((c.tc : Thread Cert.OutABRefIdeal.nD Cert.OutABRefIdeal.τ).loc Cert.OutABRefIdeal.main_v28) = v0 c
          ∧ r.2.mem ((c.tc : Thread Cert.OutABRefIdeal.nD Cert.OutABRefIdeal.τ).loc Cert.OutABRefIdeal.main_arg0) = m' ((c.tc : Thread Cert.OutABRefIdeal.nD Cert.OutABRefIdeal.τ).loc Cert.OutABRefIdeal.main_arg0)
          ∧ r.2.mem ((c.tc : Thread Cert.OutABRefIdeal.nD Cert.OutABRefIdeal.τ).loc Cert.OutABRefIdeal.main_arg1) = m' ((c.tc : Thread Cert.OutABRefIdeal.nD Cert.OutABRefIdeal.τ).loc Cert.OutABRefIdeal.main_arg1)
          ∧ r.2.mem ((c.tc : Thread Cert.OutABRefIdeal.nD Cert.OutABRefIdeal.τ).loc Cert.OutABRefIdeal.main_arg2) = m' ((c.tc : Thread Cert.OutABRefIdeal.nD Cert.OutABRefIdeal.τ).loc Cert.OutABRefIdeal.main_arg2)
          ∧ r.2.mem ((c.tc : Thread Cert.OutABRefIdeal.nD Cert.OutABRefIdeal.τ).loc Cert.OutABRefIdeal.main_arg3) = m' ((c.tc : Thread Cert.OutABRefIdeal.nD Cert.OutABRefIdeal.τ).loc Cert.OutABRefIdeal.main_arg3)
          ∧ r.2.mem ((c.tc : Thread Cert.OutABRefIdeal.nD Cert.OutABRefIdeal.τ).loc Cert.OutABRefIdeal.main_arg4) = m' ((c.tc : Thread Cert.OutABRefIdeal.nD Cert.OutABRefIdeal.τ).loc Cert.OutABRefIdeal.main_arg4)
          ∧ r.2.mem ((c.tc : Thread Cert.OutABRefIdeal.nD Cert.OutABRefIdeal.τ).loc Cert.OutABRefIdeal.main_arg5) = m' ((c.tc : Thread Cert.OutABRefIdeal.nD Cert.OutABRefIdeal.τ).loc Cert.OutABRefIdeal.main_arg5)
          ∧ r.2.mem ((c.tc : Thread Cert.OutABRefIdeal.nD Cert.OutABRefIdeal.τ).loc Cert.OutABRefIdeal.main_arg6) = m' ((c.tc : Thread Cert.OutABRefIdeal.nD Cert.OutABRefIdeal.τ).loc Cert.OutABRefIdeal.main_arg6)
          ∧ r.2.mem ((c.tc : Thread Cert.OutABRefIdeal.nD Cert.OutABRefIdeal.τ).loc Cert.OutABRefIdeal.main_arg7) = m' ((c.tc : Thread Cert.OutABRefIdeal.nD Cert.OutABRefIdeal.τ).loc Cert.OutABRefIdeal.main_arg7)
          ∧ r.2.mem ((c.tc : Thread Cert.OutABRefIdeal.nD Cert.OutABRefIdeal.τ).loc Cert.OutABRefIdeal.main_arg8) = m' ((c.tc : Thread Cert.OutABRefIdeal.nD Cert.OutABRefIdeal.τ).loc Cert.OutABRefIdeal.main_arg8))

def preserves_Dil1_Dil1Ideal : Prop :=
  IdealRules.named_const.Statement Cert.Dil1Ideal.κ "mask" .f32 0xF149F2CA#32 ⊥

def algebraic_Dil1Ideal_Dil1RefIdeal_pre_finite_dil1 [hDil1Ideal : Cert.Dil1Ideal.Facts] [hDil1RefIdeal : Cert.Dil1RefIdeal.Facts] [hPre_finite_dil1 : Cert.Pre_finite_dil1.Facts] : Prop :=
  ∀ (m : (ℓ : Loc Cert.Dil1Ideal.nD Cert.Dil1Ideal.τ Cert.Dil1Ideal.sig) → Buf (Elt Ideal) ℓ) (g : Dev Cert.Dil1Ideal.nD → PrngReg)
    (m' : (ℓ : Loc Cert.Dil1RefIdeal.nD Cert.Dil1RefIdeal.τ Cert.Dil1RefIdeal.sig) → Buf (Elt Ideal) ℓ) (g' : Dev Cert.Dil1RefIdeal.nD → PrngReg), Pre_Dil1Ideal_finite_dil1 m →
    (∀ c : Dev Cert.Dil1Ideal.nD,
      m' ((c.tc : Thread Cert.Dil1RefIdeal.nD Cert.Dil1RefIdeal.τ).loc Cert.Dil1RefIdeal.main_arg0) = m ((c.tc : Thread Cert.Dil1Ideal.nD Cert.Dil1Ideal.τ).loc Cert.Dil1Ideal.main_arg0)) →
    ∃ (v0 : (c : Dev Cert.Dil1Ideal.nD) → Buf (Elt Ideal) ((c.tc : Thread Cert.Dil1Ideal.nD Cert.Dil1Ideal.τ).loc Cert.Dil1Ideal.main_v0_0)) (v1 : (c : Dev Cert.Dil1Ideal.nD) → Buf (Elt Ideal) ((c.tc : Thread Cert.Dil1Ideal.nD Cert.Dil1Ideal.τ).loc Cert.Dil1Ideal.main_v0_1)),
      θ_run (Cert.Dil1Ideal.defs (F := Ideal)) (onTc (τ := Cert.Dil1Ideal.τ) (Cert.Dil1Ideal.main (F := Ideal))) ⟨m, fun _ => 0, g⟩ (fun r => ∀ c : Dev Cert.Dil1Ideal.nD,
          r.2.mem ((c.tc : Thread Cert.Dil1Ideal.nD Cert.Dil1Ideal.τ).loc Cert.Dil1Ideal.main_v0_0) = v0 c
          ∧ r.2.mem ((c.tc : Thread Cert.Dil1Ideal.nD Cert.Dil1Ideal.τ).loc Cert.Dil1Ideal.main_v0_1) = v1 c
          ∧ r.2.mem ((c.tc : Thread Cert.Dil1Ideal.nD Cert.Dil1Ideal.τ).loc Cert.Dil1Ideal.main_arg0) = m ((c.tc : Thread Cert.Dil1Ideal.nD Cert.Dil1Ideal.τ).loc Cert.Dil1Ideal.main_arg0))
      ∧ θ_run (Cert.Dil1RefIdeal.defs (F := Ideal)) (onTc (τ := Cert.Dil1RefIdeal.τ) (Cert.Dil1RefIdeal.main (F := Ideal))) ⟨m', fun _ => 0, g'⟩ (fun r => ∀ c : Dev Cert.Dil1RefIdeal.nD,
          r.2.mem ((c.tc : Thread Cert.Dil1RefIdeal.nD Cert.Dil1RefIdeal.τ).loc Cert.Dil1RefIdeal.main_v78) = v0 c
          ∧ r.2.mem ((c.tc : Thread Cert.Dil1RefIdeal.nD Cert.Dil1RefIdeal.τ).loc Cert.Dil1RefIdeal.main_v81) = v1 c
          ∧ r.2.mem ((c.tc : Thread Cert.Dil1RefIdeal.nD Cert.Dil1RefIdeal.τ).loc Cert.Dil1RefIdeal.main_arg0) = m' ((c.tc : Thread Cert.Dil1RefIdeal.nD Cert.Dil1RefIdeal.τ).loc Cert.Dil1RefIdeal.main_arg0))

def preserves_Dil4_Dil4Ideal : Prop :=
  IdealRules.named_const.Statement Cert.Dil4Ideal.κ "mask" .f32 0xF149F2CA#32 ⊥

def algebraic_Dil4Ideal_Dil4RefIdeal_pre_finite_dil4 [hDil4Ideal : Cert.Dil4Ideal.Facts] [hDil4RefIdeal : Cert.Dil4RefIdeal.Facts] [hPre_finite_dil4 : Cert.Pre_finite_dil4.Facts] : Prop :=
  ∀ (m : (ℓ : Loc Cert.Dil4Ideal.nD Cert.Dil4Ideal.τ Cert.Dil4Ideal.sig) → Buf (Elt Ideal) ℓ) (g : Dev Cert.Dil4Ideal.nD → PrngReg)
    (m' : (ℓ : Loc Cert.Dil4RefIdeal.nD Cert.Dil4RefIdeal.τ Cert.Dil4RefIdeal.sig) → Buf (Elt Ideal) ℓ) (g' : Dev Cert.Dil4RefIdeal.nD → PrngReg), Pre_Dil4Ideal_finite_dil4 m →
    (∀ c : Dev Cert.Dil4Ideal.nD,
      m' ((c.tc : Thread Cert.Dil4RefIdeal.nD Cert.Dil4RefIdeal.τ).loc Cert.Dil4RefIdeal.main_arg0) = m ((c.tc : Thread Cert.Dil4Ideal.nD Cert.Dil4Ideal.τ).loc Cert.Dil4Ideal.main_arg0)) →
    ∃ (v0 : (c : Dev Cert.Dil4Ideal.nD) → Buf (Elt Ideal) ((c.tc : Thread Cert.Dil4Ideal.nD Cert.Dil4Ideal.τ).loc Cert.Dil4Ideal.main_v0_0)) (v1 : (c : Dev Cert.Dil4Ideal.nD) → Buf (Elt Ideal) ((c.tc : Thread Cert.Dil4Ideal.nD Cert.Dil4Ideal.τ).loc Cert.Dil4Ideal.main_v0_1)),
      θ_run (Cert.Dil4Ideal.defs (F := Ideal)) (onTc (τ := Cert.Dil4Ideal.τ) (Cert.Dil4Ideal.main (F := Ideal))) ⟨m, fun _ => 0, g⟩ (fun r => ∀ c : Dev Cert.Dil4Ideal.nD,
          r.2.mem ((c.tc : Thread Cert.Dil4Ideal.nD Cert.Dil4Ideal.τ).loc Cert.Dil4Ideal.main_v0_0) = v0 c
          ∧ r.2.mem ((c.tc : Thread Cert.Dil4Ideal.nD Cert.Dil4Ideal.τ).loc Cert.Dil4Ideal.main_v0_1) = v1 c
          ∧ r.2.mem ((c.tc : Thread Cert.Dil4Ideal.nD Cert.Dil4Ideal.τ).loc Cert.Dil4Ideal.main_arg0) = m ((c.tc : Thread Cert.Dil4Ideal.nD Cert.Dil4Ideal.τ).loc Cert.Dil4Ideal.main_arg0))
      ∧ θ_run (Cert.Dil4RefIdeal.defs (F := Ideal)) (onTc (τ := Cert.Dil4RefIdeal.τ) (Cert.Dil4RefIdeal.main (F := Ideal))) ⟨m', fun _ => 0, g'⟩ (fun r => ∀ c : Dev Cert.Dil4RefIdeal.nD,
          r.2.mem ((c.tc : Thread Cert.Dil4RefIdeal.nD Cert.Dil4RefIdeal.τ).loc Cert.Dil4RefIdeal.main_v78) = v0 c
          ∧ r.2.mem ((c.tc : Thread Cert.Dil4RefIdeal.nD Cert.Dil4RefIdeal.τ).loc Cert.Dil4RefIdeal.main_v81) = v1 c
          ∧ r.2.mem ((c.tc : Thread Cert.Dil4RefIdeal.nD Cert.Dil4RefIdeal.τ).loc Cert.Dil4RefIdeal.main_arg0) = m' ((c.tc : Thread Cert.Dil4RefIdeal.nD Cert.Dil4RefIdeal.τ).loc Cert.Dil4RefIdeal.main_arg0))

def preserves_Dil16_Dil16Ideal : Prop :=
  IdealRules.named_const.Statement Cert.Dil16Ideal.κ "mask" .f32 0xF149F2CA#32 ⊥

def algebraic_Dil16Ideal_Dil16RefIdeal_pre_finite_dil16 [hDil16Ideal : Cert.Dil16Ideal.Facts] [hDil16RefIdeal : Cert.Dil16RefIdeal.Facts] [hPre_finite_dil16 : Cert.Pre_finite_dil16.Facts] : Prop :=
  ∀ (m : (ℓ : Loc Cert.Dil16Ideal.nD Cert.Dil16Ideal.τ Cert.Dil16Ideal.sig) → Buf (Elt Ideal) ℓ) (g : Dev Cert.Dil16Ideal.nD → PrngReg)
    (m' : (ℓ : Loc Cert.Dil16RefIdeal.nD Cert.Dil16RefIdeal.τ Cert.Dil16RefIdeal.sig) → Buf (Elt Ideal) ℓ) (g' : Dev Cert.Dil16RefIdeal.nD → PrngReg), Pre_Dil16Ideal_finite_dil16 m →
    (∀ c : Dev Cert.Dil16Ideal.nD,
      m' ((c.tc : Thread Cert.Dil16RefIdeal.nD Cert.Dil16RefIdeal.τ).loc Cert.Dil16RefIdeal.main_arg0) = m ((c.tc : Thread Cert.Dil16Ideal.nD Cert.Dil16Ideal.τ).loc Cert.Dil16Ideal.main_arg0)) →
    ∃ (v0 : (c : Dev Cert.Dil16Ideal.nD) → Buf (Elt Ideal) ((c.tc : Thread Cert.Dil16Ideal.nD Cert.Dil16Ideal.τ).loc Cert.Dil16Ideal.main_v0_0)) (v1 : (c : Dev Cert.Dil16Ideal.nD) → Buf (Elt Ideal) ((c.tc : Thread Cert.Dil16Ideal.nD Cert.Dil16Ideal.τ).loc Cert.Dil16Ideal.main_v0_1)),
      θ_run (Cert.Dil16Ideal.defs (F := Ideal)) (onTc (τ := Cert.Dil16Ideal.τ) (Cert.Dil16Ideal.main (F := Ideal))) ⟨m, fun _ => 0, g⟩ (fun r => ∀ c : Dev Cert.Dil16Ideal.nD,
          r.2.mem ((c.tc : Thread Cert.Dil16Ideal.nD Cert.Dil16Ideal.τ).loc Cert.Dil16Ideal.main_v0_0) = v0 c
          ∧ r.2.mem ((c.tc : Thread Cert.Dil16Ideal.nD Cert.Dil16Ideal.τ).loc Cert.Dil16Ideal.main_v0_1) = v1 c
          ∧ r.2.mem ((c.tc : Thread Cert.Dil16Ideal.nD Cert.Dil16Ideal.τ).loc Cert.Dil16Ideal.main_arg0) = m ((c.tc : Thread Cert.Dil16Ideal.nD Cert.Dil16Ideal.τ).loc Cert.Dil16Ideal.main_arg0))
      ∧ θ_run (Cert.Dil16RefIdeal.defs (F := Ideal)) (onTc (τ := Cert.Dil16RefIdeal.τ) (Cert.Dil16RefIdeal.main (F := Ideal))) ⟨m', fun _ => 0, g'⟩ (fun r => ∀ c : Dev Cert.Dil16RefIdeal.nD,
          r.2.mem ((c.tc : Thread Cert.Dil16RefIdeal.nD Cert.Dil16RefIdeal.τ).loc Cert.Dil16RefIdeal.main_v78) = v0 c
          ∧ r.2.mem ((c.tc : Thread Cert.Dil16RefIdeal.nD Cert.Dil16RefIdeal.τ).loc Cert.Dil16RefIdeal.main_v81) = v1 c
          ∧ r.2.mem ((c.tc : Thread Cert.Dil16RefIdeal.nD Cert.Dil16RefIdeal.τ).loc Cert.Dil16RefIdeal.main_arg0) = m' ((c.tc : Thread Cert.Dil16RefIdeal.nD Cert.Dil16RefIdeal.τ).loc Cert.Dil16RefIdeal.main_arg0))

def preserves_PleFirst_PleFirstIdeal : Prop :=
  True

def algebraic_PleFirstIdeal_PleFirstRefIdeal [hPleFirstIdeal : Cert.PleFirstIdeal.Facts] [hPleFirstRefIdeal : Cert.PleFirstRefIdeal.Facts] : Prop :=
  ∀ (m : (ℓ : Loc Cert.PleFirstIdeal.nD Cert.PleFirstIdeal.τ Cert.PleFirstIdeal.sig) → Buf (Elt Ideal) ℓ) (g : Dev Cert.PleFirstIdeal.nD → PrngReg)
    (m' : (ℓ : Loc Cert.PleFirstRefIdeal.nD Cert.PleFirstRefIdeal.τ Cert.PleFirstRefIdeal.sig) → Buf (Elt Ideal) ℓ) (g' : Dev Cert.PleFirstRefIdeal.nD → PrngReg), Pre_PleFirstIdeal m →
    (∀ c : Dev Cert.PleFirstIdeal.nD,
      m' ((c.tc : Thread Cert.PleFirstRefIdeal.nD Cert.PleFirstRefIdeal.τ).loc Cert.PleFirstRefIdeal.main_arg0) = m ((c.tc : Thread Cert.PleFirstIdeal.nD Cert.PleFirstIdeal.τ).loc Cert.PleFirstIdeal.main_arg0)
      ∧ m' ((c.tc : Thread Cert.PleFirstRefIdeal.nD Cert.PleFirstRefIdeal.τ).loc Cert.PleFirstRefIdeal.main_arg1) = m ((c.tc : Thread Cert.PleFirstIdeal.nD Cert.PleFirstIdeal.τ).loc Cert.PleFirstIdeal.main_arg1)
      ∧ m' ((c.tc : Thread Cert.PleFirstRefIdeal.nD Cert.PleFirstRefIdeal.τ).loc Cert.PleFirstRefIdeal.main_arg2) = m ((c.tc : Thread Cert.PleFirstIdeal.nD Cert.PleFirstIdeal.τ).loc Cert.PleFirstIdeal.main_arg2)
      ∧ m' ((c.tc : Thread Cert.PleFirstRefIdeal.nD Cert.PleFirstRefIdeal.τ).loc Cert.PleFirstRefIdeal.main_arg3) = m ((c.tc : Thread Cert.PleFirstIdeal.nD Cert.PleFirstIdeal.τ).loc Cert.PleFirstIdeal.main_arg3)
      ∧ m' ((c.tc : Thread Cert.PleFirstRefIdeal.nD Cert.PleFirstRefIdeal.τ).loc Cert.PleFirstRefIdeal.main_arg4) = m ((c.tc : Thread Cert.PleFirstIdeal.nD Cert.PleFirstIdeal.τ).loc Cert.PleFirstIdeal.main_arg4)
      ∧ m' ((c.tc : Thread Cert.PleFirstRefIdeal.nD Cert.PleFirstRefIdeal.τ).loc Cert.PleFirstRefIdeal.main_arg5) = m ((c.tc : Thread Cert.PleFirstIdeal.nD Cert.PleFirstIdeal.τ).loc Cert.PleFirstIdeal.main_arg5)) →
    ∃ (v0 : (c : Dev Cert.PleFirstIdeal.nD) → Buf (Elt Ideal) ((c.tc : Thread Cert.PleFirstIdeal.nD Cert.PleFirstIdeal.τ).loc Cert.PleFirstIdeal.main_v0)),
      θ_run (Cert.PleFirstIdeal.defs (F := Ideal)) (onTc (τ := Cert.PleFirstIdeal.τ) (Cert.PleFirstIdeal.main (F := Ideal))) ⟨m, fun _ => 0, g⟩ (fun r => ∀ c : Dev Cert.PleFirstIdeal.nD,
          r.2.mem ((c.tc : Thread Cert.PleFirstIdeal.nD Cert.PleFirstIdeal.τ).loc Cert.PleFirstIdeal.main_v0) = v0 c
          ∧ r.2.mem ((c.tc : Thread Cert.PleFirstIdeal.nD Cert.PleFirstIdeal.τ).loc Cert.PleFirstIdeal.main_arg0) = m ((c.tc : Thread Cert.PleFirstIdeal.nD Cert.PleFirstIdeal.τ).loc Cert.PleFirstIdeal.main_arg0)
          ∧ r.2.mem ((c.tc : Thread Cert.PleFirstIdeal.nD Cert.PleFirstIdeal.τ).loc Cert.PleFirstIdeal.main_arg1) = m ((c.tc : Thread Cert.PleFirstIdeal.nD Cert.PleFirstIdeal.τ).loc Cert.PleFirstIdeal.main_arg1)
          ∧ r.2.mem ((c.tc : Thread Cert.PleFirstIdeal.nD Cert.PleFirstIdeal.τ).loc Cert.PleFirstIdeal.main_arg2) = m ((c.tc : Thread Cert.PleFirstIdeal.nD Cert.PleFirstIdeal.τ).loc Cert.PleFirstIdeal.main_arg2)
          ∧ r.2.mem ((c.tc : Thread Cert.PleFirstIdeal.nD Cert.PleFirstIdeal.τ).loc Cert.PleFirstIdeal.main_arg3) = m ((c.tc : Thread Cert.PleFirstIdeal.nD Cert.PleFirstIdeal.τ).loc Cert.PleFirstIdeal.main_arg3)
          ∧ r.2.mem ((c.tc : Thread Cert.PleFirstIdeal.nD Cert.PleFirstIdeal.τ).loc Cert.PleFirstIdeal.main_arg4) = m ((c.tc : Thread Cert.PleFirstIdeal.nD Cert.PleFirstIdeal.τ).loc Cert.PleFirstIdeal.main_arg4)
          ∧ r.2.mem ((c.tc : Thread Cert.PleFirstIdeal.nD Cert.PleFirstIdeal.τ).loc Cert.PleFirstIdeal.main_arg5) = m ((c.tc : Thread Cert.PleFirstIdeal.nD Cert.PleFirstIdeal.τ).loc Cert.PleFirstIdeal.main_arg5))
      ∧ θ_run (Cert.PleFirstRefIdeal.defs (F := Ideal)) (onTc (τ := Cert.PleFirstRefIdeal.τ) (Cert.PleFirstRefIdeal.main (F := Ideal))) ⟨m', fun _ => 0, g'⟩ (fun r => ∀ c : Dev Cert.PleFirstRefIdeal.nD,
          r.2.mem ((c.tc : Thread Cert.PleFirstRefIdeal.nD Cert.PleFirstRefIdeal.τ).loc Cert.PleFirstRefIdeal.main_v32) = v0 c
          ∧ r.2.mem ((c.tc : Thread Cert.PleFirstRefIdeal.nD Cert.PleFirstRefIdeal.τ).loc Cert.PleFirstRefIdeal.main_arg0) = m' ((c.tc : Thread Cert.PleFirstRefIdeal.nD Cert.PleFirstRefIdeal.τ).loc Cert.PleFirstRefIdeal.main_arg0)
          ∧ r.2.mem ((c.tc : Thread Cert.PleFirstRefIdeal.nD Cert.PleFirstRefIdeal.τ).loc Cert.PleFirstRefIdeal.main_arg1) = m' ((c.tc : Thread Cert.PleFirstRefIdeal.nD Cert.PleFirstRefIdeal.τ).loc Cert.PleFirstRefIdeal.main_arg1)
          ∧ r.2.mem ((c.tc : Thread Cert.PleFirstRefIdeal.nD Cert.PleFirstRefIdeal.τ).loc Cert.PleFirstRefIdeal.main_arg2) = m' ((c.tc : Thread Cert.PleFirstRefIdeal.nD Cert.PleFirstRefIdeal.τ).loc Cert.PleFirstRefIdeal.main_arg2)
          ∧ r.2.mem ((c.tc : Thread Cert.PleFirstRefIdeal.nD Cert.PleFirstRefIdeal.τ).loc Cert.PleFirstRefIdeal.main_arg3) = m' ((c.tc : Thread Cert.PleFirstRefIdeal.nD Cert.PleFirstRefIdeal.τ).loc Cert.PleFirstRefIdeal.main_arg3)
          ∧ r.2.mem ((c.tc : Thread Cert.PleFirstRefIdeal.nD Cert.PleFirstRefIdeal.τ).loc Cert.PleFirstRefIdeal.main_arg4) = m' ((c.tc : Thread Cert.PleFirstRefIdeal.nD Cert.PleFirstRefIdeal.τ).loc Cert.PleFirstRefIdeal.main_arg4)
          ∧ r.2.mem ((c.tc : Thread Cert.PleFirstRefIdeal.nD Cert.PleFirstRefIdeal.τ).loc Cert.PleFirstRefIdeal.main_arg5) = m' ((c.tc : Thread Cert.PleFirstRefIdeal.nD Cert.PleFirstRefIdeal.τ).loc Cert.PleFirstRefIdeal.main_arg5))

def preserves_Na_NaIdeal : Prop :=
  True

def algebraic_NaIdeal_NaRefIdeal_pre_finite_na [hNaIdeal : Cert.NaIdeal.Facts] [hNaRefIdeal : Cert.NaRefIdeal.Facts] [hPre_finite_na : Cert.Pre_finite_na.Facts] : Prop :=
  ∀ (m : (ℓ : Loc Cert.NaIdeal.nD Cert.NaIdeal.τ Cert.NaIdeal.sig) → Buf (Elt Ideal) ℓ) (g : Dev Cert.NaIdeal.nD → PrngReg)
    (m' : (ℓ : Loc Cert.NaRefIdeal.nD Cert.NaRefIdeal.τ Cert.NaRefIdeal.sig) → Buf (Elt Ideal) ℓ) (g' : Dev Cert.NaRefIdeal.nD → PrngReg), Pre_NaIdeal_finite_na m →
    (∀ c : Dev Cert.NaIdeal.nD,
      m' ((c.tc : Thread Cert.NaRefIdeal.nD Cert.NaRefIdeal.τ).loc Cert.NaRefIdeal.main_arg0) = m ((c.tc : Thread Cert.NaIdeal.nD Cert.NaIdeal.τ).loc Cert.NaIdeal.main_arg0)
      ∧ m' ((c.tc : Thread Cert.NaRefIdeal.nD Cert.NaRefIdeal.τ).loc Cert.NaRefIdeal.main_arg1) = m ((c.tc : Thread Cert.NaIdeal.nD Cert.NaIdeal.τ).loc Cert.NaIdeal.main_arg1)
      ∧ m' ((c.tc : Thread Cert.NaRefIdeal.nD Cert.NaRefIdeal.τ).loc Cert.NaRefIdeal.main_arg2) = m ((c.tc : Thread Cert.NaIdeal.nD Cert.NaIdeal.τ).loc Cert.NaIdeal.main_arg2)
      ∧ m' ((c.tc : Thread Cert.NaRefIdeal.nD Cert.NaRefIdeal.τ).loc Cert.NaRefIdeal.main_arg3) = m ((c.tc : Thread Cert.NaIdeal.nD Cert.NaIdeal.τ).loc Cert.NaIdeal.main_arg3)) →
    ∃ (v0 : (c : Dev Cert.NaIdeal.nD) → Buf (Elt Ideal) ((c.tc : Thread Cert.NaIdeal.nD Cert.NaIdeal.τ).loc Cert.NaIdeal.main_v0)),
      θ_run (Cert.NaIdeal.defs (F := Ideal)) (onTc (τ := Cert.NaIdeal.τ) (Cert.NaIdeal.main (F := Ideal))) ⟨m, fun _ => 0, g⟩ (fun r => ∀ c : Dev Cert.NaIdeal.nD,
          r.2.mem ((c.tc : Thread Cert.NaIdeal.nD Cert.NaIdeal.τ).loc Cert.NaIdeal.main_v0) = v0 c
          ∧ r.2.mem ((c.tc : Thread Cert.NaIdeal.nD Cert.NaIdeal.τ).loc Cert.NaIdeal.main_arg0) = m ((c.tc : Thread Cert.NaIdeal.nD Cert.NaIdeal.τ).loc Cert.NaIdeal.main_arg0)
          ∧ r.2.mem ((c.tc : Thread Cert.NaIdeal.nD Cert.NaIdeal.τ).loc Cert.NaIdeal.main_arg1) = m ((c.tc : Thread Cert.NaIdeal.nD Cert.NaIdeal.τ).loc Cert.NaIdeal.main_arg1)
          ∧ r.2.mem ((c.tc : Thread Cert.NaIdeal.nD Cert.NaIdeal.τ).loc Cert.NaIdeal.main_arg2) = m ((c.tc : Thread Cert.NaIdeal.nD Cert.NaIdeal.τ).loc Cert.NaIdeal.main_arg2)
          ∧ r.2.mem ((c.tc : Thread Cert.NaIdeal.nD Cert.NaIdeal.τ).loc Cert.NaIdeal.main_arg3) = m ((c.tc : Thread Cert.NaIdeal.nD Cert.NaIdeal.τ).loc Cert.NaIdeal.main_arg3))
      ∧ θ_run (Cert.NaRefIdeal.defs (F := Ideal)) (onTc (τ := Cert.NaRefIdeal.τ) (Cert.NaRefIdeal.main (F := Ideal))) ⟨m', fun _ => 0, g'⟩ (fun r => ∀ c : Dev Cert.NaRefIdeal.nD,
          r.2.mem ((c.tc : Thread Cert.NaRefIdeal.nD Cert.NaRefIdeal.τ).loc Cert.NaRefIdeal.main_v57) = v0 c
          ∧ r.2.mem ((c.tc : Thread Cert.NaRefIdeal.nD Cert.NaRefIdeal.τ).loc Cert.NaRefIdeal.main_arg0) = m' ((c.tc : Thread Cert.NaRefIdeal.nD Cert.NaRefIdeal.τ).loc Cert.NaRefIdeal.main_arg0)
          ∧ r.2.mem ((c.tc : Thread Cert.NaRefIdeal.nD Cert.NaRefIdeal.τ).loc Cert.NaRefIdeal.main_arg1) = m' ((c.tc : Thread Cert.NaRefIdeal.nD Cert.NaRefIdeal.τ).loc Cert.NaRefIdeal.main_arg1)
          ∧ r.2.mem ((c.tc : Thread Cert.NaRefIdeal.nD Cert.NaRefIdeal.τ).loc Cert.NaRefIdeal.main_arg2) = m' ((c.tc : Thread Cert.NaRefIdeal.nD Cert.NaRefIdeal.τ).loc Cert.NaRefIdeal.main_arg2)
          ∧ r.2.mem ((c.tc : Thread Cert.NaRefIdeal.nD Cert.NaRefIdeal.τ).loc Cert.NaRefIdeal.main_arg3) = m' ((c.tc : Thread Cert.NaRefIdeal.nD Cert.NaRefIdeal.τ).loc Cert.NaRefIdeal.main_arg3))

def Claim : Prop :=
  ∃ (hBand : Cert.Band.Facts) (hBandIdeal : Cert.BandIdeal.Facts) (hBandRefIdeal : Cert.BandRefIdeal.Facts) (hFfn : Cert.Ffn.Facts) (hFfnIdeal : Cert.FfnIdeal.Facts) (hFfnRefIdeal : Cert.FfnRefIdeal.Facts) (hPle : Cert.Ple.Facts) (hPleIdeal : Cert.PleIdeal.Facts) (hPleRefIdeal : Cert.PleRefIdeal.Facts) (hInC : Cert.InC.Facts) (hInCIdeal : Cert.InCIdeal.Facts) (hInCRefIdeal : Cert.InCRefIdeal.Facts) (hOutC : Cert.OutC.Facts) (hOutCIdeal : Cert.OutCIdeal.Facts) (hOutCRefIdeal : Cert.OutCRefIdeal.Facts) (hInAB : Cert.InAB.Facts) (hInABIdeal : Cert.InABIdeal.Facts) (hInABRefIdeal : Cert.InABRefIdeal.Facts) (hOutAB : Cert.OutAB.Facts) (hOutABIdeal : Cert.OutABIdeal.Facts) (hOutABRefIdeal : Cert.OutABRefIdeal.Facts) (hDil1 : Cert.Dil1.Facts) (hDil1Ideal : Cert.Dil1Ideal.Facts) (hDil1RefIdeal : Cert.Dil1RefIdeal.Facts) (hDil4 : Cert.Dil4.Facts) (hDil4Ideal : Cert.Dil4Ideal.Facts) (hDil4RefIdeal : Cert.Dil4RefIdeal.Facts) (hDil16 : Cert.Dil16.Facts) (hDil16Ideal : Cert.Dil16Ideal.Facts) (hDil16RefIdeal : Cert.Dil16RefIdeal.Facts) (hPleFirst : Cert.PleFirst.Facts) (hPleFirstIdeal : Cert.PleFirstIdeal.Facts) (hPleFirstRefIdeal : Cert.PleFirstRefIdeal.Facts) (hNa : Cert.Na.Facts) (hNaIdeal : Cert.NaIdeal.Facts) (hNaRefIdeal : Cert.NaRefIdeal.Facts) (hPre_finite : Cert.Pre_finite.Facts) (hPre_finite_lse : Cert.Pre_finite_lse.Facts) (hPre_finite_dil1 : Cert.Pre_finite_dil1.Facts) (hPre_finite_dil4 : Cert.Pre_finite_dil4.Facts) (hPre_finite_dil16 : Cert.Pre_finite_dil16.Facts) (hPre_finite_na : Cert.Pre_finite_na.Facts),
    quiescent_Band (hBand := hBand)
    ∧ quiescent_BandIdeal (hBandIdeal := hBandIdeal)
    ∧ quiescent_BandIdeal_pre_finite (hBandIdeal := hBandIdeal) (hPre_finite := hPre_finite)
    ∧ quiescent_BandRefIdeal (hBandRefIdeal := hBandRefIdeal)
    ∧ quiescent_BandRefIdeal_pre_finite (hBandRefIdeal := hBandRefIdeal) (hPre_finite := hPre_finite)
    ∧ quiescent_Ffn (hFfn := hFfn)
    ∧ quiescent_FfnIdeal (hFfnIdeal := hFfnIdeal)
    ∧ quiescent_FfnRefIdeal (hFfnRefIdeal := hFfnRefIdeal)
    ∧ quiescent_Ple (hPle := hPle)
    ∧ quiescent_PleIdeal (hPleIdeal := hPleIdeal)
    ∧ quiescent_PleRefIdeal (hPleRefIdeal := hPleRefIdeal)
    ∧ quiescent_InC (hInC := hInC)
    ∧ quiescent_InCIdeal (hInCIdeal := hInCIdeal)
    ∧ quiescent_InCRefIdeal (hInCRefIdeal := hInCRefIdeal)
    ∧ quiescent_OutC (hOutC := hOutC)
    ∧ quiescent_OutCIdeal (hOutCIdeal := hOutCIdeal)
    ∧ quiescent_OutCRefIdeal (hOutCRefIdeal := hOutCRefIdeal)
    ∧ quiescent_InAB (hInAB := hInAB)
    ∧ quiescent_InABIdeal (hInABIdeal := hInABIdeal)
    ∧ quiescent_InABRefIdeal (hInABRefIdeal := hInABRefIdeal)
    ∧ quiescent_OutAB (hOutAB := hOutAB)
    ∧ quiescent_OutABIdeal (hOutABIdeal := hOutABIdeal)
    ∧ quiescent_OutABIdeal_pre_finite_lse (hOutABIdeal := hOutABIdeal) (hPre_finite_lse := hPre_finite_lse)
    ∧ quiescent_OutABRefIdeal (hOutABRefIdeal := hOutABRefIdeal)
    ∧ quiescent_OutABRefIdeal_pre_finite_lse (hOutABRefIdeal := hOutABRefIdeal) (hPre_finite_lse := hPre_finite_lse)
    ∧ quiescent_Dil1 (hDil1 := hDil1)
    ∧ quiescent_Dil1Ideal (hDil1Ideal := hDil1Ideal)
    ∧ quiescent_Dil1Ideal_pre_finite_dil1 (hDil1Ideal := hDil1Ideal) (hPre_finite_dil1 := hPre_finite_dil1)
    ∧ quiescent_Dil1RefIdeal (hDil1RefIdeal := hDil1RefIdeal)
    ∧ quiescent_Dil1RefIdeal_pre_finite_dil1 (hDil1RefIdeal := hDil1RefIdeal) (hPre_finite_dil1 := hPre_finite_dil1)
    ∧ quiescent_Dil4 (hDil4 := hDil4)
    ∧ quiescent_Dil4Ideal (hDil4Ideal := hDil4Ideal)
    ∧ quiescent_Dil4Ideal_pre_finite_dil4 (hDil4Ideal := hDil4Ideal) (hPre_finite_dil4 := hPre_finite_dil4)
    ∧ quiescent_Dil4RefIdeal (hDil4RefIdeal := hDil4RefIdeal)
    ∧ quiescent_Dil4RefIdeal_pre_finite_dil4 (hDil4RefIdeal := hDil4RefIdeal) (hPre_finite_dil4 := hPre_finite_dil4)
    ∧ quiescent_Dil16 (hDil16 := hDil16)
    ∧ quiescent_Dil16Ideal (hDil16Ideal := hDil16Ideal)
    ∧ quiescent_Dil16Ideal_pre_finite_dil16 (hDil16Ideal := hDil16Ideal) (hPre_finite_dil16 := hPre_finite_dil16)
    ∧ quiescent_Dil16RefIdeal (hDil16RefIdeal := hDil16RefIdeal)
    ∧ quiescent_Dil16RefIdeal_pre_finite_dil16 (hDil16RefIdeal := hDil16RefIdeal) (hPre_finite_dil16 := hPre_finite_dil16)
    ∧ quiescent_PleFirst (hPleFirst := hPleFirst)
    ∧ quiescent_PleFirstIdeal (hPleFirstIdeal := hPleFirstIdeal)
    ∧ quiescent_PleFirstRefIdeal (hPleFirstRefIdeal := hPleFirstRefIdeal)
    ∧ quiescent_Na (hNa := hNa)
    ∧ quiescent_NaIdeal (hNaIdeal := hNaIdeal)
    ∧ quiescent_NaIdeal_pre_finite_na (hNaIdeal := hNaIdeal) (hPre_finite_na := hPre_finite_na)
    ∧ quiescent_NaRefIdeal (hNaRefIdeal := hNaRefIdeal)
    ∧ quiescent_NaRefIdeal_pre_finite_na (hNaRefIdeal := hNaRefIdeal) (hPre_finite_na := hPre_finite_na)
    ∧ preserves_Band_BandIdeal
    ∧ algebraic_BandIdeal_BandRefIdeal_pre_finite (hBandIdeal := hBandIdeal) (hBandRefIdeal := hBandRefIdeal) (hPre_finite := hPre_finite)
    ∧ preserves_Ffn_FfnIdeal
    ∧ algebraic_FfnIdeal_FfnRefIdeal (hFfnIdeal := hFfnIdeal) (hFfnRefIdeal := hFfnRefIdeal)
    ∧ preserves_Ple_PleIdeal
    ∧ algebraic_PleIdeal_PleRefIdeal (hPleIdeal := hPleIdeal) (hPleRefIdeal := hPleRefIdeal)
    ∧ preserves_InC_InCIdeal
    ∧ algebraic_InCIdeal_InCRefIdeal (hInCIdeal := hInCIdeal) (hInCRefIdeal := hInCRefIdeal)
    ∧ preserves_OutC_OutCIdeal
    ∧ algebraic_OutCIdeal_OutCRefIdeal (hOutCIdeal := hOutCIdeal) (hOutCRefIdeal := hOutCRefIdeal)
    ∧ preserves_InAB_InABIdeal
    ∧ algebraic_InABIdeal_InABRefIdeal (hInABIdeal := hInABIdeal) (hInABRefIdeal := hInABRefIdeal)
    ∧ preserves_OutAB_OutABIdeal
    ∧ algebraic_OutABIdeal_OutABRefIdeal_pre_finite_lse (hOutABIdeal := hOutABIdeal) (hOutABRefIdeal := hOutABRefIdeal) (hPre_finite_lse := hPre_finite_lse)
    ∧ preserves_Dil1_Dil1Ideal
    ∧ algebraic_Dil1Ideal_Dil1RefIdeal_pre_finite_dil1 (hDil1Ideal := hDil1Ideal) (hDil1RefIdeal := hDil1RefIdeal) (hPre_finite_dil1 := hPre_finite_dil1)
    ∧ preserves_Dil4_Dil4Ideal
    ∧ algebraic_Dil4Ideal_Dil4RefIdeal_pre_finite_dil4 (hDil4Ideal := hDil4Ideal) (hDil4RefIdeal := hDil4RefIdeal) (hPre_finite_dil4 := hPre_finite_dil4)
    ∧ preserves_Dil16_Dil16Ideal
    ∧ algebraic_Dil16Ideal_Dil16RefIdeal_pre_finite_dil16 (hDil16Ideal := hDil16Ideal) (hDil16RefIdeal := hDil16RefIdeal) (hPre_finite_dil16 := hPre_finite_dil16)
    ∧ preserves_PleFirst_PleFirstIdeal
    ∧ algebraic_PleFirstIdeal_PleFirstRefIdeal (hPleFirstIdeal := hPleFirstIdeal) (hPleFirstRefIdeal := hPleFirstRefIdeal)
    ∧ preserves_Na_NaIdeal
    ∧ algebraic_NaIdeal_NaRefIdeal_pre_finite_na (hNaIdeal := hNaIdeal) (hNaRefIdeal := hNaRefIdeal) (hPre_finite_na := hPre_finite_na)
-- ==== Pre_finite.lean ====
abbrev S2x8192x768 : Shape := ⟨3, ![2, 8192, 768]⟩
abbrev S2x8192x256 : Shape := ⟨3, ![2, 8192, 256]⟩
abbrev S12 : Shape := ⟨1, ![12]⟩
abbrev S_ : Shape := ⟨0, ![]⟩

class Facts : Prop where
  bitsLt_bf16_f32 : FTy.bits .bf16 < FTy.bits .f32
  bcast_S_S2x8192x768 : S_.BroadcastsInDim S2x8192x768 (![] : Fin 0 → Fin S2x8192x768.rank)
  bcast_S_S2x8192x256 : S_.BroadcastsInDim S2x8192x256 (![] : Fin 0 → Fin S2x8192x256.rank)
  bcast_S_S12 : S_.BroadcastsInDim S12 (![] : Fin 0 → Fin S12.rank)

variable [Facts]

def fn {F : FTy → Type} [FloatOps F] (main_arg0 : FVec F S2x8192x768 .bf16) (main_arg1 : FVec F S2x8192x256 .bf16) (main_arg2 : FVec F S2x8192x256 .bf16) (main_arg3 : FVec F S12 .f32) : IVec S2x8192x768 1 × IVec S2x8192x256 1 × IVec S12 1 :=
  let main_v0 : FVec F S2x8192x768 .f32 := (extf .f32 · bitsLt_bf16_f32) main_arg0
  let main_v1 : FVec F S2x8192x256 .f32 := (extf .f32 · bitsLt_bf16_f32) main_arg1
  let main_cst : FVec F S_ .f32 := constant S_ .f32 0x7F800000#32
  let main_v2 : FVec F S2x8192x768 .f32 := broadcastInDim S2x8192x768 ![] bcast_S_S2x8192x768 main_cst
  let main_v3 : IVec S2x8192x768 1 := cmpf .olt main_v0 main_v2
  let main_cst_0 : FVec F S_ .f32 := constant S_ .f32 0x7F800000#32
  let main_v4 : FVec F S_ .f32 := Host.negf main_cst_0
  let main_v5 : FVec F S2x8192x768 .f32 := broadcastInDim S2x8192x768 ![] bcast_S_S2x8192x768 main_v4
  let main_v6 : IVec S2x8192x768 1 := cmpf .ogt main_v0 main_v5
  let main_v7 : IVec S2x8192x768 1 := andi main_v3 main_v6
  let main_cst_1 : FVec F S_ .f32 := constant S_ .f32 0x7F800000#32
  let main_v8 : FVec F S2x8192x256 .f32 := broadcastInDim S2x8192x256 ![] bcast_S_S2x8192x256 main_cst_1
  let main_v9 : IVec S2x8192x256 1 := cmpf .olt main_v1 main_v8
  let main_cst_2 : FVec F S_ .f32 := constant S_ .f32 0x7F800000#32
  let main_v10 : FVec F S_ .f32 := Host.negf main_cst_2
  let main_v11 : FVec F S2x8192x256 .f32 := broadcastInDim S2x8192x256 ![] bcast_S_S2x8192x256 main_v10
  let main_v12 : IVec S2x8192x256 1 := cmpf .ogt main_v1 main_v11
  let main_v13 : IVec S2x8192x256 1 := andi main_v9 main_v12
  let main_cst_3 : FVec F S_ .f32 := constant S_ .f32 0x7F800000#32
  let main_v14 : FVec F S12 .f32 := broadcastInDim S12 ![] bcast_S_S12 main_cst_3
  let main_v15 : IVec S12 1 := cmpf .olt main_arg3 main_v14
  (main_v7, main_v13, main_v15)
-- ==== Pre_finite_dil1.lean ====
abbrev S2x8192x2304 : Shape := ⟨3, ![2, 8192, 2304]⟩
abbrev S2x8192x1x3x3x256 : Shape := ⟨6, ![2, 8192, 1, 3, 3, 256]⟩
abbrev S2x8192x1x2x1x256 : Shape := ⟨6, ![2, 8192, 1, 2, 1, 256]⟩
abbrev S2x8192x1x2x256 : Shape := ⟨5, ![2, 8192, 1, 2, 256]⟩
abbrev S_ : Shape := ⟨0, ![]⟩

class Facts : Prop where
  bitsLt_bf16_f32 : FTy.bits .bf16 < FTy.bits .f32
  shapeCasts_S2x8192x2304_S2x8192x1x3x3x256 : S2x8192x2304.ShapeCasts S2x8192x1x3x3x256
  slices_S2x8192x1x3x3x256_S2x8192x1x2x1x256_0_0_0_0_0_0 : S2x8192x1x3x3x256.Slices ![0, 0, 0, 0, 0, 0] S2x8192x1x2x1x256
  shapeCasts_S2x8192x1x2x1x256_S2x8192x1x2x256 : S2x8192x1x2x1x256.ShapeCasts S2x8192x1x2x256
  bcast_S_S2x8192x1x2x256 : S_.BroadcastsInDim S2x8192x1x2x256 (![] : Fin 0 → Fin S2x8192x1x2x256.rank)

variable [Facts]

def fn {F : FTy → Type} [FloatOps F] (main_arg0 : FVec F S2x8192x2304 .bf16) : IVec S2x8192x1x2x256 1 :=
  let main_v0 : FVec F S2x8192x2304 .f32 := (extf .f32 · bitsLt_bf16_f32) main_arg0
  let main_v1 : FVec F S2x8192x1x3x3x256 .f32 := shapeCast S2x8192x1x3x3x256 main_v0 shapeCasts_S2x8192x2304_S2x8192x1x3x3x256
  let main_v2 : FVec F S2x8192x1x2x1x256 .f32 := (extractStridedSlice S2x8192x1x2x1x256 ![0, 0, 0, 0, 0, 0] · slices_S2x8192x1x3x3x256_S2x8192x1x2x1x256_0_0_0_0_0_0) main_v1
  let main_v3 : FVec F S2x8192x1x2x256 .f32 := shapeCast S2x8192x1x2x256 main_v2 shapeCasts_S2x8192x1x2x1x256_S2x8192x1x2x256
  let main_cst : FVec F S_ .f32 := constant S_ .f32 0x7F800000#32
  let main_v4 : FVec F S2x8192x1x2x256 .f32 := broadcastInDim S2x8192x1x2x256 ![] bcast_S_S2x8192x1x2x256 main_cst
  let main_v5 : IVec S2x8192x1x2x256 1 := cmpf .olt main_v3 main_v4
  let main_cst_0 : FVec F S_ .f32 := constant S_ .f32 0x7F800000#32
  let main_v6 : FVec F S_ .f32 := Host.negf main_cst_0
  let main_v7 : FVec F S2x8192x1x2x256 .f32 := broadcastInDim S2x8192x1x2x256 ![] bcast_S_S2x8192x1x2x256 main_v6
  let main_v8 : IVec S2x8192x1x2x256 1 := cmpf .ogt main_v3 main_v7
  let main_v9 : IVec S2x8192x1x2x256 1 := andi main_v5 main_v8
  main_v9
-- ==== Pre_finite_dil16.lean ====
abbrev S2x512x36864 : Shape := ⟨3, ![2, 512, 36864]⟩
abbrev S2x512x16x3x3x256 : Shape := ⟨6, ![2, 512, 16, 3, 3, 256]⟩
abbrev S2x512x16x2x1x256 : Shape := ⟨6, ![2, 512, 16, 2, 1, 256]⟩
abbrev S2x512x16x2x256 : Shape := ⟨5, ![2, 512, 16, 2, 256]⟩
abbrev S_ : Shape := ⟨0, ![]⟩

class Facts : Prop where
  bitsLt_bf16_f32 : FTy.bits .bf16 < FTy.bits .f32
  shapeCasts_S2x512x36864_S2x512x16x3x3x256 : S2x512x36864.ShapeCasts S2x512x16x3x3x256
  slices_S2x512x16x3x3x256_S2x512x16x2x1x256_0_0_0_0_2_0 : S2x512x16x3x3x256.Slices ![0, 0, 0, 0, 2, 0] S2x512x16x2x1x256
  shapeCasts_S2x512x16x2x1x256_S2x512x16x2x256 : S2x512x16x2x1x256.ShapeCasts S2x512x16x2x256
  bcast_S_S2x512x16x2x256 : S_.BroadcastsInDim S2x512x16x2x256 (![] : Fin 0 → Fin S2x512x16x2x256.rank)

variable [Facts]

def fn {F : FTy → Type} [FloatOps F] (main_arg0 : FVec F S2x512x36864 .bf16) : IVec S2x512x16x2x256 1 :=
  let main_v0 : FVec F S2x512x36864 .f32 := (extf .f32 · bitsLt_bf16_f32) main_arg0
  let main_v1 : FVec F S2x512x16x3x3x256 .f32 := shapeCast S2x512x16x3x3x256 main_v0 shapeCasts_S2x512x36864_S2x512x16x3x3x256
  let main_v2 : FVec F S2x512x16x2x1x256 .f32 := (extractStridedSlice S2x512x16x2x1x256 ![0, 0, 0, 0, 2, 0] · slices_S2x512x16x3x3x256_S2x512x16x2x1x256_0_0_0_0_2_0) main_v1
  let main_v3 : FVec F S2x512x16x2x256 .f32 := shapeCast S2x512x16x2x256 main_v2 shapeCasts_S2x512x16x2x1x256_S2x512x16x2x256
  let main_cst : FVec F S_ .f32 := constant S_ .f32 0x7F800000#32
  let main_v4 : FVec F S2x512x16x2x256 .f32 := broadcastInDim S2x512x16x2x256 ![] bcast_S_S2x512x16x2x256 main_cst
  let main_v5 : IVec S2x512x16x2x256 1 := cmpf .olt main_v3 main_v4
  let main_cst_0 : FVec F S_ .f32 := constant S_ .f32 0x7F800000#32
  let main_v6 : FVec F S_ .f32 := Host.negf main_cst_0
  let main_v7 : FVec F S2x512x16x2x256 .f32 := broadcastInDim S2x512x16x2x256 ![] bcast_S_S2x512x16x2x256 main_v6
  let main_v8 : IVec S2x512x16x2x256 1 := cmpf .ogt main_v3 main_v7
  let main_v9 : IVec S2x512x16x2x256 1 := andi main_v5 main_v8
  main_v9
-- ==== Pre_finite_dil4.lean ====
abbrev S2x2048x9216 : Shape := ⟨3, ![2, 2048, 9216]⟩
abbrev S2x2048x4x3x3x256 : Shape := ⟨6, ![2, 2048, 4, 3, 3, 256]⟩
abbrev S2x2048x4x2x1x256 : Shape := ⟨6, ![2, 2048, 4, 2, 1, 256]⟩
abbrev S2x2048x4x2x256 : Shape := ⟨5, ![2, 2048, 4, 2, 256]⟩
abbrev S_ : Shape := ⟨0, ![]⟩

class Facts : Prop where
  bitsLt_bf16_f32 : FTy.bits .bf16 < FTy.bits .f32
  shapeCasts_S2x2048x9216_S2x2048x4x3x3x256 : S2x2048x9216.ShapeCasts S2x2048x4x3x3x256
  slices_S2x2048x4x3x3x256_S2x2048x4x2x1x256_0_0_0_0_1_0 : S2x2048x4x3x3x256.Slices ![0, 0, 0, 0, 1, 0] S2x2048x4x2x1x256
  shapeCasts_S2x2048x4x2x1x256_S2x2048x4x2x256 : S2x2048x4x2x1x256.ShapeCasts S2x2048x4x2x256
  bcast_S_S2x2048x4x2x256 : S_.BroadcastsInDim S2x2048x4x2x256 (![] : Fin 0 → Fin S2x2048x4x2x256.rank)

variable [Facts]

def fn {F : FTy → Type} [FloatOps F] (main_arg0 : FVec F S2x2048x9216 .bf16) : IVec S2x2048x4x2x256 1 :=
  let main_v0 : FVec F S2x2048x9216 .f32 := (extf .f32 · bitsLt_bf16_f32) main_arg0
  let main_v1 : FVec F S2x2048x4x3x3x256 .f32 := shapeCast S2x2048x4x3x3x256 main_v0 shapeCasts_S2x2048x9216_S2x2048x4x3x3x256
  let main_v2 : FVec F S2x2048x4x2x1x256 .f32 := (extractStridedSlice S2x2048x4x2x1x256 ![0, 0, 0, 0, 1, 0] · slices_S2x2048x4x3x3x256_S2x2048x4x2x1x256_0_0_0_0_1_0) main_v1
  let main_v3 : FVec F S2x2048x4x2x256 .f32 := shapeCast S2x2048x4x2x256 main_v2 shapeCasts_S2x2048x4x2x1x256_S2x2048x4x2x256
  let main_cst : FVec F S_ .f32 := constant S_ .f32 0x7F800000#32
  let main_v4 : FVec F S2x2048x4x2x256 .f32 := broadcastInDim S2x2048x4x2x256 ![] bcast_S_S2x2048x4x2x256 main_cst
  let main_v5 : IVec S2x2048x4x2x256 1 := cmpf .olt main_v3 main_v4
  let main_cst_0 : FVec F S_ .f32 := constant S_ .f32 0x7F800000#32
  let main_v6 : FVec F S_ .f32 := Host.negf main_cst_0
  let main_v7 : FVec F S2x2048x4x2x256 .f32 := broadcastInDim S2x2048x4x2x256 ![] bcast_S_S2x2048x4x2x256 main_v6
  let main_v8 : IVec S2x2048x4x2x256 1 := cmpf .ogt main_v3 main_v7
  let main_v9 : IVec S2x2048x4x2x256 1 := andi main_v5 main_v8
  main_v9
-- ==== Pre_finite_lse.lean ====
abbrev S16384x1024 : Shape := ⟨2, ![16384, 1024]⟩
abbrev S16384x768 : Shape := ⟨2, ![16384, 768]⟩
abbrev S16384x256 : Shape := ⟨2, ![16384, 256]⟩
abbrev S2x1024x1024 : Shape := ⟨3, ![2, 1024, 1024]⟩
abbrev S_ : Shape := ⟨0, ![]⟩

class Facts : Prop where
  bcast_S_S16384x256 : S_.BroadcastsInDim S16384x256 (![] : Fin 0 → Fin S16384x256.rank)

variable [Facts]

def fn {F : FTy → Type} [FloatOps F] (main_arg0 : FVec F S16384x1024 .f32) (main_arg1 : FVec F S16384x768 .bf16) (main_arg2 : FVec F S16384x256 .bf16) (main_arg3 : FVec F S16384x256 .bf16) (main_arg4 : FVec F S16384x256 .bf16) (main_arg5 : FVec F S16384x256 .f32) (main_arg6 : FVec F S16384x256 .f32) (main_arg7 : FVec F S16384x256 .f32) (main_arg8 : FVec F S2x1024x1024 .bf16) : IVec S16384x256 1 × IVec S16384x256 1 × IVec S16384x256 1 :=
  let main_cst : FVec F S_ .f32 := constant S_ .f32 0x7F800000#32
  let main_v0 : FVec F S16384x256 .f32 := broadcastInDim S16384x256 ![] bcast_S_S16384x256 main_cst
  let main_v1 : IVec S16384x256 1 := cmpf .olt main_arg5 main_v0
  let main_cst_0 : FVec F S_ .f32 := constant S_ .f32 0x7F800000#32
  let main_v2 : FVec F S_ .f32 := Host.negf main_cst_0
  let main_v3 : FVec F S16384x256 .f32 := broadcastInDim S16384x256 ![] bcast_S_S16384x256 main_v2
  let main_v4 : IVec S16384x256 1 := cmpf .ogt main_arg5 main_v3
  let main_v5 : IVec S16384x256 1 := andi main_v1 main_v4
  let main_cst_1 : FVec F S_ .f32 := constant S_ .f32 0x7F800000#32
  let main_v6 : FVec F S16384x256 .f32 := broadcastInDim S16384x256 ![] bcast_S_S16384x256 main_cst_1
  let main_v7 : IVec S16384x256 1 := cmpf .olt main_arg6 main_v6
  let main_cst_2 : FVec F S_ .f32 := constant S_ .f32 0x7F800000#32
  let main_v8 : FVec F S_ .f32 := Host.negf main_cst_2
  let main_v9 : FVec F S16384x256 .f32 := broadcastInDim S16384x256 ![] bcast_S_S16384x256 main_v8
  let main_v10 : IVec S16384x256 1 := cmpf .ogt main_arg6 main_v9
  let main_v11 : IVec S16384x256 1 := andi main_v7 main_v10
  let main_cst_3 : FVec F S_ .f32 := constant S_ .f32 0x7F800000#32
  let main_v12 : FVec F S16384x256 .f32 := broadcastInDim S16384x256 ![] bcast_S_S16384x256 main_cst_3
  let main_v13 : IVec S16384x256 1 := cmpf .olt main_arg7 main_v12
  let main_cst_4 : FVec F S_ .f32 := constant S_ .f32 0x7F800000#32
  let main_v14 : FVec F S_ .f32 := Host.negf main_cst_4
  let main_v15 : FVec F S16384x256 .f32 := broadcastInDim S16384x256 ![] bcast_S_S16384x256 main_v14
  let main_v16 : IVec S16384x256 1 := cmpf .ogt main_arg7 main_v15
  let main_v17 : IVec S16384x256 1 := andi main_v13 main_v16
  (main_v5, main_v11, main_v17)
-- ==== Pre_finite_na.lean ====
abbrev S2x8192x1024 : Shape := ⟨3, ![2, 8192, 1024]⟩
abbrev S8x8x128x512 : Shape := ⟨4, ![8, 8, 128, 512]⟩
abbrev S8x8x2x64x8x64 : Shape := ⟨6, ![8, 8, 2, 64, 8, 64]⟩
abbrev S_ : Shape := ⟨0, ![]⟩

class Facts : Prop where
  bitsLt_bf16_f32 : FTy.bits .bf16 < FTy.bits .f32
  shapeCasts_S8x8x128x512_S8x8x2x64x8x64 : S8x8x128x512.ShapeCasts S8x8x2x64x8x64
  bcast_S_S2x8192x1024 : S_.BroadcastsInDim S2x8192x1024 (![] : Fin 0 → Fin S2x8192x1024.rank)
  bcast_S_S8x8x2x64x8x64 : S_.BroadcastsInDim S8x8x2x64x8x64 (![] : Fin 0 → Fin S8x8x2x64x8x64.rank)

variable [Facts]

def fn_part1 {F : FTy → Type} [FloatOps F] (main_v2 : FVec F S8x8x2x64x8x64 .f32) (main_v5 : IVec S8x8x2x64x8x64 1) (main_v11 : IVec S2x8192x1024 1) (main_v17 : IVec S2x8192x1024 1) (main_v18 : FVec F S8x8x2x64x8x64 .f32) : IVec S2x8192x1024 1 × IVec S2x8192x1024 1 × IVec S8x8x2x64x8x64 1 :=
  let main_v19 : IVec S8x8x2x64x8x64 1 := cmpf .olt main_v2 main_v18
  let main_cst_4 : FVec F S_ .f32 := constant S_ .f32 0x7F800000#32
  let main_v20 : FVec F S_ .f32 := Host.negf main_cst_4
  let main_v21 : FVec F S8x8x2x64x8x64 .f32 := broadcastInDim S8x8x2x64x8x64 ![] bcast_S_S8x8x2x64x8x64 main_v20
  let main_v22 : IVec S8x8x2x64x8x64 1 := cmpf .ogt main_v2 main_v21
  let main_v23 : IVec S8x8x2x64x8x64 1 := noti main_v5
  let main_v24 : IVec S8x8x2x64x8x64 1 := ori main_v22 main_v23
  let main_v25 : IVec S8x8x2x64x8x64 1 := andi main_v19 main_v24
  (main_v11, main_v17, main_v25)

def fn {F : FTy → Type} [FloatOps F] (main_arg0 : FVec F S2x8192x1024 .bf16) (main_arg1 : FVec F S2x8192x1024 .bf16) (main_arg2 : FVec F S2x8192x1024 .bf16) (main_arg3 : FVec F S8x8x128x512 .f32) : IVec S2x8192x1024 1 × IVec S2x8192x1024 1 × IVec S8x8x2x64x8x64 1 :=
  let main_v0 : FVec F S2x8192x1024 .f32 := (extf .f32 · bitsLt_bf16_f32) main_arg0
  let main_v1 : FVec F S2x8192x1024 .f32 := (extf .f32 · bitsLt_bf16_f32) main_arg1
  let main_v2 : FVec F S8x8x2x64x8x64 .f32 := shapeCast S8x8x2x64x8x64 main_arg3 shapeCasts_S8x8x128x512_S8x8x2x64x8x64
  let main_v3 : IVec S8x8x2x64x8x64 32 := iotaInDim S8x8x2x64x8x64 32 3
  let main_v4 : IVec S8x8x2x64x8x64 32 := iotaInDim S8x8x2x64x8x64 32 5
  let main_v5 : IVec S8x8x2x64x8x64 1 := cmpi .eq main_v3 main_v4
  let main_cst : FVec F S_ .f32 := constant S_ .f32 0x7F800000#32
  let main_v6 : FVec F S2x8192x1024 .f32 := broadcastInDim S2x8192x1024 ![] bcast_S_S2x8192x1024 main_cst
  let main_v7 : IVec S2x8192x1024 1 := cmpf .olt main_v0 main_v6
  let main_cst_0 : FVec F S_ .f32 := constant S_ .f32 0x7F800000#32
  let main_v8 : FVec F S_ .f32 := Host.negf main_cst_0
  let main_v9 : FVec F S2x8192x1024 .f32 := broadcastInDim S2x8192x1024 ![] bcast_S_S2x8192x1024 main_v8
  let main_v10 : IVec S2x8192x1024 1 := cmpf .ogt main_v0 main_v9
  let main_v11 : IVec S2x8192x1024 1 := andi main_v7 main_v10
  let main_cst_1 : FVec F S_ .f32 := constant S_ .f32 0x7F800000#32
  let main_v12 : FVec F S2x8192x1024 .f32 := broadcastInDim S2x8192x1024 ![] bcast_S_S2x8192x1024 main_cst_1
  let main_v13 : IVec S2x8192x1024 1 := cmpf .olt main_v1 main_v12
  let main_cst_2 : FVec F S_ .f32 := constant S_ .f32 0x7F800000#32
  let main_v14 : FVec F S_ .f32 := Host.negf main_cst_2
  let main_v15 : FVec F S2x8192x1024 .f32 := broadcastInDim S2x8192x1024 ![] bcast_S_S2x8192x1024 main_v14
  let main_v16 : IVec S2x8192x1024 1 := cmpf .ogt main_v1 main_v15
  let main_v17 : IVec S2x8192x1024 1 := andi main_v13 main_v16
  let main_cst_3 : FVec F S_ .f32 := constant S_ .f32 0x7F800000#32
  let main_v18 : FVec F S8x8x2x64x8x64 .f32 := broadcastInDim S8x8x2x64x8x64 ![] bcast_S_S8x8x2x64x8x64 main_cst_3
  fn_part1 (F := F) main_v2 main_v5 main_v11 main_v17 main_v18
-- ==== Band.lean ====
abbrev S2x8192x768 : Shape := ⟨3, ![2, 8192, 768]⟩
abbrev S2x8192x256 : Shape := ⟨3, ![2, 8192, 256]⟩
abbrev S12 : Shape := ⟨1, ![12]⟩
abbrev S1x128x768 : Shape := ⟨3, ![1, 128, 768]⟩
abbrev S1x128x256 : Shape := ⟨3, ![1, 128, 256]⟩
abbrev S128x256 : Shape := ⟨2, ![128, 256]⟩
abbrev S384x256 : Shape := ⟨2, ![384, 256]⟩
abbrev S128x384 : Shape := ⟨2, ![128, 384]⟩
abbrev S384x64 : Shape := ⟨2, ![384, 64]⟩
abbrev S1x128x64 : Shape := ⟨3, ![1, 128, 64]⟩
abbrev S128x64 : Shape := ⟨2, ![128, 64]⟩
abbrev S128 : Shape := ⟨1, ![128]⟩
abbrev S128x1 : Shape := ⟨2, ![128, 1]⟩
abbrev S1 : Shape := ⟨1, ![1]⟩

abbrev nBuf : Space → Nat
  | .hbm => 5
  | .vmem => 16
  | .smem => 1
  | _ => 0

abbrev bufTy : (tb : Table) → Fin (tcTables nBuf tb) → BufTy
  | .hbm, ⟨0, _⟩ => ⟨S2x8192x768, .bf16⟩
  | .hbm, ⟨1, _⟩ => ⟨S2x8192x256, .bf16⟩
  | .hbm, ⟨2, _⟩ => ⟨S2x8192x256, .bf16⟩
  | .hbm, ⟨3, _⟩ => ⟨S12, .f32⟩
  | .hbm, ⟨4, _⟩ => ⟨S2x8192x768, .bf16⟩
  | .local _ .vmem, ⟨0, _⟩ => ⟨S1x128x768, .bf16⟩
  | .local _ .vmem, ⟨1, _⟩ => ⟨S1x128x768, .bf16⟩
  | .local _ .vmem, ⟨2, _⟩ => ⟨S1x128x256, .bf16⟩
  | .local _ .vmem, ⟨3, _⟩ => ⟨S1x128x256, .bf16⟩
  | .local _ .vmem, ⟨4, _⟩ => ⟨S1x128x256, .bf16⟩
  | .local _ .vmem, ⟨5, _⟩ => ⟨S1x128x256, .bf16⟩
  | .local _ .vmem, ⟨6, _⟩ => ⟨S1x128x256, .bf16⟩
  | .local _ .vmem, ⟨7, _⟩ => ⟨S1x128x256, .bf16⟩
  | .local _ .vmem, ⟨8, _⟩ => ⟨S1x128x256, .bf16⟩
  | .local _ .vmem, ⟨9, _⟩ => ⟨S1x128x256, .bf16⟩
  | .local _ .vmem, ⟨10, _⟩ => ⟨S1x128x256, .bf16⟩
  | .local _ .vmem, ⟨11, _⟩ => ⟨S1x128x256, .bf16⟩
  | .local _ .vmem, ⟨12, _⟩ => ⟨S1x128x256, .bf16⟩
  | .local _ .vmem, ⟨13, _⟩ => ⟨S1x128x256, .bf16⟩
  | .local _ .vmem, ⟨14, _⟩ => ⟨S1x128x768, .bf16⟩
  | .local _ .vmem, ⟨15, _⟩ => ⟨S1x128x768, .bf16⟩
  | .local _ .smem, ⟨0, _⟩ => ⟨S12, .f32⟩
  | _, _ => ⟨S2x8192x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨3, ![2, 1, 64], ![false, false, false]⟩

def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let c0_i32 : BitVec 32 := 0#32
  let v1 : BitVec 32 := Scalar.addi v0 c0_i32
  let c0_i32_0 : BitVec 32 := 0#32
  ![arg0.toNat, arg2.toNat, v1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c1_i32_0 : BitVec 32 := 1#32
  let v2 : BitVec 32 := Scalar.muli arg1 c1_i32_0
  let c0_i32_1 : BitVec 32 := 0#32
  let v3 : BitVec 32 := Scalar.addi v2 c0_i32_1
  let c0_i32_2 : BitVec 32 := 0#32
  ![arg0.toNat, v1.toNat, v3.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let c0_i32 : BitVec 32 := 0#32
  let v1 : BitVec 32 := Scalar.addi v0 c0_i32
  let c0_i32_0 : BitVec 32 := 0#32
  ![arg0.toNat, arg2.toNat, v1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c63_i32 : BitVec 32 := 63#32
  let v1 : BitVec 32 := Scalar.minsi v0 c63_i32
  let c1_i32_0 : BitVec 32 := 1#32
  let v2 : BitVec 32 := Scalar.muli arg1 c1_i32_0
  let c0_i32 : BitVec 32 := 0#32
  let v3 : BitVec 32 := Scalar.addi v2 c0_i32
  let c0_i32_1 : BitVec 32 := 0#32
  ![arg0.toNat, v1.toNat, v3.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c1_i32_0 : BitVec 32 := 1#32
  let v2 : BitVec 32 := Scalar.muli arg1 c1_i32_0
  let c0_i32_1 : BitVec 32 := 0#32
  let v3 : BitVec 32 := Scalar.addi v2 c0_i32_1
  let c0_i32_2 : BitVec 32 := 0#32
  ![arg0.toNat, v1.toNat, v3.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let c0_i32 : BitVec 32 := 0#32
  let v1 : BitVec 32 := Scalar.addi v0 c0_i32
  let c0_i32_0 : BitVec 32 := 0#32
  ![arg0.toNat, arg2.toNat, v1.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c63_i32 : BitVec 32 := 63#32
  let v1 : BitVec 32 := Scalar.minsi v0 c63_i32
  let c1_i32_0 : BitVec 32 := 1#32
  let v2 : BitVec 32 := Scalar.muli arg1 c1_i32_0
  let c0_i32 : BitVec 32 := 0#32
  let v3 : BitVec 32 := Scalar.addi v2 c0_i32
  let c0_i32_1 : BitVec 32 := 0#32
  ![arg0.toNat, v1.toNat, v3.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .smem S12 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x128x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x128x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x128x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x128x768 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== BandIdeal.lean ====
variable {F : FTy → Type} [FloatOps F] [Named F]
def κ : String → Option EReal := fun
  | "mask" => some ⊥
  | _ => none
-- ==== BandRefIdeal.lean ====
abbrev S2x8192x768 : Shape := ⟨3, ![2, 8192, 768]⟩
abbrev S2x8192x256 : Shape := ⟨3, ![2, 8192, 256]⟩
abbrev S12 : Shape := ⟨1, ![12]⟩
abbrev S2x8192x4x3x64 : Shape := ⟨5, ![2, 8192, 4, 3, 64]⟩
abbrev S2x8192x4x64 : Shape := ⟨4, ![2, 8192, 4, 64]⟩
abbrev S4x3 : Shape := ⟨2, ![4, 3]⟩
abbrev S_ : Shape := ⟨0, ![]⟩
abbrev S2x8448x4x64 : Shape := ⟨4, ![2, 8448, 4, 64]⟩
abbrev S2x66x128x4x64 : Shape := ⟨5, ![2, 66, 128, 4, 64]⟩
abbrev S2x64x128x4x64 : Shape := ⟨5, ![2, 64, 128, 4, 64]⟩
abbrev S2x64x384x4x64 : Shape := ⟨5, ![2, 64, 384, 4, 64]⟩
abbrev S2x64x128x4x3x64 : Shape := ⟨6, ![2, 64, 128, 4, 3, 64]⟩
abbrev S8192 : Shape := ⟨1, ![8192]⟩
abbrev S64x128 : Shape := ⟨2, ![64, 128]⟩
abbrev S64 : Shape := ⟨1, ![64]⟩
abbrev S64x1 : Shape := ⟨2, ![64, 1]⟩
abbrev S384 : Shape := ⟨1, ![384]⟩
abbrev S1x384 : Shape := ⟨2, ![1, 384]⟩
abbrev S64x384 : Shape := ⟨2, ![64, 384]⟩
abbrev S64x128x1 : Shape := ⟨3, ![64, 128, 1]⟩
abbrev S64x1x384 : Shape := ⟨3, ![64, 1, 384]⟩
abbrev S64x128x384 : Shape := ⟨3, ![64, 128, 384]⟩
abbrev S2x64x4x384x128x3 : Shape := ⟨6, ![2, 64, 4, 384, 128, 3]⟩
abbrev S2x64x4x3x128x384 : Shape := ⟨6, ![2, 64, 4, 3, 128, 384]⟩
abbrev S1x64x1x1x128x384 : Shape := ⟨6, ![1, 64, 1, 1, 128, 384]⟩
abbrev S2x64x4x3x128 : Shape := ⟨5, ![2, 64, 4, 3, 128]⟩
abbrev S4x3x1 : Shape := ⟨3, ![4, 3, 1]⟩
abbrev S1x1x4x3x1 : Shape := ⟨5, ![1, 1, 4, 3, 1]⟩
abbrev S2x64x4x3x128x1 : Shape := ⟨6, ![2, 64, 4, 3, 128, 1]⟩
abbrev S2x64x4x64x3x128 : Shape := ⟨6, ![2, 64, 4, 64, 3, 128]⟩

abbrev nBuf : Space → Nat
  | .hbm => 95
  | .vmem => 0
  | .smem => 0
  | _ => 0

abbrev bufTy : (tb : Table) → Fin (tcTables nBuf tb) → BufTy
  | .hbm, ⟨0, _⟩ => ⟨S2x8192x768, .bf16⟩
  | .hbm, ⟨1, _⟩ => ⟨S2x8192x256, .bf16⟩
  | .hbm, ⟨2, _⟩ => ⟨S2x8192x256, .bf16⟩
  | .hbm, ⟨3, _⟩ => ⟨S12, .f32⟩
  | .hbm, ⟨4, _⟩ => ⟨S2x8192x768, .f32⟩
  | .hbm, ⟨5, _⟩ => ⟨S2x8192x4x3x64, .f32⟩
  | .hbm, ⟨6, _⟩ => ⟨S2x8192x256, .f32⟩
  | .hbm, ⟨7, _⟩ => ⟨S2x8192x4x64, .f32⟩
  | .hbm, ⟨8, _⟩ => ⟨S2x8192x256, .f32⟩
  | .hbm, ⟨9, _⟩ => ⟨S2x8192x4x64, .f32⟩
  | .hbm, ⟨10, _⟩ => ⟨S4x3, .f32⟩
  | .hbm, ⟨11, _⟩ => ⟨S_, .i32⟩
  | .hbm, ⟨12, _⟩ => ⟨S_, .f32⟩
  | .hbm, ⟨13, _⟩ => ⟨S2x8448x4x64, .f32⟩
  | .hbm, ⟨14, _⟩ => ⟨S2x66x128x4x64, .f32⟩
  | .hbm, ⟨15, _⟩ => ⟨S_, .i32⟩
  | .hbm, ⟨16, _⟩ => ⟨S_, .f32⟩
  | .hbm, ⟨17, _⟩ => ⟨S2x8448x4x64, .f32⟩
  | .hbm, ⟨18, _⟩ => ⟨S2x66x128x4x64, .f32⟩
  | .hbm, ⟨19, _⟩ => ⟨S2x64x128x4x64, .f32⟩
  | .hbm, ⟨20, _⟩ => ⟨S2x64x128x4x64, .f32⟩
  | .hbm, ⟨21, _⟩ => ⟨S2x64x128x4x64, .f32⟩
  | .hbm, ⟨22, _⟩ => ⟨S2x64x384x4x64, .f32⟩
  | .hbm, ⟨23, _⟩ => ⟨S2x64x128x4x64, .f32⟩
  | .hbm, ⟨24, _⟩ => ⟨S2x64x128x4x64, .f32⟩
  | .hbm, ⟨25, _⟩ => ⟨S2x64x128x4x64, .f32⟩
  | .hbm, ⟨26, _⟩ => ⟨S2x64x384x4x64, .f32⟩
  | .hbm, ⟨27, _⟩ => ⟨S2x64x128x4x3x64, .f32⟩
  | .hbm, ⟨28, _⟩ => ⟨S8192, .i32⟩
  | .hbm, ⟨29, _⟩ => ⟨S64x128, .i32⟩
  | .hbm, ⟨30, _⟩ => ⟨S64, .i32⟩
  | .hbm, ⟨31, _⟩ => ⟨S64x1, .i32⟩
  | .hbm, ⟨32, _⟩ => ⟨S_, .i32⟩
  | .hbm, ⟨33, _⟩ => ⟨S64x1, .i32⟩
  | .hbm, ⟨34, _⟩ => ⟨S64x1, .i32⟩
  | .hbm, ⟨35, _⟩ => ⟨S_, .i32⟩
  | .hbm, ⟨36, _⟩ => ⟨S64x1, .i32⟩
  | .hbm, ⟨37, _⟩ => ⟨S64x1, .i32⟩
  | .hbm, ⟨38, _⟩ => ⟨S384, .i32⟩
  | .hbm, ⟨39, _⟩ => ⟨S1x384, .i32⟩
  | .hbm, ⟨40, _⟩ => ⟨S64x384, .i32⟩
  | .hbm, ⟨41, _⟩ => ⟨S64x384, .i32⟩
  | .hbm, ⟨42, _⟩ => ⟨S64x384, .i32⟩
  | .hbm, ⟨43, _⟩ => ⟨S64x128x1, .i32⟩
  | .hbm, ⟨44, _⟩ => ⟨S64x1x384, .i32⟩
  | .hbm, ⟨45, _⟩ => ⟨S64x128x384, .i32⟩
  | .hbm, ⟨46, _⟩ => ⟨S64x128x384, .i32⟩
  | .hbm, ⟨47, _⟩ => ⟨S64x128x384, .i32⟩
  | .hbm, ⟨48, _⟩ => ⟨S64x128x384, .i32⟩
  | .hbm, ⟨49, _⟩ => ⟨S_, .i32⟩
  | .hbm, ⟨50, _⟩ => ⟨S64x128x384, .i32⟩
  | .hbm, ⟨51, _⟩ => ⟨S64x128x384, .i1⟩
  | .hbm, ⟨52, _⟩ => ⟨S_, .i32⟩
  | .hbm, ⟨53, _⟩ => ⟨S64x384, .i32⟩
  | .hbm, ⟨54, _⟩ => ⟨S64x384, .i1⟩
  | .hbm, ⟨55, _⟩ => ⟨S_, .i32⟩
  | .hbm, ⟨56, _⟩ => ⟨S64x384, .i32⟩
  | .hbm, ⟨57, _⟩ => ⟨S64x384, .i1⟩
  | .hbm, ⟨58, _⟩ => ⟨S64x384, .i1⟩
  | .hbm, ⟨59, _⟩ => ⟨S64x1x384, .i1⟩
  | .hbm, ⟨60, _⟩ => ⟨S64x128x384, .i1⟩
  | .hbm, ⟨61, _⟩ => ⟨S64x128x384, .i1⟩
  | .hbm, ⟨62, _⟩ => ⟨S2x64x4x384x128x3, .f32⟩
  | .hbm, ⟨63, _⟩ => ⟨S2x64x4x3x128x384, .f32⟩
  | .hbm, ⟨64, _⟩ => ⟨S1x64x1x1x128x384, .i1⟩
  | .hbm, ⟨65, _⟩ => ⟨S_, .f32⟩
  | .hbm, ⟨66, _⟩ => ⟨S_, .f32⟩
  | .hbm, ⟨67, _⟩ => ⟨S2x64x4x3x128x384, .i1⟩
  | .hbm, ⟨68, _⟩ => ⟨S2x64x4x3x128x384, .f32⟩
  | .hbm, ⟨69, _⟩ => ⟨S2x64x4x3x128x384, .f32⟩
  | .hbm, ⟨70, _⟩ => ⟨S_, .f32⟩
  | .hbm, ⟨71, _⟩ => ⟨S2x64x4x3x128, .f32⟩
  | .hbm, ⟨72, _⟩ => ⟨S4x3x1, .f32⟩
  | .hbm, ⟨73, _⟩ => ⟨S1x1x4x3x1, .f32⟩
  | .hbm, ⟨74, _⟩ => ⟨S2x64x4x3x128, .f32⟩
  | .hbm, ⟨75, _⟩ => ⟨S2x64x4x3x128, .f32⟩
  | .hbm, ⟨76, _⟩ => ⟨S2x64x4x3x128x1, .f32⟩
  | .hbm, ⟨77, _⟩ => ⟨S2x64x4x3x128x384, .f32⟩
  | .hbm, ⟨78, _⟩ => ⟨S2x64x4x3x128x384, .f32⟩
  | .hbm, ⟨79, _⟩ => ⟨S2x64x4x3x128x384, .f32⟩
  | .hbm, ⟨80, _⟩ => ⟨S_, .f32⟩
  | .hbm, ⟨81, _⟩ => ⟨S2x64x4x3x128, .f32⟩
  | .hbm, ⟨82, _⟩ => ⟨S4x3x1, .f32⟩
  | .hbm, ⟨83, _⟩ => ⟨S1x1x4x3x1, .f32⟩
  | .hbm, ⟨84, _⟩ => ⟨S2x64x4x3x128, .f32⟩
  | .hbm, ⟨85, _⟩ => ⟨S2x64x4x3x128, .f32⟩
  | .hbm, ⟨86, _⟩ => ⟨S2x64x4x3x128, .f32⟩
  | .hbm, ⟨87, _⟩ => ⟨S2x64x4x3x128, .f32⟩
  | .hbm, ⟨88, _⟩ => ⟨S2x64x4x3x128x1, .f32⟩
  | .hbm, ⟨89, _⟩ => ⟨S2x64x4x3x128x384, .f32⟩
  | .hbm, ⟨90, _⟩ => ⟨S2x64x4x3x128x384, .f32⟩
  | .hbm, ⟨91, _⟩ => ⟨S2x64x4x64x3x128, .f32⟩
  | .hbm, ⟨92, _⟩ => ⟨S2x64x128x4x3x64, .f32⟩
  | .hbm, ⟨93, _⟩ => ⟨S2x8192x768, .f32⟩
  | .hbm, ⟨94, _⟩ => ⟨S2x8192x768, .bf16⟩
  | _, _ => ⟨S2x8192x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_call0_v0 : Ref sig .tc := ⟨.hbm, 12, rfl⟩
abbrev main_v7 : Ref sig .tc := ⟨.hbm, 13, rfl⟩
abbrev main_v8 : Ref sig .tc := ⟨.hbm, 14, rfl⟩
abbrev main_c_0 : Ref sig .tc := ⟨.hbm, 15, rfl⟩
abbrev main_call1_v0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_c_1 : Ref sig .tc := ⟨.hbm, 32, rfl⟩
abbrev main_v24 : Ref sig .tc := ⟨.hbm, 33, rfl⟩
abbrev main_v25 : Ref sig .tc := ⟨.hbm, 34, rfl⟩
abbrev main_c_2 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_c_3 : Ref sig .tc := ⟨.hbm, 49, rfl⟩
abbrev main_v39 : Ref sig .tc := ⟨.hbm, 50, rfl⟩
abbrev main_v40 : Ref sig .tc := ⟨.hbm, 51, rfl⟩
abbrev main_c_4 : Ref sig .tc := ⟨.hbm, 52, rfl⟩
abbrev main_v41 : Ref sig .tc := ⟨.hbm, 53, rfl⟩
abbrev main_v42 : Ref sig .tc := ⟨.hbm, 54, rfl⟩
abbrev main_c_5 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_cst : Ref sig .tc := ⟨.hbm, 65, rfl⟩
abbrev main_call2_v0 : Ref sig .tc := ⟨.hbm, 66, rfl⟩
abbrev main_call2_v1 : Ref sig .tc := ⟨.hbm, 67, rfl⟩
abbrev main_call2_v2 : Ref sig .tc := ⟨.hbm, 68, rfl⟩
abbrev main_v52 : Ref sig .tc := ⟨.hbm, 69, rfl⟩
abbrev main_cst_6 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_cst_7 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩

abbrev nD : Nat := 1
abbrev τ : Topo := Topo.v7x

variable {F : FTy → Type} [FloatOps F]
-- ==== Ffn.lean ====
abbrev S16384x1024 : Shape := ⟨2, ![16384, 1024]⟩
abbrev S4x1x1024 : Shape := ⟨3, ![4, 1, 1024]⟩
abbrev S4x1024x2816 : Shape := ⟨3, ![4, 1024, 2816]⟩
abbrev S4x2816x1024 : Shape := ⟨3, ![4, 2816, 1024]⟩
abbrev S512x1024 : Shape := ⟨2, ![512, 1024]⟩
abbrev S1x1x1024 : Shape := ⟨3, ![1, 1, 1024]⟩
abbrev S1x1024x2816 : Shape := ⟨3, ![1, 1024, 2816]⟩
abbrev S1x2816x1024 : Shape := ⟨3, ![1, 2816, 1024]⟩
abbrev S512x2816 : Shape := ⟨2, ![512, 2816]⟩
abbrev S1x1024 : Shape := ⟨2, ![1, 1024]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S512x256 : Shape := ⟨2, ![512, 256]⟩
abbrev S2816x1024 : Shape := ⟨2, ![2816, 1024]⟩

abbrev nBuf : Space → Nat
  | .hbm => 6
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S4x1x1024, .f32⟩
  | .hbm, ⟨2, _⟩ => ⟨S4x1024x2816, .bf16⟩
  | .hbm, ⟨3, _⟩ => ⟨S4x1024x2816, .bf16⟩
  | .hbm, ⟨4, _⟩ => ⟨S4x2816x1024, .bf16⟩
  | .hbm, ⟨5, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1024x2816, .bf16⟩
  | .local _ .vmem, ⟨4, _⟩ => ⟨S1x1024x2816, .bf16⟩
  | .local _ .vmem, ⟨5, _⟩ => ⟨S1x2816x1024, .bf16⟩
  | .local _ .vmem, ⟨6, _⟩ => ⟨S512x1024, .f32⟩
  | .local _ .vmem, ⟨7, _⟩ => ⟨S512x1024, .f32⟩
  | .local _ .vmem, ⟨8, _⟩ => ⟨S512x2816, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnRefIdeal.lean ====
abbrev S16384x1024 : Shape := ⟨2, ![16384, 1024]⟩
abbrev S4x1x1024 : Shape := ⟨3, ![4, 1, 1024]⟩
abbrev S4x1024x2816 : Shape := ⟨3, ![4, 1024, 2816]⟩
abbrev S4x2816x1024 : Shape := ⟨3, ![4, 2816, 1024]⟩
abbrev S1x1x1024 : Shape := ⟨3, ![1, 1, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S16384x2816 : Shape := ⟨2, ![16384, 2816]⟩

abbrev nBuf : Space → Nat
  | .hbm => 49
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S4x1x1024, .f32⟩
  | .hbm, ⟨2, _⟩ => ⟨S4x1024x2816, .bf16⟩
  | .hbm, ⟨3, _⟩ => ⟨S4x1024x2816, .bf16⟩
  | .hbm, ⟨4, _⟩ => ⟨S4x2816x1024, .bf16⟩
  | .hbm, ⟨5, _⟩ => ⟨S1x1x1024, .f32⟩
  | .hbm, ⟨6, _⟩ => ⟨S1024, .f32⟩
  | .hbm, ⟨7, _⟩ => ⟨S16384x1024, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x1024, .f32⟩
  | .hbm, ⟨19, _⟩ => ⟨S16384x1024, .f32⟩
  | .hbm, ⟨20, _⟩ => ⟨S1x1024, .f32⟩
  | .hbm, ⟨21, _⟩ => ⟨S16384x1024, .f32⟩
  | .hbm, ⟨22, _⟩ => ⟨S16384x1024, .f32⟩
  | .hbm, ⟨23, _⟩ => ⟨S1x1024x2816, .bf16⟩
  | .hbm, ⟨24, _⟩ => ⟨S1024x2816, .bf16⟩
  | .hbm, ⟨25, _⟩ => ⟨S1024x2816, .f32⟩
  | .hbm, ⟨26, _⟩ => ⟨S1x1024x2816, .bf16⟩
  | .hbm, ⟨27, _⟩ => ⟨S1024x2816, .bf16⟩
  | .hbm, ⟨28, _⟩ => ⟨S1024x2816, .f32⟩
  | .hbm, ⟨29, _⟩ => ⟨S1x2816x1024, .bf16⟩
  | .hbm, ⟨30, _⟩ => ⟨S2816x1024, .bf16⟩
  | .hbm, ⟨31, _⟩ => ⟨S2816x1024, .f32⟩
  | .hbm, ⟨32, _⟩ => ⟨S16384x2816, .f32⟩
  | .hbm, ⟨33, _⟩ => ⟨S16384x2816, .f32⟩
  | .hbm, ⟨34, _⟩ => ⟨S16384x2816, .f32⟩
  | .hbm, ⟨35, _⟩ => ⟨S_, .f32⟩
  | .hbm, ⟨36, _⟩ => ⟨S16384x2816, .f32⟩
  | .hbm, ⟨37, _⟩ => ⟨S16384x2816, .f32⟩
  | .hbm, ⟨38, _⟩ => ⟨S_, .f32⟩
  | .hbm, ⟨39, _⟩ => ⟨S16384x2816, .f32⟩
  | .hbm, ⟨40, _⟩ => ⟨S16384x2816, .f32⟩
  | .hbm, ⟨41, _⟩ => ⟨S16384x2816, .f32⟩
  | .hbm, ⟨42, _⟩ => ⟨S16384x2816, .f32⟩
  | .hbm, ⟨43, _⟩ => ⟨S16384x2816, .f32⟩
  | .hbm, ⟨44, _⟩ => ⟨S16384x1024, .f32⟩
  | .hbm, ⟨45, _⟩ => ⟨S_, .f32⟩
  | .hbm, ⟨46, _⟩ => ⟨S16384x1024, .f32⟩
  | .hbm, ⟨47, _⟩ => ⟨S16384x1024, .f32⟩
  | .hbm, ⟨48, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_2 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩

abbrev nD : Nat := 1
abbrev τ : Topo := Topo.v7x

variable {F : FTy → Type} [FloatOps F]
-- ==== Ple.lean ====
abbrev S16384x1024 : Shape := ⟨2, ![16384, 1024]⟩
abbrev S4x1x1024 : Shape := ⟨3, ![4, 1, 1024]⟩
abbrev S4x1024x1024 : Shape := ⟨3, ![4, 1024, 1024]⟩
abbrev S4x16384x256 : Shape := ⟨3, ![4, 16384, 256]⟩
abbrev S4x256x1024 : Shape := ⟨3, ![4, 256, 1024]⟩
abbrev S1x1024 : Shape := ⟨2, ![1, 1024]⟩
abbrev S512x1024 : Shape := ⟨2, ![512, 1024]⟩
abbrev S1x1x1024 : Shape := ⟨3, ![1, 1, 1024]⟩
abbrev S1x1024x1024 : Shape := ⟨3, ![1, 1024, 1024]⟩
abbrev S1x512x256 : Shape := ⟨3, ![1, 512, 256]⟩
abbrev S1x256x1024 : Shape := ⟨3, ![1, 256, 1024]⟩
abbrev S512 : Shape := ⟨1, ![512]⟩
abbrev S512x1 : Shape := ⟨2, ![512, 1]⟩
abbrev S1024x1024 : Shape := ⟨2, ![1024, 1024]⟩
abbrev S512x256 : Shape := ⟨2, ![512, 256]⟩
abbrev S256x1024 : Shape := ⟨2, ![256, 1024]⟩

abbrev nBuf : Space → Nat
  | .hbm => 7
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S4x1x1024, .f32⟩
  | .hbm, ⟨2, _⟩ => ⟨S4x1024x1024, .bf16⟩
  | .hbm, ⟨3, _⟩ => ⟨S4x16384x256, .f32⟩
  | .hbm, ⟨4, _⟩ => ⟨S4x256x1024, .bf16⟩
  | .hbm, ⟨5, _⟩ => ⟨S1x1024, .f32⟩
  | .hbm, ⟨6, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1024x1024, .bf16⟩
  | .local _ .vmem, ⟨4, _⟩ => ⟨S1x512x256, .f32⟩
  | .local _ .vmem, ⟨5, _⟩ => ⟨S1x512x256, .f32⟩
  | .local _ .vmem, ⟨6, _⟩ => ⟨S1x256x1024, .bf16⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_4 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== PleRefIdeal.lean ====
abbrev S16384x1024 : Shape := ⟨2, ![16384, 1024]⟩
abbrev S4x1x1024 : Shape := ⟨3, ![4, 1, 1024]⟩
abbrev S4x1024x1024 : Shape := ⟨3, ![4, 1024, 1024]⟩
abbrev S4x16384x256 : Shape := ⟨3, ![4, 16384, 256]⟩
abbrev S4x256x1024 : Shape := ⟨3, ![4, 256, 1024]⟩
abbrev S1x1024 : Shape := ⟨2, ![1, 1024]⟩
abbrev S1x1x1024 : Shape := ⟨3, ![1, 1, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024x1024 : Shape := ⟨3, ![1, 1024, 1024]⟩
abbrev S1024x1024 : Shape := ⟨2, ![1024, 1024]⟩
abbrev S1x16384x256 : Shape := ⟨3, ![1, 16384, 256]⟩
abbrev S16384x256 : Shape := ⟨2, ![16384, 256]⟩
abbrev S1x256x1024 : Shape := ⟨3, ![1, 256, 1024]⟩
abbrev S256x1024 : Shape := ⟨2, ![256, 1024]⟩

abbrev nBuf : Space → Nat
  | .hbm => 61
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S4x1x1024, .f32⟩
  | .hbm, ⟨2, _⟩ => ⟨S4x1024x1024, .bf16⟩
  | .hbm, ⟨3, _⟩ => ⟨S4x16384x256, .f32⟩
  | .hbm, ⟨4, _⟩ => ⟨S4x256x1024, .bf16⟩
  | .hbm, ⟨5, _⟩ => ⟨S1x1024, .f32⟩
  | .hbm, ⟨6, _⟩ => ⟨S1x1x1024, .f32⟩
  | .hbm, ⟨7, _⟩ => ⟨S1024, .f32⟩
  | .hbm, ⟨8, _⟩ => ⟨S16384x1024, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S16384x1024, .f32⟩
  | .hbm, ⟨20, _⟩ => ⟨S16384x1024, .f32⟩
  | .hbm, ⟨21, _⟩ => ⟨S1x1024, .f32⟩
  | .hbm, ⟨22, _⟩ => ⟨S16384x1024, .f32⟩
  | .hbm, ⟨23, _⟩ => ⟨S16384x1024, .f32⟩
  | .hbm, ⟨24, _⟩ => ⟨S1x1024x1024, .bf16⟩
  | .hbm, ⟨25, _⟩ => ⟨S1024x1024, .bf16⟩
  | .hbm, ⟨26, _⟩ => ⟨S1024x1024, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S_, .f32⟩
  | .hbm, ⟨31, _⟩ => ⟨S16384x1024, .f32⟩
  | .hbm, ⟨32, _⟩ => ⟨S16384x1024, .f32⟩
  | .hbm, ⟨33, _⟩ => ⟨S_, .f32⟩
  | .hbm, ⟨34, _⟩ => ⟨S16384x1024, .f32⟩
  | .hbm, ⟨35, _⟩ => ⟨S16384x1024, .f32⟩
  | .hbm, ⟨36, _⟩ => ⟨S1x16384x256, .f32⟩
  | .hbm, ⟨37, _⟩ => ⟨S16384x256, .f32⟩
  | .hbm, ⟨38, _⟩ => ⟨S1x256x1024, .bf16⟩
  | .hbm, ⟨39, _⟩ => ⟨S256x1024, .bf16⟩
  | .hbm, ⟨40, _⟩ => ⟨S256x1024, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S1024, .f32⟩
  | .hbm, ⟨45, _⟩ => ⟨S16384x1024, .f32⟩
  | .hbm, ⟨46, _⟩ => ⟨S_, .f32⟩
  | .hbm, ⟨47, _⟩ => ⟨S16384, .f32⟩
  | .hbm, ⟨48, _⟩ => ⟨S16384x1, .f32⟩
  | .hbm, ⟨49, _⟩ => ⟨S_, .f32⟩
  | .hbm, ⟨50, _⟩ => ⟨S16384x1, .f32⟩
  | .hbm, ⟨51, _⟩ => ⟨S16384x1, .f32⟩
  | .hbm, ⟨52, _⟩ => ⟨S_, .f32⟩
  | .hbm, ⟨53, _⟩ => ⟨S16384x1, .f32⟩
  | .hbm, ⟨54, _⟩ => ⟨S16384x1, .f32⟩
  | .hbm, ⟨55, _⟩ => ⟨S16384x1, .f32⟩
  | .hbm, ⟨56, _⟩ => ⟨S16384x1024, .f32⟩
  | .hbm, ⟨57, _⟩ => ⟨S16384x1024, .f32⟩
  | .hbm, ⟨58, _⟩ => ⟨S1x1024, .f32⟩
  | .hbm, ⟨59, _⟩ => ⟨S16384x1024, .f32⟩
  | .hbm, ⟨60, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_4 : Ref sig .tc := ⟨.hbm, 46, rfl⟩
abbrev main_v35 : Ref sig .tc := ⟨.hbm, 47, rfl⟩
abbrev main_v36 : Ref sig .tc := ⟨.hbm, 48, rfl⟩
abbrev main_cst_5 : Ref sig .tc := ⟨.hbm, 49, rfl⟩
abbrev main_v37 : Ref sig .tc := ⟨.hbm, 50, rfl⟩
abbrev main_v38 : Ref sig .tc := ⟨.hbm, 51, rfl⟩
abbrev main_cst_6 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩

abbrev nD : Nat := 1
abbrev τ : Topo := Topo.v7x

variable {F : FTy → Type} [FloatOps F]
-- ==== InC.lean ====
abbrev S16384x1024 : Shape := ⟨2, ![16384, 1024]⟩
abbrev S4x1x1024 : Shape := ⟨3, ![4, 1, 1024]⟩
abbrev S2x1024x3072 : Shape := ⟨3, ![2, 1024, 3072]⟩
abbrev S512x1024 : Shape := ⟨2, ![512, 1024]⟩
abbrev S1x1x1024 : Shape := ⟨3, ![1, 1, 1024]⟩
abbrev S1x1024x3072 : Shape := ⟨3, ![1, 1024, 3072]⟩
abbrev S1x1024 : Shape := ⟨2, ![1, 1024]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S512x256 : Shape := ⟨2, ![512, 256]⟩

abbrev nBuf : Space → Nat
  | .hbm => 6
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S4x1x1024, .f32⟩
  | .hbm, ⟨2, _⟩ => ⟨S2x1024x3072, .bf16⟩
  | .hbm, ⟨3, _⟩ => ⟨S16384x1024, .bf16⟩
  | .hbm, ⟨4, _⟩ => ⟨S16384x1024, .bf16⟩
  | .hbm, ⟨5, _⟩ => ⟨S16384x1024, .bf16⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1024x3072, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== InCRefIdeal.lean ====
abbrev S16384x1024 : Shape := ⟨2, ![16384, 1024]⟩
abbrev S4x1x1024 : Shape := ⟨3, ![4, 1, 1024]⟩
abbrev S2x1024x3072 : Shape := ⟨3, ![2, 1024, 3072]⟩
abbrev S1x1x1024 : Shape := ⟨3, ![1, 1, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1x1024x3072 : Shape := ⟨3, ![1, 1024, 3072]⟩
abbrev S1024x3072 : Shape := ⟨2, ![1024, 3072]⟩
abbrev S16384x3072 : Shape := ⟨2, ![16384, 3072]⟩

abbrev nBuf : Space → Nat
  | .hbm => 34
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S4x1x1024, .f32⟩
  | .hbm, ⟨2, _⟩ => ⟨S2x1024x3072, .bf16⟩
  | .hbm, ⟨3, _⟩ => ⟨S1x1x1024, .f32⟩
  | .hbm, ⟨4, _⟩ => ⟨S1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S1x1024x3072, .bf16⟩
  | .hbm, ⟨22, _⟩ => ⟨S1024x3072, .bf16⟩
  | .hbm, ⟨23, _⟩ => ⟨S1024x3072, .f32⟩
  | .hbm, ⟨24, _⟩ => ⟨S16384x3072, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S16384x1024, .f32⟩
  | .hbm, ⟨30, _⟩ => ⟨S16384x1024, .f32⟩
  | .hbm, ⟨31, _⟩ => ⟨S16384x1024, .bf16⟩
  | .hbm, ⟨32, _⟩ => ⟨S16384x1024, .bf16⟩
  | .hbm, ⟨33, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩

abbrev nD : Nat := 1
abbrev τ : Topo := Topo.v7x

variable {F : FTy → Type} [FloatOps F]
-- ==== OutC.lean ====
abbrev S16384x1024 : Shape := ⟨2, ![16384, 1024]⟩
abbrev S2x1024x1024 : Shape := ⟨3, ![2, 1024, 1024]⟩
abbrev S512x1024 : Shape := ⟨2, ![512, 1024]⟩
abbrev S1x1024x1024 : Shape := ⟨3, ![1, 1024, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S2x1024x1024, .bf16⟩
  | .hbm, ⟨3, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1x1024x1024, .bf16⟩
  | .local _ .vmem, ⟨5, _⟩ => ⟨S512x1024, .f32⟩
  | .local _ .vmem, ⟨6, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== OutCRefIdeal.lean ====
abbrev S16384x1024 : Shape := ⟨2, ![16384, 1024]⟩
abbrev S2x1024x1024 : Shape := ⟨3, ![2, 1024, 1024]⟩
abbrev S1x1024x1024 : Shape := ⟨3, ![1, 1024, 1024]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S2x1024x1024, .bf16⟩
  | .hbm, ⟨3, _⟩ => ⟨S16384x1024, .f32⟩
  | .hbm, ⟨4, _⟩ => ⟨S1x1024x1024, .bf16⟩
  | .hbm, ⟨5, _⟩ => ⟨S1024x1024, .bf16⟩
  | .hbm, ⟨6, _⟩ => ⟨S1024x1024, .f32⟩
  | .hbm, ⟨7, _⟩ => ⟨S16384x1024, .f32⟩
  | .hbm, ⟨8, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== InAB.lean ====
abbrev S16384x1024 : Shape := ⟨2, ![16384, 1024]⟩
abbrev S4x1x1024 : Shape := ⟨3, ![4, 1, 1024]⟩
abbrev S2x1024x3584 : Shape := ⟨3, ![2, 1024, 3584]⟩
abbrev S32 : Shape := ⟨1, ![32]⟩
abbrev S_ : Shape := ⟨0, ![]⟩
abbrev S8192 : Shape := ⟨1, ![8192]⟩
abbrev S8192x1 : Shape := ⟨2, ![8192, 1]⟩
abbrev S1x32 : Shape := ⟨2, ![1, 32]⟩
abbrev S8192x32 : Shape := ⟨2, ![8192, 32]⟩
abbrev S8192x64 : Shape := ⟨2, ![8192, 64]⟩
abbrev S1x8192x1x64 : Shape := ⟨4, ![1, 8192, 1, 64]⟩
abbrev S1x8192x2x64 : Shape := ⟨4, ![1, 8192, 2, 64]⟩
abbrev S8192x128 : Shape := ⟨2, ![8192, 128]⟩
abbrev S16384x768 : Shape := ⟨2, ![16384, 768]⟩
abbrev S16384x256 : Shape := ⟨2, ![16384, 256]⟩
abbrev S16384x2304 : Shape := ⟨2, ![16384, 2304]⟩
abbrev S512x1024 : Shape := ⟨2, ![512, 1024]⟩
abbrev S1x1x1024 : Shape := ⟨3, ![1, 1, 1024]⟩
abbrev S1x1024x3584 : Shape := ⟨3, ![1, 1024, 3584]⟩
abbrev S512x128 : Shape := ⟨2, ![512, 128]⟩
abbrev S512x768 : Shape := ⟨2, ![512, 768]⟩
abbrev S512x256 : Shape := ⟨2, ![512, 256]⟩
abbrev S512x2304 : Shape := ⟨2, ![512, 2304]⟩
abbrev S1x1024 : Shape := ⟨2, ![1, 1024]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩

abbrev nBuf : Space → Nat
  | .hbm => 33
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S4x1x1024, .f32⟩
  | .hbm, ⟨2, _⟩ => ⟨S2x1024x3584, .bf16⟩
  | .hbm, ⟨3, _⟩ => ⟨S32, .f32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S8192, .i32⟩
  | .hbm, ⟨12, _⟩ => ⟨S8192, .f32⟩
  | .hbm, ⟨13, _⟩ => ⟨S8192x1, .f32⟩
  | .hbm, ⟨14, _⟩ => ⟨S1x32, .f32⟩
  | .hbm, ⟨15, _⟩ => ⟨S8192x32, .f32⟩
  | .hbm, ⟨16, _⟩ => ⟨S8192x32, .f32⟩
  | .hbm, ⟨17, _⟩ => ⟨S8192x32, .f32⟩
  | .hbm, ⟨18, _⟩ => ⟨S8192x32, .f32⟩
  | .hbm, ⟨19, _⟩ => ⟨S8192x32, .f32⟩
  | .hbm, ⟨20, _⟩ => ⟨S8192x64, .f32⟩
  | .hbm, ⟨21, _⟩ => ⟨S1x8192x1x64, .f32⟩
  | .hbm, ⟨22, _⟩ => ⟨S1x8192x2x64, .f32⟩
  | .hbm, ⟨23, _⟩ => ⟨S8192x128, .f32⟩
  | .hbm, ⟨24, _⟩ => ⟨S8192x32, .f32⟩
  | .hbm, ⟨25, _⟩ => ⟨S8192x64, .f32⟩
  | .hbm, ⟨26, _⟩ => ⟨S1x8192x1x64, .f32⟩
  | .hbm, ⟨27, _⟩ => ⟨S1x8192x2x64, .f32⟩
  | .hbm, ⟨28, _⟩ => ⟨S8192x128, .f32⟩
  | .hbm, ⟨29, _⟩ => ⟨S16384x768, .bf16⟩
  | .hbm, ⟨30, _⟩ => ⟨S16384x256, .bf16⟩
  | .hbm, ⟨31, _⟩ => ⟨S16384x256, .bf16⟩
  | .hbm, ⟨32, _⟩ => ⟨S16384x2304, .bf16⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1024x3584, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x768, .bf16⟩
  | .local _ .vmem, ⟨9, _⟩ => ⟨S512x768, .bf16⟩
  | .local _ .vmem, ⟨10, _⟩ => ⟨S512x256, .bf16⟩
  | .local _ .vmem, ⟨11, _⟩ => ⟨S512x256, .bf16⟩
  | .local _ .vmem, ⟨12, _⟩ => ⟨S512x256, .bf16⟩
  | .local _ .vmem, ⟨13, _⟩ => ⟨S512x256, .bf16⟩
  | .local _ .vmem, ⟨14, _⟩ => ⟨S512x2304, .bf16⟩
  | .local _ .vmem, ⟨15, _⟩ => ⟨S512x2304, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24_0 : Ref sig .tc := ⟨.hbm, 29, rfl⟩
abbrev main_v24_1 : Ref sig .tc := ⟨.hbm, 30, rfl⟩
abbrev main_v24_2 : Ref sig .tc := ⟨.hbm, 31, rfl⟩
abbrev main_v24_3 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x3584 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2304 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== InABRefIdeal.lean ====
abbrev S16384x1024 : Shape := ⟨2, ![16384, 1024]⟩
abbrev S4x1x1024 : Shape := ⟨3, ![4, 1, 1024]⟩
abbrev S2x1024x3584 : Shape := ⟨3, ![2, 1024, 3584]⟩
abbrev S8192 : Shape := ⟨1, ![8192]⟩
abbrev S1x1x1024 : Shape := ⟨3, ![1, 1, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1x1024x3584 : Shape := ⟨3, ![1, 1024, 3584]⟩
abbrev S1024x3584 : Shape := ⟨2, ![1024, 3584]⟩
abbrev S16384x3584 : Shape := ⟨2, ![16384, 3584]⟩
abbrev S2x8192x3584 : Shape := ⟨3, ![2, 8192, 3584]⟩
abbrev S2x8192x768 : Shape := ⟨3, ![2, 8192, 768]⟩
abbrev S2x8192x256 : Shape := ⟨3, ![2, 8192, 256]⟩
abbrev S2x8192x12x64 : Shape := ⟨4, ![2, 8192, 12, 64]⟩
abbrev S32 : Shape := ⟨1, ![32]⟩
abbrev S8192x1 : Shape := ⟨2, ![8192, 1]⟩
abbrev S1x32 : Shape := ⟨2, ![1, 32]⟩
abbrev S8192x32 : Shape := ⟨2, ![8192, 32]⟩
abbrev S1x8192x1x32 : Shape := ⟨4, ![1, 8192, 1, 32]⟩
abbrev S2x8192x12x32 : Shape := ⟨4, ![2, 8192, 12, 32]⟩
abbrev S16384x768 : Shape := ⟨2, ![16384, 768]⟩
abbrev S2x8192x4x64 : Shape := ⟨4, ![2, 8192, 4, 64]⟩
abbrev S2x8192x4x32 : Shape := ⟨4, ![2, 8192, 4, 32]⟩
abbrev S16384x256 : Shape := ⟨2, ![16384, 256]⟩
abbrev S16384x2304 : Shape := ⟨2, ![16384, 2304]⟩

abbrev nBuf : Space → Nat
  | .hbm => 180
  | .vmem => 0
  | .smem => 0
  | _ => 0

abbrev hbmTy0_0 (i : Nat) : BufTy := match i % 128 with
  | 0 => ⟨S16384x1024, .f32⟩
  | 1 => ⟨S4x1x1024, .f32⟩
  | 2 => ⟨S2x1024x3584, .bf16⟩
  | 3 => ⟨S8192, .i32⟩
  | 4 => ⟨S1x1x1024, .f32⟩
  | 5 => ⟨S1024, .f32⟩
  | 6 => ⟨S16384x1024, .f32⟩
  | 7 => ⟨S_, .f32⟩
  | 8 => ⟨S16384, .f32⟩
  | 9 => ⟨S16384x1, .f32⟩
  | 10 => ⟨S_, .f32⟩
  | 11 => ⟨S16384x1, .f32⟩
  | 12 => ⟨S16384x1, .f32⟩
  | 13 => ⟨S_, .f32⟩
  | 14 => ⟨S16384x1, .f32⟩
  | 15 => ⟨S16384x1, .f32⟩
  | 16 => ⟨S16384x1, .f32⟩
  | 17 => ⟨S16384x1024, .f32⟩
  | 18 => ⟨S16384x1024, .f32⟩
  | 19 => ⟨S1x1024, .f32⟩
  | 20 => ⟨S16384x1024, .f32⟩
  | 21 => ⟨S16384x1024, .f32⟩
  | 22 => ⟨S1x1024x3584, .bf16⟩
  | 23 => ⟨S1024x3584, .bf16⟩
  | 24 => ⟨S1024x3584, .f32⟩
  | 25 => ⟨S16384x3584, .f32⟩
  | 26 => ⟨S2x8192x3584, .f32⟩
  | 27 => ⟨S2x8192x768, .f32⟩
  | 28 => ⟨S2x8192x256, .f32⟩
  | 29 => ⟨S2x8192x256, .f32⟩
  | 30 => ⟨S2x8192x768, .f32⟩
  | 31 => ⟨S2x8192x768, .f32⟩
  | 32 => ⟨S2x8192x768, .f32⟩
  | 33 => ⟨S2x8192x12x64, .f32⟩
  | 34 => ⟨S32, .f32⟩
  | 35 => ⟨S32, .f32⟩
  | 36 => ⟨S_, .f32⟩
  | 37 => ⟨S32, .f32⟩
  | 38 => ⟨S32, .f32⟩
  | 39 => ⟨S_, .f32⟩
  | 40 => ⟨S32, .f32⟩
  | 41 => ⟨S32, .f32⟩
  | 42 => ⟨S8192, .f32⟩
  | 43 => ⟨S8192x1, .f32⟩
  | 44 => ⟨S1x32, .f32⟩
  | 45 => ⟨S8192x32, .f32⟩
  | 46 => ⟨S8192x32, .f32⟩
  | 47 => ⟨S8192x32, .f32⟩
  | 48 => ⟨S8192x32, .f32⟩
  | 49 => ⟨S1x8192x1x32, .f32⟩
  | 50 => ⟨S8192x32, .f32⟩
  | 51 => ⟨S1x8192x1x32, .f32⟩
  | 52 => ⟨S2x8192x12x32, .f32⟩
  | 53 => ⟨S2x8192x12x32, .f32⟩
  | 54 => ⟨S2x8192x12x32, .f32⟩
  | 55 => ⟨S2x8192x12x32, .f32⟩
  | 56 => ⟨S2x8192x12x32, .f32⟩
  | 57 => ⟨S2x8192x12x32, .f32⟩
  | 58 => ⟨S2x8192x12x32, .f32⟩
  | 59 => ⟨S2x8192x12x32, .f32⟩
  | 60 => ⟨S2x8192x12x32, .f32⟩
  | 61 => ⟨S2x8192x12x32, .f32⟩
  | 62 => ⟨S2x8192x12x32, .f32⟩
  | 63 => ⟨S2x8192x12x32, .f32⟩
  | 64 => ⟨S2x8192x12x64, .f32⟩
  | 65 => ⟨S_, .f32⟩
  | 66 => ⟨S2x8192x12x64, .f32⟩
  | 67 => ⟨S2x8192x12x64, .f32⟩
  | 68 => ⟨S16384x768, .f32⟩
  | 69 => ⟨S16384x768, .bf16⟩
  | 70 => ⟨S2x8192x4x64, .f32⟩
  | 71 => ⟨S32, .f32⟩
  | 72 => ⟨S32, .f32⟩
  | 73 => ⟨S_, .f32⟩
  | 74 => ⟨S32, .f32⟩
  | 75 => ⟨S32, .f32⟩
  | 76 => ⟨S_, .f32⟩
  | 77 => ⟨S32, .f32⟩
  | 78 => ⟨S32, .f32⟩
  | 79 => ⟨S8192, .f32⟩
  | 80 => ⟨S8192x1, .f32⟩
  | 81 => ⟨S1x32, .f32⟩
  | 82 => ⟨S8192x32, .f32⟩
  | 83 => ⟨S8192x32, .f32⟩
  | 84 => ⟨S8192x32, .f32⟩
  | 85 => ⟨S8192x32, .f32⟩
  | 86 => ⟨S1x8192x1x32, .f32⟩
  | 87 => ⟨S8192x32, .f32⟩
  | 88 => ⟨S1x8192x1x32, .f32⟩
  | 89 => ⟨S2x8192x4x32, .f32⟩
  | 90 => ⟨S2x8192x4x32, .f32⟩
  | 91 => ⟨S2x8192x4x32, .f32⟩
  | 92 => ⟨S2x8192x4x32, .f32⟩
  | 93 => ⟨S2x8192x4x32, .f32⟩
  | 94 => ⟨S2x8192x4x32, .f32⟩
  | 95 => ⟨S2x8192x4x32, .f32⟩
  | 96 => ⟨S2x8192x4x32, .f32⟩
  | 97 => ⟨S2x8192x4x32, .f32⟩
  | 98 => ⟨S2x8192x4x32, .f32⟩
  | 99 => ⟨S2x8192x4x32, .f32⟩
  | 100 => ⟨S2x8192x4x32, .f32⟩
  | 101 => ⟨S2x8192x4x64, .f32⟩
  | 102 => ⟨S16384x256, .f32⟩
  | 103 => ⟨S16384x256, .bf16⟩
  | 104 => ⟨S2x8192x12x64, .f32⟩
  | 105 => ⟨S32, .f32⟩
  | 106 => ⟨S32, .f32⟩
  | 107 => ⟨S_, .f32⟩
  | 108 => ⟨S32, .f32⟩
  | 109 => ⟨S32, .f32⟩
  | 110 => ⟨S_, .f32⟩
  | 111 => ⟨S32, .f32⟩
  | 112 => ⟨S32, .f32⟩
  | 113 => ⟨S8192, .f32⟩
  | 114 => ⟨S8192x1, .f32⟩
  | 115 => ⟨S1x32, .f32⟩
  | 116 => ⟨S8192x32, .f32⟩
  | 117 => ⟨S8192x32, .f32⟩
  | 118 => ⟨S8192x32, .f32⟩
  | 119 => ⟨S8192x32, .f32⟩
  | 120 => ⟨S1x8192x1x32, .f32⟩
  | 121 => ⟨S8192x32, .f32⟩
  | 122 => ⟨S1x8192x1x32, .f32⟩
  | 123 => ⟨S2x8192x12x32, .f32⟩
  | 124 => ⟨S2x8192x12x32, .f32⟩
  | 125 => ⟨S2x8192x12x32, .f32⟩
  | 126 => ⟨S2x8192x12x32, .f32⟩
  | 127 => ⟨S2x8192x12x32, .f32⟩
  | _ => ⟨S16384x1024, .f32⟩

abbrev hbmTy0_1 (i : Nat) : BufTy := match i % 128 with
  | 0 => ⟨S2x8192x12x32, .f32⟩
  | 1 => ⟨S2x8192x12x32, .f32⟩
  | 2 => ⟨S2x8192x12x32, .f32⟩
  | 3 => ⟨S2x8192x12x32, .f32⟩
  | 4 => ⟨S2x8192x12x32, .f32⟩
  | 5 => ⟨S2x8192x12x32, .f32⟩
  | 6 => ⟨S2x8192x12x32, .f32⟩
  | 7 => ⟨S2x8192x12x64, .f32⟩
  | 8 => ⟨S_, .f32⟩
  | 9 => ⟨S2x8192x12x64, .f32⟩
  | 10 => ⟨S2x8192x12x64, .f32⟩
  | 11 => ⟨S16384x768, .f32⟩
  | 12 => ⟨S16384x768, .bf16⟩
  | 13 => ⟨S2x8192x12x64, .f32⟩
  | 14 => ⟨S32, .f32⟩
  | 15 => ⟨S32, .f32⟩
  | 16 => ⟨S_, .f32⟩
  | 17 => ⟨S32, .f32⟩
  | 18 => ⟨S32, .f32⟩
  | 19 => ⟨S_, .f32⟩
  | 20 => ⟨S32, .f32⟩
  | 21 => ⟨S32, .f32⟩
  | 22 => ⟨S8192, .f32⟩
  | 23 => ⟨S8192x1, .f32⟩
  | 24 => ⟨S1x32, .f32⟩
  | 25 => ⟨S8192x32, .f32⟩
  | 26 => ⟨S8192x32, .f32⟩
  | 27 => ⟨S8192x32, .f32⟩
  | 28 => ⟨S8192x32, .f32⟩
  | 29 => ⟨S1x8192x1x32, .f32⟩
  | 30 => ⟨S8192x32, .f32⟩
  | 31 => ⟨S1x8192x1x32, .f32⟩
  | 32 => ⟨S2x8192x12x32, .f32⟩
  | 33 => ⟨S2x8192x12x32, .f32⟩
  | 34 => ⟨S2x8192x12x32, .f32⟩
  | 35 => ⟨S2x8192x12x32, .f32⟩
  | 36 => ⟨S2x8192x12x32, .f32⟩
  | 37 => ⟨S2x8192x12x32, .f32⟩
  | 38 => ⟨S2x8192x12x32, .f32⟩
  | 39 => ⟨S2x8192x12x32, .f32⟩
  | 40 => ⟨S2x8192x12x32, .f32⟩
  | 41 => ⟨S2x8192x12x32, .f32⟩
  | 42 => ⟨S2x8192x12x32, .f32⟩
  | 43 => ⟨S2x8192x12x32, .f32⟩
  | 44 => ⟨S2x8192x12x64, .f32⟩
  | 45 => ⟨S16384x768, .f32⟩
  | 46 => ⟨S16384x768, .bf16⟩
  | 47 => ⟨S16384x256, .f32⟩
  | 48 => ⟨S16384x256, .bf16⟩
  | 49 => ⟨S16384x768, .f32⟩
  | 50 => ⟨S16384x768, .bf16⟩
  | 51 => ⟨S16384x2304, .bf16⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_cst_2 : Ref sig .tc := ⟨.hbm, 36, rfl⟩
abbrev main_v30 : Ref sig .tc := ⟨.hbm, 37, rfl⟩
abbrev main_v31 : Ref sig .tc := ⟨.hbm, 38, rfl⟩
abbrev main_cst_3 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_cst_4 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_cst_5 : Ref sig .tc := ⟨.hbm, 73, rfl⟩
abbrev main_v64 : Ref sig .tc := ⟨.hbm, 74, rfl⟩
abbrev main_v65 : Ref sig .tc := ⟨.hbm, 75, rfl⟩
abbrev main_cst_6 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_cst_7 : Ref sig .tc := ⟨.hbm, 107, rfl⟩
abbrev main_v96 : Ref sig .tc := ⟨.hbm, 108, rfl⟩
abbrev main_v97 : Ref sig .tc := ⟨.hbm, 109, rfl⟩
abbrev main_cst_8 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_v110 : Ref sig .tc := ⟨.hbm, 123, rfl⟩
abbrev main_v111 : Ref sig .tc := ⟨.hbm, 124, rfl⟩
abbrev main_v112 : Ref sig .tc := ⟨.hbm, 125, rfl⟩
abbrev main_v113 : Ref sig .tc := ⟨.hbm, 126, rfl⟩
abbrev main_v114 : Ref sig .tc := ⟨.hbm, 127, rfl⟩
abbrev main_v115 : Ref sig .tc := ⟨.hbm, 128, rfl⟩
abbrev main_v116 : Ref sig .tc := ⟨.hbm, 129, rfl⟩
abbrev main_v117 : Ref sig .tc := ⟨.hbm, 130, rfl⟩
abbrev main_v118 : Ref sig .tc := ⟨.hbm, 131, rfl⟩
abbrev main_v119 : Ref sig .tc := ⟨.hbm, 132, rfl⟩
abbrev main_v120 : Ref sig .tc := ⟨.hbm, 133, rfl⟩
abbrev main_v121 : Ref sig .tc := ⟨.hbm, 134, rfl⟩
abbrev main_v122 : Ref sig .tc := ⟨.hbm, 135, rfl⟩
abbrev main_cst_9 : Ref sig .tc := ⟨.hbm, 136, rfl⟩
abbrev main_v123 : Ref sig .tc := ⟨.hbm, 137, rfl⟩
abbrev main_v124 : Ref sig .tc := ⟨.hbm, 138, rfl⟩
abbrev main_v125 : Ref sig .tc := ⟨.hbm, 139, rfl⟩
abbrev main_v126 : Ref sig .tc := ⟨.hbm, 140, rfl⟩
abbrev main_v127 : Ref sig .tc := ⟨.hbm, 141, rfl⟩
abbrev main_v128 : Ref sig .tc := ⟨.hbm, 142, rfl⟩
abbrev main_v129 : Ref sig .tc := ⟨.hbm, 143, rfl⟩
abbrev main_cst_10 : Ref sig .tc := ⟨.hbm, 144, rfl⟩
abbrev main_v130 : Ref sig .tc := ⟨.hbm, 145, rfl⟩
abbrev main_v131 : Ref sig .tc := ⟨.hbm, 146, rfl⟩
abbrev main_cst_11 : Ref sig .tc := ⟨.hbm, 147, rfl⟩
abbrev main_v132 : Ref sig .tc := ⟨.hbm, 148, rfl⟩
abbrev main_v133 : Ref sig .tc := ⟨.hbm, 149, rfl⟩
abbrev main_v134 : Ref sig .tc := ⟨.hbm, 150, rfl⟩
abbrev main_v135 : Ref sig .tc := ⟨.hbm, 151, rfl⟩
abbrev main_v136 : Ref sig .tc := ⟨.hbm, 152, rfl⟩
abbrev main_v137 : Ref sig .tc := ⟨.hbm, 153, rfl⟩
abbrev main_v138 : Ref sig .tc := ⟨.hbm, 154, rfl⟩
abbrev main_v139 : Ref sig .tc := ⟨.hbm, 155, rfl⟩
abbrev main_v140 : Ref sig .tc := ⟨.hbm, 156, rfl⟩
abbrev main_v141 : Ref sig .tc := ⟨.hbm, 157, rfl⟩
abbrev main_v142 : Ref sig .tc := ⟨.hbm, 158, rfl⟩
abbrev main_v143 : Ref sig .tc := ⟨.hbm, 159, rfl⟩
abbrev main_v144 : Ref sig .tc := ⟨.hbm, 160, rfl⟩
abbrev main_v145 : Ref sig .tc := ⟨.hbm, 161, rfl⟩
abbrev main_v146 : Ref sig .tc := ⟨.hbm, 162, rfl⟩
abbrev main_v147 : Ref sig .tc := ⟨.hbm, 163, rfl⟩
abbrev main_v148 : Ref sig .tc := ⟨.hbm, 164, rfl⟩
abbrev main_v149 : Ref sig .tc := ⟨.hbm, 165, rfl⟩
abbrev main_v150 : Ref sig .tc := ⟨.hbm, 166, rfl⟩
abbrev main_v151 : Ref sig .tc := ⟨.hbm, 167, rfl⟩
abbrev main_v152 : Ref sig .tc := ⟨.hbm, 168, rfl⟩
abbrev main_v153 : Ref sig .tc := ⟨.hbm, 169, rfl⟩
abbrev main_v154 : Ref sig .tc := ⟨.hbm, 170, rfl⟩
abbrev main_v155 : Ref sig .tc := ⟨.hbm, 171, rfl⟩
abbrev main_v156 : Ref sig .tc := ⟨.hbm, 172, rfl⟩
abbrev main_v157 : Ref sig .tc := ⟨.hbm, 173, rfl⟩
abbrev main_v158 : Ref sig .tc := ⟨.hbm, 174, rfl⟩
abbrev main_v159 : Ref sig .tc := ⟨.hbm, 175, rfl⟩
abbrev main_v160 : Ref sig .tc := ⟨.hbm, 176, rfl⟩
abbrev main_v161 : Ref sig .tc := ⟨.hbm, 177, rfl⟩
abbrev main_v162 : Ref sig .tc := ⟨.hbm, 178, rfl⟩
abbrev main_v163 : Ref sig .tc := ⟨.hbm, 179, rfl⟩

abbrev nD : Nat := 1
abbrev τ : Topo := Topo.v7x

variable {F : FTy → Type} [FloatOps F]
-- ==== OutAB.lean ====
abbrev S16384x1024 : Shape := ⟨2, ![16384, 1024]⟩
abbrev S16384x768 : Shape := ⟨2, ![16384, 768]⟩
abbrev S16384x256 : Shape := ⟨2, ![16384, 256]⟩
abbrev S2x1024x1024 : Shape := ⟨3, ![2, 1024, 1024]⟩
abbrev S512x1024 : Shape := ⟨2, ![512, 1024]⟩
abbrev S512x768 : Shape := ⟨2, ![512, 768]⟩
abbrev S512x256 : Shape := ⟨2, ![512, 256]⟩
abbrev S1x1024x1024 : Shape := ⟨3, ![1, 1024, 1024]⟩
abbrev S1x768x1024 : Shape := ⟨3, ![1, 768, 1024]⟩
abbrev S768x1024 : Shape := ⟨2, ![768, 1024]⟩
abbrev S1x256x1024 : Shape := ⟨3, ![1, 256, 1024]⟩
abbrev S256x1024 : Shape := ⟨2, ![256, 1024]⟩

abbrev nBuf : Space → Nat
  | .hbm => 10
  | .vmem => 19
  | .smem => 0
  | _ => 0

abbrev bufTy : (tb : Table) → Fin (tcTables nBuf tb) → BufTy
  | .hbm, ⟨0, _⟩ => ⟨S16384x1024, .f32⟩
  | .hbm, ⟨1, _⟩ => ⟨S16384x768, .bf16⟩
  | .hbm, ⟨2, _⟩ => ⟨S16384x256, .bf16⟩
  | .hbm, ⟨3, _⟩ => ⟨S16384x256, .bf16⟩
  | .hbm, ⟨4, _⟩ => ⟨S16384x256, .bf16⟩
  | .hbm, ⟨5, _⟩ => ⟨S16384x256, .f32⟩
  | .hbm, ⟨6, _⟩ => ⟨S16384x256, .f32⟩
  | .hbm, ⟨7, _⟩ => ⟨S16384x256, .f32⟩
  | .hbm, ⟨8, _⟩ => ⟨S2x1024x1024, .bf16⟩
  | .hbm, ⟨9, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x768, .bf16⟩
  | .local _ .vmem, ⟨3, _⟩ => ⟨S512x768, .bf16⟩
  | .local _ .vmem, ⟨4, _⟩ => ⟨S512x256, .bf16⟩
  | .local _ .vmem, ⟨5, _⟩ => ⟨S512x256, .bf16⟩
  | .local _ .vmem, ⟨6, _⟩ => ⟨S512x256, .bf16⟩
  | .local _ .vmem, ⟨7, _⟩ => ⟨S512x256, .bf16⟩
  | .local _ .vmem, ⟨8, _⟩ => ⟨S512x256, .bf16⟩
  | .local _ .vmem, ⟨9, _⟩ => ⟨S512x256, .bf16⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | .local _ .vmem, ⟨16, _⟩ => ⟨S1x1024x1024, .bf16⟩
  | .local _ .vmem, ⟨17, _⟩ => ⟨S512x1024, .f32⟩
  | .local _ .vmem, ⟨18, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== OutABRefIdeal.lean ====
abbrev S16384x1024 : Shape := ⟨2, ![16384, 1024]⟩
abbrev S16384x768 : Shape := ⟨2, ![16384, 768]⟩
abbrev S16384x256 : Shape := ⟨2, ![16384, 256]⟩
abbrev S2x1024x1024 : Shape := ⟨3, ![2, 1024, 1024]⟩
abbrev S1x16384x256 : Shape := ⟨3, ![1, 16384, 256]⟩
abbrev S3x16384x256 : Shape := ⟨3, ![3, 16384, 256]⟩
abbrev S_ : Shape := ⟨0, ![]⟩
abbrev S1x1024x1024 : Shape := ⟨3, ![1, 1024, 1024]⟩
abbrev S1024x1024 : Shape := ⟨2, ![1024, 1024]⟩

abbrev nBuf : Space → Nat
  | .hbm => 42
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x768, .bf16⟩
  | .hbm, ⟨2, _⟩ => ⟨S16384x256, .bf16⟩
  | .hbm, ⟨3, _⟩ => ⟨S16384x256, .bf16⟩
  | .hbm, ⟨4, _⟩ => ⟨S16384x256, .bf16⟩
  | .hbm, ⟨5, _⟩ => ⟨S16384x256, .f32⟩
  | .hbm, ⟨6, _⟩ => ⟨S16384x256, .f32⟩
  | .hbm, ⟨7, _⟩ => ⟨S16384x256, .f32⟩
  | .hbm, ⟨8, _⟩ => ⟨S2x1024x1024, .bf16⟩
  | .hbm, ⟨9, _⟩ => ⟨S1x16384x256, .f32⟩
  | .hbm, ⟨10, _⟩ => ⟨S1x16384x256, .f32⟩
  | .hbm, ⟨11, _⟩ => ⟨S1x16384x256, .f32⟩
  | .hbm, ⟨12, _⟩ => ⟨S3x16384x256, .f32⟩
  | .hbm, ⟨13, _⟩ => ⟨S_, .f32⟩
  | .hbm, ⟨14, _⟩ => ⟨S16384x256, .f32⟩
  | .hbm, ⟨15, _⟩ => ⟨S_, .f32⟩
  | .hbm, ⟨16, _⟩ => ⟨S16384x256, .f32⟩
  | .hbm, ⟨17, _⟩ => ⟨S16384x256, .f32⟩
  | .hbm, ⟨18, _⟩ => ⟨S1x16384x256, .f32⟩
  | .hbm, ⟨19, _⟩ => ⟨S3x16384x256, .f32⟩
  | .hbm, ⟨20, _⟩ => ⟨S3x16384x256, .f32⟩
  | .hbm, ⟨21, _⟩ => ⟨S3x16384x256, .f32⟩
  | .hbm, ⟨22, _⟩ => ⟨S_, .f32⟩
  | .hbm, ⟨23, _⟩ => ⟨S16384x256, .f32⟩
  | .hbm, ⟨24, _⟩ => ⟨S1x16384x256, .f32⟩
  | .hbm, ⟨25, _⟩ => ⟨S3x16384x256, .f32⟩
  | .hbm, ⟨26, _⟩ => ⟨S3x16384x256, .f32⟩
  | .hbm, ⟨27, _⟩ => ⟨S1x16384x256, .bf16⟩
  | .hbm, ⟨28, _⟩ => ⟨S1x16384x256, .bf16⟩
  | .hbm, ⟨29, _⟩ => ⟨S1x16384x256, .bf16⟩
  | .hbm, ⟨30, _⟩ => ⟨S3x16384x256, .bf16⟩
  | .hbm, ⟨31, _⟩ => ⟨S3x16384x256, .f32⟩
  | .hbm, ⟨32, _⟩ => ⟨S3x16384x256, .f32⟩
  | .hbm, ⟨33, _⟩ => ⟨S_, .f32⟩
  | .hbm, ⟨34, _⟩ => ⟨S16384x256, .f32⟩
  | .hbm, ⟨35, _⟩ => ⟨S16384x768, .f32⟩
  | .hbm, ⟨36, _⟩ => ⟨S16384x1024, .f32⟩
  | .hbm, ⟨37, _⟩ => ⟨S1x1024x1024, .bf16⟩
  | .hbm, ⟨38, _⟩ => ⟨S1024x1024, .bf16⟩
  | .hbm, ⟨39, _⟩ => ⟨S1024x1024, .f32⟩
  | .hbm, ⟨40, _⟩ => ⟨S16384x1024, .f32⟩
  | .hbm, ⟨41, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩

abbrev nD : Nat := 1
abbrev τ : Topo := Topo.v7x

variable {F : FTy → Type} [FloatOps F]
-- ==== Dil1.lean ====
abbrev S2x8192x2304 : Shape := ⟨3, ![2, 8192, 2304]⟩
abbrev S2x8192x256 : Shape := ⟨3, ![2, 8192, 256]⟩
abbrev S1x128x256 : Shape := ⟨3, ![1, 128, 256]⟩
abbrev S128x256 : Shape := ⟨2, ![128, 256]⟩
abbrev S384x256 : Shape := ⟨2, ![384, 256]⟩
abbrev S128x384 : Shape := ⟨2, ![128, 384]⟩
abbrev S384x64 : Shape := ⟨2, ![384, 64]⟩
abbrev S1x128x64 : Shape := ⟨3, ![1, 128, 64]⟩
abbrev S128x64 : Shape := ⟨2, ![128, 64]⟩
abbrev S128 : Shape := ⟨1, ![128]⟩
abbrev S128x1 : Shape := ⟨2, ![128, 1]⟩

abbrev nBuf : Space → Nat
  | .hbm => 3
  | .vmem => 18
  | .smem => 0
  | _ => 0

abbrev bufTy : (tb : Table) → Fin (tcTables nBuf tb) → BufTy
  | .hbm, ⟨0, _⟩ => ⟨S2x8192x2304, .bf16⟩
  | .hbm, ⟨1, _⟩ => ⟨S2x8192x256, .bf16⟩
  | .hbm, ⟨2, _⟩ => ⟨S2x8192x256, .f32⟩
  | .local _ .vmem, ⟨0, _⟩ => ⟨S1x128x256, .bf16⟩
  | .local _ .vmem, ⟨1, _⟩ => ⟨S1x128x256, .bf16⟩
  | .local _ .vmem, ⟨2, _⟩ => ⟨S1x128x256, .bf16⟩
  | .local _ .vmem, ⟨3, _⟩ => ⟨S1x128x256, .bf16⟩
  | .local _ .vmem, ⟨4, _⟩ => ⟨S1x128x256, .bf16⟩
  | .local _ .vmem, ⟨5, _⟩ => ⟨S1x128x256, .bf16⟩
  | .local _ .vmem, ⟨6, _⟩ => ⟨S1x128x256, .bf16⟩
  | .local _ .vmem, ⟨7, _⟩ => ⟨S1x128x256, .bf16⟩
  | .local _ .vmem, ⟨8, _⟩ => ⟨S1x128x256, .bf16⟩
  | .local _ .vmem, ⟨9, _⟩ => ⟨S1x128x256, .bf16⟩
  | .local _ .vmem, ⟨10, _⟩ => ⟨S1x128x256, .bf16⟩
  | .local _ .vmem, ⟨11, _⟩ => ⟨S1x128x256, .bf16⟩
  | .local _ .vmem, ⟨12, _⟩ => ⟨S1x128x256, .bf16⟩
  | .local _ .vmem, ⟨13, _⟩ => ⟨S1x128x256, .bf16⟩
  | .local _ .vmem, ⟨14, _⟩ => ⟨S1x128x256, .bf16⟩
  | .local _ .vmem, ⟨15, _⟩ => ⟨S1x128x256, .bf16⟩
  | .local _ .vmem, ⟨16, _⟩ => ⟨S1x128x256, .f32⟩
  | .local _ .vmem, ⟨17, _⟩ => ⟨S1x128x256, .f32⟩
  | _, _ => ⟨S2x8192x2304, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![2, 1, 64], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c9_i32 : BitVec 32 := 9#32
  let v0 : BitVec 32 := Scalar.muli arg1 c9_i32
  let c0_i32 : BitVec 32 := 0#32
  let v1 : BitVec 32 := Scalar.addi v0 c0_i32
  let c0_i32_0 : BitVec 32 := 0#32
  ![arg0.toNat, arg2.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c9_i32 : BitVec 32 := 9#32
  let v2 : BitVec 32 := Scalar.muli arg1 c9_i32
  let c3_i32 : BitVec 32 := 3#32
  let v3 : BitVec 32 := Scalar.addi v2 c3_i32
  let c0_i32_0 : BitVec 32 := 0#32
  ![arg0.toNat, v1.toNat, v3.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c9_i32 : BitVec 32 := 9#32
  let v0 : BitVec 32 := Scalar.muli arg1 c9_i32
  let c3_i32 : BitVec 32 := 3#32
  let v1 : BitVec 32 := Scalar.addi v0 c3_i32
  let c0_i32 : BitVec 32 := 0#32
  ![arg0.toNat, arg2.toNat, v1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c63_i32 : BitVec 32 := 63#32
  let v1 : BitVec 32 := Scalar.minsi v0 c63_i32
  let c9_i32 : BitVec 32 := 9#32
  let v2 : BitVec 32 := Scalar.muli arg1 c9_i32
  let c3_i32 : BitVec 32 := 3#32
  let v3 : BitVec 32 := Scalar.addi v2 c3_i32
  let c0_i32 : BitVec 32 := 0#32
  ![arg0.toNat, v1.toNat, v3.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c9_i32 : BitVec 32 := 9#32
  let v2 : BitVec 32 := Scalar.muli arg1 c9_i32
  let c6_i32 : BitVec 32 := 6#32
  let v3 : BitVec 32 := Scalar.addi v2 c6_i32
  let c0_i32_0 : BitVec 32 := 0#32
  ![arg0.toNat, v1.toNat, v3.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c9_i32 : BitVec 32 := 9#32
  let v0 : BitVec 32 := Scalar.muli arg1 c9_i32
  let c6_i32 : BitVec 32 := 6#32
  let v1 : BitVec 32 := Scalar.addi v0 c6_i32
  let c0_i32 : BitVec 32 := 0#32
  ![arg0.toNat, arg2.toNat, v1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c63_i32 : BitVec 32 := 63#32
  let v1 : BitVec 32 := Scalar.minsi v0 c63_i32
  let c9_i32 : BitVec 32 := 9#32
  let v2 : BitVec 32 := Scalar.muli arg1 c9_i32
  let c6_i32 : BitVec 32 := 6#32
  let v3 : BitVec 32 := Scalar.addi v2 c6_i32
  let c0_i32 : BitVec 32 := 0#32
  ![arg0.toNat, v1.toNat, v3.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x128x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x128x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== Dil1Ideal.lean ====
variable {F : FTy → Type} [FloatOps F] [Named F]
def κ : String → Option EReal := fun
  | "mask" => some ⊥
  | _ => none
-- ==== Dil1RefIdeal.lean ====
abbrev S2x8192x2304 : Shape := ⟨3, ![2, 8192, 2304]⟩
abbrev S2x8192x1x9x4x64 : Shape := ⟨6, ![2, 8192, 1, 9, 4, 64]⟩
abbrev S2x8192x1x1x4x64 : Shape := ⟨6, ![2, 8192, 1, 1, 4, 64]⟩
abbrev S2x8192x1x4x64 : Shape := ⟨5, ![2, 8192, 1, 4, 64]⟩
abbrev S2x1x8192x4x64 : Shape := ⟨5, ![2, 1, 8192, 4, 64]⟩
abbrev S2x8192x4x64 : Shape := ⟨4, ![2, 8192, 4, 64]⟩
abbrev S_ : Shape := ⟨0, ![]⟩
abbrev S2x8320x4x64 : Shape := ⟨4, ![2, 8320, 4, 64]⟩
abbrev S2x130x64x4x64 : Shape := ⟨5, ![2, 130, 64, 4, 64]⟩
abbrev S2x128x64x4x64 : Shape := ⟨5, ![2, 128, 64, 4, 64]⟩
abbrev S2x128x192x4x64 : Shape := ⟨5, ![2, 128, 192, 4, 64]⟩
abbrev S8192 : Shape := ⟨1, ![8192]⟩
abbrev S128x64 : Shape := ⟨2, ![128, 64]⟩
abbrev S128 : Shape := ⟨1, ![128]⟩
abbrev S128x1 : Shape := ⟨2, ![128, 1]⟩
abbrev S192 : Shape := ⟨1, ![192]⟩
abbrev S1x192 : Shape := ⟨2, ![1, 192]⟩
abbrev S128x192 : Shape := ⟨2, ![128, 192]⟩
abbrev S128x64x1 : Shape := ⟨3, ![128, 64, 1]⟩
abbrev S128x1x192 : Shape := ⟨3, ![128, 1, 192]⟩
abbrev S128x64x192 : Shape := ⟨3, ![128, 64, 192]⟩
abbrev S2x128x4x64x192 : Shape := ⟨5, ![2, 128, 4, 64, 192]⟩
abbrev S1x128x1x64x192 : Shape := ⟨5, ![1, 128, 1, 64, 192]⟩
abbrev S2x128x4x64 : Shape := ⟨4, ![2, 128, 4, 64]⟩
abbrev S2x128x4x64x1 : Shape := ⟨5, ![2, 128, 4, 64, 1]⟩
abbrev S2x128x4x64x64 : Shape := ⟨5, ![2, 128, 4, 64, 64]⟩
abbrev S2x128x64x4 : Shape := ⟨4, ![2, 128, 64, 4]⟩
abbrev S2x128x64x4x1 : Shape := ⟨5, ![2, 128, 64, 4, 1]⟩
abbrev S2x8192x256 : Shape := ⟨3, ![2, 8192, 256]⟩

abbrev nBuf : Space → Nat
  | .hbm => 98
  | .vmem => 0
  | .smem => 0
  | _ => 0

abbrev bufTy : (tb : Table) → Fin (tcTables nBuf tb) → BufTy
  | .hbm, ⟨0, _⟩ => ⟨S2x8192x2304, .bf16⟩
  | .hbm, ⟨1, _⟩ => ⟨S2x8192x2304, .f32⟩
  | .hbm, ⟨2, _⟩ => ⟨S2x8192x1x9x4x64, .f32⟩
  | .hbm, ⟨3, _⟩ => ⟨S2x8192x1x1x4x64, .f32⟩
  | .hbm, ⟨4, _⟩ => ⟨S2x8192x1x4x64, .f32⟩
  | .hbm, ⟨5, _⟩ => ⟨S2x1x8192x4x64, .f32⟩
  | .hbm, ⟨6, _⟩ => ⟨S2x8192x4x64, .f32⟩
  | .hbm, ⟨7, _⟩ => ⟨S2x8192x1x1x4x64, .f32⟩
  | .hbm, ⟨8, _⟩ => ⟨S2x8192x1x4x64, .f32⟩
  | .hbm, ⟨9, _⟩ => ⟨S2x1x8192x4x64, .f32⟩
  | .hbm, ⟨10, _⟩ => ⟨S2x8192x4x64, .f32⟩
  | .hbm, ⟨11, _⟩ => ⟨S2x8192x1x1x4x64, .f32⟩
  | .hbm, ⟨12, _⟩ => ⟨S2x8192x1x4x64, .f32⟩
  | .hbm, ⟨13, _⟩ => ⟨S2x1x8192x4x64, .f32⟩
  | .hbm, ⟨14, _⟩ => ⟨S2x8192x4x64, .f32⟩
  | .hbm, ⟨15, _⟩ => ⟨S_, .i32⟩
  | .hbm, ⟨16, _⟩ => ⟨S_, .f32⟩
  | .hbm, ⟨17, _⟩ => ⟨S2x8320x4x64, .f32⟩
  | .hbm, ⟨18, _⟩ => ⟨S2x130x64x4x64, .f32⟩
  | .hbm, ⟨19, _⟩ => ⟨S_, .i32⟩
  | .hbm, ⟨20, _⟩ => ⟨S_, .f32⟩
  | .hbm, ⟨21, _⟩ => ⟨S2x8320x4x64, .f32⟩
  | .hbm, ⟨22, _⟩ => ⟨S2x130x64x4x64, .f32⟩
  | .hbm, ⟨23, _⟩ => ⟨S2x128x64x4x64, .f32⟩
  | .hbm, ⟨24, _⟩ => ⟨S2x128x64x4x64, .f32⟩
  | .hbm, ⟨25, _⟩ => ⟨S2x128x64x4x64, .f32⟩
  | .hbm, ⟨26, _⟩ => ⟨S2x128x192x4x64, .f32⟩
  | .hbm, ⟨27, _⟩ => ⟨S2x128x64x4x64, .f32⟩
  | .hbm, ⟨28, _⟩ => ⟨S2x128x64x4x64, .f32⟩
  | .hbm, ⟨29, _⟩ => ⟨S2x128x64x4x64, .f32⟩
  | .hbm, ⟨30, _⟩ => ⟨S2x128x192x4x64, .f32⟩
  | .hbm, ⟨31, _⟩ => ⟨S2x128x64x4x64, .f32⟩
  | .hbm, ⟨32, _⟩ => ⟨S8192, .i32⟩
  | .hbm, ⟨33, _⟩ => ⟨S128x64, .i32⟩
  | .hbm, ⟨34, _⟩ => ⟨S128, .i32⟩
  | .hbm, ⟨35, _⟩ => ⟨S128x1, .i32⟩
  | .hbm, ⟨36, _⟩ => ⟨S_, .i32⟩
  | .hbm, ⟨37, _⟩ => ⟨S128x1, .i32⟩
  | .hbm, ⟨38, _⟩ => ⟨S128x1, .i32⟩
  | .hbm, ⟨39, _⟩ => ⟨S_, .i32⟩
  | .hbm, ⟨40, _⟩ => ⟨S128x1, .i32⟩
  | .hbm, ⟨41, _⟩ => ⟨S128x1, .i32⟩
  | .hbm, ⟨42, _⟩ => ⟨S192, .i32⟩
  | .hbm, ⟨43, _⟩ => ⟨S1x192, .i32⟩
  | .hbm, ⟨44, _⟩ => ⟨S128x192, .i32⟩
  | .hbm, ⟨45, _⟩ => ⟨S128x192, .i32⟩
  | .hbm, ⟨46, _⟩ => ⟨S128x192, .i32⟩
  | .hbm, ⟨47, _⟩ => ⟨S128x64x1, .i32⟩
  | .hbm, ⟨48, _⟩ => ⟨S128x1x192, .i32⟩
  | .hbm, ⟨49, _⟩ => ⟨S128x64x192, .i32⟩
  | .hbm, ⟨50, _⟩ => ⟨S128x64x192, .i32⟩
  | .hbm, ⟨51, _⟩ => ⟨S128x64x192, .i32⟩
  | .hbm, ⟨52, _⟩ => ⟨S128x64x192, .i32⟩
  | .hbm, ⟨53, _⟩ => ⟨S_, .i32⟩
  | .hbm, ⟨54, _⟩ => ⟨S128x64x192, .i32⟩
  | .hbm, ⟨55, _⟩ => ⟨S128x64x192, .i1⟩
  | .hbm, ⟨56, _⟩ => ⟨S_, .i32⟩
  | .hbm, ⟨57, _⟩ => ⟨S128x192, .i32⟩
  | .hbm, ⟨58, _⟩ => ⟨S128x192, .i1⟩
  | .hbm, ⟨59, _⟩ => ⟨S_, .i32⟩
  | .hbm, ⟨60, _⟩ => ⟨S128x192, .i32⟩
  | .hbm, ⟨61, _⟩ => ⟨S128x192, .i1⟩
  | .hbm, ⟨62, _⟩ => ⟨S128x192, .i1⟩
  | .hbm, ⟨63, _⟩ => ⟨S128x1x192, .i1⟩
  | .hbm, ⟨64, _⟩ => ⟨S128x64x192, .i1⟩
  | .hbm, ⟨65, _⟩ => ⟨S128x64x192, .i1⟩
  | .hbm, ⟨66, _⟩ => ⟨S2x128x4x64x192, .f32⟩
  | .hbm, ⟨67, _⟩ => ⟨S1x128x1x64x192, .i1⟩
  | .hbm, ⟨68, _⟩ => ⟨S_, .f32⟩
  | .hbm, ⟨69, _⟩ => ⟨S_, .f32⟩
  | .hbm, ⟨70, _⟩ => ⟨S2x128x4x64x192, .i1⟩
  | .hbm, ⟨71, _⟩ => ⟨S2x128x4x64x192, .f32⟩
  | .hbm, ⟨72, _⟩ => ⟨S2x128x4x64x192, .f32⟩
  | .hbm, ⟨73, _⟩ => ⟨S_, .f32⟩
  | .hbm, ⟨74, _⟩ => ⟨S2x128x4x64, .f32⟩
  | .hbm, ⟨75, _⟩ => ⟨S2x128x4x64x1, .f32⟩
  | .hbm, ⟨76, _⟩ => ⟨S2x128x4x64x192, .f32⟩
  | .hbm, ⟨77, _⟩ => ⟨S2x128x4x64x192, .f32⟩
  | .hbm, ⟨78, _⟩ => ⟨S2x128x4x64x192, .f32⟩
  | .hbm, ⟨79, _⟩ => ⟨S_, .f32⟩
  | .hbm, ⟨80, _⟩ => ⟨S2x128x4x64, .f32⟩
  | .hbm, ⟨81, _⟩ => ⟨S2x128x4x64x1, .f32⟩
  | .hbm, ⟨82, _⟩ => ⟨S2x128x4x64x192, .f32⟩
  | .hbm, ⟨83, _⟩ => ⟨S2x128x4x64x192, .f32⟩
  | .hbm, ⟨84, _⟩ => ⟨S2x128x4x64x64, .f32⟩
  | .hbm, ⟨85, _⟩ => ⟨S2x128x64x4x64, .f32⟩
  | .hbm, ⟨86, _⟩ => ⟨S2x128x4x64, .f32⟩
  | .hbm, ⟨87, _⟩ => ⟨S2x128x4x64, .f32⟩
  | .hbm, ⟨88, _⟩ => ⟨S2x128x64x4, .f32⟩
  | .hbm, ⟨89, _⟩ => ⟨S2x128x64x4x1, .f32⟩
  | .hbm, ⟨90, _⟩ => ⟨S2x128x64x4x64, .f32⟩
  | .hbm, ⟨91, _⟩ => ⟨S2x1x8192x4x64, .f32⟩
  | .hbm, ⟨92, _⟩ => ⟨S2x8192x1x4x64, .f32⟩
  | .hbm, ⟨93, _⟩ => ⟨S2x8192x256, .f32⟩
  | .hbm, ⟨94, _⟩ => ⟨S2x8192x256, .bf16⟩
  | .hbm, ⟨95, _⟩ => ⟨S2x1x8192x4x64, .f32⟩
  | .hbm, ⟨96, _⟩ => ⟨S2x8192x1x4x64, .f32⟩
  | .hbm, ⟨97, _⟩ => ⟨S2x8192x256, .f32⟩
  | _, _ => ⟨S2x8192x2304, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_c : Ref sig .tc := ⟨.hbm, 15, rfl⟩
abbrev main_call0_v0 : Ref sig .tc := ⟨.hbm, 16, rfl⟩
abbrev main_v14 : Ref sig .tc := ⟨.hbm, 17, rfl⟩
abbrev main_v15 : Ref sig .tc := ⟨.hbm, 18, rfl⟩
abbrev main_c_0 : Ref sig .tc := ⟨.hbm, 19, rfl⟩
abbrev main_call1_v0 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_c_1 : Ref sig .tc := ⟨.hbm, 36, rfl⟩
abbrev main_v31 : Ref sig .tc := ⟨.hbm, 37, rfl⟩
abbrev main_v32 : Ref sig .tc := ⟨.hbm, 38, rfl⟩
abbrev main_c_2 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_c_3 : Ref sig .tc := ⟨.hbm, 53, rfl⟩
abbrev main_v46 : Ref sig .tc := ⟨.hbm, 54, rfl⟩
abbrev main_v47 : Ref sig .tc := ⟨.hbm, 55, rfl⟩
abbrev main_c_4 : Ref sig .tc := ⟨.hbm, 56, rfl⟩
abbrev main_v48 : Ref sig .tc := ⟨.hbm, 57, rfl⟩
abbrev main_v49 : Ref sig .tc := ⟨.hbm, 58, rfl⟩
abbrev main_c_5 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_cst : Ref sig .tc := ⟨.hbm, 68, rfl⟩
abbrev main_call2_v0 : Ref sig .tc := ⟨.hbm, 69, rfl⟩
abbrev main_call2_v1 : Ref sig .tc := ⟨.hbm, 70, rfl⟩
abbrev main_call2_v2 : Ref sig .tc := ⟨.hbm, 71, rfl⟩
abbrev main_v58 : Ref sig .tc := ⟨.hbm, 72, rfl⟩
abbrev main_cst_6 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_cst_7 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩

abbrev nD : Nat := 1
abbrev τ : Topo := Topo.v7x

variable {F : FTy → Type} [FloatOps F]
-- ==== Dil4.lean ====
abbrev S2x2048x9216 : Shape := ⟨3, ![2, 2048, 9216]⟩
abbrev S2x2048x1024 : Shape := ⟨3, ![2, 2048, 1024]⟩
abbrev S1x128x256 : Shape := ⟨3, ![1, 128, 256]⟩
abbrev S128x256 : Shape := ⟨2, ![128, 256]⟩
abbrev S384x256 : Shape := ⟨2, ![384, 256]⟩
abbrev S128x384 : Shape := ⟨2, ![128, 384]⟩
abbrev S384x64 : Shape := ⟨2, ![384, 64]⟩
abbrev S1x128x64 : Shape := ⟨3, ![1, 128, 64]⟩
abbrev S128x64 : Shape := ⟨2, ![128, 64]⟩
abbrev S128 : Shape := ⟨1, ![128]⟩
abbrev S128x1 : Shape := ⟨2, ![128, 1]⟩

abbrev nBuf : Space → Nat
  | .hbm => 3
  | .vmem => 18
  | .smem => 0
  | _ => 0

abbrev bufTy : (tb : Table) → Fin (tcTables nBuf tb) → BufTy
  | .hbm, ⟨0, _⟩ => ⟨S2x2048x9216, .bf16⟩
  | .hbm, ⟨1, _⟩ => ⟨S2x2048x1024, .bf16⟩
  | .hbm, ⟨2, _⟩ => ⟨S2x2048x1024, .f32⟩
  | .local _ .vmem, ⟨0, _⟩ => ⟨S1x128x256, .bf16⟩
  | .local _ .vmem, ⟨1, _⟩ => ⟨S1x128x256, .bf16⟩
  | .local _ .vmem, ⟨2, _⟩ => ⟨S1x128x256, .bf16⟩
  | .local _ .vmem, ⟨3, _⟩ => ⟨S1x128x256, .bf16⟩
  | .local _ .vmem, ⟨4, _⟩ => ⟨S1x128x256, .bf16⟩
  | .local _ .vmem, ⟨5, _⟩ => ⟨S1x128x256, .bf16⟩
  | .local _ .vmem, ⟨6, _⟩ => ⟨S1x128x256, .bf16⟩
  | .local _ .vmem, ⟨7, _⟩ => ⟨S1x128x256, .bf16⟩
  | .local _ .vmem, ⟨8, _⟩ => ⟨S1x128x256, .bf16⟩
  | .local _ .vmem, ⟨9, _⟩ => ⟨S1x128x256, .bf16⟩
  | .local _ .vmem, ⟨10, _⟩ => ⟨S1x128x256, .bf16⟩
  | .local _ .vmem, ⟨11, _⟩ => ⟨S1x128x256, .bf16⟩
  | .local _ .vmem, ⟨12, _⟩ => ⟨S1x128x256, .bf16⟩
  | .local _ .vmem, ⟨13, _⟩ => ⟨S1x128x256, .bf16⟩
  | .local _ .vmem, ⟨14, _⟩ => ⟨S1x128x256, .bf16⟩
  | .local _ .vmem, ⟨15, _⟩ => ⟨S1x128x256, .bf16⟩
  | .local _ .vmem, ⟨16, _⟩ => ⟨S1x128x256, .f32⟩
  | .local _ .vmem, ⟨17, _⟩ => ⟨S1x128x256, .f32⟩
  | _, _ => ⟨S2x2048x9216, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![2, 4, 16], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c9_i32 : BitVec 32 := 9#32
  let v0 : BitVec 32 := Scalar.muli arg1 c9_i32
  let c1_i32 : BitVec 32 := 1#32
  let v1 : BitVec 32 := Scalar.addi v0 c1_i32
  let c0_i32 : BitVec 32 := 0#32
  ![arg0.toNat, arg2.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c9_i32 : BitVec 32 := 9#32
  let v2 : BitVec 32 := Scalar.muli arg1 c9_i32
  let c4_i32 : BitVec 32 := 4#32
  let v3 : BitVec 32 := Scalar.addi v2 c4_i32
  let c0_i32_0 : BitVec 32 := 0#32
  ![arg0.toNat, v1.toNat, v3.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c9_i32 : BitVec 32 := 9#32
  let v0 : BitVec 32 := Scalar.muli arg1 c9_i32
  let c4_i32 : BitVec 32 := 4#32
  let v1 : BitVec 32 := Scalar.addi v0 c4_i32
  let c0_i32 : BitVec 32 := 0#32
  ![arg0.toNat, arg2.toNat, v1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c15_i32 : BitVec 32 := 15#32
  let v1 : BitVec 32 := Scalar.minsi v0 c15_i32
  let c9_i32 : BitVec 32 := 9#32
  let v2 : BitVec 32 := Scalar.muli arg1 c9_i32
  let c4_i32 : BitVec 32 := 4#32
  let v3 : BitVec 32 := Scalar.addi v2 c4_i32
  let c0_i32 : BitVec 32 := 0#32
  ![arg0.toNat, v1.toNat, v3.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c9_i32 : BitVec 32 := 9#32
  let v2 : BitVec 32 := Scalar.muli arg1 c9_i32
  let c7_i32 : BitVec 32 := 7#32
  let v3 : BitVec 32 := Scalar.addi v2 c7_i32
  let c0_i32_0 : BitVec 32 := 0#32
  ![arg0.toNat, v1.toNat, v3.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c9_i32 : BitVec 32 := 9#32
  let v0 : BitVec 32 := Scalar.muli arg1 c9_i32
  let c7_i32 : BitVec 32 := 7#32
  let v1 : BitVec 32 := Scalar.addi v0 c7_i32
  let c0_i32 : BitVec 32 := 0#32
  ![arg0.toNat, arg2.toNat, v1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c15_i32 : BitVec 32 := 15#32
  let v1 : BitVec 32 := Scalar.minsi v0 c15_i32
  let c9_i32 : BitVec 32 := 9#32
  let v2 : BitVec 32 := Scalar.muli arg1 c9_i32
  let c7_i32 : BitVec 32 := 7#32
  let v3 : BitVec 32 := Scalar.addi v2 c7_i32
  let c0_i32 : BitVec 32 := 0#32
  ![arg0.toNat, v1.toNat, v3.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x128x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x128x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== Dil4Ideal.lean ====
variable {F : FTy → Type} [FloatOps F] [Named F]
def κ : String → Option EReal := fun
  | "mask" => some ⊥
  | _ => none
-- ==== Dil4RefIdeal.lean ====
abbrev S2x2048x9216 : Shape := ⟨3, ![2, 2048, 9216]⟩
abbrev S2x2048x4x9x4x64 : Shape := ⟨6, ![2, 2048, 4, 9, 4, 64]⟩
abbrev S2x2048x4x1x4x64 : Shape := ⟨6, ![2, 2048, 4, 1, 4, 64]⟩
abbrev S2x2048x4x4x64 : Shape := ⟨5, ![2, 2048, 4, 4, 64]⟩
abbrev S2x4x2048x4x64 : Shape := ⟨5, ![2, 4, 2048, 4, 64]⟩
abbrev S8x2048x4x64 : Shape := ⟨4, ![8, 2048, 4, 64]⟩
abbrev S_ : Shape := ⟨0, ![]⟩
abbrev S8x2176x4x64 : Shape := ⟨4, ![8, 2176, 4, 64]⟩
abbrev S8x34x64x4x64 : Shape := ⟨5, ![8, 34, 64, 4, 64]⟩
abbrev S8x32x64x4x64 : Shape := ⟨5, ![8, 32, 64, 4, 64]⟩
abbrev S8x32x192x4x64 : Shape := ⟨5, ![8, 32, 192, 4, 64]⟩
abbrev S2048 : Shape := ⟨1, ![2048]⟩
abbrev S32x64 : Shape := ⟨2, ![32, 64]⟩
abbrev S32 : Shape := ⟨1, ![32]⟩
abbrev S32x1 : Shape := ⟨2, ![32, 1]⟩
abbrev S192 : Shape := ⟨1, ![192]⟩
abbrev S1x192 : Shape := ⟨2, ![1, 192]⟩
abbrev S32x192 : Shape := ⟨2, ![32, 192]⟩
abbrev S32x64x1 : Shape := ⟨3, ![32, 64, 1]⟩
abbrev S32x1x192 : Shape := ⟨3, ![32, 1, 192]⟩
abbrev S32x64x192 : Shape := ⟨3, ![32, 64, 192]⟩
abbrev S8x32x4x64x192 : Shape := ⟨5, ![8, 32, 4, 64, 192]⟩
abbrev S1x32x1x64x192 : Shape := ⟨5, ![1, 32, 1, 64, 192]⟩
abbrev S8x32x4x64 : Shape := ⟨4, ![8, 32, 4, 64]⟩
abbrev S8x32x4x64x1 : Shape := ⟨5, ![8, 32, 4, 64, 1]⟩
abbrev S8x32x4x64x64 : Shape := ⟨5, ![8, 32, 4, 64, 64]⟩
abbrev S8x32x64x4 : Shape := ⟨4, ![8, 32, 64, 4]⟩
abbrev S8x32x64x4x1 : Shape := ⟨5, ![8, 32, 64, 4, 1]⟩
abbrev S2x2048x1024 : Shape := ⟨3, ![2, 2048, 1024]⟩

abbrev nBuf : Space → Nat
  | .hbm => 98
  | .vmem => 0
  | .smem => 0
  | _ => 0

abbrev bufTy : (tb : Table) → Fin (tcTables nBuf tb) → BufTy
  | .hbm, ⟨0, _⟩ => ⟨S2x2048x9216, .bf16⟩
  | .hbm, ⟨1, _⟩ => ⟨S2x2048x9216, .f32⟩
  | .hbm, ⟨2, _⟩ => ⟨S2x2048x4x9x4x64, .f32⟩
  | .hbm, ⟨3, _⟩ => ⟨S2x2048x4x1x4x64, .f32⟩
  | .hbm, ⟨4, _⟩ => ⟨S2x2048x4x4x64, .f32⟩
  | .hbm, ⟨5, _⟩ => ⟨S2x4x2048x4x64, .f32⟩
  | .hbm, ⟨6, _⟩ => ⟨S8x2048x4x64, .f32⟩
  | .hbm, ⟨7, _⟩ => ⟨S2x2048x4x1x4x64, .f32⟩
  | .hbm, ⟨8, _⟩ => ⟨S2x2048x4x4x64, .f32⟩
  | .hbm, ⟨9, _⟩ => ⟨S2x4x2048x4x64, .f32⟩
  | .hbm, ⟨10, _⟩ => ⟨S8x2048x4x64, .f32⟩
  | .hbm, ⟨11, _⟩ => ⟨S2x2048x4x1x4x64, .f32⟩
  | .hbm, ⟨12, _⟩ => ⟨S2x2048x4x4x64, .f32⟩
  | .hbm, ⟨13, _⟩ => ⟨S2x4x2048x4x64, .f32⟩
  | .hbm, ⟨14, _⟩ => ⟨S8x2048x4x64, .f32⟩
  | .hbm, ⟨15, _⟩ => ⟨S_, .i32⟩
  | .hbm, ⟨16, _⟩ => ⟨S_, .f32⟩
  | .hbm, ⟨17, _⟩ => ⟨S8x2176x4x64, .f32⟩
  | .hbm, ⟨18, _⟩ => ⟨S8x34x64x4x64, .f32⟩
  | .hbm, ⟨19, _⟩ => ⟨S_, .i32⟩
  | .hbm, ⟨20, _⟩ => ⟨S_, .f32⟩
  | .hbm, ⟨21, _⟩ => ⟨S8x2176x4x64, .f32⟩
  | .hbm, ⟨22, _⟩ => ⟨S8x34x64x4x64, .f32⟩
  | .hbm, ⟨23, _⟩ => ⟨S8x32x64x4x64, .f32⟩
  | .hbm, ⟨24, _⟩ => ⟨S8x32x64x4x64, .f32⟩
  | .hbm, ⟨25, _⟩ => ⟨S8x32x64x4x64, .f32⟩
  | .hbm, ⟨26, _⟩ => ⟨S8x32x192x4x64, .f32⟩
  | .hbm, ⟨27, _⟩ => ⟨S8x32x64x4x64, .f32⟩
  | .hbm, ⟨28, _⟩ => ⟨S8x32x64x4x64, .f32⟩
  | .hbm, ⟨29, _⟩ => ⟨S8x32x64x4x64, .f32⟩
  | .hbm, ⟨30, _⟩ => ⟨S8x32x192x4x64, .f32⟩
  | .hbm, ⟨31, _⟩ => ⟨S8x32x64x4x64, .f32⟩
  | .hbm, ⟨32, _⟩ => ⟨S2048, .i32⟩
  | .hbm, ⟨33, _⟩ => ⟨S32x64, .i32⟩
  | .hbm, ⟨34, _⟩ => ⟨S32, .i32⟩
  | .hbm, ⟨35, _⟩ => ⟨S32x1, .i32⟩
  | .hbm, ⟨36, _⟩ => ⟨S_, .i32⟩
  | .hbm, ⟨37, _⟩ => ⟨S32x1, .i32⟩
  | .hbm, ⟨38, _⟩ => ⟨S32x1, .i32⟩
  | .hbm, ⟨39, _⟩ => ⟨S_, .i32⟩
  | .hbm, ⟨40, _⟩ => ⟨S32x1, .i32⟩
  | .hbm, ⟨41, _⟩ => ⟨S32x1, .i32⟩
  | .hbm, ⟨42, _⟩ => ⟨S192, .i32⟩
  | .hbm, ⟨43, _⟩ => ⟨S1x192, .i32⟩
  | .hbm, ⟨44, _⟩ => ⟨S32x192, .i32⟩
  | .hbm, ⟨45, _⟩ => ⟨S32x192, .i32⟩
  | .hbm, ⟨46, _⟩ => ⟨S32x192, .i32⟩
  | .hbm, ⟨47, _⟩ => ⟨S32x64x1, .i32⟩
  | .hbm, ⟨48, _⟩ => ⟨S32x1x192, .i32⟩
  | .hbm, ⟨49, _⟩ => ⟨S32x64x192, .i32⟩
  | .hbm, ⟨50, _⟩ => ⟨S32x64x192, .i32⟩
  | .hbm, ⟨51, _⟩ => ⟨S32x64x192, .i32⟩
  | .hbm, ⟨52, _⟩ => ⟨S32x64x192, .i32⟩
  | .hbm, ⟨53, _⟩ => ⟨S_, .i32⟩
  | .hbm, ⟨54, _⟩ => ⟨S32x64x192, .i32⟩
  | .hbm, ⟨55, _⟩ => ⟨S32x64x192, .i1⟩
  | .hbm, ⟨56, _⟩ => ⟨S_, .i32⟩
  | .hbm, ⟨57, _⟩ => ⟨S32x192, .i32⟩
  | .hbm, ⟨58, _⟩ => ⟨S32x192, .i1⟩
  | .hbm, ⟨59, _⟩ => ⟨S_, .i32⟩
  | .hbm, ⟨60, _⟩ => ⟨S32x192, .i32⟩
  | .hbm, ⟨61, _⟩ => ⟨S32x192, .i1⟩
  | .hbm, ⟨62, _⟩ => ⟨S32x192, .i1⟩
  | .hbm, ⟨63, _⟩ => ⟨S32x1x192, .i1⟩
  | .hbm, ⟨64, _⟩ => ⟨S32x64x192, .i1⟩
  | .hbm, ⟨65, _⟩ => ⟨S32x64x192, .i1⟩
  | .hbm, ⟨66, _⟩ => ⟨S8x32x4x64x192, .f32⟩
  | .hbm, ⟨67, _⟩ => ⟨S1x32x1x64x192, .i1⟩
  | .hbm, ⟨68, _⟩ => ⟨S_, .f32⟩
  | .hbm, ⟨69, _⟩ => ⟨S_, .f32⟩
  | .hbm, ⟨70, _⟩ => ⟨S8x32x4x64x192, .i1⟩
  | .hbm, ⟨71, _⟩ => ⟨S8x32x4x64x192, .f32⟩
  | .hbm, ⟨72, _⟩ => ⟨S8x32x4x64x192, .f32⟩
  | .hbm, ⟨73, _⟩ => ⟨S_, .f32⟩
  | .hbm, ⟨74, _⟩ => ⟨S8x32x4x64, .f32⟩
  | .hbm, ⟨75, _⟩ => ⟨S8x32x4x64x1, .f32⟩
  | .hbm, ⟨76, _⟩ => ⟨S8x32x4x64x192, .f32⟩
  | .hbm, ⟨77, _⟩ => ⟨S8x32x4x64x192, .f32⟩
  | .hbm, ⟨78, _⟩ => ⟨S8x32x4x64x192, .f32⟩
  | .hbm, ⟨79, _⟩ => ⟨S_, .f32⟩
  | .hbm, ⟨80, _⟩ => ⟨S8x32x4x64, .f32⟩
  | .hbm, ⟨81, _⟩ => ⟨S8x32x4x64x1, .f32⟩
  | .hbm, ⟨82, _⟩ => ⟨S8x32x4x64x192, .f32⟩
  | .hbm, ⟨83, _⟩ => ⟨S8x32x4x64x192, .f32⟩
  | .hbm, ⟨84, _⟩ => ⟨S8x32x4x64x64, .f32⟩
  | .hbm, ⟨85, _⟩ => ⟨S8x32x64x4x64, .f32⟩
  | .hbm, ⟨86, _⟩ => ⟨S8x32x4x64, .f32⟩
  | .hbm, ⟨87, _⟩ => ⟨S8x32x4x64, .f32⟩
  | .hbm, ⟨88, _⟩ => ⟨S8x32x64x4, .f32⟩
  | .hbm, ⟨89, _⟩ => ⟨S8x32x64x4x1, .f32⟩
  | .hbm, ⟨90, _⟩ => ⟨S8x32x64x4x64, .f32⟩
  | .hbm, ⟨91, _⟩ => ⟨S2x4x2048x4x64, .f32⟩
  | .hbm, ⟨92, _⟩ => ⟨S2x2048x4x4x64, .f32⟩
  | .hbm, ⟨93, _⟩ => ⟨S2x2048x1024, .f32⟩
  | .hbm, ⟨94, _⟩ => ⟨S2x2048x1024, .bf16⟩
  | .hbm, ⟨95, _⟩ => ⟨S2x4x2048x4x64, .f32⟩
  | .hbm, ⟨96, _⟩ => ⟨S2x2048x4x4x64, .f32⟩
  | .hbm, ⟨97, _⟩ => ⟨S2x2048x1024, .f32⟩
  | _, _ => ⟨S2x2048x9216, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_c : Ref sig .tc := ⟨.hbm, 15, rfl⟩
abbrev main_call0_v0 : Ref sig .tc := ⟨.hbm, 16, rfl⟩
abbrev main_v14 : Ref sig .tc := ⟨.hbm, 17, rfl⟩
abbrev main_v15 : Ref sig .tc := ⟨.hbm, 18, rfl⟩
abbrev main_c_0 : Ref sig .tc := ⟨.hbm, 19, rfl⟩
abbrev main_call1_v0 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_c_1 : Ref sig .tc := ⟨.hbm, 36, rfl⟩
abbrev main_v31 : Ref sig .tc := ⟨.hbm, 37, rfl⟩
abbrev main_v32 : Ref sig .tc := ⟨.hbm, 38, rfl⟩
abbrev main_c_2 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_c_3 : Ref sig .tc := ⟨.hbm, 53, rfl⟩
abbrev main_v46 : Ref sig .tc := ⟨.hbm, 54, rfl⟩
abbrev main_v47 : Ref sig .tc := ⟨.hbm, 55, rfl⟩
abbrev main_c_4 : Ref sig .tc := ⟨.hbm, 56, rfl⟩
abbrev main_v48 : Ref sig .tc := ⟨.hbm, 57, rfl⟩
abbrev main_v49 : Ref sig .tc := ⟨.hbm, 58, rfl⟩
abbrev main_c_5 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_cst : Ref sig .tc := ⟨.hbm, 68, rfl⟩
abbrev main_call2_v0 : Ref sig .tc := ⟨.hbm, 69, rfl⟩
abbrev main_call2_v1 : Ref sig .tc := ⟨.hbm, 70, rfl⟩
abbrev main_call2_v2 : Ref sig .tc := ⟨.hbm, 71, rfl⟩
abbrev main_v58 : Ref sig .tc := ⟨.hbm, 72, rfl⟩
abbrev main_cst_6 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_cst_7 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩

abbrev nD : Nat := 1
abbrev τ : Topo := Topo.v7x

variable {F : FTy → Type} [FloatOps F]
-- ==== Dil16.lean ====
abbrev S2x512x36864 : Shape := ⟨3, ![2, 512, 36864]⟩
abbrev S2x512x4096 : Shape := ⟨3, ![2, 512, 4096]⟩
abbrev S1x128x256 : Shape := ⟨3, ![1, 128, 256]⟩
abbrev S128x256 : Shape := ⟨2, ![128, 256]⟩
abbrev S384x256 : Shape := ⟨2, ![384, 256]⟩
abbrev S128x384 : Shape := ⟨2, ![128, 384]⟩
abbrev S384x64 : Shape := ⟨2, ![384, 64]⟩
abbrev S1x128x64 : Shape := ⟨3, ![1, 128, 64]⟩
abbrev S128x64 : Shape := ⟨2, ![128, 64]⟩
abbrev S128 : Shape := ⟨1, ![128]⟩
abbrev S128x1 : Shape := ⟨2, ![128, 1]⟩

abbrev nBuf : Space → Nat
  | .hbm => 3
  | .vmem => 18
  | .smem => 0
  | _ => 0

abbrev bufTy : (tb : Table) → Fin (tcTables nBuf tb) → BufTy
  | .hbm, ⟨0, _⟩ => ⟨S2x512x36864, .bf16⟩
  | .hbm, ⟨1, _⟩ => ⟨S2x512x4096, .bf16⟩
  | .hbm, ⟨2, _⟩ => ⟨S2x512x4096, .f32⟩
  | .local _ .vmem, ⟨0, _⟩ => ⟨S1x128x256, .bf16⟩
  | .local _ .vmem, ⟨1, _⟩ => ⟨S1x128x256, .bf16⟩
  | .local _ .vmem, ⟨2, _⟩ => ⟨S1x128x256, .bf16⟩
  | .local _ .vmem, ⟨3, _⟩ => ⟨S1x128x256, .bf16⟩
  | .local _ .vmem, ⟨4, _⟩ => ⟨S1x128x256, .bf16⟩
  | .local _ .vmem, ⟨5, _⟩ => ⟨S1x128x256, .bf16⟩
  | .local _ .vmem, ⟨6, _⟩ => ⟨S1x128x256, .bf16⟩
  | .local _ .vmem, ⟨7, _⟩ => ⟨S1x128x256, .bf16⟩
  | .local _ .vmem, ⟨8, _⟩ => ⟨S1x128x256, .bf16⟩
  | .local _ .vmem, ⟨9, _⟩ => ⟨S1x128x256, .bf16⟩
  | .local _ .vmem, ⟨10, _⟩ => ⟨S1x128x256, .bf16⟩
  | .local _ .vmem, ⟨11, _⟩ => ⟨S1x128x256, .bf16⟩
  | .local _ .vmem, ⟨12, _⟩ => ⟨S1x128x256, .bf16⟩
  | .local _ .vmem, ⟨13, _⟩ => ⟨S1x128x256, .bf16⟩
  | .local _ .vmem, ⟨14, _⟩ => ⟨S1x128x256, .bf16⟩
  | .local _ .vmem, ⟨15, _⟩ => ⟨S1x128x256, .bf16⟩
  | .local _ .vmem, ⟨16, _⟩ => ⟨S1x128x256, .f32⟩
  | .local _ .vmem, ⟨17, _⟩ => ⟨S1x128x256, .f32⟩
  | _, _ => ⟨S2x512x36864, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![2, 16, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c9_i32 : BitVec 32 := 9#32
  let v0 : BitVec 32 := Scalar.muli arg1 c9_i32
  let c2_i32 : BitVec 32 := 2#32
  let v1 : BitVec 32 := Scalar.addi v0 c2_i32
  let c0_i32 : BitVec 32 := 0#32
  ![arg0.toNat, arg2.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c9_i32 : BitVec 32 := 9#32
  let v2 : BitVec 32 := Scalar.muli arg1 c9_i32
  let c5_i32 : BitVec 32 := 5#32
  let v3 : BitVec 32 := Scalar.addi v2 c5_i32
  let c0_i32_0 : BitVec 32 := 0#32
  ![arg0.toNat, v1.toNat, v3.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c9_i32 : BitVec 32 := 9#32
  let v0 : BitVec 32 := Scalar.muli arg1 c9_i32
  let c5_i32 : BitVec 32 := 5#32
  let v1 : BitVec 32 := Scalar.addi v0 c5_i32
  let c0_i32 : BitVec 32 := 0#32
  ![arg0.toNat, arg2.toNat, v1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c3_i32 : BitVec 32 := 3#32
  let v1 : BitVec 32 := Scalar.minsi v0 c3_i32
  let c9_i32 : BitVec 32 := 9#32
  let v2 : BitVec 32 := Scalar.muli arg1 c9_i32
  let c5_i32 : BitVec 32 := 5#32
  let v3 : BitVec 32 := Scalar.addi v2 c5_i32
  let c0_i32 : BitVec 32 := 0#32
  ![arg0.toNat, v1.toNat, v3.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c9_i32 : BitVec 32 := 9#32
  let v2 : BitVec 32 := Scalar.muli arg1 c9_i32
  let c8_i32 : BitVec 32 := 8#32
  let v3 : BitVec 32 := Scalar.addi v2 c8_i32
  let c0_i32_0 : BitVec 32 := 0#32
  ![arg0.toNat, v1.toNat, v3.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c9_i32 : BitVec 32 := 9#32
  let v0 : BitVec 32 := Scalar.muli arg1 c9_i32
  let c8_i32 : BitVec 32 := 8#32
  let v1 : BitVec 32 := Scalar.addi v0 c8_i32
  let c0_i32 : BitVec 32 := 0#32
  ![arg0.toNat, arg2.toNat, v1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c3_i32 : BitVec 32 := 3#32
  let v1 : BitVec 32 := Scalar.minsi v0 c3_i32
  let c9_i32 : BitVec 32 := 9#32
  let v2 : BitVec 32 := Scalar.muli arg1 c9_i32
  let c8_i32 : BitVec 32 := 8#32
  let v3 : BitVec 32 := Scalar.addi v2 c8_i32
  let c0_i32 : BitVec 32 := 0#32
  ![arg0.toNat, v1.toNat, v3.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x128x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x128x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== Dil16Ideal.lean ====
variable {F : FTy → Type} [FloatOps F] [Named F]
def κ : String → Option EReal := fun
  | "mask" => some ⊥
  | _ => none
-- ==== Dil16RefIdeal.lean ====
abbrev S2x512x36864 : Shape := ⟨3, ![2, 512, 36864]⟩
abbrev S2x512x16x9x4x64 : Shape := ⟨6, ![2, 512, 16, 9, 4, 64]⟩
abbrev S2x512x16x1x4x64 : Shape := ⟨6, ![2, 512, 16, 1, 4, 64]⟩
abbrev S2x512x16x4x64 : Shape := ⟨5, ![2, 512, 16, 4, 64]⟩
abbrev S2x16x512x4x64 : Shape := ⟨5, ![2, 16, 512, 4, 64]⟩
abbrev S32x512x4x64 : Shape := ⟨4, ![32, 512, 4, 64]⟩
abbrev S_ : Shape := ⟨0, ![]⟩
abbrev S32x640x4x64 : Shape := ⟨4, ![32, 640, 4, 64]⟩
abbrev S32x10x64x4x64 : Shape := ⟨5, ![32, 10, 64, 4, 64]⟩
abbrev S32x8x64x4x64 : Shape := ⟨5, ![32, 8, 64, 4, 64]⟩
abbrev S32x8x192x4x64 : Shape := ⟨5, ![32, 8, 192, 4, 64]⟩
abbrev S512 : Shape := ⟨1, ![512]⟩
abbrev S8x64 : Shape := ⟨2, ![8, 64]⟩
abbrev S8 : Shape := ⟨1, ![8]⟩
abbrev S8x1 : Shape := ⟨2, ![8, 1]⟩
abbrev S192 : Shape := ⟨1, ![192]⟩
abbrev S1x192 : Shape := ⟨2, ![1, 192]⟩
abbrev S8x192 : Shape := ⟨2, ![8, 192]⟩
abbrev S8x64x1 : Shape := ⟨3, ![8, 64, 1]⟩
abbrev S8x1x192 : Shape := ⟨3, ![8, 1, 192]⟩
abbrev S8x64x192 : Shape := ⟨3, ![8, 64, 192]⟩
abbrev S32x8x4x64x192 : Shape := ⟨5, ![32, 8, 4, 64, 192]⟩
abbrev S1x8x1x64x192 : Shape := ⟨5, ![1, 8, 1, 64, 192]⟩
abbrev S32x8x4x64 : Shape := ⟨4, ![32, 8, 4, 64]⟩
abbrev S32x8x4x64x1 : Shape := ⟨5, ![32, 8, 4, 64, 1]⟩
abbrev S32x8x4x64x64 : Shape := ⟨5, ![32, 8, 4, 64, 64]⟩
abbrev S32x8x64x4 : Shape := ⟨4, ![32, 8, 64, 4]⟩
abbrev S32x8x64x4x1 : Shape := ⟨5, ![32, 8, 64, 4, 1]⟩
abbrev S2x512x4096 : Shape := ⟨3, ![2, 512, 4096]⟩

abbrev nBuf : Space → Nat
  | .hbm => 98
  | .vmem => 0
  | .smem => 0
  | _ => 0

abbrev bufTy : (tb : Table) → Fin (tcTables nBuf tb) → BufTy
  | .hbm, ⟨0, _⟩ => ⟨S2x512x36864, .bf16⟩
  | .hbm, ⟨1, _⟩ => ⟨S2x512x36864, .f32⟩
  | .hbm, ⟨2, _⟩ => ⟨S2x512x16x9x4x64, .f32⟩
  | .hbm, ⟨3, _⟩ => ⟨S2x512x16x1x4x64, .f32⟩
  | .hbm, ⟨4, _⟩ => ⟨S2x512x16x4x64, .f32⟩
  | .hbm, ⟨5, _⟩ => ⟨S2x16x512x4x64, .f32⟩
  | .hbm, ⟨6, _⟩ => ⟨S32x512x4x64, .f32⟩
  | .hbm, ⟨7, _⟩ => ⟨S2x512x16x1x4x64, .f32⟩
  | .hbm, ⟨8, _⟩ => ⟨S2x512x16x4x64, .f32⟩
  | .hbm, ⟨9, _⟩ => ⟨S2x16x512x4x64, .f32⟩
  | .hbm, ⟨10, _⟩ => ⟨S32x512x4x64, .f32⟩
  | .hbm, ⟨11, _⟩ => ⟨S2x512x16x1x4x64, .f32⟩
  | .hbm, ⟨12, _⟩ => ⟨S2x512x16x4x64, .f32⟩
  | .hbm, ⟨13, _⟩ => ⟨S2x16x512x4x64, .f32⟩
  | .hbm, ⟨14, _⟩ => ⟨S32x512x4x64, .f32⟩
  | .hbm, ⟨15, _⟩ => ⟨S_, .i32⟩
  | .hbm, ⟨16, _⟩ => ⟨S_, .f32⟩
  | .hbm, ⟨17, _⟩ => ⟨S32x640x4x64, .f32⟩
  | .hbm, ⟨18, _⟩ => ⟨S32x10x64x4x64, .f32⟩
  | .hbm, ⟨19, _⟩ => ⟨S_, .i32⟩
  | .hbm, ⟨20, _⟩ => ⟨S_, .f32⟩
  | .hbm, ⟨21, _⟩ => ⟨S32x640x4x64, .f32⟩
  | .hbm, ⟨22, _⟩ => ⟨S32x10x64x4x64, .f32⟩
  | .hbm, ⟨23, _⟩ => ⟨S32x8x64x4x64, .f32⟩
  | .hbm, ⟨24, _⟩ => ⟨S32x8x64x4x64, .f32⟩
  | .hbm, ⟨25, _⟩ => ⟨S32x8x64x4x64, .f32⟩
  | .hbm, ⟨26, _⟩ => ⟨S32x8x192x4x64, .f32⟩
  | .hbm, ⟨27, _⟩ => ⟨S32x8x64x4x64, .f32⟩
  | .hbm, ⟨28, _⟩ => ⟨S32x8x64x4x64, .f32⟩
  | .hbm, ⟨29, _⟩ => ⟨S32x8x64x4x64, .f32⟩
  | .hbm, ⟨30, _⟩ => ⟨S32x8x192x4x64, .f32⟩
  | .hbm, ⟨31, _⟩ => ⟨S32x8x64x4x64, .f32⟩
  | .hbm, ⟨32, _⟩ => ⟨S512, .i32⟩
  | .hbm, ⟨33, _⟩ => ⟨S8x64, .i32⟩
  | .hbm, ⟨34, _⟩ => ⟨S8, .i32⟩
  | .hbm, ⟨35, _⟩ => ⟨S8x1, .i32⟩
  | .hbm, ⟨36, _⟩ => ⟨S_, .i32⟩
  | .hbm, ⟨37, _⟩ => ⟨S8x1, .i32⟩
  | .hbm, ⟨38, _⟩ => ⟨S8x1, .i32⟩
  | .hbm, ⟨39, _⟩ => ⟨S_, .i32⟩
  | .hbm, ⟨40, _⟩ => ⟨S8x1, .i32⟩
  | .hbm, ⟨41, _⟩ => ⟨S8x1, .i32⟩
  | .hbm, ⟨42, _⟩ => ⟨S192, .i32⟩
  | .hbm, ⟨43, _⟩ => ⟨S1x192, .i32⟩
  | .hbm, ⟨44, _⟩ => ⟨S8x192, .i32⟩
  | .hbm, ⟨45, _⟩ => ⟨S8x192, .i32⟩
  | .hbm, ⟨46, _⟩ => ⟨S8x192, .i32⟩
  | .hbm, ⟨47, _⟩ => ⟨S8x64x1, .i32⟩
  | .hbm, ⟨48, _⟩ => ⟨S8x1x192, .i32⟩
  | .hbm, ⟨49, _⟩ => ⟨S8x64x192, .i32⟩
  | .hbm, ⟨50, _⟩ => ⟨S8x64x192, .i32⟩
  | .hbm, ⟨51, _⟩ => ⟨S8x64x192, .i32⟩
  | .hbm, ⟨52, _⟩ => ⟨S8x64x192, .i32⟩
  | .hbm, ⟨53, _⟩ => ⟨S_, .i32⟩
  | .hbm, ⟨54, _⟩ => ⟨S8x64x192, .i32⟩
  | .hbm, ⟨55, _⟩ => ⟨S8x64x192, .i1⟩
  | .hbm, ⟨56, _⟩ => ⟨S_, .i32⟩
  | .hbm, ⟨57, _⟩ => ⟨S8x192, .i32⟩
  | .hbm, ⟨58, _⟩ => ⟨S8x192, .i1⟩
  | .hbm, ⟨59, _⟩ => ⟨S_, .i32⟩
  | .hbm, ⟨60, _⟩ => ⟨S8x192, .i32⟩
  | .hbm, ⟨61, _⟩ => ⟨S8x192, .i1⟩
  | .hbm, ⟨62, _⟩ => ⟨S8x192, .i1⟩
  | .hbm, ⟨63, _⟩ => ⟨S8x1x192, .i1⟩
  | .hbm, ⟨64, _⟩ => ⟨S8x64x192, .i1⟩
  | .hbm, ⟨65, _⟩ => ⟨S8x64x192, .i1⟩
  | .hbm, ⟨66, _⟩ => ⟨S32x8x4x64x192, .f32⟩
  | .hbm, ⟨67, _⟩ => ⟨S1x8x1x64x192, .i1⟩
  | .hbm, ⟨68, _⟩ => ⟨S_, .f32⟩
  | .hbm, ⟨69, _⟩ => ⟨S_, .f32⟩
  | .hbm, ⟨70, _⟩ => ⟨S32x8x4x64x192, .i1⟩
  | .hbm, ⟨71, _⟩ => ⟨S32x8x4x64x192, .f32⟩
  | .hbm, ⟨72, _⟩ => ⟨S32x8x4x64x192, .f32⟩
  | .hbm, ⟨73, _⟩ => ⟨S_, .f32⟩
  | .hbm, ⟨74, _⟩ => ⟨S32x8x4x64, .f32⟩
  | .hbm, ⟨75, _⟩ => ⟨S32x8x4x64x1, .f32⟩
  | .hbm, ⟨76, _⟩ => ⟨S32x8x4x64x192, .f32⟩
  | .hbm, ⟨77, _⟩ => ⟨S32x8x4x64x192, .f32⟩
  | .hbm, ⟨78, _⟩ => ⟨S32x8x4x64x192, .f32⟩
  | .hbm, ⟨79, _⟩ => ⟨S_, .f32⟩
  | .hbm, ⟨80, _⟩ => ⟨S32x8x4x64, .f32⟩
  | .hbm, ⟨81, _⟩ => ⟨S32x8x4x64x1, .f32⟩
  | .hbm, ⟨82, _⟩ => ⟨S32x8x4x64x192, .f32⟩
  | .hbm, ⟨83, _⟩ => ⟨S32x8x4x64x192, .f32⟩
  | .hbm, ⟨84, _⟩ => ⟨S32x8x4x64x64, .f32⟩
  | .hbm, ⟨85, _⟩ => ⟨S32x8x64x4x64, .f32⟩
  | .hbm, ⟨86, _⟩ => ⟨S32x8x4x64, .f32⟩
  | .hbm, ⟨87, _⟩ => ⟨S32x8x4x64, .f32⟩
  | .hbm, ⟨88, _⟩ => ⟨S32x8x64x4, .f32⟩
  | .hbm, ⟨89, _⟩ => ⟨S32x8x64x4x1, .f32⟩
  | .hbm, ⟨90, _⟩ => ⟨S32x8x64x4x64, .f32⟩
  | .hbm, ⟨91, _⟩ => ⟨S2x16x512x4x64, .f32⟩
  | .hbm, ⟨92, _⟩ => ⟨S2x512x16x4x64, .f32⟩
  | .hbm, ⟨93, _⟩ => ⟨S2x512x4096, .f32⟩
  | .hbm, ⟨94, _⟩ => ⟨S2x512x4096, .bf16⟩
  | .hbm, ⟨95, _⟩ => ⟨S2x16x512x4x64, .f32⟩
  | .hbm, ⟨96, _⟩ => ⟨S2x512x16x4x64, .f32⟩
  | .hbm, ⟨97, _⟩ => ⟨S2x512x4096, .f32⟩
  | _, _ => ⟨S2x512x36864, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_c : Ref sig .tc := ⟨.hbm, 15, rfl⟩
abbrev main_call0_v0 : Ref sig .tc := ⟨.hbm, 16, rfl⟩
abbrev main_v14 : Ref sig .tc := ⟨.hbm, 17, rfl⟩
abbrev main_v15 : Ref sig .tc := ⟨.hbm, 18, rfl⟩
abbrev main_c_0 : Ref sig .tc := ⟨.hbm, 19, rfl⟩
abbrev main_call1_v0 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_c_1 : Ref sig .tc := ⟨.hbm, 36, rfl⟩
abbrev main_v31 : Ref sig .tc := ⟨.hbm, 37, rfl⟩
abbrev main_v32 : Ref sig .tc := ⟨.hbm, 38, rfl⟩
abbrev main_c_2 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_c_3 : Ref sig .tc := ⟨.hbm, 53, rfl⟩
abbrev main_v46 : Ref sig .tc := ⟨.hbm, 54, rfl⟩
abbrev main_v47 : Ref sig .tc := ⟨.hbm, 55, rfl⟩
abbrev main_c_4 : Ref sig .tc := ⟨.hbm, 56, rfl⟩
abbrev main_v48 : Ref sig .tc := ⟨.hbm, 57, rfl⟩
abbrev main_v49 : Ref sig .tc := ⟨.hbm, 58, rfl⟩
abbrev main_c_5 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_cst : Ref sig .tc := ⟨.hbm, 68, rfl⟩
abbrev main_call2_v0 : Ref sig .tc := ⟨.hbm, 69, rfl⟩
abbrev main_call2_v1 : Ref sig .tc := ⟨.hbm, 70, rfl⟩
abbrev main_call2_v2 : Ref sig .tc := ⟨.hbm, 71, rfl⟩
abbrev main_v58 : Ref sig .tc := ⟨.hbm, 72, rfl⟩
abbrev main_cst_6 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_cst_7 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩

abbrev nD : Nat := 1
abbrev τ : Topo := Topo.v7x

variable {F : FTy → Type} [FloatOps F]
-- ==== PleFirst.lean ====
abbrev S16384x1024 : Shape := ⟨2, ![16384, 1024]⟩
abbrev S4x1x1024 : Shape := ⟨3, ![4, 1, 1024]⟩
abbrev S4x1024x1024 : Shape := ⟨3, ![4, 1024, 1024]⟩
abbrev S4x16384x256 : Shape := ⟨3, ![4, 16384, 256]⟩
abbrev S4x256x1024 : Shape := ⟨3, ![4, 256, 1024]⟩
abbrev S1x1024 : Shape := ⟨2, ![1, 1024]⟩
abbrev S512x1024 : Shape := ⟨2, ![512, 1024]⟩
abbrev S1x1x1024 : Shape := ⟨3, ![1, 1, 1024]⟩
abbrev S1x1024x1024 : Shape := ⟨3, ![1, 1024, 1024]⟩
abbrev S1x512x256 : Shape := ⟨3, ![1, 512, 256]⟩
abbrev S1x256x1024 : Shape := ⟨3, ![1, 256, 1024]⟩
abbrev S512 : Shape := ⟨1, ![512]⟩
abbrev S512x1 : Shape := ⟨2, ![512, 1]⟩
abbrev S1024x1024 : Shape := ⟨2, ![1024, 1024]⟩
abbrev S512x256 : Shape := ⟨2, ![512, 256]⟩
abbrev S256x1024 : Shape := ⟨2, ![256, 1024]⟩

abbrev nBuf : Space → Nat
  | .hbm => 7
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S4x1x1024, .f32⟩
  | .hbm, ⟨2, _⟩ => ⟨S4x1024x1024, .bf16⟩
  | .hbm, ⟨3, _⟩ => ⟨S4x16384x256, .f32⟩
  | .hbm, ⟨4, _⟩ => ⟨S4x256x1024, .bf16⟩
  | .hbm, ⟨5, _⟩ => ⟨S1x1024, .f32⟩
  | .hbm, ⟨6, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1024x1024, .bf16⟩
  | .local _ .vmem, ⟨4, _⟩ => ⟨S1x512x256, .f32⟩
  | .local _ .vmem, ⟨5, _⟩ => ⟨S1x512x256, .f32⟩
  | .local _ .vmem, ⟨6, _⟩ => ⟨S1x256x1024, .bf16⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== PleFirstRefIdeal.lean ====
abbrev S16384x1024 : Shape := ⟨2, ![16384, 1024]⟩
abbrev S4x1x1024 : Shape := ⟨3, ![4, 1, 1024]⟩
abbrev S4x1024x1024 : Shape := ⟨3, ![4, 1024, 1024]⟩
abbrev S4x16384x256 : Shape := ⟨3, ![4, 16384, 256]⟩
abbrev S4x256x1024 : Shape := ⟨3, ![4, 256, 1024]⟩
abbrev S1x1024 : Shape := ⟨2, ![1, 1024]⟩
abbrev S1x1x1024 : Shape := ⟨3, ![1, 1, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024x1024 : Shape := ⟨3, ![1, 1024, 1024]⟩
abbrev S1024x1024 : Shape := ⟨2, ![1024, 1024]⟩
abbrev S1x16384x256 : Shape := ⟨3, ![1, 16384, 256]⟩
abbrev S16384x256 : Shape := ⟨2, ![16384, 256]⟩
abbrev S1x256x1024 : Shape := ⟨3, ![1, 256, 1024]⟩
abbrev S256x1024 : Shape := ⟨2, ![256, 1024]⟩

abbrev nBuf : Space → Nat
  | .hbm => 44
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S4x1x1024, .f32⟩
  | .hbm, ⟨2, _⟩ => ⟨S4x1024x1024, .bf16⟩
  | .hbm, ⟨3, _⟩ => ⟨S4x16384x256, .f32⟩
  | .hbm, ⟨4, _⟩ => ⟨S4x256x1024, .bf16⟩
  | .hbm, ⟨5, _⟩ => ⟨S1x1024, .f32⟩
  | .hbm, ⟨6, _⟩ => ⟨S1x1x1024, .f32⟩
  | .hbm, ⟨7, _⟩ => ⟨S1024, .f32⟩
  | .hbm, ⟨8, _⟩ => ⟨S16384x1024, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S16384x1024, .f32⟩
  | .hbm, ⟨20, _⟩ => ⟨S16384x1024, .f32⟩
  | .hbm, ⟨21, _⟩ => ⟨S1x1024, .f32⟩
  | .hbm, ⟨22, _⟩ => ⟨S16384x1024, .f32⟩
  | .hbm, ⟨23, _⟩ => ⟨S16384x1024, .f32⟩
  | .hbm, ⟨24, _⟩ => ⟨S1x1024x1024, .bf16⟩
  | .hbm, ⟨25, _⟩ => ⟨S1024x1024, .bf16⟩
  | .hbm, ⟨26, _⟩ => ⟨S1024x1024, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S_, .f32⟩
  | .hbm, ⟨31, _⟩ => ⟨S16384x1024, .f32⟩
  | .hbm, ⟨32, _⟩ => ⟨S16384x1024, .f32⟩
  | .hbm, ⟨33, _⟩ => ⟨S_, .f32⟩
  | .hbm, ⟨34, _⟩ => ⟨S16384x1024, .f32⟩
  | .hbm, ⟨35, _⟩ => ⟨S16384x1024, .f32⟩
  | .hbm, ⟨36, _⟩ => ⟨S1x16384x256, .f32⟩
  | .hbm, ⟨37, _⟩ => ⟨S16384x256, .f32⟩
  | .hbm, ⟨38, _⟩ => ⟨S1x256x1024, .bf16⟩
  | .hbm, ⟨39, _⟩ => ⟨S256x1024, .bf16⟩
  | .hbm, ⟨40, _⟩ => ⟨S256x1024, .f32⟩
  | .hbm, ⟨41, _⟩ => ⟨S16384x1024, .f32⟩
  | .hbm, ⟨42, _⟩ => ⟨S16384x1024, .f32⟩
  | .hbm, ⟨43, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]
-- ==== Na.lean ====
abbrev S2x8192x1024 : Shape := ⟨3, ![2, 8192, 1024]⟩
abbrev S8x8x128x512 : Shape := ⟨4, ![8, 8, 128, 512]⟩
abbrev S1x512x128 : Shape := ⟨3, ![1, 512, 128]⟩
abbrev S1x8192x128 : Shape := ⟨3, ![1, 8192, 128]⟩
abbrev S8x1x128x512 : Shape := ⟨4, ![8, 1, 128, 512]⟩
abbrev S64x128 : Shape := ⟨2, ![64, 128]⟩
abbrev S512x128 : Shape := ⟨2, ![512, 128]⟩
abbrev S1x64x128 : Shape := ⟨3, ![1, 64, 128]⟩
abbrev S128x128 : Shape := ⟨2, ![128, 128]⟩
abbrev S128x512 : Shape := ⟨2, ![128, 512]⟩
abbrev S1x1x128x512 : Shape := ⟨4, ![1, 1, 128, 512]⟩
abbrev S128 : Shape := ⟨1, ![128]⟩
abbrev S128x1 : Shape := ⟨2, ![128, 1]⟩

abbrev nBuf : Space → Nat
  | .hbm => 5
  | .vmem => 10
  | .smem => 0
  | _ => 0

abbrev bufTy : (tb : Table) → Fin (tcTables nBuf tb) → BufTy
  | .hbm, ⟨0, _⟩ => ⟨S2x8192x1024, .bf16⟩
  | .hbm, ⟨1, _⟩ => ⟨S2x8192x1024, .bf16⟩
  | .hbm, ⟨2, _⟩ => ⟨S2x8192x1024, .bf16⟩
  | .hbm, ⟨3, _⟩ => ⟨S8x8x128x512, .f32⟩
  | .hbm, ⟨4, _⟩ => ⟨S2x8192x1024, .bf16⟩
  | .local _ .vmem, ⟨0, _⟩ => ⟨S1x512x128, .bf16⟩
  | .local _ .vmem, ⟨1, _⟩ => ⟨S1x512x128, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x8192x128, .bf16⟩
  | .local _ .vmem, ⟨5, _⟩ => ⟨S1x8192x128, .bf16⟩
  | .local _ .vmem, ⟨6, _⟩ => ⟨S8x1x128x512, .f32⟩
  | .local _ .vmem, ⟨7, _⟩ => ⟨S8x1x128x512, .f32⟩
  | .local _ .vmem, ⟨8, _⟩ => ⟨S1x512x128, .bf16⟩
  | .local _ .vmem, ⟨9, _⟩ => ⟨S1x512x128, .bf16⟩
  | _, _ => ⟨S2x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 8, 16], ![false, false, false]⟩

@[reducible] def k0_t1_loop : Scf.Loop 32 :=
  let c0_i32 : BitVec 32 := 0#32
  let c8_i32 : BitVec 32 := 8#32
  let v4 : BitVec 32 := Scalar.addi c0_i32 c8_i32
  let c1_i32 : BitVec 32 := 1#32
  ⟨c0_i32, v4, c1_i32⟩
def k0_mult1 (i : grid0.Coords) (k0_t1 : Fin k0_t1_loop.trips) : BitVec 32 :=
  let c120_i32 : BitVec 32 := 120#32
  let c0_i32_2 : BitVec 32 := 0#32
  let arg2 : BitVec 32 := BitVec.ofNat 32 (i 2).val
  let c8_i32_1 : BitVec 32 := 8#32
  let v5 : BitVec 32 := Scalar.muli arg2 c8_i32_1
  let c0_i32 : BitVec 32 := 0#32
  let c1_i32 : BitVec 32 := 1#32
  let arg8 : BitVec 32 := Scf.iv c0_i32 c1_i32 k0_t1
  let v6 : BitVec 32 := Scalar.addi v5 arg8
  let c4_i32 : BitVec 32 := 4#32
  let v7 : BitVec 32 := Scalar.subi v6 c4_i32
  let v8 : BitVec 32 := Scalar.maxsi c0_i32_2 v7
  let v9 : BitVec 32 := Scalar.minsi c120_i32 v8
  let c64_i32_3 : BitVec 32 := 64#32
  let v12 : BitVec 32 := Scalar.muli v9 c64_i32_3
  v12
def k0_off1 (i : grid0.Coords) (k0_t1 : Fin k0_t1_loop.trips) : Fin 3 → Nat :=
  let c0 : Index := 0#32
  let c120_i32 : BitVec 32 := 120#32
  let c0_i32_2 : BitVec 32 := 0#32
  let arg2 : BitVec 32 := BitVec.ofNat 32 (i 2).val
  let c8_i32_1 : BitVec 32 := 8#32
  let v5 : BitVec 32 := Scalar.muli arg2 c8_i32_1
  let c0_i32 : BitVec 32 := 0#32
  let c1_i32 : BitVec 32 := 1#32
  let arg8 : BitVec 32 := Scf.iv c0_i32 c1_i32 k0_t1
  let v6 : BitVec 32 := Scalar.addi v5 arg8
  let c4_i32 : BitVec 32 := 4#32
  let v7 : BitVec 32 := Scalar.subi v6 c4_i32
  let v8 : BitVec 32 := Scalar.maxsi c0_i32_2 v7
  let v9 : BitVec 32 := Scalar.minsi c120_i32 v8
  let c64_i32_3 : BitVec 32 := 64#32
  let v12 : BitVec 32 := Scalar.muli v9 c64_i32_3
  let v13 : BitVec 32 := v12
  let v14 : Index := Scalar.indexCast v13
  let c0_4 : Index := 0#32
  ![0, v14.toNat, 0]
def k0_mult2 (k0_t1 : Fin k0_t1_loop.trips) : BitVec 32 :=
  let c0_i32 : BitVec 32 := 0#32
  let c1_i32 : BitVec 32 := 1#32
  let arg8 : BitVec 32 := Scf.iv c0_i32 c1_i32 k0_t1
  let c64_i32_7 : BitVec 32 := 64#32
  let v20 : BitVec 32 := Scalar.muli arg8 c64_i32_7
  v20
def k0_off2 (k0_t1 : Fin k0_t1_loop.trips) : Fin 3 → Nat :=
  let c0_8 : Index := 0#32
  let c0_i32 : BitVec 32 := 0#32
  let c1_i32 : BitVec 32 := 1#32
  let arg8 : BitVec 32 := Scf.iv c0_i32 c1_i32 k0_t1
  let c64_i32_7 : BitVec 32 := 64#32
  let v20 : BitVec 32 := Scalar.muli arg8 c64_i32_7
  let v21 : BitVec 32 := v20
  let v22 : Index := Scalar.indexCast v21
  let c0_9 : Index := 0#32
  ![0, v22.toNat, 0]
def k0_off3 (i : grid0.Coords) (k0_t1 : Fin k0_t1_loop.trips) : Fin 4 → Nat :=
  let c120_i32 : BitVec 32 := 120#32
  let c0_i32_2 : BitVec 32 := 0#32
  let arg2 : BitVec 32 := BitVec.ofNat 32 (i 2).val
  let c8_i32_1 : BitVec 32 := 8#32
  let v5 : BitVec 32 := Scalar.muli arg2 c8_i32_1
  let c0_i32 : BitVec 32 := 0#32
  let c1_i32 : BitVec 32 := 1#32
  let arg8 : BitVec 32 := Scf.iv c0_i32 c1_i32 k0_t1
  let v6 : BitVec 32 := Scalar.addi v5 arg8
  let c4_i32 : BitVec 32 := 4#32
  let v7 : BitVec 32 := Scalar.subi v6 c4_i32
  let v8 : BitVec 32 := Scalar.maxsi c0_i32_2 v7
  let v9 : BitVec 32 := Scalar.minsi c120_i32 v8
  let v10 : BitVec 32 := Scalar.subi v9 v6
  let c7_i32 : BitVec 32 := 7#32
  let v11 : BitVec 32 := Scalar.addi v10 c7_i32
  let v29 : Index := Scalar.indexCast v11
  let c0_11 : Index := 0#32
  let c0_12 : Index := 0#32
  let c0_13 : Index := 0#32
  ![v29.toNat, 0, 0, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S8x1x128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== NaRefIdeal.lean ====
abbrev S2x8192x1024 : Shape := ⟨3, ![2, 8192, 1024]⟩
abbrev S8x8x128x512 : Shape := ⟨4, ![8, 8, 128, 512]⟩
abbrev S2x128x64x16x64 : Shape := ⟨5, ![2, 128, 64, 16, 64]⟩
abbrev S2x121x64x16x64 : Shape := ⟨5, ![2, 121, 64, 16, 64]⟩
abbrev S2x121x512x16x64 : Shape := ⟨5, ![2, 121, 512, 16, 64]⟩
abbrev S2x1x512x16x64 : Shape := ⟨5, ![2, 1, 512, 16, 64]⟩
abbrev S2x128x512x16x64 : Shape := ⟨5, ![2, 128, 512, 16, 64]⟩
abbrev S8x16x64x512 : Shape := ⟨4, ![8, 16, 64, 512]⟩
abbrev S1x16x64x512 : Shape := ⟨4, ![1, 16, 64, 512]⟩
abbrev S121x16x64x512 : Shape := ⟨4, ![121, 16, 64, 512]⟩
abbrev S128x16x64x512 : Shape := ⟨4, ![128, 16, 64, 512]⟩
abbrev S2x128x16x64x512 : Shape := ⟨5, ![2, 128, 16, 64, 512]⟩
abbrev S1x128x16x64x512 : Shape := ⟨5, ![1, 128, 16, 64, 512]⟩
abbrev S_ : Shape := ⟨0, ![]⟩
abbrev S2x128x16x64 : Shape := ⟨4, ![2, 128, 16, 64]⟩
abbrev S2x128x16x64x1 : Shape := ⟨5, ![2, 128, 16, 64, 1]⟩
abbrev S2x128x16x64x64 : Shape := ⟨5, ![2, 128, 16, 64, 64]⟩

abbrev nBuf : Space → Nat
  | .hbm => 64
  | .vmem => 0
  | .smem => 0
  | _ => 0

abbrev bufTy : (tb : Table) → Fin (tcTables nBuf tb) → BufTy
  | .hbm, ⟨0, _⟩ => ⟨S2x8192x1024, .bf16⟩
  | .hbm, ⟨1, _⟩ => ⟨S2x8192x1024, .bf16⟩
  | .hbm, ⟨2, _⟩ => ⟨S2x8192x1024, .bf16⟩
  | .hbm, ⟨3, _⟩ => ⟨S8x8x128x512, .f32⟩
  | .hbm, ⟨4, _⟩ => ⟨S2x8192x1024, .f32⟩
  | .hbm, ⟨5, _⟩ => ⟨S2x128x64x16x64, .f32⟩
  | .hbm, ⟨6, _⟩ => ⟨S2x8192x1024, .f32⟩
  | .hbm, ⟨7, _⟩ => ⟨S2x128x64x16x64, .f32⟩
  | .hbm, ⟨8, _⟩ => ⟨S2x121x64x16x64, .f32⟩
  | .hbm, ⟨9, _⟩ => ⟨S2x121x64x16x64, .f32⟩
  | .hbm, ⟨10, _⟩ => ⟨S2x121x64x16x64, .f32⟩
  | .hbm, ⟨11, _⟩ => ⟨S2x121x64x16x64, .f32⟩
  | .hbm, ⟨12, _⟩ => ⟨S2x121x64x16x64, .f32⟩
  | .hbm, ⟨13, _⟩ => ⟨S2x121x64x16x64, .f32⟩
  | .hbm, ⟨14, _⟩ => ⟨S2x121x64x16x64, .f32⟩
  | .hbm, ⟨15, _⟩ => ⟨S2x121x64x16x64, .f32⟩
  | .hbm, ⟨16, _⟩ => ⟨S2x121x512x16x64, .f32⟩
  | .hbm, ⟨17, _⟩ => ⟨S2x1x512x16x64, .f32⟩
  | .hbm, ⟨18, _⟩ => ⟨S2x1x512x16x64, .f32⟩
  | .hbm, ⟨19, _⟩ => ⟨S2x128x512x16x64, .f32⟩
  | .hbm, ⟨20, _⟩ => ⟨S2x8192x1024, .f32⟩
  | .hbm, ⟨21, _⟩ => ⟨S2x128x64x16x64, .f32⟩
  | .hbm, ⟨22, _⟩ => ⟨S2x121x64x16x64, .f32⟩
  | .hbm, ⟨23, _⟩ => ⟨S2x121x64x16x64, .f32⟩
  | .hbm, ⟨24, _⟩ => ⟨S2x121x64x16x64, .f32⟩
  | .hbm, ⟨25, _⟩ => ⟨S2x121x64x16x64, .f32⟩
  | .hbm, ⟨26, _⟩ => ⟨S2x121x64x16x64, .f32⟩
  | .hbm, ⟨27, _⟩ => ⟨S2x121x64x16x64, .f32⟩
  | .hbm, ⟨28, _⟩ => ⟨S2x121x64x16x64, .f32⟩
  | .hbm, ⟨29, _⟩ => ⟨S2x121x64x16x64, .f32⟩
  | .hbm, ⟨30, _⟩ => ⟨S2x121x512x16x64, .f32⟩
  | .hbm, ⟨31, _⟩ => ⟨S2x1x512x16x64, .f32⟩
  | .hbm, ⟨32, _⟩ => ⟨S2x1x512x16x64, .f32⟩
  | .hbm, ⟨33, _⟩ => ⟨S2x128x512x16x64, .f32⟩
  | .hbm, ⟨34, _⟩ => ⟨S8x16x64x512, .f32⟩
  | .hbm, ⟨35, _⟩ => ⟨S1x16x64x512, .f32⟩
  | .hbm, ⟨36, _⟩ => ⟨S121x16x64x512, .f32⟩
  | .hbm, ⟨37, _⟩ => ⟨S1x16x64x512, .f32⟩
  | .hbm, ⟨38, _⟩ => ⟨S1x16x64x512, .f32⟩
  | .hbm, ⟨39, _⟩ => ⟨S1x16x64x512, .f32⟩
  | .hbm, ⟨40, _⟩ => ⟨S1x16x64x512, .f32⟩
  | .hbm, ⟨41, _⟩ => ⟨S1x16x64x512, .f32⟩
  | .hbm, ⟨42, _⟩ => ⟨S1x16x64x512, .f32⟩
  | .hbm, ⟨43, _⟩ => ⟨S1x16x64x512, .f32⟩
  | .hbm, ⟨44, _⟩ => ⟨S128x16x64x512, .f32⟩
  | .hbm, ⟨45, _⟩ => ⟨S2x128x16x64x512, .f32⟩
  | .hbm, ⟨46, _⟩ => ⟨S1x128x16x64x512, .f32⟩
  | .hbm, ⟨47, _⟩ => ⟨S2x128x16x64x512, .f32⟩
  | .hbm, ⟨48, _⟩ => ⟨S2x128x16x64x512, .f32⟩
  | .hbm, ⟨49, _⟩ => ⟨S_, .f32⟩
  | .hbm, ⟨50, _⟩ => ⟨S2x128x16x64, .f32⟩
  | .hbm, ⟨51, _⟩ => ⟨S2x128x16x64x1, .f32⟩
  | .hbm, ⟨52, _⟩ => ⟨S2x128x16x64x512, .f32⟩
  | .hbm, ⟨53, _⟩ => ⟨S2x128x16x64x512, .f32⟩
  | .hbm, ⟨54, _⟩ => ⟨S2x128x16x64x512, .f32⟩
  | .hbm, ⟨55, _⟩ => ⟨S_, .f32⟩
  | .hbm, ⟨56, _⟩ => ⟨S2x128x16x64, .f32⟩
  | .hbm, ⟨57, _⟩ => ⟨S2x128x16x64x1, .f32⟩
  | .hbm, ⟨58, _⟩ => ⟨S2x128x16x64x512, .f32⟩
  | .hbm, ⟨59, _⟩ => ⟨S2x128x16x64x512, .f32⟩
  | .hbm, ⟨60, _⟩ => ⟨S2x128x16x64x64, .f32⟩
  | .hbm, ⟨61, _⟩ => ⟨S2x128x64x16x64, .f32⟩
  | .hbm, ⟨62, _⟩ => ⟨S2x8192x1024, .f32⟩
  | .hbm, ⟨63, _⟩ => ⟨S2x8192x1024, .bf16⟩
  | _, _ => ⟨S2x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_cst : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_cst_0 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩

abbrev nD : Nat := 1
abbrev τ : Topo := Topo.v7x

variable {F : FTy → Type} [FloatOps F]
-- ==== Proof.BandMask.lean ====
module

public import Idealize.ShloMosaic.PureOps
public import Mathlib.Tactic.Ring

@[expose] public section

/-!
# The windowed attention: the mask's words

Positions are counted in 32-bit words, and the window's first key may lie before the sequence (a negative word). Every
word that occurs is the word of an integer far from overflow, so the comparisons are the comparisons of integers.
-/

noncomputable section

namespace Cert.BandProof

open Idealize.ShloMosaic

/-- Query `r` of block `t` attends to key `j` of the block's window: the key is at most 128 positions away (the window
    begins 128 positions before the block) and lies in the sequence. -/
def Seen (t r j : ℕ) : Prop := r ≤ j ∧ j ≤ r + 256 ∧ 128 ≤ t * 128 + j ∧ t * 128 + j < 8320

instance (t r j : ℕ) : Decidable (Seen t r j) := inferInstanceAs (Decidable (_ ∧ _ ∧ _ ∧ _))

/-- A small integer's word reads back as the integer. -/
theorem toInt_small (a : ℤ) (h : -1000000 < a ∧ a < 1000000) : (BitVec.ofInt 32 a).toInt = a :=
  BitVec.toInt_ofInt_eq_self (by decide) (by omega) (by omega)

theorem sub_word (a b : ℤ) : IntOp.subi (BitVec.ofInt 32 a) (BitVec.ofInt 32 b) = BitVec.ofInt 32 (a - b) := by
  unfold IntOp.subi; rw [Int.sub_eq_add_neg, BitVec.ofInt_add, BitVec.ofInt_neg, BitVec.sub_eq_add_neg]

/-- The word of a key's position. -/
theorem key_word (t j : ℕ) :
    IntOp.addi (IntOp.muli (IntOp.subi (BitVec.ofNat 32 t) 1#32) 128#32) (BitVec.ofNat 32 j) = BitVec.ofInt 32 (((t : ℤ) - 1) * 128 + j) := by
  rw [← BitVec.ofInt_natCast, show (1#32 : BitVec 32) = BitVec.ofInt 32 1 from rfl, sub_word]
  unfold IntOp.addi IntOp.muli
  rw [BitVec.ofInt_add, BitVec.ofInt_mul, BitVec.ofInt_natCast (n := j)]
  rfl

/-- The word of a query's position. -/
theorem query_word (t r : ℕ) : BitVec.ofNat 32 (t * 128 + r) = BitVec.ofInt 32 ((t : ℤ) * 128 + r) := by
  rw [← BitVec.ofInt_natCast]; push_cast; rfl

/-- The word of a query's position, as a product and a sum of words. -/
theorem query_word' (t r : ℕ) :
    IntOp.addi (IntOp.muli (BitVec.ofNat 32 t) 128#32) (BitVec.ofNat 32 r) = BitVec.ofInt 32 ((t : ℤ) * 128 + r) := by
  unfold IntOp.addi IntOp.muli
  rw [BitVec.ofInt_add, BitVec.ofInt_mul, BitVec.ofInt_natCast, BitVec.ofInt_natCast]
  rfl

theorem abs_word (a : ℤ) (h : -1000000 < a ∧ a < 1000000) : IntOp.absi (BitVec.ofInt 32 a) = BitVec.ofInt 32 a.natAbs := by
  unfold IntOp.absi
  rw [BitVec.msb_eq_toInt, toInt_small a h]
  by_cases h0 : a < 0
  · rw [if_pos (by simpa using h0), ← BitVec.ofInt_neg]
    congr 1
    omega
  · rw [if_neg (by simpa using h0)]
    congr 1
    omega

theorem le_word (a b : ℤ) (ha : -1000000 < a ∧ a < 1000000) (hb : -1000000 < b ∧ b < 1000000) :
    IntOp.cmpi .sle (BitVec.ofInt 32 a) (BitVec.ofInt 32 b) = BitVec.ofBool (decide (a ≤ b)) := by
  unfold IntOp.cmpi; simp only [BitVec.sle, toInt_small a ha, toInt_small b hb]

theorem ge_word (a b : ℤ) (ha : -1000000 < a ∧ a < 1000000) (hb : -1000000 < b ∧ b < 1000000) :
    IntOp.cmpi .sge (BitVec.ofInt 32 a) (BitVec.ofInt 32 b) = BitVec.ofBool (decide (b ≤ a)) := by
  unfold IntOp.cmpi; simp only [BitVec.sle, toInt_small a ha, toInt_small b hb]

theorem lt_word (a b : ℤ) (ha : -1000000 < a ∧ a < 1000000) (hb : -1000000 < b ∧ b < 1000000) :
    IntOp.cmpi .slt (BitVec.ofInt 32 a) (BitVec.ofInt 32 b) = BitVec.ofBool (decide (a < b)) := by
  unfold IntOp.cmpi; simp only [BitVec.slt, toInt_small a ha, toInt_small b hb]

theorem and_bit (p q : Bool) : IntOp.andi (BitVec.ofBool p) (BitVec.ofBool q) = BitVec.ofBool (p && q) := by
  cases p <;> cases q <;> rfl

theorem bit_one (p : Bool) : BitVec.ofBool p = 1#1 ↔ p = true := by cases p <;> decide

/-- The mask, from the words of the query's and the key's positions: the three comparisons together are `Seen`. -/
theorem seen_words (t r j : ℕ) (ht : t < 64) (hr : r < 128) (hj : j < 384) (q k : BitVec 32)
    (hq : q = BitVec.ofInt 32 ((t : ℤ) * 128 + r)) (hk : k = BitVec.ofInt 32 (((t : ℤ) - 1) * 128 + j)) :
    IntOp.cmpi .sle (IntOp.absi (IntOp.subi q k)) 128#32 = BitVec.ofBool (decide (r ≤ j ∧ j ≤ r + 256))
    ∧ IntOp.cmpi .sge k 0#32 = BitVec.ofBool (decide (128 ≤ t * 128 + j))
    ∧ IntOp.cmpi .slt k 8192#32 = BitVec.ofBool (decide (t * 128 + j < 8320)) := by
  subst hq hk
  refine ⟨?_, ?_, ?_⟩
  · rw [sub_word, abs_word _ (by omega), show (128#32 : BitVec 32) = BitVec.ofInt 32 128 from rfl,
      le_word _ _ (by omega) (by omega)]
    congr 1
    simp only [decide_eq_decide]
    omega
  · rw [show (0#32 : BitVec 32) = BitVec.ofInt 32 0 from rfl, ge_word _ _ (by omega) (by omega)]
    congr 1
    simp only [decide_eq_decide]
    omega
  · rw [show (8192#32 : BitVec 32) = BitVec.ofInt 32 8192 from rfl, lt_word _ _ (by omega) (by omega)]
    congr 1
    simp only [decide_eq_decide]
    omega

end Cert.BandProof
-- ==== Proof.BandMath.lean ====
module

public import Idealize.ShloMosaic.PureOps.Ideal
public import Mathlib.Data.EReal.Inv

@[expose] public section

/-!
# The windowed attention: one query's row

A row of masked scores, a sink and a column of values. `mixThenDivide` weighs the values by the exponentials and divides
once at the end; `divideThenMix` divides every exponential first. They agree where no score and not the sink is plus
infinity and some score is finite: the denominator is then a positive real number.
-/

noncomputable section

namespace Cert.BandProof

open Idealize.ShloMosaic

/-- The greatest of the scores and the sink. -/
def top (s : Fin 384 → EReal) (k : EReal) : EReal :=
  max ((Finset.univ : Finset (Fin 384)).fold max (Ideal.ofBits .f32 0xFF800000#32) s) k

/-- The exponential of one score, less the top. -/
def weight (s : Fin 384 → EReal) (k : EReal) (j : Fin 384) : EReal := Ideal.exp (s j - top s k)

/-- The sum of the exponentials, the sink's included. -/
def total (s : Fin 384 → EReal) (k : EReal) : EReal := (∑ j, weight s k j) + Ideal.exp (k - top s k)

/-- The values weighted by the exponentials, divided by their sum. -/
def mixThenDivide (s : Fin 384 → EReal) (k : EReal) (v : Fin 384 → EReal) : EReal :=
  Ideal.div (∑ j, weight s k j * v j) (total s k)

/-- The values weighted by the normalized exponentials. -/
def divideThenMix (s : Fin 384 → EReal) (k : EReal) (v : Fin 384 → EReal) : EReal :=
  ∑ j, v j * Ideal.div (weight s k j) (total s k)

theorem ofBits_bot : Ideal.ofBits .f32 0xFF800000#32 = ⊥ := by simp [Ideal.ofBits, Ideal.ieee]

theorem ofBits_top : Ideal.ofBits .f32 0x7F800000#32 = ⊤ := by simp [Ideal.ofBits, Ideal.ieee]

theorem fold_lt_top {n : ℕ} (A : Finset (Fin n)) (s : Fin n → EReal) (hs : ∀ j, s j ≠ ⊤) : A.fold max ⊥ s < ⊤ := by
  rw [Finset.fold_max_lt]
  exact ⟨bot_lt_top, fun j _ => lt_top_iff_ne_top.2 (hs j)⟩

/-- The top of a row with a finite score is finite. -/
theorem top_real (s : Fin 384 → EReal) (k : EReal) (hs : ∀ j, s j ≠ ⊤) (hk : k ≠ ⊤) (hr : ∃ j, s j ≠ ⊥) :
    ∃ t : ℝ, top s k = t := by
  have h1 : top s k ≠ ⊤ := by
    unfold top
    rw [ofBits_bot]
    exact (max_lt (fold_lt_top _ s hs) (lt_top_iff_ne_top.2 hk)).ne
  have h2 : top s k ≠ ⊥ := by
    obtain ⟨j, hj⟩ := hr
    unfold top
    rw [ofBits_bot]
    refine ne_of_gt (lt_of_lt_of_le (bot_lt_iff_ne_bot.2 hj) (le_max_of_le_left ?_))
    rw [Finset.le_fold_max]
    exact Or.inr ⟨j, Finset.mem_univ j, le_refl _⟩
  exact ⟨(top s k).toReal, (EReal.coe_toReal h1 h2).symm⟩

/-- The exponential of a score below plus infinity, less a real number, is a nonnegative real number, and zero for the score minus
    infinity and positive for every other. -/
theorem exp_real (x : EReal) (t : ℝ) (hx : x ≠ ⊤) :
    ∃ e : ℝ, Ideal.exp (x - t) = e ∧ 0 ≤ e ∧ (x = ⊥ → e = 0) ∧ (x ≠ ⊥ → 0 < e) := by
  induction x with
  | bot => exact ⟨0, by rw [EReal.bot_sub]; rfl, le_refl _, fun _ => rfl, fun h => absurd rfl h⟩
  | top => exact absurd rfl hx
  | coe r =>
    refine ⟨Real.exp (r - t), by rw [← EReal.coe_sub]; rfl, (Real.exp_pos _).le, fun h => absurd h (EReal.coe_ne_bot r), fun _ => Real.exp_pos _⟩

/-- A sum of extended reals times a nonnegative real number. -/
theorem sum_mul_real {n : ℕ} (A : Finset (Fin n)) (f : Fin n → EReal) (c : ℝ) (hc : 0 ≤ c) :
    (∑ j ∈ A, f j) * (c : EReal) = ∑ j ∈ A, f j * c := by
  induction A using Finset.cons_induction with
  | empty => simp
  | cons a A ha ih =>
    rw [Finset.sum_cons, Finset.sum_cons, ← ih]
    exact EReal.right_distrib_of_nonneg_of_ne_top (EReal.coe_nonneg.2 hc) (EReal.coe_ne_top c) _ _

theorem coe_sum {n : ℕ} (A : Finset (Fin n)) (e : Fin n → ℝ) : ((∑ j ∈ A, e j : ℝ) : EReal) = ∑ j ∈ A, (e j : EReal) := by
  induction A using Finset.cons_induction with
  | empty => simp
  | cons a A ha ih => rw [Finset.sum_cons, Finset.sum_cons, EReal.coe_add, ih]

/-- Dividing once and dividing first agree, also where the two columns of values differ at a masked score. -/
theorem mix_eq (s : Fin 384 → EReal) (k : EReal) (v v' : Fin 384 → EReal) (hs : ∀ j, s j ≠ ⊤) (hk : k ≠ ⊤) (hr : ∃ j, s j ≠ ⊥)
    (hv : ∀ j, s j ≠ ⊥ → v j = v' j) : mixThenDivide s k v = divideThenMix s k v' := by
  obtain ⟨t, ht⟩ := top_real s k hs hk hr
  choose e he using fun j => exp_real (s j) t (hs j)
  obtain ⟨e', he', hpos', -, -⟩ := exp_real k t hk
  have hw : ∀ j, weight s k j = e j := fun j => by unfold weight; rw [ht]; exact (he j).1
  have htot : total s k = ((∑ j, e j) + e' : ℝ) := by
    unfold total
    rw [ht, he', EReal.coe_add, coe_sum]
    exact congrArg (· + _) (Finset.sum_congr rfl fun j _ => hw j)
  have hD : 0 < (∑ j, e j) + e' := by
    obtain ⟨j, hj⟩ := hr
    exact add_pos_of_pos_of_nonneg (Finset.sum_pos' (fun j _ => (he j).2.1) ⟨j, Finset.mem_univ j, (he j).2.2.2 hj⟩) hpos'
  unfold mixThenDivide divideThenMix
  rw [htot]
  generalize (∑ j, e j) + e' = D at hD
  rw [Ideal.div_coe hD.ne', sum_mul_real _ _ _ (one_div_nonneg.2 hD.le)]
  refine Finset.sum_congr rfl fun j _ => ?_
  rw [hw, Ideal.div_coe hD.ne']
  by_cases hj : s j = ⊥
  · rw [(he j).2.2.1 hj]; simp
  · rw [hv j hj]; ac_rfl

end Cert.BandProof
-- ==== Proof.BandRef.lean ====
module

public import proofs.«01_k».proof.Proof.Gen.BandRefIdeal.Run
public import proofs.«01_k».proof.Proof.BandMask
public import proofs.«01_k».proof.Proof.BandMath
public import Idealize.ShloMosaic.Lib.Pipeline.ValueKit
public import Idealize.ShloMosaic.Lib.Pointwise
public import Idealize.ShloMosaic.Lib.Claim

@[expose] public section

set_option maxRecDepth 16384

/-!
# The windowed attention: the reference's term, stage by stage
-/

noncomputable section

namespace Cert.BandProof

open Cert.BandRefIdeal Cert.BandRefIdeal.Gen Idealize.ShloMosaic Idealize.ShloMosaic.TcCoe Idealize.SL.Sem

/-- The padded keys (or values) of the reference, three neighbouring blocks side by side for each block of queries. -/
def windows (x : FVec Ideal S2x8192x256 .bf16) : FVec Ideal S2x64x384x4x64 .f32 :=
  let y : FVec Ideal S2x66x128x4x64 .f32 :=
    shapeCast _ (pad S2x8448x4x64 ![0, 128, 0, 0] ![0, 128, 0, 0] ![0, 0, 0, 0]
      (shapeCast _ (extf .f32 x bitsLt_bf16_f32) shapeCasts_S2x8192x256_S2x8192x4x64) (sitofp .f32 (constantI S_ 32 0#32))
      pads_S2x8192x4x64_S2x8448x4x64_000_1281280_000_000 h_S_) shapeCasts_S2x8448x4x64_S2x66x128x4x64
  concatenate S2x64x384x4x64 2 [⟨S2x64x128x4x64, extractStridedSlice S2x64x128x4x64 ![0, 0, 0, 0, 0] y slices_S2x66x128x4x64_S2x64x128x4x64_0_0_0_0_0⟩,
    ⟨S2x64x128x4x64, extractStridedSlice S2x64x128x4x64 ![0, 1, 0, 0, 0] y slices_S2x66x128x4x64_S2x64x128x4x64_0_1_0_0_0⟩,
    ⟨S2x64x128x4x64, extractStridedSlice S2x64x128x4x64 ![0, 2, 0, 0, 0] y slices_S2x66x128x4x64_S2x64x128x4x64_0_2_0_0_0⟩]
    concatenates_S2x64x128x4x64_S2x64x128x4x64_S2x64x128x4x64_S2x64x384x4x64_d2

/-- The position of each key of each window, counted from the start of the sequence, as a word. -/
def keyPos : IVec S64x384 32 :=
  addi (broadcastInDim S64x384 ![0, 1] bcast_S64x1_S64x384_0_1 (muli (subi (broadcastInDim S64x1 ![0] bcast_S64_S64x1_0 (iotaInDim S64 32 0))
    (broadcastInDim S64x1 ![] bcast_S_S64x1 (constantI S_ 32 1#32))) (broadcastInDim S64x1 ![] bcast_S_S64x1 (constantI S_ 32 128#32))))
    (broadcastInDim S64x384 ![0, 1] bcast_S1x384_S64x384_0_1 (broadcastInDim S1x384 ![1] bcast_S384_S1x384_1 (iotaInDim S384 32 0)))

/-- The reference's mask: the key is within 128 positions of the query and lies in the sequence. -/
def seen : IVec S64x128x384 1 :=
  andi (cmpi .sle (absi (subi (broadcastInDim S64x128x384 ![0, 1, 2] bcast_S64x128x1_S64x128x384_0_1_2
      (broadcastInDim S64x128x1 ![0, 1] bcast_S64x128_S64x128x1_0_1 (shapeCast _ (iotaInDim S8192 32 0) shapeCasts_S8192_S64x128)))
    (broadcastInDim S64x128x384 ![0, 1, 2] bcast_S64x1x384_S64x128x384_0_1_2 (broadcastInDim S64x1x384 ![0, 2] bcast_S64x384_S64x1x384_0_2 keyPos))))
    (broadcastInDim S64x128x384 ![] bcast_S_S64x128x384 (constantI S_ 32 128#32)))
    (broadcastInDim S64x128x384 ![0, 1, 2] bcast_S64x1x384_S64x128x384_0_1_2 (broadcastInDim S64x1x384 ![0, 2] bcast_S64x384_S64x1x384_0_2
      (andi (cmpi .sge keyPos (broadcastInDim S64x384 ![] bcast_S_S64x384 (constantI S_ 32 0#32)))
        (cmpi .slt keyPos (broadcastInDim S64x384 ![] bcast_S_S64x384 (constantI S_ 32 8192#32))))))

/-- The masked scores of every query against its window of keys. -/
def scores (q : FVec Ideal S2x8192x768 .bf16) (kw : FVec Ideal S2x64x384x4x64 .f32) (b : IVec S64x128x384 1) : FVec Ideal S2x64x4x3x128x384 .f32 :=
  select (broadcastInDim S2x64x4x3x128x384 ![0, 1, 2, 3, 4, 5] bcast_S1x64x1x1x128x384_S2x64x4x3x128x384_0_1_2_3_4_5
      (broadcastInDim S1x64x1x1x128x384 ![1, 4, 5] bcast_S64x128x384_S1x64x1x1x128x384_1_4_5 b))
    (transpose S2x64x4x3x128x384 [0, 1, 2, 5, 4, 3] (Host.dotGeneral dot_S2x64x384x4x64_S2x64x128x4x3x64_S2x64x4x384x128x3_4_5_2_24_013_013 none kw
      (shapeCast _ (shapeCast _ (extf .f32 q bitsLt_bf16_f32) shapeCasts_S2x8192x768_S2x8192x4x3x64) shapeCasts_S2x8192x4x3x64_S2x64x128x4x3x64))
      transposes_S2x64x4x384x128x3_S2x64x4x3x128x384_0_1_2_5_4_3)
    (broadcastInDim S2x64x4x3x128x384 ![] bcast_S_S2x64x4x3x128x384 (id (constant S_ .f32 0xFF800000#32)))

/-- The sink of each head, at every query. -/
def sinks (k : FVec Ideal S12 .f32) : FVec Ideal S2x64x4x3x128 .f32 :=
  broadcastInDim S2x64x4x3x128 ![0, 1, 2, 3, 4] bcast_S1x1x4x3x1_S2x64x4x3x128_0_1_2_3_4 (broadcastInDim S1x1x4x3x1 ![2, 3, 4]
    bcast_S4x3x1_S1x1x4x3x1_2_3_4 (broadcastInDim S4x3x1 ![0, 1] bcast_S4x3_S4x3x1_0_1 (shapeCast _ k shapeCasts_S12_S4x3)))

/-- The greatest of a query's scores and its head's sink. -/
def tops (s : FVec Ideal S2x64x4x3x128x384 .f32) (k : FVec Ideal S2x64x4x3x128 .f32) : FVec Ideal S2x64x4x3x128 .f32 :=
  maximumf (Host.reduce FloatOps.maximumf s (constant S_ .f32 0xFF800000#32) reducesTo_S2x64x4x3x128x384_S2x64x4x3x128_d5 h_S_) k

/-- The exponentials of a query's scores less their top. -/
def exps (s : FVec Ideal S2x64x4x3x128x384 .f32) (t : FVec Ideal S2x64x4x3x128 .f32) : FVec Ideal S2x64x4x3x128x384 .f32 :=
  Host.exp (subf s (broadcastInDim S2x64x4x3x128x384 ![0, 1, 2, 3, 4, 5] bcast_S2x64x4x3x128x1_S2x64x4x3x128x384_0_1_2_3_4_5
    (broadcastInDim S2x64x4x3x128x1 ![0, 1, 2, 3, 4] bcast_S2x64x4x3x128_S2x64x4x3x128x1_0_1_2_3_4 t)))

/-- The attention weights' denominators: the exponentials' sum and the sink's exponential. -/
def dens (e : FVec Ideal S2x64x4x3x128x384 .f32) (t k : FVec Ideal S2x64x4x3x128 .f32) : FVec Ideal S2x64x4x3x128 .f32 :=
  addf (Host.reduceAdd e (constant S_ .f32 0x00000000#32) reducesTo_S2x64x4x3x128x384_S2x64x4x3x128_d5 h_S_) (Host.exp (subf k t))

/-- The weighted values, as rows of the result. -/
def mixed (vw : FVec Ideal S2x64x384x4x64 .f32) (e : FVec Ideal S2x64x4x3x128x384 .f32) (d : FVec Ideal S2x64x4x3x128 .f32) :
    FVec Ideal S2x8192x768 .bf16 :=
  truncf .bf16 (shapeCast _ (transpose S2x64x128x4x3x64 [0, 1, 5, 2, 4, 3] (Host.dotGeneral
    dot_S2x64x384x4x64_S2x64x4x3x128x384_S2x64x4x64x3x128_2_5_4_34_013_012 none vw
    (Host.divf e (broadcastInDim S2x64x4x3x128x384 ![0, 1, 2, 3, 4, 5] bcast_S2x64x4x3x128x1_S2x64x4x3x128x384_0_1_2_3_4_5
      (broadcastInDim S2x64x4x3x128x1 ![0, 1, 2, 3, 4] bcast_S2x64x4x3x128_S2x64x4x3x128x1_0_1_2_3_4 d))))
    transposes_S2x64x4x64x3x128_S2x64x128x4x3x64_0_1_5_2_4_3) shapeCasts_S2x64x128x4x3x64_S2x8192x768) bitsLt_bf16_f32

/-- The reference's result, stage by stage. -/
theorem res_eq (m : (ℓ : Loc nD τ sig) → Buf (Elt Ideal) ℓ) (c : Dev nD) : Value.res_main_v75 (F := Ideal) m c =
    (let s := scores (m ((c.tc : Thread nD τ).loc main_arg0)) (windows (m ((c.tc : Thread nD τ).loc main_arg1))) seen
     let k := sinks (m ((c.tc : Thread nD τ).loc main_arg3))
     let e := exps s (tops s k)
     mixed (windows (m ((c.tc : Thread nD τ).loc main_arg2))) e (dens e (tops s k) k)) := rfl

theorem fiber (b : Fin 2) (t : Fin 64) (h : Fin 4) (g : Fin 3) (r : Fin 128) (i : S2x64x4x3x128x384.Idx) :
    reducesTo_S2x64x4x3x128x384_S2x64x4x3x128_d5.drop i = ix5 b t h g r ↔ ∃ k : Fin 384, ix6 b t h g r k = i := by
  constructor
  · intro e
    refine ⟨i 5, ?_⟩
    funext a
    apply Fin.ext
    match a with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => exact (congrArg Fin.val (congrFun e 3)).symm
    | ⟨4, _⟩ => exact (congrArg Fin.val (congrFun e 4)).symm
    | ⟨5, _⟩ => rfl
  · rintro ⟨k, rfl⟩
    funext a
    apply Fin.ext
    match a with
    | ⟨0, _⟩ => rfl
    | ⟨1, _⟩ => rfl
    | ⟨2, _⟩ => rfl
    | ⟨3, _⟩ => rfl
    | ⟨4, _⟩ => rfl

theorem hostMax {s t u : Shape} {axes : List (Fin s.rank)} (x : FVec Ideal s .f32) (init : FVec Ideal u .f32) (h : s.ReducesTo axes t)
    (hu : 0 < u.numel) (j : t.Idx) :
    Host.reduce FloatOps.maximumf x init h hu j = (Finset.univ.filter fun i => h.drop i = j).fold max (init (Shape.Idx.first hu)) x :=
  Host.reduce_eq_fold (α := EReal) max x init h hu j

theorem hostSum {s t u : Shape} {axes : List (Fin s.rank)} (x : FVec Ideal s .f32) (init : FVec Ideal u .f32) (h : s.ReducesTo axes t)
    (hu : 0 < u.numel) (j : t.Idx) :
    Host.reduceAdd x init h hu j = init (Shape.Idx.first hu) + ∑ i ∈ Finset.univ.filter (fun i => h.drop i = j), x i := rfl

theorem maxAt {s : Shape} (x y : FVec Ideal s .f32) (i : s.Idx) : maximumf x y i = max (x i) (y i) := rfl

theorem tops_at (s : FVec Ideal S2x64x4x3x128x384 .f32) (k : FVec Ideal S2x64x4x3x128 .f32) (b : Fin 2) (t : Fin 64) (h : Fin 4) (g : Fin 3)
    (r : Fin 128) : tops s k (ix5 b t h g r)
      = max ((Finset.univ : Finset (Fin 384)).fold max (Ideal.ofBits .f32 0xFF800000#32) fun j => s (ix6 b t h g r j)) (k (ix5 b t h g r)) := by
  unfold tops
  rw [maxAt, hostMax, Finset.fold_filter_eq_fold_of_fiber max _ (fun j : Fin 384 => ix6 b t h g r j) (fun _ _ e => congrFun e 5) (fiber b t h g r)]
  rfl

theorem dens_at (e : FVec Ideal S2x64x4x3x128x384 .f32) (t k : FVec Ideal S2x64x4x3x128 .f32) (b : Fin 2) (t' : Fin 64) (h : Fin 4) (g : Fin 3)
    (r : Fin 128) : dens e t k (ix5 b t' h g r) = (∑ j, e (ix6 b t' h g r j)) + Ideal.exp (k (ix5 b t' h g r) - t (ix5 b t' h g r)) := by
  pointwise [dens]
  unfold Ideal.hostReduceAdd
  rw [Finset.sum_filter_eq_sum_of_fiber _ (fun j : Fin 384 => ix6 b t' h g r j) (fun _ _ e => congrFun e 5) (fiber b t' h g r), zero_add]

theorem over_at (t : FVec Ideal S2x64x4x3x128 .f32) (b : Fin 2) (t' : Fin 64) (h : Fin 4) (g : Fin 3)
    (r : Fin 128) (j : Fin 384) : broadcastInDim S2x64x4x3x128x384 ![0, 1, 2, 3, 4, 5] bcast_S2x64x4x3x128x1_S2x64x4x3x128x384_0_1_2_3_4_5
    (broadcastInDim S2x64x4x3x128x1 ![0, 1, 2, 3, 4] bcast_S2x64x4x3x128_S2x64x4x3x128x1_0_1_2_3_4 t) (ix6 b t' h g r j) = t (ix5 b t' h g r) := by
  unfold broadcastInDim
  refine congrArg t (funext fun a => Fin.ext ?_)
  match a with
    | ⟨0, _⟩ => rfl
    | ⟨1, _⟩ => rfl
    | ⟨2, _⟩ => rfl
    | ⟨3, _⟩ => rfl
    | ⟨4, _⟩ => rfl

theorem exps_at (s : FVec Ideal S2x64x4x3x128x384 .f32) (k : FVec Ideal S2x64x4x3x128 .f32) (b : Fin 2) (t : Fin 64) (h : Fin 4) (g : Fin 3)
    (r : Fin 128) (j : Fin 384) : exps s k (ix6 b t h g r j) = Ideal.exp (s (ix6 b t h g r j) - k (ix5 b t h g r)) := by
  unfold exps
  exact congrArg (fun x => Ideal.exp (s (ix6 b t h g r j) - x)) (over_at k b t h g r j)

theorem sinks_at (k : FVec Ideal S12 .f32) (b : Fin 2) (t' : Fin 64) (h : Fin 4) (g : Fin 3)
    (r : Fin 128) : sinks k (ix5 b t' h g r) = k (ix1 ⟨h * 3 + g, by omega⟩) := by
  pointwise [sinks]

/-- Row `p` of the keys (or values) `x` padded by 128 rows of zeros at each end. -/
def padRow (x : FVec Ideal S2x8192x256 .bf16) (b : Fin 2) (p : ℕ) (n : Fin 256) : EReal :=
  if h : 128 ≤ p ∧ p - 128 < 8192 then x (ix3 b ⟨p - 128, h.2⟩ n) else 0

theorem windows_at (x : FVec Ideal S2x8192x256 .bf16) (b : Fin 2) (t : Fin 64) (j : Fin 384) (h : Fin 4) (d : Fin 64) :
    windows x (ix5 b t j h d) = padRow x b (t * 128 + j) ⟨h * 64 + d, by omega⟩ := by
  have hz : (FloatOps.sitofp FTy.f32 0#32 : Ideal .f32) = 0 := by
    change (((0#32 : BitVec 32).toInt : ℝ) : EReal) = 0
    simp
  pointwise [windows, hz]
  by_cases h1 : (j : ℕ) < 128
  · rw [dif_pos h1]; rfl
  · rw [dif_neg h1]
    by_cases h2 : (j : ℕ) - 128 < 128
    · rw [dif_pos h2]
      refine (show _ = padRow x b ((1 + t) * 128 + (j - 128)) _ from rfl).trans (congrArg (padRow x b · _) ?_)
      omega
    · rw [dif_neg h2]
      refine (show _ = padRow x b ((2 + t) * 128 + (j - 128 - 128)) _ from rfl).trans (congrArg (padRow x b · _) ?_)
      omega

theorem scores_at (q : FVec Ideal S2x8192x768 .bf16) (kw : FVec Ideal S2x64x384x4x64 .f32) (bb : IVec S64x128x384 1) (b : Fin 2) (t : Fin 64) (h : Fin 4) (g : Fin 3)
    (r : Fin 128) (j : Fin 384) : scores q kw bb (ix6 b t h g r j)
      = if bb (ix3 t r j) = 1#1 then ∑ x, kw (ix5 b t j h x) * q (ix3 b ⟨t * 128 + r, by omega⟩ ⟨h * 192 + g * 64 + x, by omega⟩) else ⊥ := by
  have hb : (id (constant S_ FTy.f32 4286578688#32) ix0 : Ideal .f32) = ⊥ := ofBits_bot
  pointwise [scores]
  rw [hb]
  rfl

theorem mixed_at (vw : FVec Ideal S2x64x384x4x64 .f32) (e : FVec Ideal S2x64x4x3x128x384 .f32) (d : FVec Ideal S2x64x4x3x128 .f32) (b : Fin 2) (l : Fin 8192)
    (n : Fin 768) : mixed vw e d (ix3 b l n) =
    ∑ j, vw (ix5 b ⟨l / 128, by omega⟩ j ⟨n / 192, by omega⟩ ⟨n % 64, by omega⟩)
      * Ideal.div (e (ix6 b ⟨l / 128, by omega⟩ ⟨n / 192, by omega⟩ ⟨n / 64 % 3, by omega⟩ ⟨l % 128, by omega⟩ j))
          (d (ix5 b ⟨l / 128, by omega⟩ ⟨n / 192, by omega⟩ ⟨n / 64 % 3, by omega⟩ ⟨l % 128, by omega⟩)) := by
  pointwise [mixed]

theorem seen_at (t : Fin 64) (r : Fin 128) (j : Fin 384) : seen (ix3 t r j) = 1#1 ↔ Seen t r j := by
  pointwise [seen, keyPos]
  obtain ⟨h1, h2, h3⟩ := seen_words t r j (by omega) (by omega) (by omega) _ _ (query_word t r) (key_word t j)
  rw [h1, h2, h3, and_bit, and_bit, bit_one]
  simp only [Bool.and_eq_true, decide_eq_true_eq, Seen, and_assoc]

/-- The masked scores of the query at row `l` of batch `b`, against head `n / 64`'s keys of its window. -/
def scoreRow (q : FVec Ideal S2x8192x768 .bf16) (k : FVec Ideal S2x8192x256 .bf16) (b : Fin 2) (l : Fin 8192) (n : Fin 768) (j : Fin 384) : EReal :=
  if Seen (l / 128) (l % 128) j then
    ∑ x : Fin 64, padRow k b (l / 128 * 128 + j) ⟨n / 192 * 64 + x, by omega⟩ * q (ix3 b l ⟨n / 64 * 64 + x, by omega⟩)
  else ⊥

/-- The windowed attention with sinks at column `n` of row `l` of batch `b`. -/
def outAt (q : FVec Ideal S2x8192x768 .bf16) (k v : FVec Ideal S2x8192x256 .bf16) (sink : FVec Ideal S12 .f32) (b : Fin 2) (l : Fin 8192)
    (n : Fin 768) : EReal :=
  divideThenMix (scoreRow q k b l n) (sink (ix1 ⟨n / 64, by omega⟩))
    fun j => padRow v b (l / 128 * 128 + j) ⟨n / 192 * 64 + n % 64, by omega⟩

/-- The windowed attention with sinks, element by element. -/
def out (q : FVec Ideal S2x8192x768 .bf16) (k v : FVec Ideal S2x8192x256 .bf16) (sink : FVec Ideal S12 .f32) : FVec Ideal S2x8192x768 .bf16 :=
  fun i => outAt q k v sink (i 0) (i 1) (i 2)

theorem row_eq (q : FVec Ideal S2x8192x768 .bf16) (k : FVec Ideal S2x8192x256 .bf16) (b : Fin 2) (l : Fin 8192) (n : Fin 768) (j : Fin 384) :
    scores q (windows k) seen (ix6 b ⟨l / 128, by omega⟩ ⟨n / 192, by omega⟩ ⟨n / 64 % 3, by omega⟩ ⟨l % 128, by omega⟩ j) = scoreRow q k b l n j := by
  rw [scores_at]
  unfold scoreRow
  refine if_congr (seen_at _ _ _) (Finset.sum_congr rfl fun x _ => ?_) rfl
  rw [windows_at]
  refine Ideal.mul_congr rfl (congrArg q ?_)
  congr 1
  · exact Fin.ext (by show (l : ℕ) / 128 * 128 + l % 128 = l; omega)
  · exact Fin.ext (by show (n : ℕ) / 192 * 192 + n / 64 % 3 * 64 + x = n / 64 * 64 + x; omega)

theorem res_out (q : FVec Ideal S2x8192x768 .bf16) (k v : FVec Ideal S2x8192x256 .bf16) (sink : FVec Ideal S12 .f32) :
    (let s := scores q (windows k) seen
     let a := sinks sink
     let e := exps s (tops s a)
     mixed (windows v) e (dens e (tops s a) a)) = out q k v sink := by
  funext i
  obtain ⟨b, l, n, rfl⟩ : ∃ (b : Fin 2) (l : Fin 8192) (n : Fin 768), i = ix3 b l n := ⟨i 0, i 1, i 2, by funext a; fin_cases a <;> rfl⟩
  rw [mixed_at]
  show _ = outAt q k v sink b l n
  unfold outAt divideThenMix weight total weight top
  have hs : sink (ix1 ⟨n / 192 * 3 + n / 64 % 3, by omega⟩) = sink (ix1 ⟨n / 64, by omega⟩) :=
    congrArg sink (congrArg ix1 (Fin.ext (by show (n : ℕ) / 192 * 3 + n / 64 % 3 = n / 64; omega)))
  refine Finset.sum_congr rfl fun j _ => Ideal.mul_congr ?_ ?_
  · rw [windows_at]
  · simp only [dens_at, exps_at, tops_at, sinks_at, row_eq, hs]

/-- Every run of the reference program ends with the windowed attention of its arguments, which it leaves as they were. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v75) = out (m ((c : Thread nD τ).loc main_arg0)) (m ((c : Thread nD τ).loc main_arg1))
        (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans ((res_eq m c).trans (res_out _ _ _ _)), (h c).2⟩) (Value.run m ρ)

end Cert.BandProof
-- ==== Proof.BandKernel.lean ====
module

public import proofs.«01_k».proof.Proof.Gen.BandIdeal.Value
public import proofs.«01_k».proof.Proof.BandRef
public import Idealize.ShloMosaic.Lib.Pipeline.ValueKit
public import Idealize.ShloMosaic.Lib.Pointwise

@[expose] public section

set_option maxRecDepth 16384

/-!
# The windowed attention: one grid point of the kernel
-/

noncomputable section

namespace Cert.BandProof

open Cert.BandIdeal Cert.BandIdeal.Gen Idealize.ShloMosaic Idealize.ShloMosaic.TcCoe Idealize.SL.Sem
open Idealize.ShloMosaic.Pipeline (Dat)

/-- The kernel's mask value is minus infinity. -/
theorem mask_bot : (Named.named κ "mask" 0xF149F2CA#32 : Ideal .f32) = ⊥ := rfl

/-- The masked scores of query `r` of a block against the keys of its window, for one head. -/
def blockRow (b : IVec S128x384 1) (k : FVec Ideal S384x64 .bf16) (q : FVec Ideal S1x128x64 .bf16) (r : Fin 128) (j : Fin 384) : EReal :=
  if b (ix2 r j) = 1#1 then ∑ x : Fin 64, q (ix3 0 r x) * k (ix2 j x) else ⊥

/-- One head of the kernel's body, at one element. Every head is this one function at its columns of the blocks. -/
theorem head_at (b : IVec S128x384 1) (k v : FVec Ideal S384x64 .bf16) (q : FVec Ideal S1x128x64 .bf16) (s : Ideal .f32) (r : Fin 128) (d : Fin 64) :
    k0_pay28 (F := Ideal) b k v q s s (ix3 0 r d) = mixThenDivide (blockRow b k q r) s fun j => v (ix2 j d) := by
  pointwise [k0_pay28, mask_bot, Scalar.select]
  rfl

/-- The kernel's mask at a grid point. -/
theorem mask_at (i : grid0.Coords) (r : Fin 128) (j : Fin 384) : k0_pay4 i (ix2 r j) = 1#1 ↔ Seen (i 2).val r j := by
  pointwise [k0_pay4]
  have hi : (i 2).val < 64 := (i 2).isLt
  obtain ⟨h1, h2, h3⟩ := seen_words (i 2).val r j hi (by omega) (by omega) _ _ (query_word' _ r) (key_word _ j)
  erw [h1, h2, h3, and_bit, and_bit, bit_one]
  simp only [Bool.and_eq_true, decide_eq_true_eq, Seen, and_assoc]

/-- A head's columns of the keys' block and of the values' block, one element. -/
theorem cols_at (a : FVec Ideal S384x256 .bf16) (j : Fin 384) (d : Fin 64) :
    (k0_pay5 (F := Ideal) a (ix2 j d) = a (ix2 j ⟨0 + d, by omega⟩) ∧ k0_pay14 (F := Ideal) a (ix2 j d) = a (ix2 j ⟨64 + d, by omega⟩)) ∧
      k0_pay25 (F := Ideal) a (ix2 j d) = a (ix2 j ⟨128 + d, by omega⟩) ∧ k0_pay33 (F := Ideal) a (ix2 j d) = a (ix2 j ⟨192 + d, by omega⟩) := by
  refine ⟨⟨?_, ?_⟩, ?_, ?_⟩
  · pointwise [k0_pay5]
  · pointwise [k0_pay14]
  · pointwise [k0_pay25]
  · pointwise [k0_pay33]

variable (m : (ℓ : Loc nD τ sig) → Buf (Elt Ideal) ℓ)

/-- What a grid point leaves at row `r` and column `n` of its output block. -/
def pointAt (i : grid0.Coords) (s : Vec Ideal S12 .f32) (q : Vec Ideal S1x128x768 .bf16) (k v : FVec Ideal S384x256 .bf16)
    (r : Fin 128) (n : Fin 768) : EReal :=
  mixThenDivide
    (fun j => if Seen (i 2).val r j then ∑ x : Fin 64, q (ix3 0 r ⟨n / 64 * 64 + x, by omega⟩) * k (ix2 j ⟨n / 192 * 64 + x, by omega⟩) else ⊥)
    (s (ix1 ⟨n / 64, by omega⟩)) fun j => v (ix2 j ⟨n / 192 * 64 + n % 64, by omega⟩)

/-- One head's store is that head's columns of the output block. -/
theorem piece (h : Fin 12) (i : grid0.Coords) (s : Vec Ideal S12 .f32) (q : Vec Ideal S1x128x768 .bf16) (k v : FVec Ideal S384x256 .bf16)
    (o : ℕ) (ho : o = h * 64) (hin : ∀ a, (![0, 0, o] : Fin 3 → Nat) a + S1x128x64.size a ≤ S1x128x768.size a) (p : ℕ) (hp : p = h) (hin' : ∀ a, (![p] : Fin 1 → Nat) a + S1.size a ≤ S12.size a)
    (k' v' : FVec Ideal S384x64 .bf16)
    (hk : ∀ j (d : Fin 64), k' (ix2 j d) = k (ix2 j ⟨h / 3 * 64 + d, by omega⟩))
    (hv : ∀ j (d : Fin 64), v' (ix2 j d) = v (ix2 j ⟨h / 3 * 64 + d, by omega⟩))
    (x : S1x128x64.Idx) (r : Fin 128) (n : Fin 768) (h1 : r.val = (x 1).val) (h2 : n.val = o + (x 2).val) :
    k0_pay28 (F := Ideal) (k0_pay4 i) k' v' (View.ld q (Rect.unit ![0, 0, o] S1x128x64.size hin))
      (View.ld s (Rect.unit ![p] S1.size hin') (Shape.Idx.first (show 0 < S1.numel by decide)))
      (View.ld s (Rect.unit ![p] S1.size hin') (Shape.Idx.first (show 0 < S1.numel by decide))) x = pointAt i s q k v r n := by
  subst ho hp
  have hq : ∀ (r : Fin 128) (d : Fin 64), View.ld q (Rect.unit ![0, 0, h.val * 64] S1x128x64.size hin) (ix3 0 r d) = q (ix3 0 r ⟨h * 64 + d, by omega⟩) := by
    intro r d
    refine congrArg q (funext fun a => Fin.ext ?_)
    fin_cases a
    · rfl
    · exact (Nat.zero_add _).trans (Nat.one_mul _)
    · exact congrArg (h.val * 64 + ·) (Nat.one_mul _)
  have hs : View.ld s (Rect.unit ![h.val] S1.size hin') (Shape.Idx.first (show 0 < S1.numel by decide)) = s (ix1 h) := by
    refine congrArg s (funext fun a => Fin.ext ?_)
    fin_cases a
    rfl
  rw [hs]
  generalize View.ld q (Rect.unit ![0, 0, h.val * 64] S1x128x64.size hin) = q' at hq ⊢
  idx_vars x
  obtain rfl : r = x1 := Fin.ext h1
  obtain rfl : x0 = 0 := Subsingleton.elim _ _
  have hd : n.val = h * 64 + x2.val := h2
  refine (head_at _ k' v' q' _ _ x2).trans ?_
  have e1 : n.val / 64 = h := by omega
  have e2 : n.val / 192 = h.val / 3 := by omega
  have e3 : n.val % 64 = x2 := by omega
  unfold pointAt blockRow
  simp only [mask_at, hk, hv, hq, e1, e2, e3]

/-- A point's output block from the blocks it reads. -/
theorem outs_at (c : Dev nD) (t : Fin cfg0.N) (y : S1x128x768.Idx) :
    outsAt0 m c t y = pointAt (grid0.coords t) (iblk m c 0 t) (iblk m c 1 t) (k0_pay2 (F := Ideal) (iblk m c 2 t) (iblk m c 3 t) (iblk m c 4 t))
      (k0_pay3 (F := Ideal) (iblk m c 5 t) (iblk m c 6 t) (iblk m c 7 t)) (y 1) (y 2) := by
  unfold outsAt0
  frame_out
  canon_tiles x h
  case piece11 =>
    exact piece 0 (grid0.coords t) (iblk m c 0 t) (iblk m c 1 t) (k0_pay2 (iblk m c 2 t) (iblk m c 3 t) (iblk m c 4 t))
      (k0_pay3 (iblk m c 5 t) (iblk m c 6 t) (iblk m c 7 t)) 0 rfl inb_S1x128x768_S1x128x64_0_0_0 0 rfl inb_S12_S1_0
      (k0_pay5 (k0_pay2 (iblk m c 2 t) (iblk m c 3 t) (iblk m c 4 t)))
      (k0_pay6 (k0_pay3 (iblk m c 5 t) (iblk m c 6 t) (iblk m c 7 t)))
      (fun j d => (cols_at _ j d).1.1) (fun j d => (cols_at _ j d).1.1) x _ _ h1 (h2.trans (Nat.zero_add _).symm)
  case piece10 =>
    exact piece 1 (grid0.coords t) (iblk m c 0 t) (iblk m c 1 t) (k0_pay2 (iblk m c 2 t) (iblk m c 3 t) (iblk m c 4 t))
      (k0_pay3 (iblk m c 5 t) (iblk m c 6 t) (iblk m c 7 t)) 64 rfl inb_S1x128x768_S1x128x64_0_0_64 1 rfl inb_S12_S1_1
      (k0_pay5 (k0_pay2 (iblk m c 2 t) (iblk m c 3 t) (iblk m c 4 t)))
      (k0_pay6 (k0_pay3 (iblk m c 5 t) (iblk m c 6 t) (iblk m c 7 t)))
      (fun j d => (cols_at _ j d).1.1) (fun j d => (cols_at _ j d).1.1) x _ _ h1 h2
  case piece9 =>
    exact piece 2 (grid0.coords t) (iblk m c 0 t) (iblk m c 1 t) (k0_pay2 (iblk m c 2 t) (iblk m c 3 t) (iblk m c 4 t))
      (k0_pay3 (iblk m c 5 t) (iblk m c 6 t) (iblk m c 7 t)) 128 rfl inb_S1x128x768_S1x128x64_0_0_128 2 rfl inb_S12_S1_2
      (k0_pay5 (k0_pay2 (iblk m c 2 t) (iblk m c 3 t) (iblk m c 4 t)))
      (k0_pay6 (k0_pay3 (iblk m c 5 t) (iblk m c 6 t) (iblk m c 7 t)))
      (fun j d => (cols_at _ j d).1.1) (fun j d => (cols_at _ j d).1.1) x _ _ h1 h2
  case piece8 =>
    exact piece 3 (grid0.coords t) (iblk m c 0 t) (iblk m c 1 t) (k0_pay2 (iblk m c 2 t) (iblk m c 3 t) (iblk m c 4 t))
      (k0_pay3 (iblk m c 5 t) (iblk m c 6 t) (iblk m c 7 t)) 192 rfl inb_S1x128x768_S1x128x64_0_0_192 3 rfl inb_S12_S1_3
      (k0_pay14 (k0_pay2 (iblk m c 2 t) (iblk m c 3 t) (iblk m c 4 t)))
      (k0_pay15 (k0_pay3 (iblk m c 5 t) (iblk m c 6 t) (iblk m c 7 t)))
      (fun j d => (cols_at _ j d).1.2) (fun j d => (cols_at _ j d).1.2) x _ _ h1 h2
  case piece7 =>
    exact piece 4 (grid0.coords t) (iblk m c 0 t) (iblk m c 1 t) (k0_pay2 (iblk m c 2 t) (iblk m c 3 t) (iblk m c 4 t))
      (k0_pay3 (iblk m c 5 t) (iblk m c 6 t) (iblk m c 7 t)) 256 rfl inb_S1x128x768_S1x128x64_0_0_256 4 rfl inb_S12_S1_4
      (k0_pay14 (k0_pay2 (iblk m c 2 t) (iblk m c 3 t) (iblk m c 4 t)))
      (k0_pay15 (k0_pay3 (iblk m c 5 t) (iblk m c 6 t) (iblk m c 7 t)))
      (fun j d => (cols_at _ j d).1.2) (fun j d => (cols_at _ j d).1.2) x _ _ h1 h2
  case piece6 =>
    exact piece 5 (grid0.coords t) (iblk m c 0 t) (iblk m c 1 t) (k0_pay2 (iblk m c 2 t) (iblk m c 3 t) (iblk m c 4 t))
      (k0_pay3 (iblk m c 5 t) (iblk m c 6 t) (iblk m c 7 t)) 320 rfl inb_S1x128x768_S1x128x64_0_0_320 5 rfl inb_S12_S1_5
      (k0_pay14 (k0_pay2 (iblk m c 2 t) (iblk m c 3 t) (iblk m c 4 t)))
      (k0_pay15 (k0_pay3 (iblk m c 5 t) (iblk m c 6 t) (iblk m c 7 t)))
      (fun j d => (cols_at _ j d).1.2) (fun j d => (cols_at _ j d).1.2) x _ _ h1 h2
  case piece5 =>
    exact piece 6 (grid0.coords t) (iblk m c 0 t) (iblk m c 1 t) (k0_pay2 (iblk m c 2 t) (iblk m c 3 t) (iblk m c 4 t))
      (k0_pay3 (iblk m c 5 t) (iblk m c 6 t) (iblk m c 7 t)) 384 rfl inb_S1x128x768_S1x128x64_0_0_384 6 rfl inb_S12_S1_6
      (k0_pay25 (k0_pay2 (iblk m c 2 t) (iblk m c 3 t) (iblk m c 4 t)))
      (k0_pay26 (k0_pay3 (iblk m c 5 t) (iblk m c 6 t) (iblk m c 7 t)))
      (fun j d => (cols_at _ j d).2.1) (fun j d => (cols_at _ j d).2.1) x _ _ h1 h2
  case piece4 =>
    exact piece 7 (grid0.coords t) (iblk m c 0 t) (iblk m c 1 t) (k0_pay2 (iblk m c 2 t) (iblk m c 3 t) (iblk m c 4 t))
      (k0_pay3 (iblk m c 5 t) (iblk m c 6 t) (iblk m c 7 t)) 448 rfl inb_S1x128x768_S1x128x64_0_0_448 7 rfl inb_S12_S1_7
      (k0_pay25 (k0_pay2 (iblk m c 2 t) (iblk m c 3 t) (iblk m c 4 t)))
      (k0_pay26 (k0_pay3 (iblk m c 5 t) (iblk m c 6 t) (iblk m c 7 t)))
      (fun j d => (cols_at _ j d).2.1) (fun j d => (cols_at _ j d).2.1) x _ _ h1 h2
  case piece3 =>
    exact piece 8 (grid0.coords t) (iblk m c 0 t) (iblk m c 1 t) (k0_pay2 (iblk m c 2 t) (iblk m c 3 t) (iblk m c 4 t))
      (k0_pay3 (iblk m c 5 t) (iblk m c 6 t) (iblk m c 7 t)) 512 rfl inb_S1x128x768_S1x128x64_0_0_512 8 rfl inb_S12_S1_8
      (k0_pay25 (k0_pay2 (iblk m c 2 t) (iblk m c 3 t) (iblk m c 4 t)))
      (k0_pay26 (k0_pay3 (iblk m c 5 t) (iblk m c 6 t) (iblk m c 7 t)))
      (fun j d => (cols_at _ j d).2.1) (fun j d => (cols_at _ j d).2.1) x _ _ h1 h2
  case piece2 =>
    exact piece 9 (grid0.coords t) (iblk m c 0 t) (iblk m c 1 t) (k0_pay2 (iblk m c 2 t) (iblk m c 3 t) (iblk m c 4 t))
      (k0_pay3 (iblk m c 5 t) (iblk m c 6 t) (iblk m c 7 t)) 576 rfl inb_S1x128x768_S1x128x64_0_0_576 9 rfl inb_S12_S1_9
      (k0_pay33 (k0_pay2 (iblk m c 2 t) (iblk m c 3 t) (iblk m c 4 t)))
      (k0_pay34 (k0_pay3 (iblk m c 5 t) (iblk m c 6 t) (iblk m c 7 t)))
      (fun j d => (cols_at _ j d).2.2) (fun j d => (cols_at _ j d).2.2) x _ _ h1 h2
  case piece1 =>
    exact piece 10 (grid0.coords t) (iblk m c 0 t) (iblk m c 1 t) (k0_pay2 (iblk m c 2 t) (iblk m c 3 t) (iblk m c 4 t))
      (k0_pay3 (iblk m c 5 t) (iblk m c 6 t) (iblk m c 7 t)) 640 rfl inb_S1x128x768_S1x128x64_0_0_640 10 rfl inb_S12_S1_10
      (k0_pay33 (k0_pay2 (iblk m c 2 t) (iblk m c 3 t) (iblk m c 4 t)))
      (k0_pay34 (k0_pay3 (iblk m c 5 t) (iblk m c 6 t) (iblk m c 7 t)))
      (fun j d => (cols_at _ j d).2.2) (fun j d => (cols_at _ j d).2.2) x _ _ h1 h2
  case piece0 =>
    exact piece 11 (grid0.coords t) (iblk m c 0 t) (iblk m c 1 t) (k0_pay2 (iblk m c 2 t) (iblk m c 3 t) (iblk m c 4 t))
      (k0_pay3 (iblk m c 5 t) (iblk m c 6 t) (iblk m c 7 t)) 704 rfl inb_S1x128x768_S1x128x64_0_0_704 11 rfl inb_S12_S1_11
      (k0_pay33 (k0_pay2 (iblk m c 2 t) (iblk m c 3 t) (iblk m c 4 t)))
      (k0_pay34 (k0_pay3 (iblk m c 5 t) (iblk m c 6 t) (iblk m c 7 t)))
      (fun j d => (cols_at _ j d).2.2) (fun j d => (cols_at _ j d).2.2) x _ _ h1 h2

/-- The block of keys or values a point reads: three blocks of 128 rows one after another. -/
theorem block_at (a b c : FVec Ideal S1x128x256 .bf16) (j : Fin 384) (n : Fin 256) :
    k0_pay2 (F := Ideal) a b c (ix2 j n) = (if h : j.val < 128 then a (ix3 0 ⟨j, h⟩ n) else if h' : j.val < 256 then b (ix3 0 ⟨j - 128, by omega⟩ n) else c (ix3 0 ⟨j - 256, by omega⟩ n)) := by
  pointwise [k0_pay2]
  have e : (j.val < 256) = (j.val - 128 < 128) := propext (by omega)
  have e' : j.val - 128 - 128 = j.val - 256 := by omega
  simp only [e, e']

theorem block_at' (a b c : FVec Ideal S1x128x256 .bf16) : k0_pay3 (F := Ideal) a b c = k0_pay2 a b c := rfl

end Cert.BandProof
-- ==== Proof.BandPoint.lean ====
module

public import proofs.«01_k».proof.Proof.BandKernel

@[expose] public section

set_option maxRecDepth 16384

/-!
# The windowed attention: a point's block is the reference's block

The kernel reads its window as three whole blocks, clamped at the two ends of the array; the reference pads the array with
zero rows. Where the mask lets a key through the two read the same row.
-/

noncomputable section

namespace Cert.BandProof

open Cert.BandIdeal Cert.BandIdeal.Gen Idealize.ShloMosaic Idealize.ShloMosaic.TcCoe Idealize.SL.Sem
open Idealize.ShloMosaic.Pipeline (Dat)

/-- An extended real that is a real number. -/
def Real' (x : EReal) : Prop := x ≠ ⊤ ∧ x ≠ ⊥

theorem Real'.mul {x y : EReal} (hx : Real' x) (hy : Real' y) : Real' (x * y) := by
  obtain ⟨hx, hx'⟩ := hx
  obtain ⟨hy, hy'⟩ := hy
  lift x to ℝ using ⟨hx, hx'⟩
  lift y to ℝ using ⟨hy, hy'⟩
  rw [← EReal.coe_mul]
  exact ⟨EReal.coe_ne_top _, EReal.coe_ne_bot _⟩

theorem Real'.sum {ι : Type} (s : Finset ι) (f : ι → EReal) (h : ∀ i, Real' (f i)) : Real' (∑ i ∈ s, f i) := by
  refine Finset.sum_induction f Real' (fun x y hx hy => ?_) ⟨EReal.zero_ne_top, EReal.zero_ne_bot⟩ fun i _ => h i
  obtain ⟨hx, hx'⟩ := hx
  obtain ⟨hy, hy'⟩ := hy
  lift x to ℝ using ⟨hx, hx'⟩
  lift y to ℝ using ⟨hy, hy'⟩
  rw [← EReal.coe_add]
  exact ⟨EReal.coe_ne_top _, EReal.coe_ne_bot _⟩

/-- The three blocks read at tile `t`, at a key the mask lets through, hold the padded array's row. -/
theorem window_row (a : FVec Ideal Cert.BandRefIdeal.S2x8192x256 .bf16) (a0 a1 a2 : FVec Ideal S1x128x256 .bf16) (b : Fin 2) (t : ℕ) (ht : t < 64)
    (h0 : ∀ (r : Fin 128) (n : Fin 256), a0 (ix3 0 r n) = a (ix3 b ⟨(t - 1) * 128 + r, by omega⟩ n))
    (h1 : ∀ (r : Fin 128) (n : Fin 256), a1 (ix3 0 r n) = a (ix3 b ⟨t * 128 + r, by omega⟩ n))
    (h2 : ∀ (r : Fin 128) (n : Fin 256), a2 (ix3 0 r n) = a (ix3 b ⟨min (t + 1) 63 * 128 + r, by omega⟩ n))
    (r : Fin 128) (j : Fin 384) (n : Fin 256) (hs : Seen t r j) :
    k0_pay2 (F := Ideal) a0 a1 a2 (ix2 j n) = padRow a b (t * 128 + j) n := by
  obtain ⟨-, -, hs, hs'⟩ := hs
  have hp : padRow a b (t * 128 + j) n = a (ix3 b ⟨t * 128 + j - 128, by omega⟩ n) := dif_pos ⟨hs, by omega⟩
  rw [hp, block_at]
  split_ifs
  · rw [h0]
    exact congrArg a (congrArg (fun p : Fin 8192 => ix3 b p n) (Fin.ext (by show (t - 1) * 128 + j.val = t * 128 + j.val - 128; omega)))
  · rw [h1]
    exact congrArg a (congrArg (fun p : Fin 8192 => ix3 b p n) (Fin.ext (by show t * 128 + (j.val - 128) = t * 128 + j.val - 128; omega)))
  · rw [h2]
    exact congrArg a (congrArg (fun p : Fin 8192 => ix3 b p n) (Fin.ext (by show min (t + 1) 63 * 128 + (j.val - 256) = t * 128 + j.val - 128; omega)))

/-- At a key the mask lets through, the padded array's row is a row of the array. -/
theorem padRow_real (a : FVec Ideal Cert.BandRefIdeal.S2x8192x256 .bf16) (ha : ∀ i, Real' (a i)) (b : Fin 2) (t r : ℕ) (j : ℕ) (n : Fin 256) (hs : Seen t r j) :
    Real' (padRow a b (t * 128 + j) n) := by
  rw [padRow, dif_pos ⟨hs.2.2.1, by have := hs.2.2.2; omega⟩]
  exact ha _

/-- The kernel's element of a grid point's block is the reference's element at that block's place in the array. -/
theorem point_out (q : FVec Ideal Cert.BandRefIdeal.S2x8192x768 .bf16) (k v : FVec Ideal Cert.BandRefIdeal.S2x8192x256 .bf16)
    (sink : FVec Ideal Cert.BandRefIdeal.S12 .f32) (hq : ∀ i, Real' (q i)) (hk : ∀ i, Real' (k i)) (hsink : ∀ i, sink i ≠ ⊤)
    (i : grid0.Coords) (q1 : Vec Ideal S1x128x768 .bf16) (k0 k1 k2 v0 v1 v2 : FVec Ideal S1x128x256 .bf16) (s1 : Vec Ideal S12 .f32)
    (b : Fin 2) (t : ℕ) (hi : (i 2).val = t) (ht : t < 64) (hs1 : ∀ h : Fin 12, s1 (ix1 h) = sink (ix1 h))
    (hq1 : ∀ (r : Fin 128) (n : Fin 768), q1 (ix3 0 r n) = q (ix3 b ⟨t * 128 + r, by omega⟩ n))
    (hk0 : ∀ (r : Fin 128) (n : Fin 256), k0 (ix3 0 r n) = k (ix3 b ⟨(t - 1) * 128 + r, by omega⟩ n))
    (hk1 : ∀ (r : Fin 128) (n : Fin 256), k1 (ix3 0 r n) = k (ix3 b ⟨t * 128 + r, by omega⟩ n))
    (hk2 : ∀ (r : Fin 128) (n : Fin 256), k2 (ix3 0 r n) = k (ix3 b ⟨min (t + 1) 63 * 128 + r, by omega⟩ n))
    (hv0 : ∀ (r : Fin 128) (n : Fin 256), v0 (ix3 0 r n) = v (ix3 b ⟨(t - 1) * 128 + r, by omega⟩ n))
    (hv1 : ∀ (r : Fin 128) (n : Fin 256), v1 (ix3 0 r n) = v (ix3 b ⟨t * 128 + r, by omega⟩ n))
    (hv2 : ∀ (r : Fin 128) (n : Fin 256), v2 (ix3 0 r n) = v (ix3 b ⟨min (t + 1) 63 * 128 + r, by omega⟩ n))
    (r : Fin 128) (n : Fin 768) (l : Fin 8192) (hl : l.val = t * 128 + r) :
    pointAt i s1 q1 (k0_pay2 (F := Ideal) k0 k1 k2) (k0_pay3 (F := Ideal) v0 v1 v2) r n = outAt q k v sink b l n := by
  have e1 : l.val / 128 = t := by omega
  have e2 : l.val % 128 = r := by omega
  have hr : (⟨t * 128 + r, by omega⟩ : Fin 8192) = l := Fin.ext hl.symm
  unfold pointAt outAt
  rw [hs1, block_at' v0 v1 v2]
  have hrow : (fun j : Fin 384 => if Seen (i 2).val r j then
      ∑ x : Fin 64, q1 (ix3 0 r ⟨n / 64 * 64 + x, by omega⟩) * k0_pay2 (F := Ideal) k0 k1 k2 (ix2 j ⟨n / 192 * 64 + x, by omega⟩) else ⊥)
      = scoreRow q k b l n := by
    funext j
    unfold scoreRow
    simp only [e1, e2, hi]
    split_ifs with hs
    · refine Finset.sum_congr rfl fun x _ => ?_
      rw [window_row k k0 k1 k2 b t ht hk0 hk1 hk2 r j _ hs, hq1, hr]
      exact mul_comm _ _
    · rfl
  rw [hrow]
  have hreal : ∀ j : Fin 384, Seen t r j → Real' (scoreRow q k b l n j) := by
    intro j hs
    unfold scoreRow
    simp only [e1, e2]
    rw [if_pos hs]
    exact Real'.sum _ _ fun x => (padRow_real k hk b t r j _ hs).mul (hq _)
  have hbot : ∀ j : Fin 384, ¬ Seen t r j → scoreRow q k b l n j = ⊥ := by
    intro j hs
    unfold scoreRow
    simp only [e1, e2]
    rw [if_neg hs]
  have hd : Seen t r (⟨128 + r, by omega⟩ : Fin 384).val := ⟨by show r.val ≤ 128 + r.val; omega, by show 128 + r.val ≤ r.val + 256; omega,
    by show 128 ≤ t * 128 + (128 + r.val); omega, by show t * 128 + (128 + r.val) < 8320; omega⟩
  simp only [e1]
  refine mix_eq _ _ _ _ (fun j => ?_) (hsink _) ⟨⟨128 + r, by omega⟩, (hreal _ hd).2⟩ fun j hj => ?_
  · by_cases hs : Seen t r j
    · exact (hreal j hs).1
    · rw [hbot j hs]
      exact bot_ne_top
  · by_cases hs : Seen t r j
    · exact window_row v v0 v1 v2 b t ht hv0 hv1 hv2 r j _ hs
    · exact absurd (hbot j hs) hj

end Cert.BandProof
-- ==== Proof.BandArray.lean ====
module

public import proofs.«01_k».proof.Proof.BandPoint

@[expose] public section

set_option maxRecDepth 16384

/-!
# The windowed attention: the kernel's whole result array
-/

noncomputable section

namespace Cert.BandProof

open Cert.BandIdeal Cert.BandIdeal.Gen Idealize.ShloMosaic Idealize.ShloMosaic.TcCoe Idealize.SL.Sem
open Idealize.ShloMosaic.Pipeline (Dat)

variable (m : (ℓ : Loc nD τ sig) → Buf (Elt Ideal) ℓ)

/-- The block every operand takes at each grid point: 64 tiles of each of the two batches; the keys' and values' previous and
next blocks are clamped to the array. -/
theorem idx : ∀ t : Fin cfg0.N, win0_0.index t = ![0] ∧ win0_1.index t = ![t.val / 64, t.val % 64, 0]
    ∧ win0_2.index t = ![t.val / 64, t.val % 64 - 1, 0] ∧ win0_3.index t = ![t.val / 64, t.val % 64, 0]
    ∧ win0_4.index t = ![t.val / 64, min (t.val % 64 + 1) 63, 0]
    ∧ win0_5.index t = ![t.val / 64, t.val % 64 - 1, 0] ∧ win0_6.index t = ![t.val / 64, t.val % 64, 0]
    ∧ win0_7.index t = ![t.val / 64, min (t.val % 64 + 1) 63, 0] ∧ win0_8.index t = ![t.val / 64, t.val % 64, 0] :=
  (by decide +kernel : ∀ t : Fin grid0.N, _)

/-- A grid point's tile number. -/
theorem tile : ∀ t : Fin cfg0.N, (grid0.coords t 2).val = t.val % 64 :=
  (by decide +kernel : ∀ t : Fin grid0.N, _)

/-! Each operand's block at a grid point, one element. -/

theorem q_block (c : Dev nD) (t : Fin cfg0.N) (ht : t.val < 128) (r : Fin 128) (n : Fin 768) : iblk m c 1 t (ix3 0 r n)
    = m ((c : Thread nD τ).loc main_arg0) (ix3 ⟨t.val / 64, by omega⟩ ⟨t.val % 64 * 128 + r, by omega⟩ n) := by
  blk_point [iblk, V, idx t]

theorem k_prev (c : Dev nD) (t : Fin cfg0.N) (ht : t.val < 128) (r : Fin 128) (n : Fin 256) : iblk m c 2 t (ix3 0 r n)
    = m ((c : Thread nD τ).loc main_arg1) (ix3 ⟨t.val / 64, by omega⟩ ⟨(t.val % 64 - 1) * 128 + r, by omega⟩ n) := by
  blk_point [iblk, V, idx t]

theorem k_cur (c : Dev nD) (t : Fin cfg0.N) (ht : t.val < 128) (r : Fin 128) (n : Fin 256) : iblk m c 3 t (ix3 0 r n)
    = m ((c : Thread nD τ).loc main_arg1) (ix3 ⟨t.val / 64, by omega⟩ ⟨t.val % 64 * 128 + r, by omega⟩ n) := by
  blk_point [iblk, V, idx t]

theorem k_next (c : Dev nD) (t : Fin cfg0.N) (ht : t.val < 128) (r : Fin 128) (n : Fin 256) : iblk m c 4 t (ix3 0 r n)
    = m ((c : Thread nD τ).loc main_arg1) (ix3 ⟨t.val / 64, by omega⟩ ⟨min (t.val % 64 + 1) 63 * 128 + r, by omega⟩ n) := by
  blk_point [iblk, V, idx t]

theorem v_prev (c : Dev nD) (t : Fin cfg0.N) (ht : t.val < 128) (r : Fin 128) (n : Fin 256) : iblk m c 5 t (ix3 0 r n)
    = m ((c : Thread nD τ).loc main_arg2) (ix3 ⟨t.val / 64, by omega⟩ ⟨(t.val % 64 - 1) * 128 + r, by omega⟩ n) := by
  blk_point [iblk, V, idx t]

theorem v_cur (c : Dev nD) (t : Fin cfg0.N) (ht : t.val < 128) (r : Fin 128) (n : Fin 256) : iblk m c 6 t (ix3 0 r n)
    = m ((c : Thread nD τ).loc main_arg2) (ix3 ⟨t.val / 64, by omega⟩ ⟨t.val % 64 * 128 + r, by omega⟩ n) := by
  blk_point [iblk, V, idx t]

theorem v_next (c : Dev nD) (t : Fin cfg0.N) (ht : t.val < 128) (r : Fin 128) (n : Fin 256) : iblk m c 7 t (ix3 0 r n)
    = m ((c : Thread nD τ).loc main_arg2) (ix3 ⟨t.val / 64, by omega⟩ ⟨min (t.val % 64 + 1) 63 * 128 + r, by omega⟩ n) := by
  blk_point [iblk, V, idx t]

theorem sink_block (c : Dev nD) (t : Fin cfg0.N) (h : Fin 12) : iblk m c 0 t (ix1 h) = m ((c : Thread nD τ).loc main_arg3) (ix1 h) := by
  blk_point [iblk, V, idx t]

/-- Where a grid point's output block lies in the array. -/
theorem out_place (t : Fin cfg0.N) (ht : t.val < 128) (r : Fin 128) (n : Fin 768) :
    (win0_8.blk t).view.emb (ix3 0 r n) = ix3 ⟨t.val / 64, by omega⟩ ⟨t.val % 64 * 128 + r, by omega⟩ n := by
  blk_point [idx t]

/-- The kernel's result array is the windowed attention of its arguments. -/
theorem final (c : Dev nD) (hq : ∀ i, Real' (m ((c : Thread nD τ).loc main_arg0) i)) (hk : ∀ i, Real' (m ((c : Thread nD τ).loc main_arg1) i))
    (hs : ∀ i, m ((c : Thread nD τ).loc main_arg3) i ≠ (⊤ : EReal)) :
    (dats m 0 c).arrAt 8 (cfgs 0).N
    = out (m ((c : Thread nD τ).loc main_arg0)) (m ((c : Thread nD τ).loc main_arg1)) (m ((c : Thread nD τ).loc main_arg2))
        (m ((c : Thread nD τ).loc main_arg3)) := by
  refine (dats m 0 c).arrAt_eq_of_covers 8 _ (by decide +kernel) fun t _ y => ?_
  blk_simp
  rw [after0_8, outs_at]
  have ht : t.val < 128 := t.isLt
  have hy : (y 1).val < 128 := (y 1).isLt
  idx_vars y
  obtain rfl : y0 = 0 := Subsingleton.elim _ _
  refine Eq.trans ?_ (congrArg (out (m ((c : Thread nD τ).loc main_arg0)) (m ((c : Thread nD τ).loc main_arg1)) (m ((c : Thread nD τ).loc main_arg2))
    (m ((c : Thread nD τ).loc main_arg3))) (out_place t ht y1 y2)).symm
  exact point_out (m ((c : Thread nD τ).loc main_arg0)) (m ((c : Thread nD τ).loc main_arg1)) (m ((c : Thread nD τ).loc main_arg2))
    (m ((c : Thread nD τ).loc main_arg3)) hq hk hs (grid0.coords t) _ _ _ _ _ _ _ _ ⟨t.val / 64, by omega⟩ (t.val % 64) (tile t)
    (Nat.mod_lt _ (by decide)) (sink_block m c t) (q_block m c t ht) (k_prev m c t ht) (k_cur m c t ht) (k_next m c t ht)
    (v_prev m c t ht) (v_cur m c t ht) (v_next m c t ht) y1 y2 ⟨t.val % 64 * 128 + y1, by omega⟩ rfl

end Cert.BandProof
-- ==== Proof.BandFinal.lean ====
module

public import proofs.«01_k».proof.Proof.BandArray
public import proofs.«01_k».proof.Proof.Gen.BandRefIdeal.Run
public import proofs.«01_k».proof.Proof.Gen.Band.Frame
public import proofs.«01_k».proof.Defs
public import Idealize.ShloMosaic.Lib.Claim

@[expose] public section

set_option maxRecDepth 16384

/-!
# The windowed attention: the claims
-/

noncomputable section

namespace Cert.BandProof

open Idealize.ShloMosaic Idealize.ShloMosaic.TcCoe Idealize.SL.Sem

/-- The side conditions of the precondition's own operations. -/
theorem preFacts : Cert.Pre_finite.Facts := ⟨by decide, by decide, by decide, by decide⟩

attribute [local instance] preFacts

/-- An element strictly between the two infinities, as the comparisons say it, is a real number. -/
theorem real_of_bits (x : Ideal .f32) (h : IntOp.andi (BitVec.ofBool (decide (x < Ideal.ofBits FTy.f32 0x7F800000#32)))
    (BitVec.ofBool (decide (-Ideal.ofBits FTy.f32 0x7F800000#32 < x))) = 1#1) : Real' x := by
  rw [and_bit, bit_one, ofBits_top, Bool.and_eq_true, decide_eq_true_eq, decide_eq_true_eq] at h
  exact ⟨h.1.ne, fun hx => by rw [hx] at h; exact not_lt_bot h.2⟩

/-- What the precondition says of the queries, the keys and the sinks. -/
theorem pre_at (q : FVec Ideal Cert.Pre_finite.S2x8192x768 .bf16) (k v : FVec Ideal Cert.Pre_finite.S2x8192x256 .bf16) (s : FVec Ideal Cert.Pre_finite.S12 .f32)
    (h0 : (Cert.Pre_finite.fn (F := Ideal) q k v s).1 = fun _ => 1#1) (h1 : (Cert.Pre_finite.fn (F := Ideal) q k v s).2.1 = fun _ => 1#1)
    (h2 : (Cert.Pre_finite.fn (F := Ideal) q k v s).2.2 = fun _ => 1#1) :
    (∀ i, Real' (q i)) ∧ (∀ i, Real' (k i)) ∧ ∀ i, s i ≠ (⊤ : EReal) := by
  refine ⟨fun i => ?_, fun i => ?_, fun i => ?_⟩
  · have h := congrFun h0 i
    simp only [Cert.Pre_finite.fn] at h
    idx_vars i
    pointwise at h
    exact real_of_bits _ h
  · have h := congrFun h1 i
    simp only [Cert.Pre_finite.fn] at h
    idx_vars i
    pointwise at h
    exact real_of_bits _ h
  · have h := congrFun h2 i
    simp only [Cert.Pre_finite.fn] at h
    idx_vars i
    pointwise at h
    rw [bit_one, ofBits_top, decide_eq_true_eq] at h
    exact h.ne

/-- Kernel and reference end with equal results, where queries and keys are finite and no sink is plus infinity. -/
theorem algebraic : Cert.algebraic_BandIdeal_BandRefIdeal_pre_finite := by
  pair_intro
  · run_from Cert.BandIdeal.Gen.run_main m g
  · run_from ref_run m' g'
    obtain ⟨hq, hk, hs⟩ := pre_at _ _ _ _ (hpre c).1 (hpre c).2.1 (hpre c).2.2
    exact (final m c hq hk hs).symm

/-- The original kernel runs, leaves its arguments as they were and every counter at zero. -/
theorem frame : Cert.quiescent_Band := fun m ρ _ => Cert.Band.Gen.frame m ρ

/-- So does the kernel at its named mask. -/
theorem frameIdeal : Cert.quiescent_BandIdeal := fun m ρ _ => Cert.BandIdeal.Gen.frame m ρ

/-- The same under the precondition. -/
theorem frameIdealPre : Cert.quiescent_BandIdeal_pre_finite := fun m ρ _ => Cert.BandIdeal.Gen.frame m ρ

/-- So does the reference. -/
theorem frameRef : Cert.quiescent_BandRefIdeal := fun m ρ _ =>
  (θ_run Cert.BandRefIdeal.defs _ _).mono
    (fun r h => ⟨fun c => (h c).2, Idealize.ShloMosaic.sem_eq_zero_of_no_sems (by decide) r.2⟩)
    (Cert.BandRefIdeal.Value.run (F := Ideal) m ρ)

/-- The same under the precondition. -/
theorem frameRefPre : Cert.quiescent_BandRefIdeal_pre_finite := fun m ρ _ => frameRef m ρ trivial

/-- The named mask stands for minus infinity. -/
theorem preserves : Cert.preserves_Band_BandIdeal := IdealRules.named_const.statement Cert.BandIdeal.κ "mask" .f32 0xF149F2CA#32 (⊥ : EReal) rfl

end Cert.BandProof
-- ==== Proof.FfnMath.lean ====
module

public import proofs.«01_k».proof.Proof.Gen.FfnIdeal.Value
public import Idealize.ShloMosaic.Lib.Pipeline.ValueKit
public import Idealize.ShloMosaic.Lib.Pointwise

@[expose] public section

set_option maxRecDepth 16384

/-!
# The feed-forward half-step as a formula, and one grid point of the kernel

`Ffn.out` is the half-step's result written element by element over the extended reals. The kernel works on 512 rows
at a time and on 256 columns of the gate and up weights at a time; the eleven column tiles together hold the gated
unit of every row and every column (`scratch_eq`), so a grid point writes its rows of `Ffn.out`.
-/

noncomputable section

namespace Cert.FfnProof

open Cert.FfnIdeal Cert.FfnIdeal.Gen Idealize.ShloMosaic Idealize.ShloMosaic.TcCoe Idealize.SL.Sem
open Idealize.ShloMosaic.Pipeline (Dat)

/-- The gated unit of one normalized row against one column `g` of the gate weights and one column `u` of the up
    weights: `silu (xn · g) * (xn · u)`. -/
def gateUp (xn g u : Fin 1024 → EReal) : EReal :=
  (∑ k, xn k * g k) * Ideal.logistic (∑ k, xn k * g k) * ∑ k, xn k * u k

/-- Entry `k` of a row `x` after the root-mean-square normalization with gains `g`. -/
def normed (x g : Fin 1024 → EReal) (k : Fin 1024) : EReal :=
  x k * Ideal.rsqrt (Ideal.div (∑ l, x l * x l) (Ideal.ofBits .f32 0x44800000#32) + Ideal.ofBits .f32 0x358637BD#32) * g k

/-- The half-step: `h + 0.5 * swiglu (rmsnorm h)` with the weights of layer 0, element by element. -/
def out (h : FVec Ideal S16384x1024 .f32) (gain : FVec Ideal S4x1x1024 .f32) (wg wu : FVec Ideal S4x1024x2816 .bf16)
    (wd : FVec Ideal S4x2816x1024 .bf16) : FVec Ideal S16384x1024 .f32 := fun i =>
  h i + Ideal.ofBits .f32 0x3F000000#32 *
    ∑ f : Fin 2816, gateUp (normed (fun k => h (ix2 (i 0) k)) fun k => gain (ix3 0 0 k)) (fun k => wg (ix3 0 k f)) (fun k => wu (ix3 0 k f))
      * wd (ix3 0 f (i 1))

/-- The gated units of 512 rows: what the kernel's scratch buffer holds after its eleven column tiles. -/
def gated (xn : FVec Ideal S512x1024 .bf16) (wg wu : FVec Ideal S1x1024x2816 .bf16) : FVec Ideal S512x2816 .bf16 :=
  fun i => gateUp (fun k => xn (ix2 (i 0) k)) (fun k => wg (ix3 0 k (i 1))) (fun k => wu (ix3 0 k (i 1)))

variable (m : (ℓ : Loc nD τ sig) → Buf (Elt Ideal) ℓ)

/-- One column tile of the gated units, at one element. The kernel's eleven tiles are this one function at the tile's
    columns of the gate and up weights. -/
theorem tile_at (xn : FVec Ideal S512x1024 .bf16) (a b : FVec Ideal S1x1024x256 .bf16) (i : S512x256.Idx) :
    k0_pay6 (F := Ideal) xn a b i = gateUp (fun k => xn (ix2 (i 0) k)) (fun k => a (ix3 0 k (i 1))) (fun k => b (ix3 0 k (i 1))) := by
  pointwise [k0_pay6, gateUp]

theorem gateUp_congr {x x' g g' u u' : Fin 1024 → EReal} (hx : ∀ k, x k = x' k) (hg : ∀ k, g k = g' k) (hu : ∀ k, u k = u' k) :
    gateUp x g u = gateUp x' g' u' := by
  rw [funext hx, funext hg, funext hu]

theorem normed_congr {x x' g g' : Fin 1024 → EReal} (hx : ∀ k, x k = x' k) (hg : ∀ k, g k = g' k) (k : Fin 1024) :
    normed x g k = normed x' g' k := by
  rw [funext hx, funext hg]

/-- What a grid point leaves in the output block, over its input blocks: the scratch buffer, written tile by tile and
    read back whole, holds the gated units of the point's rows. -/
theorem scratch_eq (c : Dev nD) (t : Fin cfg0.N) :
    outsAt0 m c t = k0_pay1 (iblk m c 0 t)
      (k0_pay16 (gated (k0_pay2 (iblk m c 0 t) (iblk m c 1 t)) (iblk m c 2 t) (iblk m c 3 t)) (iblk m c 4 t))
      (FloatOps.ofBits FTy.f32 1056964608#32) := by
  funext y
  unfold outsAt0
  frame_out
  refine congrArg (fun s => k0_pay1 (F := Ideal) _ (k0_pay16 s _) _ y) ?_
  rw [View.readCov_eq_canon']
  funext i
  rw [show (Rect.unit (s := S512x2816) ![0, 0] ![512, 2816] inb_S512x2816_S512x2816_0_0).idx i = i from
    funext fun a => Fin.ext (by fin_cases a <;> exact (Nat.zero_add _).trans (Nat.one_mul _))]
  canon_tiles x h
  all_goals
    refine (tile_at (k0_pay2 (iblk m c 0 t) (iblk m c 1 t)) _ _ x).trans (gateUp_congr (fun k => ?_) (fun k => ?_) (fun k => ?_))
  all_goals (pointwise; blk_ext)

/-- The block of rows at each grid point, and the layer's weights at every one. -/
theorem idx : ∀ t : Fin cfg0.N, win0_0.index t = ![t.val, 0] ∧ win0_1.index t = ![0, 0, 0] ∧ win0_2.index t = ![0, 0, 0]
    ∧ win0_3.index t = ![0, 0, 0] ∧ win0_4.index t = ![0, 0, 0] ∧ win0_5.index t = ![t.val, 0] :=
  (by decide +kernel : ∀ t : Fin grid0.N, _)

/-- A grid point's arithmetic over its input blocks, at one element. -/
theorem pay_at (x : FVec Ideal S512x1024 .f32) (g : FVec Ideal S1x1x1024 .f32) (wg wu : FVec Ideal S1x1024x2816 .bf16)
    (wd : FVec Ideal S1x2816x1024 .bf16) (r : Fin 512) (j : Fin 1024) :
    k0_pay1 (F := Ideal) x (k0_pay16 (gated (k0_pay2 x g) wg wu) wd) (FloatOps.ofBits FTy.f32 1056964608#32) (ix2 r j)
      = x (ix2 r j) + Ideal.ofBits .f32 0x3F000000#32 *
        ∑ f : Fin 2816, gateUp (normed (fun k => x (ix2 r k)) fun k => g (ix3 0 0 k)) (fun k => wg (ix3 0 k f)) (fun k => wu (ix3 0 k f))
          * wd (ix3 0 f j) := by
  pointwise [k0_pay1, k0_pay16, k0_pay2, gated, gateUp, normed]

/-- The kernel's result array is the half-step of its arguments. -/
theorem final (c : Dev nD) : (dats m 0 c).arrAt 5 (cfgs 0).N
    = out (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t _ y => ?_
  blk_simp
  rw [after0_5, scratch_eq]
  idx_vars y
  rw [pay_at]
  unfold out
  refine congrArg₂ (· + ·) ?_ (congrArg _ (Fin.sum_fin_congr fun f => Ideal.mul_congr (gateUp_congr (normed_congr (fun k => ?_) fun k => ?_)
    (fun k => ?_) (fun k => ?_)) ?_))
  all_goals blk_point [iblk, V, idx t]

end Cert.FfnProof
-- ==== Proof.FfnFinal.lean ====
module

public import proofs.«01_k».proof.Proof.FfnMath
public import proofs.«01_k».proof.Proof.Gen.FfnRefIdeal.Run
public import proofs.«01_k».proof.Proof.Gen.Ffn.Frame
public import proofs.«01_k».proof.Defs
public import Idealize.ShloMosaic.Lib.Claim

@[expose] public section

set_option maxRecDepth 16384

/-!
# The feed-forward half-step: the reference's term is the same formula
-/

noncomputable section

namespace Cert.FfnProof

open Cert.FfnRefIdeal Cert.FfnRefIdeal.Gen Idealize.ShloMosaic Idealize.ShloMosaic.TcCoe Idealize.SL.Sem

/-- Every run of the reference program ends with the half-step of its arguments, which it leaves as they were. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v31) = out (m ((c : Thread nD τ).loc main_arg0)) (m ((c : Thread nD τ).loc main_arg1))
        (m ((c : Thread nD τ).loc main_arg2)) (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ⟨(h c).1.trans ?_, (h c).2⟩) (Value.run m ρ)
  generalize m ((c : Thread nD τ).loc main_arg0) = h0
  generalize m ((c : Thread nD τ).loc main_arg1) = h1
  generalize m ((c : Thread nD τ).loc main_arg2) = h2
  generalize m ((c : Thread nD τ).loc main_arg3) = h3
  generalize m ((c : Thread nD τ).loc main_arg4) = h4
  funext i
  idx_vars i
  pointwise [out, gateUp, normed]
  rfl

end Cert.FfnProof

namespace Cert.FfnProof

open Idealize.ShloMosaic Idealize.ShloMosaic.TcCoe Idealize.SL.Sem

/-- Kernel and reference end with equal results. -/
theorem algebraic : Cert.algebraic_FfnIdeal_FfnRefIdeal := by
  pair_intro
  · run_from Cert.FfnIdeal.Gen.run_main m g
  · run_from ref_run m' g'
    exact (final m c).symm

/-- So does the reference. -/
theorem frameRef : Cert.quiescent_FfnRefIdeal := fun m ρ _ =>
  (θ_run Cert.FfnRefIdeal.defs _ _).mono
    (fun r h => ⟨fun c => (h c).2, Idealize.ShloMosaic.sem_eq_zero_of_no_sems (by decide) r.2⟩)
    (Cert.FfnRefIdeal.Value.run (F := Ideal) m ρ)

/-- The original kernel runs, leaves its arguments as they were and every counter at zero. -/
theorem frame : Cert.quiescent_Ffn := fun m ρ _ => Cert.Ffn.Gen.frame m ρ

/-- So does the kernel the value claim names. -/
theorem frameIdeal : Cert.quiescent_FfnIdeal := fun m ρ _ => Cert.FfnIdeal.Gen.frame m ρ

end Cert.FfnProof
-- ==== Proof.Ple.lean ====
module

public import proofs.«01_k».proof.Proof.Gen.PleIdeal.Value
public import proofs.«01_k».proof.Proof.Gen.PleRefIdeal.Run
public import proofs.«01_k».proof.Proof.Gen.Ple.Frame
public import proofs.«01_k».proof.Defs
public import proofs.«01_k».proof.Proof.FfnMath
public import Idealize.ShloMosaic.Lib.Pipeline.ValueKit
public import Idealize.ShloMosaic.Lib.Pointwise
public import Idealize.ShloMosaic.Lib.Claim

@[expose] public section

set_option maxRecDepth 16384

/-!
# The last per-layer embedding and the final normalization

`out` is `rmsnorm (h + sigmoid (rmsnorm h @ w_gate) * (p @ w_proj))` element by element. A grid point computes 512 rows
of it, and the reference computes all of them at once.
-/

noncomputable section

namespace Cert.PleProof

open Cert.PleIdeal Cert.PleIdeal.Gen Idealize.ShloMosaic Idealize.ShloMosaic.TcCoe Idealize.SL.Sem
open Idealize.ShloMosaic.Pipeline (Dat)
open Cert.FfnProof (normed normed_congr)

/-- One entry of the residual row `x` after the embedding of layer 3 is mixed in: `p` is the embedding of the row, `g` the
    normalization's gains, `wg` and `wp` the weights of the gate and of the embedding. -/
def mixed (x g : Fin 1024 → EReal) (wg : Fin 1024 → Fin 1024 → EReal) (p : Fin 256 → EReal) (wp : Fin 256 → Fin 1024 → EReal)
    (j : Fin 1024) : EReal :=
  x j + Ideal.logistic (∑ k, normed x g k * wg k j) * ∑ q, p q * wp q j

theorem mixed_congr {x x' g g' : Fin 1024 → EReal} {wg wg' : Fin 1024 → Fin 1024 → EReal} {p p' : Fin 256 → EReal}
    {wp wp' : Fin 256 → Fin 1024 → EReal} (hx : ∀ k, x k = x' k) (hg : ∀ k, g k = g' k) (hw : ∀ k l, wg k l = wg' k l)
    (hp : ∀ k, p k = p' k) (hv : ∀ k l, wp k l = wp' k l) (j : Fin 1024) : mixed x g wg p wp j = mixed x' g' wg' p' wp' j := by
  rw [funext hx, funext hg, funext hp, show wg = wg' from funext fun k => funext (hw k), show wp = wp' from funext fun k => funext (hv k)]

/-- The residual stream after the embedding of layer 3, normalized with the final gains, element by element. -/
def out (h : FVec Ideal S16384x1024 .f32) (g : FVec Ideal S4x1x1024 .f32) (wg : FVec Ideal S4x1024x1024 .bf16)
    (p : FVec Ideal S4x16384x256 .f32) (wp : FVec Ideal S4x256x1024 .bf16) (gf : FVec Ideal S1x1024 .f32) :
    FVec Ideal S16384x1024 .f32 := fun i =>
  normed (mixed (fun k => h (ix2 (i 0) k)) (fun k => g (ix3 3 0 k)) (fun k l => wg (ix3 3 k l)) (fun k => p (ix3 3 (i 0) k))
    fun k l => wp (ix3 3 k l)) (fun k => gf (ix2 0 k)) (i 1)

/-- The mixed rows of a grid point, at one element. -/
theorem mix_at (x : FVec Ideal S512x1024 .f32) (g : FVec Ideal S1x1x1024 .f32) (wg : FVec Ideal S1x1024x1024 .bf16)
    (p : FVec Ideal S1x512x256 .f32) (wp : FVec Ideal S1x256x1024 .bf16) (r : Fin 512) (j : Fin 1024) :
    k0_pay2 (F := Ideal) x g wg p wp (ix2 r j) = mixed (fun k => x (ix2 r k)) (fun k => g (ix3 0 0 k)) (fun k l => wg (ix3 0 k l))
      (fun k => p (ix3 0 r k)) (fun k l => wp (ix3 0 k l)) j := by
  pointwise [k0_pay2, mixed, normed]

/-- The normalization of rows `y` with the final gains, at one element. -/
theorem norm_at (y : FVec Ideal S512x1024 .f32) (gf : FVec Ideal S1x1024 .f32) (r : Fin 512) (j : Fin 1024)
    (d : FVec Ideal S512x1 .f32) (hd : d (ix2 r 0) = Ideal.div (∑ k, y (ix2 r k) * y (ix2 r k)) (Ideal.ofBits .f32 0x44800000#32)) :
    k0_pay1 (F := Ideal) y gf d (k0_pay4 (F := Ideal)) (ix2 r j) = normed (fun k => y (ix2 r k)) (fun k => gf (ix2 0 k)) j := by
  unfold normed
  rw [← hd]
  pointwise [k0_pay1, k0_pay4]

/-- The mean of the squares of a grid point's mixed rows. -/
theorem mean_at (x : FVec Ideal S512x1024 .f32) (g : FVec Ideal S1x1x1024 .f32) (wg : FVec Ideal S1x1024x1024 .bf16)
    (p : FVec Ideal S1x512x256 .f32) (wp : FVec Ideal S1x256x1024 .bf16) (r : Fin 512) :
    k0_pay3 (F := Ideal) x g wg p wp (ix2 r 0) = Ideal.div (∑ k, k0_pay2 (F := Ideal) x g wg p wp (ix2 r k)
      * k0_pay2 (F := Ideal) x g wg p wp (ix2 r k)) (Ideal.ofBits .f32 0x44800000#32) := by
  unfold k0_pay3
  generalize k0_pay2 (F := Ideal) x g wg p wp = y
  pointwise

/-- The block of rows at each grid point, and the layer's weights at every one. -/
theorem idx : ∀ t : Fin cfg0.N, win0_0.index t = ![t.val, 0] ∧ win0_1.index t = ![3, 0, 0] ∧ win0_2.index t = ![3, 0, 0]
    ∧ win0_3.index t = ![3, t.val, 0] ∧ win0_4.index t = ![3, 0, 0] ∧ win0_5.index t = ![0, 0] ∧ win0_6.index t = ![t.val, 0] :=
  (by decide +kernel : ∀ t : Fin grid0.N, _)

variable (m : (ℓ : Loc nD τ sig) → Buf (Elt Ideal) ℓ)

/-- The kernel's result array is the normalized stream of its arguments. -/
theorem final (c : Dev nD) : (dats m 0 c).arrAt 6 (cfgs 0).N
    = out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t _ y => ?_
  blk_simp
  rw [after0_6]
  unfold out0_6
  canon_tiles x h
  idx_vars x
  rw [norm_at _ _ _ _ _ (mean_at _ _ _ _ _ _)]
  simp only [mix_at]
  unfold out
  have e1 : x1 = ((win0_6.blk t).view.emb y) 1 := by
    have e : (win0_6.blk t).view.emb y = ix2 (((win0_6.blk t).view.emb y) 0) x1 := by blk_point [idx t]
    exact (congrFun e 1).symm
  rw [← e1]
  refine normed_congr (fun j => mixed_congr (fun k => ?_) (fun k => ?_) (fun k l => ?_) (fun k => ?_) (fun k l => ?_) j) (fun k => ?_) _
  all_goals blk_point [iblk, V, idx t]

end Cert.PleProof

namespace Cert.PleProof

open Cert.PleRefIdeal Cert.PleRefIdeal.Gen Idealize.ShloMosaic Idealize.ShloMosaic.TcCoe Idealize.SL.Sem
open Cert.FfnProof (normed)

/-- Every run of the reference program ends with the normalized stream of its arguments, which it leaves as they were. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v46) = out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun r h c => ⟨(h c).1.trans ?_, (h c).2⟩) (Value.run m ρ)
  unfold Value.res_main_v46
  generalize m ((c : Thread nD τ).loc main_arg0) = h0
  generalize m ((c : Thread nD τ).loc main_arg1) = h1
  generalize m ((c : Thread nD τ).loc main_arg2) = h2
  generalize m ((c : Thread nD τ).loc main_arg3) = h3
  generalize m ((c : Thread nD τ).loc main_arg4) = h4
  generalize m ((c : Thread nD τ).loc main_arg5) = h5
  funext i
  idx_vars i
  pointwise [out, normed, mixed]
  rfl

end Cert.PleProof

namespace Cert.PleProof

open Idealize.ShloMosaic Idealize.ShloMosaic.TcCoe Idealize.SL.Sem

/-- Kernel and reference end with equal results. -/
theorem algebraic : Cert.algebraic_PleIdeal_PleRefIdeal := by
  pair_intro
  · run_from Cert.PleIdeal.Gen.run_main m g
  · run_from ref_run m' g'
    exact (final m c).symm

/-- The kernel runs, leaves its arguments as they were and every counter at zero. -/
theorem frame : Cert.quiescent_Ple := fun m ρ _ => Cert.Ple.Gen.frame m ρ

/-- So does the kernel the value claim names. -/
theorem frameIdeal : Cert.quiescent_PleIdeal := fun m ρ _ => Cert.PleIdeal.Gen.frame m ρ

/-- So does the reference. -/
theorem frameRef : Cert.quiescent_PleRefIdeal := fun m ρ _ =>
  (θ_run Cert.PleRefIdeal.defs _ _).mono
    (fun r h => ⟨fun c => (h c).2, Idealize.ShloMosaic.sem_eq_zero_of_no_sems (by decide) r.2⟩)
    (Cert.PleRefIdeal.Value.run (F := Ideal) m ρ)

end Cert.PleProof
-- ==== Proof.InC.lean ====
module

public import proofs.«01_k».proof.Proof.Gen.InCIdeal.Value
public import proofs.«01_k».proof.Proof.Gen.InCRefIdeal.Run
public import proofs.«01_k».proof.Proof.Gen.InC.Frame
public import proofs.«01_k».proof.Defs
public import proofs.«01_k».proof.Proof.FfnMath
public import Idealize.ShloMosaic.Lib.Pipeline.ValueKit
public import Idealize.ShloMosaic.Lib.Pointwise
public import Idealize.ShloMosaic.Lib.Claim

@[expose] public section

set_option maxRecDepth 16384

/-!
# The input projection of the neighbourhood attention

The queries (scaled by 1/8), the keys and the values of the first odd layer, each `rmsnorm h` times a third of the columns
of `w_in`. A grid point computes 512 rows of the three arrays in tiles of 256 columns; the reference takes one product and
splits it.
-/

noncomputable section

namespace Cert.InCProof

open Cert.InCIdeal Cert.InCIdeal.Gen Idealize.ShloMosaic Idealize.ShloMosaic.TcCoe Idealize.SL.Sem
open Idealize.ShloMosaic.Pipeline (Dat)
open Cert.FfnProof (normed normed_congr)

/-- Entry `(r, l)` of `rmsnorm h @ w_in` with the gains of layer 1 and the weights of the first odd layer. -/
def proj (h : FVec Ideal S16384x1024 .f32) (g : FVec Ideal S4x1x1024 .f32) (w : FVec Ideal S2x1024x3072 .bf16) (r : Fin 16384)
    (l : Fin 3072) : EReal :=
  ∑ k, normed (fun k => h (ix2 r k)) (fun k => g (ix3 1 0 k)) k * w (ix3 0 k l)

/-- The queries, scaled by 1/8. -/
def queries (h : FVec Ideal S16384x1024 .f32) (g : FVec Ideal S4x1x1024 .f32) (w : FVec Ideal S2x1024x3072 .bf16) :
    FVec Ideal S16384x1024 .bf16 := fun i =>
  proj h g w (i 0) ⟨(i 1).val, (i 1).isLt.trans (by decide)⟩ * Ideal.ofBits .f32 0x3E000000#32

/-- The keys. -/
def keys (h : FVec Ideal S16384x1024 .f32) (g : FVec Ideal S4x1x1024 .f32) (w : FVec Ideal S2x1024x3072 .bf16) :
    FVec Ideal S16384x1024 .bf16 := fun i =>
  proj h g w (i 0) ⟨1024 + (i 1).val, (Nat.add_lt_add_left (i 1).isLt 1024).trans (by decide)⟩

/-- The values. -/
def vals (h : FVec Ideal S16384x1024 .f32) (g : FVec Ideal S4x1x1024 .f32) (w : FVec Ideal S2x1024x3072 .bf16) :
    FVec Ideal S16384x1024 .bf16 := fun i =>
  proj h g w (i 0) ⟨2048 + (i 1).val, Nat.add_lt_add_left (i 1).isLt 2048⟩

/-- The normalized rows of a grid point, at one element. -/
theorem rows_at (x : FVec Ideal S512x1024 .f32) (g : FVec Ideal S1x1x1024 .f32) (r : Fin 512) (k : Fin 1024) :
    k0_pay1 (F := Ideal) x g (ix2 r k) = normed (fun k => x (ix2 r k)) (fun k => g (ix3 0 0 k)) k := by
  pointwise [k0_pay1, normed]

/-- A tile of the queries, at one element; the four tiles are this one function. -/
theorem query_at (xn : FVec Ideal S512x1024 .bf16) (w : FVec Ideal S1x1024x256 .bf16) (i : S512x256.Idx) :
    k0_pay6 (F := Ideal) xn w i = (∑ k, xn (ix2 (i 0) k) * w (ix3 0 k (i 1))) * Ideal.ofBits .f32 0x3E000000#32 := by
  pointwise [k0_pay6]

/-- A tile of the keys or of the values, at one element; the eight tiles are this one function. -/
theorem tile_at (xn : FVec Ideal S512x1024 .bf16) (w : FVec Ideal S1x1024x256 .bf16) (i : S512x256.Idx) :
    k0_pay7 (F := Ideal) xn w i = ∑ k, xn (ix2 (i 0) k) * w (ix3 0 k (i 1)) := by
  pointwise [k0_pay7]

/-- The block of rows at each grid point, and the layer's weights at every one. -/
theorem idx : ∀ t : Fin cfg0.N, win0_0.index t = ![t.val, 0] ∧ win0_1.index t = ![1, 0, 0] ∧ win0_2.index t = ![0, 0, 0]
    ∧ win0_3.index t = ![t.val, 0] ∧ win0_4.index t = ![t.val, 0] ∧ win0_5.index t = ![t.val, 0] :=
  (by decide +kernel : ∀ t : Fin grid0.N, _)

variable (m : (ℓ : Loc nD τ sig) → Buf (Elt Ideal) ℓ)

/-- The kernel's array of queries is the one of its arguments. -/
theorem finalQ (c : Dev nD) : (dats m 0 c).arrAt 3 (cfgs 0).N = queries (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  unfold out0_3
  canon_tiles x h
  all_goals
    refine (query_at _ _ x).trans ?_
    idx_vars x
    unfold queries proj
    refine congrArg (· * _) (Finset.sum_congr rfl fun k _ => Ideal.mul_congr ((rows_at _ _ _ _).trans (normed_congr (fun k => ?_)
      (fun k => ?_) k)) ?_)
  all_goals blk_point [iblk, V, idx t]

/-- The kernel's array of keys is the one of its arguments. -/
theorem finalK (c : Dev nD) : (dats m 0 c).arrAt 4 (cfgs 0).N = keys (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]
  unfold out0_4
  canon_tiles x h
  all_goals
    refine (tile_at _ _ x).trans ?_
    idx_vars x
    unfold keys proj
    refine Finset.sum_congr rfl fun k _ => Ideal.mul_congr ((rows_at _ _ _ _).trans (normed_congr (fun k => ?_)
      (fun k => ?_) k)) ?_
  all_goals blk_point [iblk, V, idx t]

/-- The kernel's array of values is the one of its arguments. -/
theorem finalV (c : Dev nD) : (dats m 0 c).arrAt 5 (cfgs 0).N = vals (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5]
  unfold out0_5
  canon_tiles x h
  all_goals
    refine (tile_at _ _ x).trans ?_
    idx_vars x
    unfold vals proj
    refine Finset.sum_congr rfl fun k _ => Ideal.mul_congr ((rows_at _ _ _ _).trans (normed_congr (fun k => ?_)
      (fun k => ?_) k)) ?_
  all_goals blk_point [iblk, V, idx t]

end Cert.InCProof

namespace Cert.InCProof

open Cert.InCRefIdeal Cert.InCRefIdeal.Gen Idealize.ShloMosaic Idealize.ShloMosaic.TcCoe Idealize.SL.Sem
open Cert.FfnProof (normed)

/-- Every run of the reference program ends with the three arrays of its arguments, which it leaves as they were. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v24) = queries (m ((c : Thread nD τ).loc main_arg0)) (m ((c : Thread nD τ).loc main_arg1)) (m ((c : Thread nD τ).loc main_arg2))
      ∧ r.2.mem ((c.tc : Thread nD τ).loc main_v25) = keys (m ((c : Thread nD τ).loc main_arg0)) (m ((c : Thread nD τ).loc main_arg1)) (m ((c : Thread nD τ).loc main_arg2))
      ∧ r.2.mem ((c.tc : Thread nD τ).loc main_v26) = vals (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ⟨(h c).1.trans ?_, (h c).2.1.trans ?_, (h c).2.2.1.trans ?_, (h c).2.2.2⟩) (Value.run m ρ)
  all_goals
    generalize m ((c : Thread nD τ).loc main_arg0) = h0
    generalize m ((c : Thread nD τ).loc main_arg1) = h1
    generalize m ((c : Thread nD τ).loc main_arg2) = h2
    funext i
    idx_vars i
    pointwise [queries, keys, vals, proj, normed]

end Cert.InCProof

namespace Cert.InCProof

open Idealize.ShloMosaic Idealize.ShloMosaic.TcCoe Idealize.SL.Sem

/-- Kernel and reference end with equal results. -/
theorem algebraic : Cert.algebraic_InCIdeal_InCRefIdeal := by
  pair_intro
  · run_from Cert.InCIdeal.Gen.run_main m g
  · run_from ref_run m' g'
    · exact (finalQ m c).symm
    · exact (finalK m c).symm
    · exact (finalV m c).symm

/-- The kernel runs, leaves its arguments as they were and every counter at zero. -/
theorem frame : Cert.quiescent_InC := fun m ρ _ => Cert.InC.Gen.frame m ρ

/-- So does the kernel the value claim names. -/
theorem frameIdeal : Cert.quiescent_InCIdeal := fun m ρ _ => Cert.InCIdeal.Gen.frame m ρ

/-- So does the reference. -/
theorem frameRef : Cert.quiescent_InCRefIdeal := fun m ρ _ =>
  (θ_run Cert.InCRefIdeal.defs _ _).mono
    (fun r h => ⟨fun c => (h c).2.2.2, Idealize.ShloMosaic.sem_eq_zero_of_no_sems (by decide) r.2⟩)
    (Cert.InCRefIdeal.Value.run (F := Ideal) m ρ)

end Cert.InCProof
-- ==== Proof.OutC.lean ====
module

public import proofs.«01_k».proof.Proof.Gen.OutCIdeal.Value
public import proofs.«01_k».proof.Proof.Gen.OutCRefIdeal.Run
public import proofs.«01_k».proof.Proof.Gen.OutC.Frame
public import proofs.«01_k».proof.Defs
public import Idealize.ShloMosaic.Lib.Pipeline.ValueKit
public import Idealize.ShloMosaic.Lib.Pointwise
public import Idealize.ShloMosaic.Lib.Claim

@[expose] public section

set_option maxRecDepth 16384

/-!
# The output projection of the neighbourhood attention

`out` is `h + o @ w_out` element by element. A grid point computes 512 rows of it, and so does the reference, at once.
-/

noncomputable section

namespace Cert.OutCProof

open Cert.OutCIdeal Cert.OutCIdeal.Gen Idealize.ShloMosaic Idealize.ShloMosaic.TcCoe Idealize.SL.Sem
open Idealize.ShloMosaic.Pipeline (Dat)

/-- `h + o @ w_out` with the weights of the first odd layer, element by element. -/
def out (h : FVec Ideal S16384x1024 .f32) (o : FVec Ideal S16384x1024 .bf16) (w : FVec Ideal S2x1024x1024 .bf16) : FVec Ideal S16384x1024 .f32 :=
  fun i => h i + ∑ k : Fin 1024, o (ix2 (i 0) k) * w (ix3 0 k (i 1))

/-- A grid point's arithmetic over its input blocks, at one element. -/
theorem pay_at (x : FVec Ideal S512x1024 .f32) (o : FVec Ideal S512x1024 .bf16) (w : FVec Ideal S1x1024x1024 .bf16) (r : Fin 512) (j : Fin 1024) :
    k0_pay1 (F := Ideal) x o w (ix2 r j) = x (ix2 r j) + ∑ k : Fin 1024, o (ix2 r k) * w (ix3 0 k j) := by
  pointwise [k0_pay1]

/-- The block of rows at each grid point, and the layer's weights at every one. -/
theorem idx : ∀ t : Fin cfg0.N, win0_0.index t = ![t.val, 0] ∧ win0_1.index t = ![t.val, 0] ∧ win0_2.index t = ![0, 0, 0]
    ∧ win0_3.index t = ![t.val, 0] :=
  (by decide +kernel : ∀ t : Fin grid0.N, _)

variable (m : (ℓ : Loc nD τ sig) → Buf (Elt Ideal) ℓ)

/-- The kernel's result array is the projection of its arguments. -/
theorem final (c : Dev nD) : (dats m 0 c).arrAt 3 (cfgs 0).N
    = out (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  unfold out0_3
  canon_tiles x h
  idx_vars x
  rw [pay_at]
  unfold out
  refine congrArg₂ (· + ·) ?_ (Finset.sum_congr rfl fun k _ => Ideal.mul_congr ?_ ?_)
  all_goals blk_point [iblk, V, idx t]

end Cert.OutCProof

namespace Cert.OutCProof

open Cert.OutCRefIdeal Cert.OutCRefIdeal.Gen Idealize.ShloMosaic Idealize.ShloMosaic.TcCoe Idealize.SL.Sem

/-- Every run of the reference program ends with the projection of its arguments, which it leaves as they were. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v5) = out (m ((c : Thread nD τ).loc main_arg0)) (m ((c : Thread nD τ).loc main_arg1))
        (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ⟨(h c).1.trans ?_, (h c).2⟩) (Value.run m ρ)
  generalize m ((c : Thread nD τ).loc main_arg0) = h0
  generalize m ((c : Thread nD τ).loc main_arg1) = h1
  generalize m ((c : Thread nD τ).loc main_arg2) = h2
  funext i
  idx_vars i
  pointwise [out]

end Cert.OutCProof

namespace Cert.OutCProof

open Idealize.ShloMosaic Idealize.ShloMosaic.TcCoe Idealize.SL.Sem

/-- Kernel and reference end with equal results. -/
theorem algebraic : Cert.algebraic_OutCIdeal_OutCRefIdeal := by
  pair_intro
  · run_from Cert.OutCIdeal.Gen.run_main m g
  · run_from ref_run m' g'
    exact (final m c).symm

/-- The kernel runs, leaves its arguments as they were and every counter at zero. -/
theorem frame : Cert.quiescent_OutC := fun m ρ _ => Cert.OutC.Gen.frame m ρ

/-- So does the kernel the value claim names. -/
theorem frameIdeal : Cert.quiescent_OutCIdeal := fun m ρ _ => Cert.OutCIdeal.Gen.frame m ρ

/-- So does the reference. -/
theorem frameRef : Cert.quiescent_OutCRefIdeal := fun m ρ _ =>
  (θ_run Cert.OutCRefIdeal.defs _ _).mono
    (fun r h => ⟨fun c => (h c).2, Idealize.ShloMosaic.sem_eq_zero_of_no_sems (by decide) r.2⟩)
    (Cert.OutCRefIdeal.Value.run (F := Ideal) m ρ)

end Cert.OutCProof
-- ==== Proof.InABTile.lean ====
module

public import proofs.«01_k».proof.Proof.Gen.InABIdeal.Value
public import proofs.«01_k».proof.Proof.FfnMath
public import Idealize.ShloMosaic.Lib.Pipeline.ValueKit
public import Idealize.ShloMosaic.Lib.Pointwise
public import Idealize.ShloMosaic.Lib.Claim

@[expose] public section

set_option maxRecDepth 16384

/-!
# The input projection of the windowed and the dilated attention: a grid point

`roped` rotates one entry of a row of the projection within its head; `tile` is what a grid point computes of it, from a tile
of 256 columns and the rotation tables of 128 lanes.
-/

noncomputable section

namespace Cert.InABProof

open Cert.InABIdeal Cert.InABIdeal.Gen Idealize.ShloMosaic Idealize.ShloMosaic.TcCoe Idealize.SL.Sem
open Cert.FfnProof (normed normed_congr)

/-- Entry `(r, l)` of `rmsnorm h @ w_in` with the gains of layer 0 and the weights of the first even layer. -/
def proj (h : FVec Ideal S16384x1024 .f32) (g : FVec Ideal S4x1x1024 .f32) (w : FVec Ideal S2x1024x3584 .bf16) (r : Fin 16384)
    (l : Fin 3584) : EReal :=
  ∑ k, normed (fun k => h (ix2 r k)) (fun k => g (ix3 0 0 k)) k * w (ix3 0 k l)

/-- The rotation angles: the position times `10000 ^ (-l / 32)`. -/
def angles : FVec Ideal S8192x32 .f32 :=
  mulf (broadcastInDim S8192x32 ![0, 1] bcast_S8192x1_S8192x32_0_1 (broadcastInDim S8192x1 ![0] bcast_S8192_S8192x1_0 (sitofp .f32 (iotaInDim S8192 32 0))))
    (broadcastInDim S8192x32 ![0, 1] bcast_S1x32_S8192x32_0_1 (broadcastInDim S1x32 ![1] bcast_S32_S1x32_1
      (Host.powf (broadcastInDim S32 ![] bcast_S_S32 (constant S_ .f32 0x461C4000#32))
        (Host.divf (Host.negf (sitofp .f32 (iotaInDim S32 32 0))) (broadcastInDim S32 ![] bcast_S_S32 (constant S_ .f32 0x42000000#32))))))

/-- The cosines of the angles of row `r`, whose position is `r` modulo the sequence's length. -/
def cosAt (r : Fin 16384) (l : Fin 32) : EReal := Host.cos (F := Ideal) angles (ix2 ⟨r.val % 8192, by omega⟩ l)

/-- The sines of the angles of row `r`. -/
def sinAt (r : Fin 16384) (l : Fin 32) : EReal := Host.sin (F := Ideal) angles (ix2 ⟨r.val % 8192, by omega⟩ l)

/-- Column `j` of a row `y` of the projection, rotated with its partner 32 columns away in its head of 64. -/
def roped (y : Fin 3584 → EReal) (cs sn : Fin 32 → EReal) (j : Fin 3584) : EReal :=
  if h : j.val % 64 < 32 then y j * cs ⟨j.val % 64, h⟩ - y ⟨j.val + 32, by omega⟩ * sn ⟨j.val % 64, h⟩
  else y j * cs ⟨j.val % 64 - 32, by omega⟩ + y ⟨j.val - 32, by omega⟩ * sn ⟨j.val % 64 - 32, by omega⟩

/-- The same as a grid point computes it, in a tile of 256 columns, from tables for 128 lanes with the sines' signs in them. -/
def tile (y : Fin 256 → EReal) (cs sn : Fin 128 → EReal) (j : Fin 256) : EReal :=
  y j * cs ⟨j.val % 128, by omega⟩
    + (if h : j.val % 64 < 32 then y ⟨j.val + 32, by omega⟩ else y ⟨j.val - 32, by omega⟩) * sn ⟨j.val % 128, by omega⟩

/-- The two agree, in a tile that starts at a head. -/
theorem tile_eq (Y : Fin 3584 → EReal) (C S : Fin 32 → EReal) (b : ℕ) (hb : b % 64 = 0) (hB : b + 256 ≤ 3584) (j : Fin 256) :
    tile (fun l => Y ⟨b + l.val, by omega⟩) (fun l => C ⟨l.val % 32, by omega⟩)
      (fun l => if l.val % 64 < 32 then -S ⟨l.val % 32, by omega⟩ else S ⟨l.val % 32, by omega⟩) j = roped Y C S ⟨b + j.val, by omega⟩ := by
  unfold tile roped
  by_cases h : j.val % 64 < 32
  · have h' : (b + j.val) % 64 < 32 := by omega
    have h2 : j.val % 128 % 64 < 32 := by omega
    have e : (⟨j.val % 128 % 32, by omega⟩ : Fin 32) = ⟨(b + j.val) % 64, h'⟩ := Fin.ext (by simp only; omega)
    have e2 : (⟨b + (j.val + 32), by omega⟩ : Fin 3584) = ⟨b + j.val + 32, by omega⟩ := Fin.ext (by simp only; omega)
    rw [dif_pos h, dif_pos h']
    dsimp only
    rw [if_pos h2, mul_neg, ← sub_eq_add_neg, e, e2]
  · have h' : ¬ (b + j.val) % 64 < 32 := by omega
    have h2 : ¬ j.val % 128 % 64 < 32 := by omega
    have e : (⟨j.val % 128 % 32, by omega⟩ : Fin 32) = ⟨(b + j.val) % 64 - 32, by omega⟩ := Fin.ext (by simp only; omega)
    have e2 : (⟨b + (j.val - 32), by omega⟩ : Fin 3584) = ⟨b + j.val - 32, by omega⟩ := Fin.ext (by simp only; omega)
    rw [dif_neg h, dif_neg h']
    dsimp only
    rw [if_neg h2, e, e2]

/-- A tile of the projection. -/
def dot (xn : FVec Ideal S512x1024 .bf16) (w : FVec Ideal S1x1024x256 .bf16) : FVec Ideal S512x256 .f32 :=
  matmul dot_S512x1024_S1024x256_S512x256_1_0_0_1_n_n none xn (shapeCast S1024x256 w shapeCasts_S1x1024x256_S1024x256)
    (constant S512x256 .f32 0x00000000#32)

theorem dot_at (xn : FVec Ideal S512x1024 .bf16) (w : FVec Ideal S1x1024x256 .bf16) (r : Fin 512) (j : Fin 256) :
    dot xn w (ix2 r j) = ∑ k, xn (ix2 r k) * w (ix3 0 k j) := by
  pointwise [dot]

/-- The rotation of 128 lanes, two heads. -/
def lanes (y cs sn : FVec Ideal S512x128 .f32) : FVec Ideal S512x128 .f32 :=
  addf (mulf y cs) (mulf (select (cmpi .eq (andi (iota .tc S512x128 32 [1] iota_S512x128_d1_w32) (broadcast S512x128 32#32)) (broadcast S512x128 0#32))
    (dynamicRotate 1 96#32 none y rotates_S512x128_d1) (dynamicRotate 1 32#32 none y rotates_S512x128_d1)) sn)

theorem rotate96 (y : FVec Ideal S512x128 .f32) (r : Fin 512) (l : Fin 128) (h : l.val + 32 < 128) :
    dynamicRotate 1 96#32 none y rotates_S512x128_d1 (ix2 r l) = y (ix2 r ⟨l.val + 32, h⟩) := by
  pointwise
  refine congrArg y (congrArg (ix2 r) (Fin.ext ?_))
  simp only
  omega

theorem rotate32 (y : FVec Ideal S512x128 .f32) (r : Fin 512) (l : Fin 128) (h : 32 ≤ l.val) :
    dynamicRotate 1 32#32 none y rotates_S512x128_d1 (ix2 r l) = y (ix2 r ⟨l.val - 32, by omega⟩) := by
  pointwise
  refine congrArg y (congrArg (ix2 r) (Fin.ext ?_))
  simp only
  omega

theorem bit : ∀ l : Fin 128, IntOp.cmpi .eq (IntOp.andi (BitVec.ofNat 32 l.val) 32#32) 0#32 = BitVec.ofBool (decide (l.val % 64 < 32)) := by
  decide +kernel

theorem lanes_at (y cs sn : FVec Ideal S512x128 .f32) (r : Fin 512) (l : Fin 128) : lanes y cs sn (ix2 r l) = y (ix2 r l) * cs (ix2 r l)
    + (if h : l.val % 64 < 32 then y (ix2 r ⟨l.val + 32, by omega⟩) else y (ix2 r ⟨l.val - 32, by omega⟩)) * sn (ix2 r l) := by
  have e : lanes y cs sn (ix2 r l) = y (ix2 r l) * cs (ix2 r l) + (if l.val % 64 < 32
      then dynamicRotate 1 96#32 none y rotates_S512x128_d1 (ix2 r l) else dynamicRotate 1 32#32 none y rotates_S512x128_d1 (ix2 r l)) * sn (ix2 r l) := by
    have hb := bit l
    unfold lanes
    generalize dynamicRotate 1 96#32 none y rotates_S512x128_d1 = a
    generalize dynamicRotate 1 32#32 none y rotates_S512x128_d1 = b
    pointwise
    rw [hb]
    by_cases h : l.val % 64 < 32
    · simp [h, Scalar.select]
    · simp [h, Scalar.select]
  rw [e]
  by_cases h : l.val % 64 < 32
  · rw [dif_pos h, if_pos h, rotate96 y r l (by omega)]
  · rw [dif_neg h, if_neg h, rotate32 y r l (by omega)]

/-- Both halves of a tile rotated. -/
def halves (y : FVec Ideal S512x256 .f32) (cs sn : FVec Ideal S512x128 .f32) : FVec Ideal S512x256 .f32 :=
  concatenate S512x256 1 [⟨S512x128, lanes (extractStridedSlice S512x128 ![0, 0] y slices_S512x256_o0_0_S512x128) cs sn⟩,
    ⟨S512x128, lanes (extractStridedSlice S512x128 ![0, 128] y slices_S512x256_o0_128_S512x128) cs sn⟩] concatenates_S512x128_S512x128_S512x256_d1

theorem low (y : FVec Ideal S512x256 .f32) (r : Fin 512) (l : Fin 128) :
    extractStridedSlice S512x128 ![0, 0] y slices_S512x256_o0_0_S512x128 (ix2 r l) = y (ix2 r ⟨l.val, by omega⟩) := by
  pointwise

theorem high (y : FVec Ideal S512x256 .f32) (r : Fin 512) (l : Fin 128) :
    extractStridedSlice S512x128 ![0, 128] y slices_S512x256_o0_128_S512x128 (ix2 r l) = y (ix2 r ⟨128 + l.val, by omega⟩) := by
  pointwise

theorem halves_at (y : FVec Ideal S512x256 .f32) (cs sn : FVec Ideal S512x128 .f32) (r : Fin 512) (j : Fin 256) :
    halves y cs sn (ix2 r j) = tile (fun l => y (ix2 r l)) (fun l => cs (ix2 r l)) (fun l => sn (ix2 r l)) j := by
  have e : halves y cs sn (ix2 r j) = if h : j.val < 128
      then lanes (extractStridedSlice S512x128 ![0, 0] y slices_S512x256_o0_0_S512x128) cs sn (ix2 r ⟨j.val, h⟩)
      else lanes (extractStridedSlice S512x128 ![0, 128] y slices_S512x256_o0_128_S512x128) cs sn (ix2 r ⟨j.val - 128, by omega⟩) := by
    unfold halves
    generalize lanes (extractStridedSlice S512x128 ![0, 0] y slices_S512x256_o0_0_S512x128) cs sn = a
    generalize lanes (extractStridedSlice S512x128 ![0, 128] y slices_S512x256_o0_128_S512x128) cs sn = b
    pointwise
  rw [e]
  unfold tile
  by_cases h : j.val < 128
  · have em : (⟨j.val % 128, by omega⟩ : Fin 128) = ⟨j.val, h⟩ := Fin.ext (by simp only; omega)
    rw [dif_pos h, lanes_at, em]
    by_cases h' : j.val % 64 < 32
    · rw [dif_pos h', dif_pos h', low, low]
    · rw [dif_neg h', dif_neg h', low, low]
  · have em : (⟨j.val % 128, by omega⟩ : Fin 128) = ⟨j.val - 128, by omega⟩ := Fin.ext (by simp only; omega)
    have ej : (⟨128 + (j.val - 128), by omega⟩ : Fin 256) = j := Fin.ext (by simp only; omega)
    rw [dif_neg h, lanes_at, em]
    by_cases h' : j.val % 64 < 32
    · have h2 : (j.val - 128) % 64 < 32 := by omega
      have e2 : (⟨128 + (j.val - 128 + 32), by omega⟩ : Fin 256) = ⟨j.val + 32, by omega⟩ := Fin.ext (by simp only; omega)
      rw [dif_pos h', dif_pos h2, high, high]
      simp only [ej, e2]
    · have h2 : ¬ (j.val - 128) % 64 < 32 := by omega
      have e2 : (⟨128 + (j.val - 128 - 32), by omega⟩ : Fin 256) = ⟨j.val - 32, by omega⟩ := Fin.ext (by simp only; omega)
      rw [dif_neg h', dif_neg h2, high, high]
      simp only [ej, e2]

/-- A tile of keys, at one element. -/
theorem key_at (xn : FVec Ideal S512x1024 .bf16) (cs sn : FVec Ideal S512x128 .f32) (w : FVec Ideal S1x1024x256 .bf16) (r : Fin 512) (j : Fin 256) :
    k0_pay15 (F := Ideal) xn cs sn w (ix2 r j)
      = tile (fun l => ∑ k, xn (ix2 r k) * w (ix3 0 k l)) (fun l => cs (ix2 r l)) (fun l => sn (ix2 r l)) j := by
  refine Eq.trans (b := halves (dot xn w) cs sn (ix2 r j)) rfl ?_
  rw [halves_at]
  simp only [dot_at]

/-- A tile of queries, at one element. -/
theorem query_at (xn : FVec Ideal S512x1024 .bf16) (cs sn : FVec Ideal S512x128 .f32) (w : FVec Ideal S1x1024x256 .bf16) (r : Fin 512) (j : Fin 256) :
    k0_pay14 (F := Ideal) xn cs sn w (ix2 r j)
      = tile (fun l => ∑ k, xn (ix2 r k) * w (ix3 0 k l)) (fun l => cs (ix2 r l)) (fun l => sn (ix2 r l)) j * Ideal.ofBits .f32 0x3E000000#32 := by
  refine Eq.trans (b := halves (dot xn w) cs sn (ix2 r j) * Ideal.ofBits .f32 0x3E000000#32) rfl ?_
  rw [halves_at]
  simp only [dot_at]

/-- A tile of values, at one element. -/
theorem val_at (xn : FVec Ideal S512x1024 .bf16) (w : FVec Ideal S1x1024x256 .bf16) (r : Fin 512) (j : Fin 256) :
    k0_pay16 (F := Ideal) xn w (ix2 r j) = ∑ k, xn (ix2 r k) * w (ix3 0 k j) := by
  pointwise [k0_pay16]

end Cert.InABProof
-- ==== Proof.InABKernel.lean ====
module

public import proofs.«01_k».proof.Proof.InABTile

@[expose] public section

set_option maxRecDepth 16384

/-!
# The input projection of the windowed and the dilated attention: the kernel's arrays
-/

noncomputable section

namespace Cert.InABProof

open Cert.InABIdeal Cert.InABIdeal.Gen Idealize.ShloMosaic Idealize.ShloMosaic.TcCoe Idealize.SL.Sem
open Idealize.ShloMosaic.Pipeline (Dat)
open Cert.FfnProof (normed normed_congr)

/-- The windowed attention's queries, rotated and scaled by 1/8. -/
def queriesA (h : FVec Ideal S16384x1024 .f32) (g : FVec Ideal S4x1x1024 .f32) (w : FVec Ideal S2x1024x3584 .bf16) :
    FVec Ideal S16384x768 .bf16 := fun i =>
  roped (proj h g w (i 0)) (cosAt (i 0)) (sinAt (i 0)) ⟨(i 1).val, (i 1).isLt.trans (by decide)⟩ * Ideal.ofBits .f32 0x3E000000#32

/-- The windowed attention's keys, rotated. -/
def keysA (h : FVec Ideal S16384x1024 .f32) (g : FVec Ideal S4x1x1024 .f32) (w : FVec Ideal S2x1024x3584 .bf16) :
    FVec Ideal S16384x256 .bf16 := fun i =>
  roped (proj h g w (i 0)) (cosAt (i 0)) (sinAt (i 0)) ⟨768 + (i 1).val, (Nat.add_lt_add_left (i 1).isLt 768).trans (by decide)⟩

/-- The windowed attention's values. -/
def valsA (h : FVec Ideal S16384x1024 .f32) (g : FVec Ideal S4x1x1024 .f32) (w : FVec Ideal S2x1024x3584 .bf16) :
    FVec Ideal S16384x256 .bf16 := fun i =>
  proj h g w (i 0) ⟨1024 + (i 1).val, (Nat.add_lt_add_left (i 1).isLt 1024).trans (by decide)⟩

/-- The dilated attention's queries, keys and values side by side. -/
def allB (h : FVec Ideal S16384x1024 .f32) (g : FVec Ideal S4x1x1024 .f32) (w : FVec Ideal S2x1024x3584 .bf16) :
    FVec Ideal S16384x2304 .bf16 := fun i =>
  if (i 1).val < 768 then roped (proj h g w (i 0)) (cosAt (i 0)) (sinAt (i 0)) ⟨1280 + (i 1).val, Nat.add_lt_add_left (i 1).isLt 1280⟩
    * Ideal.ofBits .f32 0x3E000000#32
  else if (i 1).val < 1536 then roped (proj h g w (i 0)) (cosAt (i 0)) (sinAt (i 0)) ⟨1280 + (i 1).val, Nat.add_lt_add_left (i 1).isLt 1280⟩
  else proj h g w (i 0) ⟨1280 + (i 1).val, Nat.add_lt_add_left (i 1).isLt 1280⟩

/-- A rotation table of 128 lanes from two of 32, as the kernel's caller lays it out. -/
def table (a b : FVec Ideal S8192x32 .f32) : FVec Ideal S8192x128 .f32 :=
  shapeCast S8192x128 (broadcastInDim S1x8192x2x64 ![0, 1, 2, 3] bcast_S1x8192x1x64_S1x8192x2x64_0_1_2_3
    (shapeCast S1x8192x1x64 (concatenate S8192x64 1 [⟨S8192x32, a⟩, ⟨S8192x32, b⟩] concatenates_S8192x32_S8192x32_S8192x64_d1)
      shapeCasts_S8192x64_S1x8192x1x64)) shapeCasts_S1x8192x2x64_S8192x128

theorem table_at (a b : FVec Ideal S8192x32 .f32) (s : Fin 8192) (l : Fin 128) :
    table a b (ix2 s l) = if l.val % 64 < 32 then a (ix2 s ⟨l.val % 32, by omega⟩) else b (ix2 s ⟨l.val % 32, by omega⟩) := by
  have e : table a b (ix2 s l) = if h : l.val % 64 < 32 then a (ix2 s ⟨l.val % 64, h⟩) else b (ix2 s ⟨l.val % 64 - 32, by omega⟩) := by
    pointwise [table]
  rw [e]
  by_cases h : l.val % 64 < 32
  · rw [dif_pos h, if_pos h]
    exact congrArg a (congrArg (ix2 s) (Fin.ext (by simp only; omega)))
  · rw [dif_neg h, if_neg h]
    exact congrArg b (congrArg (ix2 s) (Fin.ext (by simp only; omega)))

/-- The blocks at each grid point: rows of `h`, the layer's gains and weights, rows of the tables. -/
theorem idx : ∀ t : Fin cfg0.N, win0_0.index t = ![t.val, 0] ∧ win0_1.index t = ![0, 0, 0] ∧ win0_2.index t = ![0, 0, 0]
    ∧ win0_3.index t = ![t.val % 16, 0] ∧ win0_4.index t = ![t.val % 16, 0] ∧ win0_5.index t = ![t.val, 0] ∧ win0_6.index t = ![t.val, 0]
    ∧ win0_7.index t = ![t.val, 0] ∧ win0_8.index t = ![t.val, 0] :=
  (by decide +kernel : ∀ t : Fin grid0.N, _)

variable (m : (ℓ : Loc nD τ sig) → Buf (Elt Ideal) ℓ)

/-- The first table the region finds: the cosines. -/
theorem V_cos (c : Dev nD) : V m c main_v18 = table (Host.cos angles) (Host.cos angles) := by
  entry_read
  rfl

/-- The second: the sines, with the sign of the rotation. -/
theorem V_sin (c : Dev nD) : V m c main_v23 = table (Host.negf (Host.sin angles)) (Host.sin angles) := by
  entry_read
  rfl

/-- The cosines a grid point finds at row `x0` and lane `l`. -/
theorem cos_ld (c : Dev nD) (t : Fin cfg0.N) (x0 : Fin 512) (R : Fin 16384) (hR : R.val = t.val * 512 + x0.val) (l : Fin 128) :
    View.ld (iblk m c 3 t) r0_2 (ix2 x0 l) = cosAt R ⟨l.val % 32, by omega⟩ := by
  have e : View.ld (iblk m c 3 t) r0_2 (ix2 x0 l) = V m c main_v18 (ix2 ⟨t.val % 16 * 512 + x0.val, by omega⟩ l) := by
    have g : ∀ T : FVec Ideal S8192x128 .f32, View.ld (((cfg0.win 3).blk t).view.read (Elt Ideal) T) r0_2 (ix2 x0 l)
        = T (ix2 ⟨t.val % 16 * 512 + x0.val, by omega⟩ l) := fun T => by
      change T (((win0_3.blk t).view.emb (r0_2.emb (ix2 x0 l)))) = _
      refine congrArg T ?_
      blk_ext [idx t]
    exact g _
  rw [e, V_cos, table_at, ite_self]
  unfold cosAt
  refine congrArg (Host.cos angles) (congrArg (fun s => ix2 s _) (Fin.ext ?_))
  simp only
  omega

/-- The sines a grid point finds at row `x0` and lane `l`. -/
theorem sin_ld (c : Dev nD) (t : Fin cfg0.N) (x0 : Fin 512) (R : Fin 16384) (hR : R.val = t.val * 512 + x0.val) (l : Fin 128) :
    View.ld (iblk m c 4 t) r0_2 (ix2 x0 l) = if l.val % 64 < 32 then -sinAt R ⟨l.val % 32, by omega⟩ else sinAt R ⟨l.val % 32, by omega⟩ := by
  have e : View.ld (iblk m c 4 t) r0_2 (ix2 x0 l) = V m c main_v23 (ix2 ⟨t.val % 16 * 512 + x0.val, by omega⟩ l) := by
    have g : ∀ T : FVec Ideal S8192x128 .f32, View.ld (((cfg0.win 4).blk t).view.read (Elt Ideal) T) r0_2 (ix2 x0 l)
        = T (ix2 ⟨t.val % 16 * 512 + x0.val, by omega⟩ l) := fun T => by
      change T (((win0_4.blk t).view.emb (r0_2.emb (ix2 x0 l)))) = _
      refine congrArg T ?_
      blk_ext [idx t]
    exact g _
  have es : (⟨t.val % 16 * 512 + x0.val, by omega⟩ : Fin 8192) = ⟨R.val % 8192, by omega⟩ := Fin.ext (by simp only; omega)
  rw [e, V_sin, table_at, es]
  rfl

/-- The normalized rows a grid point computes. -/
theorem row_at (c : Dev nD) (t : Fin cfg0.N) (x0 : Fin 512) (R : Fin 16384) (hR : R.val = t.val * 512 + x0.val) (k : Fin 1024) :
    k0_pay2 (F := Ideal) (View.ld (iblk m c 0 t) r0_0) (View.ld (iblk m c 1 t) r0_1) (ix2 x0 k)
      = normed (fun k => m ((c : Thread nD τ).loc main_arg0) (ix2 R k)) (fun k => m ((c : Thread nD τ).loc main_arg1) (ix3 0 0 k)) k := by
  refine Eq.trans (b := normed (fun k => View.ld (iblk m c 0 t) r0_0 (ix2 x0 k)) (fun k => View.ld (iblk m c 1 t) r0_1 (ix3 0 0 k)) k) ?_
    (normed_congr (fun k => ?_) (fun k => ?_) k)
  · generalize View.ld (iblk m c 0 t) r0_0 = x
    generalize View.ld (iblk m c 1 t) r0_1 = g
    pointwise [k0_pay2, normed]
  · blk_point [iblk, V, idx t]
  · blk_point [iblk, V, idx t]

theorem cs_at (x : FVec Ideal S512x128 .f32) (r : Fin 512) (l : Fin 128) : k0_pay3 (F := Ideal) x (ix2 r l) = x (ix2 r l) := by
  pointwise [k0_pay3]

theorem sn_at (x : FVec Ideal S512x128 .f32) (r : Fin 512) (l : Fin 128) : k0_pay4 (F := Ideal) x (ix2 r l) = x (ix2 r l) := by
  pointwise [k0_pay4]

end Cert.InABProof
-- ==== Proof.InABArray.lean ====
module

public import proofs.«01_k».proof.Proof.InABKernel

@[expose] public section

set_option maxRecDepth 16384

/-!
# The input projection of the windowed and the dilated attention: the kernel's results
-/

noncomputable section

namespace Cert.InABProof

open Cert.InABIdeal Cert.InABIdeal.Gen Idealize.ShloMosaic Idealize.ShloMosaic.TcCoe Idealize.SL.Sem
open Idealize.ShloMosaic.Pipeline (Dat)
open Cert.FfnProof (normed normed_congr)

/-! The tiles of one kind are one function of their weights. -/

theorem query0 (v0 : FVec Ideal S512x1024 .f32) (v1 : FVec Ideal S1x1x1024 .f32) (v16 v18 : FVec Ideal S512x128 .f32) (w : FVec Ideal S1x1024x256 .bf16) :
    k0_pay9 (F := Ideal) (k0_pay3 v16) (k0_pay4 v18) (k0_pay6 v0 v1 v16 v18 w) (k0_pay7 v0 v1 w) (iota .tc S512x128 32 [1] iota_S512x128_d1_w32) k0_pay8
      = k0_pay14 (k0_pay2 v0 v1) (k0_pay3 v16) (k0_pay4 v18) w := rfl

theorem query1 (xn : FVec Ideal S512x1024 .bf16) (cs sn : FVec Ideal S512x128 .f32) (w : FVec Ideal S1x1024x256 .bf16) :
    k0_pay13 (F := Ideal) (k0_pay11 xn cs sn w) (k0_pay12 xn cs sn w) = k0_pay14 xn cs sn w := rfl

theorem query2 (xn : FVec Ideal S512x1024 .bf16) (cs sn : FVec Ideal S512x128 .f32) (w : FVec Ideal S1x1024x256 .bf16) :
    k0_pay29 (F := Ideal) cs sn (k0_pay25 xn cs sn w) (k0_pay26 xn w) k0_pay27 k0_pay28 = k0_pay14 xn cs sn w := rfl

theorem query3 (xn : FVec Ideal S512x1024 .bf16) (cs sn : FVec Ideal S512x128 .f32) (w : FVec Ideal S1x1024x256 .bf16) :
    k0_pay23 (F := Ideal) cs sn (k0_pay19 xn w) (k0_pay20 xn w) k0_pay21 (k0_pay22 xn w) 32#32 = k0_pay14 xn cs sn w := rfl

theorem query4 (xn : FVec Ideal S512x1024 .bf16) (cs sn : FVec Ideal S512x128 .f32) (w : FVec Ideal S1x1024x256 .bf16) :
    k0_pay18 (F := Ideal) xn cs sn (k0_pay17 w) (constant S512x256 .f32 0x00000000#32) = k0_pay14 xn cs sn w := rfl

theorem key1 (xn : FVec Ideal S512x1024 .bf16) (cs sn : FVec Ideal S512x128 .f32) (w : FVec Ideal S1x1024x256 .bf16) :
    k0_pay35 (F := Ideal) cs sn (k0_pay32 xn w) (k0_pay33 xn w) k0_pay34 = k0_pay15 xn cs sn w := rfl

theorem key2 (xn : FVec Ideal S512x1024 .bf16) (cs sn : FVec Ideal S512x128 .f32) (w : FVec Ideal S1x1024x256 .bf16) :
    k0_pay31 (F := Ideal) xn cs sn w = k0_pay15 xn cs sn w := rfl

theorem key3 (xn : FVec Ideal S512x1024 .bf16) (cs sn : FVec Ideal S512x128 .f32) (w : FVec Ideal S1x1024x256 .bf16) :
    k0_pay30 (F := Ideal) xn cs sn w = k0_pay15 xn cs sn w := rfl

theorem val1 (xn : FVec Ideal S512x1024 .bf16) (w : FVec Ideal S1x1024x256 .bf16) : k0_pay1 (F := Ideal) xn w = k0_pay16 xn w := rfl

theorem val2 (xn : FVec Ideal S512x1024 .bf16) (w : FVec Ideal S1x1024x256 .bf16) : k0_pay37 (F := Ideal) xn w = k0_pay16 xn w := rfl

theorem val3 (xn : FVec Ideal S512x1024 .bf16) (w : FVec Ideal S1x1024x256 .bf16) : k0_pay36 (F := Ideal) xn w = k0_pay16 xn w := rfl

theorem allB_query (h : FVec Ideal S16384x1024 .f32) (g : FVec Ideal S4x1x1024 .f32) (w : FVec Ideal S2x1024x3584 .bf16) (r : Fin 16384) (j : Fin 2304) (hj : j.val < 768)
    (l : Fin 3584) (hl : l.val = 1280 + j.val) : allB h g w (ix2 r j) = roped (proj h g w r) (cosAt r) (sinAt r) l * Ideal.ofBits .f32 0x3E000000#32 := by
  obtain rfl : l = ⟨1280 + j.val, Nat.add_lt_add_left j.isLt 1280⟩ := Fin.ext hl
  exact if_pos hj

theorem allB_key (h : FVec Ideal S16384x1024 .f32) (g : FVec Ideal S4x1x1024 .f32) (w : FVec Ideal S2x1024x3584 .bf16) (r : Fin 16384) (j : Fin 2304) (hj : ¬ j.val < 768) (hj' : j.val < 1536)
    (l : Fin 3584) (hl : l.val = 1280 + j.val) : allB h g w (ix2 r j) = roped (proj h g w r) (cosAt r) (sinAt r) l := by
  obtain rfl : l = ⟨1280 + j.val, Nat.add_lt_add_left j.isLt 1280⟩ := Fin.ext hl
  exact (if_neg hj).trans (if_pos hj')

theorem allB_val (h : FVec Ideal S16384x1024 .f32) (g : FVec Ideal S4x1x1024 .f32) (w : FVec Ideal S2x1024x3584 .bf16) (r : Fin 16384) (j : Fin 2304) (hj : ¬ j.val < 1536)
    (l : Fin 3584) (hl : l.val = 1280 + j.val) : allB h g w (ix2 r j) = proj h g w r l := by
  obtain rfl : l = ⟨1280 + j.val, Nat.add_lt_add_left j.isLt 1280⟩ := Fin.ext hl
  exact (if_neg (fun hh : j.val < 768 => hj (Nat.lt_trans hh (by decide)))).trans (if_neg hj)

theorem keysA_at (h : FVec Ideal S16384x1024 .f32) (g : FVec Ideal S4x1x1024 .f32) (w : FVec Ideal S2x1024x3584 .bf16) (r : Fin 16384) (j : Fin 256) (l : Fin 3584) (hl : l.val = 768 + j.val) :
    keysA h g w (ix2 r j) = roped (proj h g w r) (cosAt r) (sinAt r) l := by
  obtain rfl : l = ⟨768 + j.val, (Nat.add_lt_add_left j.isLt 768).trans (by decide)⟩ := Fin.ext hl
  rfl

theorem valsA_at (h : FVec Ideal S16384x1024 .f32) (g : FVec Ideal S4x1x1024 .f32) (w : FVec Ideal S2x1024x3584 .bf16) (r : Fin 16384) (j : Fin 256) (l : Fin 3584) (hl : l.val = 1024 + j.val) : valsA h g w (ix2 r j) = proj h g w r l := by
  obtain rfl : l = ⟨1024 + j.val, (Nat.add_lt_add_left j.isLt 1024).trans (by decide)⟩ := Fin.ext hl
  rfl

variable (m : (ℓ : Loc nD τ sig) → Buf (Elt Ideal) ℓ)

/-- A row of a grid point's tile of the projection is a row of the projection. -/
theorem dot_row (c : Dev nD) (t : Fin cfg0.N) (x0 : Fin 512) (x1 : Fin 256) (R : Fin 16384) (hR : R.val = t.val * 512 + x0.val)
    (b : ℕ) (hB : b + 256 ≤ 3584) (w : FVec Ideal S1x1024x256 .bf16)
    (hw : ∀ (k : Fin 1024) (l : Fin 256), w (ix3 0 k l) = m ((c : Thread nD τ).loc main_arg2) (ix3 0 k ⟨b + l.val, by omega⟩)) :
    (∑ k, k0_pay2 (F := Ideal) (View.ld (iblk m c 0 t) r0_0) (View.ld (iblk m c 1 t) r0_1) (ix2 x0 k) * w (ix3 0 k x1))
      = proj (m ((c : Thread nD τ).loc main_arg0)) (m ((c : Thread nD τ).loc main_arg1)) (m ((c : Thread nD τ).loc main_arg2)) R ⟨b + x1.val, by omega⟩ := by
  unfold proj
  exact Finset.sum_congr rfl fun k _ => Ideal.mul_congr (row_at m c t x0 R hR k) (hw k x1)

theorem tile_key (c : Dev nD) (t : Fin cfg0.N) (x0 : Fin 512) (x1 : Fin 256) (R : Fin 16384) (hR : R.val = t.val * 512 + x0.val)
    (b : ℕ) (hB : b + 256 ≤ 3584) (w : FVec Ideal S1x1024x256 .bf16)
    (hw : ∀ (k : Fin 1024) (l : Fin 256), w (ix3 0 k l) = m ((c : Thread nD τ).loc main_arg2) (ix3 0 k ⟨b + l.val, by omega⟩)) (hb : b % 64 = 0) :
    k0_pay15 (F := Ideal) (k0_pay2 (View.ld (iblk m c 0 t) r0_0) (View.ld (iblk m c 1 t) r0_1)) (k0_pay3 (View.ld (iblk m c 3 t) r0_2)) (k0_pay4 (View.ld (iblk m c 4 t) r0_2)) w (ix2 x0 x1)
      = roped (proj (m ((c : Thread nD τ).loc main_arg0)) (m ((c : Thread nD τ).loc main_arg1)) (m ((c : Thread nD τ).loc main_arg2)) R) (cosAt R) (sinAt R) ⟨b + x1.val, by omega⟩ := by
  rw [key_at]
  have hy := fun l => dot_row m c t x0 l R hR b hB w hw
  have hc := fun l => (cs_at (View.ld (iblk m c 3 t) r0_2) x0 l).trans (cos_ld m c t x0 R hR l)
  have hs := fun l => (sn_at (View.ld (iblk m c 4 t) r0_2) x0 l).trans (sin_ld m c t x0 R hR l)
  rw [funext hy, funext hc, funext hs, tile_eq _ _ _ b hb hB]

theorem tile_query (c : Dev nD) (t : Fin cfg0.N) (x0 : Fin 512) (x1 : Fin 256) (R : Fin 16384) (hR : R.val = t.val * 512 + x0.val)
    (b : ℕ) (hB : b + 256 ≤ 3584) (w : FVec Ideal S1x1024x256 .bf16)
    (hw : ∀ (k : Fin 1024) (l : Fin 256), w (ix3 0 k l) = m ((c : Thread nD τ).loc main_arg2) (ix3 0 k ⟨b + l.val, by omega⟩)) (hb : b % 64 = 0) :
    k0_pay14 (F := Ideal) (k0_pay2 (View.ld (iblk m c 0 t) r0_0) (View.ld (iblk m c 1 t) r0_1)) (k0_pay3 (View.ld (iblk m c 3 t) r0_2)) (k0_pay4 (View.ld (iblk m c 4 t) r0_2)) w (ix2 x0 x1)
      = roped (proj (m ((c : Thread nD τ).loc main_arg0)) (m ((c : Thread nD τ).loc main_arg1)) (m ((c : Thread nD τ).loc main_arg2)) R) (cosAt R) (sinAt R) ⟨b + x1.val, by omega⟩ * Ideal.ofBits .f32 0x3E000000#32 := by
  rw [query_at]
  have hy := fun l => dot_row m c t x0 l R hR b hB w hw
  have hc := fun l => (cs_at (View.ld (iblk m c 3 t) r0_2) x0 l).trans (cos_ld m c t x0 R hR l)
  have hs := fun l => (sn_at (View.ld (iblk m c 4 t) r0_2) x0 l).trans (sin_ld m c t x0 R hR l)
  rw [funext hy, funext hc, funext hs, tile_eq _ _ _ b hb hB]

theorem tile_val (c : Dev nD) (t : Fin cfg0.N) (x0 : Fin 512) (x1 : Fin 256) (R : Fin 16384) (hR : R.val = t.val * 512 + x0.val)
    (b : ℕ) (hB : b + 256 ≤ 3584) (w : FVec Ideal S1x1024x256 .bf16)
    (hw : ∀ (k : Fin 1024) (l : Fin 256), w (ix3 0 k l) = m ((c : Thread nD τ).loc main_arg2) (ix3 0 k ⟨b + l.val, by omega⟩)) :
    k0_pay16 (F := Ideal) (k0_pay2 (View.ld (iblk m c 0 t) r0_0) (View.ld (iblk m c 1 t) r0_1)) w (ix2 x0 x1) = proj (m ((c : Thread nD τ).loc main_arg0)) (m ((c : Thread nD τ).loc main_arg1)) (m ((c : Thread nD τ).loc main_arg2)) R ⟨b + x1.val, by omega⟩ := by
  rw [val_at]
  exact dot_row m c t x0 x1 R hR b hB w hw

/-- The kernel's array of the windowed attention's queries. -/
theorem finalQA (c : Dev nD) : (dats m 0 c).arrAt 5 (cfgs 0).N = queriesA (m ((c : Thread nD τ).loc main_arg0)) (m ((c : Thread nD τ).loc main_arg1)) (m ((c : Thread nD τ).loc main_arg2)) := by
  refine (dats m 0 c).arrAt_eq_of_covers 5 _ (by decide +kernel) fun t _ y => ?_
  have ht : t.val < 32 := t.isLt
  blk_simp
  rw [after0_5]
  unfold out0_5
  canon_tiles x h
  · idx_vars x
    have e : (win0_5.blk t).view.emb y = ix2 ⟨t.val * 512 + x0.val, by omega⟩ ⟨512 + x1.val, by omega⟩ := by blk_point [idx t]
    refine Eq.trans ?_ (congrArg (queriesA _ _ _) e).symm
    refine ((tile_query m c t x0 x1 ⟨t.val * 512 + x0.val, by omega⟩ rfl 512 (by decide) (View.ld (iblk m c 2 t) r0_7)
      (fun k l => by blk_point [iblk, V, idx t]) rfl)).trans ?_
    rfl
  · idx_vars x
    have e : (win0_5.blk t).view.emb y = ix2 ⟨t.val * 512 + x0.val, by omega⟩ ⟨256 + x1.val, by omega⟩ := by blk_point [idx t]
    refine Eq.trans ?_ (congrArg (queriesA _ _ _) e).symm
    refine ((congrFun (query1 _ _ _ _) _).trans (tile_query m c t x0 x1 ⟨t.val * 512 + x0.val, by omega⟩ rfl 256 (by decide) (View.ld (iblk m c 2 t) r0_5)
      (fun k l => by blk_point [iblk, V, idx t]) rfl)).trans ?_
    rfl
  · idx_vars x
    have e : (win0_5.blk t).view.emb y = ix2 ⟨t.val * 512 + x0.val, by omega⟩ ⟨0 + x1.val, by omega⟩ := by blk_point [idx t]
    refine Eq.trans ?_ (congrArg (queriesA _ _ _) e).symm
    refine ((congrFun (query0 _ _ _ _ _) _).trans (tile_query m c t x0 x1 ⟨t.val * 512 + x0.val, by omega⟩ rfl 0 (by decide) (View.ld (iblk m c 2 t) r0_3)
      (fun k l => by blk_point [iblk, V, idx t]) rfl)).trans ?_
    rfl

/-- The kernel's array of the windowed attention's keys. -/
theorem finalKA (c : Dev nD) : (dats m 0 c).arrAt 6 (cfgs 0).N = keysA (m ((c : Thread nD τ).loc main_arg0)) (m ((c : Thread nD τ).loc main_arg1)) (m ((c : Thread nD τ).loc main_arg2)) := by
  refine (dats m 0 c).arrAt_eq_of_covers 6 _ (by decide +kernel) fun t _ y => ?_
  have ht : t.val < 32 := t.isLt
  blk_simp
  rw [after0_6]
  unfold out0_6
  canon_tiles x h
  · idx_vars x
    have e : (win0_6.blk t).view.emb y = ix2 ⟨t.val * 512 + x0.val, by omega⟩ ⟨0 + x1.val, by omega⟩ := by blk_point [idx t]
    refine Eq.trans ?_ (congrArg (keysA _ _ _) e).symm
    refine ((tile_key m c t x0 x1 ⟨t.val * 512 + x0.val, by omega⟩ rfl 768 (by decide) (View.ld (iblk m c 2 t) r0_9)
      (fun k l => by blk_point [iblk, V, idx t]) rfl)).trans ?_
    exact (keysA_at _ _ _ _ _ _ (by simp only; omega)).symm

/-- The kernel's array of the windowed attention's values. -/
theorem finalVA (c : Dev nD) : (dats m 0 c).arrAt 7 (cfgs 0).N = valsA (m ((c : Thread nD τ).loc main_arg0)) (m ((c : Thread nD τ).loc main_arg1)) (m ((c : Thread nD τ).loc main_arg2)) := by
  refine (dats m 0 c).arrAt_eq_of_covers 7 _ (by decide +kernel) fun t _ y => ?_
  have ht : t.val < 32 := t.isLt
  blk_simp
  rw [after0_7]
  unfold out0_7
  canon_tiles x h
  · idx_vars x
    have e : (win0_7.blk t).view.emb y = ix2 ⟨t.val * 512 + x0.val, by omega⟩ ⟨0 + x1.val, by omega⟩ := by blk_point [idx t]
    refine Eq.trans ?_ (congrArg (valsA _ _ _) e).symm
    refine ((tile_val m c t x0 x1 ⟨t.val * 512 + x0.val, by omega⟩ rfl 1024 (by decide) (View.ld (iblk m c 2 t) r0_11)
      (fun k l => by blk_point [iblk, V, idx t]))).trans ?_
    exact (valsA_at _ _ _ _ _ _ (by simp only; omega)).symm

/-- The kernel's array of the dilated attention's queries, keys and values. -/
theorem finalB (c : Dev nD) : (dats m 0 c).arrAt 8 (cfgs 0).N = allB (m ((c : Thread nD τ).loc main_arg0)) (m ((c : Thread nD τ).loc main_arg1)) (m ((c : Thread nD τ).loc main_arg2)) := by
  refine (dats m 0 c).arrAt_eq_of_covers 8 _ (by decide +kernel) fun t _ y => ?_
  have ht : t.val < 32 := t.isLt
  blk_simp
  rw [after0_8]
  unfold out0_8
  canon_tiles x h
  · idx_vars x
    have e : (win0_8.blk t).view.emb y = ix2 ⟨t.val * 512 + x0.val, by omega⟩ ⟨2048 + x1.val, by omega⟩ := by blk_point [idx t]
    refine Eq.trans ?_ (congrArg (allB _ _ _) e).symm
    refine ((congrFun (val1 _ _) _).trans (tile_val m c t x0 x1 ⟨t.val * 512 + x0.val, by omega⟩ rfl 3328 (by decide) (View.ld (iblk m c 2 t) r0_28)
      (fun k l => by blk_point [iblk, V, idx t]))).trans ?_
    exact (allB_val _ _ _ _ _ (by simp only; omega) _ (by simp only; omega)).symm
  · idx_vars x
    have e : (win0_8.blk t).view.emb y = ix2 ⟨t.val * 512 + x0.val, by omega⟩ ⟨1792 + x1.val, by omega⟩ := by blk_point [idx t]
    refine Eq.trans ?_ (congrArg (allB _ _ _) e).symm
    refine ((congrFun (val2 _ _) _).trans (tile_val m c t x0 x1 ⟨t.val * 512 + x0.val, by omega⟩ rfl 3072 (by decide) (View.ld (iblk m c 2 t) r0_26)
      (fun k l => by blk_point [iblk, V, idx t]))).trans ?_
    exact (allB_val _ _ _ _ _ (by simp only; omega) _ (by simp only; omega)).symm
  · idx_vars x
    have e : (win0_8.blk t).view.emb y = ix2 ⟨t.val * 512 + x0.val, by omega⟩ ⟨1536 + x1.val, by omega⟩ := by blk_point [idx t]
    refine Eq.trans ?_ (congrArg (allB _ _ _) e).symm
    refine ((congrFun (val3 _ _) _).trans (tile_val m c t x0 x1 ⟨t.val * 512 + x0.val, by omega⟩ rfl 2816 (by decide) (View.ld (iblk m c 2 t) r0_24)
      (fun k l => by blk_point [iblk, V, idx t]))).trans ?_
    exact (allB_val _ _ _ _ _ (by simp only; omega) _ (by simp only; omega)).symm
  · idx_vars x
    have e : (win0_8.blk t).view.emb y = ix2 ⟨t.val * 512 + x0.val, by omega⟩ ⟨1280 + x1.val, by omega⟩ := by blk_point [idx t]
    refine Eq.trans ?_ (congrArg (allB _ _ _) e).symm
    refine ((congrFun (key1 _ _ _ _) _).trans (tile_key m c t x0 x1 ⟨t.val * 512 + x0.val, by omega⟩ rfl 2560 (by decide) (View.ld (iblk m c 2 t) r0_22)
      (fun k l => by blk_point [iblk, V, idx t]) rfl)).trans ?_
    exact (allB_key _ _ _ _ _ (by simp only; omega) (by simp only; omega) _ (by simp only; omega)).symm
  · idx_vars x
    have e : (win0_8.blk t).view.emb y = ix2 ⟨t.val * 512 + x0.val, by omega⟩ ⟨1024 + x1.val, by omega⟩ := by blk_point [idx t]
    refine Eq.trans ?_ (congrArg (allB _ _ _) e).symm
    refine ((congrFun (key2 _ _ _ _) _).trans (tile_key m c t x0 x1 ⟨t.val * 512 + x0.val, by omega⟩ rfl 2304 (by decide) (View.ld (iblk m c 2 t) r0_20)
      (fun k l => by blk_point [iblk, V, idx t]) rfl)).trans ?_
    exact (allB_key _ _ _ _ _ (by simp only; omega) (by simp only; omega) _ (by simp only; omega)).symm
  · idx_vars x
    have e : (win0_8.blk t).view.emb y = ix2 ⟨t.val * 512 + x0.val, by omega⟩ ⟨768 + x1.val, by omega⟩ := by blk_point [idx t]
    refine Eq.trans ?_ (congrArg (allB _ _ _) e).symm
    refine ((congrFun (key3 _ _ _ _) _).trans (tile_key m c t x0 x1 ⟨t.val * 512 + x0.val, by omega⟩ rfl 2048 (by decide) (View.ld (iblk m c 2 t) r0_18)
      (fun k l => by blk_point [iblk, V, idx t]) rfl)).trans ?_
    exact (allB_key _ _ _ _ _ (by simp only; omega) (by simp only; omega) _ (by simp only; omega)).symm
  · idx_vars x
    have e : (win0_8.blk t).view.emb y = ix2 ⟨t.val * 512 + x0.val, by omega⟩ ⟨512 + x1.val, by omega⟩ := by blk_point [idx t]
    refine Eq.trans ?_ (congrArg (allB _ _ _) e).symm
    refine ((congrFun (query2 _ _ _ _) _).trans (tile_query m c t x0 x1 ⟨t.val * 512 + x0.val, by omega⟩ rfl 1792 (by decide) (View.ld (iblk m c 2 t) r0_16)
      (fun k l => by blk_point [iblk, V, idx t]) rfl)).trans ?_
    exact (allB_query _ _ _ _ _ (by simp only; omega) _ (by simp only; omega)).symm
  · idx_vars x
    have e : (win0_8.blk t).view.emb y = ix2 ⟨t.val * 512 + x0.val, by omega⟩ ⟨256 + x1.val, by omega⟩ := by blk_point [idx t]
    refine Eq.trans ?_ (congrArg (allB _ _ _) e).symm
    refine ((congrFun (query3 _ _ _ _) _).trans (tile_query m c t x0 x1 ⟨t.val * 512 + x0.val, by omega⟩ rfl 1536 (by decide) (View.ld (iblk m c 2 t) r0_14)
      (fun k l => by blk_point [iblk, V, idx t]) rfl)).trans ?_
    exact (allB_query _ _ _ _ _ (by simp only; omega) _ (by simp only; omega)).symm
  · idx_vars x
    have e : (win0_8.blk t).view.emb y = ix2 ⟨t.val * 512 + x0.val, by omega⟩ ⟨0 + x1.val, by omega⟩ := by blk_point [idx t]
    refine Eq.trans ?_ (congrArg (allB _ _ _) e).symm
    refine ((congrFun (query4 _ _ _ _) _).trans (tile_query m c t x0 x1 ⟨t.val * 512 + x0.val, by omega⟩ rfl 1280 (by decide) (View.ld (iblk m c 2 t) r0_12)
      (fun k l => by blk_point [iblk, V, idx t]) rfl)).trans ?_
    exact (allB_query _ _ _ _ _ (by simp only; omega) _ (by simp only; omega)).symm

end Cert.InABProof
-- ==== Proof.InABRef.lean ====
module

public import proofs.«01_k».proof.Proof.InABKernel
public import proofs.«01_k».proof.Proof.Gen.InABRefIdeal.Run

@[expose] public section

set_option maxRecDepth 16384

/-!
# The input projection of the windowed and the dilated attention: the reference
-/

noncomputable section

namespace Cert.InABProof

open Cert.InABRefIdeal Cert.InABRefIdeal.Gen Idealize.ShloMosaic Idealize.ShloMosaic.TcCoe Idealize.SL.Sem
open Cert.FfnProof (normed)

/-- The projection of the normalized rows. -/
def projected (h : FVec Ideal S16384x1024 .f32) (g : FVec Ideal S4x1x1024 .f32) (w : FVec Ideal S2x1024x3584 .bf16) : FVec Ideal S16384x3584 .f32 :=
  Host.dotGeneral dot_S16384x1024_S1024x3584_S16384x3584_1_0_0_1_n_n none (mulf (mulf h (broadcastInDim S16384x1024 ![0, 1] bcast_S16384x1_S16384x1024_0_1
    (Host.rsqrt (addf (Host.divf (broadcastInDim S16384x1 ![0] bcast_S16384_S16384x1_0 (Host.reduceAdd (mulf h h) (constant S_ .f32 0x00000000#32)
      reducesTo_S16384x1024_S16384_d1 h_S_)) (broadcastInDim S16384x1 ![] bcast_S_S16384x1 (constant S_ .f32 0x44800000#32)))
      (broadcastInDim S16384x1 ![] bcast_S_S16384x1 (constant S_ .f32 0x358637BD#32)))))) (broadcastInDim S16384x1024 ![0, 1] bcast_S1x1024_S16384x1024_0_1
    (broadcastInDim S1x1024 ![1] bcast_S1024_S1x1024_1 (shapeCast _ (extractStridedSlice S1x1x1024 ![0, 0, 0] g slices_S4x1x1024_S1x1x1024_0_0_0)
      shapeCasts_S1x1x1024_S1024)))) (extf .f32 (shapeCast _ (extractStridedSlice S1x1024x3584 ![0, 0, 0] w slices_S2x1024x3584_S1x1024x3584_0_0_0)
    shapeCasts_S1x1024x3584_S1024x3584) bitsLt_bf16_f32)

theorem projected_at (h : FVec Ideal S16384x1024 .f32) (g : FVec Ideal S4x1x1024 .f32) (w : FVec Ideal S2x1024x3584 .bf16) (r : Fin 16384)
    (l : Fin 3584) : projected h g w (ix2 r l) = proj h g w r l := by
  pointwise [projected, proj, normed]

/-- The rows by sequence and position. -/
def seqs (y : FVec Ideal S16384x3584 .f32) : FVec Ideal S2x8192x3584 .f32 := shapeCast _ y shapeCasts_S16384x3584_S2x8192x3584

/-- A table spread over both sequences and 12 heads. -/
def spread12 (a : FVec Ideal S8192x32 .f32) : FVec Ideal S2x8192x12x32 .f32 :=
  broadcastInDim S2x8192x12x32 ![0, 1, 2, 3] bcast_S1x8192x1x32_S2x8192x12x32_0_1_2_3 (broadcastInDim S1x8192x1x32 ![1, 3] bcast_S8192x32_S1x8192x1x32_1_3 a)

/-- The first half of each of 12 heads. -/
def fst12 (y : FVec Ideal S2x8192x12x64 .f32) : FVec Ideal S2x8192x12x32 .f32 :=
  extractStridedSlice S2x8192x12x32 ![0, 0, 0, 0] y slices_S2x8192x12x64_S2x8192x12x32_0_0_0_0

/-- The second half. -/
def snd12 (y : FVec Ideal S2x8192x12x64 .f32) : FVec Ideal S2x8192x12x32 .f32 :=
  extractStridedSlice S2x8192x12x32 ![0, 0, 0, 32] y slices_S2x8192x12x64_S2x8192x12x32_0_0_0_32

/-- Two halves side by side. -/
def cat12 (a b : FVec Ideal S2x8192x12x32 .f32) : FVec Ideal S2x8192x12x64 .f32 :=
  concatenate S2x8192x12x64 3 [⟨S2x8192x12x32, a⟩, ⟨S2x8192x12x32, b⟩] concatenates_S2x8192x12x32_S2x8192x12x32_S2x8192x12x64_d3

/-- The rotation of 12 heads. -/
def rope12 (y : FVec Ideal S2x8192x12x64 .f32) (cs sn : FVec Ideal S8192x32 .f32) : FVec Ideal S2x8192x12x64 .f32 :=
  cat12 (subf (mulf (fst12 y) (spread12 cs)) (mulf (snd12 y) (spread12 sn))) (addf (mulf (snd12 y) (spread12 cs)) (mulf (fst12 y) (spread12 sn)))

theorem spread12_at (a : FVec Ideal S8192x32 .f32) (b : Fin 2) (s : Fin 8192) (d : Fin 12) (l : Fin 32) :
    spread12 a (ix4 b s d l) = a (ix2 s l) := by
  pointwise [spread12]

theorem fst12_at (y : FVec Ideal S2x8192x12x64 .f32) (b : Fin 2) (s : Fin 8192) (d : Fin 12) (l : Fin 32) :
    fst12 y (ix4 b s d l) = y (ix4 b s d ⟨l.val, by omega⟩) := by
  pointwise [fst12]

theorem snd12_at (y : FVec Ideal S2x8192x12x64 .f32) (b : Fin 2) (s : Fin 8192) (d : Fin 12) (l : Fin 32) :
    snd12 y (ix4 b s d l) = y (ix4 b s d ⟨32 + l.val, by omega⟩) := by
  pointwise [snd12]

theorem cat12_at (x y : FVec Ideal S2x8192x12x32 .f32) (b : Fin 2) (s : Fin 8192) (d : Fin 12) (l : Fin 64) :
    cat12 x y (ix4 b s d l) = if h : l.val < 32 then x (ix4 b s d ⟨l.val, h⟩) else y (ix4 b s d ⟨l.val - 32, by omega⟩) := by
  pointwise [cat12]

theorem low12 (y : FVec Ideal S2x8192x12x64 .f32) (cs sn : FVec Ideal S8192x32 .f32) (b : Fin 2) (s : Fin 8192) (d : Fin 12) (l : Fin 32) :
    subf (mulf (fst12 y) (spread12 cs)) (mulf (snd12 y) (spread12 sn)) (ix4 b s d l)
      = y (ix4 b s d ⟨l.val, by omega⟩) * cs (ix2 s l) - y (ix4 b s d ⟨32 + l.val, by omega⟩) * sn (ix2 s l) := by
  rw [← fst12_at y, ← snd12_at y, ← spread12_at cs b s d, ← spread12_at sn b s d]
  rfl

theorem high12 (y : FVec Ideal S2x8192x12x64 .f32) (cs sn : FVec Ideal S8192x32 .f32) (b : Fin 2) (s : Fin 8192) (d : Fin 12) (l : Fin 32) :
    addf (mulf (snd12 y) (spread12 cs)) (mulf (fst12 y) (spread12 sn)) (ix4 b s d l)
      = y (ix4 b s d ⟨32 + l.val, by omega⟩) * cs (ix2 s l) + y (ix4 b s d ⟨l.val, by omega⟩) * sn (ix2 s l) := by
  rw [← fst12_at y, ← snd12_at y, ← spread12_at cs b s d, ← spread12_at sn b s d]
  rfl

/-- The rotated heads, read in a row whose columns from `o` on they are. -/
theorem rope12_at (y : FVec Ideal S2x8192x12x64 .f32) (cs sn : FVec Ideal S8192x32 .f32) (Y : Fin 3584 → EReal) (o : ℕ) (ho : o % 64 = 0)
    (hO : o + 768 ≤ 3584) (b : Fin 2) (s : Fin 8192) (hy : ∀ (d : Fin 12) (l : Fin 64), y (ix4 b s d l) = Y ⟨o + (d.val * 64 + l.val), by omega⟩)
    (j : Fin 768) : rope12 y cs sn (ix4 b s ⟨j.val / 64, by omega⟩ ⟨j.val % 64, by omega⟩)
      = roped Y (fun l => cs (ix2 s l)) (fun l => sn (ix2 s l)) ⟨o + j.val, by omega⟩ := by
  unfold rope12 roped
  rw [cat12_at]
  by_cases h : j.val % 64 < 32
  · have h' : (o + j.val) % 64 < 32 := by omega
    rw [dif_pos h, dif_pos h', low12, hy, hy]
    refine congrArg₂ (· - ·) (congrArg₂ (· * ·) (congrArg Y (Fin.ext ?_)) (congrArg (fun l => cs (ix2 s l)) (Fin.ext ?_)))
      (congrArg₂ (· * ·) (congrArg Y (Fin.ext ?_)) (congrArg (fun l => sn (ix2 s l)) (Fin.ext ?_)))
    all_goals
      simp only
      omega
  · have h' : ¬ (o + j.val) % 64 < 32 := by omega
    rw [dif_neg h, dif_neg h', high12, hy, hy]
    refine congrArg₂ (· + ·) (congrArg₂ (· * ·) (congrArg Y (Fin.ext ?_)) (congrArg (fun l => cs (ix2 s l)) (Fin.ext ?_)))
      (congrArg₂ (· * ·) (congrArg Y (Fin.ext ?_)) (congrArg (fun l => sn (ix2 s l)) (Fin.ext ?_)))
    all_goals
      simp only
      omega

/-- The rows of 12 heads. -/
def flat12 (x : FVec Ideal S2x8192x12x64 .f32) : FVec Ideal S16384x768 .bf16 :=
  truncf .bf16 (shapeCast _ x shapeCasts_S2x8192x12x64_S16384x768) bitsLt_bf16_f32

theorem flat12_at (x : FVec Ideal S2x8192x12x64 .f32) (r : Fin 16384) (j : Fin 768) :
    flat12 x (ix2 r j) = x (ix4 ⟨r.val / 8192, by omega⟩ ⟨r.val % 8192, by omega⟩ ⟨j.val / 64, by omega⟩ ⟨j.val % 64, by omega⟩) := by
  pointwise [flat12]

/-- A table spread over both sequences and 4 heads. -/
def spread4 (a : FVec Ideal S8192x32 .f32) : FVec Ideal S2x8192x4x32 .f32 :=
  broadcastInDim S2x8192x4x32 ![0, 1, 2, 3] bcast_S1x8192x1x32_S2x8192x4x32_0_1_2_3 (broadcastInDim S1x8192x1x32 ![1, 3] bcast_S8192x32_S1x8192x1x32_1_3 a)

/-- The first half of each of 4 heads. -/
def fst4 (y : FVec Ideal S2x8192x4x64 .f32) : FVec Ideal S2x8192x4x32 .f32 :=
  extractStridedSlice S2x8192x4x32 ![0, 0, 0, 0] y slices_S2x8192x4x64_S2x8192x4x32_0_0_0_0

/-- The second half. -/
def snd4 (y : FVec Ideal S2x8192x4x64 .f32) : FVec Ideal S2x8192x4x32 .f32 :=
  extractStridedSlice S2x8192x4x32 ![0, 0, 0, 32] y slices_S2x8192x4x64_S2x8192x4x32_0_0_0_32

/-- Two halves side by side. -/
def cat4 (a b : FVec Ideal S2x8192x4x32 .f32) : FVec Ideal S2x8192x4x64 .f32 :=
  concatenate S2x8192x4x64 3 [⟨S2x8192x4x32, a⟩, ⟨S2x8192x4x32, b⟩] concatenates_S2x8192x4x32_S2x8192x4x32_S2x8192x4x64_d3

/-- The rotation of 4 heads. -/
def rope4 (y : FVec Ideal S2x8192x4x64 .f32) (cs sn : FVec Ideal S8192x32 .f32) : FVec Ideal S2x8192x4x64 .f32 :=
  cat4 (subf (mulf (fst4 y) (spread4 cs)) (mulf (snd4 y) (spread4 sn))) (addf (mulf (snd4 y) (spread4 cs)) (mulf (fst4 y) (spread4 sn)))

theorem spread4_at (a : FVec Ideal S8192x32 .f32) (b : Fin 2) (s : Fin 8192) (d : Fin 4) (l : Fin 32) :
    spread4 a (ix4 b s d l) = a (ix2 s l) := by
  pointwise [spread4]

theorem fst4_at (y : FVec Ideal S2x8192x4x64 .f32) (b : Fin 2) (s : Fin 8192) (d : Fin 4) (l : Fin 32) :
    fst4 y (ix4 b s d l) = y (ix4 b s d ⟨l.val, by omega⟩) := by
  pointwise [fst4]

theorem snd4_at (y : FVec Ideal S2x8192x4x64 .f32) (b : Fin 2) (s : Fin 8192) (d : Fin 4) (l : Fin 32) :
    snd4 y (ix4 b s d l) = y (ix4 b s d ⟨32 + l.val, by omega⟩) := by
  pointwise [snd4]

theorem cat4_at (x y : FVec Ideal S2x8192x4x32 .f32) (b : Fin 2) (s : Fin 8192) (d : Fin 4) (l : Fin 64) :
    cat4 x y (ix4 b s d l) = if h : l.val < 32 then x (ix4 b s d ⟨l.val, h⟩) else y (ix4 b s d ⟨l.val - 32, by omega⟩) := by
  pointwise [cat4]

theorem low4 (y : FVec Ideal S2x8192x4x64 .f32) (cs sn : FVec Ideal S8192x32 .f32) (b : Fin 2) (s : Fin 8192) (d : Fin 4) (l : Fin 32) :
    subf (mulf (fst4 y) (spread4 cs)) (mulf (snd4 y) (spread4 sn)) (ix4 b s d l)
      = y (ix4 b s d ⟨l.val, by omega⟩) * cs (ix2 s l) - y (ix4 b s d ⟨32 + l.val, by omega⟩) * sn (ix2 s l) := by
  rw [← fst4_at y, ← snd4_at y, ← spread4_at cs b s d, ← spread4_at sn b s d]
  rfl

theorem high4 (y : FVec Ideal S2x8192x4x64 .f32) (cs sn : FVec Ideal S8192x32 .f32) (b : Fin 2) (s : Fin 8192) (d : Fin 4) (l : Fin 32) :
    addf (mulf (snd4 y) (spread4 cs)) (mulf (fst4 y) (spread4 sn)) (ix4 b s d l)
      = y (ix4 b s d ⟨32 + l.val, by omega⟩) * cs (ix2 s l) + y (ix4 b s d ⟨l.val, by omega⟩) * sn (ix2 s l) := by
  rw [← fst4_at y, ← snd4_at y, ← spread4_at cs b s d, ← spread4_at sn b s d]
  rfl

/-- The rotated heads, read in a row whose columns from `o` on they are. -/
theorem rope4_at (y : FVec Ideal S2x8192x4x64 .f32) (cs sn : FVec Ideal S8192x32 .f32) (Y : Fin 3584 → EReal) (o : ℕ) (ho : o % 64 = 0)
    (hO : o + 256 ≤ 3584) (b : Fin 2) (s : Fin 8192) (hy : ∀ (d : Fin 4) (l : Fin 64), y (ix4 b s d l) = Y ⟨o + (d.val * 64 + l.val), by omega⟩)
    (j : Fin 256) : rope4 y cs sn (ix4 b s ⟨j.val / 64, by omega⟩ ⟨j.val % 64, by omega⟩)
      = roped Y (fun l => cs (ix2 s l)) (fun l => sn (ix2 s l)) ⟨o + j.val, by omega⟩ := by
  unfold rope4 roped
  rw [cat4_at]
  by_cases h : j.val % 64 < 32
  · have h' : (o + j.val) % 64 < 32 := by omega
    rw [dif_pos h, dif_pos h', low4, hy, hy]
    refine congrArg₂ (· - ·) (congrArg₂ (· * ·) (congrArg Y (Fin.ext ?_)) (congrArg (fun l => cs (ix2 s l)) (Fin.ext ?_)))
      (congrArg₂ (· * ·) (congrArg Y (Fin.ext ?_)) (congrArg (fun l => sn (ix2 s l)) (Fin.ext ?_)))
    all_goals
      simp only
      omega
  · have h' : ¬ (o + j.val) % 64 < 32 := by omega
    rw [dif_neg h, dif_neg h', high4, hy, hy]
    refine congrArg₂ (· + ·) (congrArg₂ (· * ·) (congrArg Y (Fin.ext ?_)) (congrArg (fun l => cs (ix2 s l)) (Fin.ext ?_)))
      (congrArg₂ (· * ·) (congrArg Y (Fin.ext ?_)) (congrArg (fun l => sn (ix2 s l)) (Fin.ext ?_)))
    all_goals
      simp only
      omega

/-- The rows of 4 heads. -/
def flat4 (x : FVec Ideal S2x8192x4x64 .f32) : FVec Ideal S16384x256 .bf16 :=
  truncf .bf16 (shapeCast _ x shapeCasts_S2x8192x4x64_S16384x256) bitsLt_bf16_f32

theorem flat4_at (x : FVec Ideal S2x8192x4x64 .f32) (r : Fin 16384) (j : Fin 256) :
    flat4 x (ix2 r j) = x (ix4 ⟨r.val / 8192, by omega⟩ ⟨r.val % 8192, by omega⟩ ⟨j.val / 64, by omega⟩ ⟨j.val % 64, by omega⟩) := by
  pointwise [flat4]

/-- The 12 heads from column 0 on. -/
def heads0 (y : FVec Ideal S16384x3584 .f32) : FVec Ideal S2x8192x12x64 .f32 :=
  shapeCast _ (extractStridedSlice S2x8192x768 ![0, 0, 0] (seqs y) slices_S2x8192x3584_S2x8192x768_0_0_0) shapeCasts_S2x8192x768_S2x8192x12x64

theorem heads0_at (y : FVec Ideal S16384x3584 .f32) (b : Fin 2) (s : Fin 8192) (d : Fin 12) (l : Fin 64) :
    heads0 y (ix4 b s d l) = y (ix2 ⟨b.val * 8192 + s.val, by omega⟩ ⟨0 + (d.val * 64 + l.val), by omega⟩) := by
  pointwise [heads0, seqs]

/-- The 4 heads from column 768 on. -/
def heads768 (y : FVec Ideal S16384x3584 .f32) : FVec Ideal S2x8192x4x64 .f32 :=
  shapeCast _ (extractStridedSlice S2x8192x256 ![0, 0, 768] (seqs y) slices_S2x8192x3584_S2x8192x256_0_0_768) shapeCasts_S2x8192x256_S2x8192x4x64

theorem heads768_at (y : FVec Ideal S16384x3584 .f32) (b : Fin 2) (s : Fin 8192) (d : Fin 4) (l : Fin 64) :
    heads768 y (ix4 b s d l) = y (ix2 ⟨b.val * 8192 + s.val, by omega⟩ ⟨768 + (d.val * 64 + l.val), by omega⟩) := by
  pointwise [heads768, seqs]

/-- The 12 heads from column 1280 on. -/
def heads1280 (y : FVec Ideal S16384x3584 .f32) : FVec Ideal S2x8192x12x64 .f32 :=
  shapeCast _ (extractStridedSlice S2x8192x768 ![0, 0, 1280] (seqs y) slices_S2x8192x3584_S2x8192x768_0_0_1280) shapeCasts_S2x8192x768_S2x8192x12x64

theorem heads1280_at (y : FVec Ideal S16384x3584 .f32) (b : Fin 2) (s : Fin 8192) (d : Fin 12) (l : Fin 64) :
    heads1280 y (ix4 b s d l) = y (ix2 ⟨b.val * 8192 + s.val, by omega⟩ ⟨1280 + (d.val * 64 + l.val), by omega⟩) := by
  pointwise [heads1280, seqs]

/-- The 12 heads from column 2048 on. -/
def heads2048 (y : FVec Ideal S16384x3584 .f32) : FVec Ideal S2x8192x12x64 .f32 :=
  shapeCast _ (extractStridedSlice S2x8192x768 ![0, 0, 2048] (seqs y) slices_S2x8192x3584_S2x8192x768_0_0_2048) shapeCasts_S2x8192x768_S2x8192x12x64

theorem heads2048_at (y : FVec Ideal S16384x3584 .f32) (b : Fin 2) (s : Fin 8192) (d : Fin 12) (l : Fin 64) :
    heads2048 y (ix4 b s d l) = y (ix2 ⟨b.val * 8192 + s.val, by omega⟩ ⟨2048 + (d.val * 64 + l.val), by omega⟩) := by
  pointwise [heads2048, seqs]

/-- The rows' columns from 1024 on. -/
def cols1024 (y : FVec Ideal S16384x3584 .f32) : FVec Ideal S16384x256 .bf16 :=
  truncf .bf16 (shapeCast _ (extractStridedSlice S2x8192x256 ![0, 0, 1024] (seqs y) slices_S2x8192x3584_S2x8192x256_0_0_1024)
    shapeCasts_S2x8192x256_S16384x256) bitsLt_bf16_f32

theorem cols1024_at (y : FVec Ideal S16384x3584 .f32) (r : Fin 16384) (j : Fin 256) : cols1024 y (ix2 r j) = y (ix2 r ⟨1024 + j.val, by omega⟩) := by
  pointwise [cols1024, seqs]

/-- The rows' columns from 2816 on. -/
def cols2816 (y : FVec Ideal S16384x3584 .f32) : FVec Ideal S16384x768 .bf16 :=
  truncf .bf16 (shapeCast _ (extractStridedSlice S2x8192x768 ![0, 0, 2816] (seqs y) slices_S2x8192x3584_S2x8192x768_0_0_2816)
    shapeCasts_S2x8192x768_S16384x768) bitsLt_bf16_f32

theorem cols2816_at (y : FVec Ideal S16384x3584 .f32) (r : Fin 16384) (j : Fin 768) : cols2816 y (ix2 r j) = y (ix2 r ⟨2816 + j.val, by omega⟩) := by
  pointwise [cols2816, seqs]

/-- Twelve heads scaled by 1/8. -/
def scaled (x : FVec Ideal S2x8192x12x64 .f32) : FVec Ideal S2x8192x12x64 .f32 :=
  mulf x (broadcastInDim S2x8192x12x64 ![] bcast_S_S2x8192x12x64 (constant S_ .f32 0x3E000000#32))

theorem scaled_at (x : FVec Ideal S2x8192x12x64 .f32) (i : S2x8192x12x64.Idx) : scaled x i = x i * Ideal.ofBits .f32 0x3E000000#32 := rfl

/-- Three blocks of columns side by side. -/
def beside (q k v : FVec Ideal S16384x768 .bf16) : FVec Ideal S16384x2304 .bf16 :=
  concatenate S16384x2304 1 [⟨S16384x768, q⟩, ⟨S16384x768, k⟩, ⟨S16384x768, v⟩] concatenates_S16384x768_S16384x768_S16384x768_S16384x2304_d1

theorem beside_at (q k v : FVec Ideal S16384x768 .bf16) (r : Fin 16384) (j : Fin 2304) : beside q k v (ix2 r j)
    = if h : j.val < 768 then q (ix2 r ⟨j.val, h⟩) else if h' : j.val - 768 < 768 then k (ix2 r ⟨j.val - 768, h'⟩)
      else v (ix2 r ⟨j.val - 768 - 768, by omega⟩) := by
  pointwise [beside]

theorem res_v60 (m : (ℓ : Loc nD τ sig) → Buf (Elt Ideal) ℓ) (c : Dev nD) : Value.res_main_v60 (F := Ideal) m c =
    flat12 (scaled (rope12 (heads0 (projected (m ((c.tc : Thread nD τ).loc main_arg0)) (m ((c.tc : Thread nD τ).loc main_arg1)) (m ((c.tc : Thread nD τ).loc main_arg2)))) (Host.cos angles) (Host.sin angles))) := rfl

theorem res_v92 (m : (ℓ : Loc nD τ sig) → Buf (Elt Ideal) ℓ) (c : Dev nD) : Value.res_main_v92 (F := Ideal) m c =
    flat4 (rope4 (heads768 (projected (m ((c.tc : Thread nD τ).loc main_arg0)) (m ((c.tc : Thread nD τ).loc main_arg1)) (m ((c.tc : Thread nD τ).loc main_arg2)))) (Host.cos angles) (Host.sin angles)) := rfl

theorem res_v163 (m : (ℓ : Loc nD τ sig) → Buf (Elt Ideal) ℓ) (c : Dev nD) : Value.res_main_v163 (F := Ideal) m c =
    beside (flat12 (scaled (rope12 (heads1280 (projected (m ((c.tc : Thread nD τ).loc main_arg0)) (m ((c.tc : Thread nD τ).loc main_arg1)) (m ((c.tc : Thread nD τ).loc main_arg2)))) (Host.cos angles) (Host.sin angles))))
      (flat12 (rope12 (heads2048 (projected (m ((c.tc : Thread nD τ).loc main_arg0)) (m ((c.tc : Thread nD τ).loc main_arg1)) (m ((c.tc : Thread nD τ).loc main_arg2)))) (Host.cos angles) (Host.sin angles))) (cols2816 (projected (m ((c.tc : Thread nD τ).loc main_arg0)) (m ((c.tc : Thread nD τ).loc main_arg1)) (m ((c.tc : Thread nD τ).loc main_arg2)))) := rfl

/-- The rotated heads from column 0 on, in the rows of the specification. -/
theorem roped0 (h : FVec Ideal S16384x1024 .f32) (g : FVec Ideal S4x1x1024 .f32) (w : FVec Ideal S2x1024x3584 .bf16) (r : Fin 16384) (j : Fin 768) :
    rope12 (heads0 (projected h g w)) (Host.cos (F := Ideal) angles) (Host.sin (F := Ideal) angles)
      (ix4 ⟨r.val / 8192, by omega⟩ ⟨r.val % 8192, by omega⟩ ⟨j.val / 64, by omega⟩ ⟨j.val % 64, by omega⟩)
      = roped (proj h g w r) (cosAt r) (sinAt r) ⟨0 + j.val, by omega⟩ := by
  refine rope12_at _ _ _ (proj h g w r) 0 (by decide) (by decide) _ _ (fun d l => ?_) j
  rw [heads0_at, projected_at]
  exact congrArg (fun q => proj h g w q _) (Fin.ext (by simp only; omega))

/-- The rotated heads from column 768 on, in the rows of the specification. -/
theorem roped768 (h : FVec Ideal S16384x1024 .f32) (g : FVec Ideal S4x1x1024 .f32) (w : FVec Ideal S2x1024x3584 .bf16) (r : Fin 16384) (j : Fin 256) :
    rope4 (heads768 (projected h g w)) (Host.cos (F := Ideal) angles) (Host.sin (F := Ideal) angles)
      (ix4 ⟨r.val / 8192, by omega⟩ ⟨r.val % 8192, by omega⟩ ⟨j.val / 64, by omega⟩ ⟨j.val % 64, by omega⟩)
      = roped (proj h g w r) (cosAt r) (sinAt r) ⟨768 + j.val, by omega⟩ := by
  refine rope4_at _ _ _ (proj h g w r) 768 (by decide) (by decide) _ _ (fun d l => ?_) j
  rw [heads768_at, projected_at]
  exact congrArg (fun q => proj h g w q _) (Fin.ext (by simp only; omega))

/-- The rotated heads from column 1280 on, in the rows of the specification. -/
theorem roped1280 (h : FVec Ideal S16384x1024 .f32) (g : FVec Ideal S4x1x1024 .f32) (w : FVec Ideal S2x1024x3584 .bf16) (r : Fin 16384) (j : Fin 768) :
    rope12 (heads1280 (projected h g w)) (Host.cos (F := Ideal) angles) (Host.sin (F := Ideal) angles)
      (ix4 ⟨r.val / 8192, by omega⟩ ⟨r.val % 8192, by omega⟩ ⟨j.val / 64, by omega⟩ ⟨j.val % 64, by omega⟩)
      = roped (proj h g w r) (cosAt r) (sinAt r) ⟨1280 + j.val, by omega⟩ := by
  refine rope12_at _ _ _ (proj h g w r) 1280 (by decide) (by decide) _ _ (fun d l => ?_) j
  rw [heads1280_at, projected_at]
  exact congrArg (fun q => proj h g w q _) (Fin.ext (by simp only; omega))

/-- The rotated heads from column 2048 on, in the rows of the specification. -/
theorem roped2048 (h : FVec Ideal S16384x1024 .f32) (g : FVec Ideal S4x1x1024 .f32) (w : FVec Ideal S2x1024x3584 .bf16) (r : Fin 16384) (j : Fin 768) :
    rope12 (heads2048 (projected h g w)) (Host.cos (F := Ideal) angles) (Host.sin (F := Ideal) angles)
      (ix4 ⟨r.val / 8192, by omega⟩ ⟨r.val % 8192, by omega⟩ ⟨j.val / 64, by omega⟩ ⟨j.val % 64, by omega⟩)
      = roped (proj h g w r) (cosAt r) (sinAt r) ⟨2048 + j.val, by omega⟩ := by
  refine rope12_at _ _ _ (proj h g w r) 2048 (by decide) (by decide) _ _ (fun d l => ?_) j
  rw [heads2048_at, projected_at]
  exact congrArg (fun q => proj h g w q _) (Fin.ext (by simp only; omega))

theorem refQA (h : FVec Ideal S16384x1024 .f32) (g : FVec Ideal S4x1x1024 .f32) (w : FVec Ideal S2x1024x3584 .bf16) :
    flat12 (scaled (rope12 (heads0 (projected h g w)) (Host.cos (F := Ideal) angles) (Host.sin (F := Ideal) angles))) = queriesA h g w := by
  funext i
  idx_vars i
  rw [flat12_at, scaled_at, roped0]
  exact congrArg (fun l => roped (proj h g w i0) (cosAt i0) (sinAt i0) l * Ideal.ofBits .f32 0x3E000000#32) (Fin.ext (Nat.zero_add _))

theorem refKA (h : FVec Ideal S16384x1024 .f32) (g : FVec Ideal S4x1x1024 .f32) (w : FVec Ideal S2x1024x3584 .bf16) :
    flat4 (rope4 (heads768 (projected h g w)) (Host.cos (F := Ideal) angles) (Host.sin (F := Ideal) angles)) = keysA h g w := by
  funext i
  idx_vars i
  rw [flat4_at, roped768]
  rfl

theorem refVA (h : FVec Ideal S16384x1024 .f32) (g : FVec Ideal S4x1x1024 .f32) (w : FVec Ideal S2x1024x3584 .bf16) : cols1024 (projected h g w) = valsA h g w := by
  funext i
  idx_vars i
  rw [cols1024_at, projected_at]
  rfl

theorem refB (h : FVec Ideal S16384x1024 .f32) (g : FVec Ideal S4x1x1024 .f32) (w : FVec Ideal S2x1024x3584 .bf16) :
    beside (flat12 (scaled (rope12 (heads1280 (projected h g w)) (Host.cos (F := Ideal) angles) (Host.sin (F := Ideal) angles))))
      (flat12 (rope12 (heads2048 (projected h g w)) (Host.cos (F := Ideal) angles) (Host.sin (F := Ideal) angles))) (cols2816 (projected h g w)) = allB h g w := by
  funext i
  idx_vars i
  rw [beside_at]
  by_cases h0 : i1.val < 768
  · rw [dif_pos h0, flat12_at, scaled_at, roped1280]
    exact (if_pos h0).symm
  · rw [dif_neg h0]
    by_cases h1 : i1.val - 768 < 768
    · have h2 : i1.val < 1536 := by omega
      rw [dif_pos h1, flat12_at, roped2048]
      refine Eq.trans ?_ ((if_neg h0).trans (if_pos h2)).symm
      exact congrArg (roped (proj h g w i0) (cosAt i0) (sinAt i0)) (Fin.ext (show 2048 + (i1.val - 768) = 1280 + i1.val by omega))
    · have h2 : ¬ i1.val < 1536 := by omega
      rw [dif_neg h1, cols2816_at, projected_at]
      refine Eq.trans ?_ ((if_neg h0).trans (if_neg h2)).symm
      exact congrArg (proj h g w i0) (Fin.ext (show 2816 + (i1.val - 768 - 768) = 1280 + i1.val by omega))

/-- Every run of the reference program ends with the four arrays of its arguments, which it leaves as they were. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v60) = queriesA (m ((c : Thread nD τ).loc main_arg0)) (m ((c : Thread nD τ).loc main_arg1)) (m ((c : Thread nD τ).loc main_arg2))
      ∧ r.2.mem ((c.tc : Thread nD τ).loc main_v92) = keysA (m ((c : Thread nD τ).loc main_arg0)) (m ((c : Thread nD τ).loc main_arg1)) (m ((c : Thread nD τ).loc main_arg2))
      ∧ r.2.mem ((c.tc : Thread nD τ).loc main_v160) = valsA (m ((c : Thread nD τ).loc main_arg0)) (m ((c : Thread nD τ).loc main_arg1)) (m ((c : Thread nD τ).loc main_arg2))
      ∧ r.2.mem ((c.tc : Thread nD τ).loc main_v163) = allB (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans ((res_v60 m c).trans (refQA _ _ _)), (h c).2.1.trans ((res_v92 m c).trans (refKA _ _ _)),
    (h c).2.2.1.trans (refVA (m ((c : Thread nD τ).loc main_arg0)) (m ((c : Thread nD τ).loc main_arg1)) (m ((c : Thread nD τ).loc main_arg2))), (h c).2.2.2.1.trans ((res_v163 m c).trans (refB _ _ _)), (h c).2.2.2.2⟩) (Value.run m ρ)

end Cert.InABProof
-- ==== Proof.InAB.lean ====
module

public import proofs.«01_k».proof.Defs
public import proofs.«01_k».proof.Proof.InABArray
public import proofs.«01_k».proof.Proof.InABRef
public import proofs.«01_k».proof.Proof.Gen.InAB.Frame

@[expose] public section

set_option maxRecDepth 16384

/-!
# The input projection of the windowed and the dilated attention

Kernel and reference both end with the four arrays of one specification (`queriesA`, `keysA`, `valsA`, `allB`) of the three arguments.
-/

noncomputable section

namespace Cert.InABProof

open Idealize.ShloMosaic Idealize.ShloMosaic.TcCoe Idealize.SL.Sem

/-- Kernel and reference end with equal results. -/
theorem algebraic : Cert.algebraic_InABIdeal_InABRefIdeal := by
  pair_intro
  · run_from Cert.InABIdeal.Gen.run_main m g
  · run_from ref_run m' g'
    · exact (finalQA m c).symm
    · exact (finalKA m c).symm
    · exact (finalVA m c).symm
    · exact (finalB m c).symm

/-- The kernel runs, leaves its arguments as they were and every counter at zero. -/
theorem frame : Cert.quiescent_InAB := fun m ρ _ => Cert.InAB.Gen.frame m ρ

/-- So does the kernel the value claim names. -/
theorem frameIdeal : Cert.quiescent_InABIdeal := fun m ρ _ => Cert.InABIdeal.Gen.frame m ρ

/-- So does the reference. -/
theorem frameRef : Cert.quiescent_InABRefIdeal := fun m ρ _ =>
  (θ_run Cert.InABRefIdeal.defs _ _).mono
    (fun r h => ⟨fun c => (h c).2.2.2.2, Idealize.ShloMosaic.sem_eq_zero_of_no_sems (by decide) r.2⟩)
    (Cert.InABRefIdeal.Value.run (F := Ideal) m ρ)

end Cert.InABProof
-- ==== Proof.OutAB.lean ====
module

public import proofs.«01_k».proof.Proof.Gen.OutABIdeal.Value
public import proofs.«01_k».proof.Proof.Gen.OutABRefIdeal.Run
public import proofs.«01_k».proof.Proof.Gen.OutAB.Frame
public import proofs.«01_k».proof.Defs
public import proofs.«01_k».proof.Proof.BandFinal
public import Idealize.ShloMosaic.Lib.Pipeline.ValueKit
public import Idealize.ShloMosaic.Lib.Pointwise
public import Idealize.ShloMosaic.Lib.Claim

@[expose] public section

set_option maxRecDepth 16384

/-!
# The output projection of the windowed and the dilated attention

`out` is `h + [oa | ob] @ w_out` element by element, where `ob` merges the dilated attention's three results by their
log-sum-exps. The kernel sums the weighted results and divides once; the reference divides every weight first. They agree
where the log-sum-exps are finite.
-/

noncomputable section

namespace Cert.OutABProof

open Idealize.ShloMosaic
open Cert.BandProof (Real')

/-- The greatest of three log-sum-exps. -/
def top (l : Fin 3 → EReal) : EReal := max (max (l 0) (l 1)) (l 2)

/-- The weight of one of the three results: the exponential of its log-sum-exp less the greatest. -/
def weight (l : Fin 3 → EReal) (j : Fin 3) : EReal := Ideal.exp (l j - top l)

/-- The sum of the three weights. -/
def total (l : Fin 3 → EReal) : EReal := (weight l 0 + weight l 1) + weight l 2

/-- The three results weighted, summed and divided by the weights' sum. -/
def merged (l o : Fin 3 → EReal) : EReal := Ideal.div ((weight l 0 * o 0 + weight l 1 * o 1) + weight l 2 * o 2) (total l)

/-- The three results weighted by the normalized weights. -/
def mergedFirst (l o : Fin 3 → EReal) : EReal := ∑ j, Ideal.div (weight l j) (total l) * o j

theorem vec3 {a b c a' b' c' : EReal} (ha : a = a') (hb : b = b') (hc : c = c') : ![a, b, c] = ![a', b', c'] := by
  rw [ha, hb, hc]

theorem max_real (a b : EReal) (ha : Real' a) (hb : Real' b) : Real' (max a b) := by
  rcases max_choice a b with h | h <;> rw [h] <;> assumption

/-- Dividing once and dividing first agree, where the log-sum-exps are real numbers. -/
theorem merged_eq (l o : Fin 3 → EReal) (hl : ∀ j, Real' (l j)) : merged l o = mergedFirst l o := by
  have ht : Real' (top l) := max_real _ _ (max_real _ _ (hl 0) (hl 1)) (hl 2)
  obtain ⟨t, ht⟩ : ∃ t : ℝ, top l = t := ⟨_, (EReal.coe_toReal ht.1 ht.2).symm⟩
  choose e he using fun j => Cert.BandProof.exp_real (l j) t (hl j).1
  have hw : ∀ j, weight l j = e j := fun j => by unfold weight; rw [ht]; exact (he j).1
  have hpos : ∀ j, 0 < e j := fun j => (he j).2.2.2 (hl j).2
  have htot : total l = ((e 0 + e 1) + e 2 : ℝ) := by
    unfold total
    rw [hw, hw, hw, EReal.coe_add, EReal.coe_add]
  have hD : 0 < (e 0 + e 1) + e 2 := add_pos (add_pos (hpos 0) (hpos 1)) (hpos 2)
  unfold merged mergedFirst
  rw [htot]
  generalize (e 0 + e 1) + e 2 = D at hD
  have hs := Cert.BandProof.sum_mul_real Finset.univ (fun j => weight l j * o j) (1 / D) (one_div_nonneg.2 hD.le)
  rw [Fin.sum_univ_three] at hs
  rw [Ideal.div_coe hD.ne', hs]
  refine Finset.sum_congr rfl fun j _ => ?_
  rw [Ideal.div_coe hD.ne']
  ac_rfl

end Cert.OutABProof

namespace Cert.OutABProof

open Cert.OutABIdeal Cert.OutABIdeal.Gen Idealize.ShloMosaic Idealize.ShloMosaic.TcCoe Idealize.SL.Sem
open Idealize.ShloMosaic.Pipeline (Dat)

/-- `h + [oa | ob] @ w_out` with the weights of the first even layer, element by element. -/
def out (h : FVec Ideal S16384x1024 .f32) (oa : FVec Ideal S16384x768 .bf16) (o0 o1 o2 : FVec Ideal S16384x256 .bf16)
    (l0 l1 l2 : FVec Ideal S16384x256 .f32) (w : FVec Ideal S2x1024x1024 .bf16) : FVec Ideal S16384x1024 .f32 :=
  fun i => h i + ((∑ k : Fin 768, oa (ix2 (i 0) k) * w (ix3 0 ⟨k, by omega⟩ (i 1)))
    + ∑ k : Fin 256, merged ![l0 (ix2 (i 0) k), l1 (ix2 (i 0) k), l2 (ix2 (i 0) k)] ![o0 (ix2 (i 0) k), o1 (ix2 (i 0) k), o2 (ix2 (i 0) k)]
        * w (ix3 0 ⟨768 + k, by omega⟩ (i 1)))

/-- A grid point's arithmetic over its input blocks, at one element. -/
theorem pay_at (l0 l1 l2 : FVec Ideal S512x256 .f32) (o0 o1 o2 : FVec Ideal S512x256 .bf16) (oa : FVec Ideal S512x768 .bf16)
    (wa : FVec Ideal S1x768x1024 .bf16) (wb : FVec Ideal S1x256x1024 .bf16) (x : FVec Ideal S512x1024 .f32) (r : Fin 512) (j : Fin 1024) :
    k0_pay1 (F := Ideal) (k0_pay2 l0 l1 l2 o0 o1 o2 oa wa wb) x (ix2 r j) = x (ix2 r j)
      + ((∑ k : Fin 768, oa (ix2 r k) * wa (ix3 0 k j))
        + ∑ k : Fin 256, merged ![l0 (ix2 r k), l1 (ix2 r k), l2 (ix2 r k)] ![o0 (ix2 r k), o1 (ix2 r k), o2 (ix2 r k)] * wb (ix3 0 k j)) := by
  pointwise [k0_pay1, k0_pay2, merged, total, weight, top]

/-- The blocks at each grid point. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![0, 0, 0] ∧ win0_9.index t = ![t.val, 0] :=
  (by decide +kernel : ∀ t : Fin grid0.N, _)

variable (m : (ℓ : Loc nD τ sig) → Buf (Elt Ideal) ℓ)

/-- The kernel's result array is the projection of its arguments. -/
theorem final (c : Dev nD) : (dats m 0 c).arrAt 9 (cfgs 0).N
    = out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 9 _ (by decide +kernel) fun t _ y => ?_
  blk_simp
  rw [after0_9]
  unfold out0_9
  canon_tiles x h
  idx_vars x
  rw [pay_at]
  unfold out
  refine congrArg₂ (· + ·) ?_ (congrArg₂ (· + ·) (Finset.sum_congr rfl fun k _ => Ideal.mul_congr ?_ ?_)
    (Finset.sum_congr rfl fun k _ => Ideal.mul_congr (congrArg₂ merged ?_ ?_) ?_))
  · blk_point [iblk, V, idx t]
  · blk_point [iblk, V, idx t]
  · blk_point [iblk, V, idx t]
  · refine vec3 ?_ ?_ ?_
    all_goals blk_point [iblk, V, idx t]
  · refine vec3 ?_ ?_ ?_
    all_goals blk_point [iblk, V, idx t]
  · blk_point [iblk, V, idx t]

end Cert.OutABProof

namespace Cert.OutABProof

open Cert.OutABRefIdeal Cert.OutABRefIdeal.Gen Idealize.ShloMosaic Idealize.ShloMosaic.TcCoe Idealize.SL.Sem
open Cert.BandProof (Real')

/-- Three arrays stacked. -/
def stack {e : FTy} (x0 x1 x2 : FVec Ideal S16384x256 e) : FVec Ideal S3x16384x256 e :=
  concatenate S3x16384x256 0 [⟨S1x16384x256, broadcastInDim S1x16384x256 ![1, 2] bcast_S16384x256_S1x16384x256_1_2 x0⟩,
    ⟨S1x16384x256, broadcastInDim S1x16384x256 ![1, 2] bcast_S16384x256_S1x16384x256_1_2 x1⟩,
    ⟨S1x16384x256, broadcastInDim S1x16384x256 ![1, 2] bcast_S16384x256_S1x16384x256_1_2 x2⟩]
    concatenates_S1x16384x256_S1x16384x256_S1x16384x256_S3x16384x256_d0

/-- One array, three times. -/
def thrice (x : FVec Ideal S16384x256 .f32) : FVec Ideal S3x16384x256 .f32 :=
  broadcastInDim S3x16384x256 ![0, 1, 2] bcast_S1x16384x256_S3x16384x256_0_1_2
    (broadcastInDim S1x16384x256 ![1, 2] bcast_S16384x256_S1x16384x256_1_2 x)

/-- The greatest of the stacked log-sum-exps. -/
def tops (s : FVec Ideal S3x16384x256 .f32) : FVec Ideal S16384x256 .f32 :=
  maximumf (broadcastInDim S16384x256 ![] bcast_S_S16384x256 (constant S_ .f32 0xFF800000#32))
    (Host.reduce FloatOps.maximumf s (constant S_ .f32 0xFF800000#32) reducesTo_S3x16384x256_S16384x256_d0 h_S_)

/-- The stacked weights. -/
def exps (s : FVec Ideal S3x16384x256 .f32) : FVec Ideal S3x16384x256 .f32 := Host.exp (subf s (thrice (tops s)))

/-- The sum over the stack. -/
def sums (s : FVec Ideal S3x16384x256 .f32) : FVec Ideal S16384x256 .f32 :=
  Host.reduceAdd s (constant S_ .f32 0x00000000#32) reducesTo_S3x16384x256_S16384x256_d0 h_S_

/-- The merged results of the dilated attention. -/
def merge (s : FVec Ideal S3x16384x256 .f32) (o : FVec Ideal S3x16384x256 .bf16) : FVec Ideal S16384x256 .f32 :=
  sums (mulf (Host.divf (exps s) (thrice (sums (exps s)))) (extf .f32 o bitsLt_bf16_f32))

/-- The projection, of both attentions' results side by side. -/
def project (h : FVec Ideal S16384x1024 .f32) (oa : FVec Ideal S16384x768 .bf16) (ob : FVec Ideal S16384x256 .f32)
    (w : FVec Ideal S2x1024x1024 .bf16) : FVec Ideal S16384x1024 .f32 :=
  addf h (Host.dotGeneral dot_S16384x1024_S1024x1024_S16384x1024_1_0_0_1_n_n none
    (concatenate S16384x1024 1 [⟨S16384x768, extf .f32 oa bitsLt_bf16_f32⟩, ⟨S16384x256, ob⟩] concatenates_S16384x768_S16384x256_S16384x1024_d1)
    (extf .f32 (shapeCast _ (extractStridedSlice S1x1024x1024 ![0, 0, 0] w slices_S2x1024x1024_S1x1024x1024_0_0_0)
      shapeCasts_S1x1024x1024_S1024x1024) bitsLt_bf16_f32))

theorem stack_at {e : FTy} (x0 x1 x2 : FVec Ideal S16384x256 e) (j : Fin 3) (r : Fin 16384) (k : Fin 256) :
    stack x0 x1 x2 (ix3 j r k) = (![x0 (ix2 r k), x1 (ix2 r k), x2 (ix2 r k)] : Fin 3 → EReal) j := by
  fin_cases j
  all_goals pointwise [stack]

theorem tops_at (s : FVec Ideal S3x16384x256 .f32) (r : Fin 16384) (k : Fin 256) :
    tops s (ix2 r k) = top fun j => s (ix3 j r k) := by
  unfold tops top
  rw [Cert.BandProof.maxAt, Cert.BandProof.hostMax, Shape.ReducesTo.fold_fiber_r3_a0]
  change max (Ideal.ofBits .f32 0xFF800000#32) ((Finset.univ : Finset (Fin 3)).fold max (Ideal.ofBits .f32 0xFF800000#32) fun j => s (ix3 j r k)) = _
  rw [Cert.BandProof.ofBits_bot, show (Finset.univ : Finset (Fin 3)) = {0, 1, 2} from rfl]
  simp [max_assoc]

theorem exps_at (s : FVec Ideal S3x16384x256 .f32) (j : Fin 3) (r : Fin 16384) (k : Fin 256) :
    exps s (ix3 j r k) = weight (fun j => s (ix3 j r k)) j := by
  unfold weight
  rw [← tops_at]
  generalize tops_def : tops s = t
  pointwise [exps, thrice, tops_def]

theorem sums_at (s : FVec Ideal S3x16384x256 .f32) (r : Fin 16384) (k : Fin 256) : sums s (ix2 r k) = ∑ j : Fin 3, s (ix3 j r k) := by
  pointwise [sums]

theorem merge_at (s : FVec Ideal S3x16384x256 .f32) (o : FVec Ideal S3x16384x256 .bf16) (r : Fin 16384) (k : Fin 256) :
    merge s o (ix2 r k) = mergedFirst (fun j => s (ix3 j r k)) fun j => o (ix3 j r k) := by
  have ht : ∀ r k, sums (exps s) (ix2 r k) = total fun j => s (ix3 j r k) := fun r k => by
    rw [sums_at, Fin.sum_univ_three, exps_at, exps_at, exps_at]
    rfl
  unfold merge mergedFirst
  rw [sums_at]
  refine Finset.sum_congr rfl fun j _ => ?_
  rw [← ht, ← exps_at]
  generalize sums (exps s) = t
  generalize exps s = e
  pointwise [thrice]

/-- A sum over 768 entries and 256 more, apart. -/
theorem split_sum (a : Fin 768 → EReal) (b : Fin 256 → EReal) (w : Fin 1024 → EReal) :
    (∑ k : Fin 1024, (if hk : k.val < 768 then a ⟨k.val, hk⟩ else b ⟨k.val - 768, by omega⟩) * w k)
      = (∑ k : Fin 768, a k * w ⟨k.val, by omega⟩) + ∑ k : Fin 256, b k * w ⟨768 + k.val, by omega⟩ := by
  refine (Fin.sum_univ_add (a := 768) (b := 256) _).trans (congrArg₂ (· + ·) ?_ ?_)
  · refine Finset.sum_congr rfl fun k _ => ?_
    have hk : (Fin.castAdd 256 k).val < 768 := k.isLt
    rw [dif_pos hk]
    rfl
  · refine Finset.sum_congr rfl fun k _ => ?_
    have hk : ¬ (Fin.natAdd 768 k).val < 768 := Nat.not_lt.2 (Nat.le_add_right 768 k.val)
    rw [dif_neg hk]
    refine congrArg₂ (fun x y => b x * w y) (Fin.ext ?_) rfl
    exact Nat.add_sub_cancel_left 768 k.val

/-- The projection at one element, the two attentions' rows apart. -/
theorem project_at (h : FVec Ideal S16384x1024 .f32) (oa : FVec Ideal S16384x768 .bf16) (ob : FVec Ideal S16384x256 .f32)
    (w : FVec Ideal S2x1024x1024 .bf16) (r : Fin 16384) (j : Fin 1024) : project h oa ob w (ix2 r j)
    = h (ix2 r j) + ((∑ k : Fin 768, oa (ix2 r k) * w (ix3 0 ⟨k, by omega⟩ j)) + ∑ k : Fin 256, ob (ix2 r k) * w (ix3 0 ⟨768 + k, by omega⟩ j)) := by
  have e : project h oa ob w (ix2 r j) = h (ix2 r j) + ∑ k : Fin 1024,
      (if hk : k.val < 768 then oa (ix2 r ⟨k, hk⟩) else ob (ix2 r ⟨k - 768, by omega⟩)) * w (ix3 0 k j) := by
    pointwise [project]
  rw [e]
  refine congrArg (h (ix2 r j) + ·) ?_
  generalize hW : (fun k : Fin 1024 => w (ix3 0 k j)) = W
  have hw : ∀ k : Fin 1024, w (ix3 0 k j) = W k := fun k => congrFun hW k
  simp only [hw]
  exact split_sum (fun k => oa (ix2 r k)) (fun k => ob (ix2 r k)) W

/-- The reference's projection is the kernel's, where the log-sum-exps are real numbers. -/
theorem project_eq (h : FVec Ideal S16384x1024 .f32) (oa : FVec Ideal S16384x768 .bf16) (o0 o1 o2 : FVec Ideal S16384x256 .bf16)
    (l0 l1 l2 : FVec Ideal S16384x256 .f32) (w : FVec Ideal S2x1024x1024 .bf16) (h0 : ∀ i, Real' (l0 i)) (h1 : ∀ i, Real' (l1 i))
    (h2 : ∀ i, Real' (l2 i)) : project h oa (merge (stack l0 l1 l2) (stack o0 o1 o2)) w = out h oa o0 o1 o2 l0 l1 l2 w := by
  funext i
  idx_vars i
  rw [project_at]
  unfold out
  refine congrArg₂ (· + ·) rfl (congrArg₂ (· + ·) rfl (Finset.sum_congr rfl fun k _ => Ideal.mul_congr ?_ rfl))
  rw [merge_at]
  refine Eq.trans ?_ (merged_eq _ _ fun j => ?_).symm
  · exact congrArg₂ mergedFirst (funext fun j => stack_at _ _ _ j _ _) (funext fun j => stack_at _ _ _ j _ _)
  · fin_cases j
    · exact h0 _
    · exact h1 _
    · exact h2 _

/-- Every run of the reference program ends with the projection of its arguments, stage by stage, and leaves them as they were. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v28) = project (m ((c : Thread nD τ).loc main_arg0)) (m ((c : Thread nD τ).loc main_arg1))
        (merge (stack (m ((c : Thread nD τ).loc main_arg5)) (m ((c : Thread nD τ).loc main_arg6)) (m ((c : Thread nD τ).loc main_arg7)))
          (stack (m ((c : Thread nD τ).loc main_arg2)) (m ((c : Thread nD τ).loc main_arg3)) (m ((c : Thread nD τ).loc main_arg4))))
        (m ((c : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  Value.run m ρ

end Cert.OutABProof

namespace Cert.OutABProof

open Idealize.ShloMosaic Idealize.ShloMosaic.TcCoe Idealize.SL.Sem
open Cert.BandProof (Real' real_of_bits)

/-- The side conditions of the precondition's own operations. -/
theorem preFacts : Cert.Pre_finite_lse.Facts := ⟨by decide⟩

attribute [local instance] preFacts

/-- What the precondition says of the log-sum-exps. -/
theorem pre_at (h : FVec Ideal Cert.Pre_finite_lse.S16384x1024 .f32) (oa : FVec Ideal Cert.Pre_finite_lse.S16384x768 .bf16)
    (o0 o1 o2 : FVec Ideal Cert.Pre_finite_lse.S16384x256 .bf16) (l0 l1 l2 : FVec Ideal Cert.Pre_finite_lse.S16384x256 .f32)
    (w : FVec Ideal Cert.Pre_finite_lse.S2x1024x1024 .bf16)
    (h0 : (Cert.Pre_finite_lse.fn (F := Ideal) h oa o0 o1 o2 l0 l1 l2 w).1 = fun _ => 1#1)
    (h1 : (Cert.Pre_finite_lse.fn (F := Ideal) h oa o0 o1 o2 l0 l1 l2 w).2.1 = fun _ => 1#1)
    (h2 : (Cert.Pre_finite_lse.fn (F := Ideal) h oa o0 o1 o2 l0 l1 l2 w).2.2 = fun _ => 1#1) :
    (∀ i, Real' (l0 i)) ∧ (∀ i, Real' (l1 i)) ∧ ∀ i, Real' (l2 i) := by
  refine ⟨fun i => ?_, fun i => ?_, fun i => ?_⟩
  · have h := congrFun h0 i
    simp only [Cert.Pre_finite_lse.fn] at h
    idx_vars i
    pointwise at h
    exact real_of_bits _ h
  · have h := congrFun h1 i
    simp only [Cert.Pre_finite_lse.fn] at h
    idx_vars i
    pointwise at h
    exact real_of_bits _ h
  · have h := congrFun h2 i
    simp only [Cert.Pre_finite_lse.fn] at h
    idx_vars i
    pointwise at h
    exact real_of_bits _ h

/-- Kernel and reference end with equal results, where the log-sum-exps are finite. -/
theorem algebraic : Cert.algebraic_OutABIdeal_OutABRefIdeal_pre_finite_lse := by
  pair_intro
  · run_from Cert.OutABIdeal.Gen.run_main m g
  · run_from ref_run m' g'
    obtain ⟨h0, h1, h2⟩ := pre_at _ _ _ _ _ _ _ _ _ (hpre c).1 (hpre c).2.1 (hpre c).2.2
    exact (project_eq _ _ _ _ _ _ _ _ _ h0 h1 h2).trans (final m c).symm

/-- The kernel runs, leaves its arguments as they were and every counter at zero. -/
theorem frame : Cert.quiescent_OutAB := fun m ρ _ => Cert.OutAB.Gen.frame m ρ

/-- So does the kernel the value claim names. -/
theorem frameIdeal : Cert.quiescent_OutABIdeal := fun m ρ _ => Cert.OutABIdeal.Gen.frame m ρ

/-- The same under the precondition. -/
theorem frameIdealPre : Cert.quiescent_OutABIdeal_pre_finite_lse := fun m ρ _ => Cert.OutABIdeal.Gen.frame m ρ

/-- So does the reference. -/
theorem frameRef : Cert.quiescent_OutABRefIdeal := fun m ρ _ =>
  (θ_run Cert.OutABRefIdeal.defs _ _).mono
    (fun r h => ⟨fun c => (h c).2, Idealize.ShloMosaic.sem_eq_zero_of_no_sems (by decide) r.2⟩)
    (Cert.OutABRefIdeal.Value.run (F := Ideal) m ρ)

/-- The same under the precondition. -/
theorem frameRefPre : Cert.quiescent_OutABRefIdeal_pre_finite_lse := fun m ρ _ => frameRef m ρ trivial

end Cert.OutABProof
-- ==== Proof.DilMath.lean ====
module

public import proofs.«01_k».proof.Proof.BandMath
public import proofs.«01_k».proof.Proof.BandMask

@[expose] public section

/-!
# The dilated attention: one query's row and the mask

The kernel looks at 384 keys of a query, the reference at 192 of them; the keys the reference leaves out are masked. A
masked key has the score minus infinity, hence the weight zero, so neither the greatest score nor a sum changes.
-/

noncomputable section

namespace Cert.DilProof

open Idealize.ShloMosaic Cert.BandProof

/-- The greatest of a row's scores. -/
def sup {n : ℕ} (s : Fin n → EReal) : EReal := (Finset.univ : Finset (Fin n)).fold max (Ideal.ofBits .f32 0xFF800000#32) s

/-- The exponential of one score, less the greatest. -/
def wt {n : ℕ} (s : Fin n → EReal) (j : Fin n) : EReal := Ideal.exp (s j - sup s)

/-- The sum of the exponentials. -/
def tot {n : ℕ} (s : Fin n → EReal) : EReal := ∑ j, wt s j

/-- The values weighted by the exponentials, divided by their sum. -/
def whole {n : ℕ} (s v : Fin n → EReal) : EReal := Ideal.div (∑ j, wt s j * v j) (tot s)

/-- The values weighted by the normalized exponentials. -/
def each {n : ℕ} (s v : Fin n → EReal) : EReal := ∑ j, v j * Ideal.div (wt s j) (tot s)

/-- The logarithm of the sum of the scores' exponentials. -/
def lse {n : ℕ} (s : Fin n → EReal) : EReal := sup s + Ideal.log (tot s)

/-- Scores of minus infinity do not change the greatest. -/
theorem sup_emb {n k : ℕ} (σ : Fin n → Fin k) (s : Fin k → EReal) (ho : ∀ i, (∀ j, σ j ≠ i) → s i = ⊥) :
    sup (fun j => s (σ j)) = sup s := by
  unfold sup
  rw [ofBits_bot]
  refine le_antisymm ?_ ?_
  · rw [Finset.fold_max_le]
    refine ⟨bot_le, fun j _ => ?_⟩
    rw [Finset.le_fold_max]
    exact Or.inr ⟨σ j, Finset.mem_univ _, le_refl _⟩
  · rw [Finset.fold_max_le]
    refine ⟨bot_le, fun i _ => ?_⟩
    by_cases hi : ∃ j, σ j = i
    · obtain ⟨j, rfl⟩ := hi
      rw [Finset.le_fold_max]
      exact Or.inr ⟨j, Finset.mem_univ _, le_refl _⟩
    · rw [ho i fun j e => hi ⟨j, e⟩]
      exact bot_le

/-- Summands of zero do not change a sum. -/
theorem sum_emb {n k : ℕ} (σ : Fin n → Fin k) (hσ : Function.Injective σ) (f : Fin k → EReal) (ho : ∀ i, (∀ j, σ j ≠ i) → f i = 0) :
    ∑ j, f (σ j) = ∑ i, f i := by
  rw [← Finset.sum_image (s := Finset.univ) (g := σ) fun a _ b _ e => hσ e]
  exact Finset.sum_subset (Finset.subset_univ _) fun i _ hi => ho i fun j e => hi (Finset.mem_image.2 ⟨j, Finset.mem_univ _, e⟩)

theorem wt_emb {n k : ℕ} (σ : Fin n → Fin k) (s : Fin k → EReal) (ho : ∀ i, (∀ j, σ j ≠ i) → s i = ⊥) (j : Fin n) :
    wt (fun j => s (σ j)) j = wt s (σ j) := by
  unfold wt
  rw [sup_emb σ s ho]

theorem wt_bot {k : ℕ} (s : Fin k → EReal) (i : Fin k) (h : s i = ⊥) : wt s i = 0 := by
  unfold wt
  rw [h, EReal.bot_sub]
  rfl

theorem tot_emb {n k : ℕ} (σ : Fin n → Fin k) (hσ : Function.Injective σ) (s : Fin k → EReal) (ho : ∀ i, (∀ j, σ j ≠ i) → s i = ⊥) :
    tot (fun j => s (σ j)) = tot s := by
  unfold tot
  rw [← sum_emb σ hσ (wt s) fun i hi => wt_bot s i (ho i hi)]
  exact Finset.sum_congr rfl fun j _ => wt_emb σ s ho j

theorem lse_emb {n k : ℕ} (σ : Fin n → Fin k) (hσ : Function.Injective σ) (s : Fin k → EReal) (ho : ∀ i, (∀ j, σ j ≠ i) → s i = ⊥)
    (s' : Fin n → EReal) (hs : ∀ j, s (σ j) = s' j) : lse s = lse s' := by
  obtain rfl : (fun j => s (σ j)) = s' := funext hs
  unfold lse
  rw [sup_emb σ s ho, tot_emb σ hσ s ho]

/-- The greatest score of a row with a finite score is finite. -/
theorem sup_real {n : ℕ} (s : Fin n → EReal) (hs : ∀ j, s j ≠ ⊤) (hr : ∃ j, s j ≠ ⊥) : ∃ t : ℝ, sup s = t := by
  have h1 : sup s ≠ ⊤ := by
    unfold sup
    rw [ofBits_bot]
    exact (fold_lt_top _ s hs).ne
  have h2 : sup s ≠ ⊥ := by
    obtain ⟨j, hj⟩ := hr
    unfold sup
    rw [ofBits_bot]
    refine ne_of_gt (lt_of_lt_of_le (bot_lt_iff_ne_bot.2 hj) ?_)
    rw [Finset.le_fold_max]
    exact Or.inr ⟨j, Finset.mem_univ j, le_refl _⟩
  exact ⟨(sup s).toReal, (EReal.coe_toReal h1 h2).symm⟩

/-- Dividing once and dividing first agree, also where the two columns of values differ at a masked score. -/
theorem whole_each {n : ℕ} (s v v' : Fin n → EReal) (hs : ∀ j, s j ≠ ⊤) (hr : ∃ j, s j ≠ ⊥) (hv : ∀ j, s j ≠ ⊥ → v j = v' j) :
    whole s v = each s v' := by
  obtain ⟨t, ht⟩ := sup_real s hs hr
  choose e he using fun j => exp_real (s j) t (hs j)
  have hw : ∀ j, wt s j = e j := fun j => by unfold wt; rw [ht]; exact (he j).1
  have htot : tot s = (∑ j, e j : ℝ) := by
    unfold tot
    rw [coe_sum]
    exact Finset.sum_congr rfl fun j _ => hw j
  have hD : 0 < ∑ j, e j := by
    obtain ⟨j, hj⟩ := hr
    exact Finset.sum_pos' (fun j _ => (he j).2.1) ⟨j, Finset.mem_univ j, (he j).2.2.2 hj⟩
  unfold whole each
  rw [htot]
  generalize (∑ j, e j) = D at hD
  rw [Ideal.div_coe hD.ne', sum_mul_real _ _ _ (one_div_nonneg.2 hD.le)]
  refine Finset.sum_congr rfl fun j _ => ?_
  rw [hw, Ideal.div_coe hD.ne']
  by_cases hj : s j = ⊥
  · rw [(he j).2.2.1 hj]; simp
  · rw [hv j hj]; ac_rfl

/-- The same across two rows, the longer of which has only masked scores besides those of the shorter. -/
theorem whole_emb {n k : ℕ} (σ : Fin n → Fin k) (hσ : Function.Injective σ) (s v : Fin k → EReal) (ho : ∀ i, (∀ j, σ j ≠ i) → s i = ⊥)
    (s' v' : Fin n → EReal) (hs : ∀ j, s (σ j) = s' j) (hv : ∀ j, s' j ≠ ⊥ → v (σ j) = v' j) (ht : ∀ j, s' j ≠ ⊤) (hr : ∃ j, s' j ≠ ⊥) :
    whole s v = each s' v' := by
  obtain rfl : (fun j => s (σ j)) = s' := funext hs
  rw [← whole_each _ (fun j => v (σ j)) v' ht hr hv]
  unfold whole
  rw [tot_emb σ hσ s ho, ← sum_emb σ hσ (fun i => wt s i * v i) fun i hi => by simp only [wt_bot s i (ho i hi), zero_mul]]
  refine congrArg (Ideal.div · _) (Finset.sum_congr rfl fun j _ => ?_)
  rw [wt_emb σ s ho]

/-! ### The mask -/

/-- The query at position `p` attends to the key at position `k - 128` of a sequence of length `L`: the two are at most 64
    positions apart and the key lies in the sequence. -/
def Near (L p k : ℕ) : Prop := p + 64 ≤ k ∧ k ≤ p + 192 ∧ 128 ≤ k ∧ k < L + 128

instance (L p k : ℕ) : Decidable (Near L p k) := inferInstanceAs (Decidable (_ ∧ _ ∧ _ ∧ _))

/-- The word of a key's position, for windows that begin 64 positions before a block of 64. -/
theorem key_word64 (t j : ℕ) :
    IntOp.addi (IntOp.muli (IntOp.subi (BitVec.ofNat 32 t) 1#32) 64#32) (BitVec.ofNat 32 j) = BitVec.ofInt 32 (((t : ℤ) - 1) * 64 + j) := by
  rw [← BitVec.ofInt_natCast, show (1#32 : BitVec 32) = BitVec.ofInt 32 1 from rfl, sub_word]
  unfold IntOp.addi IntOp.muli
  rw [BitVec.ofInt_add, BitVec.ofInt_mul, BitVec.ofInt_natCast (n := j)]
  rfl

theorem query_word64 (t r : ℕ) : BitVec.ofNat 32 (t * 64 + r) = BitVec.ofInt 32 ((t : ℤ) * 64 + r) := by
  rw [← BitVec.ofInt_natCast]; push_cast; rfl

/-- The three comparisons of the words of the query's and the key's positions. -/
theorem near_words (L p k : ℕ) (hL : L < 10000) (hp : p < 10000) (hk : k < 10000) (q w : BitVec 32) (p' k' : ℤ)
    (hq : q = BitVec.ofInt 32 p') (hw : w = BitVec.ofInt 32 k') (hp' : p' = p) (hk' : k' = (k : ℤ) - 128) :
    IntOp.cmpi .sle (IntOp.absi (IntOp.subi q w)) 64#32 = BitVec.ofBool (decide (p + 64 ≤ k ∧ k ≤ p + 192))
    ∧ IntOp.cmpi .sge w 0#32 = BitVec.ofBool (decide (128 ≤ k))
    ∧ IntOp.cmpi .slt w (BitVec.ofNat 32 L) = BitVec.ofBool (decide (k < L + 128)) := by
  subst hq hw hp' hk'
  refine ⟨?_, ?_, ?_⟩
  · rw [sub_word, abs_word _ (by omega), show (64#32 : BitVec 32) = BitVec.ofInt 32 64 from rfl,
      le_word _ _ (by omega) (by omega)]
    congr 1
    simp only [decide_eq_decide]
    omega
  · rw [show (0#32 : BitVec 32) = BitVec.ofInt 32 0 from rfl, ge_word _ _ (by omega) (by omega)]
    congr 1
    simp only [decide_eq_decide]
    omega
  · rw [← BitVec.ofInt_natCast, lt_word _ _ (by omega) (by omega)]
    congr 1
    simp only [decide_eq_decide]
    omega

end Cert.DilProof
-- ==== Proof.Dil1Kernel.lean ====
module

public import proofs.«01_k».proof.Proof.Gen.Dil1Ideal.Value
public import proofs.«01_k».proof.Proof.DilMath
public import Idealize.ShloMosaic.Lib.Pipeline.ValueKit
public import Idealize.ShloMosaic.Lib.Pointwise

@[expose] public section

set_option maxRecDepth 16384

/-!
# The attention at dilation 1: one grid point of the kernel
-/

noncomputable section

namespace Cert.Dil1Proof

open Cert.Dil1Ideal Cert.Dil1Ideal.Gen Idealize.ShloMosaic Idealize.ShloMosaic.TcCoe Idealize.SL.Sem Cert.DilProof
open Cert.BandProof (and_bit bit_one query_word' key_word)
open Idealize.ShloMosaic.Pipeline (Dat)

/-- The kernel's mask value is minus infinity. -/
theorem mask_bot : (Named.named κ "mask" 0xF149F2CA#32 : Ideal .f32) = ⊥ := rfl

/-- The masked scores of query `r` of a block against the keys of its window, for the head whose columns begin at `o`. -/
def blockRow (b : IVec S128x384 1) (k : FVec Ideal S384x256 .bf16) (q : FVec Ideal S1x128x64 .bf16) (o : ℕ) (ho : o + 64 ≤ 256) (r : Fin 128)
    (j : Fin 384) : EReal :=
  if b (ix2 r j) = 1#1 then ∑ x : Fin 64, q (ix3 0 r x) * k (ix2 j ⟨o + x, by omega⟩) else ⊥

/-! Each head of the kernel's body, at one element. -/

theorem head0_at (b : IVec S128x384 1) (k v : FVec Ideal S384x256 .bf16) (q : FVec Ideal S1x128x64 .bf16) (r : Fin 128) (d : Fin 64) :
    k0_pay8 (F := Ideal) k v b q (ix3 0 r d) = whole (blockRow b k q 0 (by decide) r) fun j => v (ix2 j ⟨0 + d, by omega⟩) := by
  pointwise [k0_pay8, k0_pay7, k0_pay6, k0_pay5, k0_pay4, mask_bot, Scalar.select]
  rfl

theorem head1_at (b : IVec S128x384 1) (k v : FVec Ideal S384x256 .bf16) (q : FVec Ideal S1x128x64 .bf16) (r : Fin 128) (d : Fin 64) :
    k0_pay15 (F := Ideal) (k0_pay10 v) (k0_pay11 k b q) (k0_pay12 k b q) (ix3 0 r d)
      = whole (blockRow b k q 64 (by decide) r) fun j => v (ix2 j ⟨64 + d, by omega⟩) := by
  pointwise [k0_pay15, k0_pay14, k0_pay13, k0_pay12, k0_pay11, k0_pay10, mask_bot, Scalar.select]
  rfl

theorem head2_at (b : IVec S128x384 1) (k v : FVec Ideal S384x256 .bf16) (q : FVec Ideal S1x128x64 .bf16) (r : Fin 128) (d : Fin 64) :
    k0_pay22 (F := Ideal) (k0_pay21 k v b q) (ix3 0 r d) = whole (blockRow b k q 128 (by decide) r) fun j => v (ix2 j ⟨128 + d, by omega⟩) := by
  pointwise [k0_pay22, k0_pay21, k0_pay20, k0_pay19, k0_pay18, k0_pay17, mask_bot, Scalar.select]
  rfl

theorem head3_at (b : IVec S128x384 1) (k v : FVec Ideal S384x256 .bf16) (q : FVec Ideal S1x128x64 .bf16) (r : Fin 128) (d : Fin 64) :
    k0_pay28 (F := Ideal) k v b q (ix3 0 r d) = whole (blockRow b k q 192 (by decide) r) fun j => v (ix2 j ⟨192 + d, by omega⟩) := by
  pointwise [k0_pay28, k0_pay27, k0_pay26, k0_pay25, k0_pay24, mask_bot, Scalar.select]
  rfl

theorem log0_at (b : IVec S128x384 1) (k : FVec Ideal S384x256 .bf16) (q : FVec Ideal S1x128x64 .bf16) (r : Fin 128) (d : Fin 64) :
    k0_pay9 (F := Ideal) k b q (ix3 0 r d) = lse (blockRow b k q 0 (by decide) r) := by
  pointwise [k0_pay9, k0_pay7, k0_pay6, k0_pay5, k0_pay4, mask_bot, Scalar.select]
  rfl

theorem log1_at (b : IVec S128x384 1) (k : FVec Ideal S384x256 .bf16) (q : FVec Ideal S1x128x64 .bf16) (r : Fin 128) (d : Fin 64) :
    k0_pay16 (F := Ideal) (k0_pay11 k b q) (k0_pay12 k b q) (ix3 0 r d) = lse (blockRow b k q 64 (by decide) r) := by
  pointwise [k0_pay16, k0_pay14, k0_pay13, k0_pay12, k0_pay11, mask_bot, Scalar.select]
  rfl

theorem log2_at (b : IVec S128x384 1) (k : FVec Ideal S384x256 .bf16) (q : FVec Ideal S1x128x64 .bf16) (r : Fin 128) (d : Fin 64) :
    k0_pay23 (F := Ideal) (k0_pay18 k b q) (k0_pay20 k b q) (ix3 0 r d) = lse (blockRow b k q 128 (by decide) r) := by
  pointwise [k0_pay23, k0_pay20, k0_pay19, k0_pay18, k0_pay17, mask_bot, Scalar.select]
  rfl

theorem log3_at (b : IVec S128x384 1) (k : FVec Ideal S384x256 .bf16) (q : FVec Ideal S1x128x64 .bf16) (r : Fin 128) (d : Fin 64) :
    k0_pay29 (F := Ideal) k b q (ix3 0 r d) = lse (blockRow b k q 192 (by decide) r) := by
  pointwise [k0_pay29, k0_pay27, k0_pay26, k0_pay25, k0_pay24, mask_bot, Scalar.select]
  rfl

/-- The kernel's mask at a grid point. -/
theorem mask_at (i : grid0.Coords) (r : Fin 128) (j : Fin 384) : k0_pay3 i (ix2 r j) = 1#1 ↔ Near 8192 ((i 2).val * 128 + r) ((i 2).val * 128 + j) := by
  pointwise [k0_pay3]
  have hi : (i 2).val < 64 := (i 2).isLt
  obtain ⟨h1, h2, h3⟩ := near_words 8192 ((i 2).val * 128 + r) ((i 2).val * 128 + j) (by omega) (by omega) (by omega) _ _ _ _
    (query_word' (i 2).val r) (key_word (i 2).val j) (by push_cast; ring) (by push_cast; ring)
  erw [h1, h2, h3, and_bit, and_bit, bit_one]
  simp only [Bool.and_eq_true, decide_eq_true_eq, Near, and_assoc]

/-- The masked scores of query `r` of grid point `i`, for the head of column `n`. -/
def pointRow (i : grid0.Coords) (q : Vec Ideal S1x128x256 .bf16) (k : FVec Ideal S384x256 .bf16) (r : Fin 128) (n : Fin 256) (j : Fin 384) : EReal :=
  if Near 8192 ((i 2).val * 128 + r) ((i 2).val * 128 + j) then
    ∑ x : Fin 64, q (ix3 0 r ⟨n / 64 * 64 + x, by omega⟩) * k (ix2 j ⟨n / 64 * 64 + x, by omega⟩)
  else ⊥

/-- One head's row is the row of each of its columns. -/
theorem row_piece (i : grid0.Coords) (q : Vec Ideal S1x128x256 .bf16) (k : FVec Ideal S384x256 .bf16)
    (o : ℕ) (ho : o + 64 ≤ 256) (hm : o % 64 = 0) (hin : ∀ a, (![0, 0, o] : Fin 3 → Nat) a + S1x128x64.size a ≤ S1x128x256.size a)
    (r : Fin 128) (n : Fin 256) (h1 : o ≤ n.val) (h2 : n.val < o + 64) :
    blockRow (k0_pay3 i) k (View.ld q (Rect.unit ![0, 0, o] S1x128x64.size hin)) o ho r = pointRow i q k r n := by
  have hq : ∀ (r : Fin 128) (d : Fin 64), View.ld q (Rect.unit ![0, 0, o] S1x128x64.size hin) (ix3 0 r d) = q (ix3 0 r ⟨o + d, by omega⟩) := by
    intro r d
    refine congrArg q (funext fun a => Fin.ext ?_)
    fin_cases a
    · rfl
    · exact (Nat.zero_add _).trans (Nat.one_mul _)
    · exact congrArg (o + ·) (Nat.one_mul _)
  have e : n.val / 64 * 64 = o := by omega
  funext j
  unfold blockRow pointRow
  simp only [mask_at, hq, e]

/-- One head's store is that head's columns of the first result's block. -/
theorem piece (f : FVec Ideal S1x128x64 .bf16) (i : grid0.Coords) (q : Vec Ideal S1x128x256 .bf16) (k v : FVec Ideal S384x256 .bf16)
    (o : ℕ) (ho : o + 64 ≤ 256) (hm : o % 64 = 0) (hin : ∀ a, (![0, 0, o] : Fin 3 → Nat) a + S1x128x64.size a ≤ S1x128x256.size a)
    (hf : ∀ (r : Fin 128) (d : Fin 64), f (ix3 0 r d) = whole (blockRow (k0_pay3 i) k (View.ld q (Rect.unit ![0, 0, o] S1x128x64.size hin)) o ho r)
      fun j => v (ix2 j ⟨o + d, by omega⟩))
    (x : S1x128x64.Idx) (r : Fin 128) (n : Fin 256) (h1 : r.val = (x 1).val) (h2 : n.val = o + (x 2).val) :
    f x = whole (pointRow i q k r n) fun j => v (ix2 j n) := by
  idx_vars x
  obtain rfl : r = x1 := Fin.ext h1
  obtain rfl : x0 = 0 := Subsingleton.elim _ _
  have hd : n.val = o + x2.val := h2
  have hx : x2.val < 64 := x2.isLt
  refine (hf r x2).trans ?_
  rw [row_piece i q k o ho hm hin r n (by omega) (by omega)]
  exact congrArg (whole _) (funext fun j => congrArg (fun z => v (ix2 j z)) (Fin.ext hd.symm))

/-- One head's store is that head's columns of the second result's block. -/
theorem log_piece (f : FVec Ideal S1x128x64 .f32) (i : grid0.Coords) (q : Vec Ideal S1x128x256 .bf16) (k : FVec Ideal S384x256 .bf16)
    (o : ℕ) (ho : o + 64 ≤ 256) (hm : o % 64 = 0) (hin : ∀ a, (![0, 0, o] : Fin 3 → Nat) a + S1x128x64.size a ≤ S1x128x256.size a)
    (hf : ∀ (r : Fin 128) (d : Fin 64), f (ix3 0 r d) = lse (blockRow (k0_pay3 i) k (View.ld q (Rect.unit ![0, 0, o] S1x128x64.size hin)) o ho r))
    (x : S1x128x64.Idx) (r : Fin 128) (n : Fin 256) (h1 : r.val = (x 1).val) (h2 : n.val = o + (x 2).val) :
    f x = lse (pointRow i q k r n) := by
  idx_vars x
  obtain rfl : r = x1 := Fin.ext h1
  obtain rfl : x0 = 0 := Subsingleton.elim _ _
  have hd : n.val = o + x2.val := h2
  have hx : x2.val < 64 := x2.isLt
  refine (hf r x2).trans ?_
  rw [row_piece i q k o ho hm hin r n (by omega) (by omega)]

variable (m : (ℓ : Loc nD τ sig) → Buf (Elt Ideal) ℓ)

/-- A point's block of the first result from the blocks it reads. -/
theorem outs_at (i : grid0.Coords) (q k0 k1 k2 v0 v1 v2 : Vec Ideal S1x128x256 .bf16) (y : S1x128x256.Idx) :
    out0_7 (F := Ideal) i q k0 k1 k2 v0 v1 v2 y
      = whole (pointRow i q (k0_pay1 (F := Ideal) k0 k1 k2) (y 1) (y 2)) fun j => k0_pay2 (F := Ideal) v0 v1 v2 (ix2 j (y 2)) := by
  unfold_out out0_7
  frame_out
  canon_tiles x h
  case piece3 =>
    exact piece _ i q (k0_pay1 (F := Ideal) k0 k1 k2) (k0_pay2 (F := Ideal) v0 v1 v2) 0 (by decide) rfl inb_S1x128x256_S1x128x64_0_0_0
      (fun r d => head0_at _ _ _ _ r d) x _ _ h1 (h2.trans (Nat.zero_add _).symm)
  case piece2 =>
    exact piece _ i q (k0_pay1 (F := Ideal) k0 k1 k2) (k0_pay2 (F := Ideal) v0 v1 v2) 64 (by decide) rfl inb_S1x128x256_S1x128x64_0_0_64
      (fun r d => head1_at _ _ _ _ r d) x _ _ h1 h2
  case piece1 =>
    exact piece _ i q (k0_pay1 (F := Ideal) k0 k1 k2) (k0_pay2 (F := Ideal) v0 v1 v2) 128 (by decide) rfl inb_S1x128x256_S1x128x64_0_0_128
      (fun r d => head2_at _ _ _ _ r d) x _ _ h1 h2
  case piece0 =>
    exact piece _ i q (k0_pay1 (F := Ideal) k0 k1 k2) (k0_pay2 (F := Ideal) v0 v1 v2) 192 (by decide) rfl inb_S1x128x256_S1x128x64_0_0_192
      (fun r d => head3_at _ _ _ _ r d) x _ _ h1 h2

/-- A point's block of the second result from the blocks it reads. -/
theorem logs_of (i : grid0.Coords) (q k0 k1 k2 v0 v1 v2 : Vec Ideal S1x128x256 .bf16) (y : S1x128x256.Idx) :
    out0_8 (F := Ideal) i q k0 k1 k2 v0 v1 v2 y = lse (pointRow i q (k0_pay1 (F := Ideal) k0 k1 k2) (y 1) (y 2)) := by
  unfold_out out0_8
  frame_out
  canon_tiles x h
  case piece3 =>
    exact log_piece _ i q (k0_pay1 (F := Ideal) k0 k1 k2) 0 (by decide) rfl inb_S1x128x256_S1x128x64_0_0_0
      (fun r d => log0_at _ _ _ r d) x _ _ h1 (h2.trans (Nat.zero_add _).symm)
  case piece2 =>
    exact log_piece _ i q (k0_pay1 (F := Ideal) k0 k1 k2) 64 (by decide) rfl inb_S1x128x256_S1x128x64_0_0_64
      (fun r d => log1_at _ _ _ r d) x _ _ h1 h2
  case piece1 =>
    exact log_piece _ i q (k0_pay1 (F := Ideal) k0 k1 k2) 128 (by decide) rfl inb_S1x128x256_S1x128x64_0_0_128
      (fun r d => log2_at _ _ _ r d) x _ _ h1 h2
  case piece0 =>
    exact log_piece _ i q (k0_pay1 (F := Ideal) k0 k1 k2) 192 (by decide) rfl inb_S1x128x256_S1x128x64_0_0_192
      (fun r d => log3_at _ _ _ r d) x _ _ h1 h2

/-- The block of keys or values a point reads: three blocks of 128 rows one after another. -/
theorem block_at (a b c : FVec Ideal S1x128x256 .bf16) (j : Fin 384) (n : Fin 256) :
    k0_pay1 (F := Ideal) a b c (ix2 j n) = (if h : j.val < 128 then a (ix3 0 ⟨j, h⟩ n) else if h' : j.val < 256 then b (ix3 0 ⟨j - 128, by omega⟩ n) else c (ix3 0 ⟨j - 256, by omega⟩ n)) := by
  pointwise [k0_pay1]
  have e : (j.val < 256) = (j.val - 128 < 128) := propext (by omega)
  have e' : j.val - 128 - 128 = j.val - 256 := by omega
  simp only [e, e']

theorem block_at' (a b c : FVec Ideal S1x128x256 .bf16) : k0_pay2 (F := Ideal) a b c = k0_pay1 a b c := rfl

end Cert.Dil1Proof
-- ==== Proof.Dil1Ref.lean ====
module

public import proofs.«01_k».proof.Proof.Gen.Dil1RefIdeal.Run
public import proofs.«01_k».proof.Proof.BandRef
public import proofs.«01_k».proof.Proof.DilMath
public import Idealize.ShloMosaic.Lib.Pipeline.ValueKit
public import Idealize.ShloMosaic.Lib.Pointwise
public import Idealize.ShloMosaic.Lib.Claim

@[expose] public section

set_option maxRecDepth 16384

/-!
# The attention at dilation 1: the reference's term, stage by stage
-/

noncomputable section

namespace Cert.Dil1Proof

open Cert.Dil1RefIdeal Cert.Dil1RefIdeal.Gen Idealize.ShloMosaic Idealize.ShloMosaic.TcCoe Idealize.SL.Sem Cert.DilProof
open Cert.BandProof (ofBits_bot and_bit bit_one)

/-- The queries, one sequence for each batch and each residue of the position. -/
def queries (x : FVec Ideal S2x8192x2304 .bf16) : FVec Ideal S2x8192x4x64 .f32 :=
  shapeCast _ (transpose S2x1x8192x4x64 [0, 2, 1, 3, 4] (shapeCast _ (extractStridedSlice S2x8192x1x1x4x64 ![0, 0, 0, 0, 0, 0]
    (shapeCast _ (extf .f32 x bitsLt_bf16_f32) shapeCasts_S2x8192x2304_S2x8192x1x9x4x64)
    slices_S2x8192x1x9x4x64_S2x8192x1x1x4x64_0_0_0_0_0_0) shapeCasts_S2x8192x1x1x4x64_S2x8192x1x4x64)
    transposes_S2x8192x1x4x64_S2x1x8192x4x64_0_2_1_3_4) shapeCasts_S2x1x8192x4x64_S2x8192x4x64

/-- The keys, likewise. -/
def keys (x : FVec Ideal S2x8192x2304 .bf16) : FVec Ideal S2x8192x4x64 .f32 :=
  shapeCast _ (transpose S2x1x8192x4x64 [0, 2, 1, 3, 4] (shapeCast _ (extractStridedSlice S2x8192x1x1x4x64 ![0, 0, 0, 3, 0, 0]
    (shapeCast _ (extf .f32 x bitsLt_bf16_f32) shapeCasts_S2x8192x2304_S2x8192x1x9x4x64)
    slices_S2x8192x1x9x4x64_S2x8192x1x1x4x64_0_0_0_3_0_0) shapeCasts_S2x8192x1x1x4x64_S2x8192x1x4x64)
    transposes_S2x8192x1x4x64_S2x1x8192x4x64_0_2_1_3_4) shapeCasts_S2x1x8192x4x64_S2x8192x4x64

/-- The values, likewise. -/
def values (x : FVec Ideal S2x8192x2304 .bf16) : FVec Ideal S2x8192x4x64 .f32 :=
  shapeCast _ (transpose S2x1x8192x4x64 [0, 2, 1, 3, 4] (shapeCast _ (extractStridedSlice S2x8192x1x1x4x64 ![0, 0, 0, 6, 0, 0]
    (shapeCast _ (extf .f32 x bitsLt_bf16_f32) shapeCasts_S2x8192x2304_S2x8192x1x9x4x64)
    slices_S2x8192x1x9x4x64_S2x8192x1x1x4x64_0_0_0_6_0_0) shapeCasts_S2x8192x1x1x4x64_S2x8192x1x4x64)
    transposes_S2x8192x1x4x64_S2x1x8192x4x64_0_2_1_3_4) shapeCasts_S2x1x8192x4x64_S2x8192x4x64

/-- The padded keys (or values), three neighbouring blocks side by side for each block of queries. -/
def windows (y : FVec Ideal S2x8192x4x64 .f32) : FVec Ideal S2x128x192x4x64 .f32 :=
  let z : FVec Ideal S2x130x64x4x64 .f32 :=
    shapeCast _ (pad S2x8320x4x64 ![0, 64, 0, 0] ![0, 64, 0, 0] ![0, 0, 0, 0] y (sitofp .f32 (constantI S_ 32 0#32))
      pads_S2x8192x4x64_S2x8320x4x64_000_64640_000_000 h_S_) shapeCasts_S2x8320x4x64_S2x130x64x4x64
  concatenate S2x128x192x4x64 2 [⟨S2x128x64x4x64, extractStridedSlice S2x128x64x4x64 ![0, 0, 0, 0, 0] z slices_S2x130x64x4x64_S2x128x64x4x64_0_0_0_0_0⟩,
    ⟨S2x128x64x4x64, extractStridedSlice S2x128x64x4x64 ![0, 1, 0, 0, 0] z slices_S2x130x64x4x64_S2x128x64x4x64_0_1_0_0_0⟩,
    ⟨S2x128x64x4x64, extractStridedSlice S2x128x64x4x64 ![0, 2, 0, 0, 0] z slices_S2x130x64x4x64_S2x128x64x4x64_0_2_0_0_0⟩]
    concatenates_S2x128x64x4x64_S2x128x64x4x64_S2x128x64x4x64_S2x128x192x4x64_d2

/-- The position of each key of each window, as a word. -/
def keyPos : IVec S128x192 32 :=
  addi (broadcastInDim S128x192 ![0, 1] bcast_S128x1_S128x192_0_1 (muli (subi (broadcastInDim S128x1 ![0] bcast_S128_S128x1_0 (iotaInDim S128 32 0))
    (broadcastInDim S128x1 ![] bcast_S_S128x1 (constantI S_ 32 1#32))) (broadcastInDim S128x1 ![] bcast_S_S128x1 (constantI S_ 32 64#32))))
    (broadcastInDim S128x192 ![0, 1] bcast_S1x192_S128x192_0_1 (broadcastInDim S1x192 ![1] bcast_S192_S1x192_1 (iotaInDim S192 32 0)))

/-- The reference's mask: the key is within 64 positions of the query and lies in the sequence. -/
def seen : IVec S128x64x192 1 :=
  andi (cmpi .sle (absi (subi (broadcastInDim S128x64x192 ![0, 1, 2] bcast_S128x64x1_S128x64x192_0_1_2
      (broadcastInDim S128x64x1 ![0, 1] bcast_S128x64_S128x64x1_0_1 (shapeCast _ (iotaInDim S8192 32 0) shapeCasts_S8192_S128x64)))
    (broadcastInDim S128x64x192 ![0, 1, 2] bcast_S128x1x192_S128x64x192_0_1_2 (broadcastInDim S128x1x192 ![0, 2] bcast_S128x192_S128x1x192_0_2 keyPos))))
    (broadcastInDim S128x64x192 ![] bcast_S_S128x64x192 (constantI S_ 32 64#32)))
    (broadcastInDim S128x64x192 ![0, 1, 2] bcast_S128x1x192_S128x64x192_0_1_2 (broadcastInDim S128x1x192 ![0, 2] bcast_S128x192_S128x1x192_0_2
      (andi (cmpi .sge keyPos (broadcastInDim S128x192 ![] bcast_S_S128x192 (constantI S_ 32 0#32)))
        (cmpi .slt keyPos (broadcastInDim S128x192 ![] bcast_S_S128x192 (constantI S_ 32 8192#32))))))

/-- The masked scores of every query against its window of keys. -/
def scores (q : FVec Ideal S2x8192x4x64 .f32) (kw : FVec Ideal S2x128x192x4x64 .f32) (b : IVec S128x64x192 1) : FVec Ideal S2x128x4x64x192 .f32 :=
  select (broadcastInDim S2x128x4x64x192 ![0, 1, 2, 3, 4] bcast_S1x128x1x64x192_S2x128x4x64x192_0_1_2_3_4
      (broadcastInDim S1x128x1x64x192 ![1, 3, 4] bcast_S128x64x192_S1x128x1x64x192_1_3_4 b))
    (Host.dotGeneral dot_S2x128x64x4x64_S2x128x192x4x64_S2x128x4x64x192_4_4_2_2_013_013 none
      (shapeCast _ q shapeCasts_S2x8192x4x64_S2x128x64x4x64) kw)
    (broadcastInDim S2x128x4x64x192 ![] bcast_S_S2x128x4x64x192 (id (constant S_ .f32 0xFF800000#32)))

/-- The greatest of a query's scores. -/
def tops (s : FVec Ideal S2x128x4x64x192 .f32) : FVec Ideal S2x128x4x64 .f32 :=
  Host.reduce FloatOps.maximumf s (constant S_ .f32 0xFF800000#32) reducesTo_S2x128x4x64x192_S2x128x4x64_d4 h_S_

/-- One number a query, at every key of its window. -/
def over (t : FVec Ideal S2x128x4x64 .f32) : FVec Ideal S2x128x4x64x192 .f32 :=
  broadcastInDim S2x128x4x64x192 ![0, 1, 2, 3, 4] bcast_S2x128x4x64x1_S2x128x4x64x192_0_1_2_3_4
    (broadcastInDim S2x128x4x64x1 ![0, 1, 2, 3] bcast_S2x128x4x64_S2x128x4x64x1_0_1_2_3 t)

/-- The exponentials of a query's scores less their greatest. -/
def exps (s : FVec Ideal S2x128x4x64x192 .f32) : FVec Ideal S2x128x4x64x192 .f32 := Host.exp (subf s (over (tops s)))

/-- The sum of the exponentials. -/
def dens (e : FVec Ideal S2x128x4x64x192 .f32) : FVec Ideal S2x128x4x64 .f32 :=
  Host.reduceAdd e (constant S_ .f32 0x00000000#32) reducesTo_S2x128x4x64x192_S2x128x4x64_d4 h_S_

/-- The sequences' rows back at their places in the batches. -/
def back (z : FVec Ideal S2x128x64x4x64 .f32) : FVec Ideal S2x8192x256 .f32 :=
  shapeCast _ (transpose S2x8192x1x4x64 [0, 2, 1, 3, 4] (shapeCast _ z shapeCasts_S2x128x64x4x64_S2x1x8192x4x64)
    transposes_S2x1x8192x4x64_S2x8192x1x4x64_0_2_1_3_4) shapeCasts_S2x8192x1x4x64_S2x8192x256

/-- The values weighted by the quotients of two arrays. -/
def weigh (vw : FVec Ideal S2x128x192x4x64 .f32) (e f : FVec Ideal S2x128x4x64x192 .f32) : FVec Ideal S2x128x64x4x64 .f32 :=
  transpose S2x128x64x4x64 [0, 1, 4, 2, 3] (Host.dotGeneral
    dot_S2x128x192x4x64_S2x128x4x64x192_S2x128x4x64x64_2_4_4_3_013_012 none vw (Host.divf e f))
    transposes_S2x128x4x64x64_S2x128x64x4x64_0_1_4_2_3

/-- The values weighted by the normalized exponentials. -/
def mixed (vw : FVec Ideal S2x128x192x4x64 .f32) (s : FVec Ideal S2x128x4x64x192 .f32) : FVec Ideal S2x128x64x4x64 .f32 :=
  weigh vw (exps s) (over (dens (exps s)))

/-- One array plus another's logarithms, across a head's columns. -/
def spread (t f : FVec Ideal S2x128x4x64 .f32) : FVec Ideal S2x128x64x4x64 .f32 :=
  broadcastInDim S2x128x64x4x64 ![0, 1, 2, 3, 4] bcast_S2x128x64x4x1_S2x128x64x4x64_0_1_2_3_4
    (broadcastInDim S2x128x64x4x1 ![0, 1, 2, 3] bcast_S2x128x64x4_S2x128x64x4x1_0_1_2_3
      (transpose S2x128x64x4 [0, 1, 3, 2] (addf t (Host.log f)) transposes_S2x128x4x64_S2x128x64x4_0_1_3_2))

/-- The logarithm of each query's denominator, across a head's columns. -/
def logs (s : FVec Ideal S2x128x4x64x192 .f32) : FVec Ideal S2x128x64x4x64 .f32 := spread (tops s) (dens (exps s))

/-- The reference's first result, stage by stage. -/
theorem res_out_eq (m : (ℓ : Loc nD τ sig) → Buf (Elt Ideal) ℓ) (c : Dev nD) : Value.res_main_v78 (F := Ideal) m c =
    (let x := m ((c.tc : Thread nD τ).loc main_arg0)
     truncf .bf16 (back (mixed (windows (values x)) (scores (queries x) (windows (keys x)) seen))) bitsLt_bf16_f32) := rfl

/-- The reference's second result, stage by stage. -/
theorem res_lse_eq (m : (ℓ : Loc nD τ sig) → Buf (Elt Ideal) ℓ) (c : Dev nD) : Value.res_main_v81 (F := Ideal) m c =
    (let x := m ((c.tc : Thread nD τ).loc main_arg0)
     back (logs (scores (queries x) (windows (keys x)) seen))) := rfl

/-- Column `d` of head `h` of part `c` of the projections, at position `p` of sequence `n`. -/
def el (x : FVec Ideal S2x8192x2304 .bf16) (c : Fin 9) (n : Fin 2) (p : Fin 8192) (h : Fin 4) (d : Fin 64) : EReal :=
  x (ix3 ⟨n / 1, by omega⟩ p ⟨n % 1 * 2304 + c * 256 + h * 64 + d, by omega⟩)

theorem queries_at (x : FVec Ideal S2x8192x2304 .bf16) (n : Fin 2) (p : Fin 8192) (h : Fin 4) (d : Fin 64) :
    queries x (ix4 n p h d) = el x 0 n p h d := by
  pointwise [queries, el]

theorem keys_at (x : FVec Ideal S2x8192x2304 .bf16) (n : Fin 2) (p : Fin 8192) (h : Fin 4) (d : Fin 64) :
    keys x (ix4 n p h d) = el x 3 n p h d := by
  pointwise [keys, el]

theorem values_at (x : FVec Ideal S2x8192x2304 .bf16) (n : Fin 2) (p : Fin 8192) (h : Fin 4) (d : Fin 64) :
    values x (ix4 n p h d) = el x 6 n p h d := by
  pointwise [values, el]

/-- Row `p` of a sequence padded by 64 rows of zeros at each end. -/
def padRow (y : FVec Ideal S2x8192x4x64 .f32) (n : Fin 2) (p : ℕ) (h : Fin 4) (d : Fin 64) : EReal :=
  if hp : 64 ≤ p ∧ p - 64 < 8192 then y (ix4 n ⟨p - 64, hp.2⟩ h d) else 0

theorem windows_at (y : FVec Ideal S2x8192x4x64 .f32) (n : Fin 2) (u : Fin 128) (j : Fin 192) (h : Fin 4) (d : Fin 64) :
    windows y (ix5 n u j h d) = padRow y n (u * 64 + j) h d := by
  have hz : (FloatOps.sitofp FTy.f32 0#32 : Ideal .f32) = 0 := by
    change (((0#32 : BitVec 32).toInt : ℝ) : EReal) = 0
    simp
  pointwise [windows, hz]
  by_cases h1 : (j : ℕ) < 64
  · rw [dif_pos h1]; rfl
  · rw [dif_neg h1]
    by_cases h2 : (j : ℕ) - 64 < 64
    · rw [dif_pos h2]
      refine (show _ = padRow y n ((1 + u) * 64 + (j - 64)) h d from rfl).trans (congrArg (padRow y n · h d) ?_)
      omega
    · rw [dif_neg h2]
      refine (show _ = padRow y n ((2 + u) * 64 + (j - 64 - 64)) h d from rfl).trans (congrArg (padRow y n · h d) ?_)
      omega

theorem seen_at (u : Fin 128) (r : Fin 64) (j : Fin 192) : seen (ix3 u r j) = 1#1 ↔ Near 8192 (u * 64 + r) (u * 64 + j + 64) := by
  pointwise [seen, keyPos]
  obtain ⟨h1, h2, h3⟩ := near_words 8192 (u * 64 + r) (u * 64 + j + 64) (by omega) (by omega) (by omega) _ _ _ _ (query_word64 u r) (key_word64 u j)
    (by push_cast; ring) (by push_cast; ring)
  rw [h1, h2, h3, and_bit, and_bit, bit_one]
  simp only [Bool.and_eq_true, decide_eq_true_eq, Near, and_assoc]

theorem scores_at (q : FVec Ideal S2x8192x4x64 .f32) (kw : FVec Ideal S2x128x192x4x64 .f32) (b : IVec S128x64x192 1) (n : Fin 2) (u : Fin 128)
    (h : Fin 4) (r : Fin 64) (j : Fin 192) : scores q kw b (ix5 n u h r j)
      = if b (ix3 u r j) = 1#1 then ∑ x, q (ix4 n ⟨u * 64 + r, by omega⟩ h x) * kw (ix5 n u j h x) else ⊥ := by
  have hb : (id (constant S_ FTy.f32 4286578688#32) ix0 : Ideal .f32) = ⊥ := ofBits_bot
  pointwise [scores]
  rw [hb]
  rfl

theorem fiber (n : Fin 2) (u : Fin 128) (h : Fin 4) (r : Fin 64) (i : S2x128x4x64x192.Idx) :
    reducesTo_S2x128x4x64x192_S2x128x4x64_d4.drop i = ix4 n u h r ↔ ∃ k : Fin 192, ix5 n u h r k = i := by
  constructor
  · intro e
    refine ⟨i 4, ?_⟩
    funext a
    apply Fin.ext
    match a with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => exact (congrArg Fin.val (congrFun e 3)).symm
    | ⟨4, _⟩ => rfl
  · rintro ⟨k, rfl⟩
    funext a
    apply Fin.ext
    match a with
    | ⟨0, _⟩ => rfl
    | ⟨1, _⟩ => rfl
    | ⟨2, _⟩ => rfl
    | ⟨3, _⟩ => rfl

theorem tops_at (s : FVec Ideal S2x128x4x64x192 .f32) (n : Fin 2) (u : Fin 128) (h : Fin 4) (r : Fin 64) :
    tops s (ix4 n u h r) = sup fun j => s (ix5 n u h r j) := by
  unfold tops
  rw [Cert.BandProof.hostMax, Finset.fold_filter_eq_fold_of_fiber max _ (fun j : Fin 192 => ix5 n u h r j) (fun _ _ e => congrFun e 4) (fiber n u h r)]
  rfl

theorem over_at (t : FVec Ideal S2x128x4x64 .f32) (n : Fin 2) (u : Fin 128) (h : Fin 4) (r : Fin 64) (j : Fin 192) :
    over t (ix5 n u h r j) = t (ix4 n u h r) := by
  unfold over broadcastInDim
  refine congrArg t (funext fun a => Fin.ext ?_)
  match a with
    | ⟨0, _⟩ => rfl
    | ⟨1, _⟩ => rfl
    | ⟨2, _⟩ => rfl
    | ⟨3, _⟩ => rfl

theorem exps_at (s : FVec Ideal S2x128x4x64x192 .f32) (n : Fin 2) (u : Fin 128) (h : Fin 4) (r : Fin 64) (j : Fin 192) :
    exps s (ix5 n u h r j) = wt (fun j => s (ix5 n u h r j)) j := by
  unfold exps
  exact congrArg (fun x => Ideal.exp (s (ix5 n u h r j) - x)) ((over_at (tops s) n u h r j).trans (tops_at s n u h r))

theorem dens_at (s : FVec Ideal S2x128x4x64x192 .f32) (n : Fin 2) (u : Fin 128) (h : Fin 4) (r : Fin 64) :
    dens (exps s) (ix4 n u h r) = tot fun j => s (ix5 n u h r j) := by
  unfold dens
  rw [Cert.BandProof.hostSum, Finset.sum_filter_eq_sum_of_fiber _ (fun j : Fin 192 => ix5 n u h r j) (fun _ _ e => congrFun e 4) (fiber n u h r)]
  refine Eq.trans (congrArg (· + _) (by simp [Ideal.ofBits, Ideal.ieee, constant] : (constant S_ FTy.f32 0x00000000#32 (Shape.Idx.first h_S_) : Ideal .f32) = 0))
    ((zero_add _).trans (Finset.sum_congr rfl fun j _ => exps_at s n u h r j))

theorem back_at (z : FVec Ideal S2x128x64x4x64 .f32) (b : Fin 2) (p : Fin 8192) (n : Fin 256) :
    back z (ix3 b p n) = z (ix5 ⟨b * 1 + n / 256, by omega⟩ ⟨p / 64, by omega⟩ ⟨p % 64, by omega⟩ ⟨n / 64 % 4, by omega⟩ ⟨n % 64, by omega⟩) := by
  pointwise [back]
  refine congrArg z ?_
  congr 1
  · exact Fin.ext (show b.val = b.val + n.val / 256 by omega)
  · exact Fin.ext (show n.val / 64 = n.val / 64 % 4 by omega)

theorem weigh_at (vw : FVec Ideal S2x128x192x4x64 .f32) (e f : FVec Ideal S2x128x4x64x192 .f32) (n : Fin 2) (u : Fin 128) (r : Fin 64)
    (h : Fin 4) (d : Fin 64) : weigh vw e f (ix5 n u r h d) = ∑ j, vw (ix5 n u j h d) * Ideal.div (e (ix5 n u h r j)) (f (ix5 n u h r j)) := by
  pointwise [weigh]

theorem mixed_at (vw : FVec Ideal S2x128x192x4x64 .f32) (s : FVec Ideal S2x128x4x64x192 .f32) (n : Fin 2) (u : Fin 128) (r : Fin 64)
    (h : Fin 4) (d : Fin 64) : mixed vw s (ix5 n u r h d) = each (fun j => s (ix5 n u h r j)) fun j => vw (ix5 n u j h d) := by
  unfold mixed
  rw [weigh_at]
  simp only [exps_at, over_at, dens_at]
  rfl

theorem spread_at (t f : FVec Ideal S2x128x4x64 .f32) (n : Fin 2) (u : Fin 128) (r : Fin 64) (h : Fin 4) (d : Fin 64) :
    spread t f (ix5 n u r h d) = t (ix4 n u h r) + Ideal.log (f (ix4 n u h r)) := by
  pointwise [spread]

theorem logs_at (s : FVec Ideal S2x128x4x64x192 .f32) (n : Fin 2) (u : Fin 128) (r : Fin 64) (h : Fin 4) (d : Fin 64) :
    logs s (ix5 n u r h d) = lse fun j => s (ix5 n u h r j) := by
  unfold logs
  rw [spread_at, tops_at, dens_at]
  rfl

/-- The masked scores of the query at position `p` of sequence `n`, against head `h`'s keys of its window. -/
def scoreRow (x : FVec Ideal S2x8192x2304 .bf16) (n : Fin 2) (p : Fin 8192) (h : Fin 4) (j : Fin 192) : EReal :=
  if Near 8192 p (p / 64 * 64 + j + 64) then ∑ d : Fin 64, el x 0 n p h d * padRow (keys x) n (p / 64 * 64 + j) h d else ⊥

/-- The dilated attention at column `n` of row `p` of batch `b`. -/
def outAt (x : FVec Ideal S2x8192x2304 .bf16) (b : Fin 2) (p : Fin 8192) (n : Fin 256) : EReal :=
  each (scoreRow x ⟨b * 1 + n / 256, by omega⟩ p ⟨n / 64 % 4, by omega⟩)
    fun j => padRow (values x) ⟨b * 1 + n / 256, by omega⟩ (p / 64 * 64 + j) ⟨n / 64 % 4, by omega⟩ ⟨n % 64, by omega⟩

/-- The logarithm of its denominator. -/
def lseAt (x : FVec Ideal S2x8192x2304 .bf16) (b : Fin 2) (p : Fin 8192) (n : Fin 256) : EReal :=
  lse (scoreRow x ⟨b * 1 + n / 256, by omega⟩ p ⟨n / 64 % 4, by omega⟩)

/-- The dilated attention, element by element. -/
def out (x : FVec Ideal S2x8192x2304 .bf16) : FVec Ideal S2x8192x256 .bf16 := fun i => outAt x (i 0) (i 1) (i 2)

/-- The logarithms of its denominators, element by element. -/
def outLse (x : FVec Ideal S2x8192x2304 .bf16) : FVec Ideal S2x8192x256 .f32 := fun i => lseAt x (i 0) (i 1) (i 2)

theorem row_eq (x : FVec Ideal S2x8192x2304 .bf16) (n : Fin 2) (p : Fin 8192) (h : Fin 4) (j : Fin 192) :
    scores (queries x) (windows (keys x)) seen (ix5 n ⟨p / 64, by omega⟩ h ⟨p % 64, by omega⟩ j) = scoreRow x n p h j := by
  rw [scores_at]
  unfold scoreRow
  have hp : (⟨p.val / 64 * 64 + p.val % 64, by omega⟩ : Fin 8192) = p := Fin.ext (show p.val / 64 * 64 + p.val % 64 = p.val by omega)
  have hn : (p.val / 64 * 64 + p.val % 64) = p.val := by omega
  refine if_congr ((seen_at _ _ _).trans (by rw [show ((⟨p.val / 64, by omega⟩ : Fin 128).val * 64 + (⟨p.val % 64, by omega⟩ : Fin 64).val) = p.val from hn]))
    (Finset.sum_congr rfl fun d _ => ?_) rfl
  rw [windows_at, queries_at]
  exact congrArg (fun z => el x 0 n z h d * _) hp

theorem res_out (x : FVec Ideal S2x8192x2304 .bf16) :
    truncf .bf16 (back (mixed (windows (values x)) (scores (queries x) (windows (keys x)) seen))) bitsLt_bf16_f32 = out x := by
  funext i
  obtain ⟨b, p, n, rfl⟩ : ∃ (b : Fin 2) (p : Fin 8192) (n : Fin 256), i = ix3 b p n := ⟨i 0, i 1, i 2, by funext a; fin_cases a <;> rfl⟩
  refine (show _ = back (mixed (windows (values x)) (scores (queries x) (windows (keys x)) seen)) (ix3 b p n) from rfl).trans ((back_at _ b p n).trans ?_)
  rw [mixed_at]
  show _ = outAt x b p n
  unfold outAt
  simp only [row_eq, windows_at]

theorem res_lse (x : FVec Ideal S2x8192x2304 .bf16) : back (logs (scores (queries x) (windows (keys x)) seen)) = outLse x := by
  funext i
  obtain ⟨b, p, n, rfl⟩ : ∃ (b : Fin 2) (p : Fin 8192) (n : Fin 256), i = ix3 b p n := ⟨i 0, i 1, i 2, by funext a; fin_cases a <;> rfl⟩
  refine (back_at _ b p n).trans ?_
  rw [logs_at]
  show _ = lseAt x b p n
  unfold lseAt
  simp only [row_eq]

/-- Every run of the reference program ends with the dilated attention of its argument and the logarithms of its
    denominators, and leaves the argument as it was. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v78) = out (m ((c : Thread nD τ).loc main_arg0))
      ∧ r.2.mem ((c.tc : Thread nD τ).loc main_v81) = outLse (m ((c : Thread nD τ).loc main_arg0))
      ∧ r.2.mem ((c.tc : Thread nD τ).loc main_arg0) = m ((c.tc : Thread nD τ).loc main_arg0) :=
  (θ_run defs _ _).mono (fun _ h c => ⟨(h c).1.trans ((res_out_eq m c).trans (res_out _)), (h c).2.1.trans ((res_lse_eq m c).trans (res_lse _)),
    (h c).2.2⟩) (Value.run m ρ)

end Cert.Dil1Proof
-- ==== Proof.Dil1Array.lean ====
module

public import proofs.«01_k».proof.Proof.Dil1Kernel
public import proofs.«01_k».proof.Proof.Dil1Ref
public import proofs.«01_k».proof.Proof.BandPoint

@[expose] public section

set_option maxRecDepth 16384

/-!
# The attention at dilation 1: the kernel's whole result arrays

The kernel reads its window as three whole blocks of 128 rows, clamped at the two ends of the array; the reference reads
192 rows of an array padded with zeros. Where the mask lets a key through the two read the same row.
-/

noncomputable section

namespace Cert.Dil1Proof

open Cert.Dil1Ideal Cert.Dil1Ideal.Gen Idealize.ShloMosaic Idealize.ShloMosaic.TcCoe Idealize.SL.Sem Cert.DilProof
open Cert.BandProof (Real' Real'.mul Real'.sum)
open Idealize.ShloMosaic.Pipeline (Dat)

/-- Column `n` of part `c` of the projections of residue `g`, at position `p` of batch `b`. -/
def cell (x : FVec Ideal S2x8192x2304 .bf16) (c : ℕ) (hc : c < 9) (b : Fin 2) (g : Fin 1) (p : Fin 8192) (n : Fin 256) : EReal :=
  x (ix3 b p ⟨g * 2304 + c * 256 + n, by omega⟩)

theorem el_cell (x : FVec Ideal S2x8192x2304 .bf16) (c : Fin 9) (b : Fin 2) (g : Fin 1) (p : Fin 8192) (h : Fin 4) (d : Fin 64) (N : Fin 2)
    (hN : N.val = b * 1 + g) : el x c N p h d = cell x c.val c.isLt b g p ⟨h * 64 + d, by omega⟩ := by
  unfold el cell
  refine congrArg x ?_
  congr 1
  · exact Fin.ext (show N.val / 1 = b.val by omega)
  · exact Fin.ext (show N.val % 1 * 2304 + c.val * 256 + h.val * 64 + d.val = g.val * 2304 + c.val * 256 + (h.val * 64 + d.val) by omega)

theorem cell_eq (x : FVec Ideal S2x8192x2304 .bf16) (c : ℕ) (hc : c < 9) (b : Fin 2) (g : Fin 1) (p : Fin 8192) (n : Fin 256) :
    x (ix3 b p ⟨(g * 9 + c) * 256 + n, by omega⟩) = cell x c hc b g p n :=
  congrArg x (congrArg (ix3 b p) (Fin.ext (show (g.val * 9 + c) * 256 + n.val = g.val * 2304 + c * 256 + n.val by omega)))

/-- The three blocks read at tile `t`, at a key that lies in the sequence, hold its row. -/
theorem window_row (x : FVec Ideal S2x8192x2304 .bf16) (c : ℕ) (hc : c < 9) (a0 a1 a2 : FVec Ideal S1x128x256 .bf16) (b : Fin 2) (g : Fin 1)
    (t : ℕ) (ht : t < 64)
    (h0 : ∀ (r : Fin 128) (n : Fin 256), a0 (ix3 0 r n) = cell x c hc b g ⟨(t - 1) * 128 + r, by omega⟩ n)
    (h1 : ∀ (r : Fin 128) (n : Fin 256), a1 (ix3 0 r n) = cell x c hc b g ⟨t * 128 + r, by omega⟩ n)
    (h2 : ∀ (r : Fin 128) (n : Fin 256), a2 (ix3 0 r n) = cell x c hc b g ⟨min (t + 1) 63 * 128 + r, by omega⟩ n)
    (j : Fin 384) (n : Fin 256) (p : Fin 8192) (hp : p.val + 128 = t * 128 + j) :
    k0_pay1 (F := Ideal) a0 a1 a2 (ix2 j n) = cell x c hc b g p n := by
  rw [block_at]
  split_ifs
  · rw [h0]
    exact congrArg (fun p : Fin 8192 => cell x c hc b g p n) (Fin.ext (show (t - 1) * 128 + j.val = p.val by omega))
  · rw [h1]
    exact congrArg (fun p : Fin 8192 => cell x c hc b g p n) (Fin.ext (show t * 128 + (j.val - 128) = p.val by omega))
  · rw [h2]
    exact congrArg (fun p : Fin 8192 => cell x c hc b g p n) (Fin.ext (show min (t + 1) 63 * 128 + (j.val - 256) = p.val by omega))

/-- The reference's `j`-th key of a query at row `r` of a block, among the kernel's keys. -/
def emb (r : Fin 128) (j : Fin 192) : Fin 384 := ⟨64 + r / 64 * 64 + j, by omega⟩

theorem emb_inj (r : Fin 128) : Function.Injective (emb r) := by
  intro j j' e
  have h : 64 + r.val / 64 * 64 + j.val = 64 + r.val / 64 * 64 + j'.val := congrArg Fin.val e
  exact Fin.ext (by omega)

/-- The kernel's other keys are masked. -/
theorem row_out (i : grid0.Coords) (q : Vec Ideal S1x128x256 .bf16) (k : FVec Ideal S384x256 .bf16) (r : Fin 128) (n : Fin 256) (l : Fin 384)
    (h : ∀ j, emb r j ≠ l) : pointRow i q k r n l = ⊥ := by
  unfold pointRow
  refine if_neg fun hn => ?_
  obtain ⟨h1, h2, -, -⟩ := hn
  exact h ⟨l - (64 + r / 64 * 64), by omega⟩ (Fin.ext (show 64 + r.val / 64 * 64 + (l.val - (64 + r.val / 64 * 64)) = l.val by omega))

/-- A row of the padded keys, where the key lies in the sequence. -/
theorem keys_row (x : FVec Ideal S2x8192x2304 .bf16) (b : Fin 2) (g : Fin 1) (N : Fin 2) (hN : N.val = b * 1 + g) (k : ℕ) (p : Fin 8192)
    (hp : p.val + 64 = k) (h : Fin 4) (d : Fin 64) :
    padRow (keys x) N k h d = cell x 3 (by decide) b g p ⟨h * 64 + d, by omega⟩ := by
  unfold padRow
  rw [dif_pos ⟨by omega, by omega⟩, keys_at, el_cell x 3 b g _ h d N hN]
  exact congrArg (fun p : Fin 8192 => cell x 3 (by decide) b g p _) (Fin.ext (show k - 64 = p.val by omega))

/-- A row of the padded values, where the key lies in the sequence. -/
theorem values_row (x : FVec Ideal S2x8192x2304 .bf16) (b : Fin 2) (g : Fin 1) (N : Fin 2) (hN : N.val = b * 1 + g) (k : ℕ) (p : Fin 8192)
    (hp : p.val + 64 = k) (h : Fin 4) (d : Fin 64) :
    padRow (values x) N k h d = cell x 6 (by decide) b g p ⟨h * 64 + d, by omega⟩ := by
  unfold padRow
  rw [dif_pos ⟨by omega, by omega⟩, values_at, el_cell x 6 b g _ h d N hN]
  exact congrArg (fun p : Fin 8192 => cell x 6 (by decide) b g p _) (Fin.ext (show k - 64 = p.val by omega))

/-- The kernel's scores of the reference's keys are the reference's scores. -/
theorem row_at (x : FVec Ideal S2x8192x2304 .bf16) (i : grid0.Coords) (q1 : Vec Ideal S1x128x256 .bf16) (k0 k1 k2 : FVec Ideal S1x128x256 .bf16)
    (b : Fin 2) (g : Fin 1) (t : ℕ) (hi : (i 2).val = t) (ht : t < 64)
    (hq : ∀ (r : Fin 128) (n : Fin 256), q1 (ix3 0 r n) = cell x 0 (by decide) b g ⟨t * 128 + r, by omega⟩ n)
    (h0 : ∀ (r : Fin 128) (n : Fin 256), k0 (ix3 0 r n) = cell x 3 (by decide) b g ⟨(t - 1) * 128 + r, by omega⟩ n)
    (h1 : ∀ (r : Fin 128) (n : Fin 256), k1 (ix3 0 r n) = cell x 3 (by decide) b g ⟨t * 128 + r, by omega⟩ n)
    (h2 : ∀ (r : Fin 128) (n : Fin 256), k2 (ix3 0 r n) = cell x 3 (by decide) b g ⟨min (t + 1) 63 * 128 + r, by omega⟩ n)
    (r : Fin 128) (n : Fin 256) (p : Fin 8192) (hp : p.val = t * 128 + r) (N : Fin 2) (hN : N.val = b * 1 + g) (h : Fin 4) (hh : h.val = n / 64)
    (j : Fin 192) : pointRow i q1 (k0_pay1 (F := Ideal) k0 k1 k2) r n (emb r j) = scoreRow x N p h j := by
  have e : t * 128 + (emb r j).val = p / 64 * 64 + j + 64 := show t * 128 + (64 + r.val / 64 * 64 + j.val) = p.val / 64 * 64 + j.val + 64 by omega
  unfold pointRow scoreRow
  rw [hi, e, ← hp]
  by_cases hs : Near 8192 p (p / 64 * 64 + j + 64)
  · rw [if_pos hs, if_pos hs]
    obtain ⟨-, -, hs1, hs2⟩ := hs
    refine Finset.sum_congr rfl fun d _ => ?_
    rw [keys_row x b g N hN (p / 64 * 64 + j) ⟨p / 64 * 64 + j - 64, by omega⟩ (show p.val / 64 * 64 + j.val - 64 + 64 = p.val / 64 * 64 + j.val by omega),
      window_row x 3 (by decide) k0 k1 k2 b g t ht h0 h1 h2 (emb r j) _ ⟨p / 64 * 64 + j - 64, by omega⟩
        (show p.val / 64 * 64 + j.val - 64 + 128 = t * 128 + (emb r j).val by omega), hq, el_cell x 0 b g p h d N hN]
    have e1 : (⟨t * 128 + r, by omega⟩ : Fin 8192) = p := Fin.ext hp.symm
    have e2 : (⟨n / 64 * 64 + d, by omega⟩ : Fin 256) = ⟨h * 64 + d, by omega⟩ := Fin.ext (show n.val / 64 * 64 + d.val = h.val * 64 + d.val by omega)
    rw [e1, e2]
    rfl
  · rw [if_neg hs, if_neg hs]

/-- A score the mask lets through is a real number. -/
theorem score_real (x : FVec Ideal S2x8192x2304 .bf16) (hxq : ∀ b g p n, Real' (cell x 0 (by decide) b g p n))
    (hxk : ∀ b g p n, Real' (cell x 3 (by decide) b g p n)) (b : Fin 2) (g : Fin 1) (N : Fin 2) (hN : N.val = b * 1 + g) (p : Fin 8192) (h : Fin 4)
    (j : Fin 192) (hs : Near 8192 p (p / 64 * 64 + j + 64)) : Real' (scoreRow x N p h j) := by
  unfold scoreRow
  rw [if_pos hs]
  obtain ⟨-, -, hs1, hs2⟩ := hs
  refine Real'.sum _ _ fun d => Real'.mul ?_ ?_
  · rw [el_cell x 0 b g p h d N hN]
    exact hxq _ _ _ _
  · rw [keys_row x b g N hN (p / 64 * 64 + j) ⟨p / 64 * 64 + j - 64, by omega⟩ (show p.val / 64 * 64 + j.val - 64 + 64 = p.val / 64 * 64 + j.val by omega)]
    exact hxk _ _ _ _

/-- The kernel's elements of a grid point's blocks are the reference's elements at those blocks' place in the arrays. -/
theorem point_out (x : FVec Ideal S2x8192x2304 .bf16) (hxq : ∀ b g p n, Real' (cell x 0 (by decide) b g p n))
    (hxk : ∀ b g p n, Real' (cell x 3 (by decide) b g p n))
    (i : grid0.Coords) (q1 : Vec Ideal S1x128x256 .bf16) (k0 k1 k2 v0 v1 v2 : FVec Ideal S1x128x256 .bf16)
    (b : Fin 2) (g : Fin 1) (t : ℕ) (hi : (i 2).val = t) (ht : t < 64)
    (hq : ∀ (r : Fin 128) (n : Fin 256), q1 (ix3 0 r n) = cell x 0 (by decide) b g ⟨t * 128 + r, by omega⟩ n)
    (h0 : ∀ (r : Fin 128) (n : Fin 256), k0 (ix3 0 r n) = cell x 3 (by decide) b g ⟨(t - 1) * 128 + r, by omega⟩ n)
    (h1 : ∀ (r : Fin 128) (n : Fin 256), k1 (ix3 0 r n) = cell x 3 (by decide) b g ⟨t * 128 + r, by omega⟩ n)
    (h2 : ∀ (r : Fin 128) (n : Fin 256), k2 (ix3 0 r n) = cell x 3 (by decide) b g ⟨min (t + 1) 63 * 128 + r, by omega⟩ n)
    (hv0 : ∀ (r : Fin 128) (n : Fin 256), v0 (ix3 0 r n) = cell x 6 (by decide) b g ⟨(t - 1) * 128 + r, by omega⟩ n)
    (hv1 : ∀ (r : Fin 128) (n : Fin 256), v1 (ix3 0 r n) = cell x 6 (by decide) b g ⟨t * 128 + r, by omega⟩ n)
    (hv2 : ∀ (r : Fin 128) (n : Fin 256), v2 (ix3 0 r n) = cell x 6 (by decide) b g ⟨min (t + 1) 63 * 128 + r, by omega⟩ n)
    (r : Fin 128) (n : Fin 256) (p : Fin 8192) (hp : p.val = t * 128 + r) (w : Fin 256) (hw : w.val = g * 256 + n) :
    (whole (pointRow i q1 (k0_pay1 (F := Ideal) k0 k1 k2) r n) fun j => k0_pay2 (F := Ideal) v0 v1 v2 (ix2 j n)) = outAt x b p w
    ∧ lse (pointRow i q1 (k0_pay1 (F := Ideal) k0 k1 k2) r n) = lseAt x b p w := by
  have hN : (⟨b * 1 + w / 256, by omega⟩ : Fin 2).val = b * 1 + g := show b.val * 1 + w.val / 256 = b.val * 1 + g.val by omega
  have hh : (⟨w / 64 % 4, by omega⟩ : Fin 4).val = n / 64 := show w.val / 64 % 4 = n.val / 64 by omega
  have hrow := row_at x i q1 k0 k1 k2 b g t hi ht hq h0 h1 h2 r n p hp _ hN _ hh
  have hreal := score_real x hxq hxk b g _ hN p ⟨w / 64 % 4, by omega⟩
  have hbot : ∀ j : Fin 192, ¬ Near 8192 p (p / 64 * 64 + j + 64) → scoreRow x ⟨b * 1 + w / 256, by omega⟩ p ⟨w / 64 % 4, by omega⟩ j = ⊥ :=
    fun j hs => by unfold scoreRow; exact if_neg hs
  refine ⟨?_, lse_emb (emb r) (emb_inj r) _ (row_out i q1 _ r n) _ hrow⟩
  refine whole_emb (emb r) (emb_inj r) _ _ (row_out i q1 _ r n) _ _ hrow (fun j hj => ?_) (fun j => ?_) ⟨⟨64 + r % 64, by omega⟩, (hreal _ ?_).2⟩
  · by_cases hs : Near 8192 p (p / 64 * 64 + j + 64)
    · obtain ⟨-, -, hs1, hs2⟩ := hs
      rw [values_row x b g _ hN (p / 64 * 64 + j) ⟨p / 64 * 64 + j - 64, by omega⟩ (show p.val / 64 * 64 + j.val - 64 + 64 = p.val / 64 * 64 + j.val by omega),
        block_at' v0 v1 v2, window_row x 6 (by decide) v0 v1 v2 b g t ht hv0 hv1 hv2 (emb r j) n ⟨p / 64 * 64 + j - 64, by omega⟩
          (show p.val / 64 * 64 + j.val - 64 + 128 = t * 128 + (64 + r.val / 64 * 64 + j.val) by omega)]
      exact congrArg (cell x 6 (by decide) b g _) (Fin.ext (show n.val = w.val / 64 % 4 * 64 + w.val % 64 by omega))
    · exact absurd (hbot j hs) hj
  · by_cases hs : Near 8192 p (p / 64 * 64 + j + 64)
    · exact (hreal j hs).1
    · rw [hbot j hs]
      exact bot_ne_top
  · show Near 8192 p (p.val / 64 * 64 + (64 + r.val % 64) + 64)
    exact ⟨by omega, by omega, by omega, by omega⟩

variable (m : (ℓ : Loc nD τ sig) → Buf (Elt Ideal) ℓ)

/-- The block every operand takes at each grid point: the tiles of each residue of each of the two batches; the keys' and
values' previous and next blocks are clamped to the array. -/
theorem idx : ∀ t : Fin cfg0.N, win0_0.index t = ![t.val / 64, t.val % 64, t.val / 64 % 1 * 9 + 0]
    ∧ win0_1.index t = ![t.val / 64, t.val % 64 - 1, t.val / 64 % 1 * 9 + 3]
    ∧ win0_2.index t = ![t.val / 64, t.val % 64, t.val / 64 % 1 * 9 + 3]
    ∧ win0_3.index t = ![t.val / 64, min (t.val % 64 + 1) 63, t.val / 64 % 1 * 9 + 3]
    ∧ win0_4.index t = ![t.val / 64, t.val % 64 - 1, t.val / 64 % 1 * 9 + 6]
    ∧ win0_5.index t = ![t.val / 64, t.val % 64, t.val / 64 % 1 * 9 + 6]
    ∧ win0_6.index t = ![t.val / 64, min (t.val % 64 + 1) 63, t.val / 64 % 1 * 9 + 6]
    ∧ win0_7.index t = ![t.val / 64, t.val % 64, t.val / 64 % 1] ∧ win0_8.index t = ![t.val / 64, t.val % 64, t.val / 64 % 1] :=
  (by decide +kernel : ∀ t : Fin grid0.N, _)

/-- A grid point's tile number. -/
theorem tile : ∀ t : Fin cfg0.N, (grid0.coords t 2).val = t.val % 64 :=
  (by decide +kernel : ∀ t : Fin grid0.N, _)

/-! Each operand's block at a grid point, one element. -/

theorem q_block (c : Dev nD) (t : Fin cfg0.N) (ht : t.val < 128) (r : Fin 128) (n : Fin 256) : iblk m c 0 t (ix3 0 r n)
    = m ((c : Thread nD τ).loc main_arg0) (ix3 ⟨t.val / 64, by omega⟩ ⟨t.val % 64 * 128 + r, by omega⟩ ⟨(t.val / 64 % 1 * 9 + 0) * 256 + n, by omega⟩) := by
  blk_point [iblk, V, idx t]

theorem k_prev (c : Dev nD) (t : Fin cfg0.N) (ht : t.val < 128) (r : Fin 128) (n : Fin 256) : iblk m c 1 t (ix3 0 r n)
    = m ((c : Thread nD τ).loc main_arg0) (ix3 ⟨t.val / 64, by omega⟩ ⟨(t.val % 64 - 1) * 128 + r, by omega⟩ ⟨(t.val / 64 % 1 * 9 + 3) * 256 + n, by omega⟩) := by
  blk_point [iblk, V, idx t]

theorem k_cur (c : Dev nD) (t : Fin cfg0.N) (ht : t.val < 128) (r : Fin 128) (n : Fin 256) : iblk m c 2 t (ix3 0 r n)
    = m ((c : Thread nD τ).loc main_arg0) (ix3 ⟨t.val / 64, by omega⟩ ⟨t.val % 64 * 128 + r, by omega⟩ ⟨(t.val / 64 % 1 * 9 + 3) * 256 + n, by omega⟩) := by
  blk_point [iblk, V, idx t]

theorem k_next (c : Dev nD) (t : Fin cfg0.N) (ht : t.val < 128) (r : Fin 128) (n : Fin 256) : iblk m c 3 t (ix3 0 r n)
    = m ((c : Thread nD τ).loc main_arg0) (ix3 ⟨t.val / 64, by omega⟩ ⟨min (t.val % 64 + 1) 63 * 128 + r, by omega⟩ ⟨(t.val / 64 % 1 * 9 + 3) * 256 + n, by omega⟩) := by
  blk_point [iblk, V, idx t]

theorem v_prev (c : Dev nD) (t : Fin cfg0.N) (ht : t.val < 128) (r : Fin 128) (n : Fin 256) : iblk m c 4 t (ix3 0 r n)
    = m ((c : Thread nD τ).loc main_arg0) (ix3 ⟨t.val / 64, by omega⟩ ⟨(t.val % 64 - 1) * 128 + r, by omega⟩ ⟨(t.val / 64 % 1 * 9 + 6) * 256 + n, by omega⟩) := by
  blk_point [iblk, V, idx t]

theorem v_cur (c : Dev nD) (t : Fin cfg0.N) (ht : t.val < 128) (r : Fin 128) (n : Fin 256) : iblk m c 5 t (ix3 0 r n)
    = m ((c : Thread nD τ).loc main_arg0) (ix3 ⟨t.val / 64, by omega⟩ ⟨t.val % 64 * 128 + r, by omega⟩ ⟨(t.val / 64 % 1 * 9 + 6) * 256 + n, by omega⟩) := by
  blk_point [iblk, V, idx t]

theorem v_next (c : Dev nD) (t : Fin cfg0.N) (ht : t.val < 128) (r : Fin 128) (n : Fin 256) : iblk m c 6 t (ix3 0 r n)
    = m ((c : Thread nD τ).loc main_arg0) (ix3 ⟨t.val / 64, by omega⟩ ⟨min (t.val % 64 + 1) 63 * 128 + r, by omega⟩ ⟨(t.val / 64 % 1 * 9 + 6) * 256 + n, by omega⟩) := by
  blk_point [iblk, V, idx t]

/-- Where a grid point's blocks of the results lie in the arrays. -/
theorem out_place (t : Fin cfg0.N) (ht : t.val < 128) (r : Fin 128) (n : Fin 256) :
    (win0_7.blk t).view.emb (ix3 0 r n) = ix3 ⟨t.val / 64, by omega⟩ ⟨t.val % 64 * 128 + r, by omega⟩ ⟨t.val / 64 % 1 * 256 + n, by omega⟩ := by
  blk_point [idx t]

theorem lse_place (t : Fin cfg0.N) (ht : t.val < 128) (r : Fin 128) (n : Fin 256) :
    (win0_8.blk t).view.emb (ix3 0 r n) = ix3 ⟨t.val / 64, by omega⟩ ⟨t.val % 64 * 128 + r, by omega⟩ ⟨t.val / 64 % 1 * 256 + n, by omega⟩ := by
  blk_point [idx t]

/-- A grid point's elements of the two results. -/
theorem point_at (c : Dev nD) (hxq : ∀ b g p n, Real' (cell (m ((c : Thread nD τ).loc main_arg0)) 0 (by decide) b g p n))
    (hxk : ∀ b g p n, Real' (cell (m ((c : Thread nD τ).loc main_arg0)) 3 (by decide) b g p n)) (t : Fin cfg0.N) (ht : t.val < 128) (r : Fin 128) (n : Fin 256) :
    (whole (pointRow (grid0.coords t) (iblk m c 0 t) (k0_pay1 (F := Ideal) (iblk m c 1 t) (iblk m c 2 t) (iblk m c 3 t)) r n)
        fun j => k0_pay2 (F := Ideal) (iblk m c 4 t) (iblk m c 5 t) (iblk m c 6 t) (ix2 j n))
      = outAt (m ((c : Thread nD τ).loc main_arg0)) ⟨t.val / 64, by omega⟩ ⟨t.val % 64 * 128 + r, by omega⟩ ⟨t.val / 64 % 1 * 256 + n, by omega⟩
    ∧ lse (pointRow (grid0.coords t) (iblk m c 0 t) (k0_pay1 (F := Ideal) (iblk m c 1 t) (iblk m c 2 t) (iblk m c 3 t)) r n)
      = lseAt (m ((c : Thread nD τ).loc main_arg0)) ⟨t.val / 64, by omega⟩ ⟨t.val % 64 * 128 + r, by omega⟩ ⟨t.val / 64 % 1 * 256 + n, by omega⟩ :=
  point_out (m ((c : Thread nD τ).loc main_arg0)) hxq hxk (grid0.coords t) _ _ _ _ _ _ _ ⟨t.val / 64, by omega⟩ ⟨t.val / 64 % 1, by omega⟩
    (t.val % 64) (tile t) (Nat.mod_lt _ (by decide))
    (fun r n => (q_block m c t ht r n).trans (cell_eq _ 0 (by decide) _ ⟨t.val / 64 % 1, by omega⟩ _ n))
    (fun r n => (k_prev m c t ht r n).trans (cell_eq _ 3 (by decide) _ ⟨t.val / 64 % 1, by omega⟩ _ n))
    (fun r n => (k_cur m c t ht r n).trans (cell_eq _ 3 (by decide) _ ⟨t.val / 64 % 1, by omega⟩ _ n))
    (fun r n => (k_next m c t ht r n).trans (cell_eq _ 3 (by decide) _ ⟨t.val / 64 % 1, by omega⟩ _ n))
    (fun r n => (v_prev m c t ht r n).trans (cell_eq _ 6 (by decide) _ ⟨t.val / 64 % 1, by omega⟩ _ n))
    (fun r n => (v_cur m c t ht r n).trans (cell_eq _ 6 (by decide) _ ⟨t.val / 64 % 1, by omega⟩ _ n))
    (fun r n => (v_next m c t ht r n).trans (cell_eq _ 6 (by decide) _ ⟨t.val / 64 % 1, by omega⟩ _ n))
    r n _ rfl _ rfl

/-- The kernel's first result array is the dilated attention of its argument. -/
theorem final (c : Dev nD) (hxq : ∀ b g p n, Real' (cell (m ((c : Thread nD τ).loc main_arg0)) 0 (by decide) b g p n))
    (hxk : ∀ b g p n, Real' (cell (m ((c : Thread nD τ).loc main_arg0)) 3 (by decide) b g p n)) :
    (dats m 0 c).arrAt 7 (cfgs 0).N = out (m ((c : Thread nD τ).loc main_arg0)) := by
  refine (dats m 0 c).arrAt_eq_of_covers 7 _ (by decide +kernel) fun t _ y => ?_
  blk_simp
  rw [after0_7, outs_at]
  have ht : t.val < 128 := t.isLt
  have hy : (y 1).val < 128 := (y 1).isLt
  idx_vars y
  obtain rfl : y0 = 0 := Subsingleton.elim _ _
  exact (point_at m c hxq hxk t ht y1 y2).1.trans (congrArg (out (m ((c : Thread nD τ).loc main_arg0))) (out_place t ht y1 y2)).symm

/-- The kernel's second result array is the logarithms of its denominators. -/
theorem finalLse (c : Dev nD) (hxq : ∀ b g p n, Real' (cell (m ((c : Thread nD τ).loc main_arg0)) 0 (by decide) b g p n))
    (hxk : ∀ b g p n, Real' (cell (m ((c : Thread nD τ).loc main_arg0)) 3 (by decide) b g p n)) :
    (dats m 0 c).arrAt 8 (cfgs 0).N = outLse (m ((c : Thread nD τ).loc main_arg0)) := by
  refine (dats m 0 c).arrAt_eq_of_covers 8 _ (by decide +kernel) fun t _ y => ?_
  blk_simp
  rw [after0_8, logs_of]
  have ht : t.val < 128 := t.isLt
  have hy : (y 1).val < 128 := (y 1).isLt
  idx_vars y
  obtain rfl : y0 = 0 := Subsingleton.elim _ _
  exact (point_at m c hxq hxk t ht y1 y2).2.trans (congrArg (outLse (m ((c : Thread nD τ).loc main_arg0))) (lse_place t ht y1 y2)).symm

end Cert.Dil1Proof
-- ==== Proof.Dil1Final.lean ====
module

public import proofs.«01_k».proof.Proof.Dil1Array
public import proofs.«01_k».proof.Proof.BandFinal
public import proofs.«01_k».proof.Proof.Gen.Dil1.Frame
public import proofs.«01_k».proof.Defs
public import Idealize.ShloMosaic.Lib.Claim

@[expose] public section

set_option maxRecDepth 16384

/-!
# The attention at dilation 1: the claims
-/

noncomputable section

namespace Cert.Dil1Proof

open Idealize.ShloMosaic Idealize.ShloMosaic.TcCoe Idealize.SL.Sem
open Cert.BandProof (Real' real_of_bits)

/-- The side conditions of the precondition's own operations. -/
theorem preFacts : Cert.Pre_finite_dil1.Facts := ⟨by decide, by decide, by decide, by decide, by decide⟩

attribute [local instance] preFacts

/-- What the precondition says of the queries and the keys. -/
theorem pre_at (x : FVec Ideal Cert.Pre_finite_dil1.S2x8192x2304 .bf16) (hx : Cert.Pre_finite_dil1.fn (F := Ideal) x = fun _ => 1#1) :
    (∀ b g p n, Real' (cell x 0 (by decide) b g p n)) ∧ ∀ b g p n, Real' (cell x 3 (by decide) b g p n) := by
  have key : ∀ (b : Fin 2) (g : Fin 1) (p : Fin 8192) (a : Fin 2) (n : Fin 256),
      Real' (x (ix3 b p ⟨g * 2304 + a * 768 + 0 * 256 + n, by omega⟩)) := by
    intro b g p a n
    have h := congrFun hx (ix5 b p g a n)
    simp only [Cert.Pre_finite_dil1.fn] at h
    pointwise at h
    refine (congrArg Real' (congrArg x ?_)).mp (real_of_bits _ h)
    congr 1
    exact Fin.ext (show a.val * 768 + n.val = g.val * 2304 + a.val * 768 + 0 * 256 + n.val by omega)
  exact ⟨fun b g p n => (congrArg Real' (congrArg x (congrArg (ix3 b p) (Fin.ext (show g.val * 2304 + 0 * 768 + 0 * 256 + n.val = g.val * 2304 + 0 * 256 + n.val by omega))))).mp (key b g p 0 n),
    fun b g p n => (congrArg Real' (congrArg x (congrArg (ix3 b p) (Fin.ext (show g.val * 2304 + 1 * 768 + 0 * 256 + n.val = g.val * 2304 + 3 * 256 + n.val by omega))))).mp (key b g p 1 n)⟩

/-- Kernel and reference end with equal results, where the queries and the keys are finite. -/
theorem algebraic : Cert.algebraic_Dil1Ideal_Dil1RefIdeal_pre_finite_dil1 := by
  pair_intro
  · run_from Cert.Dil1Ideal.Gen.run_main m g
  · run_from ref_run m' g'
    · exact (final m c (pre_at _ (hpre c)).1 (pre_at _ (hpre c)).2).symm
    · exact (finalLse m c (pre_at _ (hpre c)).1 (pre_at _ (hpre c)).2).symm

/-- The original kernel runs, leaves its argument as it was and every counter at zero. -/
theorem frame : Cert.quiescent_Dil1 := fun m ρ _ => Cert.Dil1.Gen.frame m ρ

/-- So does the kernel at its named mask. -/
theorem frameIdeal : Cert.quiescent_Dil1Ideal := fun m ρ _ => Cert.Dil1Ideal.Gen.frame m ρ

/-- The same under the precondition. -/
theorem frameIdealPre : Cert.quiescent_Dil1Ideal_pre_finite_dil1 := fun m ρ _ => Cert.Dil1Ideal.Gen.frame m ρ

/-- So does the reference. -/
theorem frameRef : Cert.quiescent_Dil1RefIdeal := fun m ρ _ =>
  (θ_run Cert.Dil1RefIdeal.defs _ _).mono
    (fun r h => ⟨fun c => (h c).2.2, Idealize.ShloMosaic.sem_eq_zero_of_no_sems (by decide) r.2⟩)
    (Cert.Dil1RefIdeal.Value.run (F := Ideal) m ρ)

/-- The same under the precondition. -/
theorem frameRefPre : Cert.quiescent_Dil1RefIdeal_pre_finite_dil1 := fun m ρ _ => frameRef m ρ trivial

/-- The named mask stands for minus infinity. -/
theorem preserves : Cert.preserves_Dil1_Dil1Ideal := IdealRules.named_const.statement Cert.Dil1Ideal.κ "mask" .f32 0xF149F2CA#32 (⊥ : EReal) rfl

end Cert.Dil1Proof
-- ==== Proof.Dil4Kernel.lean ====
module

public import proofs.«01_k».proof.Proof.Gen.Dil4Ideal.Value
public import proofs.«01_k».proof.Proof.DilMath
public import Idealize.ShloMosaic.Lib.Pipeline.ValueKit
public import Idealize.ShloMosaic.Lib.Pointwise

@[expose] public section

set_option maxRecDepth 16384

/-!
# The attention at dilation 4: one grid point of the kernel
-/

noncomputable section

namespace Cert.Dil4Proof

open Cert.Dil4Ideal Cert.Dil4Ideal.Gen Idealize.ShloMosaic Idealize.ShloMosaic.TcCoe Idealize.SL.Sem Cert.DilProof
open Cert.BandProof (and_bit bit_one query_word' key_word)
open Idealize.ShloMosaic.Pipeline (Dat)

/-- The kernel's mask value is minus infinity. -/
theorem mask_bot : (Named.named κ "mask" 0xF149F2CA#32 : Ideal .f32) = ⊥ := rfl

/-- The masked scores of query `r` of a block against the keys of its window, for the head whose columns begin at `o`. -/
def blockRow (b : IVec S128x384 1) (k : FVec Ideal S384x256 .bf16) (q : FVec Ideal S1x128x64 .bf16) (o : ℕ) (ho : o + 64 ≤ 256) (r : Fin 128)
    (j : Fin 384) : EReal :=
  if b (ix2 r j) = 1#1 then ∑ x : Fin 64, q (ix3 0 r x) * k (ix2 j ⟨o + x, by omega⟩) else ⊥

/-! Each head of the kernel's body, at one element. -/

theorem head0_at (b : IVec S128x384 1) (k v : FVec Ideal S384x256 .bf16) (q : FVec Ideal S1x128x64 .bf16) (r : Fin 128) (d : Fin 64) :
    k0_pay8 (F := Ideal) k v b q (ix3 0 r d) = whole (blockRow b k q 0 (by decide) r) fun j => v (ix2 j ⟨0 + d, by omega⟩) := by
  pointwise [k0_pay8, k0_pay7, k0_pay6, k0_pay5, k0_pay4, mask_bot, Scalar.select]
  rfl

theorem head1_at (b : IVec S128x384 1) (k v : FVec Ideal S384x256 .bf16) (q : FVec Ideal S1x128x64 .bf16) (r : Fin 128) (d : Fin 64) :
    k0_pay15 (F := Ideal) (k0_pay10 v) (k0_pay11 k b q) (k0_pay12 k b q) (ix3 0 r d)
      = whole (blockRow b k q 64 (by decide) r) fun j => v (ix2 j ⟨64 + d, by omega⟩) := by
  pointwise [k0_pay15, k0_pay14, k0_pay13, k0_pay12, k0_pay11, k0_pay10, mask_bot, Scalar.select]
  rfl

theorem head2_at (b : IVec S128x384 1) (k v : FVec Ideal S384x256 .bf16) (q : FVec Ideal S1x128x64 .bf16) (r : Fin 128) (d : Fin 64) :
    k0_pay22 (F := Ideal) (k0_pay21 k v b q) (ix3 0 r d) = whole (blockRow b k q 128 (by decide) r) fun j => v (ix2 j ⟨128 + d, by omega⟩) := by
  pointwise [k0_pay22, k0_pay21, k0_pay20, k0_pay19, k0_pay18, k0_pay17, mask_bot, Scalar.select]
  rfl

theorem head3_at (b : IVec S128x384 1) (k v : FVec Ideal S384x256 .bf16) (q : FVec Ideal S1x128x64 .bf16) (r : Fin 128) (d : Fin 64) :
    k0_pay28 (F := Ideal) k v b q (ix3 0 r d) = whole (blockRow b k q 192 (by decide) r) fun j => v (ix2 j ⟨192 + d, by omega⟩) := by
  pointwise [k0_pay28, k0_pay27, k0_pay26, k0_pay25, k0_pay24, mask_bot, Scalar.select]
  rfl

theorem log0_at (b : IVec S128x384 1) (k : FVec Ideal S384x256 .bf16) (q : FVec Ideal S1x128x64 .bf16) (r : Fin 128) (d : Fin 64) :
    k0_pay9 (F := Ideal) k b q (ix3 0 r d) = lse (blockRow b k q 0 (by decide) r) := by
  pointwise [k0_pay9, k0_pay7, k0_pay6, k0_pay5, k0_pay4, mask_bot, Scalar.select]
  rfl

theorem log1_at (b : IVec S128x384 1) (k : FVec Ideal S384x256 .bf16) (q : FVec Ideal S1x128x64 .bf16) (r : Fin 128) (d : Fin 64) :
    k0_pay16 (F := Ideal) (k0_pay11 k b q) (k0_pay12 k b q) (ix3 0 r d) = lse (blockRow b k q 64 (by decide) r) := by
  pointwise [k0_pay16, k0_pay14, k0_pay13, k0_pay12, k0_pay11, mask_bot, Scalar.select]
  rfl

theorem log2_at (b : IVec S128x384 1) (k : FVec Ideal S384x256 .bf16) (q : FVec Ideal S1x128x64 .bf16) (r : Fin 128) (d : Fin 64) :
    k0_pay23 (F := Ideal) (k0_pay18 k b q) (k0_pay20 k b q) (ix3 0 r d) = lse (blockRow b k q 128 (by decide) r) := by
  pointwise [k0_pay23, k0_pay20, k0_pay19, k0_pay18, k0_pay17, mask_bot, Scalar.select]
  rfl

theorem log3_at (b : IVec S128x384 1) (k : FVec Ideal S384x256 .bf16) (q : FVec Ideal S1x128x64 .bf16) (r : Fin 128) (d : Fin 64) :
    k0_pay29 (F := Ideal) k b q (ix3 0 r d) = lse (blockRow b k q 192 (by decide) r) := by
  pointwise [k0_pay29, k0_pay27, k0_pay26, k0_pay25, k0_pay24, mask_bot, Scalar.select]
  rfl

/-- The kernel's mask at a grid point. -/
theorem mask_at (i : grid0.Coords) (r : Fin 128) (j : Fin 384) : k0_pay3 i (ix2 r j) = 1#1 ↔ Near 2048 ((i 2).val * 128 + r) ((i 2).val * 128 + j) := by
  pointwise [k0_pay3]
  have hi : (i 2).val < 16 := (i 2).isLt
  obtain ⟨h1, h2, h3⟩ := near_words 2048 ((i 2).val * 128 + r) ((i 2).val * 128 + j) (by omega) (by omega) (by omega) _ _ _ _
    (query_word' (i 2).val r) (key_word (i 2).val j) (by push_cast; ring) (by push_cast; ring)
  erw [h1, h2, h3, and_bit, and_bit, bit_one]
  simp only [Bool.and_eq_true, decide_eq_true_eq, Near, and_assoc]

/-- The masked scores of query `r` of grid point `i`, for the head of column `n`. -/
def pointRow (i : grid0.Coords) (q : Vec Ideal S1x128x256 .bf16) (k : FVec Ideal S384x256 .bf16) (r : Fin 128) (n : Fin 256) (j : Fin 384) : EReal :=
  if Near 2048 ((i 2).val * 128 + r) ((i 2).val * 128 + j) then
    ∑ x : Fin 64, q (ix3 0 r ⟨n / 64 * 64 + x, by omega⟩) * k (ix2 j ⟨n / 64 * 64 + x, by omega⟩)
  else ⊥

/-- One head's row is the row of each of its columns. -/
theorem row_piece (i : grid0.Coords) (q : Vec Ideal S1x128x256 .bf16) (k : FVec Ideal S384x256 .bf16)
    (o : ℕ) (ho : o + 64 ≤ 256) (hm : o % 64 = 0) (hin : ∀ a, (![0, 0, o] : Fin 3 → Nat) a + S1x128x64.size a ≤ S1x128x256.size a)
    (r : Fin 128) (n : Fin 256) (h1 : o ≤ n.val) (h2 : n.val < o + 64) :
    blockRow (k0_pay3 i) k (View.ld q (Rect.unit ![0, 0, o] S1x128x64.size hin)) o ho r = pointRow i q k r n := by
  have hq : ∀ (r : Fin 128) (d : Fin 64), View.ld q (Rect.unit ![0, 0, o] S1x128x64.size hin) (ix3 0 r d) = q (ix3 0 r ⟨o + d, by omega⟩) := by
    intro r d
    refine congrArg q (funext fun a => Fin.ext ?_)
    fin_cases a
    · rfl
    · exact (Nat.zero_add _).trans (Nat.one_mul _)
    · exact congrArg (o + ·) (Nat.one_mul _)
  have e : n.val / 64 * 64 = o := by omega
  funext j
  unfold blockRow pointRow
  simp only [mask_at, hq, e]

/-- One head's store is that head's columns of the first result's block. -/
theorem piece (f : FVec Ideal S1x128x64 .bf16) (i : grid0.Coords) (q : Vec Ideal S1x128x256 .bf16) (k v : FVec Ideal S384x256 .bf16)
    (o : ℕ) (ho : o + 64 ≤ 256) (hm : o % 64 = 0) (hin : ∀ a, (![0, 0, o] : Fin 3 → Nat) a + S1x128x64.size a ≤ S1x128x256.size a)
    (hf : ∀ (r : Fin 128) (d : Fin 64), f (ix3 0 r d) = whole (blockRow (k0_pay3 i) k (View.ld q (Rect.unit ![0, 0, o] S1x128x64.size hin)) o ho r)
      fun j => v (ix2 j ⟨o + d, by omega⟩))
    (x : S1x128x64.Idx) (r : Fin 128) (n : Fin 256) (h1 : r.val = (x 1).val) (h2 : n.val = o + (x 2).val) :
    f x = whole (pointRow i q k r n) fun j => v (ix2 j n) := by
  idx_vars x
  obtain rfl : r = x1 := Fin.ext h1
  obtain rfl : x0 = 0 := Subsingleton.elim _ _
  have hd : n.val = o + x2.val := h2
  have hx : x2.val < 64 := x2.isLt
  refine (hf r x2).trans ?_
  rw [row_piece i q k o ho hm hin r n (by omega) (by omega)]
  exact congrArg (whole _) (funext fun j => congrArg (fun z => v (ix2 j z)) (Fin.ext hd.symm))

/-- One head's store is that head's columns of the second result's block. -/
theorem log_piece (f : FVec Ideal S1x128x64 .f32) (i : grid0.Coords) (q : Vec Ideal S1x128x256 .bf16) (k : FVec Ideal S384x256 .bf16)
    (o : ℕ) (ho : o + 64 ≤ 256) (hm : o % 64 = 0) (hin : ∀ a, (![0, 0, o] : Fin 3 → Nat) a + S1x128x64.size a ≤ S1x128x256.size a)
    (hf : ∀ (r : Fin 128) (d : Fin 64), f (ix3 0 r d) = lse (blockRow (k0_pay3 i) k (View.ld q (Rect.unit ![0, 0, o] S1x128x64.size hin)) o ho r))
    (x : S1x128x64.Idx) (r : Fin 128) (n : Fin 256) (h1 : r.val = (x 1).val) (h2 : n.val = o + (x 2).val) :
    f x = lse (pointRow i q k r n) := by
  idx_vars x
  obtain rfl : r = x1 := Fin.ext h1
  obtain rfl : x0 = 0 := Subsingleton.elim _ _
  have hd : n.val = o + x2.val := h2
  have hx : x2.val < 64 := x2.isLt
  refine (hf r x2).trans ?_
  rw [row_piece i q k o ho hm hin r n (by omega) (by omega)]

variable (m : (ℓ : Loc nD τ sig) → Buf (Elt Ideal) ℓ)

/-- A point's block of the first result from the blocks it reads. -/
theorem outs_at (i : grid0.Coords) (q k0 k1 k2 v0 v1 v2 : Vec Ideal S1x128x256 .bf16) (y : S1x128x256.Idx) :
    out0_7 (F := Ideal) i q k0 k1 k2 v0 v1 v2 y
      = whole (pointRow i q (k0_pay1 (F := Ideal) k0 k1 k2) (y 1) (y 2)) fun j => k0_pay2 (F := Ideal) v0 v1 v2 (ix2 j (y 2)) := by
  unfold_out out0_7
  frame_out
  canon_tiles x h
  case piece3 =>
    exact piece _ i q (k0_pay1 (F := Ideal) k0 k1 k2) (k0_pay2 (F := Ideal) v0 v1 v2) 0 (by decide) rfl inb_S1x128x256_S1x128x64_0_0_0
      (fun r d => head0_at _ _ _ _ r d) x _ _ h1 (h2.trans (Nat.zero_add _).symm)
  case piece2 =>
    exact piece _ i q (k0_pay1 (F := Ideal) k0 k1 k2) (k0_pay2 (F := Ideal) v0 v1 v2) 64 (by decide) rfl inb_S1x128x256_S1x128x64_0_0_64
      (fun r d => head1_at _ _ _ _ r d) x _ _ h1 h2
  case piece1 =>
    exact piece _ i q (k0_pay1 (F := Ideal) k0 k1 k2) (k0_pay2 (F := Ideal) v0 v1 v2) 128 (by decide) rfl inb_S1x128x256_S1x128x64_0_0_128
      (fun r d => head2_at _ _ _ _ r d) x _ _ h1 h2
  case piece0 =>
    exact piece _ i q (k0_pay1 (F := Ideal) k0 k1 k2) (k0_pay2 (F := Ideal) v0 v1 v2) 192 (by decide) rfl inb_S1x128x256_S1x128x64_0_0_192
      (fun r d => head3_at _ _ _ _ r d) x _ _ h1 h2

/-- A point's block of the second result from the blocks it reads. -/
theorem logs_of (i : grid0.Coords) (q k0 k1 k2 v0 v1 v2 : Vec Ideal S1x128x256 .bf16) (y : S1x128x256.Idx) :
    out0_8 (F := Ideal) i q k0 k1 k2 v0 v1 v2 y = lse (pointRow i q (k0_pay1 (F := Ideal) k0 k1 k2) (y 1) (y 2)) := by
  unfold_out out0_8
  frame_out
  canon_tiles x h
  case piece3 =>
    exact log_piece _ i q (k0_pay1 (F := Ideal) k0 k1 k2) 0 (by decide) rfl inb_S1x128x256_S1x128x64_0_0_0
      (fun r d => log0_at _ _ _ r d) x _ _ h1 (h2.trans (Nat.zero_add _).symm)
  case piece2 =>
    exact log_piece _ i q (k0_pay1 (F := Ideal) k0 k1 k2) 64 (by decide) rfl inb_S1x128x256_S1x128x64_0_0_64
      (fun r d => log1_at _ _ _ r d) x _ _ h1 h2
  case piece1 =>
    exact log_piece _ i q (k0_pay1 (F := Ideal) k0 k1 k2) 128 (by decide) rfl inb_S1x128x256_S1x128x64_0_0_128
      (fun r d => log2_at _ _ _ r d) x _ _ h1 h2
  case piece0 =>
    exact log_piece _ i q (k0_pay1 (F := Ideal) k0 k1 k2) 192 (by decide) rfl inb_S1x128x256_S1x128x64_0_0_192
      (fun r d => log3_at _ _ _ r d) x _ _ h1 h2

/-- The block of keys or values a point reads: three blocks of 128 rows one after another. -/
theorem block_at (a b c : FVec Ideal S1x128x256 .bf16) (j : Fin 384) (n : Fin 256) :
    k0_pay1 (F := Ideal) a b c (ix2 j n) = (if h : j.val < 128 then a (ix3 0 ⟨j, h⟩ n) else if h' : j.val < 256 then b (ix3 0 ⟨j - 128, by omega⟩ n) else c (ix3 0 ⟨j - 256, by omega⟩ n)) := by
  pointwise [k0_pay1]
  have e : (j.val < 256) = (j.val - 128 < 128) := propext (by omega)
  have e' : j.val - 128 - 128 = j.val - 256 := by omega
  simp only [e, e']

theorem block_at' (a b c : FVec Ideal S1x128x256 .bf16) : k0_pay2 (F := Ideal) a b c = k0_pay1 a b c := rfl

end Cert.Dil4Proof
-- ==== Proof.Dil4Ref.lean ====
module

public import proofs.«01_k».proof.Proof.Gen.Dil4RefIdeal.Run
public import proofs.«01_k».proof.Proof.BandRef
public import proofs.«01_k».proof.Proof.DilMath
public import Idealize.ShloMosaic.Lib.Pipeline.ValueKit
public import Idealize.ShloMosaic.Lib.Pointwise
public import Idealize.ShloMosaic.Lib.Claim

@[expose] public section

set_option maxRecDepth 16384

/-!
# The attention at dilation 4: the reference's term, stage by stage
-/

noncomputable section

namespace Cert.Dil4Proof

open Cert.Dil4RefIdeal Cert.Dil4RefIdeal.Gen Idealize.ShloMosaic Idealize.ShloMosaic.TcCoe Idealize.SL.Sem Cert.DilProof
open Cert.BandProof (ofBits_bot and_bit bit_one)

/-- The queries, one sequence for each batch and each residue of the position. -/
def queries (x : FVec Ideal S2x2048x9216 .bf16) : FVec Ideal S8x2048x4x64 .f32 :=
  shapeCast _ (transpose S2x4x2048x4x64 [0, 2, 1, 3, 4] (shapeCast _ (extractStridedSlice S2x2048x4x1x4x64 ![0, 0, 0, 1, 0, 0]
    (shapeCast _ (extf .f32 x bitsLt_bf16_f32) shapeCasts_S2x2048x9216_S2x2048x4x9x4x64)
    slices_S2x2048x4x9x4x64_S2x2048x4x1x4x64_0_0_0_1_0_0) shapeCasts_S2x2048x4x1x4x64_S2x2048x4x4x64)
    transposes_S2x2048x4x4x64_S2x4x2048x4x64_0_2_1_3_4) shapeCasts_S2x4x2048x4x64_S8x2048x4x64

/-- The keys, likewise. -/
def keys (x : FVec Ideal S2x2048x9216 .bf16) : FVec Ideal S8x2048x4x64 .f32 :=
  shapeCast _ (transpose S2x4x2048x4x64 [0, 2, 1, 3, 4] (shapeCast _ (extractStridedSlice S2x2048x4x1x4x64 ![0, 0, 0, 4, 0, 0]
    (shapeCast _ (extf .f32 x bitsLt_bf16_f32) shapeCasts_S2x2048x9216_S2x2048x4x9x4x64)
    slices_S2x2048x4x9x4x64_S2x2048x4x1x4x64_0_0_0_4_0_0) shapeCasts_S2x2048x4x1x4x64_S2x2048x4x4x64)
    transposes_S2x2048x4x4x64_S2x4x2048x4x64_0_2_1_3_4) shapeCasts_S2x4x2048x4x64_S8x2048x4x64

/-- The values, likewise. -/
def values (x : FVec Ideal S2x2048x9216 .bf16) : FVec Ideal S8x2048x4x64 .f32 :=
  shapeCast _ (transpose S2x4x2048x4x64 [0, 2, 1, 3, 4] (shapeCast _ (extractStridedSlice S2x2048x4x1x4x64 ![0, 0, 0, 7, 0, 0]
    (shapeCast _ (extf .f32 x bitsLt_bf16_f32) shapeCasts_S2x2048x9216_S2x2048x4x9x4x64)
    slices_S2x2048x4x9x4x64_S2x2048x4x1x4x64_0_0_0_7_0_0) shapeCasts_S2x2048x4x1x4x64_S2x2048x4x4x64)
    transposes_S2x2048x4x4x64_S2x4x2048x4x64_0_2_1_3_4) shapeCasts_S2x4x2048x4x64_S8x2048x4x64

/-- The padded keys (or values), three neighbouring blocks side by side for each block of queries. -/
def windows (y : FVec Ideal S8x2048x4x64 .f32) : FVec Ideal S8x32x192x4x64 .f32 :=
  let z : FVec Ideal S8x34x64x4x64 .f32 :=
    shapeCast _ (pad S8x2176x4x64 ![0, 64, 0, 0] ![0, 64, 0, 0] ![0, 0, 0, 0] y (sitofp .f32 (constantI S_ 32 0#32))
      pads_S8x2048x4x64_S8x2176x4x64_000_64640_000_000 h_S_) shapeCasts_S8x2176x4x64_S8x34x64x4x64
  concatenate S8x32x192x4x64 2 [⟨S8x32x64x4x64, extractStridedSlice S8x32x64x4x64 ![0, 0, 0, 0, 0] z slices_S8x34x64x4x64_S8x32x64x4x64_0_0_0_0_0⟩,
    ⟨S8x32x64x4x64, extractStridedSlice S8x32x64x4x64 ![0, 1, 0, 0, 0] z slices_S8x34x64x4x64_S8x32x64x4x64_0_1_0_0_0⟩,
    ⟨S8x32x64x4x64, extractStridedSlice S8x32x64x4x64 ![0, 2, 0, 0, 0] z slices_S8x34x64x4x64_S8x32x64x4x64_0_2_0_0_0⟩]
    concatenates_S8x32x64x4x64_S8x32x64x4x64_S8x32x64x4x64_S8x32x192x4x64_d2

/-- The position of each key of each window, as a word. -/
def keyPos : IVec S32x192 32 :=
  addi (broadcastInDim S32x192 ![0, 1] bcast_S32x1_S32x192_0_1 (muli (subi (broadcastInDim S32x1 ![0] bcast_S32_S32x1_0 (iotaInDim S32 32 0))
    (broadcastInDim S32x1 ![] bcast_S_S32x1 (constantI S_ 32 1#32))) (broadcastInDim S32x1 ![] bcast_S_S32x1 (constantI S_ 32 64#32))))
    (broadcastInDim S32x192 ![0, 1] bcast_S1x192_S32x192_0_1 (broadcastInDim S1x192 ![1] bcast_S192_S1x192_1 (iotaInDim S192 32 0)))

/-- The reference's mask: the key is within 64 positions of the query and lies in the sequence. -/
def seen : IVec S32x64x192 1 :=
  andi (cmpi .sle (absi (subi (broadcastInDim S32x64x192 ![0, 1, 2] bcast_S32x64x1_S32x64x192_0_1_2
      (broadcastInDim S32x64x1 ![0, 1] bcast_S32x64_S32x64x1_0_1 (shapeCast _ (iotaInDim S2048 32 0) shapeCasts_S2048_S32x64)))
    (broadcastInDim S32x64x192 ![0, 1, 2] bcast_S32x1x192_S32x64x192_0_1_2 (broadcastInDim S32x1x192 ![0, 2] bcast_S32x192_S32x1x192_0_2 keyPos))))
    (broadcastInDim S32x64x192 ![] bcast_S_S32x64x192 (constantI S_ 32 64#32)))
    (broadcastInDim S32x64x192 ![0, 1, 2] bcast_S32x1x192_S32x64x192_0_1_2 (broadcastInDim S32x1x192 ![0, 2] bcast_S32x192_S32x1x192_0_2
      (andi (cmpi .sge keyPos (broadcastInDim S32x192 ![] bcast_S_S32x192 (constantI S_ 32 0#32)))
        (cmpi .slt keyPos (broadcastInDim S32x192 ![] bcast_S_S32x192 (constantI S_ 32 2048#32))))))

/-- The masked scores of every query against its window of keys. -/
def scores (q : FVec Ideal S8x2048x4x64 .f32) (kw : FVec Ideal S8x32x192x4x64 .f32) (b : IVec S32x64x192 1) : FVec Ideal S8x32x4x64x192 .f32 :=
  select (broadcastInDim S8x32x4x64x192 ![0, 1, 2, 3, 4] bcast_S1x32x1x64x192_S8x32x4x64x192_0_1_2_3_4
      (broadcastInDim S1x32x1x64x192 ![1, 3, 4] bcast_S32x64x192_S1x32x1x64x192_1_3_4 b))
    (Host.dotGeneral dot_S8x32x64x4x64_S8x32x192x4x64_S8x32x4x64x192_4_4_2_2_013_013 none
      (shapeCast _ q shapeCasts_S8x2048x4x64_S8x32x64x4x64) kw)
    (broadcastInDim S8x32x4x64x192 ![] bcast_S_S8x32x4x64x192 (id (constant S_ .f32 0xFF800000#32)))

/-- The greatest of a query's scores. -/
def tops (s : FVec Ideal S8x32x4x64x192 .f32) : FVec Ideal S8x32x4x64 .f32 :=
  Host.reduce FloatOps.maximumf s (constant S_ .f32 0xFF800000#32) reducesTo_S8x32x4x64x192_S8x32x4x64_d4 h_S_

/-- One number a query, at every key of its window. -/
def over (t : FVec Ideal S8x32x4x64 .f32) : FVec Ideal S8x32x4x64x192 .f32 :=
  broadcastInDim S8x32x4x64x192 ![0, 1, 2, 3, 4] bcast_S8x32x4x64x1_S8x32x4x64x192_0_1_2_3_4
    (broadcastInDim S8x32x4x64x1 ![0, 1, 2, 3] bcast_S8x32x4x64_S8x32x4x64x1_0_1_2_3 t)

/-- The exponentials of a query's scores less their greatest. -/
def exps (s : FVec Ideal S8x32x4x64x192 .f32) : FVec Ideal S8x32x4x64x192 .f32 := Host.exp (subf s (over (tops s)))

/-- The sum of the exponentials. -/
def dens (e : FVec Ideal S8x32x4x64x192 .f32) : FVec Ideal S8x32x4x64 .f32 :=
  Host.reduceAdd e (constant S_ .f32 0x00000000#32) reducesTo_S8x32x4x64x192_S8x32x4x64_d4 h_S_

/-- The sequences' rows back at their places in the batches. -/
def back (z : FVec Ideal S8x32x64x4x64 .f32) : FVec Ideal S2x2048x1024 .f32 :=
  shapeCast _ (transpose S2x2048x4x4x64 [0, 2, 1, 3, 4] (shapeCast _ z shapeCasts_S8x32x64x4x64_S2x4x2048x4x64)
    transposes_S2x4x2048x4x64_S2x2048x4x4x64_0_2_1_3_4) shapeCasts_S2x2048x4x4x64_S2x2048x1024

/-- The values weighted by the quotients of two arrays. -/
def weigh (vw : FVec Ideal S8x32x192x4x64 .f32) (e f : FVec Ideal S8x32x4x64x192 .f32) : FVec Ideal S8x32x64x4x64 .f32 :=
  transpose S8x32x64x4x64 [0, 1, 4, 2, 3] (Host.dotGeneral
    dot_S8x32x192x4x64_S8x32x4x64x192_S8x32x4x64x64_2_4_4_3_013_012 none vw (Host.divf e f))
    transposes_S8x32x4x64x64_S8x32x64x4x64_0_1_4_2_3

/-- The values weighted by the normalized exponentials. -/
def mixed (vw : FVec Ideal S8x32x192x4x64 .f32) (s : FVec Ideal S8x32x4x64x192 .f32) : FVec Ideal S8x32x64x4x64 .f32 :=
  weigh vw (exps s) (over (dens (exps s)))

/-- One array plus another's logarithms, across a head's columns. -/
def spread (t f : FVec Ideal S8x32x4x64 .f32) : FVec Ideal S8x32x64x4x64 .f32 :=
  broadcastInDim S8x32x64x4x64 ![0, 1, 2, 3, 4] bcast_S8x32x64x4x1_S8x32x64x4x64_0_1_2_3_4
    (broadcastInDim S8x32x64x4x1 ![0, 1, 2, 3] bcast_S8x32x64x4_S8x32x64x4x1_0_1_2_3
      (transpose S8x32x64x4 [0, 1, 3, 2] (addf t (Host.log f)) transposes_S8x32x4x64_S8x32x64x4_0_1_3_2))

/-- The logarithm of each query's denominator, across a head's columns. -/
def logs (s : FVec Ideal S8x32x4x64x192 .f32) : FVec Ideal S8x32x64x4x64 .f32 := spread (tops s) (dens (exps s))

/-- The reference's first result, stage by stage. -/
theorem res_out_eq (m : (ℓ : Loc nD τ sig) → Buf (Elt Ideal) ℓ) (c : Dev nD) : Value.res_main_v78 (F := Ideal) m c =
    (let x := m ((c.tc : Thread nD τ).loc main_arg0)
     truncf .bf16 (back (mixed (windows (values x)) (scores (queries x) (windows (keys x)) seen))) bitsLt_bf16_f32) := rfl

/-- The reference's second result, stage by stage. -/
theorem res_lse_eq (m : (ℓ : Loc nD τ sig) → Buf (Elt Ideal) ℓ) (c : Dev nD) : Value.res_main_v81 (F := Ideal) m c =
    (let x := m ((c.tc : Thread nD τ).loc main_arg0)
     back (logs (scores (queries x) (windows (keys x)) seen))) := rfl

/-- Column `d` of head `h` of part `c` of the projections, at position `p` of sequence `n`. -/
def el (x : FVec Ideal S2x2048x9216 .bf16) (c : Fin 9) (n : Fin 8) (p : Fin 2048) (h : Fin 4) (d : Fin 64) : EReal :=
  x (ix3 ⟨n / 4, by omega⟩ p ⟨n % 4 * 2304 + c * 256 + h * 64 + d, by omega⟩)

theorem queries_at (x : FVec Ideal S2x2048x9216 .bf16) (n : Fin 8) (p : Fin 2048) (h : Fin 4) (d : Fin 64) :
    queries x (ix4 n p h d) = el x 1 n p h d := by
  pointwise [queries, el]

theorem keys_at (x : FVec Ideal S2x2048x9216 .bf16) (n : Fin 8) (p : Fin 2048) (h : Fin 4) (d : Fin 64) :
    keys x (ix4 n p h d) = el x 4 n p h d := by
  pointwise [keys, el]

theorem values_at (x : FVec Ideal S2x2048x9216 .bf16) (n : Fin 8) (p : Fin 2048) (h : Fin 4) (d : Fin 64) :
    values x (ix4 n p h d) = el x 7 n p h d := by
  pointwise [values, el]

/-- Row `p` of a sequence padded by 64 rows of zeros at each end. -/
def padRow (y : FVec Ideal S8x2048x4x64 .f32) (n : Fin 8) (p : ℕ) (h : Fin 4) (d : Fin 64) : EReal :=
  if hp : 64 ≤ p ∧ p - 64 < 2048 then y (ix4 n ⟨p - 64, hp.2⟩ h d) else 0

theorem windows_at (y : FVec Ideal S8x2048x4x64 .f32) (n : Fin 8) (u : Fin 32) (j : Fin 192) (h : Fin 4) (d : Fin 64) :
    windows y (ix5 n u j h d) = padRow y n (u * 64 + j) h d := by
  have hz : (FloatOps.sitofp FTy.f32 0#32 : Ideal .f32) = 0 := by
    change (((0#32 : BitVec 32).toInt : ℝ) : EReal) = 0
    simp
  pointwise [windows, hz]
  by_cases h1 : (j : ℕ) < 64
  · rw [dif_pos h1]; rfl
  · rw [dif_neg h1]
    by_cases h2 : (j : ℕ) - 64 < 64
    · rw [dif_pos h2]
      refine (show _ = padRow y n ((1 + u) * 64 + (j - 64)) h d from rfl).trans (congrArg (padRow y n · h d) ?_)
      omega
    · rw [dif_neg h2]
      refine (show _ = padRow y n ((2 + u) * 64 + (j - 64 - 64)) h d from rfl).trans (congrArg (padRow y n · h d) ?_)
      omega

theorem seen_at (u : Fin 32) (r : Fin 64) (j : Fin 192) : seen (ix3 u r j) = 1#1 ↔ Near 2048 (u * 64 + r) (u * 64 + j + 64) := by
  pointwise [seen, keyPos]
  obtain ⟨h1, h2, h3⟩ := near_words 2048 (u * 64 + r) (u * 64 + j + 64) (by omega) (by omega) (by omega) _ _ _ _ (query_word64 u r) (key_word64 u j)
    (by push_cast; ring) (by push_cast; ring)
  rw [h1, h2, h3, and_bit, and_bit, bit_one]
  simp only [Bool.and_eq_true, decide_eq_true_eq, Near, and_assoc]

theorem scores_at (q : FVec Ideal S8x2048x4x64 .f32) (kw : FVec Ideal S8x32x192x4x64 .f32) (b : IVec S32x64x192 1) (n : Fin 8) (u : Fin 32)
    (h : Fin 4) (r : Fin 64) (j : Fin 192) : scores q kw b (ix5 n u h r j)
      = if b (ix3 u r j) = 1#1 then ∑ x, q (ix4 n ⟨u * 64 + r, by omega⟩ h x) * kw (ix5 n u j h x) else ⊥ := by
  have hb : (id (constant S_ FTy.f32 4286578688#32) ix0 : Ideal .f32) = ⊥ := ofBits_bot
  pointwise [scores]
  rw [hb]
  rfl

theorem fiber (n : Fin 8) (u : Fin 32) (h : Fin 4) (r : Fin 64) (i : S8x32x4x64x192.Idx) :
    reducesTo_S8x32x4x64x192_S8x32x4x64_d4.drop i = ix4 n u h r ↔ ∃ k : Fin 192, ix5 n u h r k = i := by
  constructor
  · intro e
    refine ⟨i 4, ?_⟩
    funext a
    apply Fin.ext
    match a with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => exact (congrArg Fin.val (congrFun e 3)).symm
    | ⟨4, _⟩ => rfl
  · rintro ⟨k, rfl⟩
    funext a
    apply Fin.ext
    match a with
    | ⟨0, _⟩ => rfl
    | ⟨1, _⟩ => rfl
    | ⟨2, _⟩ => rfl
    | ⟨3, _⟩ => rfl

theorem tops_at (s : FVec Ideal S8x32x4x64x192 .f32) (n : Fin 8) (u : Fin 32) (h : Fin 4) (r : Fin 64) :
    tops s (ix4 n u h r) = sup fun j => s (ix5 n u h r j) := by
  unfold tops
  rw [Cert.BandProof.hostMax, Finset.fold_filter_eq_fold_of_fiber max _ (fun j : Fin 192 => ix5 n u h r j) (fun _ _ e => congrFun e 4) (fiber n u h r)]
  rfl

theorem over_at (t : FVec Ideal S8x32x4x64 .f32) (n : Fin 8) (u : Fin 32) (h : Fin 4) (r : Fin 64) (j : Fin 192) :
    over t (ix5 n u h r j) = t (ix4 n u h r) := by
  unfold over broadcastInDim
  refine congrArg t (funext fun a => Fin.ext ?_)
  match a with
    | ⟨0, _⟩ => rfl
    | ⟨1, _⟩ => rfl
    | ⟨2, _⟩ => rfl
    | ⟨3, _⟩ => rfl

theorem exps_at (s : FVec Ideal S8x32x4x64x192 .f32) (n : Fin 8) (u : Fin 32) (h : Fin 4) (r : Fin 64) (j : Fin 192) :
    exps s (ix5 n u h r j) = wt (fun j => s (ix5 n u h r j)) j := by
  unfold exps
  exact congrArg (fun x => Ideal.exp (s (ix5 n u h r j) - x)) ((over_at (tops s) n u h r j).trans (tops_at s n u h r))

theorem dens_at (s : FVec Ideal S8x32x4x64x192 .f32) (n : Fin 8) (u : Fin 32) (h : Fin 4) (r : Fin 64) :
    dens (exps s) (ix4 n u h r) = tot fun j => s (ix5 n u h r j) := by
  unfold dens
  rw [Cert.BandProof.hostSum, Finset.sum_filter_eq_sum_of_fiber _ (fun j : Fin 192 => ix5 n u h r j) (fun _ _ e => congrFun e 4) (fiber n u h r)]
  refine Eq.trans (congrArg (· + _) (by simp [Ideal.ofBits, Ideal.ieee, constant] : (constant S_ FTy.f32 0x00000000#32 (Shape.Idx.first h_S_) : Ideal .f32) = 0))
    ((zero_add _).trans (Finset.sum_congr rfl fun j _ => exps_at s n u h r j))

theorem back_at (z : FVec Ideal S8x32x64x4x64 .f32) (b : Fin 2) (p : Fin 2048) (n : Fin 1024) :
    back z (ix3 b p n) = z (ix5 ⟨b * 4 + n / 256, by omega⟩ ⟨p / 64, by omega⟩ ⟨p % 64, by omega⟩ ⟨n / 64 % 4, by omega⟩ ⟨n % 64, by omega⟩) := by
  pointwise [back]

theorem weigh_at (vw : FVec Ideal S8x32x192x4x64 .f32) (e f : FVec Ideal S8x32x4x64x192 .f32) (n : Fin 8) (u : Fin 32) (r : Fin 64)
    (h : Fin 4) (d : Fin 64) : weigh vw e f (ix5 n u r h d) = ∑ j, vw (ix5 n u j h d) * Ideal.div (e (ix5 n u h r j)) (f (ix5 n u h r j)) := by
  pointwise [weigh]

theorem mixed_at (vw : FVec Ideal S8x32x192x4x64 .f32) (s : FVec Ideal S8x32x4x64x192 .f32) (n : Fin 8) (u : Fin 32) (r : Fin 64)
    (h : Fin 4) (d : Fin 64) : mixed vw s (ix5 n u r h d) = each (fun j => s (ix5 n u h r j)) fun j => vw (ix5 n u j h d) := by
  unfold mixed
  rw [weigh_at]
  simp only [exps_at, over_at, dens_at]
  rfl

theorem spread_at (t f : FVec Ideal S8x32x4x64 .f32) (n : Fin 8) (u : Fin 32) (r : Fin 64) (h : Fin 4) (d : Fin 64) :
    spread t f (ix5 n u r h d) = t (ix4 n u h r) + Ideal.log (f (ix4 n u h r)) := by
  pointwise [spread]

theorem logs_at (s : FVec Ideal S8x32x4x64x192 .f32) (n : Fin 8) (u : Fin 32) (r : Fin 64) (h : Fin 4) (d : Fin 64) :
    logs s (ix5 n u r h d) = lse fun j => s (ix5 n u h r j) := by
  unfold logs
  rw [spread_at, tops_at, dens_at]
  rfl

/-- The masked scores of the query at position `p` of sequence `n`, against head `h`'s keys of its window. -/
def scoreRow (x : FVec Ideal S2x2048x9216 .bf16) (n : Fin 8) (p : Fin 2048) (h : Fin 4) (j : Fin 192) : EReal :=
  if Near 2048 p (p / 64 * 64 + j + 64) then ∑ d : Fin 64, el x 1 n p h d * padRow (keys x) n (p / 64 * 64 + j) h d else ⊥

/-- The dilated attention at column `n` of row `p` of batch `b`. -/
def outAt (x : FVec Ideal S2x2048x9216 .bf16) (b : Fin 2) (p : Fin 2048) (n : Fin 1024) : EReal :=
  each (scoreRow x ⟨b * 4 + n / 256, by omega⟩ p ⟨n / 64 % 4, by omega⟩)
    fun j => padRow (values x) ⟨b * 4 + n / 256, by omega⟩ (p / 64 * 64 + j) ⟨n / 64 % 4, by omega⟩ ⟨n % 64, by omega⟩

/-- The logarithm of its denominator. -/
def lseAt (x : FVec Ideal S2x2048x9216 .bf16) (b : Fin 2) (p : Fin 2048) (n : Fin 1024) : EReal :=
  lse (scoreRow x ⟨b * 4 + n / 256, by omega⟩ p ⟨n / 64 % 4, by omega⟩)

/-- The dilated attention, element by element. -/
def out (x : FVec Ideal S2x2048x9216 .bf16) : FVec Ideal S2x2048x1024 .bf16 := fun i => outAt x (i 0) (i 1) (i 2)

/-- The logarithms of its denominators, element by element. -/
def outLse (x : FVec Ideal S2x2048x9216 .bf16) : FVec Ideal S2x2048x1024 .f32 := fun i => lseAt x (i 0) (i 1) (i 2)

theorem row_eq (x : FVec Ideal S2x2048x9216 .bf16) (n : Fin 8) (p : Fin 2048) (h : Fin 4) (j : Fin 192) :
    scores (queries x) (windows (keys x)) seen (ix5 n ⟨p / 64, by omega⟩ h ⟨p % 64, by omega⟩ j) = scoreRow x n p h j := by
  rw [scores_at]
  unfold scoreRow
  have hp : (⟨p.val / 64 * 64 + p.val % 64, by omega⟩ : Fin 2048) = p := Fin.ext (show p.val / 64 * 64 + p.val % 64 = p.val by omega)
  have hn : (p.val / 64 * 64 + p.val % 64) = p.val := by omega
  refine if_congr ((seen_at _ _ _).trans (by rw [show ((⟨p.val / 64, by omega⟩ : Fin 32).val * 64 + (⟨p.val % 64, by omega⟩ : Fin 64).val) = p.val from hn]))
    (Finset.sum_congr rfl fun d _ => ?_) rfl
  rw [windows_at, queries_at]
  exact congrArg (fun z => el x 1 n z h d * _) hp

theorem res_out (x : FVec Ideal S2x2048x9216 .bf16) :
    truncf .bf16 (back (mixed (windows (values x)) (scores (queries x) (windows (keys x)) seen))) bitsLt_bf16_f32 = out x := by
  funext i
  obtain ⟨b, p, n, rfl⟩ : ∃ (b : Fin 2) (p : Fin 2048) (n : Fin 1024), i = ix3 b p n := ⟨i 0, i 1, i 2, by funext a; fin_cases a <;> rfl⟩
  refine (show _ = back (mixed (windows (values x)) (scores (queries x) (windows (keys x)) seen)) (ix3 b p n) from rfl).trans ((back_at _ b p n).trans ?_)
  rw [mixed_at]
  show _ = outAt x b p n
  unfold outAt
  simp only [row_eq, windows_at]

theorem res_lse (x : FVec Ideal S2x2048x9216 .bf16) : back (logs (scores (queries x) (windows (keys x)) seen)) = outLse x := by
  funext i
  obtain ⟨b, p, n, rfl⟩ : ∃ (b : Fin 2) (p : Fin 2048) (n : Fin 1024), i = ix3 b p n := ⟨i 0, i 1, i 2, by funext a; fin_cases a <;> rfl⟩
  refine (back_at _ b p n).trans ?_
  rw [logs_at]
  show _ = lseAt x b p n
  unfold lseAt
  simp only [row_eq]

/-- Every run of the reference program ends with the dilated attention of its argument and the logarithms of its
    denominators, and leaves the argument as it was. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v78) = out (m ((c : Thread nD τ).loc main_arg0))
      ∧ r.2.mem ((c.tc : Thread nD τ).loc main_v81) = outLse (m ((c : Thread nD τ).loc main_arg0))
      ∧ r.2.mem ((c.tc : Thread nD τ).loc main_arg0) = m ((c.tc : Thread nD τ).loc main_arg0) :=
  (θ_run defs _ _).mono (fun _ h c => ⟨(h c).1.trans ((res_out_eq m c).trans (res_out _)), (h c).2.1.trans ((res_lse_eq m c).trans (res_lse _)),
    (h c).2.2⟩) (Value.run m ρ)

end Cert.Dil4Proof
-- ==== Proof.Dil4Array.lean ====
module

public import proofs.«01_k».proof.Proof.Dil4Kernel
public import proofs.«01_k».proof.Proof.Dil4Ref
public import proofs.«01_k».proof.Proof.BandPoint

@[expose] public section

set_option maxRecDepth 16384

/-!
# The attention at dilation 4: the kernel's whole result arrays

The kernel reads its window as three whole blocks of 128 rows, clamped at the two ends of the array; the reference reads
192 rows of an array padded with zeros. Where the mask lets a key through the two read the same row.
-/

noncomputable section

namespace Cert.Dil4Proof

open Cert.Dil4Ideal Cert.Dil4Ideal.Gen Idealize.ShloMosaic Idealize.ShloMosaic.TcCoe Idealize.SL.Sem Cert.DilProof
open Cert.BandProof (Real' Real'.mul Real'.sum)
open Idealize.ShloMosaic.Pipeline (Dat)

/-- Column `n` of part `c` of the projections of residue `g`, at position `p` of batch `b`. -/
def cell (x : FVec Ideal S2x2048x9216 .bf16) (c : ℕ) (hc : c < 9) (b : Fin 2) (g : Fin 4) (p : Fin 2048) (n : Fin 256) : EReal :=
  x (ix3 b p ⟨g * 2304 + c * 256 + n, by omega⟩)

theorem el_cell (x : FVec Ideal S2x2048x9216 .bf16) (c : Fin 9) (b : Fin 2) (g : Fin 4) (p : Fin 2048) (h : Fin 4) (d : Fin 64) (N : Fin 8)
    (hN : N.val = b * 4 + g) : el x c N p h d = cell x c.val c.isLt b g p ⟨h * 64 + d, by omega⟩ := by
  unfold el cell
  refine congrArg x ?_
  congr 1
  · exact Fin.ext (show N.val / 4 = b.val by omega)
  · exact Fin.ext (show N.val % 4 * 2304 + c.val * 256 + h.val * 64 + d.val = g.val * 2304 + c.val * 256 + (h.val * 64 + d.val) by omega)

theorem cell_eq (x : FVec Ideal S2x2048x9216 .bf16) (c : ℕ) (hc : c < 9) (b : Fin 2) (g : Fin 4) (p : Fin 2048) (n : Fin 256) :
    x (ix3 b p ⟨(g * 9 + c) * 256 + n, by omega⟩) = cell x c hc b g p n :=
  congrArg x (congrArg (ix3 b p) (Fin.ext (show (g.val * 9 + c) * 256 + n.val = g.val * 2304 + c * 256 + n.val by omega)))

/-- The three blocks read at tile `t`, at a key that lies in the sequence, hold its row. -/
theorem window_row (x : FVec Ideal S2x2048x9216 .bf16) (c : ℕ) (hc : c < 9) (a0 a1 a2 : FVec Ideal S1x128x256 .bf16) (b : Fin 2) (g : Fin 4)
    (t : ℕ) (ht : t < 16)
    (h0 : ∀ (r : Fin 128) (n : Fin 256), a0 (ix3 0 r n) = cell x c hc b g ⟨(t - 1) * 128 + r, by omega⟩ n)
    (h1 : ∀ (r : Fin 128) (n : Fin 256), a1 (ix3 0 r n) = cell x c hc b g ⟨t * 128 + r, by omega⟩ n)
    (h2 : ∀ (r : Fin 128) (n : Fin 256), a2 (ix3 0 r n) = cell x c hc b g ⟨min (t + 1) 15 * 128 + r, by omega⟩ n)
    (j : Fin 384) (n : Fin 256) (p : Fin 2048) (hp : p.val + 128 = t * 128 + j) :
    k0_pay1 (F := Ideal) a0 a1 a2 (ix2 j n) = cell x c hc b g p n := by
  rw [block_at]
  split_ifs
  · rw [h0]
    exact congrArg (fun p : Fin 2048 => cell x c hc b g p n) (Fin.ext (show (t - 1) * 128 + j.val = p.val by omega))
  · rw [h1]
    exact congrArg (fun p : Fin 2048 => cell x c hc b g p n) (Fin.ext (show t * 128 + (j.val - 128) = p.val by omega))
  · rw [h2]
    exact congrArg (fun p : Fin 2048 => cell x c hc b g p n) (Fin.ext (show min (t + 1) 15 * 128 + (j.val - 256) = p.val by omega))

/-- The reference's `j`-th key of a query at row `r` of a block, among the kernel's keys. -/
def emb (r : Fin 128) (j : Fin 192) : Fin 384 := ⟨64 + r / 64 * 64 + j, by omega⟩

theorem emb_inj (r : Fin 128) : Function.Injective (emb r) := by
  intro j j' e
  have h : 64 + r.val / 64 * 64 + j.val = 64 + r.val / 64 * 64 + j'.val := congrArg Fin.val e
  exact Fin.ext (by omega)

/-- The kernel's other keys are masked. -/
theorem row_out (i : grid0.Coords) (q : Vec Ideal S1x128x256 .bf16) (k : FVec Ideal S384x256 .bf16) (r : Fin 128) (n : Fin 256) (l : Fin 384)
    (h : ∀ j, emb r j ≠ l) : pointRow i q k r n l = ⊥ := by
  unfold pointRow
  refine if_neg fun hn => ?_
  obtain ⟨h1, h2, -, -⟩ := hn
  exact h ⟨l - (64 + r / 64 * 64), by omega⟩ (Fin.ext (show 64 + r.val / 64 * 64 + (l.val - (64 + r.val / 64 * 64)) = l.val by omega))

/-- A row of the padded keys, where the key lies in the sequence. -/
theorem keys_row (x : FVec Ideal S2x2048x9216 .bf16) (b : Fin 2) (g : Fin 4) (N : Fin 8) (hN : N.val = b * 4 + g) (k : ℕ) (p : Fin 2048)
    (hp : p.val + 64 = k) (h : Fin 4) (d : Fin 64) :
    padRow (keys x) N k h d = cell x 4 (by decide) b g p ⟨h * 64 + d, by omega⟩ := by
  unfold padRow
  rw [dif_pos ⟨by omega, by omega⟩, keys_at, el_cell x 4 b g _ h d N hN]
  exact congrArg (fun p : Fin 2048 => cell x 4 (by decide) b g p _) (Fin.ext (show k - 64 = p.val by omega))

/-- A row of the padded values, where the key lies in the sequence. -/
theorem values_row (x : FVec Ideal S2x2048x9216 .bf16) (b : Fin 2) (g : Fin 4) (N : Fin 8) (hN : N.val = b * 4 + g) (k : ℕ) (p : Fin 2048)
    (hp : p.val + 64 = k) (h : Fin 4) (d : Fin 64) :
    padRow (values x) N k h d = cell x 7 (by decide) b g p ⟨h * 64 + d, by omega⟩ := by
  unfold padRow
  rw [dif_pos ⟨by omega, by omega⟩, values_at, el_cell x 7 b g _ h d N hN]
  exact congrArg (fun p : Fin 2048 => cell x 7 (by decide) b g p _) (Fin.ext (show k - 64 = p.val by omega))

/-- The kernel's scores of the reference's keys are the reference's scores. -/
theorem row_at (x : FVec Ideal S2x2048x9216 .bf16) (i : grid0.Coords) (q1 : Vec Ideal S1x128x256 .bf16) (k0 k1 k2 : FVec Ideal S1x128x256 .bf16)
    (b : Fin 2) (g : Fin 4) (t : ℕ) (hi : (i 2).val = t) (ht : t < 16)
    (hq : ∀ (r : Fin 128) (n : Fin 256), q1 (ix3 0 r n) = cell x 1 (by decide) b g ⟨t * 128 + r, by omega⟩ n)
    (h0 : ∀ (r : Fin 128) (n : Fin 256), k0 (ix3 0 r n) = cell x 4 (by decide) b g ⟨(t - 1) * 128 + r, by omega⟩ n)
    (h1 : ∀ (r : Fin 128) (n : Fin 256), k1 (ix3 0 r n) = cell x 4 (by decide) b g ⟨t * 128 + r, by omega⟩ n)
    (h2 : ∀ (r : Fin 128) (n : Fin 256), k2 (ix3 0 r n) = cell x 4 (by decide) b g ⟨min (t + 1) 15 * 128 + r, by omega⟩ n)
    (r : Fin 128) (n : Fin 256) (p : Fin 2048) (hp : p.val = t * 128 + r) (N : Fin 8) (hN : N.val = b * 4 + g) (h : Fin 4) (hh : h.val = n / 64)
    (j : Fin 192) : pointRow i q1 (k0_pay1 (F := Ideal) k0 k1 k2) r n (emb r j) = scoreRow x N p h j := by
  have e : t * 128 + (emb r j).val = p / 64 * 64 + j + 64 := show t * 128 + (64 + r.val / 64 * 64 + j.val) = p.val / 64 * 64 + j.val + 64 by omega
  unfold pointRow scoreRow
  rw [hi, e, ← hp]
  by_cases hs : Near 2048 p (p / 64 * 64 + j + 64)
  · rw [if_pos hs, if_pos hs]
    obtain ⟨-, -, hs1, hs2⟩ := hs
    refine Finset.sum_congr rfl fun d _ => ?_
    rw [keys_row x b g N hN (p / 64 * 64 + j) ⟨p / 64 * 64 + j - 64, by omega⟩ (show p.val / 64 * 64 + j.val - 64 + 64 = p.val / 64 * 64 + j.val by omega),
      window_row x 4 (by decide) k0 k1 k2 b g t ht h0 h1 h2 (emb r j) _ ⟨p / 64 * 64 + j - 64, by omega⟩
        (show p.val / 64 * 64 + j.val - 64 + 128 = t * 128 + (emb r j).val by omega), hq, el_cell x 1 b g p h d N hN]
    have e1 : (⟨t * 128 + r, by omega⟩ : Fin 2048) = p := Fin.ext hp.symm
    have e2 : (⟨n / 64 * 64 + d, by omega⟩ : Fin 256) = ⟨h * 64 + d, by omega⟩ := Fin.ext (show n.val / 64 * 64 + d.val = h.val * 64 + d.val by omega)
    rw [e1, e2]
    rfl
  · rw [if_neg hs, if_neg hs]

/-- A score the mask lets through is a real number. -/
theorem score_real (x : FVec Ideal S2x2048x9216 .bf16) (hxq : ∀ b g p n, Real' (cell x 1 (by decide) b g p n))
    (hxk : ∀ b g p n, Real' (cell x 4 (by decide) b g p n)) (b : Fin 2) (g : Fin 4) (N : Fin 8) (hN : N.val = b * 4 + g) (p : Fin 2048) (h : Fin 4)
    (j : Fin 192) (hs : Near 2048 p (p / 64 * 64 + j + 64)) : Real' (scoreRow x N p h j) := by
  unfold scoreRow
  rw [if_pos hs]
  obtain ⟨-, -, hs1, hs2⟩ := hs
  refine Real'.sum _ _ fun d => Real'.mul ?_ ?_
  · rw [el_cell x 1 b g p h d N hN]
    exact hxq _ _ _ _
  · rw [keys_row x b g N hN (p / 64 * 64 + j) ⟨p / 64 * 64 + j - 64, by omega⟩ (show p.val / 64 * 64 + j.val - 64 + 64 = p.val / 64 * 64 + j.val by omega)]
    exact hxk _ _ _ _

/-- The kernel's elements of a grid point's blocks are the reference's elements at those blocks' place in the arrays. -/
theorem point_out (x : FVec Ideal S2x2048x9216 .bf16) (hxq : ∀ b g p n, Real' (cell x 1 (by decide) b g p n))
    (hxk : ∀ b g p n, Real' (cell x 4 (by decide) b g p n))
    (i : grid0.Coords) (q1 : Vec Ideal S1x128x256 .bf16) (k0 k1 k2 v0 v1 v2 : FVec Ideal S1x128x256 .bf16)
    (b : Fin 2) (g : Fin 4) (t : ℕ) (hi : (i 2).val = t) (ht : t < 16)
    (hq : ∀ (r : Fin 128) (n : Fin 256), q1 (ix3 0 r n) = cell x 1 (by decide) b g ⟨t * 128 + r, by omega⟩ n)
    (h0 : ∀ (r : Fin 128) (n : Fin 256), k0 (ix3 0 r n) = cell x 4 (by decide) b g ⟨(t - 1) * 128 + r, by omega⟩ n)
    (h1 : ∀ (r : Fin 128) (n : Fin 256), k1 (ix3 0 r n) = cell x 4 (by decide) b g ⟨t * 128 + r, by omega⟩ n)
    (h2 : ∀ (r : Fin 128) (n : Fin 256), k2 (ix3 0 r n) = cell x 4 (by decide) b g ⟨min (t + 1) 15 * 128 + r, by omega⟩ n)
    (hv0 : ∀ (r : Fin 128) (n : Fin 256), v0 (ix3 0 r n) = cell x 7 (by decide) b g ⟨(t - 1) * 128 + r, by omega⟩ n)
    (hv1 : ∀ (r : Fin 128) (n : Fin 256), v1 (ix3 0 r n) = cell x 7 (by decide) b g ⟨t * 128 + r, by omega⟩ n)
    (hv2 : ∀ (r : Fin 128) (n : Fin 256), v2 (ix3 0 r n) = cell x 7 (by decide) b g ⟨min (t + 1) 15 * 128 + r, by omega⟩ n)
    (r : Fin 128) (n : Fin 256) (p : Fin 2048) (hp : p.val = t * 128 + r) (w : Fin 1024) (hw : w.val = g * 256 + n) :
    (whole (pointRow i q1 (k0_pay1 (F := Ideal) k0 k1 k2) r n) fun j => k0_pay2 (F := Ideal) v0 v1 v2 (ix2 j n)) = outAt x b p w
    ∧ lse (pointRow i q1 (k0_pay1 (F := Ideal) k0 k1 k2) r n) = lseAt x b p w := by
  have hN : (⟨b * 4 + w / 256, by omega⟩ : Fin 8).val = b * 4 + g := show b.val * 4 + w.val / 256 = b.val * 4 + g.val by omega
  have hh : (⟨w / 64 % 4, by omega⟩ : Fin 4).val = n / 64 := show w.val / 64 % 4 = n.val / 64 by omega
  have hrow := row_at x i q1 k0 k1 k2 b g t hi ht hq h0 h1 h2 r n p hp _ hN _ hh
  have hreal := score_real x hxq hxk b g _ hN p ⟨w / 64 % 4, by omega⟩
  have hbot : ∀ j : Fin 192, ¬ Near 2048 p (p / 64 * 64 + j + 64) → scoreRow x ⟨b * 4 + w / 256, by omega⟩ p ⟨w / 64 % 4, by omega⟩ j = ⊥ :=
    fun j hs => by unfold scoreRow; exact if_neg hs
  refine ⟨?_, lse_emb (emb r) (emb_inj r) _ (row_out i q1 _ r n) _ hrow⟩
  refine whole_emb (emb r) (emb_inj r) _ _ (row_out i q1 _ r n) _ _ hrow (fun j hj => ?_) (fun j => ?_) ⟨⟨64 + r % 64, by omega⟩, (hreal _ ?_).2⟩
  · by_cases hs : Near 2048 p (p / 64 * 64 + j + 64)
    · obtain ⟨-, -, hs1, hs2⟩ := hs
      rw [values_row x b g _ hN (p / 64 * 64 + j) ⟨p / 64 * 64 + j - 64, by omega⟩ (show p.val / 64 * 64 + j.val - 64 + 64 = p.val / 64 * 64 + j.val by omega),
        block_at' v0 v1 v2, window_row x 7 (by decide) v0 v1 v2 b g t ht hv0 hv1 hv2 (emb r j) n ⟨p / 64 * 64 + j - 64, by omega⟩
          (show p.val / 64 * 64 + j.val - 64 + 128 = t * 128 + (64 + r.val / 64 * 64 + j.val) by omega)]
      exact congrArg (cell x 7 (by decide) b g _) (Fin.ext (show n.val = w.val / 64 % 4 * 64 + w.val % 64 by omega))
    · exact absurd (hbot j hs) hj
  · by_cases hs : Near 2048 p (p / 64 * 64 + j + 64)
    · exact (hreal j hs).1
    · rw [hbot j hs]
      exact bot_ne_top
  · show Near 2048 p (p.val / 64 * 64 + (64 + r.val % 64) + 64)
    exact ⟨by omega, by omega, by omega, by omega⟩

variable (m : (ℓ : Loc nD τ sig) → Buf (Elt Ideal) ℓ)

/-- The block every operand takes at each grid point: the tiles of each residue of each of the two batches; the keys' and
values' previous and next blocks are clamped to the array. -/
theorem idx : ∀ t : Fin cfg0.N, win0_0.index t = ![t.val / 64, t.val % 16, t.val / 16 % 4 * 9 + 1]
    ∧ win0_1.index t = ![t.val / 64, t.val % 16 - 1, t.val / 16 % 4 * 9 + 4]
    ∧ win0_2.index t = ![t.val / 64, t.val % 16, t.val / 16 % 4 * 9 + 4]
    ∧ win0_3.index t = ![t.val / 64, min (t.val % 16 + 1) 15, t.val / 16 % 4 * 9 + 4]
    ∧ win0_4.index t = ![t.val / 64, t.val % 16 - 1, t.val / 16 % 4 * 9 + 7]
    ∧ win0_5.index t = ![t.val / 64, t.val % 16, t.val / 16 % 4 * 9 + 7]
    ∧ win0_6.index t = ![t.val / 64, min (t.val % 16 + 1) 15, t.val / 16 % 4 * 9 + 7]
    ∧ win0_7.index t = ![t.val / 64, t.val % 16, t.val / 16 % 4] ∧ win0_8.index t = ![t.val / 64, t.val % 16, t.val / 16 % 4] :=
  (by decide +kernel : ∀ t : Fin grid0.N, _)

/-- A grid point's tile number. -/
theorem tile : ∀ t : Fin cfg0.N, (grid0.coords t 2).val = t.val % 16 :=
  (by decide +kernel : ∀ t : Fin grid0.N, _)

/-! Each operand's block at a grid point, one element. -/

theorem q_block (c : Dev nD) (t : Fin cfg0.N) (ht : t.val < 128) (r : Fin 128) (n : Fin 256) : iblk m c 0 t (ix3 0 r n)
    = m ((c : Thread nD τ).loc main_arg0) (ix3 ⟨t.val / 64, by omega⟩ ⟨t.val % 16 * 128 + r, by omega⟩ ⟨(t.val / 16 % 4 * 9 + 1) * 256 + n, by omega⟩) := by
  blk_point [iblk, V, idx t]

theorem k_prev (c : Dev nD) (t : Fin cfg0.N) (ht : t.val < 128) (r : Fin 128) (n : Fin 256) : iblk m c 1 t (ix3 0 r n)
    = m ((c : Thread nD τ).loc main_arg0) (ix3 ⟨t.val / 64, by omega⟩ ⟨(t.val % 16 - 1) * 128 + r, by omega⟩ ⟨(t.val / 16 % 4 * 9 + 4) * 256 + n, by omega⟩) := by
  blk_point [iblk, V, idx t]

theorem k_cur (c : Dev nD) (t : Fin cfg0.N) (ht : t.val < 128) (r : Fin 128) (n : Fin 256) : iblk m c 2 t (ix3 0 r n)
    = m ((c : Thread nD τ).loc main_arg0) (ix3 ⟨t.val / 64, by omega⟩ ⟨t.val % 16 * 128 + r, by omega⟩ ⟨(t.val / 16 % 4 * 9 + 4) * 256 + n, by omega⟩) := by
  blk_point [iblk, V, idx t]

theorem k_next (c : Dev nD) (t : Fin cfg0.N) (ht : t.val < 128) (r : Fin 128) (n : Fin 256) : iblk m c 3 t (ix3 0 r n)
    = m ((c : Thread nD τ).loc main_arg0) (ix3 ⟨t.val / 64, by omega⟩ ⟨min (t.val % 16 + 1) 15 * 128 + r, by omega⟩ ⟨(t.val / 16 % 4 * 9 + 4) * 256 + n, by omega⟩) := by
  blk_point [iblk, V, idx t]

theorem v_prev (c : Dev nD) (t : Fin cfg0.N) (ht : t.val < 128) (r : Fin 128) (n : Fin 256) : iblk m c 4 t (ix3 0 r n)
    = m ((c : Thread nD τ).loc main_arg0) (ix3 ⟨t.val / 64, by omega⟩ ⟨(t.val % 16 - 1) * 128 + r, by omega⟩ ⟨(t.val / 16 % 4 * 9 + 7) * 256 + n, by omega⟩) := by
  blk_point [iblk, V, idx t]

theorem v_cur (c : Dev nD) (t : Fin cfg0.N) (ht : t.val < 128) (r : Fin 128) (n : Fin 256) : iblk m c 5 t (ix3 0 r n)
    = m ((c : Thread nD τ).loc main_arg0) (ix3 ⟨t.val / 64, by omega⟩ ⟨t.val % 16 * 128 + r, by omega⟩ ⟨(t.val / 16 % 4 * 9 + 7) * 256 + n, by omega⟩) := by
  blk_point [iblk, V, idx t]

theorem v_next (c : Dev nD) (t : Fin cfg0.N) (ht : t.val < 128) (r : Fin 128) (n : Fin 256) : iblk m c 6 t (ix3 0 r n)
    = m ((c : Thread nD τ).loc main_arg0) (ix3 ⟨t.val / 64, by omega⟩ ⟨min (t.val % 16 + 1) 15 * 128 + r, by omega⟩ ⟨(t.val / 16 % 4 * 9 + 7) * 256 + n, by omega⟩) := by
  blk_point [iblk, V, idx t]

/-- Where a grid point's blocks of the results lie in the arrays. -/
theorem out_place (t : Fin cfg0.N) (ht : t.val < 128) (r : Fin 128) (n : Fin 256) :
    (win0_7.blk t).view.emb (ix3 0 r n) = ix3 ⟨t.val / 64, by omega⟩ ⟨t.val % 16 * 128 + r, by omega⟩ ⟨t.val / 16 % 4 * 256 + n, by omega⟩ := by
  blk_point [idx t]

theorem lse_place (t : Fin cfg0.N) (ht : t.val < 128) (r : Fin 128) (n : Fin 256) :
    (win0_8.blk t).view.emb (ix3 0 r n) = ix3 ⟨t.val / 64, by omega⟩ ⟨t.val % 16 * 128 + r, by omega⟩ ⟨t.val / 16 % 4 * 256 + n, by omega⟩ := by
  blk_point [idx t]

/-- A grid point's elements of the two results. -/
theorem point_at (c : Dev nD) (hxq : ∀ b g p n, Real' (cell (m ((c : Thread nD τ).loc main_arg0)) 1 (by decide) b g p n))
    (hxk : ∀ b g p n, Real' (cell (m ((c : Thread nD τ).loc main_arg0)) 4 (by decide) b g p n)) (t : Fin cfg0.N) (ht : t.val < 128) (r : Fin 128) (n : Fin 256) :
    (whole (pointRow (grid0.coords t) (iblk m c 0 t) (k0_pay1 (F := Ideal) (iblk m c 1 t) (iblk m c 2 t) (iblk m c 3 t)) r n)
        fun j => k0_pay2 (F := Ideal) (iblk m c 4 t) (iblk m c 5 t) (iblk m c 6 t) (ix2 j n))
      = outAt (m ((c : Thread nD τ).loc main_arg0)) ⟨t.val / 64, by omega⟩ ⟨t.val % 16 * 128 + r, by omega⟩ ⟨t.val / 16 % 4 * 256 + n, by omega⟩
    ∧ lse (pointRow (grid0.coords t) (iblk m c 0 t) (k0_pay1 (F := Ideal) (iblk m c 1 t) (iblk m c 2 t) (iblk m c 3 t)) r n)
      = lseAt (m ((c : Thread nD τ).loc main_arg0)) ⟨t.val / 64, by omega⟩ ⟨t.val % 16 * 128 + r, by omega⟩ ⟨t.val / 16 % 4 * 256 + n, by omega⟩ :=
  point_out (m ((c : Thread nD τ).loc main_arg0)) hxq hxk (grid0.coords t) _ _ _ _ _ _ _ ⟨t.val / 64, by omega⟩ ⟨t.val / 16 % 4, by omega⟩
    (t.val % 16) (tile t) (Nat.mod_lt _ (by decide))
    (fun r n => (q_block m c t ht r n).trans (cell_eq _ 1 (by decide) _ ⟨t.val / 16 % 4, by omega⟩ _ n))
    (fun r n => (k_prev m c t ht r n).trans (cell_eq _ 4 (by decide) _ ⟨t.val / 16 % 4, by omega⟩ _ n))
    (fun r n => (k_cur m c t ht r n).trans (cell_eq _ 4 (by decide) _ ⟨t.val / 16 % 4, by omega⟩ _ n))
    (fun r n => (k_next m c t ht r n).trans (cell_eq _ 4 (by decide) _ ⟨t.val / 16 % 4, by omega⟩ _ n))
    (fun r n => (v_prev m c t ht r n).trans (cell_eq _ 7 (by decide) _ ⟨t.val / 16 % 4, by omega⟩ _ n))
    (fun r n => (v_cur m c t ht r n).trans (cell_eq _ 7 (by decide) _ ⟨t.val / 16 % 4, by omega⟩ _ n))
    (fun r n => (v_next m c t ht r n).trans (cell_eq _ 7 (by decide) _ ⟨t.val / 16 % 4, by omega⟩ _ n))
    r n _ rfl _ rfl

/-- The kernel's first result array is the dilated attention of its argument. -/
theorem final (c : Dev nD) (hxq : ∀ b g p n, Real' (cell (m ((c : Thread nD τ).loc main_arg0)) 1 (by decide) b g p n))
    (hxk : ∀ b g p n, Real' (cell (m ((c : Thread nD τ).loc main_arg0)) 4 (by decide) b g p n)) :
    (dats m 0 c).arrAt 7 (cfgs 0).N = out (m ((c : Thread nD τ).loc main_arg0)) := by
  refine (dats m 0 c).arrAt_eq_of_covers 7 _ (by decide +kernel) fun t _ y => ?_
  blk_simp
  rw [after0_7, outs_at]
  have ht : t.val < 128 := t.isLt
  have hy : (y 1).val < 128 := (y 1).isLt
  idx_vars y
  obtain rfl : y0 = 0 := Subsingleton.elim _ _
  exact (point_at m c hxq hxk t ht y1 y2).1.trans (congrArg (out (m ((c : Thread nD τ).loc main_arg0))) (out_place t ht y1 y2)).symm

/-- The kernel's second result array is the logarithms of its denominators. -/
theorem finalLse (c : Dev nD) (hxq : ∀ b g p n, Real' (cell (m ((c : Thread nD τ).loc main_arg0)) 1 (by decide) b g p n))
    (hxk : ∀ b g p n, Real' (cell (m ((c : Thread nD τ).loc main_arg0)) 4 (by decide) b g p n)) :
    (dats m 0 c).arrAt 8 (cfgs 0).N = outLse (m ((c : Thread nD τ).loc main_arg0)) := by
  refine (dats m 0 c).arrAt_eq_of_covers 8 _ (by decide +kernel) fun t _ y => ?_
  blk_simp
  rw [after0_8, logs_of]
  have ht : t.val < 128 := t.isLt
  have hy : (y 1).val < 128 := (y 1).isLt
  idx_vars y
  obtain rfl : y0 = 0 := Subsingleton.elim _ _
  exact (point_at m c hxq hxk t ht y1 y2).2.trans (congrArg (outLse (m ((c : Thread nD τ).loc main_arg0))) (lse_place t ht y1 y2)).symm

end Cert.Dil4Proof
-- ==== Proof.Dil4Final.lean ====
module

public import proofs.«01_k».proof.Proof.Dil4Array
public import proofs.«01_k».proof.Proof.BandFinal
public import proofs.«01_k».proof.Proof.Gen.Dil4.Frame
public import proofs.«01_k».proof.Defs
public import Idealize.ShloMosaic.Lib.Claim

@[expose] public section

set_option maxRecDepth 16384

/-!
# The attention at dilation 4: the claims
-/

noncomputable section

namespace Cert.Dil4Proof

open Idealize.ShloMosaic Idealize.ShloMosaic.TcCoe Idealize.SL.Sem
open Cert.BandProof (Real' real_of_bits)

/-- The side conditions of the precondition's own operations. -/
theorem preFacts : Cert.Pre_finite_dil4.Facts := ⟨by decide, by decide, by decide, by decide, by decide⟩

attribute [local instance] preFacts

/-- What the precondition says of the queries and the keys. -/
theorem pre_at (x : FVec Ideal Cert.Pre_finite_dil4.S2x2048x9216 .bf16) (hx : Cert.Pre_finite_dil4.fn (F := Ideal) x = fun _ => 1#1) :
    (∀ b g p n, Real' (cell x 1 (by decide) b g p n)) ∧ ∀ b g p n, Real' (cell x 4 (by decide) b g p n) := by
  have key : ∀ (b : Fin 2) (g : Fin 4) (p : Fin 2048) (a : Fin 2) (n : Fin 256),
      Real' (x (ix3 b p ⟨g * 2304 + a * 768 + 1 * 256 + n, by omega⟩)) := by
    intro b g p a n
    have h := congrFun hx (ix5 b p g a n)
    simp only [Cert.Pre_finite_dil4.fn] at h
    pointwise at h
    refine (congrArg Real' (congrArg x ?_)).mp (real_of_bits _ h)
    congr 1
  exact ⟨fun b g p n => (congrArg Real' (congrArg x (congrArg (ix3 b p) (Fin.ext (show g.val * 2304 + 0 * 768 + 1 * 256 + n.val = g.val * 2304 + 1 * 256 + n.val by omega))))).mp (key b g p 0 n),
    fun b g p n => (congrArg Real' (congrArg x (congrArg (ix3 b p) (Fin.ext (show g.val * 2304 + 1 * 768 + 1 * 256 + n.val = g.val * 2304 + 4 * 256 + n.val by omega))))).mp (key b g p 1 n)⟩

/-- Kernel and reference end with equal results, where the queries and the keys are finite. -/
theorem algebraic : Cert.algebraic_Dil4Ideal_Dil4RefIdeal_pre_finite_dil4 := by
  pair_intro
  · run_from Cert.Dil4Ideal.Gen.run_main m g
  · run_from ref_run m' g'
    · exact (final m c (pre_at _ (hpre c)).1 (pre_at _ (hpre c)).2).symm
    · exact (finalLse m c (pre_at _ (hpre c)).1 (pre_at _ (hpre c)).2).symm

/-- The original kernel runs, leaves its argument as it was and every counter at zero. -/
theorem frame : Cert.quiescent_Dil4 := fun m ρ _ => Cert.Dil4.Gen.frame m ρ

/-- So does the kernel at its named mask. -/
theorem frameIdeal : Cert.quiescent_Dil4Ideal := fun m ρ _ => Cert.Dil4Ideal.Gen.frame m ρ

/-- The same under the precondition. -/
theorem frameIdealPre : Cert.quiescent_Dil4Ideal_pre_finite_dil4 := fun m ρ _ => Cert.Dil4Ideal.Gen.frame m ρ

/-- So does the reference. -/
theorem frameRef : Cert.quiescent_Dil4RefIdeal := fun m ρ _ =>
  (θ_run Cert.Dil4RefIdeal.defs _ _).mono
    (fun r h => ⟨fun c => (h c).2.2, Idealize.ShloMosaic.sem_eq_zero_of_no_sems (by decide) r.2⟩)
    (Cert.Dil4RefIdeal.Value.run (F := Ideal) m ρ)

/-- The same under the precondition. -/
theorem frameRefPre : Cert.quiescent_Dil4RefIdeal_pre_finite_dil4 := fun m ρ _ => frameRef m ρ trivial

/-- The named mask stands for minus infinity. -/
theorem preserves : Cert.preserves_Dil4_Dil4Ideal := IdealRules.named_const.statement Cert.Dil4Ideal.κ "mask" .f32 0xF149F2CA#32 (⊥ : EReal) rfl

end Cert.Dil4Proof
-- ==== Proof.Dil16Kernel.lean ====
module

public import proofs.«01_k».proof.Proof.Gen.Dil16Ideal.Value
public import proofs.«01_k».proof.Proof.DilMath
public import Idealize.ShloMosaic.Lib.Pipeline.ValueKit
public import Idealize.ShloMosaic.Lib.Pointwise

@[expose] public section

set_option maxRecDepth 16384

/-!
# The attention at dilation 16: one grid point of the kernel
-/

noncomputable section

namespace Cert.Dil16Proof

open Cert.Dil16Ideal Cert.Dil16Ideal.Gen Idealize.ShloMosaic Idealize.ShloMosaic.TcCoe Idealize.SL.Sem Cert.DilProof
open Cert.BandProof (and_bit bit_one query_word' key_word)
open Idealize.ShloMosaic.Pipeline (Dat)

/-- The kernel's mask value is minus infinity. -/
theorem mask_bot : (Named.named κ "mask" 0xF149F2CA#32 : Ideal .f32) = ⊥ := rfl

/-- The masked scores of query `r` of a block against the keys of its window, for the head whose columns begin at `o`. -/
def blockRow (b : IVec S128x384 1) (k : FVec Ideal S384x256 .bf16) (q : FVec Ideal S1x128x64 .bf16) (o : ℕ) (ho : o + 64 ≤ 256) (r : Fin 128)
    (j : Fin 384) : EReal :=
  if b (ix2 r j) = 1#1 then ∑ x : Fin 64, q (ix3 0 r x) * k (ix2 j ⟨o + x, by omega⟩) else ⊥

/-! Each head of the kernel's body, at one element. -/

theorem head0_at (b : IVec S128x384 1) (k v : FVec Ideal S384x256 .bf16) (q : FVec Ideal S1x128x64 .bf16) (r : Fin 128) (d : Fin 64) :
    k0_pay8 (F := Ideal) k v b q (ix3 0 r d) = whole (blockRow b k q 0 (by decide) r) fun j => v (ix2 j ⟨0 + d, by omega⟩) := by
  pointwise [k0_pay8, k0_pay7, k0_pay6, k0_pay5, k0_pay4, mask_bot, Scalar.select]
  rfl

theorem head1_at (b : IVec S128x384 1) (k v : FVec Ideal S384x256 .bf16) (q : FVec Ideal S1x128x64 .bf16) (r : Fin 128) (d : Fin 64) :
    k0_pay15 (F := Ideal) (k0_pay10 v) (k0_pay11 k b q) (k0_pay12 k b q) (ix3 0 r d)
      = whole (blockRow b k q 64 (by decide) r) fun j => v (ix2 j ⟨64 + d, by omega⟩) := by
  pointwise [k0_pay15, k0_pay14, k0_pay13, k0_pay12, k0_pay11, k0_pay10, mask_bot, Scalar.select]
  rfl

theorem head2_at (b : IVec S128x384 1) (k v : FVec Ideal S384x256 .bf16) (q : FVec Ideal S1x128x64 .bf16) (r : Fin 128) (d : Fin 64) :
    k0_pay22 (F := Ideal) (k0_pay21 k v b q) (ix3 0 r d) = whole (blockRow b k q 128 (by decide) r) fun j => v (ix2 j ⟨128 + d, by omega⟩) := by
  pointwise [k0_pay22, k0_pay21, k0_pay20, k0_pay19, k0_pay18, k0_pay17, mask_bot, Scalar.select]
  rfl

theorem head3_at (b : IVec S128x384 1) (k v : FVec Ideal S384x256 .bf16) (q : FVec Ideal S1x128x64 .bf16) (r : Fin 128) (d : Fin 64) :
    k0_pay28 (F := Ideal) k v b q (ix3 0 r d) = whole (blockRow b k q 192 (by decide) r) fun j => v (ix2 j ⟨192 + d, by omega⟩) := by
  pointwise [k0_pay28, k0_pay27, k0_pay26, k0_pay25, k0_pay24, mask_bot, Scalar.select]
  rfl

theorem log0_at (b : IVec S128x384 1) (k : FVec Ideal S384x256 .bf16) (q : FVec Ideal S1x128x64 .bf16) (r : Fin 128) (d : Fin 64) :
    k0_pay9 (F := Ideal) k b q (ix3 0 r d) = lse (blockRow b k q 0 (by decide) r) := by
  pointwise [k0_pay9, k0_pay7, k0_pay6, k0_pay5, k0_pay4, mask_bot, Scalar.select]
  rfl

theorem log1_at (b : IVec S128x384 1) (k : FVec Ideal S384x256 .bf16) (q : FVec Ideal S1x128x64 .bf16) (r : Fin 128) (d : Fin 64) :
    k0_pay16 (F := Ideal) (k0_pay11 k b q) (k0_pay12 k b q) (ix3 0 r d) = lse (blockRow b k q 64 (by decide) r) := by
  pointwise [k0_pay16, k0_pay14, k0_pay13, k0_pay12, k0_pay11, mask_bot, Scalar.select]
  rfl

theorem log2_at (b : IVec S128x384 1) (k : FVec Ideal S384x256 .bf16) (q : FVec Ideal S1x128x64 .bf16) (r : Fin 128) (d : Fin 64) :
    k0_pay23 (F := Ideal) (k0_pay18 k b q) (k0_pay20 k b q) (ix3 0 r d) = lse (blockRow b k q 128 (by decide) r) := by
  pointwise [k0_pay23, k0_pay20, k0_pay19, k0_pay18, k0_pay17, mask_bot, Scalar.select]
  rfl

theorem log3_at (b : IVec S128x384 1) (k : FVec Ideal S384x256 .bf16) (q : FVec Ideal S1x128x64 .bf16) (r : Fin 128) (d : Fin 64) :
    k0_pay29 (F := Ideal) k b q (ix3 0 r d) = lse (blockRow b k q 192 (by decide) r) := by
  pointwise [k0_pay29, k0_pay27, k0_pay26, k0_pay25, k0_pay24, mask_bot, Scalar.select]
  rfl

/-- The kernel's mask at a grid point. -/
theorem mask_at (i : grid0.Coords) (r : Fin 128) (j : Fin 384) : k0_pay3 i (ix2 r j) = 1#1 ↔ Near 512 ((i 2).val * 128 + r) ((i 2).val * 128 + j) := by
  pointwise [k0_pay3]
  have hi : (i 2).val < 4 := (i 2).isLt
  obtain ⟨h1, h2, h3⟩ := near_words 512 ((i 2).val * 128 + r) ((i 2).val * 128 + j) (by omega) (by omega) (by omega) _ _ _ _
    (query_word' (i 2).val r) (key_word (i 2).val j) (by push_cast; ring) (by push_cast; ring)
  erw [h1, h2, h3, and_bit, and_bit, bit_one]
  simp only [Bool.and_eq_true, decide_eq_true_eq, Near, and_assoc]

/-- The masked scores of query `r` of grid point `i`, for the head of column `n`. -/
def pointRow (i : grid0.Coords) (q : Vec Ideal S1x128x256 .bf16) (k : FVec Ideal S384x256 .bf16) (r : Fin 128) (n : Fin 256) (j : Fin 384) : EReal :=
  if Near 512 ((i 2).val * 128 + r) ((i 2).val * 128 + j) then
    ∑ x : Fin 64, q (ix3 0 r ⟨n / 64 * 64 + x, by omega⟩) * k (ix2 j ⟨n / 64 * 64 + x, by omega⟩)
  else ⊥

/-- One head's row is the row of each of its columns. -/
theorem row_piece (i : grid0.Coords) (q : Vec Ideal S1x128x256 .bf16) (k : FVec Ideal S384x256 .bf16)
    (o : ℕ) (ho : o + 64 ≤ 256) (hm : o % 64 = 0) (hin : ∀ a, (![0, 0, o] : Fin 3 → Nat) a + S1x128x64.size a ≤ S1x128x256.size a)
    (r : Fin 128) (n : Fin 256) (h1 : o ≤ n.val) (h2 : n.val < o + 64) :
    blockRow (k0_pay3 i) k (View.ld q (Rect.unit ![0, 0, o] S1x128x64.size hin)) o ho r = pointRow i q k r n := by
  have hq : ∀ (r : Fin 128) (d : Fin 64), View.ld q (Rect.unit ![0, 0, o] S1x128x64.size hin) (ix3 0 r d) = q (ix3 0 r ⟨o + d, by omega⟩) := by
    intro r d
    refine congrArg q (funext fun a => Fin.ext ?_)
    fin_cases a
    · rfl
    · exact (Nat.zero_add _).trans (Nat.one_mul _)
    · exact congrArg (o + ·) (Nat.one_mul _)
  have e : n.val / 64 * 64 = o := by omega
  funext j
  unfold blockRow pointRow
  simp only [mask_at, hq, e]

/-- One head's store is that head's columns of the first result's block. -/
theorem piece (f : FVec Ideal S1x128x64 .bf16) (i : grid0.Coords) (q : Vec Ideal S1x128x256 .bf16) (k v : FVec Ideal S384x256 .bf16)
    (o : ℕ) (ho : o + 64 ≤ 256) (hm : o % 64 = 0) (hin : ∀ a, (![0, 0, o] : Fin 3 → Nat) a + S1x128x64.size a ≤ S1x128x256.size a)
    (hf : ∀ (r : Fin 128) (d : Fin 64), f (ix3 0 r d) = whole (blockRow (k0_pay3 i) k (View.ld q (Rect.unit ![0, 0, o] S1x128x64.size hin)) o ho r)
      fun j => v (ix2 j ⟨o + d, by omega⟩))
    (x : S1x128x64.Idx) (r : Fin 128) (n : Fin 256) (h1 : r.val = (x 1).val) (h2 : n.val = o + (x 2).val) :
    f x = whole (pointRow i q k r n) fun j => v (ix2 j n) := by
  idx_vars x
  obtain rfl : r = x1 := Fin.ext h1
  obtain rfl : x0 = 0 := Subsingleton.elim _ _
  have hd : n.val = o + x2.val := h2
  have hx : x2.val < 64 := x2.isLt
  refine (hf r x2).trans ?_
  rw [row_piece i q k o ho hm hin r n (by omega) (by omega)]
  exact congrArg (whole _) (funext fun j => congrArg (fun z => v (ix2 j z)) (Fin.ext hd.symm))

/-- One head's store is that head's columns of the second result's block. -/
theorem log_piece (f : FVec Ideal S1x128x64 .f32) (i : grid0.Coords) (q : Vec Ideal S1x128x256 .bf16) (k : FVec Ideal S384x256 .bf16)
    (o : ℕ) (ho : o + 64 ≤ 256) (hm : o % 64 = 0) (hin : ∀ a, (![0, 0, o] : Fin 3 → Nat) a + S1x128x64.size a ≤ S1x128x256.size a)
    (hf : ∀ (r : Fin 128) (d : Fin 64), f (ix3 0 r d) = lse (blockRow (k0_pay3 i) k (View.ld q (Rect.unit ![0, 0, o] S1x128x64.size hin)) o ho r))
    (x : S1x128x64.Idx) (r : Fin 128) (n : Fin 256) (h1 : r.val = (x 1).val) (h2 : n.val = o + (x 2).val) :
    f x = lse (pointRow i q k r n) := by
  idx_vars x
  obtain rfl : r = x1 := Fin.ext h1
  obtain rfl : x0 = 0 := Subsingleton.elim _ _
  have hd : n.val = o + x2.val := h2
  have hx : x2.val < 64 := x2.isLt
  refine (hf r x2).trans ?_
  rw [row_piece i q k o ho hm hin r n (by omega) (by omega)]

variable (m : (ℓ : Loc nD τ sig) → Buf (Elt Ideal) ℓ)

/-- A point's block of the first result from the blocks it reads. -/
theorem outs_at (i : grid0.Coords) (q k0 k1 k2 v0 v1 v2 : Vec Ideal S1x128x256 .bf16) (y : S1x128x256.Idx) :
    out0_7 (F := Ideal) i q k0 k1 k2 v0 v1 v2 y
      = whole (pointRow i q (k0_pay1 (F := Ideal) k0 k1 k2) (y 1) (y 2)) fun j => k0_pay2 (F := Ideal) v0 v1 v2 (ix2 j (y 2)) := by
  unfold_out out0_7
  frame_out
  canon_tiles x h
  case piece3 =>
    exact piece _ i q (k0_pay1 (F := Ideal) k0 k1 k2) (k0_pay2 (F := Ideal) v0 v1 v2) 0 (by decide) rfl inb_S1x128x256_S1x128x64_0_0_0
      (fun r d => head0_at _ _ _ _ r d) x _ _ h1 (h2.trans (Nat.zero_add _).symm)
  case piece2 =>
    exact piece _ i q (k0_pay1 (F := Ideal) k0 k1 k2) (k0_pay2 (F := Ideal) v0 v1 v2) 64 (by decide) rfl inb_S1x128x256_S1x128x64_0_0_64
      (fun r d => head1_at _ _ _ _ r d) x _ _ h1 h2
  case piece1 =>
    exact piece _ i q (k0_pay1 (F := Ideal) k0 k1 k2) (k0_pay2 (F := Ideal) v0 v1 v2) 128 (by decide) rfl inb_S1x128x256_S1x128x64_0_0_128
      (fun r d => head2_at _ _ _ _ r d) x _ _ h1 h2
  case piece0 =>
    exact piece _ i q (k0_pay1 (F := Ideal) k0 k1 k2) (k0_pay2 (F := Ideal) v0 v1 v2) 192 (by decide) rfl inb_S1x128x256_S1x128x64_0_0_192
      (fun r d => head3_at _ _ _ _ r d) x _ _ h1 h2

/-- A point's block of the second result from the blocks it reads. -/
theorem logs_of (i : grid0.Coords) (q k0 k1 k2 v0 v1 v2 : Vec Ideal S1x128x256 .bf16) (y : S1x128x256.Idx) :
    out0_8 (F := Ideal) i q k0 k1 k2 v0 v1 v2 y = lse (pointRow i q (k0_pay1 (F := Ideal) k0 k1 k2) (y 1) (y 2)) := by
  unfold_out out0_8
  frame_out
  canon_tiles x h
  case piece3 =>
    exact log_piece _ i q (k0_pay1 (F := Ideal) k0 k1 k2) 0 (by decide) rfl inb_S1x128x256_S1x128x64_0_0_0
      (fun r d => log0_at _ _ _ r d) x _ _ h1 (h2.trans (Nat.zero_add _).symm)
  case piece2 =>
    exact log_piece _ i q (k0_pay1 (F := Ideal) k0 k1 k2) 64 (by decide) rfl inb_S1x128x256_S1x128x64_0_0_64
      (fun r d => log1_at _ _ _ r d) x _ _ h1 h2
  case piece1 =>
    exact log_piece _ i q (k0_pay1 (F := Ideal) k0 k1 k2) 128 (by decide) rfl inb_S1x128x256_S1x128x64_0_0_128
      (fun r d => log2_at _ _ _ r d) x _ _ h1 h2
  case piece0 =>
    exact log_piece _ i q (k0_pay1 (F := Ideal) k0 k1 k2) 192 (by decide) rfl inb_S1x128x256_S1x128x64_0_0_192
      (fun r d => log3_at _ _ _ r d) x _ _ h1 h2

/-- The block of keys or values a point reads: three blocks of 128 rows one after another. -/
theorem block_at (a b c : FVec Ideal S1x128x256 .bf16) (j : Fin 384) (n : Fin 256) :
    k0_pay1 (F := Ideal) a b c (ix2 j n) = (if h : j.val < 128 then a (ix3 0 ⟨j, h⟩ n) else if h' : j.val < 256 then b (ix3 0 ⟨j - 128, by omega⟩ n) else c (ix3 0 ⟨j - 256, by omega⟩ n)) := by
  pointwise [k0_pay1]
  have e : (j.val < 256) = (j.val - 128 < 128) := propext (by omega)
  have e' : j.val - 128 - 128 = j.val - 256 := by omega
  simp only [e, e']

theorem block_at' (a b c : FVec Ideal S1x128x256 .bf16) : k0_pay2 (F := Ideal) a b c = k0_pay1 a b c := rfl

end Cert.Dil16Proof
-- ==== Proof.Dil16Ref.lean ====
module

public import proofs.«01_k».proof.Proof.Gen.Dil16RefIdeal.Run
public import proofs.«01_k».proof.Proof.BandRef
public import proofs.«01_k».proof.Proof.DilMath
public import Idealize.ShloMosaic.Lib.Pipeline.ValueKit
public import Idealize.ShloMosaic.Lib.Pointwise
public import Idealize.ShloMosaic.Lib.Claim

@[expose] public section

set_option maxRecDepth 16384

/-!
# The attention at dilation 16: the reference's term, stage by stage
-/

noncomputable section

namespace Cert.Dil16Proof

open Cert.Dil16RefIdeal Cert.Dil16RefIdeal.Gen Idealize.ShloMosaic Idealize.ShloMosaic.TcCoe Idealize.SL.Sem Cert.DilProof
open Cert.BandProof (ofBits_bot and_bit bit_one)

/-- The queries, one sequence for each batch and each residue of the position. -/
def queries (x : FVec Ideal S2x512x36864 .bf16) : FVec Ideal S32x512x4x64 .f32 :=
  shapeCast _ (transpose S2x16x512x4x64 [0, 2, 1, 3, 4] (shapeCast _ (extractStridedSlice S2x512x16x1x4x64 ![0, 0, 0, 2, 0, 0]
    (shapeCast _ (extf .f32 x bitsLt_bf16_f32) shapeCasts_S2x512x36864_S2x512x16x9x4x64)
    slices_S2x512x16x9x4x64_S2x512x16x1x4x64_0_0_0_2_0_0) shapeCasts_S2x512x16x1x4x64_S2x512x16x4x64)
    transposes_S2x512x16x4x64_S2x16x512x4x64_0_2_1_3_4) shapeCasts_S2x16x512x4x64_S32x512x4x64

/-- The keys, likewise. -/
def keys (x : FVec Ideal S2x512x36864 .bf16) : FVec Ideal S32x512x4x64 .f32 :=
  shapeCast _ (transpose S2x16x512x4x64 [0, 2, 1, 3, 4] (shapeCast _ (extractStridedSlice S2x512x16x1x4x64 ![0, 0, 0, 5, 0, 0]
    (shapeCast _ (extf .f32 x bitsLt_bf16_f32) shapeCasts_S2x512x36864_S2x512x16x9x4x64)
    slices_S2x512x16x9x4x64_S2x512x16x1x4x64_0_0_0_5_0_0) shapeCasts_S2x512x16x1x4x64_S2x512x16x4x64)
    transposes_S2x512x16x4x64_S2x16x512x4x64_0_2_1_3_4) shapeCasts_S2x16x512x4x64_S32x512x4x64

/-- The values, likewise. -/
def values (x : FVec Ideal S2x512x36864 .bf16) : FVec Ideal S32x512x4x64 .f32 :=
  shapeCast _ (transpose S2x16x512x4x64 [0, 2, 1, 3, 4] (shapeCast _ (extractStridedSlice S2x512x16x1x4x64 ![0, 0, 0, 8, 0, 0]
    (shapeCast _ (extf .f32 x bitsLt_bf16_f32) shapeCasts_S2x512x36864_S2x512x16x9x4x64)
    slices_S2x512x16x9x4x64_S2x512x16x1x4x64_0_0_0_8_0_0) shapeCasts_S2x512x16x1x4x64_S2x512x16x4x64)
    transposes_S2x512x16x4x64_S2x16x512x4x64_0_2_1_3_4) shapeCasts_S2x16x512x4x64_S32x512x4x64

/-- The padded keys (or values), three neighbouring blocks side by side for each block of queries. -/
def windows (y : FVec Ideal S32x512x4x64 .f32) : FVec Ideal S32x8x192x4x64 .f32 :=
  let z : FVec Ideal S32x10x64x4x64 .f32 :=
    shapeCast _ (pad S32x640x4x64 ![0, 64, 0, 0] ![0, 64, 0, 0] ![0, 0, 0, 0] y (sitofp .f32 (constantI S_ 32 0#32))
      pads_S32x512x4x64_S32x640x4x64_000_64640_000_000 h_S_) shapeCasts_S32x640x4x64_S32x10x64x4x64
  concatenate S32x8x192x4x64 2 [⟨S32x8x64x4x64, extractStridedSlice S32x8x64x4x64 ![0, 0, 0, 0, 0] z slices_S32x10x64x4x64_S32x8x64x4x64_0_0_0_0_0⟩,
    ⟨S32x8x64x4x64, extractStridedSlice S32x8x64x4x64 ![0, 1, 0, 0, 0] z slices_S32x10x64x4x64_S32x8x64x4x64_0_1_0_0_0⟩,
    ⟨S32x8x64x4x64, extractStridedSlice S32x8x64x4x64 ![0, 2, 0, 0, 0] z slices_S32x10x64x4x64_S32x8x64x4x64_0_2_0_0_0⟩]
    concatenates_S32x8x64x4x64_S32x8x64x4x64_S32x8x64x4x64_S32x8x192x4x64_d2

/-- The position of each key of each window, as a word. -/
def keyPos : IVec S8x192 32 :=
  addi (broadcastInDim S8x192 ![0, 1] bcast_S8x1_S8x192_0_1 (muli (subi (broadcastInDim S8x1 ![0] bcast_S8_S8x1_0 (iotaInDim S8 32 0))
    (broadcastInDim S8x1 ![] bcast_S_S8x1 (constantI S_ 32 1#32))) (broadcastInDim S8x1 ![] bcast_S_S8x1 (constantI S_ 32 64#32))))
    (broadcastInDim S8x192 ![0, 1] bcast_S1x192_S8x192_0_1 (broadcastInDim S1x192 ![1] bcast_S192_S1x192_1 (iotaInDim S192 32 0)))

/-- The reference's mask: the key is within 64 positions of the query and lies in the sequence. -/
def seen : IVec S8x64x192 1 :=
  andi (cmpi .sle (absi (subi (broadcastInDim S8x64x192 ![0, 1, 2] bcast_S8x64x1_S8x64x192_0_1_2
      (broadcastInDim S8x64x1 ![0, 1] bcast_S8x64_S8x64x1_0_1 (shapeCast _ (iotaInDim S512 32 0) shapeCasts_S512_S8x64)))
    (broadcastInDim S8x64x192 ![0, 1, 2] bcast_S8x1x192_S8x64x192_0_1_2 (broadcastInDim S8x1x192 ![0, 2] bcast_S8x192_S8x1x192_0_2 keyPos))))
    (broadcastInDim S8x64x192 ![] bcast_S_S8x64x192 (constantI S_ 32 64#32)))
    (broadcastInDim S8x64x192 ![0, 1, 2] bcast_S8x1x192_S8x64x192_0_1_2 (broadcastInDim S8x1x192 ![0, 2] bcast_S8x192_S8x1x192_0_2
      (andi (cmpi .sge keyPos (broadcastInDim S8x192 ![] bcast_S_S8x192 (constantI S_ 32 0#32)))
        (cmpi .slt keyPos (broadcastInDim S8x192 ![] bcast_S_S8x192 (constantI S_ 32 512#32))))))

/-- The masked scores of every query against its window of keys. -/
def scores (q : FVec Ideal S32x512x4x64 .f32) (kw : FVec Ideal S32x8x192x4x64 .f32) (b : IVec S8x64x192 1) : FVec Ideal S32x8x4x64x192 .f32 :=
  select (broadcastInDim S32x8x4x64x192 ![0, 1, 2, 3, 4] bcast_S1x8x1x64x192_S32x8x4x64x192_0_1_2_3_4
      (broadcastInDim S1x8x1x64x192 ![1, 3, 4] bcast_S8x64x192_S1x8x1x64x192_1_3_4 b))
    (Host.dotGeneral dot_S32x8x64x4x64_S32x8x192x4x64_S32x8x4x64x192_4_4_2_2_013_013 none
      (shapeCast _ q shapeCasts_S32x512x4x64_S32x8x64x4x64) kw)
    (broadcastInDim S32x8x4x64x192 ![] bcast_S_S32x8x4x64x192 (id (constant S_ .f32 0xFF800000#32)))

/-- The greatest of a query's scores. -/
def tops (s : FVec Ideal S32x8x4x64x192 .f32) : FVec Ideal S32x8x4x64 .f32 :=
  Host.reduce FloatOps.maximumf s (constant S_ .f32 0xFF800000#32) reducesTo_S32x8x4x64x192_S32x8x4x64_d4 h_S_

/-- One number a query, at every key of its window. -/
def over (t : FVec Ideal S32x8x4x64 .f32) : FVec Ideal S32x8x4x64x192 .f32 :=
  broadcastInDim S32x8x4x64x192 ![0, 1, 2, 3, 4] bcast_S32x8x4x64x1_S32x8x4x64x192_0_1_2_3_4
    (broadcastInDim S32x8x4x64x1 ![0, 1, 2, 3] bcast_S32x8x4x64_S32x8x4x64x1_0_1_2_3 t)

/-- The exponentials of a query's scores less their greatest. -/
def exps (s : FVec Ideal S32x8x4x64x192 .f32) : FVec Ideal S32x8x4x64x192 .f32 := Host.exp (subf s (over (tops s)))

/-- The sum of the exponentials. -/
def dens (e : FVec Ideal S32x8x4x64x192 .f32) : FVec Ideal S32x8x4x64 .f32 :=
  Host.reduceAdd e (constant S_ .f32 0x00000000#32) reducesTo_S32x8x4x64x192_S32x8x4x64_d4 h_S_

/-- The sequences' rows back at their places in the batches. -/
def back (z : FVec Ideal S32x8x64x4x64 .f32) : FVec Ideal S2x512x4096 .f32 :=
  shapeCast _ (transpose S2x512x16x4x64 [0, 2, 1, 3, 4] (shapeCast _ z shapeCasts_S32x8x64x4x64_S2x16x512x4x64)
    transposes_S2x16x512x4x64_S2x512x16x4x64_0_2_1_3_4) shapeCasts_S2x512x16x4x64_S2x512x4096

/-- The values weighted by the quotients of two arrays. -/
def weigh (vw : FVec Ideal S32x8x192x4x64 .f32) (e f : FVec Ideal S32x8x4x64x192 .f32) : FVec Ideal S32x8x64x4x64 .f32 :=
  transpose S32x8x64x4x64 [0, 1, 4, 2, 3] (Host.dotGeneral
    dot_S32x8x192x4x64_S32x8x4x64x192_S32x8x4x64x64_2_4_4_3_013_012 none vw (Host.divf e f))
    transposes_S32x8x4x64x64_S32x8x64x4x64_0_1_4_2_3

/-- The values weighted by the normalized exponentials. -/
def mixed (vw : FVec Ideal S32x8x192x4x64 .f32) (s : FVec Ideal S32x8x4x64x192 .f32) : FVec Ideal S32x8x64x4x64 .f32 :=
  weigh vw (exps s) (over (dens (exps s)))

/-- One array plus another's logarithms, across a head's columns. -/
def spread (t f : FVec Ideal S32x8x4x64 .f32) : FVec Ideal S32x8x64x4x64 .f32 :=
  broadcastInDim S32x8x64x4x64 ![0, 1, 2, 3, 4] bcast_S32x8x64x4x1_S32x8x64x4x64_0_1_2_3_4
    (broadcastInDim S32x8x64x4x1 ![0, 1, 2, 3] bcast_S32x8x64x4_S32x8x64x4x1_0_1_2_3
      (transpose S32x8x64x4 [0, 1, 3, 2] (addf t (Host.log f)) transposes_S32x8x4x64_S32x8x64x4_0_1_3_2))

/-- The logarithm of each query's denominator, across a head's columns. -/
def logs (s : FVec Ideal S32x8x4x64x192 .f32) : FVec Ideal S32x8x64x4x64 .f32 := spread (tops s) (dens (exps s))

/-- The reference's first result, stage by stage. -/
theorem res_out_eq (m : (ℓ : Loc nD τ sig) → Buf (Elt Ideal) ℓ) (c : Dev nD) : Value.res_main_v78 (F := Ideal) m c =
    (let x := m ((c.tc : Thread nD τ).loc main_arg0)
     truncf .bf16 (back (mixed (windows (values x)) (scores (queries x) (windows (keys x)) seen))) bitsLt_bf16_f32) := rfl

/-- The reference's second result, stage by stage. -/
theorem res_lse_eq (m : (ℓ : Loc nD τ sig) → Buf (Elt Ideal) ℓ) (c : Dev nD) : Value.res_main_v81 (F := Ideal) m c =
    (let x := m ((c.tc : Thread nD τ).loc main_arg0)
     back (logs (scores (queries x) (windows (keys x)) seen))) := rfl

/-- Column `d` of head `h` of part `c` of the projections, at position `p` of sequence `n`. -/
def el (x : FVec Ideal S2x512x36864 .bf16) (c : Fin 9) (n : Fin 32) (p : Fin 512) (h : Fin 4) (d : Fin 64) : EReal :=
  x (ix3 ⟨n / 16, by omega⟩ p ⟨n % 16 * 2304 + c * 256 + h * 64 + d, by omega⟩)

theorem queries_at (x : FVec Ideal S2x512x36864 .bf16) (n : Fin 32) (p : Fin 512) (h : Fin 4) (d : Fin 64) :
    queries x (ix4 n p h d) = el x 2 n p h d := by
  pointwise [queries, el]

theorem keys_at (x : FVec Ideal S2x512x36864 .bf16) (n : Fin 32) (p : Fin 512) (h : Fin 4) (d : Fin 64) :
    keys x (ix4 n p h d) = el x 5 n p h d := by
  pointwise [keys, el]

theorem values_at (x : FVec Ideal S2x512x36864 .bf16) (n : Fin 32) (p : Fin 512) (h : Fin 4) (d : Fin 64) :
    values x (ix4 n p h d) = el x 8 n p h d := by
  pointwise [values, el]

/-- Row `p` of a sequence padded by 64 rows of zeros at each end. -/
def padRow (y : FVec Ideal S32x512x4x64 .f32) (n : Fin 32) (p : ℕ) (h : Fin 4) (d : Fin 64) : EReal :=
  if hp : 64 ≤ p ∧ p - 64 < 512 then y (ix4 n ⟨p - 64, hp.2⟩ h d) else 0

theorem windows_at (y : FVec Ideal S32x512x4x64 .f32) (n : Fin 32) (u : Fin 8) (j : Fin 192) (h : Fin 4) (d : Fin 64) :
    windows y (ix5 n u j h d) = padRow y n (u * 64 + j) h d := by
  have hz : (FloatOps.sitofp FTy.f32 0#32 : Ideal .f32) = 0 := by
    change (((0#32 : BitVec 32).toInt : ℝ) : EReal) = 0
    simp
  pointwise [windows, hz]
  by_cases h1 : (j : ℕ) < 64
  · rw [dif_pos h1]; rfl
  · rw [dif_neg h1]
    by_cases h2 : (j : ℕ) - 64 < 64
    · rw [dif_pos h2]
      refine (show _ = padRow y n ((1 + u) * 64 + (j - 64)) h d from rfl).trans (congrArg (padRow y n · h d) ?_)
      omega
    · rw [dif_neg h2]
      refine (show _ = padRow y n ((2 + u) * 64 + (j - 64 - 64)) h d from rfl).trans (congrArg (padRow y n · h d) ?_)
      omega

theorem seen_at (u : Fin 8) (r : Fin 64) (j : Fin 192) : seen (ix3 u r j) = 1#1 ↔ Near 512 (u * 64 + r) (u * 64 + j + 64) := by
  pointwise [seen, keyPos]
  obtain ⟨h1, h2, h3⟩ := near_words 512 (u * 64 + r) (u * 64 + j + 64) (by omega) (by omega) (by omega) _ _ _ _ (query_word64 u r) (key_word64 u j)
    (by push_cast; ring) (by push_cast; ring)
  rw [h1, h2, h3, and_bit, and_bit, bit_one]
  simp only [Bool.and_eq_true, decide_eq_true_eq, Near, and_assoc]

theorem scores_at (q : FVec Ideal S32x512x4x64 .f32) (kw : FVec Ideal S32x8x192x4x64 .f32) (b : IVec S8x64x192 1) (n : Fin 32) (u : Fin 8)
    (h : Fin 4) (r : Fin 64) (j : Fin 192) : scores q kw b (ix5 n u h r j)
      = if b (ix3 u r j) = 1#1 then ∑ x, q (ix4 n ⟨u * 64 + r, by omega⟩ h x) * kw (ix5 n u j h x) else ⊥ := by
  have hb : (id (constant S_ FTy.f32 4286578688#32) ix0 : Ideal .f32) = ⊥ := ofBits_bot
  pointwise [scores]
  rw [hb]
  rfl

theorem fiber (n : Fin 32) (u : Fin 8) (h : Fin 4) (r : Fin 64) (i : S32x8x4x64x192.Idx) :
    reducesTo_S32x8x4x64x192_S32x8x4x64_d4.drop i = ix4 n u h r ↔ ∃ k : Fin 192, ix5 n u h r k = i := by
  constructor
  · intro e
    refine ⟨i 4, ?_⟩
    funext a
    apply Fin.ext
    match a with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => exact (congrArg Fin.val (congrFun e 3)).symm
    | ⟨4, _⟩ => rfl
  · rintro ⟨k, rfl⟩
    funext a
    apply Fin.ext
    match a with
    | ⟨0, _⟩ => rfl
    | ⟨1, _⟩ => rfl
    | ⟨2, _⟩ => rfl
    | ⟨3, _⟩ => rfl

theorem tops_at (s : FVec Ideal S32x8x4x64x192 .f32) (n : Fin 32) (u : Fin 8) (h : Fin 4) (r : Fin 64) :
    tops s (ix4 n u h r) = sup fun j => s (ix5 n u h r j) := by
  unfold tops
  rw [Cert.BandProof.hostMax, Finset.fold_filter_eq_fold_of_fiber max _ (fun j : Fin 192 => ix5 n u h r j) (fun _ _ e => congrFun e 4) (fiber n u h r)]
  rfl

theorem over_at (t : FVec Ideal S32x8x4x64 .f32) (n : Fin 32) (u : Fin 8) (h : Fin 4) (r : Fin 64) (j : Fin 192) :
    over t (ix5 n u h r j) = t (ix4 n u h r) := by
  unfold over broadcastInDim
  refine congrArg t (funext fun a => Fin.ext ?_)
  match a with
    | ⟨0, _⟩ => rfl
    | ⟨1, _⟩ => rfl
    | ⟨2, _⟩ => rfl
    | ⟨3, _⟩ => rfl

theorem exps_at (s : FVec Ideal S32x8x4x64x192 .f32) (n : Fin 32) (u : Fin 8) (h : Fin 4) (r : Fin 64) (j : Fin 192) :
    exps s (ix5 n u h r j) = wt (fun j => s (ix5 n u h r j)) j := by
  unfold exps
  exact congrArg (fun x => Ideal.exp (s (ix5 n u h r j) - x)) ((over_at (tops s) n u h r j).trans (tops_at s n u h r))

theorem dens_at (s : FVec Ideal S32x8x4x64x192 .f32) (n : Fin 32) (u : Fin 8) (h : Fin 4) (r : Fin 64) :
    dens (exps s) (ix4 n u h r) = tot fun j => s (ix5 n u h r j) := by
  unfold dens
  rw [Cert.BandProof.hostSum, Finset.sum_filter_eq_sum_of_fiber _ (fun j : Fin 192 => ix5 n u h r j) (fun _ _ e => congrFun e 4) (fiber n u h r)]
  refine Eq.trans (congrArg (· + _) (by simp [Ideal.ofBits, Ideal.ieee, constant] : (constant S_ FTy.f32 0x00000000#32 (Shape.Idx.first h_S_) : Ideal .f32) = 0))
    ((zero_add _).trans (Finset.sum_congr rfl fun j _ => exps_at s n u h r j))

theorem back_at (z : FVec Ideal S32x8x64x4x64 .f32) (b : Fin 2) (p : Fin 512) (n : Fin 4096) :
    back z (ix3 b p n) = z (ix5 ⟨b * 16 + n / 256, by omega⟩ ⟨p / 64, by omega⟩ ⟨p % 64, by omega⟩ ⟨n / 64 % 4, by omega⟩ ⟨n % 64, by omega⟩) := by
  pointwise [back]

theorem weigh_at (vw : FVec Ideal S32x8x192x4x64 .f32) (e f : FVec Ideal S32x8x4x64x192 .f32) (n : Fin 32) (u : Fin 8) (r : Fin 64)
    (h : Fin 4) (d : Fin 64) : weigh vw e f (ix5 n u r h d) = ∑ j, vw (ix5 n u j h d) * Ideal.div (e (ix5 n u h r j)) (f (ix5 n u h r j)) := by
  pointwise [weigh]

theorem mixed_at (vw : FVec Ideal S32x8x192x4x64 .f32) (s : FVec Ideal S32x8x4x64x192 .f32) (n : Fin 32) (u : Fin 8) (r : Fin 64)
    (h : Fin 4) (d : Fin 64) : mixed vw s (ix5 n u r h d) = each (fun j => s (ix5 n u h r j)) fun j => vw (ix5 n u j h d) := by
  unfold mixed
  rw [weigh_at]
  simp only [exps_at, over_at, dens_at]
  rfl

theorem spread_at (t f : FVec Ideal S32x8x4x64 .f32) (n : Fin 32) (u : Fin 8) (r : Fin 64) (h : Fin 4) (d : Fin 64) :
    spread t f (ix5 n u r h d) = t (ix4 n u h r) + Ideal.log (f (ix4 n u h r)) := by
  pointwise [spread]

theorem logs_at (s : FVec Ideal S32x8x4x64x192 .f32) (n : Fin 32) (u : Fin 8) (r : Fin 64) (h : Fin 4) (d : Fin 64) :
    logs s (ix5 n u r h d) = lse fun j => s (ix5 n u h r j) := by
  unfold logs
  rw [spread_at, tops_at, dens_at]
  rfl

/-- The masked scores of the query at position `p` of sequence `n`, against head `h`'s keys of its window. -/
def scoreRow (x : FVec Ideal S2x512x36864 .bf16) (n : Fin 32) (p : Fin 512) (h : Fin 4) (j : Fin 192) : EReal :=
  if Near 512 p (p / 64 * 64 + j + 64) then ∑ d : Fin 64, el x 2 n p h d * padRow (keys x) n (p / 64 * 64 + j) h d else ⊥

/-- The dilated attention at column `n` of row `p` of batch `b`. -/
def outAt (x : FVec Ideal S2x512x36864 .bf16) (b : Fin 2) (p : Fin 512) (n : Fin 4096) : EReal :=
  each (scoreRow x ⟨b * 16 + n / 256, by omega⟩ p ⟨n / 64 % 4, by omega⟩)
    fun j => padRow (values x) ⟨b * 16 + n / 256, by omega⟩ (p / 64 * 64 + j) ⟨n / 64 % 4, by omega⟩ ⟨n % 64, by omega⟩

/-- The logarithm of its denominator. -/
def lseAt (x : FVec Ideal S2x512x36864 .bf16) (b : Fin 2) (p : Fin 512) (n : Fin 4096) : EReal :=
  lse (scoreRow x ⟨b * 16 + n / 256, by omega⟩ p ⟨n / 64 % 4, by omega⟩)

/-- The dilated attention, element by element. -/
def out (x : FVec Ideal S2x512x36864 .bf16) : FVec Ideal S2x512x4096 .bf16 := fun i => outAt x (i 0) (i 1) (i 2)

/-- The logarithms of its denominators, element by element. -/
def outLse (x : FVec Ideal S2x512x36864 .bf16) : FVec Ideal S2x512x4096 .f32 := fun i => lseAt x (i 0) (i 1) (i 2)

theorem row_eq (x : FVec Ideal S2x512x36864 .bf16) (n : Fin 32) (p : Fin 512) (h : Fin 4) (j : Fin 192) :
    scores (queries x) (windows (keys x)) seen (ix5 n ⟨p / 64, by omega⟩ h ⟨p % 64, by omega⟩ j) = scoreRow x n p h j := by
  rw [scores_at]
  unfold scoreRow
  have hp : (⟨p.val / 64 * 64 + p.val % 64, by omega⟩ : Fin 512) = p := Fin.ext (show p.val / 64 * 64 + p.val % 64 = p.val by omega)
  have hn : (p.val / 64 * 64 + p.val % 64) = p.val := by omega
  refine if_congr ((seen_at _ _ _).trans (by rw [show ((⟨p.val / 64, by omega⟩ : Fin 8).val * 64 + (⟨p.val % 64, by omega⟩ : Fin 64).val) = p.val from hn]))
    (Finset.sum_congr rfl fun d _ => ?_) rfl
  rw [windows_at, queries_at]
  exact congrArg (fun z => el x 2 n z h d * _) hp

theorem res_out (x : FVec Ideal S2x512x36864 .bf16) :
    truncf .bf16 (back (mixed (windows (values x)) (scores (queries x) (windows (keys x)) seen))) bitsLt_bf16_f32 = out x := by
  funext i
  obtain ⟨b, p, n, rfl⟩ : ∃ (b : Fin 2) (p : Fin 512) (n : Fin 4096), i = ix3 b p n := ⟨i 0, i 1, i 2, by funext a; fin_cases a <;> rfl⟩
  refine (show _ = back (mixed (windows (values x)) (scores (queries x) (windows (keys x)) seen)) (ix3 b p n) from rfl).trans ((back_at _ b p n).trans ?_)
  rw [mixed_at]
  show _ = outAt x b p n
  unfold outAt
  simp only [row_eq, windows_at]

theorem res_lse (x : FVec Ideal S2x512x36864 .bf16) : back (logs (scores (queries x) (windows (keys x)) seen)) = outLse x := by
  funext i
  obtain ⟨b, p, n, rfl⟩ : ∃ (b : Fin 2) (p : Fin 512) (n : Fin 4096), i = ix3 b p n := ⟨i 0, i 1, i 2, by funext a; fin_cases a <;> rfl⟩
  refine (back_at _ b p n).trans ?_
  rw [logs_at]
  show _ = lseAt x b p n
  unfold lseAt
  simp only [row_eq]

/-- Every run of the reference program ends with the dilated attention of its argument and the logarithms of its
    denominators, and leaves the argument as it was. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v78) = out (m ((c : Thread nD τ).loc main_arg0))
      ∧ r.2.mem ((c.tc : Thread nD τ).loc main_v81) = outLse (m ((c : Thread nD τ).loc main_arg0))
      ∧ r.2.mem ((c.tc : Thread nD τ).loc main_arg0) = m ((c.tc : Thread nD τ).loc main_arg0) :=
  (θ_run defs _ _).mono (fun _ h c => ⟨(h c).1.trans ((res_out_eq m c).trans (res_out _)), (h c).2.1.trans ((res_lse_eq m c).trans (res_lse _)),
    (h c).2.2⟩) (Value.run m ρ)

end Cert.Dil16Proof
-- ==== Proof.Dil16Array.lean ====
module

public import proofs.«01_k».proof.Proof.Dil16Kernel
public import proofs.«01_k».proof.Proof.Dil16Ref
public import proofs.«01_k».proof.Proof.BandPoint

@[expose] public section

set_option maxRecDepth 16384

/-!
# The attention at dilation 16: the kernel's whole result arrays

The kernel reads its window as three whole blocks of 128 rows, clamped at the two ends of the array; the reference reads
192 rows of an array padded with zeros. Where the mask lets a key through the two read the same row.
-/

noncomputable section

namespace Cert.Dil16Proof

open Cert.Dil16Ideal Cert.Dil16Ideal.Gen Idealize.ShloMosaic Idealize.ShloMosaic.TcCoe Idealize.SL.Sem Cert.DilProof
open Cert.BandProof (Real' Real'.mul Real'.sum)
open Idealize.ShloMosaic.Pipeline (Dat)

/-- Column `n` of part `c` of the projections of residue `g`, at position `p` of batch `b`. -/
def cell (x : FVec Ideal S2x512x36864 .bf16) (c : ℕ) (hc : c < 9) (b : Fin 2) (g : Fin 16) (p : Fin 512) (n : Fin 256) : EReal :=
  x (ix3 b p ⟨g * 2304 + c * 256 + n, by omega⟩)

theorem el_cell (x : FVec Ideal S2x512x36864 .bf16) (c : Fin 9) (b : Fin 2) (g : Fin 16) (p : Fin 512) (h : Fin 4) (d : Fin 64) (N : Fin 32)
    (hN : N.val = b * 16 + g) : el x c N p h d = cell x c.val c.isLt b g p ⟨h * 64 + d, by omega⟩ := by
  unfold el cell
  refine congrArg x ?_
  congr 1
  · exact Fin.ext (show N.val / 16 = b.val by omega)
  · exact Fin.ext (show N.val % 16 * 2304 + c.val * 256 + h.val * 64 + d.val = g.val * 2304 + c.val * 256 + (h.val * 64 + d.val) by omega)

theorem cell_eq (x : FVec Ideal S2x512x36864 .bf16) (c : ℕ) (hc : c < 9) (b : Fin 2) (g : Fin 16) (p : Fin 512) (n : Fin 256) :
    x (ix3 b p ⟨(g * 9 + c) * 256 + n, by omega⟩) = cell x c hc b g p n :=
  congrArg x (congrArg (ix3 b p) (Fin.ext (show (g.val * 9 + c) * 256 + n.val = g.val * 2304 + c * 256 + n.val by omega)))

/-- The three blocks read at tile `t`, at a key that lies in the sequence, hold its row. -/
theorem window_row (x : FVec Ideal S2x512x36864 .bf16) (c : ℕ) (hc : c < 9) (a0 a1 a2 : FVec Ideal S1x128x256 .bf16) (b : Fin 2) (g : Fin 16)
    (t : ℕ) (ht : t < 4)
    (h0 : ∀ (r : Fin 128) (n : Fin 256), a0 (ix3 0 r n) = cell x c hc b g ⟨(t - 1) * 128 + r, by omega⟩ n)
    (h1 : ∀ (r : Fin 128) (n : Fin 256), a1 (ix3 0 r n) = cell x c hc b g ⟨t * 128 + r, by omega⟩ n)
    (h2 : ∀ (r : Fin 128) (n : Fin 256), a2 (ix3 0 r n) = cell x c hc b g ⟨min (t + 1) 3 * 128 + r, by omega⟩ n)
    (j : Fin 384) (n : Fin 256) (p : Fin 512) (hp : p.val + 128 = t * 128 + j) :
    k0_pay1 (F := Ideal) a0 a1 a2 (ix2 j n) = cell x c hc b g p n := by
  rw [block_at]
  split_ifs
  · rw [h0]
    exact congrArg (fun p : Fin 512 => cell x c hc b g p n) (Fin.ext (show (t - 1) * 128 + j.val = p.val by omega))
  · rw [h1]
    exact congrArg (fun p : Fin 512 => cell x c hc b g p n) (Fin.ext (show t * 128 + (j.val - 128) = p.val by omega))
  · rw [h2]
    exact congrArg (fun p : Fin 512 => cell x c hc b g p n) (Fin.ext (show min (t + 1) 3 * 128 + (j.val - 256) = p.val by omega))

/-- The reference's `j`-th key of a query at row `r` of a block, among the kernel's keys. -/
def emb (r : Fin 128) (j : Fin 192) : Fin 384 := ⟨64 + r / 64 * 64 + j, by omega⟩

theorem emb_inj (r : Fin 128) : Function.Injective (emb r) := by
  intro j j' e
  have h : 64 + r.val / 64 * 64 + j.val = 64 + r.val / 64 * 64 + j'.val := congrArg Fin.val e
  exact Fin.ext (by omega)

/-- The kernel's other keys are masked. -/
theorem row_out (i : grid0.Coords) (q : Vec Ideal S1x128x256 .bf16) (k : FVec Ideal S384x256 .bf16) (r : Fin 128) (n : Fin 256) (l : Fin 384)
    (h : ∀ j, emb r j ≠ l) : pointRow i q k r n l = ⊥ := by
  unfold pointRow
  refine if_neg fun hn => ?_
  obtain ⟨h1, h2, -, -⟩ := hn
  exact h ⟨l - (64 + r / 64 * 64), by omega⟩ (Fin.ext (show 64 + r.val / 64 * 64 + (l.val - (64 + r.val / 64 * 64)) = l.val by omega))

/-- A row of the padded keys, where the key lies in the sequence. -/
theorem keys_row (x : FVec Ideal S2x512x36864 .bf16) (b : Fin 2) (g : Fin 16) (N : Fin 32) (hN : N.val = b * 16 + g) (k : ℕ) (p : Fin 512)
    (hp : p.val + 64 = k) (h : Fin 4) (d : Fin 64) :
    padRow (keys x) N k h d = cell x 5 (by decide) b g p ⟨h * 64 + d, by omega⟩ := by
  unfold padRow
  rw [dif_pos ⟨by omega, by omega⟩, keys_at, el_cell x 5 b g _ h d N hN]
  exact congrArg (fun p : Fin 512 => cell x 5 (by decide) b g p _) (Fin.ext (show k - 64 = p.val by omega))

/-- A row of the padded values, where the key lies in the sequence. -/
theorem values_row (x : FVec Ideal S2x512x36864 .bf16) (b : Fin 2) (g : Fin 16) (N : Fin 32) (hN : N.val = b * 16 + g) (k : ℕ) (p : Fin 512)
    (hp : p.val + 64 = k) (h : Fin 4) (d : Fin 64) :
    padRow (values x) N k h d = cell x 8 (by decide) b g p ⟨h * 64 + d, by omega⟩ := by
  unfold padRow
  rw [dif_pos ⟨by omega, by omega⟩, values_at, el_cell x 8 b g _ h d N hN]
  exact congrArg (fun p : Fin 512 => cell x 8 (by decide) b g p _) (Fin.ext (show k - 64 = p.val by omega))

/-- The kernel's scores of the reference's keys are the reference's scores. -/
theorem row_at (x : FVec Ideal S2x512x36864 .bf16) (i : grid0.Coords) (q1 : Vec Ideal S1x128x256 .bf16) (k0 k1 k2 : FVec Ideal S1x128x256 .bf16)
    (b : Fin 2) (g : Fin 16) (t : ℕ) (hi : (i 2).val = t) (ht : t < 4)
    (hq : ∀ (r : Fin 128) (n : Fin 256), q1 (ix3 0 r n) = cell x 2 (by decide) b g ⟨t * 128 + r, by omega⟩ n)
    (h0 : ∀ (r : Fin 128) (n : Fin 256), k0 (ix3 0 r n) = cell x 5 (by decide) b g ⟨(t - 1) * 128 + r, by omega⟩ n)
    (h1 : ∀ (r : Fin 128) (n : Fin 256), k1 (ix3 0 r n) = cell x 5 (by decide) b g ⟨t * 128 + r, by omega⟩ n)
    (h2 : ∀ (r : Fin 128) (n : Fin 256), k2 (ix3 0 r n) = cell x 5 (by decide) b g ⟨min (t + 1) 3 * 128 + r, by omega⟩ n)
    (r : Fin 128) (n : Fin 256) (p : Fin 512) (hp : p.val = t * 128 + r) (N : Fin 32) (hN : N.val = b * 16 + g) (h : Fin 4) (hh : h.val = n / 64)
    (j : Fin 192) : pointRow i q1 (k0_pay1 (F := Ideal) k0 k1 k2) r n (emb r j) = scoreRow x N p h j := by
  have e : t * 128 + (emb r j).val = p / 64 * 64 + j + 64 := show t * 128 + (64 + r.val / 64 * 64 + j.val) = p.val / 64 * 64 + j.val + 64 by omega
  unfold pointRow scoreRow
  rw [hi, e, ← hp]
  by_cases hs : Near 512 p (p / 64 * 64 + j + 64)
  · rw [if_pos hs, if_pos hs]
    obtain ⟨-, -, hs1, hs2⟩ := hs
    refine Finset.sum_congr rfl fun d _ => ?_
    rw [keys_row x b g N hN (p / 64 * 64 + j) ⟨p / 64 * 64 + j - 64, by omega⟩ (show p.val / 64 * 64 + j.val - 64 + 64 = p.val / 64 * 64 + j.val by omega),
      window_row x 5 (by decide) k0 k1 k2 b g t ht h0 h1 h2 (emb r j) _ ⟨p / 64 * 64 + j - 64, by omega⟩
        (show p.val / 64 * 64 + j.val - 64 + 128 = t * 128 + (emb r j).val by omega), hq, el_cell x 2 b g p h d N hN]
    have e1 : (⟨t * 128 + r, by omega⟩ : Fin 512) = p := Fin.ext hp.symm
    have e2 : (⟨n / 64 * 64 + d, by omega⟩ : Fin 256) = ⟨h * 64 + d, by omega⟩ := Fin.ext (show n.val / 64 * 64 + d.val = h.val * 64 + d.val by omega)
    rw [e1, e2]
    rfl
  · rw [if_neg hs, if_neg hs]

/-- A score the mask lets through is a real number. -/
theorem score_real (x : FVec Ideal S2x512x36864 .bf16) (hxq : ∀ b g p n, Real' (cell x 2 (by decide) b g p n))
    (hxk : ∀ b g p n, Real' (cell x 5 (by decide) b g p n)) (b : Fin 2) (g : Fin 16) (N : Fin 32) (hN : N.val = b * 16 + g) (p : Fin 512) (h : Fin 4)
    (j : Fin 192) (hs : Near 512 p (p / 64 * 64 + j + 64)) : Real' (scoreRow x N p h j) := by
  unfold scoreRow
  rw [if_pos hs]
  obtain ⟨-, -, hs1, hs2⟩ := hs
  refine Real'.sum _ _ fun d => Real'.mul ?_ ?_
  · rw [el_cell x 2 b g p h d N hN]
    exact hxq _ _ _ _
  · rw [keys_row x b g N hN (p / 64 * 64 + j) ⟨p / 64 * 64 + j - 64, by omega⟩ (show p.val / 64 * 64 + j.val - 64 + 64 = p.val / 64 * 64 + j.val by omega)]
    exact hxk _ _ _ _

/-- The kernel's elements of a grid point's blocks are the reference's elements at those blocks' place in the arrays. -/
theorem point_out (x : FVec Ideal S2x512x36864 .bf16) (hxq : ∀ b g p n, Real' (cell x 2 (by decide) b g p n))
    (hxk : ∀ b g p n, Real' (cell x 5 (by decide) b g p n))
    (i : grid0.Coords) (q1 : Vec Ideal S1x128x256 .bf16) (k0 k1 k2 v0 v1 v2 : FVec Ideal S1x128x256 .bf16)
    (b : Fin 2) (g : Fin 16) (t : ℕ) (hi : (i 2).val = t) (ht : t < 4)
    (hq : ∀ (r : Fin 128) (n : Fin 256), q1 (ix3 0 r n) = cell x 2 (by decide) b g ⟨t * 128 + r, by omega⟩ n)
    (h0 : ∀ (r : Fin 128) (n : Fin 256), k0 (ix3 0 r n) = cell x 5 (by decide) b g ⟨(t - 1) * 128 + r, by omega⟩ n)
    (h1 : ∀ (r : Fin 128) (n : Fin 256), k1 (ix3 0 r n) = cell x 5 (by decide) b g ⟨t * 128 + r, by omega⟩ n)
    (h2 : ∀ (r : Fin 128) (n : Fin 256), k2 (ix3 0 r n) = cell x 5 (by decide) b g ⟨min (t + 1) 3 * 128 + r, by omega⟩ n)
    (hv0 : ∀ (r : Fin 128) (n : Fin 256), v0 (ix3 0 r n) = cell x 8 (by decide) b g ⟨(t - 1) * 128 + r, by omega⟩ n)
    (hv1 : ∀ (r : Fin 128) (n : Fin 256), v1 (ix3 0 r n) = cell x 8 (by decide) b g ⟨t * 128 + r, by omega⟩ n)
    (hv2 : ∀ (r : Fin 128) (n : Fin 256), v2 (ix3 0 r n) = cell x 8 (by decide) b g ⟨min (t + 1) 3 * 128 + r, by omega⟩ n)
    (r : Fin 128) (n : Fin 256) (p : Fin 512) (hp : p.val = t * 128 + r) (w : Fin 4096) (hw : w.val = g * 256 + n) :
    (whole (pointRow i q1 (k0_pay1 (F := Ideal) k0 k1 k2) r n) fun j => k0_pay2 (F := Ideal) v0 v1 v2 (ix2 j n)) = outAt x b p w
    ∧ lse (pointRow i q1 (k0_pay1 (F := Ideal) k0 k1 k2) r n) = lseAt x b p w := by
  have hN : (⟨b * 16 + w / 256, by omega⟩ : Fin 32).val = b * 16 + g := show b.val * 16 + w.val / 256 = b.val * 16 + g.val by omega
  have hh : (⟨w / 64 % 4, by omega⟩ : Fin 4).val = n / 64 := show w.val / 64 % 4 = n.val / 64 by omega
  have hrow := row_at x i q1 k0 k1 k2 b g t hi ht hq h0 h1 h2 r n p hp _ hN _ hh
  have hreal := score_real x hxq hxk b g _ hN p ⟨w / 64 % 4, by omega⟩
  have hbot : ∀ j : Fin 192, ¬ Near 512 p (p / 64 * 64 + j + 64) → scoreRow x ⟨b * 16 + w / 256, by omega⟩ p ⟨w / 64 % 4, by omega⟩ j = ⊥ :=
    fun j hs => by unfold scoreRow; exact if_neg hs
  refine ⟨?_, lse_emb (emb r) (emb_inj r) _ (row_out i q1 _ r n) _ hrow⟩
  refine whole_emb (emb r) (emb_inj r) _ _ (row_out i q1 _ r n) _ _ hrow (fun j hj => ?_) (fun j => ?_) ⟨⟨64 + r % 64, by omega⟩, (hreal _ ?_).2⟩
  · by_cases hs : Near 512 p (p / 64 * 64 + j + 64)
    · obtain ⟨-, -, hs1, hs2⟩ := hs
      rw [values_row x b g _ hN (p / 64 * 64 + j) ⟨p / 64 * 64 + j - 64, by omega⟩ (show p.val / 64 * 64 + j.val - 64 + 64 = p.val / 64 * 64 + j.val by omega),
        block_at' v0 v1 v2, window_row x 8 (by decide) v0 v1 v2 b g t ht hv0 hv1 hv2 (emb r j) n ⟨p / 64 * 64 + j - 64, by omega⟩
          (show p.val / 64 * 64 + j.val - 64 + 128 = t * 128 + (64 + r.val / 64 * 64 + j.val) by omega)]
      exact congrArg (cell x 8 (by decide) b g _) (Fin.ext (show n.val = w.val / 64 % 4 * 64 + w.val % 64 by omega))
    · exact absurd (hbot j hs) hj
  · by_cases hs : Near 512 p (p / 64 * 64 + j + 64)
    · exact (hreal j hs).1
    · rw [hbot j hs]
      exact bot_ne_top
  · show Near 512 p (p.val / 64 * 64 + (64 + r.val % 64) + 64)
    exact ⟨by omega, by omega, by omega, by omega⟩

variable (m : (ℓ : Loc nD τ sig) → Buf (Elt Ideal) ℓ)

/-- The block every operand takes at each grid point: the tiles of each residue of each of the two batches; the keys' and
values' previous and next blocks are clamped to the array. -/
theorem idx : ∀ t : Fin cfg0.N, win0_0.index t = ![t.val / 64, t.val % 4, t.val / 4 % 16 * 9 + 2]
    ∧ win0_1.index t = ![t.val / 64, t.val % 4 - 1, t.val / 4 % 16 * 9 + 5]
    ∧ win0_2.index t = ![t.val / 64, t.val % 4, t.val / 4 % 16 * 9 + 5]
    ∧ win0_3.index t = ![t.val / 64, min (t.val % 4 + 1) 3, t.val / 4 % 16 * 9 + 5]
    ∧ win0_4.index t = ![t.val / 64, t.val % 4 - 1, t.val / 4 % 16 * 9 + 8]
    ∧ win0_5.index t = ![t.val / 64, t.val % 4, t.val / 4 % 16 * 9 + 8]
    ∧ win0_6.index t = ![t.val / 64, min (t.val % 4 + 1) 3, t.val / 4 % 16 * 9 + 8]
    ∧ win0_7.index t = ![t.val / 64, t.val % 4, t.val / 4 % 16] ∧ win0_8.index t = ![t.val / 64, t.val % 4, t.val / 4 % 16] :=
  (by decide +kernel : ∀ t : Fin grid0.N, _)

/-- A grid point's tile number. -/
theorem tile : ∀ t : Fin cfg0.N, (grid0.coords t 2).val = t.val % 4 :=
  (by decide +kernel : ∀ t : Fin grid0.N, _)

/-! Each operand's block at a grid point, one element. -/

theorem q_block (c : Dev nD) (t : Fin cfg0.N) (ht : t.val < 128) (r : Fin 128) (n : Fin 256) : iblk m c 0 t (ix3 0 r n)
    = m ((c : Thread nD τ).loc main_arg0) (ix3 ⟨t.val / 64, by omega⟩ ⟨t.val % 4 * 128 + r, by omega⟩ ⟨(t.val / 4 % 16 * 9 + 2) * 256 + n, by omega⟩) := by
  blk_point [iblk, V, idx t]

theorem k_prev (c : Dev nD) (t : Fin cfg0.N) (ht : t.val < 128) (r : Fin 128) (n : Fin 256) : iblk m c 1 t (ix3 0 r n)
    = m ((c : Thread nD τ).loc main_arg0) (ix3 ⟨t.val / 64, by omega⟩ ⟨(t.val % 4 - 1) * 128 + r, by omega⟩ ⟨(t.val / 4 % 16 * 9 + 5) * 256 + n, by omega⟩) := by
  blk_point [iblk, V, idx t]

theorem k_cur (c : Dev nD) (t : Fin cfg0.N) (ht : t.val < 128) (r : Fin 128) (n : Fin 256) : iblk m c 2 t (ix3 0 r n)
    = m ((c : Thread nD τ).loc main_arg0) (ix3 ⟨t.val / 64, by omega⟩ ⟨t.val % 4 * 128 + r, by omega⟩ ⟨(t.val / 4 % 16 * 9 + 5) * 256 + n, by omega⟩) := by
  blk_point [iblk, V, idx t]

theorem k_next (c : Dev nD) (t : Fin cfg0.N) (ht : t.val < 128) (r : Fin 128) (n : Fin 256) : iblk m c 3 t (ix3 0 r n)
    = m ((c : Thread nD τ).loc main_arg0) (ix3 ⟨t.val / 64, by omega⟩ ⟨min (t.val % 4 + 1) 3 * 128 + r, by omega⟩ ⟨(t.val / 4 % 16 * 9 + 5) * 256 + n, by omega⟩) := by
  blk_point [iblk, V, idx t]

theorem v_prev (c : Dev nD) (t : Fin cfg0.N) (ht : t.val < 128) (r : Fin 128) (n : Fin 256) : iblk m c 4 t (ix3 0 r n)
    = m ((c : Thread nD τ).loc main_arg0) (ix3 ⟨t.val / 64, by omega⟩ ⟨(t.val % 4 - 1) * 128 + r, by omega⟩ ⟨(t.val / 4 % 16 * 9 + 8) * 256 + n, by omega⟩) := by
  blk_point [iblk, V, idx t]

theorem v_cur (c : Dev nD) (t : Fin cfg0.N) (ht : t.val < 128) (r : Fin 128) (n : Fin 256) : iblk m c 5 t (ix3 0 r n)
    = m ((c : Thread nD τ).loc main_arg0) (ix3 ⟨t.val / 64, by omega⟩ ⟨t.val % 4 * 128 + r, by omega⟩ ⟨(t.val / 4 % 16 * 9 + 8) * 256 + n, by omega⟩) := by
  blk_point [iblk, V, idx t]

theorem v_next (c : Dev nD) (t : Fin cfg0.N) (ht : t.val < 128) (r : Fin 128) (n : Fin 256) : iblk m c 6 t (ix3 0 r n)
    = m ((c : Thread nD τ).loc main_arg0) (ix3 ⟨t.val / 64, by omega⟩ ⟨min (t.val % 4 + 1) 3 * 128 + r, by omega⟩ ⟨(t.val / 4 % 16 * 9 + 8) * 256 + n, by omega⟩) := by
  blk_point [iblk, V, idx t]

/-- Where a grid point's blocks of the results lie in the arrays. -/
theorem out_place (t : Fin cfg0.N) (ht : t.val < 128) (r : Fin 128) (n : Fin 256) :
    (win0_7.blk t).view.emb (ix3 0 r n) = ix3 ⟨t.val / 64, by omega⟩ ⟨t.val % 4 * 128 + r, by omega⟩ ⟨t.val / 4 % 16 * 256 + n, by omega⟩ := by
  blk_point [idx t]

theorem lse_place (t : Fin cfg0.N) (ht : t.val < 128) (r : Fin 128) (n : Fin 256) :
    (win0_8.blk t).view.emb (ix3 0 r n) = ix3 ⟨t.val / 64, by omega⟩ ⟨t.val % 4 * 128 + r, by omega⟩ ⟨t.val / 4 % 16 * 256 + n, by omega⟩ := by
  blk_point [idx t]

/-- A grid point's elements of the two results. -/
theorem point_at (c : Dev nD) (hxq : ∀ b g p n, Real' (cell (m ((c : Thread nD τ).loc main_arg0)) 2 (by decide) b g p n))
    (hxk : ∀ b g p n, Real' (cell (m ((c : Thread nD τ).loc main_arg0)) 5 (by decide) b g p n)) (t : Fin cfg0.N) (ht : t.val < 128) (r : Fin 128) (n : Fin 256) :
    (whole (pointRow (grid0.coords t) (iblk m c 0 t) (k0_pay1 (F := Ideal) (iblk m c 1 t) (iblk m c 2 t) (iblk m c 3 t)) r n)
        fun j => k0_pay2 (F := Ideal) (iblk m c 4 t) (iblk m c 5 t) (iblk m c 6 t) (ix2 j n))
      = outAt (m ((c : Thread nD τ).loc main_arg0)) ⟨t.val / 64, by omega⟩ ⟨t.val % 4 * 128 + r, by omega⟩ ⟨t.val / 4 % 16 * 256 + n, by omega⟩
    ∧ lse (pointRow (grid0.coords t) (iblk m c 0 t) (k0_pay1 (F := Ideal) (iblk m c 1 t) (iblk m c 2 t) (iblk m c 3 t)) r n)
      = lseAt (m ((c : Thread nD τ).loc main_arg0)) ⟨t.val / 64, by omega⟩ ⟨t.val % 4 * 128 + r, by omega⟩ ⟨t.val / 4 % 16 * 256 + n, by omega⟩ :=
  point_out (m ((c : Thread nD τ).loc main_arg0)) hxq hxk (grid0.coords t) _ _ _ _ _ _ _ ⟨t.val / 64, by omega⟩ ⟨t.val / 4 % 16, by omega⟩
    (t.val % 4) (tile t) (Nat.mod_lt _ (by decide))
    (fun r n => (q_block m c t ht r n).trans (cell_eq _ 2 (by decide) _ ⟨t.val / 4 % 16, by omega⟩ _ n))
    (fun r n => (k_prev m c t ht r n).trans (cell_eq _ 5 (by decide) _ ⟨t.val / 4 % 16, by omega⟩ _ n))
    (fun r n => (k_cur m c t ht r n).trans (cell_eq _ 5 (by decide) _ ⟨t.val / 4 % 16, by omega⟩ _ n))
    (fun r n => (k_next m c t ht r n).trans (cell_eq _ 5 (by decide) _ ⟨t.val / 4 % 16, by omega⟩ _ n))
    (fun r n => (v_prev m c t ht r n).trans (cell_eq _ 8 (by decide) _ ⟨t.val / 4 % 16, by omega⟩ _ n))
    (fun r n => (v_cur m c t ht r n).trans (cell_eq _ 8 (by decide) _ ⟨t.val / 4 % 16, by omega⟩ _ n))
    (fun r n => (v_next m c t ht r n).trans (cell_eq _ 8 (by decide) _ ⟨t.val / 4 % 16, by omega⟩ _ n))
    r n _ rfl _ rfl

/-- The kernel's first result array is the dilated attention of its argument. -/
theorem final (c : Dev nD) (hxq : ∀ b g p n, Real' (cell (m ((c : Thread nD τ).loc main_arg0)) 2 (by decide) b g p n))
    (hxk : ∀ b g p n, Real' (cell (m ((c : Thread nD τ).loc main_arg0)) 5 (by decide) b g p n)) :
    (dats m 0 c).arrAt 7 (cfgs 0).N = out (m ((c : Thread nD τ).loc main_arg0)) := by
  refine (dats m 0 c).arrAt_eq_of_covers 7 _ (by decide +kernel) fun t _ y => ?_
  blk_simp
  rw [after0_7, outs_at]
  have ht : t.val < 128 := t.isLt
  have hy : (y 1).val < 128 := (y 1).isLt
  idx_vars y
  obtain rfl : y0 = 0 := Subsingleton.elim _ _
  exact (point_at m c hxq hxk t ht y1 y2).1.trans (congrArg (out (m ((c : Thread nD τ).loc main_arg0))) (out_place t ht y1 y2)).symm

/-- The kernel's second result array is the logarithms of its denominators. -/
theorem finalLse (c : Dev nD) (hxq : ∀ b g p n, Real' (cell (m ((c : Thread nD τ).loc main_arg0)) 2 (by decide) b g p n))
    (hxk : ∀ b g p n, Real' (cell (m ((c : Thread nD τ).loc main_arg0)) 5 (by decide) b g p n)) :
    (dats m 0 c).arrAt 8 (cfgs 0).N = outLse (m ((c : Thread nD τ).loc main_arg0)) := by
  refine (dats m 0 c).arrAt_eq_of_covers 8 _ (by decide +kernel) fun t _ y => ?_
  blk_simp
  rw [after0_8, logs_of]
  have ht : t.val < 128 := t.isLt
  have hy : (y 1).val < 128 := (y 1).isLt
  idx_vars y
  obtain rfl : y0 = 0 := Subsingleton.elim _ _
  exact (point_at m c hxq hxk t ht y1 y2).2.trans (congrArg (outLse (m ((c : Thread nD τ).loc main_arg0))) (lse_place t ht y1 y2)).symm

end Cert.Dil16Proof
-- ==== Proof.Dil16Final.lean ====
module

public import proofs.«01_k».proof.Proof.Dil16Array
public import proofs.«01_k».proof.Proof.BandFinal
public import proofs.«01_k».proof.Proof.Gen.Dil16.Frame
public import proofs.«01_k».proof.Defs
public import Idealize.ShloMosaic.Lib.Claim

@[expose] public section

set_option maxRecDepth 16384

/-!
# The attention at dilation 16: the claims
-/

noncomputable section

namespace Cert.Dil16Proof

open Idealize.ShloMosaic Idealize.ShloMosaic.TcCoe Idealize.SL.Sem
open Cert.BandProof (Real' real_of_bits)

/-- The side conditions of the precondition's own operations. -/
theorem preFacts : Cert.Pre_finite_dil16.Facts := ⟨by decide, by decide, by decide, by decide, by decide⟩

attribute [local instance] preFacts

/-- What the precondition says of the queries and the keys. -/
theorem pre_at (x : FVec Ideal Cert.Pre_finite_dil16.S2x512x36864 .bf16) (hx : Cert.Pre_finite_dil16.fn (F := Ideal) x = fun _ => 1#1) :
    (∀ b g p n, Real' (cell x 2 (by decide) b g p n)) ∧ ∀ b g p n, Real' (cell x 5 (by decide) b g p n) := by
  have key : ∀ (b : Fin 2) (g : Fin 16) (p : Fin 512) (a : Fin 2) (n : Fin 256),
      Real' (x (ix3 b p ⟨g * 2304 + a * 768 + 2 * 256 + n, by omega⟩)) := by
    intro b g p a n
    have h := congrFun hx (ix5 b p g a n)
    simp only [Cert.Pre_finite_dil16.fn] at h
    pointwise at h
    refine (congrArg Real' (congrArg x ?_)).mp (real_of_bits _ h)
    congr 1
  exact ⟨fun b g p n => (congrArg Real' (congrArg x (congrArg (ix3 b p) (Fin.ext (show g.val * 2304 + 0 * 768 + 2 * 256 + n.val = g.val * 2304 + 2 * 256 + n.val by omega))))).mp (key b g p 0 n),
    fun b g p n => (congrArg Real' (congrArg x (congrArg (ix3 b p) (Fin.ext (show g.val * 2304 + 1 * 768 + 2 * 256 + n.val = g.val * 2304 + 5 * 256 + n.val by omega))))).mp (key b g p 1 n)⟩

/-- Kernel and reference end with equal results, where the queries and the keys are finite. -/
theorem algebraic : Cert.algebraic_Dil16Ideal_Dil16RefIdeal_pre_finite_dil16 := by
  pair_intro
  · run_from Cert.Dil16Ideal.Gen.run_main m g
  · run_from ref_run m' g'
    · exact (final m c (pre_at _ (hpre c)).1 (pre_at _ (hpre c)).2).symm
    · exact (finalLse m c (pre_at _ (hpre c)).1 (pre_at _ (hpre c)).2).symm

/-- The original kernel runs, leaves its argument as it was and every counter at zero. -/
theorem frame : Cert.quiescent_Dil16 := fun m ρ _ => Cert.Dil16.Gen.frame m ρ

/-- So does the kernel at its named mask. -/
theorem frameIdeal : Cert.quiescent_Dil16Ideal := fun m ρ _ => Cert.Dil16Ideal.Gen.frame m ρ

/-- The same under the precondition. -/
theorem frameIdealPre : Cert.quiescent_Dil16Ideal_pre_finite_dil16 := fun m ρ _ => Cert.Dil16Ideal.Gen.frame m ρ

/-- So does the reference. -/
theorem frameRef : Cert.quiescent_Dil16RefIdeal := fun m ρ _ =>
  (θ_run Cert.Dil16RefIdeal.defs _ _).mono
    (fun r h => ⟨fun c => (h c).2.2, Idealize.ShloMosaic.sem_eq_zero_of_no_sems (by decide) r.2⟩)
    (Cert.Dil16RefIdeal.Value.run (F := Ideal) m ρ)

/-- The same under the precondition. -/
theorem frameRefPre : Cert.quiescent_Dil16RefIdeal_pre_finite_dil16 := fun m ρ _ => frameRef m ρ trivial

/-- The named mask stands for minus infinity. -/
theorem preserves : Cert.preserves_Dil16_Dil16Ideal := IdealRules.named_const.statement Cert.Dil16Ideal.κ "mask" .f32 0xF149F2CA#32 (⊥ : EReal) rfl

end Cert.Dil16Proof
-- ==== Proof.NaKernel.lean ====
module

public import proofs.«01_k».proof.Proof.Gen.NaIdeal.Value
public import proofs.«01_k».proof.Proof.DilMath
public import proofs.«01_k».proof.Proof.BandFinal
public import Idealize.ShloMosaic.Lib.Pipeline.ValueKit
public import Idealize.ShloMosaic.Lib.Pointwise

@[expose] public section

set_option maxRecDepth 16384

/-!
# The neighbourhood attention: one grid point of the kernel
-/

noncomputable section

namespace Cert.NaProof

open Cert.NaIdeal Cert.NaIdeal.Gen Idealize.ShloMosaic Idealize.ShloMosaic.TcCoe Idealize.SL.Sem Cert.DilProof
open Idealize.ShloMosaic.Pipeline (Dat)

/-- The scores of one row of the two heads' queries. -/
def row (q : FVec Ideal S128x128 .bf16) (k : FVec Ideal S1x512x128 .bf16) (b : FVec Ideal S1x1x128x512 .f32) (r : Fin 128) (j : Fin 512) : EReal :=
  (∑ x : Fin 128, q (ix2 r x) * k (ix3 0 j x)) + b (ix4 0 0 r j)

/-- The two heads' queries, each with the other head's lanes zero. -/
def heads (q : FVec Ideal S1x64x128 .bf16) : FVec Ideal S128x128 .bf16 :=
  concatenate S128x128 0 [⟨S64x128, select k0_pay1 (shapeCast S64x128 q shapeCasts_S1x64x128_S64x128) (k0_pay2 (F := Ideal))⟩,
    ⟨S64x128, select k0_pay1 (k0_pay2 (F := Ideal)) (shapeCast S64x128 q shapeCasts_S1x64x128_S64x128)⟩] concatenates_S64x128_S64x128_S128x128_d0

/-- The scores. -/
def scores (q : FVec Ideal S128x128 .bf16) (k : FVec Ideal S1x512x128 .bf16) (b : FVec Ideal S1x1x128x512 .f32) : FVec Ideal S128x512 .f32 :=
  addf (matmul dot_S128x128_S512x128_S128x512_1_1_0_0_n_n none q (shapeCast S512x128 k shapeCasts_S1x512x128_S512x128) (constant S128x512 .f32 0x00000000#32))
    (shapeCast S128x512 b shapeCasts_S1x1x128x512_S128x512)

theorem scores_at (q : FVec Ideal S128x128 .bf16) (k : FVec Ideal S1x512x128 .bf16) (b : FVec Ideal S1x1x128x512 .f32) (r : Fin 128) (j : Fin 512) :
    scores q k b (ix2 r j) = row q k b r j := by
  pointwise [scores, row]

/-- The softmax of the scores against the values. -/
def soft (s : FVec Ideal S128x512 .f32) (v : FVec Ideal S1x512x128 .bf16) : FVec Ideal S128x128 .f32 :=
  let e := exp (subf s (broadcastTo S128x512 (shapeCast S128x1 (multiReduction .maximumf [1] S128 s 0xFF800000#32 reduces_S128x512_S128 (.inl rfl) rfl) shapeCasts_S128_S128x1) broadcasts_S128x1_S128x512))
  divf (matmul dot_S128x512_S512x128_S128x128_1_0_0_1_n_n none (truncf .bf16 e bitsLt_bf16_f32) (shapeCast S512x128 v shapeCasts_S1x512x128_S512x128) (constant S128x128 .f32 0x00000000#32))
    (broadcastTo S128x128 (shapeCast S128x1 (multiReduction .add [1] S128 e 0x00000000#32 reduces_S128x512_S128 (.inl rfl) rfl) shapeCasts_S128_S128x1) broadcasts_S128x1_S128x128)

theorem soft_at (s : FVec Ideal S128x512 .f32) (v : FVec Ideal S1x512x128 .bf16) (r : Fin 128) (n : Fin 128) :
    soft s v (ix2 r n) = whole (fun j => s (ix2 r j)) fun j => v (ix3 0 j n) := by
  pointwise [soft]
  rfl

theorem pay4_eq (k v : FVec Ideal S1x512x128 .bf16) (q : FVec Ideal S1x64x128 .bf16) (b : FVec Ideal S1x1x128x512 .f32) :
    k0_pay4 (F := Ideal) k0_pay1 k0_pay2 k v q b = soft (scores (heads q) k b) v := rfl

/-- A lane of the first head. -/
theorem left_at (r : Fin 64) (n : Fin 128) : k0_pay1 (ix2 r n) = 1#1 ↔ n.val < 64 := by
  have key : ∀ n : Fin 128, IntOp.cmpi .slt (BitVec.ofNat 32 n.val) 64#32 = 1#1 ↔ n.val < 64 := by decide +kernel
  pointwise [k0_pay1]
  exact key n

/-- A choice by the lane's head. -/
theorem pick_at (r : Fin 64) (n : Fin 128) (a b : EReal) : Scalar.select (k0_pay1 (ix2 r n)) a b = if n.val < 64 then a else b := by
  unfold Scalar.select
  exact if_congr (left_at r n) rfl rfl

theorem heads_at (q : FVec Ideal S1x64x128 .bf16) (r : Fin 128) (x : Fin 128) :
    heads q (ix2 r x) = if r.val / 64 = x.val / 64 then q (ix3 0 ⟨r % 64, by omega⟩ x) else 0 := by
  pointwise [heads, k0_pay2]
  by_cases h : r.val < 64
  · rw [dif_pos h, pick_at]
    have e : (⟨r.val, h⟩ : Fin 64) = ⟨r % 64, by omega⟩ := Fin.ext (show r.val = r.val % 64 by omega)
    rw [e]
    exact if_congr (by omega) rfl rfl
  · rw [dif_neg h, pick_at]
    have e : (⟨r.val - 64, by omega⟩ : Fin 64) = ⟨r % 64, by omega⟩ := Fin.ext (show r.val - 64 = r.val % 64 by omega)
    by_cases hx : x.val < 64
    · rw [if_pos hx, if_neg (by omega)]
    · rw [if_neg hx]
      exact (congrArg (fun r => q (ix3 0 r x)) e).trans (if_pos (by omega)).symm

theorem pay3_at (o : FVec Ideal S128x128 .f32) (r : Fin 64) (n : Fin 128) :
    k0_pay3 (F := Ideal) o (ix3 0 r n) = o (ix2 ⟨n / 64 * 64 + r, by omega⟩ n) := by
  pointwise [k0_pay3]
  rw [pick_at]
  split_ifs with h
  · exact congrArg (fun r => o (ix2 r n)) (Fin.ext (show r.val = n.val / 64 * 64 + r.val by omega))
  · exact congrArg (fun r => o (ix2 r n)) (Fin.ext (show 64 + r.val = n.val / 64 * 64 + r.val by omega))

/-- The first lane of a head, plus `d`. -/
theorem lanes_sum (h : ℕ) (hh : h < 2) (f : Fin 128 → EReal) :
    (∑ x : Fin 128, if h = x.val / 64 then f x else 0) = ∑ d : Fin 64, f ⟨h * 64 + d, by omega⟩ := by
  rw [← sum_emb (fun d : Fin 64 => (⟨h * 64 + d, by omega⟩ : Fin 128)) (fun a b e => Fin.ext (by have := congrArg Fin.val e; dsimp at this; omega))
    (fun x : Fin 128 => if h = x.val / 64 then f x else 0) fun i hi => if_neg fun e => hi ⟨i % 64, by omega⟩ (Fin.ext (show h * 64 + i.val % 64 = i.val by omega))]
  exact Finset.sum_congr rfl fun d _ => if_pos (show h = (h * 64 + d.val) / 64 by omega)

/-- The scores of the query at row `r`, of lane `n`'s head, against the 512 keys of its window. -/
def trip (q : FVec Ideal S1x64x128 .bf16) (k : FVec Ideal S1x512x128 .bf16) (b : FVec Ideal S1x1x128x512 .f32) (r : Fin 64) (n : Fin 128) (j : Fin 512) : EReal :=
  (∑ d : Fin 64, q (ix3 0 r ⟨n / 64 * 64 + d, by omega⟩) * k (ix3 0 j ⟨n / 64 * 64 + d, by omega⟩)) + b (ix4 0 0 ⟨n / 64 * 64 + r, by omega⟩ j)

theorem row_trip (q : FVec Ideal S1x64x128 .bf16) (k : FVec Ideal S1x512x128 .bf16) (b : FVec Ideal S1x1x128x512 .f32) (r : Fin 64) (n : Fin 128)
    (j : Fin 512) : row (heads q) k b ⟨n / 64 * 64 + r, by omega⟩ j = trip q k b r n j := by
  unfold row trip
  refine congrArg (· + _) ?_
  rw [← lanes_sum (n / 64) (by omega) fun x => q (ix3 0 r x) * k (ix3 0 j x)]
  refine Finset.sum_congr rfl fun x _ => ?_
  rw [heads_at]
  have e1 : (n.val / 64 * 64 + r.val) / 64 = n.val / 64 := by omega
  have e2 : (⟨(n.val / 64 * 64 + r.val) % 64, by omega⟩ : Fin 64) = r := Fin.ext (show (n.val / 64 * 64 + r.val) % 64 = r.val by omega)
  rw [ite_mul, zero_mul]
  refine if_congr (by rw [e1]) ?_ rfl
  rw [e2]

/-- One trip's store, at one element. -/
theorem store_at (k v : FVec Ideal S1x512x128 .bf16) (q : FVec Ideal S1x64x128 .bf16) (b : FVec Ideal S1x1x128x512 .f32) (r : Fin 64) (n : Fin 128) :
    k0_pay3 (F := Ideal) (k0_pay4 (F := Ideal) k0_pay1 k0_pay2 k v q b) (ix3 0 r n) = whole (trip q k b r n) fun j => v (ix3 0 j n) := by
  rw [pay3_at, pay4_eq, soft_at]
  refine congrArg (fun s => whole s _) (funext fun j => ?_)
  rw [scores_at, row_trip]

end Cert.NaProof
-- ==== Proof.NaLoop.lean ====
module

public import proofs.«01_k».proof.Proof.Gen.NaIdeal.Value
public import proofs.«01_k».proof.Proof.NaKernel
public import Idealize.ShloMosaic.Lib.Pipeline.ValueKit
public import Idealize.ShloMosaic.Lib.Pipeline.CanonAppend
public import Idealize.ShloMosaic.Lib.WholeRead
public import Idealize.ShloMosaic.Lib.Pointwise

@[expose] public section

set_option maxRecDepth 16384

/-!
# The neighbourhood attention: the kernel's loop over the eight rows of a grid point
-/

noncomputable section

namespace Cert.NaProof

open Cert.NaIdeal Cert.NaIdeal.Gen Idealize.ShloMosaic Idealize.ShloMosaic.TcCoe Idealize.SL.Sem Cert.DilProof
open Idealize.ShloMosaic.Pipeline (Dat)

variable (m : (ℓ : Loc nD τ sig) → Buf (Elt Ideal) ℓ)

/-- Where each row's trip reads the keys, the values and the biases, and where it reads the queries and stores. -/
theorem offs : ∀ (i : grid0.Coords) (k : Fin k0_t1_loop.trips),
    k0_off1 i k = ![0, min ((i 2).val * 8 + k.val - 4) 120 * 64, 0] ∧ k0_off2 k = ![0, k.val * 64, 0]
    ∧ k0_off3 i k = ![min ((i 2).val * 8 + k.val - 4) 120 + 7 - ((i 2).val * 8 + k.val), 0, 0, 0] := by decide +kernel

theorem trips_eq : k0_t1_loop.trips = 8 := by decide +kernel

/-- One trip's store. -/
def piece (c : Dev nD) (t : Fin cfg0.N) (k : Fin k0_t1_loop.trips) : View.Piece (Elt Ideal) S1x512x128 .bf16 :=
  ⟨Rect.unit (s := S1x512x128) (k0_off2 k) S1x64x128.size (k0_off2_inb k),
    k0_pay3 (F := Ideal) (k0_pay4 (F := Ideal) k0_pay1 k0_pay2
      (View.ld (Val := Elt Ideal) (e' := .bf16) (iblk m c 1 t) (Rect.unit (s := S1x8192x128) (k0_off1 (grid0.coords t) k) S1x512x128.size (k0_off1_inb (grid0.coords t) k)))
      (View.ld (Val := Elt Ideal) (e' := .bf16) (iblk m c 2 t) (Rect.unit (s := S1x8192x128) (k0_off1 (grid0.coords t) k) S1x512x128.size (k0_off1_inb (grid0.coords t) k)))
      (View.ld (Val := Elt Ideal) (e' := .bf16) (iblk m c 0 t) (Rect.unit (s := S1x512x128) (k0_off2 k) S1x64x128.size (k0_off2_inb k)))
      (View.ld (Val := Elt Ideal) (e' := .f32) (iblk m c 3 t) (Rect.unit (s := S8x1x128x512) (k0_off3 (grid0.coords t) k) S1x1x128x512.size (k0_off3_inb (grid0.coords t) k))))⟩

/-- The stores of the first trips of a grid point. -/
abbrev pieces (c : Dev nD) (t : Fin cfg0.N) (n : ℕ) : List (View.Piece (Elt Ideal) S1x512x128 .bf16) :=
  pb_k0_t1 (F := Ideal) Variants.none c none (grid0.coords t) (ms0_0 t) (hs0_0 t) (ms0_1 t) (hs0_1 t) (ms0_2 t) (hs0_2 t) (ms0_3 t) (hs0_3 t) (ms0_4 t) (hs0_4 t)
    (BitVec.ofNat 32 (grid0.coords t 2)) ((hs0_0 t).unread (iblk m c 0 t)) ((hs0_1 t).unread (iblk m c 1 t)) ((hs0_2 t).unread (iblk m c 2 t)) ((hs0_3 t).unread (iblk m c 3 t)) n

theorem tripL_eq (c : Dev nD) (t : Fin cfg0.N) (k : Fin k0_t1_loop.trips) :
    tripL_k0_t1 (F := Ideal) Variants.none c none (grid0.coords t) (ms0_0 t) (hs0_0 t) (ms0_1 t) (hs0_1 t) (ms0_2 t) (hs0_2 t) (ms0_3 t) (hs0_3 t) (ms0_4 t) (hs0_4 t)
      (BitVec.ofNat 32 (grid0.coords t 2)) ((hs0_0 t).unread (iblk m c 0 t)) ((hs0_1 t).unread (iblk m c 1 t)) ((hs0_2 t).unread (iblk m c 2 t)) ((hs0_3 t).unread (iblk m c 3 t)) k
    = [piece m c t k] := by
  unfold tripL_k0_t1 trip_k0_t1
  dsimp only [trip_k0_t1.sl.r]
  rw [show View.readAt (Elt Ideal) (ms0_1 t).view (Rect.unit (s := S1x8192x128) (k0_off1 (grid0.coords t) k) S1x512x128.size (k0_off1_inb (grid0.coords t) k)).toLoadRect ((hs0_1 t).unread (iblk m c 1 t))
      = View.ld (iblk m c 1 t) (Rect.unit (s := S1x8192x128) (k0_off1 (grid0.coords t) k) S1x512x128.size (k0_off1_inb (grid0.coords t) k)) from funext fun x => (hs0_1 t).readAt_unread _ _ x,
    show View.readAt (Elt Ideal) (ms0_2 t).view (Rect.unit (s := S1x8192x128) (k0_off1 (grid0.coords t) k) S1x512x128.size (k0_off1_inb (grid0.coords t) k)).toLoadRect ((hs0_2 t).unread (iblk m c 2 t))
      = View.ld (iblk m c 2 t) (Rect.unit (s := S1x8192x128) (k0_off1 (grid0.coords t) k) S1x512x128.size (k0_off1_inb (grid0.coords t) k)) from funext fun x => (hs0_2 t).readAt_unread _ _ x,
    show View.readAt (Elt Ideal) (ms0_0 t).view (Rect.unit (s := S1x512x128) (k0_off2 k) S1x64x128.size (k0_off2_inb k)).toLoadRect ((hs0_0 t).unread (iblk m c 0 t))
      = View.ld (iblk m c 0 t) (Rect.unit (s := S1x512x128) (k0_off2 k) S1x64x128.size (k0_off2_inb k)) from funext fun x => (hs0_0 t).readAt_unread _ _ x,
    show View.readAt (Elt Ideal) (ms0_3 t).view (Rect.unit (s := S8x1x128x512) (k0_off3 (grid0.coords t) k) S1x1x128x512.size (k0_off3_inb (grid0.coords t) k)).toLoadRect ((hs0_3 t).unread (iblk m c 3 t))
      = View.ld (iblk m c 3 t) (Rect.unit (s := S8x1x128x512) (k0_off3 (grid0.coords t) k) S1x1x128x512.size (k0_off3_inb (grid0.coords t) k)) from funext fun x => (hs0_3 t).readAt_unread _ _ x]
  rfl

/-- The stores so far are those of the trips so far. -/
theorem mem_pieces (c : Dev nD) (t : Fin cfg0.N) (p : View.Piece (Elt Ideal) S1x512x128 .bf16) (n : ℕ) (hn : n ≤ k0_t1_loop.trips) :
    p ∈ pieces m c t n ↔ ∃ k : Fin k0_t1_loop.trips, k.val < n ∧ p = piece m c t k := by
  induction n with
  | zero => exact ⟨fun h => absurd h List.not_mem_nil, fun ⟨k, hk, _⟩ => absurd hk (Nat.not_lt_zero _)⟩
  | succ n ih =>
    have e : pieces m c t (n + 1) = [piece m c t ⟨n, hn⟩] ++ pieces m c t n :=
      (pb_k0_t1_succ (F := Ideal) Variants.none c none (grid0.coords t) (ms0_0 t) (hs0_0 t) (ms0_1 t) (hs0_1 t) (ms0_2 t) (hs0_2 t) (ms0_3 t) (hs0_3 t) (ms0_4 t) (hs0_4 t)
        (BitVec.ofNat 32 (grid0.coords t 2)) ((hs0_0 t).unread (iblk m c 0 t)) ((hs0_1 t).unread (iblk m c 1 t)) ((hs0_2 t).unread (iblk m c 2 t)) ((hs0_3 t).unread (iblk m c 3 t)) ⟨n, hn⟩).trans
        (congrArg (· ++ pieces m c t n) (tripL_eq m c t ⟨n, hn⟩))
    rw [e, List.mem_append, ih (Nat.le_of_succ_le hn), List.mem_singleton]
    constructor
    · rintro (rfl | ⟨k, hk, rfl⟩)
      · exact ⟨⟨n, hn⟩, Nat.lt_succ_self n, rfl⟩
      · exact ⟨k, Nat.lt_succ_of_lt hk, rfl⟩
    · rintro ⟨k, hk, rfl⟩
      rcases Nat.lt_succ_iff_lt_or_eq.1 hk with h | h
      · exact Or.inr ⟨k, h, rfl⟩
      · exact Or.inl (congrArg (piece m c t) (Fin.ext h))

/-- The scores of a grid point's query at row `p`, of lane `n`'s head, against its window's keys. -/
def pointRow (g : ℕ) (hg : g < 16) (x : FVec Ideal S1x512x128 .bf16) (k : FVec Ideal S1x8192x128 .bf16) (b : FVec Ideal S8x1x128x512 .f32) (p : Fin 512) (n : Fin 128)
    (j : Fin 512) : EReal :=
  (∑ d : Fin 64, x (ix3 0 p ⟨n / 64 * 64 + d, by omega⟩) * k (ix3 0 ⟨min (g * 8 + p / 64 - 4) 120 * 64 + j, by omega⟩ ⟨n / 64 * 64 + d, by omega⟩))
    + b (ix4 ⟨min (g * 8 + p / 64 - 4) 120 + 7 - (g * 8 + p / 64), by omega⟩ 0 ⟨n / 64 * 64 + p % 64, by omega⟩ j)

/-- What a grid point leaves at row `p` and lane `n` of its block. -/
def pointAt (g : ℕ) (hg : g < 16) (x : FVec Ideal S1x512x128 .bf16) (k v : FVec Ideal S1x8192x128 .bf16) (b : FVec Ideal S8x1x128x512 .f32) (p : Fin 512) (n : Fin 128) : EReal :=
  whole (pointRow g hg x k b p n) fun j => v (ix3 0 ⟨min (g * 8 + p / 64 - 4) 120 * 64 + j, by omega⟩ n)

theorem store_place (i : grid0.Coords) (k : Fin k0_t1_loop.trips) (r : Fin 64) (n : Fin 128) (hk : k.val < 8) :
    (Rect.unit (s := S1x512x128) (k0_off2 k) S1x64x128.size (k0_off2_inb k)).emb (ix3 0 r n) = ix3 0 ⟨k * 64 + r, by omega⟩ n := by
  have h := (offs i k).2.1
  refine funext fun a => Fin.ext ?_
  refine (Rect.emb_apply _ _ _).trans ?_
  show k0_off2 k a + 1 * (ix3 (0 : Fin 1) r n a).val = _
  rw [h]
  fin_cases a
  · rfl
  · exact congrArg (k.val * 64 + ·) (Nat.one_mul _)
  · exact (Nat.zero_add _).trans (Nat.one_mul _)

theorem keys_place (i : grid0.Coords) (k : Fin k0_t1_loop.trips) (j : Fin 512) (n : Fin 128) :
    (Rect.unit (s := S1x8192x128) (k0_off1 i k) S1x512x128.size (k0_off1_inb i k)).idx (ix3 0 j n)
      = ix3 0 ⟨min ((i 2).val * 8 + k.val - 4) 120 * 64 + j, by omega⟩ n := by
  refine funext fun a => Fin.ext ?_
  show k0_off1 i k a + 1 * (ix3 (0 : Fin 1) j n a).val = _
  rw [(offs i k).1]
  fin_cases a
  · rfl
  · exact congrArg (min ((i 2).val * 8 + k.val - 4) 120 * 64 + ·) (Nat.one_mul _)
  · exact (Nat.zero_add _).trans (Nat.one_mul _)

theorem bias_place (i : grid0.Coords) (k : Fin k0_t1_loop.trips) (r : Fin 128) (j : Fin 512) :
    (Rect.unit (s := S8x1x128x512) (k0_off3 i k) S1x1x128x512.size (k0_off3_inb i k)).idx (ix4 0 0 r j)
      = ix4 ⟨min ((i 2).val * 8 + k.val - 4) 120 + 7 - ((i 2).val * 8 + k.val), by omega⟩ 0 r j := by
  refine funext fun a => Fin.ext ?_
  show k0_off3 i k a + 1 * (ix4 (0 : Fin 1) (0 : Fin 1) r j a).val = _
  rw [(offs i k).2.2]
  fin_cases a
  · rfl
  · rfl
  · exact (Nat.zero_add _).trans (Nat.one_mul _)
  · exact (Nat.zero_add _).trans (Nat.one_mul _)

/-- What one trip stores, from the point's blocks. -/
theorem trip_point (i : grid0.Coords) (k : Fin k0_t1_loop.trips) (hk : k.val < 8) (x : FVec Ideal S1x512x128 .bf16) (y v : FVec Ideal S1x8192x128 .bf16)
    (b : FVec Ideal S8x1x128x512 .f32) (r : Fin 64) (n : Fin 128) :
    (whole (trip (fun z => x ((Rect.unit (s := S1x512x128) (k0_off2 k) S1x64x128.size (k0_off2_inb k)).idx z))
        (fun z => y ((Rect.unit (s := S1x8192x128) (k0_off1 i k) S1x512x128.size (k0_off1_inb i k)).idx z))
        (fun z => b ((Rect.unit (s := S8x1x128x512) (k0_off3 i k) S1x1x128x512.size (k0_off3_inb i k)).idx z)) r n)
      fun j => v ((Rect.unit (s := S1x8192x128) (k0_off1 i k) S1x512x128.size (k0_off1_inb i k)).idx (ix3 0 j n)))
    = pointAt (i 2).val (i 2).isLt x y v b ⟨k * 64 + r, by omega⟩ n := by
  have e1 : (k.val * 64 + r.val) / 64 = k := by omega
  have e2 : (k.val * 64 + r.val) % 64 = r := by omega
  unfold pointAt
  refine congrArg₂ whole (funext fun j => ?_) (funext fun j => ?_)
  · unfold trip pointRow
    simp only [e1, e2]
    refine congrArg₂ (· + ·) (Finset.sum_congr rfl fun d _ => congrArg₂ (· * ·) (congrArg x (store_place i k r _ hk)) (congrArg y (keys_place i k j _)))
      (congrArg b (bias_place i k _ j))
  · simp only [e1]
    exact congrArg v (keys_place i k j n)

/-- A point's output block from the blocks it reads. -/
theorem outs_at (c : Dev nD) (t : Fin cfg0.N) (y : S1x512x128.Idx) :
    outsAt0 m c t y = pointAt (grid0.coords t 2).val (grid0.coords t 2).isLt (iblk m c 0 t) (iblk m c 1 t) (iblk m c 2 t) (iblk m c 3 t) (y 1) (y 2) := by
  unfold outsAt0
  frame_out
  show View.canon (pieces m c t k0_t1_loop.trips) y = _
  rw [← List.append_nil (pieces m c t k0_t1_loop.trips)]
  refine View.canon_append_of_pieces (Val := Elt Ideal) (S := S1x512x128) (e := .bf16) (fun y => pointAt (grid0.coords t 2).val (grid0.coords t 2).isLt (iblk m c 0 t) (iblk m c 1 t) (iblk m c 2 t) (iblk m c 3 t) (y 1) (y 2))
    [] _ ?_ y ?_
  · intro p hp
    obtain ⟨k, -, rfl⟩ := (mem_pieces m c t p _ le_rfl).1 hp
    have hk : k.val < 8 := Nat.lt_of_lt_of_le k.isLt trips_eq.le
    intro x
    obtain ⟨x0, r, n, rfl⟩ : ∃ (x0 : Fin 1) (r : Fin 64) (n : Fin 128), x = ix3 x0 r n := ⟨x 0, x 1, x 2, by funext a; fin_cases a <;> rfl⟩
    obtain rfl : x0 = 0 := Subsingleton.elim _ _
    refine (store_at _ _ _ _ r n).trans ?_
    show _ = (fun y : S1x512x128.Idx => pointAt (grid0.coords t 2).val (grid0.coords t 2).isLt (iblk m c 0 t) (iblk m c 1 t) (iblk m c 2 t) (iblk m c 3 t) (y 1) (y 2))
      ((Rect.unit (s := S1x512x128) (k0_off2 k) S1x64x128.size (k0_off2_inb k)).emb (ix3 0 r n))
    rw [store_place (grid0.coords t) k r n hk]
    show _ = pointAt (grid0.coords t 2).val (grid0.coords t 2).isLt (iblk m c 0 t) (iblk m c 1 t) (iblk m c 2 t) (iblk m c 3 t) ⟨k * 64 + r, by omega⟩ n
    exact trip_point (grid0.coords t) k hk (iblk m c 0 t) (iblk m c 1 t) (iblk m c 2 t) (iblk m c 3 t) r n
  · obtain ⟨y0, p, n, rfl⟩ : ∃ (y0 : Fin 1) (p : Fin 512) (n : Fin 128), y = ix3 y0 p n := ⟨y 0, y 1, y 2, by funext a; fin_cases a <;> rfl⟩
    obtain rfl : y0 = 0 := Subsingleton.elim _ _
    have h8 : p.val / 64 < 8 := by omega
    have hk : p.val / 64 < k0_t1_loop.trips := Nat.lt_of_lt_of_le h8 trips_eq.ge
    refine ⟨piece m c t ⟨p.val / 64, hk⟩, (mem_pieces m c t _ _ le_rfl).2 ⟨_, hk, rfl⟩, ?_⟩
    have e := (store_place (grid0.coords t) ⟨p.val / 64, hk⟩ ⟨p.val % 64, by omega⟩ n h8).trans
      (congrArg (fun p => ix3 0 p n) (Fin.ext (show p.val / 64 * 64 + p.val % 64 = p.val by omega)))
    exact (congrArg (· ∈ (Rect.unit (s := S1x512x128) (k0_off2 ⟨p.val / 64, hk⟩) S1x64x128.size (k0_off2_inb _)).set) e).mp ((Rect.unit (s := S1x512x128) (k0_off2 ⟨p.val / 64, hk⟩) S1x64x128.size (k0_off2_inb _)).idx_mem _)

end Cert.NaProof
-- ==== Proof.NaRef.lean ====
module

public import proofs.«01_k».proof.Proof.Gen.NaRefIdeal.Run
public import proofs.«01_k».proof.Proof.BandRef
public import proofs.«01_k».proof.Proof.DilMath
public import Idealize.ShloMosaic.Lib.Pipeline.ValueKit
public import Idealize.ShloMosaic.Lib.Pointwise
public import Idealize.ShloMosaic.Lib.Claim

@[expose] public section

set_option maxRecDepth 16384

/-!
# The neighbourhood attention: the reference's term, stage by stage
-/

noncomputable section

namespace Cert.NaProof

open Cert.NaRefIdeal Cert.NaRefIdeal.Gen Idealize.ShloMosaic Idealize.ShloMosaic.TcCoe Idealize.SL.Sem Cert.DilProof

/-- An argument by grid row, column, head and lane. -/
def grid (x : FVec Ideal S2x8192x1024 .bf16) : FVec Ideal S2x128x64x16x64 .f32 :=
  shapeCast _ (extf .f32 x bitsLt_bf16_f32) shapeCasts_S2x8192x1024_S2x128x64x16x64

/-- The eight rows from each grid row on. -/
def eight (y : FVec Ideal S2x128x64x16x64 .f32) : FVec Ideal S2x121x512x16x64 .f32 :=
  concatenate S2x121x512x16x64 2 [
    ⟨S2x121x64x16x64, extractStridedSlice S2x121x64x16x64 ![0, 0, 0, 0, 0] y slices_S2x128x64x16x64_S2x121x64x16x64_0_0_0_0_0⟩,
    ⟨S2x121x64x16x64, extractStridedSlice S2x121x64x16x64 ![0, 1, 0, 0, 0] y slices_S2x128x64x16x64_S2x121x64x16x64_0_1_0_0_0⟩,
    ⟨S2x121x64x16x64, extractStridedSlice S2x121x64x16x64 ![0, 2, 0, 0, 0] y slices_S2x128x64x16x64_S2x121x64x16x64_0_2_0_0_0⟩,
    ⟨S2x121x64x16x64, extractStridedSlice S2x121x64x16x64 ![0, 3, 0, 0, 0] y slices_S2x128x64x16x64_S2x121x64x16x64_0_3_0_0_0⟩,
    ⟨S2x121x64x16x64, extractStridedSlice S2x121x64x16x64 ![0, 4, 0, 0, 0] y slices_S2x128x64x16x64_S2x121x64x16x64_0_4_0_0_0⟩,
    ⟨S2x121x64x16x64, extractStridedSlice S2x121x64x16x64 ![0, 5, 0, 0, 0] y slices_S2x128x64x16x64_S2x121x64x16x64_0_5_0_0_0⟩,
    ⟨S2x121x64x16x64, extractStridedSlice S2x121x64x16x64 ![0, 6, 0, 0, 0] y slices_S2x128x64x16x64_S2x121x64x16x64_0_6_0_0_0⟩,
    ⟨S2x121x64x16x64, extractStridedSlice S2x121x64x16x64 ![0, 7, 0, 0, 0] y slices_S2x128x64x16x64_S2x121x64x16x64_0_7_0_0_0⟩]
    concatenates_S2x121x64x16x64_S2x121x64x16x64_S2x121x64x16x64_S2x121x64x16x64_S2x121x64x16x64_S2x121x64x16x64_S2x121x64x16x64_S2x121x64x16x64_S2x121x512x16x64_d2

/-- The window of each grid row: the first one's four more times in front, the last one's three more times behind. -/
def clipped (z : FVec Ideal S2x121x512x16x64 .f32) : FVec Ideal S2x128x512x16x64 .f32 :=
  let f : FVec Ideal S2x1x512x16x64 .f32 := extractStridedSlice S2x1x512x16x64 ![0, 0, 0, 0, 0] z slices_S2x121x512x16x64_S2x1x512x16x64_0_0_0_0_0
  let l : FVec Ideal S2x1x512x16x64 .f32 := extractStridedSlice S2x1x512x16x64 ![0, 120, 0, 0, 0] z slices_S2x121x512x16x64_S2x1x512x16x64_0_120_0_0_0
  concatenate S2x128x512x16x64 1 [⟨S2x1x512x16x64, f⟩, ⟨S2x1x512x16x64, f⟩, ⟨S2x1x512x16x64, f⟩, ⟨S2x1x512x16x64, f⟩, ⟨S2x121x512x16x64, z⟩,
    ⟨S2x1x512x16x64, l⟩, ⟨S2x1x512x16x64, l⟩, ⟨S2x1x512x16x64, l⟩] concatenates_S2x1x512x16x64_S2x1x512x16x64_S2x1x512x16x64_S2x1x512x16x64_S2x121x512x16x64_S2x1x512x16x64_S2x1x512x16x64_S2x1x512x16x64_S2x128x512x16x64_d1

/-- The table's row for each grid row. -/
def biases (b : FVec Ideal S8x8x128x512 .f32) : FVec Ideal S128x16x64x512 .f32 :=
  let y : FVec Ideal S8x16x64x512 .f32 := shapeCast _ b shapeCasts_S8x8x128x512_S8x16x64x512
  concatenate S128x16x64x512 0 [
    ⟨S1x16x64x512, extractStridedSlice S1x16x64x512 ![7, 0, 0, 0] y slices_S8x16x64x512_S1x16x64x512_7_0_0_0⟩,
    ⟨S1x16x64x512, extractStridedSlice S1x16x64x512 ![6, 0, 0, 0] y slices_S8x16x64x512_S1x16x64x512_6_0_0_0⟩,
    ⟨S1x16x64x512, extractStridedSlice S1x16x64x512 ![5, 0, 0, 0] y slices_S8x16x64x512_S1x16x64x512_5_0_0_0⟩,
    ⟨S1x16x64x512, extractStridedSlice S1x16x64x512 ![4, 0, 0, 0] y slices_S8x16x64x512_S1x16x64x512_4_0_0_0⟩,
    ⟨S121x16x64x512, broadcastInDim S121x16x64x512 ![0, 1, 2, 3] bcast_S1x16x64x512_S121x16x64x512_0_1_2_3
      (extractStridedSlice S1x16x64x512 ![3, 0, 0, 0] y slices_S8x16x64x512_S1x16x64x512_3_0_0_0)⟩,
    ⟨S1x16x64x512, extractStridedSlice S1x16x64x512 ![2, 0, 0, 0] y slices_S8x16x64x512_S1x16x64x512_2_0_0_0⟩,
    ⟨S1x16x64x512, extractStridedSlice S1x16x64x512 ![1, 0, 0, 0] y slices_S8x16x64x512_S1x16x64x512_1_0_0_0⟩,
    ⟨S1x16x64x512, extractStridedSlice S1x16x64x512 ![0, 0, 0, 0] y slices_S8x16x64x512_S1x16x64x512_0_0_0_0⟩] concatenates_S1x16x64x512_S1x16x64x512_S1x16x64x512_S1x16x64x512_S121x16x64x512_S1x16x64x512_S1x16x64x512_S1x16x64x512_S128x16x64x512_d0

/-- The scores of every query against its window of keys, with the bias. -/
def sums (q : FVec Ideal S2x128x64x16x64 .f32) (kw : FVec Ideal S2x128x512x16x64 .f32) (b : FVec Ideal S128x16x64x512 .f32) : FVec Ideal S2x128x16x64x512 .f32 :=
  addf (Host.dotGeneral dot_S2x128x64x16x64_S2x128x512x16x64_S2x128x16x64x512_4_4_2_2_013_013 none q kw)
    (broadcastInDim S2x128x16x64x512 ![0, 1, 2, 3, 4] bcast_S1x128x16x64x512_S2x128x16x64x512_0_1_2_3_4
      (broadcastInDim S1x128x16x64x512 ![1, 2, 3, 4] bcast_S128x16x64x512_S1x128x16x64x512_1_2_3_4 b))

/-- The greatest of a query's scores. -/
def tops (s : FVec Ideal S2x128x16x64x512 .f32) : FVec Ideal S2x128x16x64 .f32 :=
  Host.reduce FloatOps.maximumf s (constant S_ .f32 0xFF800000#32) reducesTo_S2x128x16x64x512_S2x128x16x64_d4 h_S_

/-- One number a query, at every key of its window. -/
def over (t : FVec Ideal S2x128x16x64 .f32) : FVec Ideal S2x128x16x64x512 .f32 :=
  broadcastInDim S2x128x16x64x512 ![0, 1, 2, 3, 4] bcast_S2x128x16x64x1_S2x128x16x64x512_0_1_2_3_4
    (broadcastInDim S2x128x16x64x1 ![0, 1, 2, 3] bcast_S2x128x16x64_S2x128x16x64x1_0_1_2_3 t)

/-- The exponentials of a query's scores less their greatest. -/
def exps (s : FVec Ideal S2x128x16x64x512 .f32) : FVec Ideal S2x128x16x64x512 .f32 := Host.exp (subf s (over (tops s)))

/-- The sum of the exponentials. -/
def dens (e : FVec Ideal S2x128x16x64x512 .f32) : FVec Ideal S2x128x16x64 .f32 :=
  Host.reduceAdd e (constant S_ .f32 0x00000000#32) reducesTo_S2x128x16x64x512_S2x128x16x64_d4 h_S_

/-- The values weighted by the quotients of two arrays. -/
def weigh (vw : FVec Ideal S2x128x512x16x64 .f32) (e f : FVec Ideal S2x128x16x64x512 .f32) : FVec Ideal S2x8192x1024 .bf16 :=
  truncf .bf16 (shapeCast _ (transpose S2x128x64x16x64 [0, 1, 4, 2, 3] (Host.dotGeneral
    dot_S2x128x512x16x64_S2x128x16x64x512_S2x128x16x64x64_2_4_4_3_013_012 none vw (Host.divf e f))
    transposes_S2x128x16x64x64_S2x128x64x16x64_0_1_4_2_3) shapeCasts_S2x128x64x16x64_S2x8192x1024) bitsLt_bf16_f32

/-- The values weighted by the normalized exponentials. -/
def mixed (vw : FVec Ideal S2x128x512x16x64 .f32) (s : FVec Ideal S2x128x16x64x512 .f32) : FVec Ideal S2x8192x1024 .bf16 :=
  weigh vw (exps s) (over (dens (exps s)))

/-- Lane `d` of head `h` of an argument, at column `j` of grid row `i`. -/
theorem grid_at (x : FVec Ideal S2x8192x1024 .bf16) (b : Fin 2) (i : Fin 128) (j : Fin 64) (h : Fin 16) (d : Fin 64) :
    grid x (ix5 b i j h d) = x (ix3 b ⟨i * 64 + j, by omega⟩ ⟨h * 64 + d, by omega⟩) := by
  pointwise [grid]

theorem eight_at (y : FVec Ideal S2x128x64x16x64 .f32) (b : Fin 2) (i : Fin 121) (j : Fin 512) (h : Fin 16) (d : Fin 64) :
    eight y (ix5 b i j h d) = y (ix5 b ⟨i + j / 64, by omega⟩ ⟨j % 64, by omega⟩ h d) := by
  pointwise [eight]
  split_ifs <;> exact congrArg₂ (fun i j => y (ix5 b i j h d)) (Fin.ext (by dsimp only; omega)) (Fin.ext (by dsimp only; omega))

theorem clipped_at (z : FVec Ideal S2x121x512x16x64 .f32) (b : Fin 2) (i : Fin 128) (j : Fin 512) (h : Fin 16) (d : Fin 64) :
    clipped z (ix5 b i j h d) = z (ix5 b ⟨min (i.val - 4) 120, by omega⟩ j h d) := by
  pointwise [clipped]
  split_ifs <;> exact congrArg (fun i => z (ix5 b i j h d)) (Fin.ext (by dsimp only; omega))

theorem biases_at (y : FVec Ideal S8x8x128x512 .f32) (i : Fin 128) (h : Fin 16) (r : Fin 64) (j : Fin 512) :
    biases y (ix4 i h r j) = y (ix4 ⟨min (i.val - 4) 120 + 7 - i, by omega⟩ ⟨h / 2, by omega⟩ ⟨h % 2 * 64 + r, by omega⟩ j) := by
  pointwise [biases]
  split_ifs <;> exact congrArg (fun i => y (ix4 i _ _ j)) (Fin.ext (by dsimp only; omega))

theorem sums_at (q : FVec Ideal S2x128x64x16x64 .f32) (kw : FVec Ideal S2x128x512x16x64 .f32) (b : FVec Ideal S128x16x64x512 .f32) (n : Fin 2) (i : Fin 128)
    (h : Fin 16) (r : Fin 64) (j : Fin 512) : sums q kw b (ix5 n i h r j)
      = (∑ x, q (ix5 n i r h x) * kw (ix5 n i j h x)) + b (ix4 i h r j) := by
  pointwise [sums]

theorem fiber (n : Fin 2) (u : Fin 128) (h : Fin 16) (r : Fin 64) (i : S2x128x16x64x512.Idx) :
    reducesTo_S2x128x16x64x512_S2x128x16x64_d4.drop i = ix4 n u h r ↔ ∃ k : Fin 512, ix5 n u h r k = i := by
  constructor
  · intro e
    refine ⟨i 4, ?_⟩
    funext a
    apply Fin.ext
    match a with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => exact (congrArg Fin.val (congrFun e 3)).symm
    | ⟨4, _⟩ => rfl
  · rintro ⟨k, rfl⟩
    funext a
    apply Fin.ext
    match a with
    | ⟨0, _⟩ => rfl
    | ⟨1, _⟩ => rfl
    | ⟨2, _⟩ => rfl
    | ⟨3, _⟩ => rfl

theorem tops_at (s : FVec Ideal S2x128x16x64x512 .f32) (n : Fin 2) (u : Fin 128) (h : Fin 16) (r : Fin 64) :
    tops s (ix4 n u h r) = sup fun j => s (ix5 n u h r j) := by
  unfold tops
  rw [Cert.BandProof.hostMax, Finset.fold_filter_eq_fold_of_fiber max _ (fun j : Fin 512 => ix5 n u h r j) (fun _ _ e => congrFun e 4) (fiber n u h r)]
  rfl

theorem over_at (t : FVec Ideal S2x128x16x64 .f32) (n : Fin 2) (u : Fin 128) (h : Fin 16) (r : Fin 64) (j : Fin 512) :
    over t (ix5 n u h r j) = t (ix4 n u h r) := by
  unfold over broadcastInDim
  refine congrArg t (funext fun a => Fin.ext ?_)
  match a with
    | ⟨0, _⟩ => rfl
    | ⟨1, _⟩ => rfl
    | ⟨2, _⟩ => rfl
    | ⟨3, _⟩ => rfl

theorem exps_at (s : FVec Ideal S2x128x16x64x512 .f32) (n : Fin 2) (u : Fin 128) (h : Fin 16) (r : Fin 64) (j : Fin 512) :
    exps s (ix5 n u h r j) = wt (fun j => s (ix5 n u h r j)) j := by
  unfold exps
  exact congrArg (fun x => Ideal.exp (s (ix5 n u h r j) - x)) ((over_at (tops s) n u h r j).trans (tops_at s n u h r))

theorem dens_at (s : FVec Ideal S2x128x16x64x512 .f32) (n : Fin 2) (u : Fin 128) (h : Fin 16) (r : Fin 64) :
    dens (exps s) (ix4 n u h r) = tot fun j => s (ix5 n u h r j) := by
  unfold dens
  rw [Cert.BandProof.hostSum, Finset.sum_filter_eq_sum_of_fiber _ (fun j : Fin 512 => ix5 n u h r j) (fun _ _ e => congrFun e 4) (fiber n u h r)]
  refine Eq.trans (congrArg (· + _) (by simp [Ideal.ofBits, Ideal.ieee, constant] : (constant S_ FTy.f32 0x00000000#32 (Shape.Idx.first h_S_) : Ideal .f32) = 0))
    ((zero_add _).trans (Finset.sum_congr rfl fun j _ => exps_at s n u h r j))

theorem weigh_at (vw : FVec Ideal S2x128x512x16x64 .f32) (e f : FVec Ideal S2x128x16x64x512 .f32) (b : Fin 2) (p : Fin 8192) (n : Fin 1024) :
    weigh vw e f (ix3 b p n) = ∑ j, vw (ix5 b ⟨p / 64, by omega⟩ j ⟨n / 64, by omega⟩ ⟨n % 64, by omega⟩)
      * Ideal.div (e (ix5 b ⟨p / 64, by omega⟩ ⟨n / 64, by omega⟩ ⟨p % 64, by omega⟩ j)) (f (ix5 b ⟨p / 64, by omega⟩ ⟨n / 64, by omega⟩ ⟨p % 64, by omega⟩ j)) := by
  pointwise [weigh]

theorem mixed_at (vw : FVec Ideal S2x128x512x16x64 .f32) (s : FVec Ideal S2x128x16x64x512 .f32) (b : Fin 2) (p : Fin 8192) (n : Fin 1024) :
    mixed vw s (ix3 b p n) = each (fun j => s (ix5 b ⟨p / 64, by omega⟩ ⟨n / 64, by omega⟩ ⟨p % 64, by omega⟩ j))
      fun j => vw (ix5 b ⟨p / 64, by omega⟩ j ⟨n / 64, by omega⟩ ⟨n % 64, by omega⟩) := by
  unfold mixed
  rw [weigh_at]
  simp only [exps_at, over_at, dens_at]
  rfl

/-- The position of key `j` of the window of the query at position `p`. -/
def at' (p : Fin 8192) (j : Fin 512) : Fin 8192 := ⟨min (p.val / 64 - 4) 120 * 64 + j, by omega⟩

/-- The scores of the query at position `p` of batch `b`, of column `n`'s head, against its window's keys. -/
def scoreRow (q k : FVec Ideal S2x8192x1024 .bf16) (t : FVec Ideal S8x8x128x512 .f32) (b : Fin 2) (p : Fin 8192) (n : Fin 1024) (j : Fin 512) : EReal :=
  (∑ d : Fin 64, q (ix3 b p ⟨n / 64 * 64 + d, by omega⟩) * k (ix3 b (at' p j) ⟨n / 64 * 64 + d, by omega⟩))
    + t (ix4 ⟨min (p.val / 64 - 4) 120 + 7 - p / 64, by omega⟩ ⟨n / 64 / 2, by omega⟩ ⟨n / 64 % 2 * 64 + p % 64, by omega⟩ j)

/-- The neighbourhood attention at column `n` of row `p` of batch `b`. -/
def outAt (q k v : FVec Ideal S2x8192x1024 .bf16) (t : FVec Ideal S8x8x128x512 .f32) (b : Fin 2) (p : Fin 8192) (n : Fin 1024) : EReal :=
  each (scoreRow q k t b p n) fun j => v (ix3 b (at' p j) n)

/-- The neighbourhood attention, element by element. -/
def out (q k v : FVec Ideal S2x8192x1024 .bf16) (t : FVec Ideal S8x8x128x512 .f32) : FVec Ideal S2x8192x1024 .bf16 := fun i => outAt q k v t (i 0) (i 1) (i 2)

/-- A key or value of a window. -/
theorem window_at (x : FVec Ideal S2x8192x1024 .bf16) (b : Fin 2) (p : Fin 8192) (j : Fin 512) (h : Fin 16) (d : Fin 64) :
    clipped (eight (grid x)) (ix5 b ⟨p / 64, by omega⟩ j h d) = x (ix3 b (at' p j) ⟨h * 64 + d, by omega⟩) := by
  rw [clipped_at, eight_at, grid_at]
  exact congrArg (fun p => x (ix3 b p _)) (Fin.ext (show (min (p.val / 64 - 4) 120 + j.val / 64) * 64 + j.val % 64 = min (p.val / 64 - 4) 120 * 64 + j.val by omega))

theorem res (q k v : FVec Ideal S2x8192x1024 .bf16) (t : FVec Ideal S8x8x128x512 .f32) :
    mixed (clipped (eight (grid v))) (sums (grid q) (clipped (eight (grid k))) (biases t)) = out q k v t := by
  funext i
  obtain ⟨b, p, n, rfl⟩ : ∃ (b : Fin 2) (p : Fin 8192) (n : Fin 1024), i = ix3 b p n := ⟨i 0, i 1, i 2, by funext a; fin_cases a <;> rfl⟩
  rw [mixed_at]
  show _ = outAt q k v t b p n
  unfold outAt
  have hp : (⟨p.val / 64 * 64 + p.val % 64, by omega⟩ : Fin 8192) = p := Fin.ext (show p.val / 64 * 64 + p.val % 64 = p.val by omega)
  have hn : (⟨n.val / 64 * 64 + n.val % 64, by omega⟩ : Fin 1024) = n := Fin.ext (show n.val / 64 * 64 + n.val % 64 = n.val by omega)
  refine congrArg₂ each (funext fun j => ?_) (funext fun j => ?_)
  · unfold scoreRow
    rw [sums_at, biases_at]
    refine congrArg (· + _) (Finset.sum_congr rfl fun d _ => ?_)
    rw [window_at, grid_at]
    exact congrArg (fun p => q (ix3 b p _) * _) hp
  · rw [window_at]
    exact congrArg (fun n => v (ix3 b _ n)) hn

/-- Every run of the reference program ends with the neighbourhood attention of its arguments, and leaves them as they were. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v57) = out (m ((c : Thread nD τ).loc main_arg0)) (m ((c : Thread nD τ).loc main_arg1))
        (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (res _ _ _ _), (h c).2⟩) (Value.run m ρ)

end Cert.NaProof
-- ==== Proof.NaArray.lean ====
module

public import proofs.«01_k».proof.Proof.NaLoop
public import proofs.«01_k».proof.Proof.NaRef
public import proofs.«01_k».proof.Proof.BandPoint

@[expose] public section

set_option maxRecDepth 16384

/-!
# The neighbourhood attention: the kernel's whole result array

The kernel divides by the sum of the exponentials after the last product, the reference before it. The two agree where
every score is below plus infinity and some score of the query is above minus infinity: its own column's is.
-/

noncomputable section

namespace Cert.NaProof

open Cert.NaIdeal Cert.NaIdeal.Gen Idealize.ShloMosaic Idealize.ShloMosaic.TcCoe Idealize.SL.Sem Cert.DilProof
open Cert.BandProof (Real' Real'.mul Real'.sum)
open Idealize.ShloMosaic.Pipeline (Dat)

/-- The table of biases is below plus infinity, and above minus infinity at a query's own column. -/
def Table (t : FVec Ideal S8x8x128x512 .f32) : Prop :=
  (∀ o h r j, t (ix4 o h r j) ≠ ⊤) ∧ ∀ (o : Fin 8) (h : Fin 8) (a : Fin 2) (s : Fin 64), t (ix4 o h ⟨a * 64 + s, by omega⟩ ⟨s, by omega⟩) ≠ ⊥

/-- Each query's row of scores: none is plus infinity, and not all are minus infinity. -/
theorem score_ne (q k : FVec Ideal S2x8192x1024 .bf16) (t : FVec Ideal S8x8x128x512 .f32) (hq : ∀ b p n, Real' (q (ix3 b p n)))
    (hk : ∀ b p n, Real' (k (ix3 b p n))) (ht : Table t) (b : Fin 2) (p : Fin 8192) (n : Fin 1024) :
    (∀ j, scoreRow q k t b p n j ≠ ⊤) ∧ ∃ j, scoreRow q k t b p n j ≠ ⊥ := by
  have hs : ∀ j, Real' (∑ d : Fin 64, q (ix3 b p ⟨n / 64 * 64 + d, by omega⟩) * k (ix3 b (at' p j) ⟨n / 64 * 64 + d, by omega⟩)) :=
    fun j => Real'.sum _ _ fun d => Real'.mul (hq _ _ _) (hk _ _ _)
  refine ⟨fun j => EReal.add_ne_top (hs j).1 (ht.1 _ _ _ _), ⟨⟨p % 64, by omega⟩, ?_⟩⟩
  refine fun h => (EReal.add_eq_bot_iff.mp h).elim (hs _).2 (ht.2 _ _ ⟨n / 64 % 2, by omega⟩ ⟨p % 64, by omega⟩)

/-- The kernel's element of a grid point's block is the reference's element at the block's place in the array. -/
theorem point_out (q k v : FVec Ideal S2x8192x1024 .bf16) (t : FVec Ideal S8x8x128x512 .f32) (hq : ∀ b p n, Real' (q (ix3 b p n)))
    (hk : ∀ b p n, Real' (k (ix3 b p n))) (ht : Table t)
    (x : FVec Ideal S1x512x128 .bf16) (y w : FVec Ideal S1x8192x128 .bf16) (z : FVec Ideal S8x1x128x512 .f32)
    (b : Fin 2) (g : Fin 16) (h : Fin 8) (i : ℕ) (hi : i < 16) (hg : i = g)
    (hx : ∀ (r : Fin 512) (n : Fin 128), x (ix3 0 r n) = q (ix3 b ⟨g * 512 + r, by omega⟩ ⟨h * 128 + n, by omega⟩))
    (hy : ∀ (r : Fin 8192) (n : Fin 128), y (ix3 0 r n) = k (ix3 b r ⟨h * 128 + n, by omega⟩))
    (hw : ∀ (r : Fin 8192) (n : Fin 128), w (ix3 0 r n) = v (ix3 b r ⟨h * 128 + n, by omega⟩))
    (hz : ∀ (o : Fin 8) (r : Fin 128) (j : Fin 512), z (ix4 o 0 r j) = t (ix4 o h r j))
    (r : Fin 512) (n : Fin 128) :
    pointAt i hi x y w z r n = outAt q k v t b ⟨g * 512 + r, by omega⟩ ⟨h * 128 + n, by omega⟩ := by
  subst hg
  have hp : (g.val * 512 + r.val) / 64 = g.val * 8 + r.val / 64 := by omega
  have hrow : pointRow g.val hi x y z r n = scoreRow q k t b ⟨g * 512 + r, by omega⟩ ⟨h * 128 + n, by omega⟩ := by
    funext j
    unfold pointRow scoreRow
    refine congrArg₂ (· + ·) (Finset.sum_congr rfl fun d _ => congrArg₂ (· * ·) ?_ ?_) ?_
    · rw [hx]
      exact congrArg (fun n => q (ix3 b _ n)) (Fin.ext (show h.val * 128 + (n.val / 64 * 64 + d.val) = (h.val * 128 + n.val) / 64 * 64 + d.val by omega))
    · rw [hy]
      refine congrArg₂ (fun p n => k (ix3 b p n)) (Fin.ext ?_) (Fin.ext (show h.val * 128 + (n.val / 64 * 64 + d.val) = (h.val * 128 + n.val) / 64 * 64 + d.val by omega))
      show min (g.val * 8 + r.val / 64 - 4) 120 * 64 + j.val = min ((g.val * 512 + r.val) / 64 - 4) 120 * 64 + j.val
      rw [hp]
    · rw [hz]
      have e1 : min (g.val * 8 + r.val / 64 - 4) 120 + 7 - (g.val * 8 + r.val / 64) = min ((g.val * 512 + r.val) / 64 - 4) 120 + 7 - (g.val * 512 + r.val) / 64 := by rw [hp]
      have e2 : h.val = (h.val * 128 + n.val) / 64 / 2 := by omega
      have e3 : n.val / 64 * 64 + r.val % 64 = (h.val * 128 + n.val) / 64 % 2 * 64 + (g.val * 512 + r.val) % 64 := by omega
      refine congrArg t (funext fun a => Fin.ext ?_)
      match a with
      | ⟨0, _⟩ => exact e1
      | ⟨1, _⟩ => exact e2
      | ⟨2, _⟩ => exact e3
      | ⟨3, _⟩ => rfl
  obtain ⟨h1, h2⟩ := score_ne q k t hq hk ht b ⟨g * 512 + r, by omega⟩ ⟨h * 128 + n, by omega⟩
  unfold pointAt outAt
  rw [hrow]
  refine whole_each _ _ _ h1 h2 fun j _ => ?_
  rw [hw]
  refine congrArg (fun p => v (ix3 b p _)) (Fin.ext ?_)
  show min (g.val * 8 + r.val / 64 - 4) 120 * 64 + j.val = min ((g.val * 512 + r.val) / 64 - 4) 120 * 64 + j.val
  rw [hp]

variable (m : (ℓ : Loc nD τ sig) → Buf (Elt Ideal) ℓ)

/-- The block every operand takes at each grid point: the tiles of each pair of heads of each of the two batches. -/
theorem idx : ∀ t : Fin cfg0.N, win0_0.index t = ![t.val / 128, t.val % 16, t.val / 16 % 8]
    ∧ win0_1.index t = ![t.val / 128, 0, t.val / 16 % 8] ∧ win0_2.index t = ![t.val / 128, 0, t.val / 16 % 8]
    ∧ win0_3.index t = ![0, t.val / 16 % 8, 0, 0] ∧ win0_4.index t = ![t.val / 128, t.val % 16, t.val / 16 % 8] :=
  (by decide +kernel : ∀ t : Fin grid0.N, _)

/-- A grid point's tile number. -/
theorem tile : ∀ t : Fin cfg0.N, (grid0.coords t 2).val = t.val % 16 :=
  (by decide +kernel : ∀ t : Fin grid0.N, _)

/-! Each operand's block at a grid point, one element. -/

theorem q_block (c : Dev nD) (t : Fin cfg0.N) (ht : t.val < 256) (r : Fin 512) (n : Fin 128) : iblk m c 0 t (ix3 0 r n)
    = m ((c : Thread nD τ).loc main_arg0) (ix3 ⟨t.val / 128, by omega⟩ ⟨t.val % 16 * 512 + r, by omega⟩ ⟨t.val / 16 % 8 * 128 + n, by omega⟩) := by
  blk_point [iblk, V, idx t]

theorem k_block (c : Dev nD) (t : Fin cfg0.N) (ht : t.val < 256) (r : Fin 8192) (n : Fin 128) : iblk m c 1 t (ix3 0 r n)
    = m ((c : Thread nD τ).loc main_arg1) (ix3 ⟨t.val / 128, by omega⟩ r ⟨t.val / 16 % 8 * 128 + n, by omega⟩) := by
  blk_point [iblk, V, idx t]

theorem v_block (c : Dev nD) (t : Fin cfg0.N) (ht : t.val < 256) (r : Fin 8192) (n : Fin 128) : iblk m c 2 t (ix3 0 r n)
    = m ((c : Thread nD τ).loc main_arg2) (ix3 ⟨t.val / 128, by omega⟩ r ⟨t.val / 16 % 8 * 128 + n, by omega⟩) := by
  blk_point [iblk, V, idx t]

theorem t_block (c : Dev nD) (t : Fin cfg0.N) (ht : t.val < 256) (o : Fin 8) (r : Fin 128) (j : Fin 512) : iblk m c 3 t (ix4 o 0 r j)
    = m ((c : Thread nD τ).loc main_arg3) (ix4 o ⟨t.val / 16 % 8, by omega⟩ r j) := by
  blk_point [iblk, V, idx t]

/-- Where a grid point's block of the result lies in the array. -/
theorem out_place (t : Fin cfg0.N) (ht : t.val < 256) (r : Fin 512) (n : Fin 128) :
    (win0_4.blk t).view.emb (ix3 0 r n) = ix3 ⟨t.val / 128, by omega⟩ ⟨t.val % 16 * 512 + r, by omega⟩ ⟨t.val / 16 % 8 * 128 + n, by omega⟩ := by
  blk_point [idx t]

/-- A grid point's elements of the result. -/
theorem point_at (c : Dev nD) (hq : ∀ b p n, Real' (m ((c : Thread nD τ).loc main_arg0) (ix3 b p n)))
    (hk : ∀ b p n, Real' (m ((c : Thread nD τ).loc main_arg1) (ix3 b p n))) (hb : Table (m ((c : Thread nD τ).loc main_arg3)))
    (t : Fin cfg0.N) (ht : t.val < 256) (r : Fin 512) (n : Fin 128) :
    pointAt (grid0.coords t 2).val (grid0.coords t 2).isLt (iblk m c 0 t) (iblk m c 1 t) (iblk m c 2 t) (iblk m c 3 t) r n
      = outAt (m ((c : Thread nD τ).loc main_arg0)) (m ((c : Thread nD τ).loc main_arg1)) (m ((c : Thread nD τ).loc main_arg2)) (m ((c : Thread nD τ).loc main_arg3))
        ⟨t.val / 128, by omega⟩ ⟨t.val % 16 * 512 + r, by omega⟩ ⟨t.val / 16 % 8 * 128 + n, by omega⟩ :=
  point_out (m ((c : Thread nD τ).loc main_arg0)) (m ((c : Thread nD τ).loc main_arg1)) (m ((c : Thread nD τ).loc main_arg2)) (m ((c : Thread nD τ).loc main_arg3))
    hq hk hb (iblk m c 0 t) (iblk m c 1 t) (iblk m c 2 t) (iblk m c 3 t) ⟨t.val / 128, by omega⟩ ⟨t.val % 16, by omega⟩ ⟨t.val / 16 % 8, by omega⟩
    (grid0.coords t 2).val (grid0.coords t 2).isLt (tile t) (q_block m c t ht) (k_block m c t ht) (v_block m c t ht) (t_block m c t ht) r n

/-- The kernel's result array is the neighbourhood attention of its arguments. -/
theorem final (c : Dev nD) (hq : ∀ b p n, Real' (m ((c : Thread nD τ).loc main_arg0) (ix3 b p n)))
    (hk : ∀ b p n, Real' (m ((c : Thread nD τ).loc main_arg1) (ix3 b p n))) (hb : Table (m ((c : Thread nD τ).loc main_arg3))) :
    (dats m 0 c).arrAt 4 (cfgs 0).N = out (m ((c : Thread nD τ).loc main_arg0)) (m ((c : Thread nD τ).loc main_arg1)) (m ((c : Thread nD τ).loc main_arg2))
      (m ((c : Thread nD τ).loc main_arg3)) := by
  refine (dats m 0 c).arrAt_eq_of_covers 4 _ (by decide +kernel) fun t _ y => ?_
  blk_simp
  rw [after0_4, outs_at]
  have ht : t.val < 256 := t.isLt
  idx_vars y
  obtain rfl : y0 = 0 := Subsingleton.elim _ _
  exact (point_at m c hq hk hb t ht y1 y2).trans (congrArg (out (m ((c : Thread nD τ).loc main_arg0)) (m ((c : Thread nD τ).loc main_arg1))
    (m ((c : Thread nD τ).loc main_arg2)) (m ((c : Thread nD τ).loc main_arg3))) (out_place t ht y1 y2)).symm

end Cert.NaProof
-- ==== Proof.NaFinal.lean ====
module

public import proofs.«01_k».proof.Proof.NaArray
public import proofs.«01_k».proof.Proof.BandFinal
public import proofs.«01_k».proof.Proof.Gen.Na.Frame
public import proofs.«01_k».proof.Defs
public import Idealize.ShloMosaic.Lib.ValueIdxRank6
public import Idealize.ShloMosaic.Lib.Claim

@[expose] public section

set_option maxRecDepth 16384

/-!
# The neighbourhood attention: the claims
-/

noncomputable section

namespace Cert.NaProof

open Idealize.ShloMosaic Idealize.ShloMosaic.TcCoe Idealize.SL.Sem
open Cert.BandProof (Real' real_of_bits and_bit bit_one ofBits_top)

/-- The side conditions of the precondition's own operations. -/
theorem preFacts : Cert.Pre_finite_na.Facts := ⟨by decide, by decide, by decide, by decide⟩

attribute [local instance] preFacts

/-- What the precondition says of an element of the table. -/
theorem bound_of_bits (x : EReal) (n : BitVec 1) (h : IntOp.andi (BitVec.ofBool (decide (x < Ideal.ofBits .f32 0x7F800000#32)))
    (IntOp.ori (BitVec.ofBool (decide (-Ideal.ofBits .f32 0x7F800000#32 < x))) n) = 1#1) : x ≠ ⊤ ∧ (n = 0#1 → x ≠ ⊥) := by
  have key : ∀ a b n : BitVec 1, IntOp.andi a (IntOp.ori b n) = 1#1 → a = 1#1 ∧ (n = 0#1 → b = 1#1) := by decide
  obtain ⟨h1, h2⟩ := key _ _ _ h
  rw [bit_one, ofBits_top, decide_eq_true_eq] at h1
  refine ⟨h1.ne, fun hn hx => ?_⟩
  have h3 := h2 hn
  rw [bit_one, ofBits_top, decide_eq_true_eq, hx] at h3
  exact not_lt_bot h3

/-- An equality test of a number with itself, negated. -/
theorem same_bit (a : BitVec 32) : ~~~IntOp.cmpi CmpIPredicate.eq a a = 0#1 := by
  simp [IntOp.cmpi]

/-- What the precondition says of the queries, the keys and the table. -/
theorem pre_at (q k v : FVec Ideal Cert.Pre_finite_na.S2x8192x1024 .bf16) (t : FVec Ideal Cert.Pre_finite_na.S8x8x128x512 .f32)
    (h0 : (Cert.Pre_finite_na.fn (F := Ideal) q k v t).1 = fun _ => 1#1)
    (h1 : (Cert.Pre_finite_na.fn (F := Ideal) q k v t).2.1 = fun _ => 1#1)
    (h2 : (Cert.Pre_finite_na.fn (F := Ideal) q k v t).2.2 = fun _ => 1#1) :
    (∀ b p n, Real' (q (ix3 b p n))) ∧ (∀ b p n, Real' (k (ix3 b p n))) ∧ Table t := by
  refine ⟨fun b p n => ?_, fun b p n => ?_, ?_⟩
  · have h := congrFun h0 (ix3 b p n)
    simp only [Cert.Pre_finite_na.fn, Cert.Pre_finite_na.fn_part1] at h
    pointwise at h
    exact real_of_bits _ h
  · have h := congrFun h1 (ix3 b p n)
    simp only [Cert.Pre_finite_na.fn, Cert.Pre_finite_na.fn_part1] at h
    pointwise at h
    exact real_of_bits _ h
  · have h := fun o g a s u w => congrFun h2 (ix6 o g a s u w)
    simp only [Cert.Pre_finite_na.fn, Cert.Pre_finite_na.fn_part1] at h
    pointwise at h
    refine ⟨fun o g r j => ?_, fun o g a u => ?_⟩
    · have hj : (⟨j.val / 64 * 64 + j.val % 64, by omega⟩ : Fin 512) = j := Fin.ext (show j.val / 64 * 64 + j.val % 64 = j.val by omega)
      by_cases hr : r.val < 64
      · have e := (bound_of_bits _ _ ((h o g).1 ⟨r, hr⟩ ⟨j / 64, by omega⟩ ⟨j % 64, by omega⟩)).1
        exact (congrArg (fun j => t (ix4 o g r j) ≠ ⊤) hj).mp e
      · have e := (bound_of_bits _ _ ((h o g).2 ⟨r - 64, by omega⟩ ⟨j / 64, by omega⟩ ⟨j % 64, by omega⟩)).1
        exact (congrArg₂ (fun r j => t (ix4 o g r j) ≠ ⊤) (Fin.ext (show 64 + (r.val - 64) = r.val by omega)) hj).mp e
    · have hj : (⟨(0 : Fin 8).val * 64 + u.val, by omega⟩ : Fin 512) = ⟨u, by omega⟩ := Fin.ext (show 0 * 64 + u.val = u.val by omega)
      obtain ⟨a, ha⟩ := a
      obtain rfl | rfl : a = 0 ∨ a = 1 := by omega
      · have e := (bound_of_bits _ _ ((h o g).1 u 0 u)).2 (same_bit _)
        exact (congrArg₂ (fun r j => t (ix4 o g r j) ≠ ⊥) (Fin.ext (show u.val = 0 * 64 + u.val by omega)) hj).mp e
      · have e := (bound_of_bits _ _ ((h o g).2 u 0 u)).2 (same_bit _)
        exact (congrArg₂ (fun r j => t (ix4 o g r j) ≠ ⊥) (Fin.ext (show 64 + u.val = 1 * 64 + u.val by omega)) hj).mp e

/-- Kernel and reference end with equal results, where the queries and the keys are finite and the table as stated. -/
theorem algebraic : Cert.algebraic_NaIdeal_NaRefIdeal_pre_finite_na := by
  pair_intro
  · run_from Cert.NaIdeal.Gen.run_main m g
  · run_from ref_run m' g'
    obtain ⟨hq, hk, hb⟩ := pre_at _ _ _ _ (hpre c).1 (hpre c).2.1 (hpre c).2.2
    exact (final m c hq hk hb).symm

/-- The original kernel runs, leaves its arguments as they were and every counter at zero. -/
theorem frame : Cert.quiescent_Na := fun m ρ _ => Cert.Na.Gen.frame m ρ

/-- So does the kernel at extended reals. -/
theorem frameIdeal : Cert.quiescent_NaIdeal := fun m ρ _ => Cert.NaIdeal.Gen.frame m ρ

/-- The same under the precondition. -/
theorem frameIdealPre : Cert.quiescent_NaIdeal_pre_finite_na := fun m ρ _ => Cert.NaIdeal.Gen.frame m ρ

/-- So does the reference. -/
theorem frameRef : Cert.quiescent_NaRefIdeal := fun m ρ _ =>
  (θ_run Cert.NaRefIdeal.defs _ _).mono
    (fun r h => ⟨fun c => (h c).2, Idealize.ShloMosaic.sem_eq_zero_of_no_sems (by decide) r.2⟩)
    (Cert.NaRefIdeal.Value.run (F := Ideal) m ρ)

/-- The same under the precondition. -/
theorem frameRefPre : Cert.quiescent_NaRefIdeal_pre_finite_na := fun m ρ _ => frameRef m ρ trivial

end Cert.NaProof
-- ==== Proof.PleFirst.lean ====
module

public import proofs.«01_k».proof.Proof.Gen.PleFirstIdeal.Value
public import proofs.«01_k».proof.Proof.Gen.PleFirstRefIdeal.Run
public import proofs.«01_k».proof.Proof.Gen.PleFirst.Frame
public import proofs.«01_k».proof.Defs
public import proofs.«01_k».proof.Proof.Ple
public import Idealize.ShloMosaic.Lib.Pipeline.ValueKit
public import Idealize.ShloMosaic.Lib.Pointwise
public import Idealize.ShloMosaic.Lib.Claim

@[expose] public section

set_option maxRecDepth 16384

/-!
# The per-layer embedding without the final normalization

`out` is `h + sigmoid (rmsnorm h @ w_gate) * (p @ w_proj)` of the first layer, element by element. The last gains are an
argument of the call, which does not use them.
-/

noncomputable section

namespace Cert.PleFirstProof

open Cert.PleFirstIdeal Cert.PleFirstIdeal.Gen Idealize.ShloMosaic Idealize.ShloMosaic.TcCoe Idealize.SL.Sem
open Idealize.ShloMosaic.Pipeline (Dat)
open Cert.FfnProof (normed)
open Cert.PleProof (mixed mixed_congr)

/-- The residual stream after the embedding of layer 0, element by element. -/
def out (h : FVec Ideal S16384x1024 .f32) (g : FVec Ideal S4x1x1024 .f32) (wg : FVec Ideal S4x1024x1024 .bf16)
    (p : FVec Ideal S4x16384x256 .f32) (wp : FVec Ideal S4x256x1024 .bf16) : FVec Ideal S16384x1024 .f32 := fun i =>
  mixed (fun k => h (ix2 (i 0) k)) (fun k => g (ix3 0 0 k)) (fun k l => wg (ix3 0 k l)) (fun k => p (ix3 0 (i 0) k))
    (fun k l => wp (ix3 0 k l)) (i 1)

/-- The mixed rows of a grid point, at one element. -/
theorem mix_at (x : FVec Ideal S512x1024 .f32) (g : FVec Ideal S1x1x1024 .f32) (wg : FVec Ideal S1x1024x1024 .bf16)
    (p : FVec Ideal S1x512x256 .f32) (wp : FVec Ideal S1x256x1024 .bf16) (r : Fin 512) (j : Fin 1024) :
    k0_pay1 (F := Ideal) x g wg p wp (ix2 r j) = mixed (fun k => x (ix2 r k)) (fun k => g (ix3 0 0 k)) (fun k l => wg (ix3 0 k l))
      (fun k => p (ix3 0 r k)) (fun k l => wp (ix3 0 k l)) j := by
  pointwise [k0_pay1, mixed, normed]

/-- The block of rows at each grid point, and the layer's weights at every one. -/
theorem idx : ∀ t : Fin cfg0.N, win0_0.index t = ![t.val, 0] ∧ win0_1.index t = ![0, 0, 0] ∧ win0_2.index t = ![0, 0, 0]
    ∧ win0_3.index t = ![0, t.val, 0] ∧ win0_4.index t = ![0, 0, 0] ∧ win0_5.index t = ![0, 0] ∧ win0_6.index t = ![t.val, 0] :=
  (by decide +kernel : ∀ t : Fin grid0.N, _)

variable (m : (ℓ : Loc nD τ sig) → Buf (Elt Ideal) ℓ)

/-- The kernel's result array is the mixed stream of its arguments. -/
theorem final (c : Dev nD) : (dats m 0 c).arrAt 6 (cfgs 0).N
    = out (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  rw [after0_6]
  unfold out0_6
  canon_tiles x h
  idx_vars x
  rw [mix_at]
  unfold out
  have e1 : x1 = ((win0_6.blk t).view.emb y) 1 := by
    have e : (win0_6.blk t).view.emb y = ix2 (((win0_6.blk t).view.emb y) 0) x1 := by blk_point [idx t]
    exact (congrFun e 1).symm
  rw [← e1]
  refine mixed_congr (fun k => ?_) (fun k => ?_) (fun k l => ?_) (fun k => ?_) (fun k l => ?_) _
  all_goals blk_point [iblk, V, idx t]

end Cert.PleFirstProof

namespace Cert.PleFirstProof

open Cert.PleFirstRefIdeal Cert.PleFirstRefIdeal.Gen Idealize.ShloMosaic Idealize.ShloMosaic.TcCoe Idealize.SL.Sem
open Cert.FfnProof (normed)
open Cert.PleProof (mixed)

/-- Every run of the reference program ends with the mixed stream of its arguments, which it leaves as they were. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v32) = out (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun r h c => ⟨(h c).1.trans ?_, (h c).2⟩) (Value.run m ρ)
  generalize m ((c : Thread nD τ).loc main_arg0) = h0
  generalize m ((c : Thread nD τ).loc main_arg1) = h1
  generalize m ((c : Thread nD τ).loc main_arg2) = h2
  generalize m ((c : Thread nD τ).loc main_arg3) = h3
  generalize m ((c : Thread nD τ).loc main_arg4) = h4
  funext i
  idx_vars i
  pointwise [out, normed, mixed]
  rfl

end Cert.PleFirstProof

namespace Cert.PleFirstProof

open Idealize.ShloMosaic Idealize.ShloMosaic.TcCoe Idealize.SL.Sem

/-- Kernel and reference end with equal results. -/
theorem algebraic : Cert.algebraic_PleFirstIdeal_PleFirstRefIdeal := by
  pair_intro
  · run_from Cert.PleFirstIdeal.Gen.run_main m g
  · run_from ref_run m' g'
    exact (final m c).symm

/-- The kernel runs, leaves its arguments as they were and every counter at zero. -/
theorem frame : Cert.quiescent_PleFirst := fun m ρ _ => Cert.PleFirst.Gen.frame m ρ

/-- So does the kernel the value claim names. -/
theorem frameIdeal : Cert.quiescent_PleFirstIdeal := fun m ρ _ => Cert.PleFirstIdeal.Gen.frame m ρ

/-- So does the reference. -/
theorem frameRef : Cert.quiescent_PleFirstRefIdeal := fun m ρ _ =>
  (θ_run Cert.PleFirstRefIdeal.defs _ _).mono
    (fun r h => ⟨fun c => (h c).2, Idealize.ShloMosaic.sem_eq_zero_of_no_sems (by decide) r.2⟩)
    (Cert.PleFirstRefIdeal.Value.run (F := Ideal) m ρ)

end Cert.PleFirstProof
-- ==== Proof.lean ====
module

public import proofs.«01_k».proof.Defs
public import proofs.«01_k».proof.Proof.Gen.Band
public import proofs.«01_k».proof.Proof.Gen.Band.Skeleton
public import proofs.«01_k».proof.Proof.Gen.Band.Launch
public import proofs.«01_k».proof.Proof.Gen.Band.Points
public import proofs.«01_k».proof.Proof.Gen.Band.Frame
public import proofs.«01_k».proof.Proof.Gen.BandIdeal
public import proofs.«01_k».proof.Proof.Gen.BandIdeal.Skeleton
public import proofs.«01_k».proof.Proof.Gen.BandIdeal.Launch
public import proofs.«01_k».proof.Proof.Gen.BandIdeal.Points
public import proofs.«01_k».proof.Proof.Gen.BandIdeal.Frame
public import proofs.«01_k».proof.Proof.Gen.BandRefIdeal
public import proofs.«01_k».proof.Proof.Gen.BandIdeal.Value
public import proofs.«01_k».proof.Proof.Gen.FfnIdeal.Value
public import proofs.«01_k».proof.Proof.Gen.BandRefIdeal.Run
public import proofs.«01_k».proof.Proof.Gen.FfnRefIdeal.Run
public import proofs.«01_k».proof.Proof.Gen.PleIdeal.Value
public import proofs.«01_k».proof.Proof.Gen.PleRefIdeal.Run
public import proofs.«01_k».proof.Proof.Gen.InCIdeal.Value
public import proofs.«01_k».proof.Proof.Gen.InCRefIdeal.Run
public import proofs.«01_k».proof.Proof.Gen.OutCIdeal.Value
public import proofs.«01_k».proof.Proof.Gen.OutCRefIdeal.Run
public import proofs.«01_k».proof.Proof.Gen.InABIdeal.Value
public import proofs.«01_k».proof.Proof.Gen.InABRefIdeal.Run
public import proofs.«01_k».proof.Proof.Gen.OutABIdeal.Value
public import proofs.«01_k».proof.Proof.Gen.OutABRefIdeal.Run
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.Ple.Frame
public import proofs.«01_k».proof.Proof.Gen.InC.Frame
public import proofs.«01_k».proof.Proof.Gen.OutC.Frame
public import proofs.«01_k».proof.Proof.Gen.InAB.Frame
public import proofs.«01_k».proof.Proof.Gen.OutAB.Frame
public import proofs.«01_k».proof.Proof.Gen.Dil1Ideal.Value
public import proofs.«01_k».proof.Proof.Gen.Dil1RefIdeal.Run
public import proofs.«01_k».proof.Proof.Gen.Dil1.Frame
public import proofs.«01_k».proof.Proof.Gen.Dil4Ideal.Value
public import proofs.«01_k».proof.Proof.Gen.Dil4RefIdeal.Run
public import proofs.«01_k».proof.Proof.Gen.Dil4.Frame
public import proofs.«01_k».proof.Proof.Gen.Dil16Ideal.Value
public import proofs.«01_k».proof.Proof.Gen.Dil16RefIdeal.Run
public import proofs.«01_k».proof.Proof.Gen.Dil16.Frame
public import proofs.«01_k».proof.Proof.Gen.NaIdeal.Value
public import proofs.«01_k».proof.Proof.Gen.NaRefIdeal.Run
public import proofs.«01_k».proof.Proof.Gen.Na.Frame
public import proofs.«01_k».proof.Proof.Gen.PleFirstIdeal.Value
public import proofs.«01_k».proof.Proof.Gen.PleFirstRefIdeal.Run
public import proofs.«01_k».proof.Proof.Gen.PleFirst.Frame
public import proofs.«01_k».proof.Proof.BandFinal
public import proofs.«01_k».proof.Proof.FfnFinal
public import proofs.«01_k».proof.Proof.Ple
public import proofs.«01_k».proof.Proof.InC
public import proofs.«01_k».proof.Proof.OutC
public import proofs.«01_k».proof.Proof.InAB
public import proofs.«01_k».proof.Proof.OutAB
public import proofs.«01_k».proof.Proof.Dil1Final
public import proofs.«01_k».proof.Proof.Dil4Final
public import proofs.«01_k».proof.Proof.Dil16Final
public import proofs.«01_k».proof.Proof.NaFinal
public import proofs.«01_k».proof.Proof.PleFirst
public import Idealize.ShloMosaic.Adequacy
public import Idealize.ShloMosaic.Init

@[expose] public section

noncomputable section

namespace Cert.Proof

open Idealize.ShloMosaic Idealize.SL.Sem Cert.Band

/-- The certificate: the windowed attention, the three dilated attentions, the neighbourhood attention, the feed-forward half-step, the per-layer embedding and the input and output projections of the mixers,
    each with its frames, its idealization and its value. -/
theorem claim : Cert.Claim :=
  ⟨Cert.Band.Gen.facts, Cert.BandIdeal.Gen.facts, Cert.BandRefIdeal.Gen.facts, Cert.Ffn.Gen.facts, Cert.FfnIdeal.Gen.facts,
    Cert.FfnRefIdeal.Gen.facts, Cert.Ple.Gen.facts, Cert.PleIdeal.Gen.facts, Cert.PleRefIdeal.Gen.facts, Cert.InC.Gen.facts,
    Cert.InCIdeal.Gen.facts, Cert.InCRefIdeal.Gen.facts, Cert.OutC.Gen.facts, Cert.OutCIdeal.Gen.facts,
    Cert.OutCRefIdeal.Gen.facts, Cert.InAB.Gen.facts, Cert.InABIdeal.Gen.facts, Cert.InABRefIdeal.Gen.facts, Cert.OutAB.Gen.facts,
    Cert.OutABIdeal.Gen.facts, Cert.OutABRefIdeal.Gen.facts,
    Cert.Dil1.Gen.facts, Cert.Dil1Ideal.Gen.facts, Cert.Dil1RefIdeal.Gen.facts, Cert.Dil4.Gen.facts, Cert.Dil4Ideal.Gen.facts, Cert.Dil4RefIdeal.Gen.facts, Cert.Dil16.Gen.facts, Cert.Dil16Ideal.Gen.facts, Cert.Dil16RefIdeal.Gen.facts, Cert.PleFirst.Gen.facts, Cert.PleFirstIdeal.Gen.facts, Cert.PleFirstRefIdeal.Gen.facts,
    Cert.Na.Gen.facts, Cert.NaIdeal.Gen.facts, Cert.NaRefIdeal.Gen.facts,
    Cert.BandProof.preFacts, Cert.OutABProof.preFacts, Cert.Dil1Proof.preFacts, Cert.Dil4Proof.preFacts, Cert.Dil16Proof.preFacts, Cert.NaProof.preFacts,
    Cert.BandProof.frame, Cert.BandProof.frameIdeal, Cert.BandProof.frameIdealPre, Cert.BandProof.frameRef,
    Cert.BandProof.frameRefPre, Cert.FfnProof.frame, Cert.FfnProof.frameIdeal, Cert.FfnProof.frameRef, Cert.PleProof.frame,
    Cert.PleProof.frameIdeal, Cert.PleProof.frameRef, Cert.InCProof.frame, Cert.InCProof.frameIdeal, Cert.InCProof.frameRef,
    Cert.OutCProof.frame, Cert.OutCProof.frameIdeal, Cert.OutCProof.frameRef, Cert.InABProof.frame, Cert.InABProof.frameIdeal,
    Cert.InABProof.frameRef, Cert.OutABProof.frame, Cert.OutABProof.frameIdeal, Cert.OutABProof.frameIdealPre,
    Cert.OutABProof.frameRef, Cert.OutABProof.frameRefPre,
    Cert.Dil1Proof.frame, Cert.Dil1Proof.frameIdeal, Cert.Dil1Proof.frameIdealPre, Cert.Dil1Proof.frameRef, Cert.Dil1Proof.frameRefPre, Cert.Dil4Proof.frame, Cert.Dil4Proof.frameIdeal, Cert.Dil4Proof.frameIdealPre, Cert.Dil4Proof.frameRef, Cert.Dil4Proof.frameRefPre, Cert.Dil16Proof.frame, Cert.Dil16Proof.frameIdeal, Cert.Dil16Proof.frameIdealPre, Cert.Dil16Proof.frameRef, Cert.Dil16Proof.frameRefPre,
    Cert.PleFirstProof.frame, Cert.PleFirstProof.frameIdeal, Cert.PleFirstProof.frameRef,
    Cert.NaProof.frame, Cert.NaProof.frameIdeal, Cert.NaProof.frameIdealPre, Cert.NaProof.frameRef, Cert.NaProof.frameRefPre,
    Cert.BandProof.preserves, Cert.BandProof.algebraic, trivial,
    Cert.FfnProof.algebraic, trivial, Cert.PleProof.algebraic, trivial, Cert.InCProof.algebraic, trivial,
    Cert.OutCProof.algebraic, trivial, Cert.InABProof.algebraic, trivial, Cert.OutABProof.algebraic,
    Cert.Dil1Proof.preserves, Cert.Dil1Proof.algebraic, Cert.Dil4Proof.preserves, Cert.Dil4Proof.algebraic, Cert.Dil16Proof.preserves, Cert.Dil16Proof.algebraic,
    trivial, Cert.PleFirstProof.algebraic, trivial, Cert.NaProof.algebraic⟩

end Cert.Proof

end
